-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 [hPre_tiles6 : Cert.Pre_tiles6.Facts] (m : (ℓ : Loc Cert.Kernel6.nD Cert.Kernel6.τ Cert.Kernel6.sig) → Buf (Elt Bits) ℓ) : Prop :=
  ∀ c : Dev Cert.Kernel6.nD,
    (Cert.Pre_tiles6.fn (F := Bits) (m ((c.tc : Thread Cert.Kernel6.nD Cert.Kernel6.τ).loc Cert.Kernel6.main_arg0)) (m ((c.tc : Thread Cert.Kernel6.nD Cert.Kernel6.τ).loc Cert.Kernel6.main_arg1)) (m ((c.tc : Thread Cert.Kernel6.nD Cert.Kernel6.τ).loc Cert.Kernel6.main_arg2)) (m ((c.tc : Thread Cert.Kernel6.nD Cert.Kernel6.τ).loc Cert.Kernel6.main_arg3)) (m ((c.tc : Thread Cert.Kernel6.nD Cert.Kernel6.τ).loc Cert.Kernel6.main_arg4)) (m ((c.tc : Thread Cert.Kernel6.nD Cert.Kernel6.τ).loc Cert.Kernel6.main_arg5))) = (fun _ => 1#1)

def Pre_Kernel6Ideal [hPre_tiles6 : Cert.Pre_tiles6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_tiles6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))) = (fun _ => 1#1)

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] [hPre_tiles6 : Cert.Pre_tiles6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] [hPre_tiles6 : Cert.Pre_tiles6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v40)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v40) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v44) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v25_0)) (v1 : (c : Dev Cert.Kernel3Ideal.nD) → Buf (Elt Ideal) ((c.tc : Thread Cert.Kernel3Ideal.nD Cert.Kernel3Ideal.τ).loc Cert.Kernel3Ideal.main_v25_1)) (v2 : (c : Dev Cert.Kernel3Ideal.nD) → Buf (Elt Ideal) ((c.tc : Thread Cert.Kernel3Ideal.nD Cert.Kernel3Ideal.τ).loc Cert.Kernel3Ideal.main_v25_2)) (v3 : (c : Dev Cert.Kernel3Ideal.nD) → Buf (Elt Ideal) ((c.tc : Thread Cert.Kernel3Ideal.nD Cert.Kernel3Ideal.τ).loc Cert.Kernel3Ideal.main_v25_3)) (v4 : (c : Dev Cert.Kernel3Ideal.nD) → Buf (Elt Ideal) ((c.tc : Thread Cert.Kernel3Ideal.nD Cert.Kernel3Ideal.τ).loc Cert.Kernel3Ideal.main_v25_4)) (v5 : (c : Dev Cert.Kernel3Ideal.nD) → Buf (Elt Ideal) ((c.tc : Thread Cert.Kernel3Ideal.nD Cert.Kernel3Ideal.τ).loc Cert.Kernel3Ideal.main_v25_5)) (v6 : (c : Dev Cert.Kernel3Ideal.nD) → Buf (Elt Ideal) ((c.tc : Thread Cert.Kernel3Ideal.nD Cert.Kernel3Ideal.τ).loc Cert.Kernel3Ideal.main_v25_6)) (v7 : (c : Dev Cert.Kernel3Ideal.nD) → Buf (Elt Ideal) ((c.tc : Thread Cert.Kernel3Ideal.nD Cert.Kernel3Ideal.τ).loc Cert.Kernel3Ideal.main_v25_7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v25_0) = v0 c
          ∧ r.2.mem ((c.tc : Thread Cert.Kernel3Ideal.nD Cert.Kernel3Ideal.τ).loc Cert.Kernel3Ideal.main_v25_1) = v1 c
          ∧ r.2.mem ((c.tc : Thread Cert.Kernel3Ideal.nD Cert.Kernel3Ideal.τ).loc Cert.Kernel3Ideal.main_v25_2) = v2 c
          ∧ r.2.mem ((c.tc : Thread Cert.Kernel3Ideal.nD Cert.Kernel3Ideal.τ).loc Cert.Kernel3Ideal.main_v25_3) = v3 c
          ∧ r.2.mem ((c.tc : Thread Cert.Kernel3Ideal.nD Cert.Kernel3Ideal.τ).loc Cert.Kernel3Ideal.main_v25_4) = v4 c
          ∧ r.2.mem ((c.tc : Thread Cert.Kernel3Ideal.nD Cert.Kernel3Ideal.τ).loc Cert.Kernel3Ideal.main_v25_5) = v5 c
          ∧ r.2.mem ((c.tc : Thread Cert.Kernel3Ideal.nD Cert.Kernel3Ideal.τ).loc Cert.Kernel3Ideal.main_v25_6) = v6 c
          ∧ r.2.mem ((c.tc : Thread Cert.Kernel3Ideal.nD Cert.Kernel3Ideal.τ).loc Cert.Kernel3Ideal.main_v25_7) = v7 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v56) = v0 c
          ∧ r.2.mem ((c.tc : Thread Cert.Reference3Ideal.nD Cert.Reference3Ideal.τ).loc Cert.Reference3Ideal.main_v58) = v1 c
          ∧ r.2.mem ((c.tc : Thread Cert.Reference3Ideal.nD Cert.Reference3Ideal.τ).loc Cert.Reference3Ideal.main_v60) = v2 c
          ∧ r.2.mem ((c.tc : Thread Cert.Reference3Ideal.nD Cert.Reference3Ideal.τ).loc Cert.Reference3Ideal.main_v62) = v3 c
          ∧ r.2.mem ((c.tc : Thread Cert.Reference3Ideal.nD Cert.Reference3Ideal.τ).loc Cert.Reference3Ideal.main_v64) = v4 c
          ∧ r.2.mem ((c.tc : Thread Cert.Reference3Ideal.nD Cert.Reference3Ideal.τ).loc Cert.Reference3Ideal.main_v66) = v5 c
          ∧ r.2.mem ((c.tc : Thread Cert.Reference3Ideal.nD Cert.Reference3Ideal.τ).loc Cert.Reference3Ideal.main_v68) = v6 c
          ∧ r.2.mem ((c.tc : Thread Cert.Reference3Ideal.nD Cert.Reference3Ideal.τ).loc Cert.Reference3Ideal.main_v70) = v7 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v25_0)) (v1 : (c : Dev Cert.Kernel4Ideal.nD) → Buf (Elt Ideal) ((c.tc : Thread Cert.Kernel4Ideal.nD Cert.Kernel4Ideal.τ).loc Cert.Kernel4Ideal.main_v25_1)) (v2 : (c : Dev Cert.Kernel4Ideal.nD) → Buf (Elt Ideal) ((c.tc : Thread Cert.Kernel4Ideal.nD Cert.Kernel4Ideal.τ).loc Cert.Kernel4Ideal.main_v25_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v25_0) = v0 c
          ∧ r.2.mem ((c.tc : Thread Cert.Kernel4Ideal.nD Cert.Kernel4Ideal.τ).loc Cert.Kernel4Ideal.main_v25_1) = v1 c
          ∧ r.2.mem ((c.tc : Thread Cert.Kernel4Ideal.nD Cert.Kernel4Ideal.τ).loc Cert.Kernel4Ideal.main_v25_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v41) = v0 c
          ∧ r.2.mem ((c.tc : Thread Cert.Reference4Ideal.nD Cert.Reference4Ideal.τ).loc Cert.Reference4Ideal.main_v43) = v1 c
          ∧ r.2.mem ((c.tc : Thread Cert.Reference4Ideal.nD Cert.Reference4Ideal.τ).loc Cert.Reference4Ideal.main_v45) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v22) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v40)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v40) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v44) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts) (hPre_finite2 : Cert.Pre_finite2.Facts) (hPre_tiles6 : Cert.Pre_tiles6.Facts) (hPre_finite6 : Cert.Pre_finite6.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6) (hPre_tiles6 := hPre_tiles6)
    ∧ quiescent_Kernel6Ideal (hKernel6Ideal := hKernel6Ideal) (hPre_tiles6 := hPre_tiles6)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite6 (hKernel6Ideal := hKernel6Ideal) (hReference6Ideal := hReference6Ideal) (hPre_finite6 := hPre_finite6)
-- ==== Pre_finite.lean ====
abbrev S8x4096x8x64 : Shape := ⟨4, ![8, 4096, 8, 64]⟩
abbrev S8x256x8x64 : Shape := ⟨4, ![8, 256, 8, 64]⟩
abbrev S8x15x31 : Shape := ⟨3, ![8, 15, 31]⟩
abbrev S_ : Shape := ⟨0, ![]⟩

class Facts : Prop where
  bcast_S_S8x4096x8x64 : S_.BroadcastsInDim S8x4096x8x64 (![] : Fin 0 → Fin S8x4096x8x64.rank)
  reducesTo_S8x4096x8x64_S_d0_1_2_3 : S8x4096x8x64.ReducesTo [0, 1, 2, 3] S_
  h_S_ : 0 < S_.numel
  bcast_S_S8x256x8x64 : S_.BroadcastsInDim S8x256x8x64 (![] : Fin 0 → Fin S8x256x8x64.rank)
  reducesTo_S8x256x8x64_S_d0_1_2_3 : S8x256x8x64.ReducesTo [0, 1, 2, 3] S_
  bcast_S_S8x15x31 : S_.BroadcastsInDim S8x15x31 (![] : Fin 0 → Fin S8x15x31.rank)
  reducesTo_S8x15x31_S_d0_1_2 : S8x15x31.ReducesTo [0, 1, 2] S_

variable [Facts]

def fn_part1 {F : FTy → Type} [FloatOps F] (main_v13 : IVec S_ 1) (main_v16 : IVec S8x15x31 1) : IVec S_ 1 :=
  let main_c_5 : IVec S_ 1 := constantI S_ 1 1#1
  let main_v17 : IVec S_ 1 := (fun x v => Host.reduce IntOp.andi x v reducesTo_S8x15x31_S_d0_1_2 h_S_) main_v16 main_c_5
  let main_v18 : IVec S_ 1 := andi main_v13 main_v17
  main_v18

def fn {F : FTy → Type} [FloatOps F] (main_arg0 : FVec F S8x4096x8x64 .f32) (main_arg1 : FVec F S8x4096x8x64 .f32) (main_arg2 : FVec F S8x4096x8x64 .f32) (main_arg3 : FVec F S8x256x8x64 .f32) (main_arg4 : FVec F S8x256x8x64 .f32) (main_arg5 : FVec F S8x15x31 .f32) : IVec S_ 1 :=
  let main_v0 : FVec F S8x4096x8x64 .f32 := Host.absf main_arg0
  let main_cst : FVec F S_ .f32 := constant S_ .f32 0x7F800000#32
  let main_v1 : FVec F S8x4096x8x64 .f32 := broadcastInDim S8x4096x8x64 ![] bcast_S_S8x4096x8x64 main_cst
  let main_v2 : IVec S8x4096x8x64 1 := cmpf .olt main_v0 main_v1
  let main_c : IVec S_ 1 := constantI S_ 1 1#1
  let main_v3 : IVec S_ 1 := (fun x v => Host.reduce IntOp.andi x v reducesTo_S8x4096x8x64_S_d0_1_2_3 h_S_) main_v2 main_c
  let main_v4 : FVec F S8x4096x8x64 .f32 := Host.absf main_arg1
  let main_cst_0 : FVec F S_ .f32 := constant S_ .f32 0x7F800000#32
  let main_v5 : FVec F S8x4096x8x64 .f32 := broadcastInDim S8x4096x8x64 ![] bcast_S_S8x4096x8x64 main_cst_0
  let main_v6 : IVec S8x4096x8x64 1 := cmpf .olt main_v4 main_v5
  let main_c_1 : IVec S_ 1 := constantI S_ 1 1#1
  let main_v7 : IVec S_ 1 := (fun x v => Host.reduce IntOp.andi x v reducesTo_S8x4096x8x64_S_d0_1_2_3 h_S_) main_v6 main_c_1
  let main_v8 : IVec S_ 1 := andi main_v3 main_v7
  let main_v9 : FVec F S8x256x8x64 .f32 := Host.absf main_arg3
  let main_cst_2 : FVec F S_ .f32 := constant S_ .f32 0x7F800000#32
  let main_v10 : FVec F S8x256x8x64 .f32 := broadcastInDim S8x256x8x64 ![] bcast_S_S8x256x8x64 main_cst_2
  let main_v11 : IVec S8x256x8x64 1 := cmpf .olt main_v9 main_v10
  let main_c_3 : IVec S_ 1 := constantI S_ 1 1#1
  let main_v12 : IVec S_ 1 := (fun x v => Host.reduce IntOp.andi x v reducesTo_S8x256x8x64_S_d0_1_2_3 h_S_) main_v11 main_c_3
  let main_v13 : IVec S_ 1 := andi main_v8 main_v12
  let main_v14 : FVec F S8x15x31 .f32 := Host.absf main_arg5
  let main_cst_4 : FVec F S_ .f32 := constant S_ .f32 0x7F800000#32
  let main_v15 : FVec F S8x15x31 .f32 := broadcastInDim S8x15x31 ![] bcast_S_S8x15x31 main_cst_4
  let main_v16 : IVec S8x15x31 1 := cmpf .olt main_v14 main_v15
  fn_part1 (F := F) main_v13 main_v16
-- ==== Pre_finite2.lean ====
abbrev S4 : Shape := ⟨1, ![4]⟩
abbrev S38912x1024 : Shape := ⟨2, ![38912, 1024]⟩
abbrev S38912x4 : Shape := ⟨2, ![38912, 4]⟩
abbrev S2x16x1024x512 : Shape := ⟨4, ![2, 16, 1024, 512]⟩
abbrev S2x16x512x1024 : Shape := ⟨4, ![2, 16, 512, 1024]⟩
abbrev S_ : Shape := ⟨0, ![]⟩

class Facts : Prop where
  bcast_S_S38912x1024 : S_.BroadcastsInDim S38912x1024 (![] : Fin 0 → Fin S38912x1024.rank)
  reducesTo_S38912x1024_S_d0_1 : S38912x1024.ReducesTo [0, 1] S_
  h_S_ : 0 < S_.numel
  bcast_S_S38912x4 : S_.BroadcastsInDim S38912x4 (![] : Fin 0 → Fin S38912x4.rank)
  reducesTo_S38912x4_S_d0_1 : S38912x4.ReducesTo [0, 1] S_
  bcast_S_S2x16x1024x512 : S_.BroadcastsInDim S2x16x1024x512 (![] : Fin 0 → Fin S2x16x1024x512.rank)
  reducesTo_S2x16x1024x512_S_d0_1_2_3 : S2x16x1024x512.ReducesTo [0, 1, 2, 3] S_
  bcast_S_S2x16x512x1024 : S_.BroadcastsInDim S2x16x512x1024 (![] : Fin 0 → Fin S2x16x512x1024.rank)
  reducesTo_S2x16x512x1024_S_d0_1_2_3 : S2x16x512x1024.ReducesTo [0, 1, 2, 3] S_

variable [Facts]

def fn_part1 {F : FTy → Type} [FloatOps F] (main_arg5 : FVec F S2x16x512x1024 .f32) (main_v13 : IVec S_ 1) (main_v16 : IVec S2x16x1024x512 1) : IVec S_ 1 :=
  let main_c_5 : IVec S_ 1 := constantI S_ 1 1#1
  let main_v17 : IVec S_ 1 := (fun x v => Host.reduce IntOp.andi x v reducesTo_S2x16x1024x512_S_d0_1_2_3 h_S_) main_v16 main_c_5
  let main_v18 : IVec S_ 1 := andi main_v13 main_v17
  let main_v19 : FVec F S2x16x512x1024 .f32 := Host.absf main_arg5
  let main_cst_6 : FVec F S_ .f32 := constant S_ .f32 0x7F800000#32
  let main_v20 : FVec F S2x16x512x1024 .f32 := broadcastInDim S2x16x512x1024 ![] bcast_S_S2x16x512x1024 main_cst_6
  let main_v21 : IVec S2x16x512x1024 1 := cmpf .olt main_v19 main_v20
  let main_c_7 : IVec S_ 1 := constantI S_ 1 1#1
  let main_v22 : IVec S_ 1 := (fun x v => Host.reduce IntOp.andi x v reducesTo_S2x16x512x1024_S_d0_1_2_3 h_S_) main_v21 main_c_7
  let main_v23 : IVec S_ 1 := andi main_v18 main_v22
  main_v23

def fn {F : FTy → Type} [FloatOps F] (main_arg0 : IVec S4 32) (main_arg1 : FVec F S38912x1024 .f32) (main_arg2 : FVec F S38912x4 .f32) (main_arg3 : FVec F S2x16x1024x512 .f32) (main_arg4 : FVec F S2x16x1024x512 .f32) (main_arg5 : FVec F S2x16x512x1024 .f32) : IVec S_ 1 :=
  let main_v0 : FVec F S38912x1024 .f32 := Host.absf main_arg1
  let main_cst : FVec F S_ .f32 := constant S_ .f32 0x7F800000#32
  let main_v1 : FVec F S38912x1024 .f32 := broadcastInDim S38912x1024 ![] bcast_S_S38912x1024 main_cst
  let main_v2 : IVec S38912x1024 1 := cmpf .olt main_v0 main_v1
  let main_c : IVec S_ 1 := constantI S_ 1 1#1
  let main_v3 : IVec S_ 1 := (fun x v => Host.reduce IntOp.andi x v reducesTo_S38912x1024_S_d0_1 h_S_) main_v2 main_c
  let main_v4 : FVec F S38912x4 .f32 := Host.absf main_arg2
  let main_cst_0 : FVec F S_ .f32 := constant S_ .f32 0x7F800000#32
  let main_v5 : FVec F S38912x4 .f32 := broadcastInDim S38912x4 ![] bcast_S_S38912x4 main_cst_0
  let main_v6 : IVec S38912x4 1 := cmpf .olt main_v4 main_v5
  let main_c_1 : IVec S_ 1 := constantI S_ 1 1#1
  let main_v7 : IVec S_ 1 := (fun x v => Host.reduce IntOp.andi x v reducesTo_S38912x4_S_d0_1 h_S_) main_v6 main_c_1
  let main_v8 : IVec S_ 1 := andi main_v3 main_v7
  let main_v9 : FVec F S2x16x1024x512 .f32 := Host.absf main_arg3
  let main_cst_2 : FVec F S_ .f32 := constant S_ .f32 0x7F800000#32
  let main_v10 : FVec F S2x16x1024x512 .f32 := broadcastInDim S2x16x1024x512 ![] bcast_S_S2x16x1024x512 main_cst_2
  let main_v11 : IVec S2x16x1024x512 1 := cmpf .olt main_v9 main_v10
  let main_c_3 : IVec S_ 1 := constantI S_ 1 1#1
  let main_v12 : IVec S_ 1 := (fun x v => Host.reduce IntOp.andi x v reducesTo_S2x16x1024x512_S_d0_1_2_3 h_S_) main_v11 main_c_3
  let main_v13 : IVec S_ 1 := andi main_v8 main_v12
  let main_v14 : FVec F S2x16x1024x512 .f32 := Host.absf main_arg4
  let main_cst_4 : FVec F S_ .f32 := constant S_ .f32 0x7F800000#32
  let main_v15 : FVec F S2x16x1024x512 .f32 := broadcastInDim S2x16x1024x512 ![] bcast_S_S2x16x1024x512 main_cst_4
  let main_v16 : IVec S2x16x1024x512 1 := cmpf .olt main_v14 main_v15
  fn_part1 (F := F) main_arg5 main_v13 main_v16
-- ==== Pre_finite6.lean ====
abbrev S4 : Shape := ⟨1, ![4]⟩
abbrev S38912x1024 : Shape := ⟨2, ![38912, 1024]⟩
abbrev S38912x4 : Shape := ⟨2, ![38912, 4]⟩
abbrev S2x16x1024x512 : Shape := ⟨4, ![2, 16, 1024, 512]⟩
abbrev S2x16x512x1024 : Shape := ⟨4, ![2, 16, 512, 1024]⟩
abbrev S_ : Shape := ⟨0, ![]⟩
abbrev S1 : Shape := ⟨1, ![1]⟩

class Facts : Prop where
  bcast_S_S_ : S_.BroadcastsInDim S_ (![] : Fin 0 → Fin S_.rank)
  reduceWindows_S4_S4_w4s1p3_0 : S4.ReduceWindows (![4] : Fin 1 → Nat) ![1] ![3] ![0] S4
  h_S_ : 0 < S_.numel
  slices_S4_S1_3 : S4.Slices ![3] S1
  shapeCasts_S1_S_ : S1.ShapeCasts S_
  bcast_S_S38912x1024 : S_.BroadcastsInDim S38912x1024 (![] : Fin 0 → Fin S38912x1024.rank)
  reducesTo_S38912x1024_S_d0_1 : S38912x1024.ReducesTo [0, 1] S_
  bcast_S_S38912x4 : S_.BroadcastsInDim S38912x4 (![] : Fin 0 → Fin S38912x4.rank)
  reducesTo_S38912x4_S_d0_1 : S38912x4.ReducesTo [0, 1] S_
  bcast_S_S2x16x1024x512 : S_.BroadcastsInDim S2x16x1024x512 (![] : Fin 0 → Fin S2x16x1024x512.rank)
  reducesTo_S2x16x1024x512_S_d0_1_2_3 : S2x16x1024x512.ReducesTo [0, 1, 2, 3] S_
  bcast_S_S2x16x512x1024 : S_.BroadcastsInDim S2x16x512x1024 (![] : Fin 0 → Fin S2x16x512x1024.rank)
  reducesTo_S2x16x512x1024_S_d0_1_2_3 : S2x16x512x1024.ReducesTo [0, 1, 2, 3] S_

variable [Facts]

def fn_cumsum_0 {F : FTy → Type} [FloatOps F] (arg0 : IVec S4 32) : IVec S4 32 :=
  let c : IVec S_ 32 := constantI S_ 32 0#32
  let v0 : IVec S_ 32 := broadcastInDim S_ ![] bcast_S_S_ c
  let v1 : IVec S4 32 := (fun x v => Host.reduceWindow IntOp.addi ![4] ![1] ![3] ![0] x v reduceWindows_S4_S4_w4s1p3_0 h_S_) arg0 v0
  v1

def fn_cumsum {F : FTy → Type} [FloatOps F] (arg0 : IVec S4 32) : IVec S4 32 :=
  let v0 : IVec S4 32 := fn_cumsum_0 (F := F) arg0
  v0

def fn_part1 {F : FTy → Type} [FloatOps F] (main_arg4 : FVec F S2x16x1024x512 .f32) (main_arg5 : FVec F S2x16x512x1024 .f32) (main_v13 : IVec S_ 1) (main_v16 : IVec S2x16x1024x512 1) (main_c_4 : IVec S_ 1) : IVec S_ 1 :=
  let main_v17 : IVec S_ 1 := (fun x v => Host.reduce IntOp.andi x v reducesTo_S2x16x1024x512_S_d0_1_2_3 h_S_) main_v16 main_c_4
  let main_v18 : IVec S_ 1 := andi main_v13 main_v17
  let main_v19 : FVec F S2x16x1024x512 .f32 := Host.absf main_arg4
  let main_cst_5 : FVec F S_ .f32 := constant S_ .f32 0x7F800000#32
  let main_v20 : FVec F S2x16x1024x512 .f32 := broadcastInDim S2x16x1024x512 ![] bcast_S_S2x16x1024x512 main_cst_5
  let main_v21 : IVec S2x16x1024x512 1 := cmpf .olt main_v19 main_v20
  let main_c_6 : IVec S_ 1 := constantI S_ 1 1#1
  let main_v22 : IVec S_ 1 := (fun x v => Host.reduce IntOp.andi x v reducesTo_S2x16x1024x512_S_d0_1_2_3 h_S_) main_v21 main_c_6
  let main_v23 : IVec S_ 1 := andi main_v18 main_v22
  let main_v24 : FVec F S2x16x512x1024 .f32 := Host.absf main_arg5
  let main_cst_7 : FVec F S_ .f32 := constant S_ .f32 0x7F800000#32
  let main_v25 : FVec F S2x16x512x1024 .f32 := broadcastInDim S2x16x512x1024 ![] bcast_S_S2x16x512x1024 main_cst_7
  let main_v26 : IVec S2x16x512x1024 1 := cmpf .olt main_v24 main_v25
  let main_c_8 : IVec S_ 1 := constantI S_ 1 1#1
  let main_v27 : IVec S_ 1 := (fun x v => Host.reduce IntOp.andi x v reducesTo_S2x16x512x1024_S_d0_1_2_3 h_S_) main_v26 main_c_8
  let main_v28 : IVec S_ 1 := andi main_v23 main_v27
  main_v28

def fn {F : FTy → Type} [FloatOps F] (main_arg0 : IVec S4 32) (main_arg1 : FVec F S38912x1024 .f32) (main_arg2 : FVec F S38912x4 .f32) (main_arg3 : FVec F S2x16x1024x512 .f32) (main_arg4 : FVec F S2x16x1024x512 .f32) (main_arg5 : FVec F S2x16x512x1024 .f32) : IVec S_ 1 :=
  let main_v0 : IVec S4 32 := fn_cumsum (F := F) main_arg0
  let main_v1 : IVec S1 32 := (extractStridedSlice S1 ![3] · slices_S4_S1_3) main_v0
  let main_v2 : IVec S_ 32 := shapeCast S_ main_v1 shapeCasts_S1_S_
  let main_c : IVec S_ 32 := constantI S_ 32 2147483648#32
  let main_v3 : IVec S_ 1 := cmpi .ne main_v2 main_c
  let main_v4 : FVec F S38912x1024 .f32 := Host.absf main_arg1
  let main_cst : FVec F S_ .f32 := constant S_ .f32 0x7F800000#32
  let main_v5 : FVec F S38912x1024 .f32 := broadcastInDim S38912x1024 ![] bcast_S_S38912x1024 main_cst
  let main_v6 : IVec S38912x1024 1 := cmpf .olt main_v4 main_v5
  let main_c_0 : IVec S_ 1 := constantI S_ 1 1#1
  let main_v7 : IVec S_ 1 := (fun x v => Host.reduce IntOp.andi x v reducesTo_S38912x1024_S_d0_1 h_S_) main_v6 main_c_0
  let main_v8 : IVec S_ 1 := andi main_v3 main_v7
  let main_v9 : FVec F S38912x4 .f32 := Host.absf main_arg2
  let main_cst_1 : FVec F S_ .f32 := constant S_ .f32 0x7F800000#32
  let main_v10 : FVec F S38912x4 .f32 := broadcastInDim S38912x4 ![] bcast_S_S38912x4 main_cst_1
  let main_v11 : IVec S38912x4 1 := cmpf .olt main_v9 main_v10
  let main_c_2 : IVec S_ 1 := constantI S_ 1 1#1
  let main_v12 : IVec S_ 1 := (fun x v => Host.reduce IntOp.andi x v reducesTo_S38912x4_S_d0_1 h_S_) main_v11 main_c_2
  let main_v13 : IVec S_ 1 := andi main_v8 main_v12
  let main_v14 : FVec F S2x16x1024x512 .f32 := Host.absf main_arg3
  let main_cst_3 : FVec F S_ .f32 := constant S_ .f32 0x7F800000#32
  let main_v15 : FVec F S2x16x1024x512 .f32 := broadcastInDim S2x16x1024x512 ![] bcast_S_S2x16x1024x512 main_cst_3
  let main_v16 : IVec S2x16x1024x512 1 := cmpf .olt main_v14 main_v15
  let main_c_4 : IVec S_ 1 := constantI S_ 1 1#1
  fn_part1 (F := F) main_arg4 main_arg5 main_v13 main_v16 main_c_4
-- ==== Pre_tiles6.lean ====
abbrev S4 : Shape := ⟨1, ![4]⟩
abbrev S38912x1024 : Shape := ⟨2, ![38912, 1024]⟩
abbrev S38912x4 : Shape := ⟨2, ![38912, 4]⟩
abbrev S2x16x1024x512 : Shape := ⟨4, ![2, 16, 1024, 512]⟩
abbrev S2x16x512x1024 : Shape := ⟨4, ![2, 16, 512, 1024]⟩
abbrev S_ : Shape := ⟨0, ![]⟩
abbrev S1 : Shape := ⟨1, ![1]⟩

class Facts : Prop where
  bcast_S_S_ : S_.BroadcastsInDim S_ (![] : Fin 0 → Fin S_.rank)
  reduceWindows_S4_S4_w4s1p3_0 : S4.ReduceWindows (![4] : Fin 1 → Nat) ![1] ![3] ![0] S4
  h_S_ : 0 < S_.numel
  slices_S4_S1_3 : S4.Slices ![3] S1
  shapeCasts_S1_S_ : S1.ShapeCasts S_

variable [Facts]

def fn_cumsum_0 {F : FTy → Type} [FloatOps F] (arg0 : IVec S4 32) : IVec S4 32 :=
  let c : IVec S_ 32 := constantI S_ 32 0#32
  let v0 : IVec S_ 32 := broadcastInDim S_ ![] bcast_S_S_ c
  let v1 : IVec S4 32 := (fun x v => Host.reduceWindow IntOp.addi ![4] ![1] ![3] ![0] x v reduceWindows_S4_S4_w4s1p3_0 h_S_) arg0 v0
  v1

def fn_cumsum {F : FTy → Type} [FloatOps F] (arg0 : IVec S4 32) : IVec S4 32 :=
  let v0 : IVec S4 32 := fn_cumsum_0 (F := F) arg0
  v0

def fn {F : FTy → Type} [FloatOps F] (main_arg0 : IVec S4 32) (main_arg1 : FVec F S38912x1024 .f32) (main_arg2 : FVec F S38912x4 .f32) (main_arg3 : FVec F S2x16x1024x512 .f32) (main_arg4 : FVec F S2x16x1024x512 .f32) (main_arg5 : FVec F S2x16x512x1024 .f32) : IVec S_ 1 :=
  let main_v0 : IVec S4 32 := fn_cumsum (F := F) main_arg0
  let main_v1 : IVec S1 32 := (extractStridedSlice S1 ![3] · slices_S4_S1_3) main_v0
  let main_v2 : IVec S_ 32 := shapeCast S_ main_v1 shapeCasts_S1_S_
  let main_c : IVec S_ 32 := constantI S_ 32 2147483648#32
  let main_v3 : IVec S_ 1 := cmpi .ne main_v2 main_c
  main_v3
-- ==== Kernel.lean ====
abbrev S8x4096x8x64 : Shape := ⟨4, ![8, 4096, 8, 64]⟩
abbrev S8x256x8x64 : Shape := ⟨4, ![8, 256, 8, 64]⟩
abbrev S8x15x31 : Shape := ⟨3, ![8, 15, 31]⟩
abbrev S64 : Shape := ⟨1, ![64]⟩
abbrev S_ : Shape := ⟨0, ![]⟩
abbrev S1x64 : Shape := ⟨2, ![1, 64]⟩
abbrev S64x1 : Shape := ⟨2, ![64, 1]⟩
abbrev S64x64 : Shape := ⟨2, ![64, 64]⟩
abbrev S64x64x1 : Shape := ⟨3, ![64, 64, 1]⟩
abbrev S31 : Shape := ⟨1, ![31]⟩
abbrev S1x1x31 : Shape := ⟨3, ![1, 1, 31]⟩
abbrev S64x64x31 : Shape := ⟨3, ![64, 64, 31]⟩
abbrev S8x15x64x64 : Shape := ⟨4, ![8, 15, 64, 64]⟩
abbrev S8x1x64x64 : Shape := ⟨4, ![8, 1, 64, 64]⟩
abbrev S8x16x64x64 : Shape := ⟨4, ![8, 16, 64, 64]⟩
abbrev S3x8x256x704 : Shape := ⟨4, ![3, 8, 256, 704]⟩
abbrev S1x16x64x64 : Shape := ⟨4, ![1, 16, 64, 64]⟩
abbrev S1x1x256x704 : Shape := ⟨4, ![1, 1, 256, 704]⟩
abbrev S1x1x64x64 : Shape := ⟨4, ![1, 1, 64, 64]⟩
abbrev S64x704 : Shape := ⟨2, ![64, 704]⟩
abbrev S1x1x64x704 : Shape := ⟨4, ![1, 1, 64, 704]⟩
abbrev S32768x512 : Shape := ⟨2, ![32768, 512]⟩
abbrev S2048x512 : Shape := ⟨2, ![2048, 512]⟩
abbrev S512x512 : Shape := ⟨2, ![512, 512]⟩
abbrev S4096x512 : Shape := ⟨2, ![4096, 512]⟩
abbrev S256x512 : Shape := ⟨2, ![256, 512]⟩
abbrev S256x128 : Shape := ⟨2, ![256, 128]⟩
abbrev S704x128 : Shape := ⟨2, ![704, 128]⟩
abbrev S960x128 : Shape := ⟨2, ![960, 128]⟩
abbrev S256x960 : Shape := ⟨2, ![256, 960]⟩
abbrev S256x256 : Shape := ⟨2, ![256, 256]⟩
abbrev S256x704 : Shape := ⟨2, ![256, 704]⟩
abbrev S256 : Shape := ⟨1, ![256]⟩
abbrev S256x1 : Shape := ⟨2, ![256, 1]⟩

abbrev nBuf : Space → Nat
  | .hbm => 75
  | .vmem => 17
  | .smem => 0
  | _ => 0

abbrev bufTy : (tb : Table) → Fin (tcTables nBuf tb) → BufTy
  | .hbm, ⟨0, _⟩ => ⟨S8x4096x8x64, .f32⟩
  | .hbm, ⟨1, _⟩ => ⟨S8x4096x8x64, .f32⟩
  | .hbm, ⟨2, _⟩ => ⟨S8x4096x8x64, .f32⟩
  | .hbm, ⟨3, _⟩ => ⟨S8x256x8x64, .f32⟩
  | .hbm, ⟨4, _⟩ => ⟨S8x256x8x64, .f32⟩
  | .hbm, ⟨5, _⟩ => ⟨S8x15x31, .f32⟩
  | .hbm, ⟨6, _⟩ => ⟨S64, .i32⟩
  | .hbm, ⟨7, _⟩ => ⟨S64, .i32⟩
  | .hbm, ⟨8, _⟩ => ⟨S_, .i32⟩
  | .hbm, ⟨9, _⟩ => ⟨S64, .i32⟩
  | .hbm, ⟨10, _⟩ => ⟨S64, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S64, .i32⟩
  | .hbm, ⟨15, _⟩ => ⟨S64, .i32⟩
  | .hbm, ⟨16, _⟩ => ⟨S_, .i32⟩
  | .hbm, ⟨17, _⟩ => ⟨S64, .i32⟩
  | .hbm, ⟨18, _⟩ => ⟨S64, .i32⟩
  | .hbm, ⟨19, _⟩ => ⟨S1x64, .i32⟩
  | .hbm, ⟨20, _⟩ => ⟨S64x1, .i32⟩
  | .hbm, ⟨21, _⟩ => ⟨S64x64, .i32⟩
  | .hbm, ⟨22, _⟩ => ⟨S64x64, .i32⟩
  | .hbm, ⟨23, _⟩ => ⟨S64x64, .i1⟩
  | .hbm, ⟨24, _⟩ => ⟨S1x64, .i32⟩
  | .hbm, ⟨25, _⟩ => ⟨S64x1, .i32⟩
  | .hbm, ⟨26, _⟩ => ⟨S_, .i32⟩
  | .hbm, ⟨27, _⟩ => ⟨S64x1, .i32⟩
  | .hbm, ⟨28, _⟩ => ⟨S64x1, .i32⟩
  | .hbm, ⟨29, _⟩ => ⟨S64x64, .i32⟩
  | .hbm, ⟨30, _⟩ => ⟨S64x64, .i32⟩
  | .hbm, ⟨31, _⟩ => ⟨S64x64, .i1⟩
  | .hbm, ⟨32, _⟩ => ⟨S64x64, .i1⟩
  | .hbm, ⟨33, _⟩ => ⟨S1x64, .i32⟩
  | .hbm, ⟨34, _⟩ => ⟨S64x1, .i32⟩
  | .hbm, ⟨35, _⟩ => ⟨S64x64, .i32⟩
  | .hbm, ⟨36, _⟩ => ⟨S64x64, .i32⟩
  | .hbm, ⟨37, _⟩ => ⟨S64x64, .i32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S64x64, .i32⟩
  | .hbm, ⟨42, _⟩ => ⟨S64x64, .i32⟩
  | .hbm, ⟨43, _⟩ => ⟨S_, .i32⟩
  | .hbm, ⟨44, _⟩ => ⟨S64x64, .i32⟩
  | .hbm, ⟨45, _⟩ => ⟨S64x64, .i32⟩
  | .hbm, ⟨46, _⟩ => ⟨S_, .i32⟩
  | .hbm, ⟨47, _⟩ => ⟨S64x64, .i32⟩
  | .hbm, ⟨48, _⟩ => ⟨S64x64, .i32⟩
  | .hbm, ⟨49, _⟩ => ⟨S64x64x1, .i32⟩
  | .hbm, ⟨50, _⟩ => ⟨S31, .i32⟩
  | .hbm, ⟨51, _⟩ => ⟨S1x1x31, .i32⟩
  | .hbm, ⟨52, _⟩ => ⟨S64x64x31, .i32⟩
  | .hbm, ⟨53, _⟩ => ⟨S64x64x31, .i32⟩
  | .hbm, ⟨54, _⟩ => ⟨S64x64x31, .i1⟩
  | .hbm, ⟨55, _⟩ => ⟨S64x64x1, .i1⟩
  | .hbm, ⟨56, _⟩ => ⟨S64x64x31, .i1⟩
  | .hbm, ⟨57, _⟩ => ⟨S64x64x31, .i1⟩
  | .hbm, ⟨58, _⟩ => ⟨S64x64x31, .f32⟩
  | .hbm, ⟨59, _⟩ => ⟨S8x15x64x64, .f32⟩
  | .hbm, ⟨60, _⟩ => ⟨S_, .f32⟩
  | .hbm, ⟨61, _⟩ => ⟨S8x1x64x64, .f32⟩
  | .hbm, ⟨62, _⟩ => ⟨S8x16x64x64, .f32⟩
  | .hbm, ⟨63, _⟩ => ⟨S3x8x256x704, .f32⟩
  | .hbm, ⟨64, _⟩ => ⟨S32768x512, .f32⟩
  | .hbm, ⟨65, _⟩ => ⟨S32768x512, .bf16⟩
  | .hbm, ⟨66, _⟩ => ⟨S32768x512, .f32⟩
  | .hbm, ⟨67, _⟩ => ⟨S32768x512, .bf16⟩
  | .hbm, ⟨68, _⟩ => ⟨S32768x512, .f32⟩
  | .hbm, ⟨69, _⟩ => ⟨S32768x512, .bf16⟩
  | .hbm, ⟨70, _⟩ => ⟨S2048x512, .f32⟩
  | .hbm, ⟨71, _⟩ => ⟨S2048x512, .bf16⟩
  | .hbm, ⟨72, _⟩ => ⟨S2048x512, .f32⟩
  | .hbm, ⟨73, _⟩ => ⟨S2048x512, .bf16⟩
  | .hbm, ⟨74, _⟩ => ⟨S32768x512, .bf16⟩
  | .local _ .vmem, ⟨0, _⟩ => ⟨S1x16x64x64, .f32⟩
  | .local _ .vmem, ⟨1, _⟩ => ⟨S1x16x64x64, .f32⟩
  | .local _ .vmem, ⟨2, _⟩ => ⟨S1x1x256x704, .f32⟩
  | .local _ .vmem, ⟨3, _⟩ => ⟨S1x1x256x704, .f32⟩
  | .local _ .vmem, ⟨4, _⟩ => ⟨S512x512, .bf16⟩
  | .local _ .vmem, ⟨5, _⟩ => ⟨S512x512, .bf16⟩
  | .local _ .vmem, ⟨6, _⟩ => ⟨S4096x512, .bf16⟩
  | .local _ .vmem, ⟨7, _⟩ => ⟨S4096x512, .bf16⟩
  | .local _ .vmem, ⟨8, _⟩ => ⟨S4096x512, .bf16⟩
  | .local _ .vmem, ⟨9, _⟩ => ⟨S4096x512, .bf16⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S3x8x256x704, .f32⟩
  | .local _ .vmem, ⟨15, _⟩ => ⟨S512x512, .bf16⟩
  | .local _ .vmem, ⟨16, _⟩ => ⟨S512x512, .bf16⟩
  | _, _ => ⟨S8x4096x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_c_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c_2 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_3 : Ref sig .tc := ⟨.hbm, 38, rfl⟩
abbrev main_c_4 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_v23 : Ref sig .tc := ⟨.hbm, 45, rfl⟩
abbrev main_c_5 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg6_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem6_0 : DmaSem sig := 15
abbrev cc1_sem6_1 : DmaSem sig := 16

abbrev nD : Nat := 1
abbrev τ : Topo := Topo.v7x

variable {F : FTy → Type} [FloatOps F]

abbrev grid0 : Pipeline.Grid := ⟨2, ![3, 8], ![false, false]⟩

def k0_cond1 (i : grid0.Coords) : BitVec 1 :=
  let arg0 : BitVec 32 := BitVec.ofNat 32 (i 0).val
  let c0_i32_1 : BitVec 32 := 0#32
  let v16 : BitVec 1 := Scalar.cmpi .eq arg0 c0_i32_1
  let v17 : BitVec 32 := Scalar.extui v16
  let c0_i32_2 : BitVec 32 := 0#32
  let v18 : BitVec 1 := Scalar.cmpi .ne v17 c0_i32_2
  v18

def k0_cond2 (i : grid0.Coords) : BitVec 1 :=
  let arg0 : BitVec 32 := BitVec.ofNat 32 (i 0).val
  let c1_i32 : BitVec 32 := 1#32
  let v19 : BitVec 1 := Scalar.cmpi .eq arg0 c1_i32
  let v20 : BitVec 32 := Scalar.extui v19
  let c0_i32_3 : BitVec 32 := 0#32
  let v21 : BitVec 1 := Scalar.cmpi .ne v20 c0_i32_3
  v21

def k0_cond3 (i : grid0.Coords) : BitVec 1 :=
  let arg0 : BitVec 32 := BitVec.ofNat 32 (i 0).val
  let c2_i32 : BitVec 32 := 2#32
  let v22 : BitVec 1 := Scalar.cmpi .eq arg0 c2_i32
  let v23 : BitVec 32 := Scalar.extui v22
  let c0_i32_4 : BitVec 32 := 0#32
  let v24 : BitVec 1 := Scalar.cmpi .ne v23 c0_i32_4
  v24

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x16x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨2, ![8, 8], ![false, false]⟩

def k1_mult1 (i : grid1.Coords) : BitVec 32 :=
  let c53_i32 : BitVec 32 := 53#32
  let c0_i32_1 : BitVec 32 := 0#32
  let arg1 : BitVec 32 := BitVec.ofNat 32 (i 1).val
  let c2_i32 : BitVec 32 := 2#32
  let v3 : BitVec 32 := Scalar.muli arg1 c2_i32
  let c0_i32 : BitVec 32 := 0#32
  let v4 : BitVec 32 := Scalar.addi v3 c0_i32
  let c4_i32 : BitVec 32 := 4#32
  let v5 : BitVec 32 := Scalar.muli v4 c4_i32
  let c4_i32_0 : BitVec 32 := 4#32
  let v6 : BitVec 32 := Scalar.subi v5 c4_i32_0
  let v7 : BitVec 32 := Scalar.maxsi c0_i32_1 v6
  let v8 : BitVec 32 := Scalar.minsi c53_i32 v7
  let c64_i32_2 : BitVec 32 := 64#32
  let v9 : BitVec 32 := Scalar.muli v8 c64_i32_2
  v9
def k1_off1 (i : grid1.Coords) (c0_i32 : BitVec 32) : Fin 2 → Nat :=
  let c53_i32 : BitVec 32 := 53#32
  let c0_i32_1 : BitVec 32 := 0#32
  let arg1 : BitVec 32 := BitVec.ofNat 32 (i 1).val
  let c2_i32 : BitVec 32 := 2#32
  let v3 : BitVec 32 := Scalar.muli arg1 c2_i32
  let v4 : BitVec 32 := Scalar.addi v3 c0_i32
  let c4_i32 : BitVec 32 := 4#32
  let v5 : BitVec 32 := Scalar.muli v4 c4_i32
  let c4_i32_0 : BitVec 32 := 4#32
  let v6 : BitVec 32 := Scalar.subi v5 c4_i32_0
  let v7 : BitVec 32 := Scalar.maxsi c0_i32_1 v6
  let v8 : BitVec 32 := Scalar.minsi c53_i32 v7
  let c64_i32_2 : BitVec 32 := 64#32
  let v9 : BitVec 32 := Scalar.muli v8 c64_i32_2
  let v10 : BitVec 32 := v9
  let v23 : Index := Scalar.indexCast v10
  let c0_9 : Index := 0#32
  ![v23.toNat, 0]
def k1_off2 (i : grid1.Coords) (c0_i32 : BitVec 32) : Fin 4 → Nat :=
  let arg1 : BitVec 32 := BitVec.ofNat 32 (i 1).val
  let c2_i32 : BitVec 32 := 2#32
  let v3 : BitVec 32 := Scalar.muli arg1 c2_i32
  let v4 : BitVec 32 := Scalar.addi v3 c0_i32
  let c0_i32_3 : BitVec 32 := 0#32
  let v11 : BitVec 1 := Scalar.cmpi .eq v4 c0_i32_3
  let c0_i32_5 : BitVec 32 := 0#32
  let c15_i32 : BitVec 32 := 15#32
  let v12 : BitVec 1 := Scalar.cmpi .eq v4 c15_i32
  let c2_i32_4 : BitVec 32 := 2#32
  let c1_i32 : BitVec 32 := 1#32
  let v13 : BitVec 32 := Scalar.select v12 c2_i32_4 c1_i32
  let v14 : BitVec 32 := Scalar.select v11 c0_i32_5 v13
  let v42 : Index := Scalar.indexCast v14
  let c0_16 : Index := 0#32
  let c0_17 : Index := 0#32
  let c0_18 : Index := 0#32
  ![v42.toNat, 0, 0, 0]
def k1_off3 (i : grid1.Coords) (c0_i32 : BitVec 32) : Fin 4 → Nat :=
  let arg1 : BitVec 32 := BitVec.ofNat 32 (i 1).val
  let c2_i32 : BitVec 32 := 2#32
  let v3 : BitVec 32 := Scalar.muli arg1 c2_i32
  let v4 : BitVec 32 := Scalar.addi v3 c0_i32
  let c0_i32_3 : BitVec 32 := 0#32
  let v11 : BitVec 1 := Scalar.cmpi .eq v4 c0_i32_3
  let c0_i32_5 : BitVec 32 := 0#32
  let c15_i32 : BitVec 32 := 15#32
  let v12 : BitVec 1 := Scalar.cmpi .eq v4 c15_i32
  let c2_i32_4 : BitVec 32 := 2#32
  let c1_i32 : BitVec 32 := 1#32
  let v13 : BitVec 32 := Scalar.select v12 c2_i32_4 c1_i32
  let v14 : BitVec 32 := Scalar.select v11 c0_i32_5 v13
  let v67 : Index := Scalar.indexCast v14
  let c1 : Index := 1#32
  let c0_25 : Index := 0#32
  let c0_26 : Index := 0#32
  ![v67.toNat, 1, 0, 0]
def k1_off4 (i : grid1.Coords) (c0_i32 : BitVec 32) : Fin 2 → Nat :=
  let c53_i32 : BitVec 32 := 53#32
  let c0_i32_1 : BitVec 32 := 0#32
  let arg1 : BitVec 32 := BitVec.ofNat 32 (i 1).val
  let c2_i32 : BitVec 32 := 2#32
  let v3 : BitVec 32 := Scalar.muli arg1 c2_i32
  let v4 : BitVec 32 := Scalar.addi v3 c0_i32
  let c4_i32 : BitVec 32 := 4#32
  let v5 : BitVec 32 := Scalar.muli v4 c4_i32
  let c4_i32_0 : BitVec 32 := 4#32
  let v6 : BitVec 32 := Scalar.subi v5 c4_i32_0
  let v7 : BitVec 32 := Scalar.maxsi c0_i32_1 v6
  let v8 : BitVec 32 := Scalar.minsi c53_i32 v7
  let c64_i32_2 : BitVec 32 := 64#32
  let v9 : BitVec 32 := Scalar.muli v8 c64_i32_2
  let v10 : BitVec 32 := v9
  let v94 : Index := Scalar.indexCast v10
  let c128_36 : Index := 128#32
  ![v94.toNat, 128]
def k1_off5 (i : grid1.Coords) (c0_i32 : BitVec 32) : Fin 4 → Nat :=
  let arg1 : BitVec 32 := BitVec.ofNat 32 (i 1).val
  let c2_i32 : BitVec 32 := 2#32
  let v3 : BitVec 32 := Scalar.muli arg1 c2_i32
  let v4 : BitVec 32 := Scalar.addi v3 c0_i32
  let c0_i32_3 : BitVec 32 := 0#32
  let v11 : BitVec 1 := Scalar.cmpi .eq v4 c0_i32_3
  let c0_i32_5 : BitVec 32 := 0#32
  let c15_i32 : BitVec 32 := 15#32
  let v12 : BitVec 1 := Scalar.cmpi .eq v4 c15_i32
  let c2_i32_4 : BitVec 32 := 2#32
  let c1_i32 : BitVec 32 := 1#32
  let v13 : BitVec 32 := Scalar.select v12 c2_i32_4 c1_i32
  let v14 : BitVec 32 := Scalar.select v11 c0_i32_5 v13
  let v113 : Index := Scalar.indexCast v14
  let c2 : Index := 2#32
  let c0_44 : Index := 0#32
  let c0_45 : Index := 0#32
  ![v113.toNat, 2, 0, 0]
def k1_off6 (i : grid1.Coords) (c0_i32 : BitVec 32) : Fin 4 → Nat :=
  let arg1 : BitVec 32 := BitVec.ofNat 32 (i 1).val
  let c2_i32 : BitVec 32 := 2#32
  let v3 : BitVec 32 := Scalar.muli arg1 c2_i32
  let v4 : BitVec 32 := Scalar.addi v3 c0_i32
  let c0_i32_3 : BitVec 32 := 0#32
  let v11 : BitVec 1 := Scalar.cmpi .eq v4 c0_i32_3
  let c0_i32_5 : BitVec 32 := 0#32
  let c15_i32 : BitVec 32 := 15#32
  let v12 : BitVec 1 := Scalar.cmpi .eq v4 c15_i32
  let c2_i32_4 : BitVec 32 := 2#32
  let c1_i32 : BitVec 32 := 1#32
  let v13 : BitVec 32 := Scalar.select v12 c2_i32_4 c1_i32
  let v14 : BitVec 32 := Scalar.select v11 c0_i32_5 v13
  let v138 : Index := Scalar.indexCast v14
  let c3 : Index := 3#32
  let c0_53 : Index := 0#32
  let c0_54 : Index := 0#32
  ![v138.toNat, 3, 0, 0]
def k1_off7 (i : grid1.Coords) (c0_i32 : BitVec 32) : Fin 2 → Nat :=
  let c53_i32 : BitVec 32 := 53#32
  let c0_i32_1 : BitVec 32 := 0#32
  let arg1 : BitVec 32 := BitVec.ofNat 32 (i 1).val
  let c2_i32 : BitVec 32 := 2#32
  let v3 : BitVec 32 := Scalar.muli arg1 c2_i32
  let v4 : BitVec 32 := Scalar.addi v3 c0_i32
  let c4_i32 : BitVec 32 := 4#32
  let v5 : BitVec 32 := Scalar.muli v4 c4_i32
  let c4_i32_0 : BitVec 32 := 4#32
  let v6 : BitVec 32 := Scalar.subi v5 c4_i32_0
  let v7 : BitVec 32 := Scalar.maxsi c0_i32_1 v6
  let v8 : BitVec 32 := Scalar.minsi c53_i32 v7
  let c64_i32_2 : BitVec 32 := 64#32
  let v9 : BitVec 32 := Scalar.muli v8 c64_i32_2
  let v10 : BitVec 32 := v9
  let v165 : Index := Scalar.indexCast v10
  let c256_64 : Index := 256#32
  ![v165.toNat, 256]
def k1_off8 (i : grid1.Coords) (c0_i32 : BitVec 32) : Fin 4 → Nat :=
  let arg1 : BitVec 32 := BitVec.ofNat 32 (i 1).val
  let c2_i32 : BitVec 32 := 2#32
  let v3 : BitVec 32 := Scalar.muli arg1 c2_i32
  let v4 : BitVec 32 := Scalar.addi v3 c0_i32
  let c0_i32_3 : BitVec 32 := 0#32
  let v11 : BitVec 1 := Scalar.cmpi .eq v4 c0_i32_3
  let c0_i32_5 : BitVec 32 := 0#32
  let c15_i32 : BitVec 32 := 15#32
  let v12 : BitVec 1 := Scalar.cmpi .eq v4 c15_i32
  let c2_i32_4 : BitVec 32 := 2#32
  let c1_i32 : BitVec 32 := 1#32
  let v13 : BitVec 32 := Scalar.select v12 c2_i32_4 c1_i32
  let v14 : BitVec 32 := Scalar.select v11 c0_i32_5 v13
  let v184 : Index := Scalar.indexCast v14
  let c4 : Index := 4#32
  let c0_72 : Index := 0#32
  let c0_73 : Index := 0#32
  ![v184.toNat, 4, 0, 0]
def k1_off9 (i : grid1.Coords) (c0_i32 : BitVec 32) : Fin 4 → Nat :=
  let arg1 : BitVec 32 := BitVec.ofNat 32 (i 1).val
  let c2_i32 : BitVec 32 := 2#32
  let v3 : BitVec 32 := Scalar.muli arg1 c2_i32
  let v4 : BitVec 32 := Scalar.addi v3 c0_i32
  let c0_i32_3 : BitVec 32 := 0#32
  let v11 : BitVec 1 := Scalar.cmpi .eq v4 c0_i32_3
  let c0_i32_5 : BitVec 32 := 0#32
  let c15_i32 : BitVec 32 := 15#32
  let v12 : BitVec 1 := Scalar.cmpi .eq v4 c15_i32
  let c2_i32_4 : BitVec 32 := 2#32
  let c1_i32 : BitVec 32 := 1#32
  let v13 : BitVec 32 := Scalar.select v12 c2_i32_4 c1_i32
  let v14 : BitVec 32 := Scalar.select v11 c0_i32_5 v13
  let v209 : Index := Scalar.indexCast v14
  let c5 : Index := 5#32
  let c0_81 : Index := 0#32
  let c0_82 : Index := 0#32
  ![v209.toNat, 5, 0, 0]
def k1_off10 (i : grid1.Coords) (c0_i32 : BitVec 32) : Fin 2 → Nat :=
  let c53_i32 : BitVec 32 := 53#32
  let c0_i32_1 : BitVec 32 := 0#32
  let arg1 : BitVec 32 := BitVec.ofNat 32 (i 1).val
  let c2_i32 : BitVec 32 := 2#32
  let v3 : BitVec 32 := Scalar.muli arg1 c2_i32
  let v4 : BitVec 32 := Scalar.addi v3 c0_i32
  let c4_i32 : BitVec 32 := 4#32
  let v5 : BitVec 32 := Scalar.muli v4 c4_i32
  let c4_i32_0 : BitVec 32 := 4#32
  let v6 : BitVec 32 := Scalar.subi v5 c4_i32_0
  let v7 : BitVec 32 := Scalar.maxsi c0_i32_1 v6
  let v8 : BitVec 32 := Scalar.minsi c53_i32 v7
  let c64_i32_2 : BitVec 32 := 64#32
  let v9 : BitVec 32 := Scalar.muli v8 c64_i32_2
  let v10 : BitVec 32 := v9
  let v236 : Index := Scalar.indexCast v10
  let c384_92 : Index := 384#32
  ![v236.toNat, 384]
def k1_off11 (i : grid1.Coords) (c0_i32 : BitVec 32) : Fin 4 → Nat :=
  let arg1 : BitVec 32 := BitVec.ofNat 32 (i 1).val
  let c2_i32 : BitVec 32 := 2#32
  let v3 : BitVec 32 := Scalar.muli arg1 c2_i32
  let v4 : BitVec 32 := Scalar.addi v3 c0_i32
  let c0_i32_3 : BitVec 32 := 0#32
  let v11 : BitVec 1 := Scalar.cmpi .eq v4 c0_i32_3
  let c0_i32_5 : BitVec 32 := 0#32
  let c15_i32 : BitVec 32 := 15#32
  let v12 : BitVec 1 := Scalar.cmpi .eq v4 c15_i32
  let c2_i32_4 : BitVec 32 := 2#32
  let c1_i32 : BitVec 32 := 1#32
  let v13 : BitVec 32 := Scalar.select v12 c2_i32_4 c1_i32
  let v14 : BitVec 32 := Scalar.select v11 c0_i32_5 v13
  let v255 : Index := Scalar.indexCast v14
  let c6 : Index := 6#32
  let c0_100 : Index := 0#32
  let c0_101 : Index := 0#32
  ![v255.toNat, 6, 0, 0]
def k1_off12 (i : grid1.Coords) (c0_i32 : BitVec 32) : Fin 4 → Nat :=
  let arg1 : BitVec 32 := BitVec.ofNat 32 (i 1).val
  let c2_i32 : BitVec 32 := 2#32
  let v3 : BitVec 32 := Scalar.muli arg1 c2_i32
  let v4 : BitVec 32 := Scalar.addi v3 c0_i32
  let c0_i32_3 : BitVec 32 := 0#32
  let v11 : BitVec 1 := Scalar.cmpi .eq v4 c0_i32_3
  let c0_i32_5 : BitVec 32 := 0#32
  let c15_i32 : BitVec 32 := 15#32
  let v12 : BitVec 1 := Scalar.cmpi .eq v4 c15_i32
  let c2_i32_4 : BitVec 32 := 2#32
  let c1_i32 : BitVec 32 := 1#32
  let v13 : BitVec 32 := Scalar.select v12 c2_i32_4 c1_i32
  let v14 : BitVec 32 := Scalar.select v11 c0_i32_5 v13
  let v280 : Index := Scalar.indexCast v14
  let c7 : Index := 7#32
  let c0_109 : Index := 0#32
  let c0_110 : Index := 0#32
  ![v280.toNat, 7, 0, 0]
def k1_mult2 (i : grid1.Coords) : BitVec 32 :=
  let c53_i32_121 : BitVec 32 := 53#32
  let c0_i32_120 : BitVec 32 := 0#32
  let arg1 : BitVec 32 := BitVec.ofNat 32 (i 1).val
  let c2_i32_116 : BitVec 32 := 2#32
  let v299 : BitVec 32 := Scalar.muli arg1 c2_i32_116
  let c1_i32_117 : BitVec 32 := 1#32
  let v300 : BitVec 32 := Scalar.addi v299 c1_i32_117
  let c4_i32_118 : BitVec 32 := 4#32
  let v301 : BitVec 32 := Scalar.muli v300 c4_i32_118
  let c4_i32_119 : BitVec 32 := 4#32
  let v302 : BitVec 32 := Scalar.subi v301 c4_i32_119
  let v303 : BitVec 32 := Scalar.maxsi c0_i32_120 v302
  let v304 : BitVec 32 := Scalar.minsi c53_i32_121 v303
  let c64_i32_122 : BitVec 32 := 64#32
  let v305 : BitVec 32 := Scalar.muli v304 c64_i32_122
  v305
def cc1_transform_0 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_6 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage1_0 : Fin 2 → Memref sig .tc .vmem S512x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S4096x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S4096x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S256x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S256x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 1 → Memref sig .tc .vmem S3x8x256x704 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S512x512 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]
-- ==== KernelIdeal.lean ====
variable {F : FTy → Type} [FloatOps F] [Named F]
def κ : String → Option EReal := fun
  | "log2e" => some (((Real.log 2)⁻¹ : ℝ) : EReal)
  | "mask" => some ⊥
  | _ => none
-- ==== ReferenceIdeal.lean ====
abbrev S8x4096x8x64 : Shape := ⟨4, ![8, 4096, 8, 64]⟩
abbrev S8x256x8x64 : Shape := ⟨4, ![8, 256, 8, 64]⟩
abbrev S8x15x31 : Shape := ⟨3, ![8, 15, 31]⟩
abbrev S64 : Shape := ⟨1, ![64]⟩
abbrev S_ : Shape := ⟨0, ![]⟩
abbrev S64x1 : Shape := ⟨2, ![64, 1]⟩
abbrev S8 : Shape := ⟨1, ![8]⟩
abbrev S1x8 : Shape := ⟨2, ![1, 8]⟩
abbrev S64x8 : Shape := ⟨2, ![64, 8]⟩
abbrev S4 : Shape := ⟨1, ![4]⟩
abbrev S4x1 : Shape := ⟨2, ![4, 1]⟩
abbrev S32 : Shape := ⟨1, ![32]⟩
abbrev S1x32 : Shape := ⟨2, ![1, 32]⟩
abbrev S4x32 : Shape := ⟨2, ![4, 32]⟩
abbrev S16 : Shape := ⟨1, ![16]⟩
abbrev S1x16 : Shape := ⟨2, ![1, 16]⟩
abbrev S4x16 : Shape := ⟨2, ![4, 16]⟩
abbrev S64x1x8x1 : Shape := ⟨4, ![64, 1, 8, 1]⟩
abbrev S1x4x1x32 : Shape := ⟨4, ![1, 4, 1, 32]⟩
abbrev S64x4x8x32 : Shape := ⟨4, ![64, 4, 8, 32]⟩
abbrev S64x4x256 : Shape := ⟨3, ![64, 4, 256]⟩
abbrev S4x1x32 : Shape := ⟨3, ![4, 1, 32]⟩
abbrev S4x16x1 : Shape := ⟨3, ![4, 16, 1]⟩
abbrev S4x16x32 : Shape := ⟨3, ![4, 16, 32]⟩
abbrev S64x1x1x8x1 : Shape := ⟨5, ![64, 1, 1, 8, 1]⟩
abbrev S1x4x16x1x32 : Shape := ⟨5, ![1, 4, 16, 1, 32]⟩
abbrev S64x4x16x8x32 : Shape := ⟨5, ![64, 4, 16, 8, 32]⟩
abbrev S64x4x16x8x32x1 : Shape := ⟨6, ![64, 4, 16, 8, 32, 1]⟩
abbrev S64x4x16x8x32x2 : Shape := ⟨6, ![64, 4, 16, 8, 32, 2]⟩
abbrev S8x64x4x16x8x32 : Shape := ⟨6, ![8, 64, 4, 16, 8, 32]⟩
abbrev S1x1x4x16x1x32 : Shape := ⟨6, ![1, 1, 4, 16, 1, 32]⟩
abbrev S64x8x4x16x8x32 : Shape := ⟨6, ![64, 8, 4, 16, 8, 32]⟩
abbrev S64x8x4x16x256 : Shape := ⟨5, ![64, 8, 4, 16, 256]⟩
abbrev S8x64x4x16x8x64 : Shape := ⟨6, ![8, 64, 4, 16, 8, 64]⟩
abbrev S64x4x256x1 : Shape := ⟨4, ![64, 4, 256, 1]⟩
abbrev S8x64x4x256x8x64 : Shape := ⟨6, ![8, 64, 4, 256, 8, 64]⟩
abbrev S8x64x8x4x16x256 : Shape := ⟨6, ![8, 64, 8, 4, 16, 256]⟩
abbrev S1x64x8x4x16x256 : Shape := ⟨6, ![1, 64, 8, 4, 16, 256]⟩
abbrev S8x8x256x64x4x16 : Shape := ⟨6, ![8, 8, 256, 64, 4, 16]⟩
abbrev S8x64x8x4x16x512 : Shape := ⟨6, ![8, 64, 8, 4, 16, 512]⟩
abbrev S8x64x8x4x16 : Shape := ⟨5, ![8, 64, 8, 4, 16]⟩
abbrev S8x64x8x4x16x1 : Shape := ⟨6, ![8, 64, 8, 4, 16, 1]⟩
abbrev S8x64x4x8x64x16 : Shape := ⟨6, ![8, 64, 4, 8, 64, 16]⟩
abbrev S8x8x64x64x4x16 : Shape := ⟨6, ![8, 8, 64, 64, 4, 16]⟩
abbrev S32768x512 : Shape := ⟨2, ![32768, 512]⟩

abbrev nBuf : Space → Nat
  | .hbm => 156
  | .vmem => 0
  | .smem => 0
  | _ => 0

abbrev hbmTy0_0 (i : Nat) : BufTy := match i % 128 with
  | 0 => ⟨S8x4096x8x64, .f32⟩
  | 1 => ⟨S8x4096x8x64, .f32⟩
  | 2 => ⟨S8x4096x8x64, .f32⟩
  | 3 => ⟨S8x256x8x64, .f32⟩
  | 4 => ⟨S8x256x8x64, .f32⟩
  | 5 => ⟨S8x15x31, .f32⟩
  | 6 => ⟨S64, .i32⟩
  | 7 => ⟨S_, .i32⟩
  | 8 => ⟨S64, .i32⟩
  | 9 => ⟨S64, .i32⟩
  | 10 => ⟨S_, .i32⟩
  | 11 => ⟨S_, .i32⟩
  | 12 => ⟨S_, .i32⟩
  | 13 => ⟨S64, .i32⟩
  | 14 => ⟨S64, .i32⟩
  | 15 => ⟨S_, .i32⟩
  | 16 => ⟨S64, .i32⟩
  | 17 => ⟨S64, .i32⟩
  | 18 => ⟨S64x1, .i32⟩
  | 19 => ⟨S8, .i32⟩
  | 20 => ⟨S1x8, .i32⟩
  | 21 => ⟨S64x8, .i32⟩
  | 22 => ⟨S64x8, .i32⟩
  | 23 => ⟨S64x8, .i32⟩
  | 24 => ⟨S4, .i32⟩
  | 25 => ⟨S_, .i32⟩
  | 26 => ⟨S4, .i32⟩
  | 27 => ⟨S4, .i32⟩
  | 28 => ⟨S_, .i32⟩
  | 29 => ⟨S4, .i32⟩
  | 30 => ⟨S4, .i32⟩
  | 31 => ⟨S_, .i32⟩
  | 32 => ⟨S_, .i32⟩
  | 33 => ⟨S_, .i32⟩
  | 34 => ⟨S4, .i32⟩
  | 35 => ⟨S4, .i32⟩
  | 36 => ⟨S_, .i32⟩
  | 37 => ⟨S4, .i32⟩
  | 38 => ⟨S4, .i32⟩
  | 39 => ⟨S4x1, .i32⟩
  | 40 => ⟨S32, .i32⟩
  | 41 => ⟨S1x32, .i32⟩
  | 42 => ⟨S4x32, .i32⟩
  | 43 => ⟨S4x32, .i32⟩
  | 44 => ⟨S4x32, .i32⟩
  | 45 => ⟨S4x1, .i32⟩
  | 46 => ⟨S16, .i32⟩
  | 47 => ⟨S1x16, .i32⟩
  | 48 => ⟨S4x16, .i32⟩
  | 49 => ⟨S4x16, .i32⟩
  | 50 => ⟨S4x16, .i32⟩
  | 51 => ⟨S_, .i32⟩
  | 52 => ⟨S4x16, .i32⟩
  | 53 => ⟨S4x16, .i32⟩
  | 54 => ⟨S_, .i32⟩
  | 55 => ⟨S_, .i32⟩
  | 56 => ⟨S_, .i32⟩
  | 57 => ⟨S4x16, .i32⟩
  | 58 => ⟨S4x16, .i32⟩
  | 59 => ⟨S_, .i32⟩
  | 60 => ⟨S4x16, .i32⟩
  | 61 => ⟨S4x16, .i32⟩
  | 62 => ⟨S64x1x8x1, .i32⟩
  | 63 => ⟨S_, .i32⟩
  | 64 => ⟨S64x1x8x1, .i32⟩
  | 65 => ⟨S64x1x8x1, .i32⟩
  | 66 => ⟨S1x4x1x32, .i32⟩
  | 67 => ⟨S64x4x8x32, .i32⟩
  | 68 => ⟨S64x4x8x32, .i32⟩
  | 69 => ⟨S64x4x8x32, .i32⟩
  | 70 => ⟨S64x4x256, .i32⟩
  | 71 => ⟨S4x1x32, .i32⟩
  | 72 => ⟨S4x16x1, .i32⟩
  | 73 => ⟨S4x16x32, .i32⟩
  | 74 => ⟨S4x16x32, .i32⟩
  | 75 => ⟨S4x16x32, .i1⟩
  | 76 => ⟨S4x16x1, .i32⟩
  | 77 => ⟨S_, .i32⟩
  | 78 => ⟨S4x16x1, .i32⟩
  | 79 => ⟨S4x16x1, .i32⟩
  | 80 => ⟨S4x16x32, .i32⟩
  | 81 => ⟨S4x16x32, .i32⟩
  | 82 => ⟨S4x16x32, .i1⟩
  | 83 => ⟨S4x16x32, .i1⟩
  | 84 => ⟨S64x1, .i32⟩
  | 85 => ⟨S64x8, .i32⟩
  | 86 => ⟨S64x8, .i32⟩
  | 87 => ⟨S_, .i32⟩
  | 88 => ⟨S64x8, .i32⟩
  | 89 => ⟨S64x8, .i32⟩
  | 90 => ⟨S4x16x1, .i32⟩
  | 91 => ⟨S4x16x32, .i32⟩
  | 92 => ⟨S4x16x32, .i32⟩
  | 93 => ⟨S4x16x32, .i32⟩
  | 94 => ⟨S_, .i32⟩
  | 95 => ⟨S_, .i32⟩
  | 96 => ⟨S_, .i32⟩
  | 97 => ⟨S4x16x32, .i32⟩
  | 98 => ⟨S4x16x32, .i32⟩
  | 99 => ⟨S_, .i32⟩
  | 100 => ⟨S4x16x32, .i32⟩
  | 101 => ⟨S4x16x32, .i32⟩
  | 102 => ⟨S_, .i32⟩
  | 103 => ⟨S4x16x32, .i32⟩
  | 104 => ⟨S4x16x32, .i32⟩
  | 105 => ⟨S64x1x1x8x1, .i32⟩
  | 106 => ⟨S1x4x16x1x32, .i32⟩
  | 107 => ⟨S64x4x16x8x32, .i32⟩
  | 108 => ⟨S64x4x16x8x32, .i32⟩
  | 109 => ⟨S64x4x16x8x32x1, .i32⟩
  | 110 => ⟨S64x4x16x8x32x1, .i32⟩
  | 111 => ⟨S64x4x16x8x32x2, .i32⟩
  | 112 => ⟨S8x64x4x16x8x32, .f32⟩
  | 113 => ⟨S1x1x4x16x1x32, .i1⟩
  | 114 => ⟨S_, .f32⟩
  | 115 => ⟨S_, .f32⟩
  | 116 => ⟨S8x64x4x16x8x32, .i1⟩
  | 117 => ⟨S8x64x4x16x8x32, .f32⟩
  | 118 => ⟨S8x64x4x16x8x32, .f32⟩
  | 119 => ⟨S64x8x4x16x8x32, .f32⟩
  | 120 => ⟨S64x8x4x16x256, .f32⟩
  | 121 => ⟨S8x64x4x16x8x64, .f32⟩
  | 122 => ⟨S64x4x256x1, .i32⟩
  | 123 => ⟨S8x64x4x256x8x64, .f32⟩
  | 124 => ⟨S64x4x256x1, .i32⟩
  | 125 => ⟨S8x64x4x256x8x64, .f32⟩
  | 126 => ⟨S8x64x8x4x16x256, .f32⟩
  | 127 => ⟨S1x64x8x4x16x256, .f32⟩
  | _ => ⟨S8x4096x8x64, .f32⟩

abbrev hbmTy0_1 (i : Nat) : BufTy := match i % 128 with
  | 0 => ⟨S8x64x8x4x16x256, .f32⟩
  | 1 => ⟨S8x64x8x4x16x256, .f32⟩
  | 2 => ⟨S8x8x256x64x4x16, .f32⟩
  | 3 => ⟨S8x64x8x4x16x256, .f32⟩
  | 4 => ⟨S8x64x8x4x16x512, .f32⟩
  | 5 => ⟨S_, .f32⟩
  | 6 => ⟨S8x64x8x4x16, .f32⟩
  | 7 => ⟨S_, .f32⟩
  | 8 => ⟨S8x64x8x4x16, .f32⟩
  | 9 => ⟨S8x64x8x4x16, .f32⟩
  | 10 => ⟨S8x64x8x4x16x1, .f32⟩
  | 11 => ⟨S8x64x8x4x16x512, .f32⟩
  | 12 => ⟨S8x64x8x4x16x512, .f32⟩
  | 13 => ⟨S8x64x8x4x16x512, .f32⟩
  | 14 => ⟨S_, .f32⟩
  | 15 => ⟨S8x64x8x4x16, .f32⟩
  | 16 => ⟨S8x64x8x4x16x1, .f32⟩
  | 17 => ⟨S8x64x8x4x16x512, .f32⟩
  | 18 => ⟨S8x64x8x4x16x512, .f32⟩
  | 19 => ⟨S8x64x8x4x16x256, .f32⟩
  | 20 => ⟨S8x64x4x8x64x16, .f32⟩
  | 21 => ⟨S8x64x4x16x8x64, .f32⟩
  | 22 => ⟨S8x64x8x4x16x256, .f32⟩
  | 23 => ⟨S8x8x64x64x4x16, .f32⟩
  | 24 => ⟨S8x64x4x16x8x64, .f32⟩
  | 25 => ⟨S8x64x4x16x8x64, .f32⟩
  | 26 => ⟨S32768x512, .f32⟩
  | 27 => ⟨S32768x512, .bf16⟩
  | _ => ⟨S8x4096x8x64, .f32⟩

abbrev hbmTy (i : Nat) : BufTy := match i / 128 with
  | 0 => hbmTy0_0 i
  | 1 => hbmTy0_1 i
  | _ => ⟨S8x4096x8x64, .f32⟩

abbrev bufTy : (tb : Table) → Fin (tcTables nBuf tb) → BufTy
  | .hbm, ⟨i, _⟩ => hbmTy i
  | _, _ => ⟨S8x4096x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_c_1 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c_2 : Ref sig .tc := ⟨.hbm, 25, rfl⟩
abbrev main_v11 : Ref sig .tc := ⟨.hbm, 26, rfl⟩
abbrev main_v12 : Ref sig .tc := ⟨.hbm, 27, rfl⟩
abbrev main_c_3 : Ref sig .tc := ⟨.hbm, 28, rfl⟩
abbrev main_v13 : Ref sig .tc := ⟨.hbm, 29, rfl⟩
abbrev main_v14 : Ref sig .tc := ⟨.hbm, 30, rfl⟩
abbrev main_c_4 : Ref sig .tc := ⟨.hbm, 31, rfl⟩
abbrev main_c_5 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_c_6 : Ref sig .tc := ⟨.hbm, 51, rfl⟩
abbrev main_v28 : Ref sig .tc := ⟨.hbm, 52, rfl⟩
abbrev main_v29 : Ref sig .tc := ⟨.hbm, 53, rfl⟩
abbrev main_c_7 : Ref sig .tc := ⟨.hbm, 54, rfl⟩
abbrev main_c_8 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_call2_v3 : Ref sig .tc := ⟨.hbm, 59, rfl⟩
abbrev main_call2_v4 : Ref sig .tc := ⟨.hbm, 60, rfl⟩
abbrev main_v30 : Ref sig .tc := ⟨.hbm, 61, rfl⟩
abbrev main_v31 : Ref sig .tc := ⟨.hbm, 62, rfl⟩
abbrev main_c_9 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_c_10 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_c_11 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_c_12 : Ref sig .tc := ⟨.hbm, 94, rfl⟩
abbrev main_c_13 : Ref sig .tc := ⟨.hbm, 95, rfl⟩
abbrev main_call3_v0 : Ref sig .tc := ⟨.hbm, 96, rfl⟩
abbrev main_call3_v1 : Ref sig .tc := ⟨.hbm, 97, rfl⟩
abbrev main_call3_v2 : Ref sig .tc := ⟨.hbm, 98, rfl⟩
abbrev main_call3_v3 : Ref sig .tc := ⟨.hbm, 99, rfl⟩
abbrev main_call3_v4 : Ref sig .tc := ⟨.hbm, 100, rfl⟩
abbrev main_v60 : Ref sig .tc := ⟨.hbm, 101, rfl⟩
abbrev main_c_14 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_cst : Ref sig .tc := ⟨.hbm, 114, rfl⟩
abbrev main_call4_v0 : Ref sig .tc := ⟨.hbm, 115, rfl⟩
abbrev main_call4_v1 : Ref sig .tc := ⟨.hbm, 116, rfl⟩
abbrev main_call4_v2 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_cst_15 : Ref sig .tc := ⟨.hbm, 133, rfl⟩
abbrev main_v87 : Ref sig .tc := ⟨.hbm, 134, rfl⟩
abbrev main_cst_16 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_cst_17 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩

abbrev nD : Nat := 1
abbrev τ : Topo := Topo.v7x

variable {F : FTy → Type} [FloatOps F]
-- ==== Kernel2.lean ====
abbrev S4 : Shape := ⟨1, ![4]⟩
abbrev S38912x1024 : Shape := ⟨2, ![38912, 1024]⟩
abbrev S38912x4 : Shape := ⟨2, ![38912, 4]⟩
abbrev S2x16x1024x512 : Shape := ⟨4, ![2, 16, 1024, 512]⟩
abbrev S2x16x512x1024 : Shape := ⟨4, ![2, 16, 512, 1024]⟩
abbrev S_ : Shape := ⟨0, ![]⟩
abbrev S76 : Shape := ⟨1, ![76]⟩
abbrev S1 : Shape := ⟨1, ![1]⟩
abbrev S76x1 : Shape := ⟨2, ![76, 1]⟩
abbrev S1x4 : Shape := ⟨2, ![1, 4]⟩
abbrev S76x4 : Shape := ⟨2, ![76, 4]⟩
abbrev S38912x8 : Shape := ⟨2, ![38912, 8]⟩
abbrev S38912x104 : Shape := ⟨2, ![38912, 104]⟩
abbrev S38912x128 : Shape := ⟨2, ![38912, 128]⟩
abbrev S38912x1152 : Shape := ⟨2, ![38912, 1152]⟩
abbrev S32x1024x512 : Shape := ⟨3, ![32, 1024, 512]⟩
abbrev S32x512x1024 : Shape := ⟨3, ![32, 512, 1024]⟩
abbrev S512x1152 : Shape := ⟨2, ![512, 1152]⟩
abbrev S4x1024x512 : Shape := ⟨3, ![4, 1024, 512]⟩
abbrev S4x512x1024 : Shape := ⟨3, ![4, 512, 1024]⟩
abbrev S512x1024 : Shape := ⟨2, ![512, 1024]⟩
abbrev S512x128 : Shape := ⟨2, ![512, 128]⟩
abbrev S1x1024x512 : Shape := ⟨3, ![1, 1024, 512]⟩
abbrev S1024x512 : Shape := ⟨2, ![1024, 512]⟩
abbrev S512x512 : Shape := ⟨2, ![512, 512]⟩
abbrev S512x1 : Shape := ⟨2, ![512, 1]⟩
abbrev S2048x1024 : Shape := ⟨2, ![2048, 1024]⟩
abbrev S512x2048 : Shape := ⟨2, ![512, 2048]⟩

abbrev nBuf : Space → Nat
  | .hbm => 51
  | .vmem => 10
  | .smem => 2
  | _ => 0

abbrev bufTy : (tb : Table) → Fin (tcTables nBuf tb) → BufTy
  | .hbm, ⟨0, _⟩ => ⟨S4, .i32⟩
  | .hbm, ⟨1, _⟩ => ⟨S38912x1024, .f32⟩
  | .hbm, ⟨2, _⟩ => ⟨S38912x4, .f32⟩
  | .hbm, ⟨3, _⟩ => ⟨S2x16x1024x512, .f32⟩
  | .hbm, ⟨4, _⟩ => ⟨S2x16x1024x512, .f32⟩
  | .hbm, ⟨5, _⟩ => ⟨S2x16x512x1024, .f32⟩
  | .hbm, ⟨6, _⟩ => ⟨S_, .i32⟩
  | .hbm, ⟨7, _⟩ => ⟨S_, .i32⟩
  | .hbm, ⟨8, _⟩ => ⟨S4, .i32⟩
  | .hbm, ⟨9, _⟩ => ⟨S76, .i32⟩
  | .hbm, ⟨10, _⟩ => ⟨S1, .i32⟩
  | .hbm, ⟨11, _⟩ => ⟨S_, .i32⟩
  | .hbm, ⟨12, _⟩ => ⟨S76, .i32⟩
  | .hbm, ⟨13, _⟩ => ⟨S76, .i1⟩
  | .hbm, ⟨14, _⟩ => ⟨S1, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S76, .i32⟩
  | .hbm, ⟨19, _⟩ => ⟨S76, .i32⟩
  | .hbm, ⟨20, _⟩ => ⟨S76x1, .i32⟩
  | .hbm, ⟨21, _⟩ => ⟨S1x4, .i32⟩
  | .hbm, ⟨22, _⟩ => ⟨S76x4, .i32⟩
  | .hbm, ⟨23, _⟩ => ⟨S76x4, .i32⟩
  | .hbm, ⟨24, _⟩ => ⟨S76x4, .i1⟩
  | .hbm, ⟨25, _⟩ => ⟨S76x4, .i32⟩
  | .hbm, ⟨26, _⟩ => ⟨S_, .i32⟩
  | .hbm, ⟨27, _⟩ => ⟨S_, .f32⟩
  | .hbm, ⟨28, _⟩ => ⟨S38912x4, .f32⟩
  | .hbm, ⟨29, _⟩ => ⟨S38912x8, .f32⟩
  | .hbm, ⟨30, _⟩ => ⟨S38912x8, .bf16⟩
  | .hbm, ⟨31, _⟩ => ⟨S38912x8, .f32⟩
  | .hbm, ⟨32, _⟩ => ⟨S38912x8, .f32⟩
  | .hbm, ⟨33, _⟩ => ⟨S38912x8, .bf16⟩
  | .hbm, ⟨34, _⟩ => ⟨S38912x8, .f32⟩
  | .hbm, ⟨35, _⟩ => ⟨S38912x8, .f32⟩
  | .hbm, ⟨36, _⟩ => ⟨S38912x8, .bf16⟩
  | .hbm, ⟨37, _⟩ => ⟨S38912x8, .f32⟩
  | .hbm, ⟨38, _⟩ => ⟨S_, .f32⟩
  | .hbm, ⟨39, _⟩ => ⟨S38912x104, .f32⟩
  | .hbm, ⟨40, _⟩ => ⟨S38912x128, .f32⟩
  | .hbm, ⟨41, _⟩ => ⟨S38912x1024, .bf16⟩
  | .hbm, ⟨42, _⟩ => ⟨S38912x128, .bf16⟩
  | .hbm, ⟨43, _⟩ => ⟨S38912x1152, .bf16⟩
  | .hbm, ⟨44, _⟩ => ⟨S32x1024x512, .f32⟩
  | .hbm, ⟨45, _⟩ => ⟨S32x1024x512, .bf16⟩
  | .hbm, ⟨46, _⟩ => ⟨S32x1024x512, .f32⟩
  | .hbm, ⟨47, _⟩ => ⟨S32x1024x512, .bf16⟩
  | .hbm, ⟨48, _⟩ => ⟨S32x512x1024, .f32⟩
  | .hbm, ⟨49, _⟩ => ⟨S32x512x1024, .bf16⟩
  | .hbm, ⟨50, _⟩ => ⟨S38912x1024, .bf16⟩
  | .local _ .vmem, ⟨0, _⟩ => ⟨S512x1152, .bf16⟩
  | .local _ .vmem, ⟨1, _⟩ => ⟨S512x1152, .bf16⟩
  | .local _ .vmem, ⟨2, _⟩ => ⟨S4x1024x512, .bf16⟩
  | .local _ .vmem, ⟨3, _⟩ => ⟨S4x1024x512, .bf16⟩
  | .local _ .vmem, ⟨4, _⟩ => ⟨S4x1024x512, .bf16⟩
  | .local _ .vmem, ⟨5, _⟩ => ⟨S4x1024x512, .bf16⟩
  | .local _ .vmem, ⟨6, _⟩ => ⟨S4x512x1024, .bf16⟩
  | .local _ .vmem, ⟨7, _⟩ => ⟨S4x512x1024, .bf16⟩
  | .local _ .vmem, ⟨8, _⟩ => ⟨S512x1024, .bf16⟩
  | .local _ .vmem, ⟨9, _⟩ => ⟨S512x1024, .bf16⟩
  | .local _ .smem, ⟨0, _⟩ => ⟨S76, .i32⟩
  | .local _ .smem, ⟨1, _⟩ => ⟨S76, .i32⟩
  | _, _ => ⟨S4, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_call0_c : Ref sig .tc := ⟨.hbm, 6, rfl⟩
abbrev main_call0_call0_v0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_0 : Ref sig .tc := ⟨.hbm, 26, rfl⟩
abbrev main_cst : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_1 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v17 : Ref sig .tc := ⟨.smem, 0, rfl⟩
abbrev main_v33 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![76], ![false]⟩

abbrev pre0 : Pipeline.Prefetch sig := ⟨2, ![main_v17.idx, main_v33.idx], fun | 0 => main_v17.names | 1 => main_v33.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v5 : Index := Scalar.indexCast arg0
  ![v5.toNat]
def k0_cond1 (v1 : BitVec 32) : BitVec 1 :=
  let c0_i32 : BitVec 32 := 0#32
  let v2 : BitVec 1 := Scalar.cmpi .eq v1 c0_i32
  let v3 : BitVec 32 := Scalar.extui v2
  let c0_i32_0 : BitVec 32 := 0#32
  let v4 : BitVec 1 := Scalar.cmpi .ne v3 c0_i32_0
  v4

def k0_cond2 (v6 : BitVec 32) : BitVec 1 :=
  let c1_i32 : BitVec 32 := 1#32
  let v7 : BitVec 1 := Scalar.cmpi .eq v6 c1_i32
  let v8 : BitVec 32 := Scalar.extui v7
  let c0_i32_1 : BitVec 32 := 0#32
  let v9 : BitVec 1 := Scalar.cmpi .ne v8 c0_i32_1
  v9

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S76.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S76) ![v0.toNat] S1.size (k0_off1_inb i)) numel1_S1
  let c0_i32 : BitVec 32 := 0#32
  let v2 : BitVec 32 := Scalar.addi c0_i32 v1
  let c0_i32_0 : BitVec 32 := 0#32
  let c0_i32_1 : BitVec 32 := 0#32
  let c0_i32_2 : BitVec 32 := 0#32
  ![v2.toNat, c0_i32_0.toNat, c0_i32_1.toNat]

def cc0_transform_2 (k0_off1_inb : ∀ i : grid0.Coords, ∀ a, (k0_off1 i) a + S1.size a ≤ S76.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S76) ![v0.toNat] S1.size (k0_off1_inb i)) numel1_S1
  let c0_i32 : BitVec 32 := 0#32
  let v2 : BitVec 32 := Scalar.addi c0_i32 v1
  let c0_i32_0 : BitVec 32 := 0#32
  let c0_i32_1 : BitVec 32 := 0#32
  let c0_i32_2 : BitVec 32 := 0#32
  ![v2.toNat, c0_i32_0.toNat, c0_i32_1.toNat]

def cc0_transform_3 (k0_off1_inb : ∀ i : grid0.Coords, ∀ a, (k0_off1 i) a + S1.size a ≤ S76.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S76) ![v0.toNat] S1.size (k0_off1_inb i)) numel1_S1
  let c0_i32 : BitVec 32 := 0#32
  let v2 : BitVec 32 := Scalar.addi c0_i32 v1
  let c0_i32_0 : BitVec 32 := 0#32
  let c0_i32_1 : BitVec 32 := 0#32
  let c0_i32_2 : BitVec 32 := 0#32
  ![v2.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S4 : Shape := ⟨1, ![4]⟩
abbrev S38912x1024 : Shape := ⟨2, ![38912, 1024]⟩
abbrev S38912x4 : Shape := ⟨2, ![38912, 4]⟩
abbrev S2x16x1024x512 : Shape := ⟨4, ![2, 16, 1024, 512]⟩
abbrev S2x16x512x1024 : Shape := ⟨4, ![2, 16, 512, 1024]⟩
abbrev S_ : Shape := ⟨0, ![]⟩
abbrev S76x512 : Shape := ⟨2, ![76, 512]⟩
abbrev S38912 : Shape := ⟨1, ![38912]⟩
abbrev S38912x1 : Shape := ⟨2, ![38912, 1]⟩
abbrev S1x4 : Shape := ⟨2, ![1, 4]⟩
abbrev S1 : Shape := ⟨1, ![1]⟩
abbrev S4x4 : Shape := ⟨2, ![4, 4]⟩
abbrev S16 : Shape := ⟨1, ![16]⟩
abbrev S1x16 : Shape := ⟨2, ![1, 16]⟩
abbrev S38912x16 : Shape := ⟨2, ![38912, 16]⟩
abbrev S1x16x1024x512 : Shape := ⟨4, ![1, 16, 1024, 512]⟩
abbrev S16x1024x512 : Shape := ⟨3, ![16, 1024, 512]⟩
abbrev S16x512x38912 : Shape := ⟨3, ![16, 512, 38912]⟩
abbrev S16x38912x512 : Shape := ⟨3, ![16, 38912, 512]⟩
abbrev S1x16x512x1024 : Shape := ⟨4, ![1, 16, 512, 1024]⟩
abbrev S16x512x1024 : Shape := ⟨3, ![16, 512, 1024]⟩
abbrev S16x38912x1024 : Shape := ⟨3, ![16, 38912, 1024]⟩
abbrev S16x38912 : Shape := ⟨2, ![16, 38912]⟩
abbrev S16x38912x1 : Shape := ⟨3, ![16, 38912, 1]⟩

abbrev nBuf : Space → Nat
  | .hbm => 66
  | .vmem => 0
  | .smem => 0
  | _ => 0

abbrev bufTy : (tb : Table) → Fin (tcTables nBuf tb) → BufTy
  | .hbm, ⟨0, _⟩ => ⟨S4, .i32⟩
  | .hbm, ⟨1, _⟩ => ⟨S38912x1024, .f32⟩
  | .hbm, ⟨2, _⟩ => ⟨S38912x4, .f32⟩
  | .hbm, ⟨3, _⟩ => ⟨S2x16x1024x512, .f32⟩
  | .hbm, ⟨4, _⟩ => ⟨S2x16x1024x512, .f32⟩
  | .hbm, ⟨5, _⟩ => ⟨S2x16x512x1024, .f32⟩
  | .hbm, ⟨6, _⟩ => ⟨S_, .i32⟩
  | .hbm, ⟨7, _⟩ => ⟨S_, .i32⟩
  | .hbm, ⟨8, _⟩ => ⟨S4, .i32⟩
  | .hbm, ⟨9, _⟩ => ⟨S76x512, .i32⟩
  | .hbm, ⟨10, _⟩ => ⟨S38912, .i32⟩
  | .hbm, ⟨11, _⟩ => ⟨S38912x1, .i32⟩
  | .hbm, ⟨12, _⟩ => ⟨S1x4, .i32⟩
  | .hbm, ⟨13, _⟩ => ⟨S38912x4, .i32⟩
  | .hbm, ⟨14, _⟩ => ⟨S38912x4, .i32⟩
  | .hbm, ⟨15, _⟩ => ⟨S38912x4, .i1⟩
  | .hbm, ⟨16, _⟩ => ⟨S38912x4, .i32⟩
  | .hbm, ⟨17, _⟩ => ⟨S_, .i32⟩
  | .hbm, ⟨18, _⟩ => ⟨S38912, .i32⟩
  | .hbm, ⟨19, _⟩ => ⟨S1, .i32⟩
  | .hbm, ⟨20, _⟩ => ⟨S_, .i32⟩
  | .hbm, ⟨21, _⟩ => ⟨S38912, .i32⟩
  | .hbm, ⟨22, _⟩ => ⟨S38912, .i1⟩
  | .hbm, ⟨23, _⟩ => ⟨S4x4, .i32⟩
  | .hbm, ⟨24, _⟩ => ⟨S16, .i32⟩
  | .hbm, ⟨25, _⟩ => ⟨S38912x1, .i1⟩
  | .hbm, ⟨26, _⟩ => ⟨S38912x1, .i32⟩
  | .hbm, ⟨27, _⟩ => ⟨S1x16, .i32⟩
  | .hbm, ⟨28, _⟩ => ⟨S38912x16, .i32⟩
  | .hbm, ⟨29, _⟩ => ⟨S38912x16, .i32⟩
  | .hbm, ⟨30, _⟩ => ⟨S38912x16, .i1⟩
  | .hbm, ⟨31, _⟩ => ⟨S38912x16, .i1⟩
  | .hbm, ⟨32, _⟩ => ⟨S38912x16, .i1⟩
  | .hbm, ⟨33, _⟩ => ⟨S38912x16, .f32⟩
  | .hbm, ⟨34, _⟩ => ⟨S_, .f32⟩
  | .hbm, ⟨35, _⟩ => ⟨S_, .f32⟩
  | .hbm, ⟨36, _⟩ => ⟨S38912x16, .f32⟩
  | .hbm, ⟨37, _⟩ => ⟨S38912x16, .f32⟩
  | .hbm, ⟨38, _⟩ => ⟨S1x16x1024x512, .f32⟩
  | .hbm, ⟨39, _⟩ => ⟨S16x1024x512, .f32⟩
  | .hbm, ⟨40, _⟩ => ⟨S16x512x38912, .f32⟩
  | .hbm, ⟨41, _⟩ => ⟨S16x38912x512, .f32⟩
  | .hbm, ⟨42, _⟩ => ⟨S1x16x1024x512, .f32⟩
  | .hbm, ⟨43, _⟩ => ⟨S16x1024x512, .f32⟩
  | .hbm, ⟨44, _⟩ => ⟨S16x512x38912, .f32⟩
  | .hbm, ⟨45, _⟩ => ⟨S16x38912x512, .f32⟩
  | .hbm, ⟨46, _⟩ => ⟨S16x38912x512, .f32⟩
  | .hbm, ⟨47, _⟩ => ⟨S16x38912x512, .f32⟩
  | .hbm, ⟨48, _⟩ => ⟨S_, .f32⟩
  | .hbm, ⟨49, _⟩ => ⟨S16x38912x512, .f32⟩
  | .hbm, ⟨50, _⟩ => ⟨S16x38912x512, .f32⟩
  | .hbm, ⟨51, _⟩ => ⟨S_, .f32⟩
  | .hbm, ⟨52, _⟩ => ⟨S16x38912x512, .f32⟩
  | .hbm, ⟨53, _⟩ => ⟨S16x38912x512, .f32⟩
  | .hbm, ⟨54, _⟩ => ⟨S16x38912x512, .f32⟩
  | .hbm, ⟨55, _⟩ => ⟨S16x38912x512, .f32⟩
  | .hbm, ⟨56, _⟩ => ⟨S1x16x512x1024, .f32⟩
  | .hbm, ⟨57, _⟩ => ⟨S16x512x1024, .f32⟩
  | .hbm, ⟨58, _⟩ => ⟨S16x38912x1024, .f32⟩
  | .hbm, ⟨59, _⟩ => ⟨S16x38912, .f32⟩
  | .hbm, ⟨60, _⟩ => ⟨S16x38912x1, .f32⟩
  | .hbm, ⟨61, _⟩ => ⟨S16x38912x1024, .f32⟩
  | .hbm, ⟨62, _⟩ => ⟨S16x38912x1024, .f32⟩
  | .hbm, ⟨63, _⟩ => ⟨S_, .f32⟩
  | .hbm, ⟨64, _⟩ => ⟨S38912x1024, .f32⟩
  | .hbm, ⟨65, _⟩ => ⟨S38912x1024, .bf16⟩
  | _, _ => ⟨S4, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_call0_c : Ref sig .tc := ⟨.hbm, 6, rfl⟩
abbrev main_call0_call0_v0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst : Ref sig .tc := ⟨.hbm, 34, rfl⟩
abbrev main_call1_v0 : Ref sig .tc := ⟨.hbm, 35, rfl⟩
abbrev main_call1_v1 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_call2_v0 : Ref sig .tc := ⟨.hbm, 46, rfl⟩
abbrev main_call2_v1 : Ref sig .tc := ⟨.hbm, 47, rfl⟩
abbrev main_call2_cst : Ref sig .tc := ⟨.hbm, 48, rfl⟩
abbrev main_call2_v2 : Ref sig .tc := ⟨.hbm, 49, rfl⟩
abbrev main_call2_v3 : Ref sig .tc := ⟨.hbm, 50, rfl⟩
abbrev main_call2_cst_0 : Ref sig .tc := ⟨.hbm, 51, rfl⟩
abbrev main_call2_v4 : Ref sig .tc := ⟨.hbm, 52, rfl⟩
abbrev main_call2_v5 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_0 : Ref sig .tc := ⟨.hbm, 63, rfl⟩
abbrev main_v43 : Ref sig .tc := ⟨.hbm, 64, rfl⟩
abbrev main_v44 : Ref sig .tc := ⟨.hbm, 65, rfl⟩

abbrev nD : Nat := 1
abbrev τ : Topo := Topo.v7x

variable {F : FTy → Type} [FloatOps F]
-- ==== Kernel3.lean ====
abbrev S8x4096x1024 : Shape := ⟨3, ![8, 4096, 1024]⟩
abbrev S8x1x1024 : Shape := ⟨3, ![8, 1, 1024]⟩
abbrev S1024 : Shape := ⟨1, ![1024]⟩
abbrev S1024x2560 : Shape := ⟨2, ![1024, 2560]⟩
abbrev S64 : Shape := ⟨1, ![64]⟩
abbrev S2x16x1024x512 : Shape := ⟨4, ![2, 16, 1024, 512]⟩
abbrev S2x16x512x1024 : Shape := ⟨4, ![2, 16, 512, 1024]⟩
abbrev S4x64 : Shape := ⟨2, ![4, 64]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S1x64 : Shape := ⟨2, ![1, 64]⟩
abbrev S8x64 : Shape := ⟨2, ![8, 64]⟩
abbrev S512 : Shape := ⟨1, ![512]⟩
abbrev S_ : Shape := ⟨0, ![]⟩
abbrev S1x512 : Shape := ⟨2, ![1, 512]⟩
abbrev S32x1024x512 : Shape := ⟨3, ![32, 1024, 512]⟩
abbrev S32x512x1024 : Shape := ⟨3, ![32, 512, 1024]⟩
abbrev S32768x1024 : Shape := ⟨2, ![32768, 1024]⟩
abbrev S1x1024 : Shape := ⟨2, ![1, 1024]⟩
abbrev S32768x512 : Shape := ⟨2, ![32768, 512]⟩
abbrev S4x32768x128 : Shape := ⟨3, ![4, 32768, 128]⟩
abbrev S1024x1024 : Shape := ⟨2, ![1024, 1024]⟩
abbrev S1x1x1024 : Shape := ⟨3, ![1, 1, 1024]⟩
abbrev S1x1024x512 : Shape := ⟨3, ![1, 1024, 512]⟩
abbrev S1x512x1024 : Shape := ⟨3, ![1, 512, 1024]⟩
abbrev S1024x512 : Shape := ⟨2, ![1024, 512]⟩
abbrev S4x1024x128 : Shape := ⟨3, ![4, 1024, 128]⟩
abbrev S1024x1 : Shape := ⟨2, ![1024, 1]⟩
abbrev S1024x256 : Shape := ⟨2, ![1024, 256]⟩
abbrev S1024x128 : Shape := ⟨2, ![1024, 128]⟩
abbrev S1x1024x128 : Shape := ⟨3, ![1, 1024, 128]⟩

abbrev nBuf : Space → Nat
  | .hbm => 44
  | .vmem => 33
  | .smem => 0
  | _ => 0

abbrev bufTy : (tb : Table) → Fin (tcTables nBuf tb) → BufTy
  | .hbm, ⟨0, _⟩ => ⟨S8x4096x1024, .f32⟩
  | .hbm, ⟨1, _⟩ => ⟨S8x1x1024, .f32⟩
  | .hbm, ⟨2, _⟩ => ⟨S8x1x1024, .f32⟩
  | .hbm, ⟨3, _⟩ => ⟨S1024, .f32⟩
  | .hbm, ⟨4, _⟩ => ⟨S1024x2560, .f32⟩
  | .hbm, ⟨5, _⟩ => ⟨S64, .f32⟩
  | .hbm, ⟨6, _⟩ => ⟨S64, .f32⟩
  | .hbm, ⟨7, _⟩ => ⟨S2x16x1024x512, .f32⟩
  | .hbm, ⟨8, _⟩ => ⟨S2x16x1024x512, .f32⟩
  | .hbm, ⟨9, _⟩ => ⟨S2x16x512x1024, .f32⟩
  | .hbm, ⟨10, _⟩ => ⟨S4x64, .i32⟩
  | .hbm, ⟨11, _⟩ => ⟨S256, .i32⟩
  | .hbm, ⟨12, _⟩ => ⟨S256x1, .i32⟩
  | .hbm, ⟨13, _⟩ => ⟨S1x256, .i32⟩
  | .hbm, ⟨14, _⟩ => ⟨S256x256, .i32⟩
  | .hbm, ⟨15, _⟩ => ⟨S256x256, .i32⟩
  | .hbm, ⟨16, _⟩ => ⟨S256x256, .i1⟩
  | .hbm, ⟨17, _⟩ => ⟨S256x256, .f32⟩
  | .hbm, ⟨18, _⟩ => ⟨S256x256, .bf16⟩
  | .hbm, ⟨19, _⟩ => ⟨S1x64, .f32⟩
  | .hbm, ⟨20, _⟩ => ⟨S8x64, .f32⟩
  | .hbm, ⟨21, _⟩ => ⟨S512, .f32⟩
  | .hbm, ⟨22, _⟩ => ⟨S_, .f32⟩
  | .hbm, ⟨23, _⟩ => ⟨S512, .f32⟩
  | .hbm, ⟨24, _⟩ => ⟨S512, .f32⟩
  | .hbm, ⟨25, _⟩ => ⟨S1x512, .f32⟩
  | .hbm, ⟨26, _⟩ => ⟨S1x64, .f32⟩
  | .hbm, ⟨27, _⟩ => ⟨S8x64, .f32⟩
  | .hbm, ⟨28, _⟩ => ⟨S512, .f32⟩
  | .hbm, ⟨29, _⟩ => ⟨S1x512, .f32⟩
  | .hbm, ⟨30, _⟩ => ⟨S32x1024x512, .f32⟩
  | .hbm, ⟨31, _⟩ => ⟨S32x1024x512, .f32⟩
  | .hbm, ⟨32, _⟩ => ⟨S32x512x1024, .f32⟩
  | .hbm, ⟨33, _⟩ => ⟨S32768x1024, .f32⟩
  | .hbm, ⟨34, _⟩ => ⟨S1x1024, .f32⟩
  | .hbm, ⟨35, _⟩ => ⟨S1024x2560, .bf16⟩
  | .hbm, ⟨36, _⟩ => ⟨S32768x512, .bf16⟩
  | .hbm, ⟨37, _⟩ => ⟨S32768x512, .bf16⟩
  | .hbm, ⟨38, _⟩ => ⟨S32768x512, .bf16⟩
  | .hbm, ⟨39, _⟩ => ⟨S4x32768x128, .f32⟩
  | .hbm, ⟨40, _⟩ => ⟨S4x32768x128, .f32⟩
  | .hbm, ⟨41, _⟩ => ⟨S32x1024x512, .bf16⟩
  | .hbm, ⟨42, _⟩ => ⟨S32x1024x512, .bf16⟩
  | .hbm, ⟨43, _⟩ => ⟨S32x512x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x2560, .bf16⟩
  | .local _ .vmem, ⟨8, _⟩ => ⟨S256x256, .bf16⟩
  | .local _ .vmem, ⟨9, _⟩ => ⟨S1x512, .f32⟩
  | .local _ .vmem, ⟨10, _⟩ => ⟨S1x512, .f32⟩
  | .local _ .vmem, ⟨11, _⟩ => ⟨S1x1024x512, .f32⟩
  | .local _ .vmem, ⟨12, _⟩ => ⟨S1x1024x512, .f32⟩
  | .local _ .vmem, ⟨13, _⟩ => ⟨S1x1024x512, .f32⟩
  | .local _ .vmem, ⟨14, _⟩ => ⟨S1x1024x512, .f32⟩
  | .local _ .vmem, ⟨15, _⟩ => ⟨S1x512x1024, .f32⟩
  | .local _ .vmem, ⟨16, _⟩ => ⟨S1x512x1024, .f32⟩
  | .local _ .vmem, ⟨17, _⟩ => ⟨S1024x512, .bf16⟩
  | .local _ .vmem, ⟨18, _⟩ => ⟨S1024x512, .bf16⟩
  | .local _ .vmem, ⟨19, _⟩ => ⟨S1024x512, .bf16⟩
  | .local _ .vmem, ⟨20, _⟩ => ⟨S1024x512, .bf16⟩
  | .local _ .vmem, ⟨21, _⟩ => ⟨S1024x512, .bf16⟩
  | .local _ .vmem, ⟨22, _⟩ => ⟨S1024x512, .bf16⟩
  | .local _ .vmem, ⟨23, _⟩ => ⟨S4x1024x128, .f32⟩
  | .local _ .vmem, ⟨24, _⟩ => ⟨S4x1024x128, .f32⟩
  | .local _ .vmem, ⟨25, _⟩ => ⟨S4x1024x128, .f32⟩
  | .local _ .vmem, ⟨26, _⟩ => ⟨S4x1024x128, .f32⟩
  | .local _ .vmem, ⟨27, _⟩ => ⟨S1x1024x512, .bf16⟩
  | .local _ .vmem, ⟨28, _⟩ => ⟨S1x1024x512, .bf16⟩
  | .local _ .vmem, ⟨29, _⟩ => ⟨S1x1024x512, .bf16⟩
  | .local _ .vmem, ⟨30, _⟩ => ⟨S1x1024x512, .bf16⟩
  | .local _ .vmem, ⟨31, _⟩ => ⟨S1x512x1024, .bf16⟩
  | .local _ .vmem, ⟨32, _⟩ => ⟨S1x512x1024, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25_0 : Ref sig .tc := ⟨.hbm, 36, rfl⟩
abbrev main_v25_1 : Ref sig .tc := ⟨.hbm, 37, rfl⟩
abbrev main_v25_2 : Ref sig .tc := ⟨.hbm, 38, rfl⟩
abbrev main_v25_3 : Ref sig .tc := ⟨.hbm, 39, rfl⟩
abbrev main_v25_4 : Ref sig .tc := ⟨.hbm, 40, rfl⟩
abbrev main_v25_5 : Ref sig .tc := ⟨.hbm, 41, rfl⟩
abbrev main_v25_6 : Ref sig .tc := ⟨.hbm, 42, rfl⟩
abbrev main_v25_7 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_stg18_0 : Ref sig .tc := ⟨.vmem, 31, rfl⟩
abbrev cc0_stg18_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31
abbrev cc0_sem18_1 : DmaSem sig := 32

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  let c0_i32_1 : BitVec 32 := 0#32
  ![v0.toNat, c0_i32.toNat, c0_i32_0.toNat]

def cc0_transform_9 (i : grid0.Coords) : Fin 3 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  let c0_i32_1 : BitVec 32 := 0#32
  ![v0.toNat, c0_i32.toNat, c0_i32_0.toNat]

def cc0_transform_10 (i : grid0.Coords) : Fin 3 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  let c0_i32_1 : BitVec 32 := 0#32
  ![v0.toNat, c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_16 (i : grid0.Coords) : Fin 3 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  let c0_i32_1 : BitVec 32 := 0#32
  ![v0.toNat, c0_i32.toNat, c0_i32_0.toNat]

def cc0_transform_17 (i : grid0.Coords) : Fin 3 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  let c0_i32_1 : BitVec 32 := 0#32
  ![v0.toNat, c0_i32.toNat, c0_i32_0.toNat]

def cc0_transform_18 (i : grid0.Coords) : Fin 3 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  let c0_i32_1 : BitVec 32 := 0#32
  ![v0.toNat, c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2560 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1024x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S4x1024x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S4x1024x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x1024x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x1024x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x512x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== Reference3Ideal.lean ====
abbrev S8x4096x1024 : Shape := ⟨3, ![8, 4096, 1024]⟩
abbrev S8x1x1024 : Shape := ⟨3, ![8, 1, 1024]⟩
abbrev S1024 : Shape := ⟨1, ![1024]⟩
abbrev S1024x2560 : Shape := ⟨2, ![1024, 2560]⟩
abbrev S64 : Shape := ⟨1, ![64]⟩
abbrev S2x16x1024x512 : Shape := ⟨4, ![2, 16, 1024, 512]⟩
abbrev S2x16x512x1024 : Shape := ⟨4, ![2, 16, 512, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x2560 : Shape := ⟨3, ![8, 4096, 2560]⟩
abbrev S8x4096x512 : Shape := ⟨3, ![8, 4096, 512]⟩
abbrev S8x4096x8x64 : Shape := ⟨4, ![8, 4096, 8, 64]⟩
abbrev S8x4096x8 : Shape := ⟨3, ![8, 4096, 8]⟩
abbrev S8x4096x8x1 : Shape := ⟨4, ![8, 4096, 8, 1]⟩
abbrev S1x1x1x64 : Shape := ⟨4, ![1, 1, 1, 64]⟩
abbrev S32768x512 : Shape := ⟨2, ![32768, 512]⟩
abbrev S32768x4x128 : Shape := ⟨3, ![32768, 4, 128]⟩
abbrev S4x32768x128 : Shape := ⟨3, ![4, 32768, 128]⟩
abbrev S32x1024x512 : Shape := ⟨3, ![32, 1024, 512]⟩
abbrev S32x512x1024 : Shape := ⟨3, ![32, 512, 1024]⟩

abbrev nBuf : Space → Nat
  | .hbm => 92
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x1x1024, .f32⟩
  | .hbm, ⟨2, _⟩ => ⟨S8x1x1024, .f32⟩
  | .hbm, ⟨3, _⟩ => ⟨S1024, .f32⟩
  | .hbm, ⟨4, _⟩ => ⟨S1024x2560, .f32⟩
  | .hbm, ⟨5, _⟩ => ⟨S64, .f32⟩
  | .hbm, ⟨6, _⟩ => ⟨S64, .f32⟩
  | .hbm, ⟨7, _⟩ => ⟨S2x16x1024x512, .f32⟩
  | .hbm, ⟨8, _⟩ => ⟨S2x16x1024x512, .f32⟩
  | .hbm, ⟨9, _⟩ => ⟨S2x16x512x1024, .f32⟩
  | .hbm, ⟨10, _⟩ => ⟨S8x4096x1024, .f32⟩
  | .hbm, ⟨11, _⟩ => ⟨S_, .f32⟩
  | .hbm, ⟨12, _⟩ => ⟨S8x4096, .f32⟩
  | .hbm, ⟨13, _⟩ => ⟨S8x4096x1, .f32⟩
  | .hbm, ⟨14, _⟩ => ⟨S_, .f32⟩
  | .hbm, ⟨15, _⟩ => ⟨S8x4096x1, .f32⟩
  | .hbm, ⟨16, _⟩ => ⟨S8x4096x1, .f32⟩
  | .hbm, ⟨17, _⟩ => ⟨S_, .f32⟩
  | .hbm, ⟨18, _⟩ => ⟨S8x4096x1, .f32⟩
  | .hbm, ⟨19, _⟩ => ⟨S8x4096x1, .f32⟩
  | .hbm, ⟨20, _⟩ => ⟨S8x4096x1, .f32⟩
  | .hbm, ⟨21, _⟩ => ⟨S8x4096x1024, .f32⟩
  | .hbm, ⟨22, _⟩ => ⟨S8x4096x1024, .f32⟩
  | .hbm, ⟨23, _⟩ => ⟨S1x1x1024, .f32⟩
  | .hbm, ⟨24, _⟩ => ⟨S8x4096x1024, .f32⟩
  | .hbm, ⟨25, _⟩ => ⟨S8x4096x1024, .f32⟩
  | .hbm, ⟨26, _⟩ => ⟨S_, .f32⟩
  | .hbm, ⟨27, _⟩ => ⟨S8x1x1024, .f32⟩
  | .hbm, ⟨28, _⟩ => ⟨S8x1x1024, .f32⟩
  | .hbm, ⟨29, _⟩ => ⟨S8x4096x1024, .f32⟩
  | .hbm, ⟨30, _⟩ => ⟨S8x4096x1024, .f32⟩
  | .hbm, ⟨31, _⟩ => ⟨S8x4096x1024, .f32⟩
  | .hbm, ⟨32, _⟩ => ⟨S8x4096x1024, .f32⟩
  | .hbm, ⟨33, _⟩ => ⟨S8x4096x2560, .f32⟩
  | .hbm, ⟨34, _⟩ => ⟨S8x4096x512, .f32⟩
  | .hbm, ⟨35, _⟩ => ⟨S8x4096x512, .f32⟩
  | .hbm, ⟨36, _⟩ => ⟨S8x4096x512, .f32⟩
  | .hbm, ⟨37, _⟩ => ⟨S8x4096x512, .f32⟩
  | .hbm, ⟨38, _⟩ => ⟨S8x4096x512, .f32⟩
  | .hbm, ⟨39, _⟩ => ⟨S8x4096x8x64, .f32⟩
  | .hbm, ⟨40, _⟩ => ⟨S8x4096x8x64, .f32⟩
  | .hbm, ⟨41, _⟩ => ⟨S_, .f32⟩
  | .hbm, ⟨42, _⟩ => ⟨S8x4096x8, .f32⟩
  | .hbm, ⟨43, _⟩ => ⟨S8x4096x8x1, .f32⟩
  | .hbm, ⟨44, _⟩ => ⟨S_, .f32⟩
  | .hbm, ⟨45, _⟩ => ⟨S8x4096x8x1, .f32⟩
  | .hbm, ⟨46, _⟩ => ⟨S8x4096x8x1, .f32⟩
  | .hbm, ⟨47, _⟩ => ⟨S_, .f32⟩
  | .hbm, ⟨48, _⟩ => ⟨S8x4096x8x1, .f32⟩
  | .hbm, ⟨49, _⟩ => ⟨S8x4096x8x1, .f32⟩
  | .hbm, ⟨50, _⟩ => ⟨S8x4096x8x1, .f32⟩
  | .hbm, ⟨51, _⟩ => ⟨S8x4096x8x64, .f32⟩
  | .hbm, ⟨52, _⟩ => ⟨S8x4096x8x64, .f32⟩
  | .hbm, ⟨53, _⟩ => ⟨S1x1x1x64, .f32⟩
  | .hbm, ⟨54, _⟩ => ⟨S8x4096x8x64, .f32⟩
  | .hbm, ⟨55, _⟩ => ⟨S8x4096x8x64, .f32⟩
  | .hbm, ⟨56, _⟩ => ⟨S_, .f32⟩
  | .hbm, ⟨57, _⟩ => ⟨S8x4096x8x64, .f32⟩
  | .hbm, ⟨58, _⟩ => ⟨S8x4096x8x64, .f32⟩
  | .hbm, ⟨59, _⟩ => ⟨S8x4096x8x64, .f32⟩
  | .hbm, ⟨60, _⟩ => ⟨S8x4096x8x64, .f32⟩
  | .hbm, ⟨61, _⟩ => ⟨S_, .f32⟩
  | .hbm, ⟨62, _⟩ => ⟨S8x4096x8, .f32⟩
  | .hbm, ⟨63, _⟩ => ⟨S8x4096x8x1, .f32⟩
  | .hbm, ⟨64, _⟩ => ⟨S_, .f32⟩
  | .hbm, ⟨65, _⟩ => ⟨S8x4096x8x1, .f32⟩
  | .hbm, ⟨66, _⟩ => ⟨S8x4096x8x1, .f32⟩
  | .hbm, ⟨67, _⟩ => ⟨S_, .f32⟩
  | .hbm, ⟨68, _⟩ => ⟨S8x4096x8x1, .f32⟩
  | .hbm, ⟨69, _⟩ => ⟨S8x4096x8x1, .f32⟩
  | .hbm, ⟨70, _⟩ => ⟨S8x4096x8x1, .f32⟩
  | .hbm, ⟨71, _⟩ => ⟨S8x4096x8x64, .f32⟩
  | .hbm, ⟨72, _⟩ => ⟨S8x4096x8x64, .f32⟩
  | .hbm, ⟨73, _⟩ => ⟨S1x1x1x64, .f32⟩
  | .hbm, ⟨74, _⟩ => ⟨S8x4096x8x64, .f32⟩
  | .hbm, ⟨75, _⟩ => ⟨S8x4096x8x64, .f32⟩
  | .hbm, ⟨76, _⟩ => ⟨S32768x512, .f32⟩
  | .hbm, ⟨77, _⟩ => ⟨S32768x512, .bf16⟩
  | .hbm, ⟨78, _⟩ => ⟨S32768x512, .f32⟩
  | .hbm, ⟨79, _⟩ => ⟨S32768x512, .bf16⟩
  | .hbm, ⟨80, _⟩ => ⟨S32768x512, .f32⟩
  | .hbm, ⟨81, _⟩ => ⟨S32768x512, .bf16⟩
  | .hbm, ⟨82, _⟩ => ⟨S32768x4x128, .f32⟩
  | .hbm, ⟨83, _⟩ => ⟨S4x32768x128, .f32⟩
  | .hbm, ⟨84, _⟩ => ⟨S32768x4x128, .f32⟩
  | .hbm, ⟨85, _⟩ => ⟨S4x32768x128, .f32⟩
  | .hbm, ⟨86, _⟩ => ⟨S32x1024x512, .f32⟩
  | .hbm, ⟨87, _⟩ => ⟨S32x1024x512, .bf16⟩
  | .hbm, ⟨88, _⟩ => ⟨S32x1024x512, .f32⟩
  | .hbm, ⟨89, _⟩ => ⟨S32x1024x512, .bf16⟩
  | .hbm, ⟨90, _⟩ => ⟨S32x512x1024, .f32⟩
  | .hbm, ⟨91, _⟩ => ⟨S32x512x1024, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_v28 : Ref sig .tc := ⟨.hbm, 43, rfl⟩
abbrev main_cst_4 : Ref sig .tc := ⟨.hbm, 44, rfl⟩
abbrev main_v29 : Ref sig .tc := ⟨.hbm, 45, rfl⟩
abbrev main_v30 : Ref sig .tc := ⟨.hbm, 46, rfl⟩
abbrev main_cst_5 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_6 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_7 : Ref sig .tc := ⟨.hbm, 61, rfl⟩
abbrev main_v43 : Ref sig .tc := ⟨.hbm, 62, rfl⟩
abbrev main_v44 : Ref sig .tc := ⟨.hbm, 63, rfl⟩
abbrev main_cst_8 : Ref sig .tc := ⟨.hbm, 64, rfl⟩
abbrev main_v45 : Ref sig .tc := ⟨.hbm, 65, rfl⟩
abbrev main_v46 : Ref sig .tc := ⟨.hbm, 66, rfl⟩
abbrev main_cst_9 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩

abbrev nD : Nat := 1
abbrev τ : Topo := Topo.v7x

variable {F : FTy → Type} [FloatOps F]
-- ==== Kernel4.lean ====
abbrev S8x256x1024 : Shape := ⟨3, ![8, 256, 1024]⟩
abbrev S1024 : Shape := ⟨1, ![1024]⟩
abbrev S1024x2560 : Shape := ⟨2, ![1024, 2560]⟩
abbrev S64 : Shape := ⟨1, ![64]⟩
abbrev S4x64 : Shape := ⟨2, ![4, 64]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S1x64 : Shape := ⟨2, ![1, 64]⟩
abbrev S8x64 : Shape := ⟨2, ![8, 64]⟩
abbrev S512 : Shape := ⟨1, ![512]⟩
abbrev S_ : Shape := ⟨0, ![]⟩
abbrev S1x512 : Shape := ⟨2, ![1, 512]⟩
abbrev S8x1x1024 : Shape := ⟨3, ![8, 1, 1024]⟩
abbrev S2048x1024 : Shape := ⟨2, ![2048, 1024]⟩
abbrev S1x1024 : Shape := ⟨2, ![1, 1024]⟩
abbrev S1024x1536 : Shape := ⟨2, ![1024, 1536]⟩
abbrev S2048x512 : Shape := ⟨2, ![2048, 512]⟩
abbrev S4x2048x128 : Shape := ⟨3, ![4, 2048, 128]⟩
abbrev S256x1024 : Shape := ⟨2, ![256, 1024]⟩
abbrev S1x1x1024 : Shape := ⟨3, ![1, 1, 1024]⟩
abbrev S256x512 : Shape := ⟨2, ![256, 512]⟩
abbrev S4x256x128 : Shape := ⟨3, ![4, 256, 128]⟩
abbrev S1024x512 : Shape := ⟨2, ![1024, 512]⟩
abbrev S256x128 : Shape := ⟨2, ![256, 128]⟩
abbrev S1x256x128 : Shape := ⟨3, ![1, 256, 128]⟩

abbrev nBuf : Space → Nat
  | .hbm => 36
  | .vmem => 17
  | .smem => 0
  | _ => 0

abbrev bufTy : (tb : Table) → Fin (tcTables nBuf tb) → BufTy
  | .hbm, ⟨0, _⟩ => ⟨S8x256x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024x2560, .f32⟩
  | .hbm, ⟨5, _⟩ => ⟨S64, .f32⟩
  | .hbm, ⟨6, _⟩ => ⟨S64, .f32⟩
  | .hbm, ⟨7, _⟩ => ⟨S4x64, .i32⟩
  | .hbm, ⟨8, _⟩ => ⟨S256, .i32⟩
  | .hbm, ⟨9, _⟩ => ⟨S256x1, .i32⟩
  | .hbm, ⟨10, _⟩ => ⟨S1x256, .i32⟩
  | .hbm, ⟨11, _⟩ => ⟨S256x256, .i32⟩
  | .hbm, ⟨12, _⟩ => ⟨S256x256, .i32⟩
  | .hbm, ⟨13, _⟩ => ⟨S256x256, .i1⟩
  | .hbm, ⟨14, _⟩ => ⟨S256x256, .f32⟩
  | .hbm, ⟨15, _⟩ => ⟨S256x256, .bf16⟩
  | .hbm, ⟨16, _⟩ => ⟨S1x64, .f32⟩
  | .hbm, ⟨17, _⟩ => ⟨S8x64, .f32⟩
  | .hbm, ⟨18, _⟩ => ⟨S512, .f32⟩
  | .hbm, ⟨19, _⟩ => ⟨S_, .f32⟩
  | .hbm, ⟨20, _⟩ => ⟨S512, .f32⟩
  | .hbm, ⟨21, _⟩ => ⟨S512, .f32⟩
  | .hbm, ⟨22, _⟩ => ⟨S1x512, .f32⟩
  | .hbm, ⟨23, _⟩ => ⟨S1x64, .f32⟩
  | .hbm, ⟨24, _⟩ => ⟨S8x64, .f32⟩
  | .hbm, ⟨25, _⟩ => ⟨S512, .f32⟩
  | .hbm, ⟨26, _⟩ => ⟨S1x512, .f32⟩
  | .hbm, ⟨27, _⟩ => ⟨S8x1x1024, .f32⟩
  | .hbm, ⟨28, _⟩ => ⟨S8x1x1024, .f32⟩
  | .hbm, ⟨29, _⟩ => ⟨S1024x2560, .bf16⟩
  | .hbm, ⟨30, _⟩ => ⟨S2048x1024, .f32⟩
  | .hbm, ⟨31, _⟩ => ⟨S1x1024, .f32⟩
  | .hbm, ⟨32, _⟩ => ⟨S1024x1536, .bf16⟩
  | .hbm, ⟨33, _⟩ => ⟨S2048x512, .bf16⟩
  | .hbm, ⟨34, _⟩ => ⟨S2048x512, .bf16⟩
  | .hbm, ⟨35, _⟩ => ⟨S4x2048x128, .f32⟩
  | .local _ .vmem, ⟨0, _⟩ => ⟨S256x1024, .f32⟩
  | .local _ .vmem, ⟨1, _⟩ => ⟨S256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x1536, .bf16⟩
  | .local _ .vmem, ⟨8, _⟩ => ⟨S256x256, .bf16⟩
  | .local _ .vmem, ⟨9, _⟩ => ⟨S1x512, .f32⟩
  | .local _ .vmem, ⟨10, _⟩ => ⟨S1x512, .f32⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S256x512, .bf16⟩
  | .local _ .vmem, ⟨15, _⟩ => ⟨S4x256x128, .f32⟩
  | .local _ .vmem, ⟨16, _⟩ => ⟨S4x256x128, .f32⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25_0 : Ref sig .tc := ⟨.hbm, 33, rfl⟩
abbrev main_v25_1 : Ref sig .tc := ⟨.hbm, 34, rfl⟩
abbrev main_v25_2 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_2 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference4Ideal.lean ====
abbrev S8x256x1024 : Shape := ⟨3, ![8, 256, 1024]⟩
abbrev S1024 : Shape := ⟨1, ![1024]⟩
abbrev S1024x2560 : Shape := ⟨2, ![1024, 2560]⟩
abbrev S64 : Shape := ⟨1, ![64]⟩
abbrev S_ : Shape := ⟨0, ![]⟩
abbrev S8x256 : Shape := ⟨2, ![8, 256]⟩
abbrev S8x256x1 : Shape := ⟨3, ![8, 256, 1]⟩
abbrev S1x1x1024 : Shape := ⟨3, ![1, 1, 1024]⟩
abbrev S1024x1536 : Shape := ⟨2, ![1024, 1536]⟩
abbrev S8x256x1536 : Shape := ⟨3, ![8, 256, 1536]⟩
abbrev S8x256x512 : Shape := ⟨3, ![8, 256, 512]⟩
abbrev S8x256x8x64 : Shape := ⟨4, ![8, 256, 8, 64]⟩
abbrev S8x256x8 : Shape := ⟨3, ![8, 256, 8]⟩
abbrev S8x256x8x1 : Shape := ⟨4, ![8, 256, 8, 1]⟩
abbrev S1x1x1x64 : Shape := ⟨4, ![1, 1, 1, 64]⟩
abbrev S2048x512 : Shape := ⟨2, ![2048, 512]⟩
abbrev S2048x4x128 : Shape := ⟨3, ![2048, 4, 128]⟩
abbrev S4x2048x128 : Shape := ⟨3, ![4, 2048, 128]⟩

abbrev nBuf : Space → Nat
  | .hbm => 60
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024x2560, .f32⟩
  | .hbm, ⟨5, _⟩ => ⟨S64, .f32⟩
  | .hbm, ⟨6, _⟩ => ⟨S64, .f32⟩
  | .hbm, ⟨7, _⟩ => ⟨S8x256x1024, .f32⟩
  | .hbm, ⟨8, _⟩ => ⟨S_, .f32⟩
  | .hbm, ⟨9, _⟩ => ⟨S8x256, .f32⟩
  | .hbm, ⟨10, _⟩ => ⟨S8x256x1, .f32⟩
  | .hbm, ⟨11, _⟩ => ⟨S_, .f32⟩
  | .hbm, ⟨12, _⟩ => ⟨S8x256x1, .f32⟩
  | .hbm, ⟨13, _⟩ => ⟨S8x256x1, .f32⟩
  | .hbm, ⟨14, _⟩ => ⟨S_, .f32⟩
  | .hbm, ⟨15, _⟩ => ⟨S8x256x1, .f32⟩
  | .hbm, ⟨16, _⟩ => ⟨S8x256x1, .f32⟩
  | .hbm, ⟨17, _⟩ => ⟨S8x256x1, .f32⟩
  | .hbm, ⟨18, _⟩ => ⟨S8x256x1024, .f32⟩
  | .hbm, ⟨19, _⟩ => ⟨S8x256x1024, .f32⟩
  | .hbm, ⟨20, _⟩ => ⟨S1x1x1024, .f32⟩
  | .hbm, ⟨21, _⟩ => ⟨S8x256x1024, .f32⟩
  | .hbm, ⟨22, _⟩ => ⟨S8x256x1024, .f32⟩
  | .hbm, ⟨23, _⟩ => ⟨S_, .f32⟩
  | .hbm, ⟨24, _⟩ => ⟨S1024, .f32⟩
  | .hbm, ⟨25, _⟩ => ⟨S1024, .f32⟩
  | .hbm, ⟨26, _⟩ => ⟨S1x1x1024, .f32⟩
  | .hbm, ⟨27, _⟩ => ⟨S8x256x1024, .f32⟩
  | .hbm, ⟨28, _⟩ => ⟨S8x256x1024, .f32⟩
  | .hbm, ⟨29, _⟩ => ⟨S1x1x1024, .f32⟩
  | .hbm, ⟨30, _⟩ => ⟨S8x256x1024, .f32⟩
  | .hbm, ⟨31, _⟩ => ⟨S8x256x1024, .f32⟩
  | .hbm, ⟨32, _⟩ => ⟨S1024x1536, .f32⟩
  | .hbm, ⟨33, _⟩ => ⟨S8x256x1536, .f32⟩
  | .hbm, ⟨34, _⟩ => ⟨S8x256x512, .f32⟩
  | .hbm, ⟨35, _⟩ => ⟨S8x256x512, .f32⟩
  | .hbm, ⟨36, _⟩ => ⟨S8x256x512, .f32⟩
  | .hbm, ⟨37, _⟩ => ⟨S8x256x8x64, .f32⟩
  | .hbm, ⟨38, _⟩ => ⟨S8x256x8x64, .f32⟩
  | .hbm, ⟨39, _⟩ => ⟨S_, .f32⟩
  | .hbm, ⟨40, _⟩ => ⟨S8x256x8, .f32⟩
  | .hbm, ⟨41, _⟩ => ⟨S8x256x8x1, .f32⟩
  | .hbm, ⟨42, _⟩ => ⟨S_, .f32⟩
  | .hbm, ⟨43, _⟩ => ⟨S8x256x8x1, .f32⟩
  | .hbm, ⟨44, _⟩ => ⟨S8x256x8x1, .f32⟩
  | .hbm, ⟨45, _⟩ => ⟨S_, .f32⟩
  | .hbm, ⟨46, _⟩ => ⟨S8x256x8x1, .f32⟩
  | .hbm, ⟨47, _⟩ => ⟨S8x256x8x1, .f32⟩
  | .hbm, ⟨48, _⟩ => ⟨S8x256x8x1, .f32⟩
  | .hbm, ⟨49, _⟩ => ⟨S8x256x8x64, .f32⟩
  | .hbm, ⟨50, _⟩ => ⟨S8x256x8x64, .f32⟩
  | .hbm, ⟨51, _⟩ => ⟨S1x1x1x64, .f32⟩
  | .hbm, ⟨52, _⟩ => ⟨S8x256x8x64, .f32⟩
  | .hbm, ⟨53, _⟩ => ⟨S8x256x8x64, .f32⟩
  | .hbm, ⟨54, _⟩ => ⟨S2048x512, .f32⟩
  | .hbm, ⟨55, _⟩ => ⟨S2048x512, .bf16⟩
  | .hbm, ⟨56, _⟩ => ⟨S2048x512, .f32⟩
  | .hbm, ⟨57, _⟩ => ⟨S2048x512, .bf16⟩
  | .hbm, ⟨58, _⟩ => ⟨S2048x4x128, .f32⟩
  | .hbm, ⟨59, _⟩ => ⟨S4x2048x128, .f32⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩

abbrev nD : Nat := 1
abbrev τ : Topo := Topo.v7x

variable {F : FTy → Type} [FloatOps F]
-- ==== Kernel5.lean ====
abbrev S8x1024 : Shape := ⟨2, ![8, 1024]⟩
abbrev S1024 : Shape := ⟨1, ![1024]⟩
abbrev S2x1024x6144 : Shape := ⟨3, ![2, 1024, 6144]⟩
abbrev S2x6144 : Shape := ⟨2, ![2, 6144]⟩
abbrev S1x1024 : Shape := ⟨2, ![1, 1024]⟩
abbrev S_ : Shape := ⟨0, ![]⟩
abbrev S7x1024 : Shape := ⟨2, ![7, 1024]⟩
abbrev S16x1024 : Shape := ⟨2, ![16, 1024]⟩
abbrev S2x1x6144 : Shape := ⟨3, ![2, 1, 6144]⟩
abbrev S2x16x6144 : Shape := ⟨3, ![2, 16, 6144]⟩
abbrev S1x1024x3072 : Shape := ⟨3, ![1, 1024, 3072]⟩
abbrev S1x1x3072 : Shape := ⟨3, ![1, 1, 3072]⟩
abbrev S1x16x3072 : Shape := ⟨3, ![1, 16, 3072]⟩
abbrev S1024x3072 : Shape := ⟨2, ![1024, 3072]⟩
abbrev S16x3072 : Shape := ⟨2, ![16, 3072]⟩
abbrev S1x3072 : Shape := ⟨2, ![1, 3072]⟩

abbrev nBuf : Space → Nat
  | .hbm => 10
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S2x1024x6144, .f32⟩
  | .hbm, ⟨3, _⟩ => ⟨S2x6144, .f32⟩
  | .hbm, ⟨4, _⟩ => ⟨S1x1024, .f32⟩
  | .hbm, ⟨5, _⟩ => ⟨S_, .f32⟩
  | .hbm, ⟨6, _⟩ => ⟨S7x1024, .f32⟩
  | .hbm, ⟨7, _⟩ => ⟨S16x1024, .f32⟩
  | .hbm, ⟨8, _⟩ => ⟨S2x1x6144, .f32⟩
  | .hbm, ⟨9, _⟩ => ⟨S2x16x6144, .f32⟩
  | .local _ .vmem, ⟨0, _⟩ => ⟨S16x1024, .f32⟩
  | .local _ .vmem, ⟨1, _⟩ => ⟨S1x1024x3072, .f32⟩
  | .local _ .vmem, ⟨2, _⟩ => ⟨S1x1024x3072, .f32⟩
  | .local _ .vmem, ⟨3, _⟩ => ⟨S1x1x3072, .f32⟩
  | .local _ .vmem, ⟨4, _⟩ => ⟨S1x1x3072, .f32⟩
  | .local _ .vmem, ⟨5, _⟩ => ⟨S1x16x3072, .f32⟩
  | .local _ .vmem, ⟨6, _⟩ => ⟨S1x16x3072, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S8x1024 : Shape := ⟨2, ![8, 1024]⟩
abbrev S1024 : Shape := ⟨1, ![1024]⟩
abbrev S2x1024x6144 : Shape := ⟨3, ![2, 1024, 6144]⟩
abbrev S2x6144 : Shape := ⟨2, ![2, 6144]⟩
abbrev S1x1024 : Shape := ⟨2, ![1, 1024]⟩
abbrev S_ : Shape := ⟨0, ![]⟩
abbrev S7x1024 : Shape := ⟨2, ![7, 1024]⟩
abbrev S16x1024 : Shape := ⟨2, ![16, 1024]⟩
abbrev S1x1024x6144 : Shape := ⟨3, ![1, 1024, 6144]⟩
abbrev S1024x6144 : Shape := ⟨2, ![1024, 6144]⟩
abbrev S16x6144 : Shape := ⟨2, ![16, 6144]⟩
abbrev S1x6144 : Shape := ⟨2, ![1, 6144]⟩
abbrev S6144 : Shape := ⟨1, ![6144]⟩
abbrev S1x16x6144 : Shape := ⟨3, ![1, 16, 6144]⟩
abbrev S2x16x6144 : Shape := ⟨3, ![2, 16, 6144]⟩

abbrev nBuf : Space → Nat
  | .hbm => 36
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S2x1024x6144, .f32⟩
  | .hbm, ⟨3, _⟩ => ⟨S2x6144, .f32⟩
  | .hbm, ⟨4, _⟩ => ⟨S1x1024, .f32⟩
  | .hbm, ⟨5, _⟩ => ⟨S_, .f32⟩
  | .hbm, ⟨6, _⟩ => ⟨S7x1024, .f32⟩
  | .hbm, ⟨7, _⟩ => ⟨S16x1024, .f32⟩
  | .hbm, ⟨8, _⟩ => ⟨S16x1024, .f32⟩
  | .hbm, ⟨9, _⟩ => ⟨S16x1024, .f32⟩
  | .hbm, ⟨10, _⟩ => ⟨S_, .f32⟩
  | .hbm, ⟨11, _⟩ => ⟨S16x1024, .f32⟩
  | .hbm, ⟨12, _⟩ => ⟨S16x1024, .f32⟩
  | .hbm, ⟨13, _⟩ => ⟨S_, .f32⟩
  | .hbm, ⟨14, _⟩ => ⟨S16x1024, .f32⟩
  | .hbm, ⟨15, _⟩ => ⟨S16x1024, .f32⟩
  | .hbm, ⟨16, _⟩ => ⟨S16x1024, .f32⟩
  | .hbm, ⟨17, _⟩ => ⟨S1x1024x6144, .f32⟩
  | .hbm, ⟨18, _⟩ => ⟨S1024x6144, .f32⟩
  | .hbm, ⟨19, _⟩ => ⟨S16x6144, .f32⟩
  | .hbm, ⟨20, _⟩ => ⟨S1x6144, .f32⟩
  | .hbm, ⟨21, _⟩ => ⟨S6144, .f32⟩
  | .hbm, ⟨22, _⟩ => ⟨S1x6144, .f32⟩
  | .hbm, ⟨23, _⟩ => ⟨S16x6144, .f32⟩
  | .hbm, ⟨24, _⟩ => ⟨S16x6144, .f32⟩
  | .hbm, ⟨25, _⟩ => ⟨S1x1024x6144, .f32⟩
  | .hbm, ⟨26, _⟩ => ⟨S1024x6144, .f32⟩
  | .hbm, ⟨27, _⟩ => ⟨S16x6144, .f32⟩
  | .hbm, ⟨28, _⟩ => ⟨S1x6144, .f32⟩
  | .hbm, ⟨29, _⟩ => ⟨S6144, .f32⟩
  | .hbm, ⟨30, _⟩ => ⟨S1x6144, .f32⟩
  | .hbm, ⟨31, _⟩ => ⟨S16x6144, .f32⟩
  | .hbm, ⟨32, _⟩ => ⟨S16x6144, .f32⟩
  | .hbm, ⟨33, _⟩ => ⟨S1x16x6144, .f32⟩
  | .hbm, ⟨34, _⟩ => ⟨S1x16x6144, .f32⟩
  | .hbm, ⟨35, _⟩ => ⟨S2x16x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩

abbrev nD : Nat := 1
abbrev τ : Topo := Topo.v7x

variable {F : FTy → Type} [FloatOps F]
-- ==== Kernel6.lean ====
abbrev S4 : Shape := ⟨1, ![4]⟩
abbrev S38912x1024 : Shape := ⟨2, ![38912, 1024]⟩
abbrev S38912x4 : Shape := ⟨2, ![38912, 4]⟩
abbrev S2x16x1024x512 : Shape := ⟨4, ![2, 16, 1024, 512]⟩
abbrev S2x16x512x1024 : Shape := ⟨4, ![2, 16, 512, 1024]⟩
abbrev S_ : Shape := ⟨0, ![]⟩
abbrev S76 : Shape := ⟨1, ![76]⟩
abbrev S1 : Shape := ⟨1, ![1]⟩
abbrev S76x1 : Shape := ⟨2, ![76, 1]⟩
abbrev S1x4 : Shape := ⟨2, ![1, 4]⟩
abbrev S76x4 : Shape := ⟨2, ![76, 4]⟩
abbrev S38912x8 : Shape := ⟨2, ![38912, 8]⟩
abbrev S38912x104 : Shape := ⟨2, ![38912, 104]⟩
abbrev S38912x128 : Shape := ⟨2, ![38912, 128]⟩
abbrev S38912x1152 : Shape := ⟨2, ![38912, 1152]⟩
abbrev S32x1024x512 : Shape := ⟨3, ![32, 1024, 512]⟩
abbrev S32x512x1024 : Shape := ⟨3, ![32, 512, 1024]⟩
abbrev S512x1152 : Shape := ⟨2, ![512, 1152]⟩
abbrev S4x1024x512 : Shape := ⟨3, ![4, 1024, 512]⟩
abbrev S4x512x1024 : Shape := ⟨3, ![4, 512, 1024]⟩
abbrev S512x1024 : Shape := ⟨2, ![512, 1024]⟩
abbrev S512x128 : Shape := ⟨2, ![512, 128]⟩
abbrev S1x1024x512 : Shape := ⟨3, ![1, 1024, 512]⟩
abbrev S1024x512 : Shape := ⟨2, ![1024, 512]⟩
abbrev S512x512 : Shape := ⟨2, ![512, 512]⟩
abbrev S512x1 : Shape := ⟨2, ![512, 1]⟩
abbrev S2048x1024 : Shape := ⟨2, ![2048, 1024]⟩
abbrev S512x2048 : Shape := ⟨2, ![512, 2048]⟩

abbrev nBuf : Space → Nat
  | .hbm => 51
  | .vmem => 10
  | .smem => 2
  | _ => 0

abbrev bufTy : (tb : Table) → Fin (tcTables nBuf tb) → BufTy
  | .hbm, ⟨0, _⟩ => ⟨S4, .i32⟩
  | .hbm, ⟨1, _⟩ => ⟨S38912x1024, .f32⟩
  | .hbm, ⟨2, _⟩ => ⟨S38912x4, .f32⟩
  | .hbm, ⟨3, _⟩ => ⟨S2x16x1024x512, .f32⟩
  | .hbm, ⟨4, _⟩ => ⟨S2x16x1024x512, .f32⟩
  | .hbm, ⟨5, _⟩ => ⟨S2x16x512x1024, .f32⟩
  | .hbm, ⟨6, _⟩ => ⟨S_, .i32⟩
  | .hbm, ⟨7, _⟩ => ⟨S_, .i32⟩
  | .hbm, ⟨8, _⟩ => ⟨S4, .i32⟩
  | .hbm, ⟨9, _⟩ => ⟨S76, .i32⟩
  | .hbm, ⟨10, _⟩ => ⟨S1, .i32⟩
  | .hbm, ⟨11, _⟩ => ⟨S_, .i32⟩
  | .hbm, ⟨12, _⟩ => ⟨S76, .i32⟩
  | .hbm, ⟨13, _⟩ => ⟨S76, .i1⟩
  | .hbm, ⟨14, _⟩ => ⟨S1, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S76, .i32⟩
  | .hbm, ⟨19, _⟩ => ⟨S76, .i32⟩
  | .hbm, ⟨20, _⟩ => ⟨S76x1, .i32⟩
  | .hbm, ⟨21, _⟩ => ⟨S1x4, .i32⟩
  | .hbm, ⟨22, _⟩ => ⟨S76x4, .i32⟩
  | .hbm, ⟨23, _⟩ => ⟨S76x4, .i32⟩
  | .hbm, ⟨24, _⟩ => ⟨S76x4, .i1⟩
  | .hbm, ⟨25, _⟩ => ⟨S76x4, .i32⟩
  | .hbm, ⟨26, _⟩ => ⟨S_, .i32⟩
  | .hbm, ⟨27, _⟩ => ⟨S_, .f32⟩
  | .hbm, ⟨28, _⟩ => ⟨S38912x4, .f32⟩
  | .hbm, ⟨29, _⟩ => ⟨S38912x8, .f32⟩
  | .hbm, ⟨30, _⟩ => ⟨S38912x8, .bf16⟩
  | .hbm, ⟨31, _⟩ => ⟨S38912x8, .f32⟩
  | .hbm, ⟨32, _⟩ => ⟨S38912x8, .f32⟩
  | .hbm, ⟨33, _⟩ => ⟨S38912x8, .bf16⟩
  | .hbm, ⟨34, _⟩ => ⟨S38912x8, .f32⟩
  | .hbm, ⟨35, _⟩ => ⟨S38912x8, .f32⟩
  | .hbm, ⟨36, _⟩ => ⟨S38912x8, .bf16⟩
  | .hbm, ⟨37, _⟩ => ⟨S38912x8, .f32⟩
  | .hbm, ⟨38, _⟩ => ⟨S_, .f32⟩
  | .hbm, ⟨39, _⟩ => ⟨S38912x104, .f32⟩
  | .hbm, ⟨40, _⟩ => ⟨S38912x128, .f32⟩
  | .hbm, ⟨41, _⟩ => ⟨S38912x1024, .bf16⟩
  | .hbm, ⟨42, _⟩ => ⟨S38912x128, .bf16⟩
  | .hbm, ⟨43, _⟩ => ⟨S38912x1152, .bf16⟩
  | .hbm, ⟨44, _⟩ => ⟨S32x1024x512, .f32⟩
  | .hbm, ⟨45, _⟩ => ⟨S32x1024x512, .bf16⟩
  | .hbm, ⟨46, _⟩ => ⟨S32x1024x512, .f32⟩
  | .hbm, ⟨47, _⟩ => ⟨S32x1024x512, .bf16⟩
  | .hbm, ⟨48, _⟩ => ⟨S32x512x1024, .f32⟩
  | .hbm, ⟨49, _⟩ => ⟨S32x512x1024, .bf16⟩
  | .hbm, ⟨50, _⟩ => ⟨S38912x1024, .bf16⟩
  | .local _ .vmem, ⟨0, _⟩ => ⟨S512x1152, .bf16⟩
  | .local _ .vmem, ⟨1, _⟩ => ⟨S512x1152, .bf16⟩
  | .local _ .vmem, ⟨2, _⟩ => ⟨S4x1024x512, .bf16⟩
  | .local _ .vmem, ⟨3, _⟩ => ⟨S4x1024x512, .bf16⟩
  | .local _ .vmem, ⟨4, _⟩ => ⟨S4x1024x512, .bf16⟩
  | .local _ .vmem, ⟨5, _⟩ => ⟨S4x1024x512, .bf16⟩
  | .local _ .vmem, ⟨6, _⟩ => ⟨S4x512x1024, .bf16⟩
  | .local _ .vmem, ⟨7, _⟩ => ⟨S4x512x1024, .bf16⟩
  | .local _ .vmem, ⟨8, _⟩ => ⟨S512x1024, .bf16⟩
  | .local _ .vmem, ⟨9, _⟩ => ⟨S512x1024, .bf16⟩
  | .local _ .smem, ⟨0, _⟩ => ⟨S76, .i32⟩
  | .local _ .smem, ⟨1, _⟩ => ⟨S76, .i32⟩
  | _, _ => ⟨S4, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_call0_c : Ref sig .tc := ⟨.hbm, 6, rfl⟩
abbrev main_call0_call0_v0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_0 : Ref sig .tc := ⟨.hbm, 26, rfl⟩
abbrev main_cst : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_1 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v17 : Ref sig .tc := ⟨.smem, 0, rfl⟩
abbrev main_v33 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![76], ![false]⟩

abbrev pre0 : Pipeline.Prefetch sig := ⟨2, ![main_v17.idx, main_v33.idx], fun | 0 => main_v17.names | 1 => main_v33.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v5 : Index := Scalar.indexCast arg0
  ![v5.toNat]
def k0_cond1 (v1 : BitVec 32) : BitVec 1 :=
  let c0_i32 : BitVec 32 := 0#32
  let v2 : BitVec 1 := Scalar.cmpi .eq v1 c0_i32
  let v3 : BitVec 32 := Scalar.extui v2
  let c0_i32_0 : BitVec 32 := 0#32
  let v4 : BitVec 1 := Scalar.cmpi .ne v3 c0_i32_0
  v4

def k0_cond2 (v6 : BitVec 32) : BitVec 1 :=
  let c1_i32 : BitVec 32 := 1#32
  let v7 : BitVec 1 := Scalar.cmpi .eq v6 c1_i32
  let v8 : BitVec 32 := Scalar.extui v7
  let c0_i32_1 : BitVec 32 := 0#32
  let v9 : BitVec 1 := Scalar.cmpi .ne v8 c0_i32_1
  v9

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S76.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S76) ![v0.toNat] S1.size (k0_off1_inb i)) numel1_S1
  let c4_i32 : BitVec 32 := 4#32
  let v2 : BitVec 32 := Scalar.addi c4_i32 v1
  let c0_i32 : BitVec 32 := 0#32
  let c0_i32_0 : BitVec 32 := 0#32
  let c0_i32_1 : BitVec 32 := 0#32
  ![v2.toNat, c0_i32.toNat, c0_i32_0.toNat]

def cc0_transform_2 (k0_off1_inb : ∀ i : grid0.Coords, ∀ a, (k0_off1 i) a + S1.size a ≤ S76.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S76) ![v0.toNat] S1.size (k0_off1_inb i)) numel1_S1
  let c4_i32 : BitVec 32 := 4#32
  let v2 : BitVec 32 := Scalar.addi c4_i32 v1
  let c0_i32 : BitVec 32 := 0#32
  let c0_i32_0 : BitVec 32 := 0#32
  let c0_i32_1 : BitVec 32 := 0#32
  ![v2.toNat, c0_i32.toNat, c0_i32_0.toNat]

def cc0_transform_3 (k0_off1_inb : ∀ i : grid0.Coords, ∀ a, (k0_off1 i) a + S1.size a ≤ S76.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S76) ![v0.toNat] S1.size (k0_off1_inb i)) numel1_S1
  let c4_i32 : BitVec 32 := 4#32
  let v2 : BitVec 32 := Scalar.addi c4_i32 v1
  let c0_i32 : BitVec 32 := 0#32
  let c0_i32_0 : BitVec 32 := 0#32
  let c0_i32_1 : BitVec 32 := 0#32
  ![v2.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference6Ideal.lean ====
abbrev S4 : Shape := ⟨1, ![4]⟩
abbrev S38912x1024 : Shape := ⟨2, ![38912, 1024]⟩
abbrev S38912x4 : Shape := ⟨2, ![38912, 4]⟩
abbrev S2x16x1024x512 : Shape := ⟨4, ![2, 16, 1024, 512]⟩
abbrev S2x16x512x1024 : Shape := ⟨4, ![2, 16, 512, 1024]⟩
abbrev S_ : Shape := ⟨0, ![]⟩
abbrev S76x512 : Shape := ⟨2, ![76, 512]⟩
abbrev S38912 : Shape := ⟨1, ![38912]⟩
abbrev S38912x1 : Shape := ⟨2, ![38912, 1]⟩
abbrev S1x4 : Shape := ⟨2, ![1, 4]⟩
abbrev S1 : Shape := ⟨1, ![1]⟩
abbrev S4x4 : Shape := ⟨2, ![4, 4]⟩
abbrev S16 : Shape := ⟨1, ![16]⟩
abbrev S1x16 : Shape := ⟨2, ![1, 16]⟩
abbrev S38912x16 : Shape := ⟨2, ![38912, 16]⟩
abbrev S1x16x1024x512 : Shape := ⟨4, ![1, 16, 1024, 512]⟩
abbrev S16x1024x512 : Shape := ⟨3, ![16, 1024, 512]⟩
abbrev S16x512x38912 : Shape := ⟨3, ![16, 512, 38912]⟩
abbrev S16x38912x512 : Shape := ⟨3, ![16, 38912, 512]⟩
abbrev S1x16x512x1024 : Shape := ⟨4, ![1, 16, 512, 1024]⟩
abbrev S16x512x1024 : Shape := ⟨3, ![16, 512, 1024]⟩
abbrev S16x38912x1024 : Shape := ⟨3, ![16, 38912, 1024]⟩
abbrev S16x38912 : Shape := ⟨2, ![16, 38912]⟩
abbrev S16x38912x1 : Shape := ⟨3, ![16, 38912, 1]⟩

abbrev nBuf : Space → Nat
  | .hbm => 66
  | .vmem => 0
  | .smem => 0
  | _ => 0

abbrev bufTy : (tb : Table) → Fin (tcTables nBuf tb) → BufTy
  | .hbm, ⟨0, _⟩ => ⟨S4, .i32⟩
  | .hbm, ⟨1, _⟩ => ⟨S38912x1024, .f32⟩
  | .hbm, ⟨2, _⟩ => ⟨S38912x4, .f32⟩
  | .hbm, ⟨3, _⟩ => ⟨S2x16x1024x512, .f32⟩
  | .hbm, ⟨4, _⟩ => ⟨S2x16x1024x512, .f32⟩
  | .hbm, ⟨5, _⟩ => ⟨S2x16x512x1024, .f32⟩
  | .hbm, ⟨6, _⟩ => ⟨S_, .i32⟩
  | .hbm, ⟨7, _⟩ => ⟨S_, .i32⟩
  | .hbm, ⟨8, _⟩ => ⟨S4, .i32⟩
  | .hbm, ⟨9, _⟩ => ⟨S76x512, .i32⟩
  | .hbm, ⟨10, _⟩ => ⟨S38912, .i32⟩
  | .hbm, ⟨11, _⟩ => ⟨S38912x1, .i32⟩
  | .hbm, ⟨12, _⟩ => ⟨S1x4, .i32⟩
  | .hbm, ⟨13, _⟩ => ⟨S38912x4, .i32⟩
  | .hbm, ⟨14, _⟩ => ⟨S38912x4, .i32⟩
  | .hbm, ⟨15, _⟩ => ⟨S38912x4, .i1⟩
  | .hbm, ⟨16, _⟩ => ⟨S38912x4, .i32⟩
  | .hbm, ⟨17, _⟩ => ⟨S_, .i32⟩
  | .hbm, ⟨18, _⟩ => ⟨S38912, .i32⟩
  | .hbm, ⟨19, _⟩ => ⟨S1, .i32⟩
  | .hbm, ⟨20, _⟩ => ⟨S_, .i32⟩
  | .hbm, ⟨21, _⟩ => ⟨S38912, .i32⟩
  | .hbm, ⟨22, _⟩ => ⟨S38912, .i1⟩
  | .hbm, ⟨23, _⟩ => ⟨S4x4, .i32⟩
  | .hbm, ⟨24, _⟩ => ⟨S16, .i32⟩
  | .hbm, ⟨25, _⟩ => ⟨S38912x1, .i1⟩
  | .hbm, ⟨26, _⟩ => ⟨S38912x1, .i32⟩
  | .hbm, ⟨27, _⟩ => ⟨S1x16, .i32⟩
  | .hbm, ⟨28, _⟩ => ⟨S38912x16, .i32⟩
  | .hbm, ⟨29, _⟩ => ⟨S38912x16, .i32⟩
  | .hbm, ⟨30, _⟩ => ⟨S38912x16, .i1⟩
  | .hbm, ⟨31, _⟩ => ⟨S38912x16, .i1⟩
  | .hbm, ⟨32, _⟩ => ⟨S38912x16, .i1⟩
  | .hbm, ⟨33, _⟩ => ⟨S38912x16, .f32⟩
  | .hbm, ⟨34, _⟩ => ⟨S_, .f32⟩
  | .hbm, ⟨35, _⟩ => ⟨S_, .f32⟩
  | .hbm, ⟨36, _⟩ => ⟨S38912x16, .f32⟩
  | .hbm, ⟨37, _⟩ => ⟨S38912x16, .f32⟩
  | .hbm, ⟨38, _⟩ => ⟨S1x16x1024x512, .f32⟩
  | .hbm, ⟨39, _⟩ => ⟨S16x1024x512, .f32⟩
  | .hbm, ⟨40, _⟩ => ⟨S16x512x38912, .f32⟩
  | .hbm, ⟨41, _⟩ => ⟨S16x38912x512, .f32⟩
  | .hbm, ⟨42, _⟩ => ⟨S1x16x1024x512, .f32⟩
  | .hbm, ⟨43, _⟩ => ⟨S16x1024x512, .f32⟩
  | .hbm, ⟨44, _⟩ => ⟨S16x512x38912, .f32⟩
  | .hbm, ⟨45, _⟩ => ⟨S16x38912x512, .f32⟩
  | .hbm, ⟨46, _⟩ => ⟨S16x38912x512, .f32⟩
  | .hbm, ⟨47, _⟩ => ⟨S16x38912x512, .f32⟩
  | .hbm, ⟨48, _⟩ => ⟨S_, .f32⟩
  | .hbm, ⟨49, _⟩ => ⟨S16x38912x512, .f32⟩
  | .hbm, ⟨50, _⟩ => ⟨S16x38912x512, .f32⟩
  | .hbm, ⟨51, _⟩ => ⟨S_, .f32⟩
  | .hbm, ⟨52, _⟩ => ⟨S16x38912x512, .f32⟩
  | .hbm, ⟨53, _⟩ => ⟨S16x38912x512, .f32⟩
  | .hbm, ⟨54, _⟩ => ⟨S16x38912x512, .f32⟩
  | .hbm, ⟨55, _⟩ => ⟨S16x38912x512, .f32⟩
  | .hbm, ⟨56, _⟩ => ⟨S1x16x512x1024, .f32⟩
  | .hbm, ⟨57, _⟩ => ⟨S16x512x1024, .f32⟩
  | .hbm, ⟨58, _⟩ => ⟨S16x38912x1024, .f32⟩
  | .hbm, ⟨59, _⟩ => ⟨S16x38912, .f32⟩
  | .hbm, ⟨60, _⟩ => ⟨S16x38912x1, .f32⟩
  | .hbm, ⟨61, _⟩ => ⟨S16x38912x1024, .f32⟩
  | .hbm, ⟨62, _⟩ => ⟨S16x38912x1024, .f32⟩
  | .hbm, ⟨63, _⟩ => ⟨S_, .f32⟩
  | .hbm, ⟨64, _⟩ => ⟨S38912x1024, .f32⟩
  | .hbm, ⟨65, _⟩ => ⟨S38912x1024, .bf16⟩
  | _, _ => ⟨S4, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_call0_c : Ref sig .tc := ⟨.hbm, 6, rfl⟩
abbrev main_call0_call0_v0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst : Ref sig .tc := ⟨.hbm, 34, rfl⟩
abbrev main_call1_v0 : Ref sig .tc := ⟨.hbm, 35, rfl⟩
abbrev main_call1_v1 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_call2_v0 : Ref sig .tc := ⟨.hbm, 46, rfl⟩
abbrev main_call2_v1 : Ref sig .tc := ⟨.hbm, 47, rfl⟩
abbrev main_call2_cst : Ref sig .tc := ⟨.hbm, 48, rfl⟩
abbrev main_call2_v2 : Ref sig .tc := ⟨.hbm, 49, rfl⟩
abbrev main_call2_v3 : Ref sig .tc := ⟨.hbm, 50, rfl⟩
abbrev main_call2_cst_0 : Ref sig .tc := ⟨.hbm, 51, rfl⟩
abbrev main_call2_v4 : Ref sig .tc := ⟨.hbm, 52, rfl⟩
abbrev main_call2_v5 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_0 : Ref sig .tc := ⟨.hbm, 63, rfl⟩
abbrev main_v43 : Ref sig .tc := ⟨.hbm, 64, rfl⟩
abbrev main_v44 : Ref sig .tc := ⟨.hbm, 65, rfl⟩

abbrev nD : Nat := 1
abbrev τ : Topo := Topo.v7x

variable {F : FTy → Type} [FloatOps F]
-- ==== Proof.Run.lean ====
module

public import proofs.«01_k».proof.Proof.Gen.KernelIdeal.Frame

@[expose] public section

set_option maxRecDepth 16384

noncomputable section

namespace Cert.KernelIdeal.Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! The run of the whole program read at its result: the launch over the generated segments, whose last state holds
    the result array at what region 1's pipeline leaves in it. -/

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends with the result array at the contents of the last boundary, the arguments as launched and
    every counter at zero. -/
theorem run : θ_run defs (onTc (τ := τ) (main (F := F))) ⟨m, fun _ => 0, ρ⟩ (fun r => (∀ c : Dev nD,
      r.2.mem ((c.tc : Thread nD τ).loc main_v50) = W8 m ρ c (Proc.devRef .tc main_v50)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h hz => ⟨(fun c =>
      ⟨h c _ (mem_uc main_v50 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩), funext fun g => hz g (.inr (no_unscoped g.2))⟩)

end Cert.KernelIdeal.Value

end
-- ==== Proof.Attn.lean ====
module

public import proofs.«01_k».proof.Proof.Gen.KernelIdeal.Frame
public import Idealize.ShloMosaic.Lib.Pipeline.Value
public import Idealize.ShloMosaic.Lib.Pipeline.ValueKit
public import Idealize.ShloMosaic.Lib.Pointwise

@[expose] public section

set_option maxRecDepth 16384

noncomputable section

namespace Cert.KernelIdeal.Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-! The second region's body, as one function of the tiles it loads: a pair of heads at a block of 256 queries. -/

/-- The lanes of the first head of a pair. -/
def loMask : IVec S256x128 1 :=
  cmpi .slt (iota .tc S256x128 32 [1] iota_S256x128_d1_w32) (broadcast S256x128 64#32)

/-- A tile of queries times the change of base. -/
def qScale (q : Vec F S256x128 .bf16) : FVec F S256x128 .bf16 :=
  truncf .bf16 (mulf (extf .f32 (shapeCast S256x128 q shapeCasts_S256x128_S256x128 : FVec F S256x128 .bf16) bitsLt_bf16_f32)
    (broadcast S256x128 (Named.named κ "log2e" 0x3FB8AA3B#32 : F .f32))) bitsLt_bf16_f32

/-- The context's rows above the window's. -/
def stack (kc : Vec F S256x128 .bf16) (k : Vec F S704x128 .bf16) : FVec F S960x128 .bf16 :=
  concatenate S960x128 0 [⟨S256x128, shapeCast S256x128 kc shapeCasts_S256x128_S256x128⟩,
    ⟨S704x128, shapeCast S704x128 k shapeCasts_S704x128_S704x128⟩] concatenates_S256x128_S704x128_S960x128_d0

/-- The queries of one head of the pair, the other head's lanes zero. -/
def qMasked (b : BitVec 1) (q2 : FVec F S256x128 .bf16) : FVec F S256x128 .bf16 :=
  select (xori (xori loMask (broadcastTo S256x128 (broadcast S256x128 b : IVec S256x128 1) broadcasts_S256x128_S256x128)) (constantI S256x128 1 1#1))
    q2 (broadcast S256x128 (Scalar.ofBits .bf16 0x0000#16 : F .bf16))

/-- The scores of a masked tile of queries. -/
def scoresF (qm : FVec F S256x128 .bf16) (ka : FVec F S960x128 .bf16) (bias : Vec F S1x1x256x704 .f32) : FVec F S256x960 .f32 :=
  concatenate S256x960 1 [⟨S256x256, extractStridedSlice S256x256 ![0, 0]
      (matmul dot_S256x128_S960x128_S256x960_1_1_0_0_n_n none qm ka (constant S256x960 .f32 0x00000000#32)) slices_S256x960_o0_0_S256x256⟩,
    ⟨S256x704, addf (extractStridedSlice S256x704 ![0, 256]
      (matmul dot_S256x128_S960x128_S256x960_1_1_0_0_n_n none qm ka (constant S256x960 .f32 0x00000000#32)) slices_S256x960_o0_256_S256x704)
      (shapeCast S256x704 bias shapeCasts_S1x1x256x704_S256x704)⟩] concatenates_S256x256_S256x704_S256x960_d1

/-- The exponentials of the scores less their largest. -/
def expF (s : FVec F S256x960 .f32) : FVec F S256x960 .f32 :=
  exp2 (subf s (broadcastTo S256x960 (shapeCast S256x1
    (multiReduction .maximumf [1] S256 s 0xFF800000#32 reduces_S256x960_S256 (.inl rfl) rfl) shapeCasts_S256_S256x1) broadcasts_S256x1_S256x960))

/-- The values weighted by the exponentials, over the exponentials' sum. -/
def meanF (p : FVec F S256x960 .f32) (va : FVec F S960x128 .bf16) : FVec F S256x128 .f32 :=
  divf (matmul dot_S256x960_S960x128_S256x128_1_0_0_1_n_n none (truncf .bf16 p bitsLt_bf16_f32) va (constant S256x128 .f32 0x00000000#32))
    (broadcastTo S256x128 (shapeCast S256x1
      (multiReduction .add [1] S256 p 0x00000000#32 reduces_S256x960_S256 (.inl rfl) rfl) shapeCasts_S256_S256x1) broadcasts_S256x1_S256x128)

/-- A pair of heads at a block of queries. -/
def pairF (q : Vec F S256x128 .bf16) (kc : Vec F S256x128 .bf16) (k : Vec F S704x128 .bf16) (vc : Vec F S256x128 .bf16)
    (v : Vec F S704x128 .bf16) (b0 b1 : Vec F S1x1x256x704 .f32) : FVec F S256x128 .bf16 :=
  truncf .bf16 (select loMask
    (meanF (expF (scoresF (qMasked 1#1 (qScale q)) (stack kc k) b0)) (stack vc v))
    (meanF (expF (scoresF (qMasked 0#1 (qScale q)) (stack kc k) b1)) (stack vc v))) bitsLt_bf16_f32

/-! ## The tiles -/

def qTile (x : Vec F S512x512 .bf16) (a : Fin 2) (p : Fin 4) : Vec F S256x128 .bf16 := fun j =>
  x (ix2 ⟨256 * a.val + (j 0).val, by have := (j 0).isLt; have := a.isLt; simp at *; omega⟩ ⟨128 * p.val + (j 1).val, by have := (j 1).isLt; have := p.isLt; simp at *; omega⟩)

def cTile (x : Vec F S256x512 .bf16) (p : Fin 4) : Vec F S256x128 .bf16 := fun j =>
  x (ix2 ⟨(j 0).val, by have := (j 0).isLt; simp at *; omega⟩ ⟨128 * p.val + (j 1).val, by have := (j 1).isLt; have := p.isLt; simp at *; omega⟩)

def kTile (x : Vec F S4096x512 .bf16) (o : Fin 54) (p : Fin 4) : Vec F S704x128 .bf16 := fun j =>
  x (ix2 ⟨64 * o.val + (j 0).val, by have := (j 0).isLt; have := o.isLt; simp at *; omega⟩ ⟨128 * p.val + (j 1).val, by have := (j 1).isLt; have := p.isLt; simp at *; omega⟩)

def bTile (x : Vec F S3x8x256x704 .f32) (g : Fin 3) (h : Fin 8) : Vec F S1x1x256x704 .f32 := fun j =>
  x (ix4 g h ⟨(j 2).val, by have := (j 2).isLt; simp at *; omega⟩ ⟨(j 3).val, by have := (j 3).isLt; simp at *; omega⟩)

/-- The first row of keys a block of four rows of queries loads. -/
def ksOf (rb : ℕ) : Fin 54 := ⟨min 53 (4 * rb - 4), by omega⟩
/-- Which of the three tables of biases a block of rows takes. -/
def geomOf (rb : ℕ) : Fin 3 := if rb = 0 then 0 else if rb = 15 then 2 else 1

/-- What the body leaves at a block of 256 queries and a pair of heads. -/
def tileOut (x0 : Vec F S512x512 .bf16) (x1 x2 : Vec F S4096x512 .bf16) (x3 x4 : Vec F S256x512 .bf16) (x5 : Vec F S3x8x256x704 .f32)
    (rp : ℕ) (a : Fin 2) (p : Fin 4) : FVec F S256x128 .bf16 :=
  pairF (qTile x0 a p) (cTile x3 p) (kTile x1 (ksOf (2 * rp + a.val)) p) (cTile x4 p) (kTile x2 (ksOf (2 * rp + a.val)) p)
    (bTile x5 (geomOf (2 * rp + a.val)) ⟨2 * p.val, by omega⟩) (bTile x5 (geomOf (2 * rp + a.val)) ⟨2 * p.val + 1, by omega⟩)

/-- The whole block of an instance. -/
def blockOut (x0 : Vec F S512x512 .bf16) (x1 x2 : Vec F S4096x512 .bf16) (x3 x4 : Vec F S256x512 .bf16) (x5 : Vec F S3x8x256x704 .f32)
    (rp : ℕ) : Vec F S512x512 .bf16 := fun y =>
  tileOut x0 x1 x2 x3 x4 x5 rp ⟨(y 0).val / 256, by have := (y 0).isLt; simp at *; omega⟩ ⟨(y 1).val / 128, by have := (y 1).isLt; simp at *; omega⟩
    (ix2 ⟨(y 0).val % 256, by omega⟩ ⟨(y 1).val % 128, by omega⟩)

theorem off1_0 : ∀ t : Fin grid1.N, k1_off1 (grid1.coords t) 0#32 = ![64 * (ksOf (2 * (t.val % 8) + 0)).val, 0] := by decide +kernel
theorem off1_1 : ∀ t : Fin grid1.N, k1_off1 (grid1.coords t) 1#32 = ![64 * (ksOf (2 * (t.val % 8) + 1)).val, 0] := by decide +kernel
theorem off2_0 : ∀ t : Fin grid1.N, k1_off2 (grid1.coords t) 0#32 = ![(geomOf (2 * (t.val % 8) + 0)).val, 0, 0, 0] := by decide +kernel
theorem off2_1 : ∀ t : Fin grid1.N, k1_off2 (grid1.coords t) 1#32 = ![(geomOf (2 * (t.val % 8) + 1)).val, 0, 0, 0] := by decide +kernel
theorem off3_0 : ∀ t : Fin grid1.N, k1_off3 (grid1.coords t) 0#32 = ![(geomOf (2 * (t.val % 8) + 0)).val, 1, 0, 0] := by decide +kernel
theorem off3_1 : ∀ t : Fin grid1.N, k1_off3 (grid1.coords t) 1#32 = ![(geomOf (2 * (t.val % 8) + 1)).val, 1, 0, 0] := by decide +kernel
theorem off4_0 : ∀ t : Fin grid1.N, k1_off4 (grid1.coords t) 0#32 = ![64 * (ksOf (2 * (t.val % 8) + 0)).val, 128] := by decide +kernel
theorem off4_1 : ∀ t : Fin grid1.N, k1_off4 (grid1.coords t) 1#32 = ![64 * (ksOf (2 * (t.val % 8) + 1)).val, 128] := by decide +kernel
theorem off5_0 : ∀ t : Fin grid1.N, k1_off5 (grid1.coords t) 0#32 = ![(geomOf (2 * (t.val % 8) + 0)).val, 2, 0, 0] := by decide +kernel
theorem off5_1 : ∀ t : Fin grid1.N, k1_off5 (grid1.coords t) 1#32 = ![(geomOf (2 * (t.val % 8) + 1)).val, 2, 0, 0] := by decide +kernel
theorem off6_0 : ∀ t : Fin grid1.N, k1_off6 (grid1.coords t) 0#32 = ![(geomOf (2 * (t.val % 8) + 0)).val, 3, 0, 0] := by decide +kernel
theorem off6_1 : ∀ t : Fin grid1.N, k1_off6 (grid1.coords t) 1#32 = ![(geomOf (2 * (t.val % 8) + 1)).val, 3, 0, 0] := by decide +kernel
theorem off7_0 : ∀ t : Fin grid1.N, k1_off7 (grid1.coords t) 0#32 = ![64 * (ksOf (2 * (t.val % 8) + 0)).val, 256] := by decide +kernel
theorem off7_1 : ∀ t : Fin grid1.N, k1_off7 (grid1.coords t) 1#32 = ![64 * (ksOf (2 * (t.val % 8) + 1)).val, 256] := by decide +kernel
theorem off8_0 : ∀ t : Fin grid1.N, k1_off8 (grid1.coords t) 0#32 = ![(geomOf (2 * (t.val % 8) + 0)).val, 4, 0, 0] := by decide +kernel
theorem off8_1 : ∀ t : Fin grid1.N, k1_off8 (grid1.coords t) 1#32 = ![(geomOf (2 * (t.val % 8) + 1)).val, 4, 0, 0] := by decide +kernel
theorem off9_0 : ∀ t : Fin grid1.N, k1_off9 (grid1.coords t) 0#32 = ![(geomOf (2 * (t.val % 8) + 0)).val, 5, 0, 0] := by decide +kernel
theorem off9_1 : ∀ t : Fin grid1.N, k1_off9 (grid1.coords t) 1#32 = ![(geomOf (2 * (t.val % 8) + 1)).val, 5, 0, 0] := by decide +kernel
theorem off10_0 : ∀ t : Fin grid1.N, k1_off10 (grid1.coords t) 0#32 = ![64 * (ksOf (2 * (t.val % 8) + 0)).val, 384] := by decide +kernel
theorem off10_1 : ∀ t : Fin grid1.N, k1_off10 (grid1.coords t) 1#32 = ![64 * (ksOf (2 * (t.val % 8) + 1)).val, 384] := by decide +kernel
theorem off11_0 : ∀ t : Fin grid1.N, k1_off11 (grid1.coords t) 0#32 = ![(geomOf (2 * (t.val % 8) + 0)).val, 6, 0, 0] := by decide +kernel
theorem off11_1 : ∀ t : Fin grid1.N, k1_off11 (grid1.coords t) 1#32 = ![(geomOf (2 * (t.val % 8) + 1)).val, 6, 0, 0] := by decide +kernel
theorem off12_0 : ∀ t : Fin grid1.N, k1_off12 (grid1.coords t) 0#32 = ![(geomOf (2 * (t.val % 8) + 0)).val, 7, 0, 0] := by decide +kernel
theorem off12_1 : ∀ t : Fin grid1.N, k1_off12 (grid1.coords t) 1#32 = ![(geomOf (2 * (t.val % 8) + 1)).val, 7, 0, 0] := by decide +kernel

/-- The stores of the body, each the same function of what it loads. -/
theorem pieces (c : Dev nD) (i : grid1.Coords) (arg2 : Memref sig .tc .vmem S512x512 .bf16) (harg2 : arg2.IsWhole) (arg3 : Memref sig .tc .vmem S4096x512 .bf16) (harg3 : arg3.IsWhole) (arg4 : Memref sig .tc .vmem S4096x512 .bf16) (harg4 : arg4.IsWhole) (arg5 : Memref sig .tc .vmem S256x512 .bf16) (harg5 : arg5.IsWhole) (arg6 : Memref sig .tc .vmem S256x512 .bf16) (harg6 : arg6.IsWhole) (arg7 : Memref sig .tc .vmem S3x8x256x704 .f32) (harg7 : arg7.IsWhole) (arg8 : Memref sig .tc .vmem S512x512 .bf16) (harg8 : arg8.IsWhole) (x0 : Vec F S512x512 .bf16) (x1 x2 : Vec F S4096x512 .bf16) (x3 x4 : Vec F S256x512 .bf16) (x5 : Vec F S3x8x256x704 .f32) :
    (kernelRun1_A c i arg2 harg2 arg3 harg3 arg4 harg4 arg5 harg5 arg6 harg6 arg7 harg7 arg8 harg8 x0 x1 x2 x3 x4 x5).1 = [
      (⟨(Rect.unit (s := S512x512) ![256, 384] S256x128.size inb_S512x512_S256x128_256_384), pairF (View.readAt (Elt F) arg2.view (Rect.unit (s := S512x512) ![256, 384] S256x128.size inb_S512x512_S256x128_256_384).toLoadRect (harg2.unread x0)) (View.readAt (Elt F) arg5.view (Rect.unit (s := S256x512) ![0, 384] S256x128.size inb_S256x512_S256x128_0_384).toLoadRect (harg5.unread x3)) (View.readAt (Elt F) arg3.view (Rect.unit (s := S4096x512) (k1_off10 i 1#32) S704x128.size (k1_off10_inb i 1)).toLoadRect (harg3.unread x1)) (View.readAt (Elt F) arg6.view (Rect.unit (s := S256x512) ![0, 384] S256x128.size inb_S256x512_S256x128_0_384).toLoadRect (harg6.unread x4)) (View.readAt (Elt F) arg4.view (Rect.unit (s := S4096x512) (k1_off10 i 1#32) S704x128.size (k1_off10_inb i 1)).toLoadRect (harg4.unread x2)) (View.readAt (Elt F) arg7.view (Rect.unit (s := S3x8x256x704) (k1_off11 i 1#32) S1x1x256x704.size (k1_off11_inb i 1)).toLoadRect (harg7.unread x5)) (View.readAt (Elt F) arg7.view (Rect.unit (s := S3x8x256x704) (k1_off12 i 1#32) S1x1x256x704.size (k1_off12_inb i 1)).toLoadRect (harg7.unread x5))⟩ : View.Piece (Elt F) S512x512 .bf16),
      (⟨(Rect.unit (s := S512x512) ![256, 256] S256x128.size inb_S512x512_S256x128_256_256), pairF (View.readAt (Elt F) arg2.view (Rect.unit (s := S512x512) ![256, 256] S256x128.size inb_S512x512_S256x128_256_256).toLoadRect (harg2.unread x0)) (View.readAt (Elt F) arg5.view (Rect.unit (s := S256x512) ![0, 256] S256x128.size inb_S256x512_S256x128_0_256).toLoadRect (harg5.unread x3)) (View.readAt (Elt F) arg3.view (Rect.unit (s := S4096x512) (k1_off7 i 1#32) S704x128.size (k1_off7_inb i 1)).toLoadRect (harg3.unread x1)) (View.readAt (Elt F) arg6.view (Rect.unit (s := S256x512) ![0, 256] S256x128.size inb_S256x512_S256x128_0_256).toLoadRect (harg6.unread x4)) (View.readAt (Elt F) arg4.view (Rect.unit (s := S4096x512) (k1_off7 i 1#32) S704x128.size (k1_off7_inb i 1)).toLoadRect (harg4.unread x2)) (View.readAt (Elt F) arg7.view (Rect.unit (s := S3x8x256x704) (k1_off8 i 1#32) S1x1x256x704.size (k1_off8_inb i 1)).toLoadRect (harg7.unread x5)) (View.readAt (Elt F) arg7.view (Rect.unit (s := S3x8x256x704) (k1_off9 i 1#32) S1x1x256x704.size (k1_off9_inb i 1)).toLoadRect (harg7.unread x5))⟩ : View.Piece (Elt F) S512x512 .bf16),
      (⟨(Rect.unit (s := S512x512) ![256, 128] S256x128.size inb_S512x512_S256x128_256_128), pairF (View.readAt (Elt F) arg2.view (Rect.unit (s := S512x512) ![256, 128] S256x128.size inb_S512x512_S256x128_256_128).toLoadRect (harg2.unread x0)) (View.readAt (Elt F) arg5.view (Rect.unit (s := S256x512) ![0, 128] S256x128.size inb_S256x512_S256x128_0_128).toLoadRect (harg5.unread x3)) (View.readAt (Elt F) arg3.view (Rect.unit (s := S4096x512) (k1_off4 i 1#32) S704x128.size (k1_off4_inb i 1)).toLoadRect (harg3.unread x1)) (View.readAt (Elt F) arg6.view (Rect.unit (s := S256x512) ![0, 128] S256x128.size inb_S256x512_S256x128_0_128).toLoadRect (harg6.unread x4)) (View.readAt (Elt F) arg4.view (Rect.unit (s := S4096x512) (k1_off4 i 1#32) S704x128.size (k1_off4_inb i 1)).toLoadRect (harg4.unread x2)) (View.readAt (Elt F) arg7.view (Rect.unit (s := S3x8x256x704) (k1_off5 i 1#32) S1x1x256x704.size (k1_off5_inb i 1)).toLoadRect (harg7.unread x5)) (View.readAt (Elt F) arg7.view (Rect.unit (s := S3x8x256x704) (k1_off6 i 1#32) S1x1x256x704.size (k1_off6_inb i 1)).toLoadRect (harg7.unread x5))⟩ : View.Piece (Elt F) S512x512 .bf16),
      (⟨(Rect.unit (s := S512x512) ![256, 0] S256x128.size inb_S512x512_S256x128_256_0), pairF (View.readAt (Elt F) arg2.view (Rect.unit (s := S512x512) ![256, 0] S256x128.size inb_S512x512_S256x128_256_0).toLoadRect (harg2.unread x0)) (View.readAt (Elt F) arg5.view (Rect.unit (s := S256x512) ![0, 0] S256x128.size inb_S256x512_S256x128_0_0).toLoadRect (harg5.unread x3)) (View.readAt (Elt F) arg3.view (Rect.unit (s := S4096x512) (k1_off1 i 1#32) S704x128.size (k1_off1_inb i 1)).toLoadRect (harg3.unread x1)) (View.readAt (Elt F) arg6.view (Rect.unit (s := S256x512) ![0, 0] S256x128.size inb_S256x512_S256x128_0_0).toLoadRect (harg6.unread x4)) (View.readAt (Elt F) arg4.view (Rect.unit (s := S4096x512) (k1_off1 i 1#32) S704x128.size (k1_off1_inb i 1)).toLoadRect (harg4.unread x2)) (View.readAt (Elt F) arg7.view (Rect.unit (s := S3x8x256x704) (k1_off2 i 1#32) S1x1x256x704.size (k1_off2_inb i 1)).toLoadRect (harg7.unread x5)) (View.readAt (Elt F) arg7.view (Rect.unit (s := S3x8x256x704) (k1_off3 i 1#32) S1x1x256x704.size (k1_off3_inb i 1)).toLoadRect (harg7.unread x5))⟩ : View.Piece (Elt F) S512x512 .bf16),
      (⟨(Rect.unit (s := S512x512) ![0, 384] S256x128.size inb_S512x512_S256x128_0_384), pairF (View.readAt (Elt F) arg2.view (Rect.unit (s := S512x512) ![0, 384] S256x128.size inb_S512x512_S256x128_0_384).toLoadRect (harg2.unread x0)) (View.readAt (Elt F) arg5.view (Rect.unit (s := S256x512) ![0, 384] S256x128.size inb_S256x512_S256x128_0_384).toLoadRect (harg5.unread x3)) (View.readAt (Elt F) arg3.view (Rect.unit (s := S4096x512) (k1_off10 i 0#32) S704x128.size (k1_off10_inb i 0)).toLoadRect (harg3.unread x1)) (View.readAt (Elt F) arg6.view (Rect.unit (s := S256x512) ![0, 384] S256x128.size inb_S256x512_S256x128_0_384).toLoadRect (harg6.unread x4)) (View.readAt (Elt F) arg4.view (Rect.unit (s := S4096x512) (k1_off10 i 0#32) S704x128.size (k1_off10_inb i 0)).toLoadRect (harg4.unread x2)) (View.readAt (Elt F) arg7.view (Rect.unit (s := S3x8x256x704) (k1_off11 i 0#32) S1x1x256x704.size (k1_off11_inb i 0)).toLoadRect (harg7.unread x5)) (View.readAt (Elt F) arg7.view (Rect.unit (s := S3x8x256x704) (k1_off12 i 0#32) S1x1x256x704.size (k1_off12_inb i 0)).toLoadRect (harg7.unread x5))⟩ : View.Piece (Elt F) S512x512 .bf16),
      (⟨(Rect.unit (s := S512x512) ![0, 256] S256x128.size inb_S512x512_S256x128_0_256), pairF (View.readAt (Elt F) arg2.view (Rect.unit (s := S512x512) ![0, 256] S256x128.size inb_S512x512_S256x128_0_256).toLoadRect (harg2.unread x0)) (View.readAt (Elt F) arg5.view (Rect.unit (s := S256x512) ![0, 256] S256x128.size inb_S256x512_S256x128_0_256).toLoadRect (harg5.unread x3)) (View.readAt (Elt F) arg3.view (Rect.unit (s := S4096x512) (k1_off7 i 0#32) S704x128.size (k1_off7_inb i 0)).toLoadRect (harg3.unread x1)) (View.readAt (Elt F) arg6.view (Rect.unit (s := S256x512) ![0, 256] S256x128.size inb_S256x512_S256x128_0_256).toLoadRect (harg6.unread x4)) (View.readAt (Elt F) arg4.view (Rect.unit (s := S4096x512) (k1_off7 i 0#32) S704x128.size (k1_off7_inb i 0)).toLoadRect (harg4.unread x2)) (View.readAt (Elt F) arg7.view (Rect.unit (s := S3x8x256x704) (k1_off8 i 0#32) S1x1x256x704.size (k1_off8_inb i 0)).toLoadRect (harg7.unread x5)) (View.readAt (Elt F) arg7.view (Rect.unit (s := S3x8x256x704) (k1_off9 i 0#32) S1x1x256x704.size (k1_off9_inb i 0)).toLoadRect (harg7.unread x5))⟩ : View.Piece (Elt F) S512x512 .bf16),
      (⟨(Rect.unit (s := S512x512) ![0, 128] S256x128.size inb_S512x512_S256x128_0_128), pairF (View.readAt (Elt F) arg2.view (Rect.unit (s := S512x512) ![0, 128] S256x128.size inb_S512x512_S256x128_0_128).toLoadRect (harg2.unread x0)) (View.readAt (Elt F) arg5.view (Rect.unit (s := S256x512) ![0, 128] S256x128.size inb_S256x512_S256x128_0_128).toLoadRect (harg5.unread x3)) (View.readAt (Elt F) arg3.view (Rect.unit (s := S4096x512) (k1_off4 i 0#32) S704x128.size (k1_off4_inb i 0)).toLoadRect (harg3.unread x1)) (View.readAt (Elt F) arg6.view (Rect.unit (s := S256x512) ![0, 128] S256x128.size inb_S256x512_S256x128_0_128).toLoadRect (harg6.unread x4)) (View.readAt (Elt F) arg4.view (Rect.unit (s := S4096x512) (k1_off4 i 0#32) S704x128.size (k1_off4_inb i 0)).toLoadRect (harg4.unread x2)) (View.readAt (Elt F) arg7.view (Rect.unit (s := S3x8x256x704) (k1_off5 i 0#32) S1x1x256x704.size (k1_off5_inb i 0)).toLoadRect (harg7.unread x5)) (View.readAt (Elt F) arg7.view (Rect.unit (s := S3x8x256x704) (k1_off6 i 0#32) S1x1x256x704.size (k1_off6_inb i 0)).toLoadRect (harg7.unread x5))⟩ : View.Piece (Elt F) S512x512 .bf16),
      (⟨(Rect.unit (s := S512x512) ![0, 0] S256x128.size inb_S512x512_S256x128_0_0), pairF (View.readAt (Elt F) arg2.view (Rect.unit (s := S512x512) ![0, 0] S256x128.size inb_S512x512_S256x128_0_0).toLoadRect (harg2.unread x0)) (View.readAt (Elt F) arg5.view (Rect.unit (s := S256x512) ![0, 0] S256x128.size inb_S256x512_S256x128_0_0).toLoadRect (harg5.unread x3)) (View.readAt (Elt F) arg3.view (Rect.unit (s := S4096x512) (k1_off1 i 0#32) S704x128.size (k1_off1_inb i 0)).toLoadRect (harg3.unread x1)) (View.readAt (Elt F) arg6.view (Rect.unit (s := S256x512) ![0, 0] S256x128.size inb_S256x512_S256x128_0_0).toLoadRect (harg6.unread x4)) (View.readAt (Elt F) arg4.view (Rect.unit (s := S4096x512) (k1_off1 i 0#32) S704x128.size (k1_off1_inb i 0)).toLoadRect (harg4.unread x2)) (View.readAt (Elt F) arg7.view (Rect.unit (s := S3x8x256x704) (k1_off2 i 0#32) S1x1x256x704.size (k1_off2_inb i 0)).toLoadRect (harg7.unread x5)) (View.readAt (Elt F) arg7.view (Rect.unit (s := S3x8x256x704) (k1_off3 i 0#32) S1x1x256x704.size (k1_off3_inb i 0)).toLoadRect (harg7.unread x5))⟩ : View.Piece (Elt F) S512x512 .bf16)] := by
  unfold kernelRun1_A
  dsimp only
  rfl

theorem ld_q (arg : Memref sig .tc .vmem S512x512 .bf16) (harg : arg.IsWhole) (x : Vec F S512x512 .bf16) (a : Fin 2) (p : Fin 4) (off) (inb)
    (h : off = ![256 * a.val, 128 * p.val]) :
    View.readAt (Elt F) arg.view (Rect.unit (s := S512x512) off S256x128.size inb).toLoadRect (harg.unread x) = qTile x a p := by
  subst h; rw [View.readAt_eq_ld, harg.read_unread]; funext j; unfold qTile
  exact View.ld_unit_apply_of _ _ _ _ _ _ (fun d => by match d with | ⟨0, _⟩ => rfl | ⟨1, _⟩ => rfl)

theorem ld_c (arg : Memref sig .tc .vmem S256x512 .bf16) (harg : arg.IsWhole) (x : Vec F S256x512 .bf16) (p : Fin 4) (off) (inb)
    (h : off = ![0, 128 * p.val]) :
    View.readAt (Elt F) arg.view (Rect.unit (s := S256x512) off S256x128.size inb).toLoadRect (harg.unread x) = cTile x p := by
  subst h; rw [View.readAt_eq_ld, harg.read_unread]; funext j; unfold cTile
  exact View.ld_unit_apply_of _ _ _ _ _ _ (fun d => by match d with | ⟨0, _⟩ => exact (Nat.zero_add _).symm | ⟨1, _⟩ => rfl)

theorem ld_k (arg : Memref sig .tc .vmem S4096x512 .bf16) (harg : arg.IsWhole) (x : Vec F S4096x512 .bf16) (o : Fin 54) (p : Fin 4) (off) (inb)
    (h : off = ![64 * o.val, 128 * p.val]) :
    View.readAt (Elt F) arg.view (Rect.unit (s := S4096x512) off S704x128.size inb).toLoadRect (harg.unread x) = kTile x o p := by
  subst h; rw [View.readAt_eq_ld, harg.read_unread]; funext j; unfold kTile
  exact View.ld_unit_apply_of _ _ _ _ _ _ (fun d => by match d with | ⟨0, _⟩ => rfl | ⟨1, _⟩ => rfl)

theorem ld_b (arg : Memref sig .tc .vmem S3x8x256x704 .f32) (harg : arg.IsWhole) (x : Vec F S3x8x256x704 .f32) (g : Fin 3) (h : Fin 8) (off) (inb)
    (hoff : off = ![g.val, h.val, 0, 0]) :
    View.readAt (Elt F) arg.view (Rect.unit (s := S3x8x256x704) off S1x1x256x704.size inb).toLoadRect (harg.unread x) = bTile x g h := by
  subst hoff; rw [View.readAt_eq_ld, harg.read_unread]; funext j; unfold bTile
  have h0 : (j 0).val = 0 := Nat.lt_one_iff.mp (j 0).isLt
  have h1 : (j 1).val = 0 := Nat.lt_one_iff.mp (j 1).isLt
  exact View.ld_unit_apply_of _ _ _ _ _ _ (fun d => by
    match d with
    | ⟨0, _⟩ => exact (congrArg (g.val + ·) h0).symm
    | ⟨1, _⟩ => exact (congrArg (h.val + ·) h1).symm
    | ⟨2, _⟩ => exact (Nat.zero_add _).symm
    | ⟨3, _⟩ => exact (Nat.zero_add _).symm)

theorem blockOut_emb (x0 : Vec F S512x512 .bf16) (x1 x2 : Vec F S4096x512 .bf16) (x3 x4 : Vec F S256x512 .bf16) (x5 : Vec F S3x8x256x704 .f32) (rp : ℕ) (a : Fin 2) (p : Fin 4) (off) (inb) (h : off = ![256 * a.val, 128 * p.val])
    (x : (Rect.unit (s := S512x512) off S256x128.size inb).shape.Idx) :
    blockOut x0 x1 x2 x3 x4 x5 rp ((Rect.unit (s := S512x512) off S256x128.size inb).emb x) = tileOut x0 x1 x2 x3 x4 x5 rp a p x := by
  subst h
  have h0 : (((Rect.unit (s := S512x512) _ S256x128.size inb).emb x) 0).val = 256 * a.val + (x 0).val :=
    (Rect.emb_apply _ _ _).trans (congrArg (256 * a.val + ·) (Nat.one_mul _))
  have h1 : (((Rect.unit (s := S512x512) _ S256x128.size inb).emb x) 1).val = 128 * p.val + (x 1).val :=
    (Rect.emb_apply _ _ _).trans (congrArg (128 * p.val + ·) (Nat.one_mul _))
  have b0 : (x 0).val < 256 := (x 0).isLt
  have b1 : (x 1).val < 128 := (x 1).isLt
  have ea : (⟨(((Rect.unit (s := S512x512) _ S256x128.size inb).emb x) 0).val / 256, by rw [h0]; omega⟩ : Fin 2) = a := Fin.ext (by show _ / 256 = _; rw [h0]; omega)
  have ep : (⟨(((Rect.unit (s := S512x512) _ S256x128.size inb).emb x) 1).val / 128, by rw [h1]; omega⟩ : Fin 4) = p := Fin.ext (by show _ / 128 = _; rw [h1]; omega)
  unfold blockOut
  rw [ea, ep]
  congr 1
  funext d
  match d with
  | ⟨0, _⟩ => exact Fin.ext (by show _ % 256 = (x 0).val; rw [h0]; omega)
  | ⟨1, _⟩ => exact Fin.ext (by show _ % 128 = (x 1).val; rw [h1]; omega)

/-- What the body leaves in its output's buffer. -/
theorem out1 (c : Dev nD) (t : Fin grid1.N) (arg2 : Memref sig .tc .vmem S512x512 .bf16) (harg2 : arg2.IsWhole) (arg3 : Memref sig .tc .vmem S4096x512 .bf16) (harg3 : arg3.IsWhole) (arg4 : Memref sig .tc .vmem S4096x512 .bf16) (harg4 : arg4.IsWhole) (arg5 : Memref sig .tc .vmem S256x512 .bf16) (harg5 : arg5.IsWhole) (arg6 : Memref sig .tc .vmem S256x512 .bf16) (harg6 : arg6.IsWhole) (arg7 : Memref sig .tc .vmem S3x8x256x704 .f32) (harg7 : arg7.IsWhole) (arg8 : Memref sig .tc .vmem S512x512 .bf16) (harg8 : arg8.IsWhole) (x0 : Vec F S512x512 .bf16) (x1 x2 : Vec F S4096x512 .bf16) (x3 x4 : Vec F S256x512 .bf16) (x5 : Vec F S3x8x256x704 .f32) :
    out1_A_6 c (grid1.coords t) arg2 harg2 arg3 harg3 arg4 harg4 arg5 harg5 arg6 harg6 arg7 harg7 arg8 harg8 x0 x1 x2 x3 x4 x5 = blockOut x0 x1 x2 x3 x4 x5 (t.val % 8) := by
  funext y
  unfold out1_A_6
  rw [View.read_writes_apply_eq_canon _ _ _ _ (cover1_A_6 c _ _ _ _ _ _ _ _ _ _ _ _ _ _ _ x0 x1 x2 x3 x4 x5 y)]
  refine View.canon_apply_of_pieces (blockOut x0 x1 x2 x3 x4 x5 (t.val % 8)) _ ?_ y (cover1_A_6 c _ _ _ _ _ _ _ _ _ _ _ _ _ _ _ x0 x1 x2 x3 x4 x5 y)
  rw [pieces]
  simp only [List.forall_mem_cons]
  refine ⟨?p13, ?p12, ?p11, ?p10, ?p03, ?p02, ?p01, ?p00, fun _ h => absurd h List.not_mem_nil⟩
  case p13 =>
    intro x
    refine Eq.trans ?_ (blockOut_emb x0 x1 x2 x3 x4 x5 (t.val % 8) 1 3 _ _ rfl x).symm
    refine congrFun ?_ x
    exact congr (congr (congr (congr (congr (congr (congrArg pairF (ld_q _ _ x0 1 3 _ _ rfl)) (ld_c _ _ x3 3 _ _ rfl))
      (ld_k _ _ x1 (ksOf (2 * (t.val % 8) + 1)) 3 _ _ (off10_1 t))) (ld_c _ _ x4 3 _ _ rfl))
      (ld_k _ _ x2 (ksOf (2 * (t.val % 8) + 1)) 3 _ _ (off10_1 t)))
      (ld_b _ _ x5 (geomOf (2 * (t.val % 8) + 1)) 6 _ _ (off11_1 t)))
      (ld_b _ _ x5 (geomOf (2 * (t.val % 8) + 1)) 7 _ _ (off12_1 t))
  case p12 =>
    intro x
    refine Eq.trans ?_ (blockOut_emb x0 x1 x2 x3 x4 x5 (t.val % 8) 1 2 _ _ rfl x).symm
    refine congrFun ?_ x
    exact congr (congr (congr (congr (congr (congr (congrArg pairF (ld_q _ _ x0 1 2 _ _ rfl)) (ld_c _ _ x3 2 _ _ rfl))
      (ld_k _ _ x1 (ksOf (2 * (t.val % 8) + 1)) 2 _ _ (off7_1 t))) (ld_c _ _ x4 2 _ _ rfl))
      (ld_k _ _ x2 (ksOf (2 * (t.val % 8) + 1)) 2 _ _ (off7_1 t)))
      (ld_b _ _ x5 (geomOf (2 * (t.val % 8) + 1)) 4 _ _ (off8_1 t)))
      (ld_b _ _ x5 (geomOf (2 * (t.val % 8) + 1)) 5 _ _ (off9_1 t))
  case p11 =>
    intro x
    refine Eq.trans ?_ (blockOut_emb x0 x1 x2 x3 x4 x5 (t.val % 8) 1 1 _ _ rfl x).symm
    refine congrFun ?_ x
    exact congr (congr (congr (congr (congr (congr (congrArg pairF (ld_q _ _ x0 1 1 _ _ rfl)) (ld_c _ _ x3 1 _ _ rfl))
      (ld_k _ _ x1 (ksOf (2 * (t.val % 8) + 1)) 1 _ _ (off4_1 t))) (ld_c _ _ x4 1 _ _ rfl))
      (ld_k _ _ x2 (ksOf (2 * (t.val % 8) + 1)) 1 _ _ (off4_1 t)))
      (ld_b _ _ x5 (geomOf (2 * (t.val % 8) + 1)) 2 _ _ (off5_1 t)))
      (ld_b _ _ x5 (geomOf (2 * (t.val % 8) + 1)) 3 _ _ (off6_1 t))
  case p10 =>
    intro x
    refine Eq.trans ?_ (blockOut_emb x0 x1 x2 x3 x4 x5 (t.val % 8) 1 0 _ _ rfl x).symm
    refine congrFun ?_ x
    exact congr (congr (congr (congr (congr (congr (congrArg pairF (ld_q _ _ x0 1 0 _ _ rfl)) (ld_c _ _ x3 0 _ _ rfl))
      (ld_k _ _ x1 (ksOf (2 * (t.val % 8) + 1)) 0 _ _ (off1_1 t))) (ld_c _ _ x4 0 _ _ rfl))
      (ld_k _ _ x2 (ksOf (2 * (t.val % 8) + 1)) 0 _ _ (off1_1 t)))
      (ld_b _ _ x5 (geomOf (2 * (t.val % 8) + 1)) 0 _ _ (off2_1 t)))
      (ld_b _ _ x5 (geomOf (2 * (t.val % 8) + 1)) 1 _ _ (off3_1 t))
  case p03 =>
    intro x
    refine Eq.trans ?_ (blockOut_emb x0 x1 x2 x3 x4 x5 (t.val % 8) 0 3 _ _ rfl x).symm
    refine congrFun ?_ x
    exact congr (congr (congr (congr (congr (congr (congrArg pairF (ld_q _ _ x0 0 3 _ _ rfl)) (ld_c _ _ x3 3 _ _ rfl))
      (ld_k _ _ x1 (ksOf (2 * (t.val % 8) + 0)) 3 _ _ (off10_0 t))) (ld_c _ _ x4 3 _ _ rfl))
      (ld_k _ _ x2 (ksOf (2 * (t.val % 8) + 0)) 3 _ _ (off10_0 t)))
      (ld_b _ _ x5 (geomOf (2 * (t.val % 8) + 0)) 6 _ _ (off11_0 t)))
      (ld_b _ _ x5 (geomOf (2 * (t.val % 8) + 0)) 7 _ _ (off12_0 t))
  case p02 =>
    intro x
    refine Eq.trans ?_ (blockOut_emb x0 x1 x2 x3 x4 x5 (t.val % 8) 0 2 _ _ rfl x).symm
    refine congrFun ?_ x
    exact congr (congr (congr (congr (congr (congr (congrArg pairF (ld_q _ _ x0 0 2 _ _ rfl)) (ld_c _ _ x3 2 _ _ rfl))
      (ld_k _ _ x1 (ksOf (2 * (t.val % 8) + 0)) 2 _ _ (off7_0 t))) (ld_c _ _ x4 2 _ _ rfl))
      (ld_k _ _ x2 (ksOf (2 * (t.val % 8) + 0)) 2 _ _ (off7_0 t)))
      (ld_b _ _ x5 (geomOf (2 * (t.val % 8) + 0)) 4 _ _ (off8_0 t)))
      (ld_b _ _ x5 (geomOf (2 * (t.val % 8) + 0)) 5 _ _ (off9_0 t))
  case p01 =>
    intro x
    refine Eq.trans ?_ (blockOut_emb x0 x1 x2 x3 x4 x5 (t.val % 8) 0 1 _ _ rfl x).symm
    refine congrFun ?_ x
    exact congr (congr (congr (congr (congr (congr (congrArg pairF (ld_q _ _ x0 0 1 _ _ rfl)) (ld_c _ _ x3 1 _ _ rfl))
      (ld_k _ _ x1 (ksOf (2 * (t.val % 8) + 0)) 1 _ _ (off4_0 t))) (ld_c _ _ x4 1 _ _ rfl))
      (ld_k _ _ x2 (ksOf (2 * (t.val % 8) + 0)) 1 _ _ (off4_0 t)))
      (ld_b _ _ x5 (geomOf (2 * (t.val % 8) + 0)) 2 _ _ (off5_0 t)))
      (ld_b _ _ x5 (geomOf (2 * (t.val % 8) + 0)) 3 _ _ (off6_0 t))
  case p00 =>
    intro x
    refine Eq.trans ?_ (blockOut_emb x0 x1 x2 x3 x4 x5 (t.val % 8) 0 0 _ _ rfl x).symm
    refine congrFun ?_ x
    exact congr (congr (congr (congr (congr (congr (congrArg pairF (ld_q _ _ x0 0 0 _ _ rfl)) (ld_c _ _ x3 0 _ _ rfl))
      (ld_k _ _ x1 (ksOf (2 * (t.val % 8) + 0)) 0 _ _ (off1_0 t))) (ld_c _ _ x4 0 _ _ rfl))
      (ld_k _ _ x2 (ksOf (2 * (t.val % 8) + 0)) 0 _ _ (off1_0 t)))
      (ld_b _ _ x5 (geomOf (2 * (t.val % 8) + 0)) 0 _ _ (off2_0 t)))
      (ld_b _ _ x5 (geomOf (2 * (t.val % 8) + 0)) 1 _ _ (off3_0 t))

end Cert.KernelIdeal.Value
-- ==== Proof.Table.lean ====
module

public import proofs.«01_k».proof.Proof.Gen.KernelIdeal.Frame
public import Idealize.ShloMosaic.Lib.Pipeline.Value
public import Idealize.ShloMosaic.Lib.Pipeline.ValueKit
public import Idealize.ShloMosaic.Lib.Pointwise

@[expose] public section

set_option maxRecDepth 16384

noncomputable section

namespace Cert.KernelIdeal.Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-! The first region's body, as one function of the blocks it loads: a table's rows, each eleven blocks side by side. -/

/-- Zero where a column of keys lies in the window of a column of queries, the mask's value elsewhere. -/
def maskC : FVec F S64x64 .f32 :=
  let start : IVec S64x64 32 := minsi (broadcast S64x64 48#32) (maxsi (broadcast S64x64 0#32) (subi (iota .tc S64x64 32 [0] iota_S64x64_d0_w32) (broadcast S64x64 8#32)))
  let cols : IVec S64x64 32 := iota .tc S64x64 32 [1] iota_S64x64_d1_w32
  select (andi (cmpi .sge cols start) (cmpi .slt cols (addi start (broadcast S64x64 16#32))))
    (broadcast S64x64 (Scalar.ofBits .f32 0x00000000#32 : F .f32)) (broadcast S64x64 (Named.named κ "mask" 0xF149F2CA#32 : F .f32))

/-- A block, masked by columns. -/
def maskA (b : Vec F S1x1x64x64 .f32) : FVec F S64x64 .f32 :=
  addf (shapeCast S64x64 b shapeCasts_S1x1x64x64_S64x64) maskC

/-- A block, masked everywhere. -/
def maskB (b : Vec F S1x1x64x64 .f32) : FVec F S64x64 .f32 :=
  addf (shapeCast S64x64 b shapeCasts_S1x1x64x64_S64x64) (broadcast S64x64 (Named.named κ "mask" 0xF149F2CA#32 : F .f32))

/-- Eleven blocks side by side, times the change of base. -/
def rowF (w : Fin 11 → FVec F S64x64 .f32) : Vec F S1x1x64x704 .f32 :=
  shapeCast S1x1x64x704 (mulf (concatenate S64x704 1 [⟨S64x64, w 0⟩, ⟨S64x64, w 1⟩, ⟨S64x64, w 2⟩, ⟨S64x64, w 3⟩, ⟨S64x64, w 4⟩, ⟨S64x64, w 5⟩, ⟨S64x64, w 6⟩, ⟨S64x64, w 7⟩, ⟨S64x64, w 8⟩, ⟨S64x64, w 9⟩, ⟨S64x64, w 10⟩] concatenates_S64x64_S64x64_S64x64_S64x64_S64x64_S64x64_S64x64_S64x64_S64x64_S64x64_S64x64_S64x704_d1)
    (broadcast S64x704 (Named.named κ "log2e" 0x3FB8AA3B#32 : F .f32))) shapeCasts_S64x704_S1x1x64x704

/-- Block `d` of an instance. -/
def blk (x : Vec F S1x16x64x64 .f32) (d : Fin 16) : Vec F S1x1x64x64 .f32 := fun j =>
  x (ix4 0 d ⟨(j 2).val, (j 2).isLt⟩ ⟨(j 3).val, (j 3).isLt⟩)

/-- The same, masked. -/
def blkM (x : Vec F S1x16x64x64 .f32) (d : Fin 16) : FVec F S64x64 .f32 := if d.val < 15 then maskA (blk x d) else maskB (blk x d)

theorem blkM_lt (x : Vec F S1x16x64x64 .f32) (d : Fin 16) (h : d.val < 15) : blkM x d = maskA (blk x d) := if_pos h
theorem blkM_ge (x : Vec F S1x16x64x64 .f32) (d : Fin 16) (h : ¬d.val < 15) : blkM x d = maskB (blk x d) := if_neg h

/-- Which block stands at a row and a place of each of the three tables. -/
def whichT : Fin 3 → Fin 4 → Fin 11 → Fin 16 := ![![![7, 8, 9, 10, 11, 12, 13, 14, 15, 15, 15], ![6, 7, 8, 9, 10, 11, 12, 13, 15, 15, 15], ![5, 6, 7, 8, 9, 10, 11, 12, 15, 15, 15], ![4, 5, 6, 7, 8, 9, 10, 11, 15, 15, 15]], ![![3, 4, 5, 6, 7, 8, 9, 10, 15, 15, 15], ![15, 3, 4, 5, 6, 7, 8, 9, 10, 15, 15], ![15, 15, 3, 4, 5, 6, 7, 8, 9, 10, 15], ![15, 15, 15, 3, 4, 5, 6, 7, 8, 9, 10]], ![![15, 15, 15, 3, 4, 5, 6, 7, 8, 9, 10], ![15, 15, 15, 2, 3, 4, 5, 6, 7, 8, 9], ![15, 15, 15, 1, 2, 3, 4, 5, 6, 7, 8], ![15, 15, 15, 0, 1, 2, 3, 4, 5, 6, 7]]]

/-- A row of a table. -/
def tableRow (x : Vec F S1x16x64x64 .f32) (t : Fin 3) (i : Fin 4) : Vec F S1x1x64x704 .f32 := rowF fun j => blkM x (whichT t i j)

/-- A table, of an instance's blocks. -/
def tableF (x : Vec F S1x16x64x64 .f32) (t : Fin 3) : Vec F S1x1x256x704 .f32 := fun y =>
  tableRow x t ⟨(y 2).val / 64, by have := (y 2).isLt; simp at this; omega⟩ (ix4 0 0 ⟨(y 2).val % 64, by omega⟩ ⟨(y 3).val, (y 3).isLt⟩)

theorem ld_blk (arg : Memref sig .tc .vmem S1x16x64x64 .f32) (harg : arg.IsWhole) (x : Vec F S1x16x64x64 .f32) (d : Fin 16) (off) (inb)
    (hoff : off = ![0, d.val, 0, 0]) :
    View.readAt (Elt F) arg.view (Rect.unit (s := S1x16x64x64) off S1x1x64x64.size inb).toLoadRect (harg.unread x) = blk x d := by
  subst hoff; rw [View.readAt_eq_ld, harg.read_unread]; funext j; unfold blk
  have h0 : (j 0).val = 0 := Nat.lt_one_iff.mp (j 0).isLt
  have h1 : (j 1).val = 0 := Nat.lt_one_iff.mp (j 1).isLt
  exact View.ld_unit_apply_of _ _ _ _ _ _ (fun e => by
    match e with
    | ⟨0, _⟩ => exact (congrArg (0 + ·) h0).symm
    | ⟨1, _⟩ => exact (congrArg (d.val + ·) h1).symm
    | ⟨2, _⟩ => exact (Nat.zero_add _).symm
    | ⟨3, _⟩ => exact (Nat.zero_add _).symm)

theorem tableF_emb (x0 : Vec F S1x16x64x64 .f32) (t : Fin 3) (i : Fin 4) (off) (inb) (h : off = ![0, 0, 64 * i.val, 0])
    (x : (Rect.unit (s := S1x1x256x704) off S1x1x64x704.size inb).shape.Idx) :
    tableF x0 t ((Rect.unit (s := S1x1x256x704) off S1x1x64x704.size inb).emb x) = tableRow x0 t i x := by
  subst h
  have h2 : (((Rect.unit (s := S1x1x256x704) _ S1x1x64x704.size inb).emb x) 2).val = 64 * i.val + (x 2).val :=
    (Rect.emb_apply _ _ _).trans (congrArg (64 * i.val + ·) (Nat.one_mul _))
  have h3 : (((Rect.unit (s := S1x1x256x704) _ S1x1x64x704.size inb).emb x) 3).val = (x 3).val :=
    (Rect.emb_apply _ _ _).trans ((congrArg (0 + ·) (Nat.one_mul _)).trans (Nat.zero_add _))
  have b2 : (x 2).val < 64 := (x 2).isLt
  have b0 : (x 0).val = 0 := Nat.lt_one_iff.mp (x 0).isLt
  have b1 : (x 1).val = 0 := Nat.lt_one_iff.mp (x 1).isLt
  have ei : (⟨(((Rect.unit (s := S1x1x256x704) _ S1x1x64x704.size inb).emb x) 2).val / 64, by rw [h2]; omega⟩ : Fin 4) = i :=
    Fin.ext (by show _ / 64 = _; rw [h2]; omega)
  unfold tableF
  rw [ei]
  congr 1
  funext d
  match d with
  | ⟨0, _⟩ => exact Fin.ext (by show 0 = (x 0).val; omega)
  | ⟨1, _⟩ => exact Fin.ext (by show 0 = (x 1).val; omega)
  | ⟨2, _⟩ => exact Fin.ext (by show _ % 64 = (x 2).val; rw [h2]; omega)
  | ⟨3, _⟩ => exact Fin.ext h3

theorem pieces0_A (c : Dev nD) (i : grid0.Coords) (arg2 : Memref sig .tc .vmem S1x16x64x64 .f32) (harg2 : arg2.IsWhole) (arg3 : Memref sig .tc .vmem S1x1x256x704 .f32) (harg3 : arg3.IsWhole) (hc0 : cond0_0 i) (hc1 : ¬cond0_1 i) (hc2 : ¬cond0_2 i) (x0 : Vec F S1x16x64x64 .f32) :
    (kernelRun0_A c i arg2 harg2 arg3 harg3 hc0 hc1 hc2 x0).1 = [
      (⟨Rect.unit (s := S1x1x256x704) ![0, 0, 192, 0] S1x1x64x704.size inb_S1x1x256x704_S1x1x64x704_0_0_192_0, rowF ![maskA (View.readAt (Elt F) arg2.view (Rect.unit (s := S1x16x64x64) ![0, 4, 0, 0] S1x1x64x64.size inb_S1x16x64x64_S1x1x64x64_0_4_0_0).toLoadRect (harg2.unread x0)),
        maskA (View.readAt (Elt F) arg2.view (Rect.unit (s := S1x16x64x64) ![0, 5, 0, 0] S1x1x64x64.size inb_S1x16x64x64_S1x1x64x64_0_5_0_0).toLoadRect (harg2.unread x0)),
        maskA (View.readAt (Elt F) arg2.view (Rect.unit (s := S1x16x64x64) ![0, 6, 0, 0] S1x1x64x64.size inb_S1x16x64x64_S1x1x64x64_0_6_0_0).toLoadRect (harg2.unread x0)),
        maskA (View.readAt (Elt F) arg2.view (Rect.unit (s := S1x16x64x64) ![0, 7, 0, 0] S1x1x64x64.size inb_S1x16x64x64_S1x1x64x64_0_7_0_0).toLoadRect (harg2.unread x0)),
        maskA (View.readAt (Elt F) arg2.view (Rect.unit (s := S1x16x64x64) ![0, 8, 0, 0] S1x1x64x64.size inb_S1x16x64x64_S1x1x64x64_0_8_0_0).toLoadRect (harg2.unread x0)),
        maskA (View.readAt (Elt F) arg2.view (Rect.unit (s := S1x16x64x64) ![0, 9, 0, 0] S1x1x64x64.size inb_S1x16x64x64_S1x1x64x64_0_9_0_0).toLoadRect (harg2.unread x0)),
        maskA (View.readAt (Elt F) arg2.view (Rect.unit (s := S1x16x64x64) ![0, 10, 0, 0] S1x1x64x64.size inb_S1x16x64x64_S1x1x64x64_0_10_0_0).toLoadRect (harg2.unread x0)),
        maskA (View.readAt (Elt F) arg2.view (Rect.unit (s := S1x16x64x64) ![0, 11, 0, 0] S1x1x64x64.size inb_S1x16x64x64_S1x1x64x64_0_11_0_0).toLoadRect (harg2.unread x0)),
        maskB (View.readAt (Elt F) arg2.view (Rect.unit (s := S1x16x64x64) ![0, 15, 0, 0] S1x1x64x64.size inb_S1x16x64x64_S1x1x64x64_0_15_0_0).toLoadRect (harg2.unread x0)),
        maskB (View.readAt (Elt F) arg2.view (Rect.unit (s := S1x16x64x64) ![0, 15, 0, 0] S1x1x64x64.size inb_S1x16x64x64_S1x1x64x64_0_15_0_0).toLoadRect (harg2.unread x0)),
        maskB (View.readAt (Elt F) arg2.view (Rect.unit (s := S1x16x64x64) ![0, 15, 0, 0] S1x1x64x64.size inb_S1x16x64x64_S1x1x64x64_0_15_0_0).toLoadRect (harg2.unread x0))]⟩ : View.Piece (Elt F) S1x1x256x704 .f32),
      (⟨Rect.unit (s := S1x1x256x704) ![0, 0, 128, 0] S1x1x64x704.size inb_S1x1x256x704_S1x1x64x704_0_0_128_0, rowF ![maskA (View.readAt (Elt F) arg2.view (Rect.unit (s := S1x16x64x64) ![0, 5, 0, 0] S1x1x64x64.size inb_S1x16x64x64_S1x1x64x64_0_5_0_0).toLoadRect (harg2.unread x0)),
        maskA (View.readAt (Elt F) arg2.view (Rect.unit (s := S1x16x64x64) ![0, 6, 0, 0] S1x1x64x64.size inb_S1x16x64x64_S1x1x64x64_0_6_0_0).toLoadRect (harg2.unread x0)),
        maskA (View.readAt (Elt F) arg2.view (Rect.unit (s := S1x16x64x64) ![0, 7, 0, 0] S1x1x64x64.size inb_S1x16x64x64_S1x1x64x64_0_7_0_0).toLoadRect (harg2.unread x0)),
        maskA (View.readAt (Elt F) arg2.view (Rect.unit (s := S1x16x64x64) ![0, 8, 0, 0] S1x1x64x64.size inb_S1x16x64x64_S1x1x64x64_0_8_0_0).toLoadRect (harg2.unread x0)),
        maskA (View.readAt (Elt F) arg2.view (Rect.unit (s := S1x16x64x64) ![0, 9, 0, 0] S1x1x64x64.size inb_S1x16x64x64_S1x1x64x64_0_9_0_0).toLoadRect (harg2.unread x0)),
        maskA (View.readAt (Elt F) arg2.view (Rect.unit (s := S1x16x64x64) ![0, 10, 0, 0] S1x1x64x64.size inb_S1x16x64x64_S1x1x64x64_0_10_0_0).toLoadRect (harg2.unread x0)),
        maskA (View.readAt (Elt F) arg2.view (Rect.unit (s := S1x16x64x64) ![0, 11, 0, 0] S1x1x64x64.size inb_S1x16x64x64_S1x1x64x64_0_11_0_0).toLoadRect (harg2.unread x0)),
        maskA (View.readAt (Elt F) arg2.view (Rect.unit (s := S1x16x64x64) ![0, 12, 0, 0] S1x1x64x64.size inb_S1x16x64x64_S1x1x64x64_0_12_0_0).toLoadRect (harg2.unread x0)),
        maskB (View.readAt (Elt F) arg2.view (Rect.unit (s := S1x16x64x64) ![0, 15, 0, 0] S1x1x64x64.size inb_S1x16x64x64_S1x1x64x64_0_15_0_0).toLoadRect (harg2.unread x0)),
        maskB (View.readAt (Elt F) arg2.view (Rect.unit (s := S1x16x64x64) ![0, 15, 0, 0] S1x1x64x64.size inb_S1x16x64x64_S1x1x64x64_0_15_0_0).toLoadRect (harg2.unread x0)),
        maskB (View.readAt (Elt F) arg2.view (Rect.unit (s := S1x16x64x64) ![0, 15, 0, 0] S1x1x64x64.size inb_S1x16x64x64_S1x1x64x64_0_15_0_0).toLoadRect (harg2.unread x0))]⟩ : View.Piece (Elt F) S1x1x256x704 .f32),
      (⟨Rect.unit (s := S1x1x256x704) ![0, 0, 64, 0] S1x1x64x704.size inb_S1x1x256x704_S1x1x64x704_0_0_64_0, rowF ![maskA (View.readAt (Elt F) arg2.view (Rect.unit (s := S1x16x64x64) ![0, 6, 0, 0] S1x1x64x64.size inb_S1x16x64x64_S1x1x64x64_0_6_0_0).toLoadRect (harg2.unread x0)),
        maskA (View.readAt (Elt F) arg2.view (Rect.unit (s := S1x16x64x64) ![0, 7, 0, 0] S1x1x64x64.size inb_S1x16x64x64_S1x1x64x64_0_7_0_0).toLoadRect (harg2.unread x0)),
        maskA (View.readAt (Elt F) arg2.view (Rect.unit (s := S1x16x64x64) ![0, 8, 0, 0] S1x1x64x64.size inb_S1x16x64x64_S1x1x64x64_0_8_0_0).toLoadRect (harg2.unread x0)),
        maskA (View.readAt (Elt F) arg2.view (Rect.unit (s := S1x16x64x64) ![0, 9, 0, 0] S1x1x64x64.size inb_S1x16x64x64_S1x1x64x64_0_9_0_0).toLoadRect (harg2.unread x0)),
        maskA (View.readAt (Elt F) arg2.view (Rect.unit (s := S1x16x64x64) ![0, 10, 0, 0] S1x1x64x64.size inb_S1x16x64x64_S1x1x64x64_0_10_0_0).toLoadRect (harg2.unread x0)),
        maskA (View.readAt (Elt F) arg2.view (Rect.unit (s := S1x16x64x64) ![0, 11, 0, 0] S1x1x64x64.size inb_S1x16x64x64_S1x1x64x64_0_11_0_0).toLoadRect (harg2.unread x0)),
        maskA (View.readAt (Elt F) arg2.view (Rect.unit (s := S1x16x64x64) ![0, 12, 0, 0] S1x1x64x64.size inb_S1x16x64x64_S1x1x64x64_0_12_0_0).toLoadRect (harg2.unread x0)),
        maskA (View.readAt (Elt F) arg2.view (Rect.unit (s := S1x16x64x64) ![0, 13, 0, 0] S1x1x64x64.size inb_S1x16x64x64_S1x1x64x64_0_13_0_0).toLoadRect (harg2.unread x0)),
        maskB (View.readAt (Elt F) arg2.view (Rect.unit (s := S1x16x64x64) ![0, 15, 0, 0] S1x1x64x64.size inb_S1x16x64x64_S1x1x64x64_0_15_0_0).toLoadRect (harg2.unread x0)),
        maskB (View.readAt (Elt F) arg2.view (Rect.unit (s := S1x16x64x64) ![0, 15, 0, 0] S1x1x64x64.size inb_S1x16x64x64_S1x1x64x64_0_15_0_0).toLoadRect (harg2.unread x0)),
        maskB (View.readAt (Elt F) arg2.view (Rect.unit (s := S1x16x64x64) ![0, 15, 0, 0] S1x1x64x64.size inb_S1x16x64x64_S1x1x64x64_0_15_0_0).toLoadRect (harg2.unread x0))]⟩ : View.Piece (Elt F) S1x1x256x704 .f32),
      (⟨Rect.unit (s := S1x1x256x704) ![0, 0, 0, 0] S1x1x64x704.size inb_S1x1x256x704_S1x1x64x704_0_0_0_0, rowF ![maskA (View.readAt (Elt F) arg2.view (Rect.unit (s := S1x16x64x64) ![0, 7, 0, 0] S1x1x64x64.size inb_S1x16x64x64_S1x1x64x64_0_7_0_0).toLoadRect (harg2.unread x0)),
        maskA (View.readAt (Elt F) arg2.view (Rect.unit (s := S1x16x64x64) ![0, 8, 0, 0] S1x1x64x64.size inb_S1x16x64x64_S1x1x64x64_0_8_0_0).toLoadRect (harg2.unread x0)),
        maskA (View.readAt (Elt F) arg2.view (Rect.unit (s := S1x16x64x64) ![0, 9, 0, 0] S1x1x64x64.size inb_S1x16x64x64_S1x1x64x64_0_9_0_0).toLoadRect (harg2.unread x0)),
        maskA (View.readAt (Elt F) arg2.view (Rect.unit (s := S1x16x64x64) ![0, 10, 0, 0] S1x1x64x64.size inb_S1x16x64x64_S1x1x64x64_0_10_0_0).toLoadRect (harg2.unread x0)),
        maskA (View.readAt (Elt F) arg2.view (Rect.unit (s := S1x16x64x64) ![0, 11, 0, 0] S1x1x64x64.size inb_S1x16x64x64_S1x1x64x64_0_11_0_0).toLoadRect (harg2.unread x0)),
        maskA (View.readAt (Elt F) arg2.view (Rect.unit (s := S1x16x64x64) ![0, 12, 0, 0] S1x1x64x64.size inb_S1x16x64x64_S1x1x64x64_0_12_0_0).toLoadRect (harg2.unread x0)),
        maskA (View.readAt (Elt F) arg2.view (Rect.unit (s := S1x16x64x64) ![0, 13, 0, 0] S1x1x64x64.size inb_S1x16x64x64_S1x1x64x64_0_13_0_0).toLoadRect (harg2.unread x0)),
        maskA (View.readAt (Elt F) arg2.view (Rect.unit (s := S1x16x64x64) ![0, 14, 0, 0] S1x1x64x64.size inb_S1x16x64x64_S1x1x64x64_0_14_0_0).toLoadRect (harg2.unread x0)),
        maskB (View.readAt (Elt F) arg2.view (Rect.unit (s := S1x16x64x64) ![0, 15, 0, 0] S1x1x64x64.size inb_S1x16x64x64_S1x1x64x64_0_15_0_0).toLoadRect (harg2.unread x0)),
        maskB (View.readAt (Elt F) arg2.view (Rect.unit (s := S1x16x64x64) ![0, 15, 0, 0] S1x1x64x64.size inb_S1x16x64x64_S1x1x64x64_0_15_0_0).toLoadRect (harg2.unread x0)),
        maskB (View.readAt (Elt F) arg2.view (Rect.unit (s := S1x16x64x64) ![0, 15, 0, 0] S1x1x64x64.size inb_S1x16x64x64_S1x1x64x64_0_15_0_0).toLoadRect (harg2.unread x0))]⟩ : View.Piece (Elt F) S1x1x256x704 .f32)] := by
  unfold kernelRun0_A
  dsimp only
  rfl

theorem out0_A (c : Dev nD) (i : grid0.Coords) (arg2 : Memref sig .tc .vmem S1x16x64x64 .f32) (harg2 : arg2.IsWhole) (arg3 : Memref sig .tc .vmem S1x1x256x704 .f32) (harg3 : arg3.IsWhole) (hc0 : cond0_0 i) (hc1 : ¬cond0_1 i) (hc2 : ¬cond0_2 i) (x0 : Vec F S1x16x64x64 .f32) :
    out0_A_1 c i arg2 harg2 arg3 harg3 hc0 hc1 hc2 x0 = tableF x0 0 := by
  funext y
  unfold out0_A_1
  rw [View.read_writes_apply_eq_canon _ _ _ _ (cover0_A_1 c i arg2 harg2 arg3 harg3 hc0 hc1 hc2 x0 y)]
  refine View.canon_apply_of_pieces (tableF x0 0) _ ?_ y (cover0_A_1 c i arg2 harg2 arg3 harg3 hc0 hc1 hc2 x0 y)
  rw [pieces0_A]
  simp only [List.forall_mem_cons]
  refine ⟨?p3, ?p2, ?p1, ?p0, fun _ h => absurd h List.not_mem_nil⟩
  case p3 =>
    intro x
    refine Eq.trans ?_ (tableF_emb x0 0 3 _ _ rfl x).symm
    refine congrFun (congrArg rowF (funext fun j => ?_)) x
    match j with
    | ⟨0, _⟩ => exact (congrArg maskA (ld_blk arg2 harg2 x0 4 _ _ rfl)).trans (blkM_lt x0 4 (by decide)).symm
    | ⟨1, _⟩ => exact (congrArg maskA (ld_blk arg2 harg2 x0 5 _ _ rfl)).trans (blkM_lt x0 5 (by decide)).symm
    | ⟨2, _⟩ => exact (congrArg maskA (ld_blk arg2 harg2 x0 6 _ _ rfl)).trans (blkM_lt x0 6 (by decide)).symm
    | ⟨3, _⟩ => exact (congrArg maskA (ld_blk arg2 harg2 x0 7 _ _ rfl)).trans (blkM_lt x0 7 (by decide)).symm
    | ⟨4, _⟩ => exact (congrArg maskA (ld_blk arg2 harg2 x0 8 _ _ rfl)).trans (blkM_lt x0 8 (by decide)).symm
    | ⟨5, _⟩ => exact (congrArg maskA (ld_blk arg2 harg2 x0 9 _ _ rfl)).trans (blkM_lt x0 9 (by decide)).symm
    | ⟨6, _⟩ => exact (congrArg maskA (ld_blk arg2 harg2 x0 10 _ _ rfl)).trans (blkM_lt x0 10 (by decide)).symm
    | ⟨7, _⟩ => exact (congrArg maskA (ld_blk arg2 harg2 x0 11 _ _ rfl)).trans (blkM_lt x0 11 (by decide)).symm
    | ⟨8, _⟩ => exact (congrArg maskB (ld_blk arg2 harg2 x0 15 _ _ rfl)).trans (blkM_ge x0 15 (by decide)).symm
    | ⟨9, _⟩ => exact (congrArg maskB (ld_blk arg2 harg2 x0 15 _ _ rfl)).trans (blkM_ge x0 15 (by decide)).symm
    | ⟨10, _⟩ => exact (congrArg maskB (ld_blk arg2 harg2 x0 15 _ _ rfl)).trans (blkM_ge x0 15 (by decide)).symm
  case p2 =>
    intro x
    refine Eq.trans ?_ (tableF_emb x0 0 2 _ _ rfl x).symm
    refine congrFun (congrArg rowF (funext fun j => ?_)) x
    match j with
    | ⟨0, _⟩ => exact (congrArg maskA (ld_blk arg2 harg2 x0 5 _ _ rfl)).trans (blkM_lt x0 5 (by decide)).symm
    | ⟨1, _⟩ => exact (congrArg maskA (ld_blk arg2 harg2 x0 6 _ _ rfl)).trans (blkM_lt x0 6 (by decide)).symm
    | ⟨2, _⟩ => exact (congrArg maskA (ld_blk arg2 harg2 x0 7 _ _ rfl)).trans (blkM_lt x0 7 (by decide)).symm
    | ⟨3, _⟩ => exact (congrArg maskA (ld_blk arg2 harg2 x0 8 _ _ rfl)).trans (blkM_lt x0 8 (by decide)).symm
    | ⟨4, _⟩ => exact (congrArg maskA (ld_blk arg2 harg2 x0 9 _ _ rfl)).trans (blkM_lt x0 9 (by decide)).symm
    | ⟨5, _⟩ => exact (congrArg maskA (ld_blk arg2 harg2 x0 10 _ _ rfl)).trans (blkM_lt x0 10 (by decide)).symm
    | ⟨6, _⟩ => exact (congrArg maskA (ld_blk arg2 harg2 x0 11 _ _ rfl)).trans (blkM_lt x0 11 (by decide)).symm
    | ⟨7, _⟩ => exact (congrArg maskA (ld_blk arg2 harg2 x0 12 _ _ rfl)).trans (blkM_lt x0 12 (by decide)).symm
    | ⟨8, _⟩ => exact (congrArg maskB (ld_blk arg2 harg2 x0 15 _ _ rfl)).trans (blkM_ge x0 15 (by decide)).symm
    | ⟨9, _⟩ => exact (congrArg maskB (ld_blk arg2 harg2 x0 15 _ _ rfl)).trans (blkM_ge x0 15 (by decide)).symm
    | ⟨10, _⟩ => exact (congrArg maskB (ld_blk arg2 harg2 x0 15 _ _ rfl)).trans (blkM_ge x0 15 (by decide)).symm
  case p1 =>
    intro x
    refine Eq.trans ?_ (tableF_emb x0 0 1 _ _ rfl x).symm
    refine congrFun (congrArg rowF (funext fun j => ?_)) x
    match j with
    | ⟨0, _⟩ => exact (congrArg maskA (ld_blk arg2 harg2 x0 6 _ _ rfl)).trans (blkM_lt x0 6 (by decide)).symm
    | ⟨1, _⟩ => exact (congrArg maskA (ld_blk arg2 harg2 x0 7 _ _ rfl)).trans (blkM_lt x0 7 (by decide)).symm
    | ⟨2, _⟩ => exact (congrArg maskA (ld_blk arg2 harg2 x0 8 _ _ rfl)).trans (blkM_lt x0 8 (by decide)).symm
    | ⟨3, _⟩ => exact (congrArg maskA (ld_blk arg2 harg2 x0 9 _ _ rfl)).trans (blkM_lt x0 9 (by decide)).symm
    | ⟨4, _⟩ => exact (congrArg maskA (ld_blk arg2 harg2 x0 10 _ _ rfl)).trans (blkM_lt x0 10 (by decide)).symm
    | ⟨5, _⟩ => exact (congrArg maskA (ld_blk arg2 harg2 x0 11 _ _ rfl)).trans (blkM_lt x0 11 (by decide)).symm
    | ⟨6, _⟩ => exact (congrArg maskA (ld_blk arg2 harg2 x0 12 _ _ rfl)).trans (blkM_lt x0 12 (by decide)).symm
    | ⟨7, _⟩ => exact (congrArg maskA (ld_blk arg2 harg2 x0 13 _ _ rfl)).trans (blkM_lt x0 13 (by decide)).symm
    | ⟨8, _⟩ => exact (congrArg maskB (ld_blk arg2 harg2 x0 15 _ _ rfl)).trans (blkM_ge x0 15 (by decide)).symm
    | ⟨9, _⟩ => exact (congrArg maskB (ld_blk arg2 harg2 x0 15 _ _ rfl)).trans (blkM_ge x0 15 (by decide)).symm
    | ⟨10, _⟩ => exact (congrArg maskB (ld_blk arg2 harg2 x0 15 _ _ rfl)).trans (blkM_ge x0 15 (by decide)).symm
  case p0 =>
    intro x
    refine Eq.trans ?_ (tableF_emb x0 0 0 _ _ rfl x).symm
    refine congrFun (congrArg rowF (funext fun j => ?_)) x
    match j with
    | ⟨0, _⟩ => exact (congrArg maskA (ld_blk arg2 harg2 x0 7 _ _ rfl)).trans (blkM_lt x0 7 (by decide)).symm
    | ⟨1, _⟩ => exact (congrArg maskA (ld_blk arg2 harg2 x0 8 _ _ rfl)).trans (blkM_lt x0 8 (by decide)).symm
    | ⟨2, _⟩ => exact (congrArg maskA (ld_blk arg2 harg2 x0 9 _ _ rfl)).trans (blkM_lt x0 9 (by decide)).symm
    | ⟨3, _⟩ => exact (congrArg maskA (ld_blk arg2 harg2 x0 10 _ _ rfl)).trans (blkM_lt x0 10 (by decide)).symm
    | ⟨4, _⟩ => exact (congrArg maskA (ld_blk arg2 harg2 x0 11 _ _ rfl)).trans (blkM_lt x0 11 (by decide)).symm
    | ⟨5, _⟩ => exact (congrArg maskA (ld_blk arg2 harg2 x0 12 _ _ rfl)).trans (blkM_lt x0 12 (by decide)).symm
    | ⟨6, _⟩ => exact (congrArg maskA (ld_blk arg2 harg2 x0 13 _ _ rfl)).trans (blkM_lt x0 13 (by decide)).symm
    | ⟨7, _⟩ => exact (congrArg maskA (ld_blk arg2 harg2 x0 14 _ _ rfl)).trans (blkM_lt x0 14 (by decide)).symm
    | ⟨8, _⟩ => exact (congrArg maskB (ld_blk arg2 harg2 x0 15 _ _ rfl)).trans (blkM_ge x0 15 (by decide)).symm
    | ⟨9, _⟩ => exact (congrArg maskB (ld_blk arg2 harg2 x0 15 _ _ rfl)).trans (blkM_ge x0 15 (by decide)).symm
    | ⟨10, _⟩ => exact (congrArg maskB (ld_blk arg2 harg2 x0 15 _ _ rfl)).trans (blkM_ge x0 15 (by decide)).symm

theorem pieces0_B (c : Dev nD) (i : grid0.Coords) (arg2 : Memref sig .tc .vmem S1x16x64x64 .f32) (harg2 : arg2.IsWhole) (arg3 : Memref sig .tc .vmem S1x1x256x704 .f32) (harg3 : arg3.IsWhole) (hc0 : ¬cond0_0 i) (hc1 : cond0_1 i) (hc2 : ¬cond0_2 i) (x0 : Vec F S1x16x64x64 .f32) :
    (kernelRun0_B c i arg2 harg2 arg3 harg3 hc0 hc1 hc2 x0).1 = [
      (⟨Rect.unit (s := S1x1x256x704) ![0, 0, 192, 0] S1x1x64x704.size inb_S1x1x256x704_S1x1x64x704_0_0_192_0, rowF ![maskB (View.readAt (Elt F) arg2.view (Rect.unit (s := S1x16x64x64) ![0, 15, 0, 0] S1x1x64x64.size inb_S1x16x64x64_S1x1x64x64_0_15_0_0).toLoadRect (harg2.unread x0)),
        maskB (View.readAt (Elt F) arg2.view (Rect.unit (s := S1x16x64x64) ![0, 15, 0, 0] S1x1x64x64.size inb_S1x16x64x64_S1x1x64x64_0_15_0_0).toLoadRect (harg2.unread x0)),
        maskB (View.readAt (Elt F) arg2.view (Rect.unit (s := S1x16x64x64) ![0, 15, 0, 0] S1x1x64x64.size inb_S1x16x64x64_S1x1x64x64_0_15_0_0).toLoadRect (harg2.unread x0)),
        maskA (View.readAt (Elt F) arg2.view (Rect.unit (s := S1x16x64x64) ![0, 3, 0, 0] S1x1x64x64.size inb_S1x16x64x64_S1x1x64x64_0_3_0_0).toLoadRect (harg2.unread x0)),
        maskA (View.readAt (Elt F) arg2.view (Rect.unit (s := S1x16x64x64) ![0, 4, 0, 0] S1x1x64x64.size inb_S1x16x64x64_S1x1x64x64_0_4_0_0).toLoadRect (harg2.unread x0)),
        maskA (View.readAt (Elt F) arg2.view (Rect.unit (s := S1x16x64x64) ![0, 5, 0, 0] S1x1x64x64.size inb_S1x16x64x64_S1x1x64x64_0_5_0_0).toLoadRect (harg2.unread x0)),
        maskA (View.readAt (Elt F) arg2.view (Rect.unit (s := S1x16x64x64) ![0, 6, 0, 0] S1x1x64x64.size inb_S1x16x64x64_S1x1x64x64_0_6_0_0).toLoadRect (harg2.unread x0)),
        maskA (View.readAt (Elt F) arg2.view (Rect.unit (s := S1x16x64x64) ![0, 7, 0, 0] S1x1x64x64.size inb_S1x16x64x64_S1x1x64x64_0_7_0_0).toLoadRect (harg2.unread x0)),
        maskA (View.readAt (Elt F) arg2.view (Rect.unit (s := S1x16x64x64) ![0, 8, 0, 0] S1x1x64x64.size inb_S1x16x64x64_S1x1x64x64_0_8_0_0).toLoadRect (harg2.unread x0)),
        maskA (View.readAt (Elt F) arg2.view (Rect.unit (s := S1x16x64x64) ![0, 9, 0, 0] S1x1x64x64.size inb_S1x16x64x64_S1x1x64x64_0_9_0_0).toLoadRect (harg2.unread x0)),
        maskA (View.readAt (Elt F) arg2.view (Rect.unit (s := S1x16x64x64) ![0, 10, 0, 0] S1x1x64x64.size inb_S1x16x64x64_S1x1x64x64_0_10_0_0).toLoadRect (harg2.unread x0))]⟩ : View.Piece (Elt F) S1x1x256x704 .f32),
      (⟨Rect.unit (s := S1x1x256x704) ![0, 0, 128, 0] S1x1x64x704.size inb_S1x1x256x704_S1x1x64x704_0_0_128_0, rowF ![maskB (View.readAt (Elt F) arg2.view (Rect.unit (s := S1x16x64x64) ![0, 15, 0, 0] S1x1x64x64.size inb_S1x16x64x64_S1x1x64x64_0_15_0_0).toLoadRect (harg2.unread x0)),
        maskB (View.readAt (Elt F) arg2.view (Rect.unit (s := S1x16x64x64) ![0, 15, 0, 0] S1x1x64x64.size inb_S1x16x64x64_S1x1x64x64_0_15_0_0).toLoadRect (harg2.unread x0)),
        maskA (View.readAt (Elt F) arg2.view (Rect.unit (s := S1x16x64x64) ![0, 3, 0, 0] S1x1x64x64.size inb_S1x16x64x64_S1x1x64x64_0_3_0_0).toLoadRect (harg2.unread x0)),
        maskA (View.readAt (Elt F) arg2.view (Rect.unit (s := S1x16x64x64) ![0, 4, 0, 0] S1x1x64x64.size inb_S1x16x64x64_S1x1x64x64_0_4_0_0).toLoadRect (harg2.unread x0)),
        maskA (View.readAt (Elt F) arg2.view (Rect.unit (s := S1x16x64x64) ![0, 5, 0, 0] S1x1x64x64.size inb_S1x16x64x64_S1x1x64x64_0_5_0_0).toLoadRect (harg2.unread x0)),
        maskA (View.readAt (Elt F) arg2.view (Rect.unit (s := S1x16x64x64) ![0, 6, 0, 0] S1x1x64x64.size inb_S1x16x64x64_S1x1x64x64_0_6_0_0).toLoadRect (harg2.unread x0)),
        maskA (View.readAt (Elt F) arg2.view (Rect.unit (s := S1x16x64x64) ![0, 7, 0, 0] S1x1x64x64.size inb_S1x16x64x64_S1x1x64x64_0_7_0_0).toLoadRect (harg2.unread x0)),
        maskA (View.readAt (Elt F) arg2.view (Rect.unit (s := S1x16x64x64) ![0, 8, 0, 0] S1x1x64x64.size inb_S1x16x64x64_S1x1x64x64_0_8_0_0).toLoadRect (harg2.unread x0)),
        maskA (View.readAt (Elt F) arg2.view (Rect.unit (s := S1x16x64x64) ![0, 9, 0, 0] S1x1x64x64.size inb_S1x16x64x64_S1x1x64x64_0_9_0_0).toLoadRect (harg2.unread x0)),
        maskA (View.readAt (Elt F) arg2.view (Rect.unit (s := S1x16x64x64) ![0, 10, 0, 0] S1x1x64x64.size inb_S1x16x64x64_S1x1x64x64_0_10_0_0).toLoadRect (harg2.unread x0)),
        maskB (View.readAt (Elt F) arg2.view (Rect.unit (s := S1x16x64x64) ![0, 15, 0, 0] S1x1x64x64.size inb_S1x16x64x64_S1x1x64x64_0_15_0_0).toLoadRect (harg2.unread x0))]⟩ : View.Piece (Elt F) S1x1x256x704 .f32),
      (⟨Rect.unit (s := S1x1x256x704) ![0, 0, 64, 0] S1x1x64x704.size inb_S1x1x256x704_S1x1x64x704_0_0_64_0, rowF ![maskB (View.readAt (Elt F) arg2.view (Rect.unit (s := S1x16x64x64) ![0, 15, 0, 0] S1x1x64x64.size inb_S1x16x64x64_S1x1x64x64_0_15_0_0).toLoadRect (harg2.unread x0)),
        maskA (View.readAt (Elt F) arg2.view (Rect.unit (s := S1x16x64x64) ![0, 3, 0, 0] S1x1x64x64.size inb_S1x16x64x64_S1x1x64x64_0_3_0_0).toLoadRect (harg2.unread x0)),
        maskA (View.readAt (Elt F) arg2.view (Rect.unit (s := S1x16x64x64) ![0, 4, 0, 0] S1x1x64x64.size inb_S1x16x64x64_S1x1x64x64_0_4_0_0).toLoadRect (harg2.unread x0)),
        maskA (View.readAt (Elt F) arg2.view (Rect.unit (s := S1x16x64x64) ![0, 5, 0, 0] S1x1x64x64.size inb_S1x16x64x64_S1x1x64x64_0_5_0_0).toLoadRect (harg2.unread x0)),
        maskA (View.readAt (Elt F) arg2.view (Rect.unit (s := S1x16x64x64) ![0, 6, 0, 0] S1x1x64x64.size inb_S1x16x64x64_S1x1x64x64_0_6_0_0).toLoadRect (harg2.unread x0)),
        maskA (View.readAt (Elt F) arg2.view (Rect.unit (s := S1x16x64x64) ![0, 7, 0, 0] S1x1x64x64.size inb_S1x16x64x64_S1x1x64x64_0_7_0_0).toLoadRect (harg2.unread x0)),
        maskA (View.readAt (Elt F) arg2.view (Rect.unit (s := S1x16x64x64) ![0, 8, 0, 0] S1x1x64x64.size inb_S1x16x64x64_S1x1x64x64_0_8_0_0).toLoadRect (harg2.unread x0)),
        maskA (View.readAt (Elt F) arg2.view (Rect.unit (s := S1x16x64x64) ![0, 9, 0, 0] S1x1x64x64.size inb_S1x16x64x64_S1x1x64x64_0_9_0_0).toLoadRect (harg2.unread x0)),
        maskA (View.readAt (Elt F) arg2.view (Rect.unit (s := S1x16x64x64) ![0, 10, 0, 0] S1x1x64x64.size inb_S1x16x64x64_S1x1x64x64_0_10_0_0).toLoadRect (harg2.unread x0)),
        maskB (View.readAt (Elt F) arg2.view (Rect.unit (s := S1x16x64x64) ![0, 15, 0, 0] S1x1x64x64.size inb_S1x16x64x64_S1x1x64x64_0_15_0_0).toLoadRect (harg2.unread x0)),
        maskB (View.readAt (Elt F) arg2.view (Rect.unit (s := S1x16x64x64) ![0, 15, 0, 0] S1x1x64x64.size inb_S1x16x64x64_S1x1x64x64_0_15_0_0).toLoadRect (harg2.unread x0))]⟩ : View.Piece (Elt F) S1x1x256x704 .f32),
      (⟨Rect.unit (s := S1x1x256x704) ![0, 0, 0, 0] S1x1x64x704.size inb_S1x1x256x704_S1x1x64x704_0_0_0_0, rowF ![maskA (View.readAt (Elt F) arg2.view (Rect.unit (s := S1x16x64x64) ![0, 3, 0, 0] S1x1x64x64.size inb_S1x16x64x64_S1x1x64x64_0_3_0_0).toLoadRect (harg2.unread x0)),
        maskA (View.readAt (Elt F) arg2.view (Rect.unit (s := S1x16x64x64) ![0, 4, 0, 0] S1x1x64x64.size inb_S1x16x64x64_S1x1x64x64_0_4_0_0).toLoadRect (harg2.unread x0)),
        maskA (View.readAt (Elt F) arg2.view (Rect.unit (s := S1x16x64x64) ![0, 5, 0, 0] S1x1x64x64.size inb_S1x16x64x64_S1x1x64x64_0_5_0_0).toLoadRect (harg2.unread x0)),
        maskA (View.readAt (Elt F) arg2.view (Rect.unit (s := S1x16x64x64) ![0, 6, 0, 0] S1x1x64x64.size inb_S1x16x64x64_S1x1x64x64_0_6_0_0).toLoadRect (harg2.unread x0)),
        maskA (View.readAt (Elt F) arg2.view (Rect.unit (s := S1x16x64x64) ![0, 7, 0, 0] S1x1x64x64.size inb_S1x16x64x64_S1x1x64x64_0_7_0_0).toLoadRect (harg2.unread x0)),
        maskA (View.readAt (Elt F) arg2.view (Rect.unit (s := S1x16x64x64) ![0, 8, 0, 0] S1x1x64x64.size inb_S1x16x64x64_S1x1x64x64_0_8_0_0).toLoadRect (harg2.unread x0)),
        maskA (View.readAt (Elt F) arg2.view (Rect.unit (s := S1x16x64x64) ![0, 9, 0, 0] S1x1x64x64.size inb_S1x16x64x64_S1x1x64x64_0_9_0_0).toLoadRect (harg2.unread x0)),
        maskA (View.readAt (Elt F) arg2.view (Rect.unit (s := S1x16x64x64) ![0, 10, 0, 0] S1x1x64x64.size inb_S1x16x64x64_S1x1x64x64_0_10_0_0).toLoadRect (harg2.unread x0)),
        maskB (View.readAt (Elt F) arg2.view (Rect.unit (s := S1x16x64x64) ![0, 15, 0, 0] S1x1x64x64.size inb_S1x16x64x64_S1x1x64x64_0_15_0_0).toLoadRect (harg2.unread x0)),
        maskB (View.readAt (Elt F) arg2.view (Rect.unit (s := S1x16x64x64) ![0, 15, 0, 0] S1x1x64x64.size inb_S1x16x64x64_S1x1x64x64_0_15_0_0).toLoadRect (harg2.unread x0)),
        maskB (View.readAt (Elt F) arg2.view (Rect.unit (s := S1x16x64x64) ![0, 15, 0, 0] S1x1x64x64.size inb_S1x16x64x64_S1x1x64x64_0_15_0_0).toLoadRect (harg2.unread x0))]⟩ : View.Piece (Elt F) S1x1x256x704 .f32)] := by
  unfold kernelRun0_B
  dsimp only
  rfl

theorem out0_B (c : Dev nD) (i : grid0.Coords) (arg2 : Memref sig .tc .vmem S1x16x64x64 .f32) (harg2 : arg2.IsWhole) (arg3 : Memref sig .tc .vmem S1x1x256x704 .f32) (harg3 : arg3.IsWhole) (hc0 : ¬cond0_0 i) (hc1 : cond0_1 i) (hc2 : ¬cond0_2 i) (x0 : Vec F S1x16x64x64 .f32) :
    out0_B_1 c i arg2 harg2 arg3 harg3 hc0 hc1 hc2 x0 = tableF x0 1 := by
  funext y
  unfold out0_B_1
  rw [View.read_writes_apply_eq_canon _ _ _ _ (cover0_B_1 c i arg2 harg2 arg3 harg3 hc0 hc1 hc2 x0 y)]
  refine View.canon_apply_of_pieces (tableF x0 1) _ ?_ y (cover0_B_1 c i arg2 harg2 arg3 harg3 hc0 hc1 hc2 x0 y)
  rw [pieces0_B]
  simp only [List.forall_mem_cons]
  refine ⟨?p3, ?p2, ?p1, ?p0, fun _ h => absurd h List.not_mem_nil⟩
  case p3 =>
    intro x
    refine Eq.trans ?_ (tableF_emb x0 1 3 _ _ rfl x).symm
    refine congrFun (congrArg rowF (funext fun j => ?_)) x
    match j with
    | ⟨0, _⟩ => exact (congrArg maskB (ld_blk arg2 harg2 x0 15 _ _ rfl)).trans (blkM_ge x0 15 (by decide)).symm
    | ⟨1, _⟩ => exact (congrArg maskB (ld_blk arg2 harg2 x0 15 _ _ rfl)).trans (blkM_ge x0 15 (by decide)).symm
    | ⟨2, _⟩ => exact (congrArg maskB (ld_blk arg2 harg2 x0 15 _ _ rfl)).trans (blkM_ge x0 15 (by decide)).symm
    | ⟨3, _⟩ => exact (congrArg maskA (ld_blk arg2 harg2 x0 3 _ _ rfl)).trans (blkM_lt x0 3 (by decide)).symm
    | ⟨4, _⟩ => exact (congrArg maskA (ld_blk arg2 harg2 x0 4 _ _ rfl)).trans (blkM_lt x0 4 (by decide)).symm
    | ⟨5, _⟩ => exact (congrArg maskA (ld_blk arg2 harg2 x0 5 _ _ rfl)).trans (blkM_lt x0 5 (by decide)).symm
    | ⟨6, _⟩ => exact (congrArg maskA (ld_blk arg2 harg2 x0 6 _ _ rfl)).trans (blkM_lt x0 6 (by decide)).symm
    | ⟨7, _⟩ => exact (congrArg maskA (ld_blk arg2 harg2 x0 7 _ _ rfl)).trans (blkM_lt x0 7 (by decide)).symm
    | ⟨8, _⟩ => exact (congrArg maskA (ld_blk arg2 harg2 x0 8 _ _ rfl)).trans (blkM_lt x0 8 (by decide)).symm
    | ⟨9, _⟩ => exact (congrArg maskA (ld_blk arg2 harg2 x0 9 _ _ rfl)).trans (blkM_lt x0 9 (by decide)).symm
    | ⟨10, _⟩ => exact (congrArg maskA (ld_blk arg2 harg2 x0 10 _ _ rfl)).trans (blkM_lt x0 10 (by decide)).symm
  case p2 =>
    intro x
    refine Eq.trans ?_ (tableF_emb x0 1 2 _ _ rfl x).symm
    refine congrFun (congrArg rowF (funext fun j => ?_)) x
    match j with
    | ⟨0, _⟩ => exact (congrArg maskB (ld_blk arg2 harg2 x0 15 _ _ rfl)).trans (blkM_ge x0 15 (by decide)).symm
    | ⟨1, _⟩ => exact (congrArg maskB (ld_blk arg2 harg2 x0 15 _ _ rfl)).trans (blkM_ge x0 15 (by decide)).symm
    | ⟨2, _⟩ => exact (congrArg maskA (ld_blk arg2 harg2 x0 3 _ _ rfl)).trans (blkM_lt x0 3 (by decide)).symm
    | ⟨3, _⟩ => exact (congrArg maskA (ld_blk arg2 harg2 x0 4 _ _ rfl)).trans (blkM_lt x0 4 (by decide)).symm
    | ⟨4, _⟩ => exact (congrArg maskA (ld_blk arg2 harg2 x0 5 _ _ rfl)).trans (blkM_lt x0 5 (by decide)).symm
    | ⟨5, _⟩ => exact (congrArg maskA (ld_blk arg2 harg2 x0 6 _ _ rfl)).trans (blkM_lt x0 6 (by decide)).symm
    | ⟨6, _⟩ => exact (congrArg maskA (ld_blk arg2 harg2 x0 7 _ _ rfl)).trans (blkM_lt x0 7 (by decide)).symm
    | ⟨7, _⟩ => exact (congrArg maskA (ld_blk arg2 harg2 x0 8 _ _ rfl)).trans (blkM_lt x0 8 (by decide)).symm
    | ⟨8, _⟩ => exact (congrArg maskA (ld_blk arg2 harg2 x0 9 _ _ rfl)).trans (blkM_lt x0 9 (by decide)).symm
    | ⟨9, _⟩ => exact (congrArg maskA (ld_blk arg2 harg2 x0 10 _ _ rfl)).trans (blkM_lt x0 10 (by decide)).symm
    | ⟨10, _⟩ => exact (congrArg maskB (ld_blk arg2 harg2 x0 15 _ _ rfl)).trans (blkM_ge x0 15 (by decide)).symm
  case p1 =>
    intro x
    refine Eq.trans ?_ (tableF_emb x0 1 1 _ _ rfl x).symm
    refine congrFun (congrArg rowF (funext fun j => ?_)) x
    match j with
    | ⟨0, _⟩ => exact (congrArg maskB (ld_blk arg2 harg2 x0 15 _ _ rfl)).trans (blkM_ge x0 15 (by decide)).symm
    | ⟨1, _⟩ => exact (congrArg maskA (ld_blk arg2 harg2 x0 3 _ _ rfl)).trans (blkM_lt x0 3 (by decide)).symm
    | ⟨2, _⟩ => exact (congrArg maskA (ld_blk arg2 harg2 x0 4 _ _ rfl)).trans (blkM_lt x0 4 (by decide)).symm
    | ⟨3, _⟩ => exact (congrArg maskA (ld_blk arg2 harg2 x0 5 _ _ rfl)).trans (blkM_lt x0 5 (by decide)).symm
    | ⟨4, _⟩ => exact (congrArg maskA (ld_blk arg2 harg2 x0 6 _ _ rfl)).trans (blkM_lt x0 6 (by decide)).symm
    | ⟨5, _⟩ => exact (congrArg maskA (ld_blk arg2 harg2 x0 7 _ _ rfl)).trans (blkM_lt x0 7 (by decide)).symm
    | ⟨6, _⟩ => exact (congrArg maskA (ld_blk arg2 harg2 x0 8 _ _ rfl)).trans (blkM_lt x0 8 (by decide)).symm
    | ⟨7, _⟩ => exact (congrArg maskA (ld_blk arg2 harg2 x0 9 _ _ rfl)).trans (blkM_lt x0 9 (by decide)).symm
    | ⟨8, _⟩ => exact (congrArg maskA (ld_blk arg2 harg2 x0 10 _ _ rfl)).trans (blkM_lt x0 10 (by decide)).symm
    | ⟨9, _⟩ => exact (congrArg maskB (ld_blk arg2 harg2 x0 15 _ _ rfl)).trans (blkM_ge x0 15 (by decide)).symm
    | ⟨10, _⟩ => exact (congrArg maskB (ld_blk arg2 harg2 x0 15 _ _ rfl)).trans (blkM_ge x0 15 (by decide)).symm
  case p0 =>
    intro x
    refine Eq.trans ?_ (tableF_emb x0 1 0 _ _ rfl x).symm
    refine congrFun (congrArg rowF (funext fun j => ?_)) x
    match j with
    | ⟨0, _⟩ => exact (congrArg maskA (ld_blk arg2 harg2 x0 3 _ _ rfl)).trans (blkM_lt x0 3 (by decide)).symm
    | ⟨1, _⟩ => exact (congrArg maskA (ld_blk arg2 harg2 x0 4 _ _ rfl)).trans (blkM_lt x0 4 (by decide)).symm
    | ⟨2, _⟩ => exact (congrArg maskA (ld_blk arg2 harg2 x0 5 _ _ rfl)).trans (blkM_lt x0 5 (by decide)).symm
    | ⟨3, _⟩ => exact (congrArg maskA (ld_blk arg2 harg2 x0 6 _ _ rfl)).trans (blkM_lt x0 6 (by decide)).symm
    | ⟨4, _⟩ => exact (congrArg maskA (ld_blk arg2 harg2 x0 7 _ _ rfl)).trans (blkM_lt x0 7 (by decide)).symm
    | ⟨5, _⟩ => exact (congrArg maskA (ld_blk arg2 harg2 x0 8 _ _ rfl)).trans (blkM_lt x0 8 (by decide)).symm
    | ⟨6, _⟩ => exact (congrArg maskA (ld_blk arg2 harg2 x0 9 _ _ rfl)).trans (blkM_lt x0 9 (by decide)).symm
    | ⟨7, _⟩ => exact (congrArg maskA (ld_blk arg2 harg2 x0 10 _ _ rfl)).trans (blkM_lt x0 10 (by decide)).symm
    | ⟨8, _⟩ => exact (congrArg maskB (ld_blk arg2 harg2 x0 15 _ _ rfl)).trans (blkM_ge x0 15 (by decide)).symm
    | ⟨9, _⟩ => exact (congrArg maskB (ld_blk arg2 harg2 x0 15 _ _ rfl)).trans (blkM_ge x0 15 (by decide)).symm
    | ⟨10, _⟩ => exact (congrArg maskB (ld_blk arg2 harg2 x0 15 _ _ rfl)).trans (blkM_ge x0 15 (by decide)).symm

theorem pieces0_C (c : Dev nD) (i : grid0.Coords) (arg2 : Memref sig .tc .vmem S1x16x64x64 .f32) (harg2 : arg2.IsWhole) (arg3 : Memref sig .tc .vmem S1x1x256x704 .f32) (harg3 : arg3.IsWhole) (hc0 : ¬cond0_0 i) (hc1 : ¬cond0_1 i) (hc2 : cond0_2 i) (x0 : Vec F S1x16x64x64 .f32) :
    (kernelRun0_C c i arg2 harg2 arg3 harg3 hc0 hc1 hc2 x0).1 = [
      (⟨Rect.unit (s := S1x1x256x704) ![0, 0, 192, 0] S1x1x64x704.size inb_S1x1x256x704_S1x1x64x704_0_0_192_0, rowF ![maskB (View.readAt (Elt F) arg2.view (Rect.unit (s := S1x16x64x64) ![0, 15, 0, 0] S1x1x64x64.size inb_S1x16x64x64_S1x1x64x64_0_15_0_0).toLoadRect (harg2.unread x0)),
        maskB (View.readAt (Elt F) arg2.view (Rect.unit (s := S1x16x64x64) ![0, 15, 0, 0] S1x1x64x64.size inb_S1x16x64x64_S1x1x64x64_0_15_0_0).toLoadRect (harg2.unread x0)),
        maskB (View.readAt (Elt F) arg2.view (Rect.unit (s := S1x16x64x64) ![0, 15, 0, 0] S1x1x64x64.size inb_S1x16x64x64_S1x1x64x64_0_15_0_0).toLoadRect (harg2.unread x0)),
        maskA (View.readAt (Elt F) arg2.view (Rect.unit (s := S1x16x64x64) ![0, 0, 0, 0] S1x1x64x64.size inb_S1x16x64x64_S1x1x64x64_0_0_0_0).toLoadRect (harg2.unread x0)),
        maskA (View.readAt (Elt F) arg2.view (Rect.unit (s := S1x16x64x64) ![0, 1, 0, 0] S1x1x64x64.size inb_S1x16x64x64_S1x1x64x64_0_1_0_0).toLoadRect (harg2.unread x0)),
        maskA (View.readAt (Elt F) arg2.view (Rect.unit (s := S1x16x64x64) ![0, 2, 0, 0] S1x1x64x64.size inb_S1x16x64x64_S1x1x64x64_0_2_0_0).toLoadRect (harg2.unread x0)),
        maskA (View.readAt (Elt F) arg2.view (Rect.unit (s := S1x16x64x64) ![0, 3, 0, 0] S1x1x64x64.size inb_S1x16x64x64_S1x1x64x64_0_3_0_0).toLoadRect (harg2.unread x0)),
        maskA (View.readAt (Elt F) arg2.view (Rect.unit (s := S1x16x64x64) ![0, 4, 0, 0] S1x1x64x64.size inb_S1x16x64x64_S1x1x64x64_0_4_0_0).toLoadRect (harg2.unread x0)),
        maskA (View.readAt (Elt F) arg2.view (Rect.unit (s := S1x16x64x64) ![0, 5, 0, 0] S1x1x64x64.size inb_S1x16x64x64_S1x1x64x64_0_5_0_0).toLoadRect (harg2.unread x0)),
        maskA (View.readAt (Elt F) arg2.view (Rect.unit (s := S1x16x64x64) ![0, 6, 0, 0] S1x1x64x64.size inb_S1x16x64x64_S1x1x64x64_0_6_0_0).toLoadRect (harg2.unread x0)),
        maskA (View.readAt (Elt F) arg2.view (Rect.unit (s := S1x16x64x64) ![0, 7, 0, 0] S1x1x64x64.size inb_S1x16x64x64_S1x1x64x64_0_7_0_0).toLoadRect (harg2.unread x0))]⟩ : View.Piece (Elt F) S1x1x256x704 .f32),
      (⟨Rect.unit (s := S1x1x256x704) ![0, 0, 128, 0] S1x1x64x704.size inb_S1x1x256x704_S1x1x64x704_0_0_128_0, rowF ![maskB (View.readAt (Elt F) arg2.view (Rect.unit (s := S1x16x64x64) ![0, 15, 0, 0] S1x1x64x64.size inb_S1x16x64x64_S1x1x64x64_0_15_0_0).toLoadRect (harg2.unread x0)),
        maskB (View.readAt (Elt F) arg2.view (Rect.unit (s := S1x16x64x64) ![0, 15, 0, 0] S1x1x64x64.size inb_S1x16x64x64_S1x1x64x64_0_15_0_0).toLoadRect (harg2.unread x0)),
        maskB (View.readAt (Elt F) arg2.view (Rect.unit (s := S1x16x64x64) ![0, 15, 0, 0] S1x1x64x64.size inb_S1x16x64x64_S1x1x64x64_0_15_0_0).toLoadRect (harg2.unread x0)),
        maskA (View.readAt (Elt F) arg2.view (Rect.unit (s := S1x16x64x64) ![0, 1, 0, 0] S1x1x64x64.size inb_S1x16x64x64_S1x1x64x64_0_1_0_0).toLoadRect (harg2.unread x0)),
        maskA (View.readAt (Elt F) arg2.view (Rect.unit (s := S1x16x64x64) ![0, 2, 0, 0] S1x1x64x64.size inb_S1x16x64x64_S1x1x64x64_0_2_0_0).toLoadRect (harg2.unread x0)),
        maskA (View.readAt (Elt F) arg2.view (Rect.unit (s := S1x16x64x64) ![0, 3, 0, 0] S1x1x64x64.size inb_S1x16x64x64_S1x1x64x64_0_3_0_0).toLoadRect (harg2.unread x0)),
        maskA (View.readAt (Elt F) arg2.view (Rect.unit (s := S1x16x64x64) ![0, 4, 0, 0] S1x1x64x64.size inb_S1x16x64x64_S1x1x64x64_0_4_0_0).toLoadRect (harg2.unread x0)),
        maskA (View.readAt (Elt F) arg2.view (Rect.unit (s := S1x16x64x64) ![0, 5, 0, 0] S1x1x64x64.size inb_S1x16x64x64_S1x1x64x64_0_5_0_0).toLoadRect (harg2.unread x0)),
        maskA (View.readAt (Elt F) arg2.view (Rect.unit (s := S1x16x64x64) ![0, 6, 0, 0] S1x1x64x64.size inb_S1x16x64x64_S1x1x64x64_0_6_0_0).toLoadRect (harg2.unread x0)),
        maskA (View.readAt (Elt F) arg2.view (Rect.unit (s := S1x16x64x64) ![0, 7, 0, 0] S1x1x64x64.size inb_S1x16x64x64_S1x1x64x64_0_7_0_0).toLoadRect (harg2.unread x0)),
        maskA (View.readAt (Elt F) arg2.view (Rect.unit (s := S1x16x64x64) ![0, 8, 0, 0] S1x1x64x64.size inb_S1x16x64x64_S1x1x64x64_0_8_0_0).toLoadRect (harg2.unread x0))]⟩ : View.Piece (Elt F) S1x1x256x704 .f32),
      (⟨Rect.unit (s := S1x1x256x704) ![0, 0, 64, 0] S1x1x64x704.size inb_S1x1x256x704_S1x1x64x704_0_0_64_0, rowF ![maskB (View.readAt (Elt F) arg2.view (Rect.unit (s := S1x16x64x64) ![0, 15, 0, 0] S1x1x64x64.size inb_S1x16x64x64_S1x1x64x64_0_15_0_0).toLoadRect (harg2.unread x0)),
        maskB (View.readAt (Elt F) arg2.view (Rect.unit (s := S1x16x64x64) ![0, 15, 0, 0] S1x1x64x64.size inb_S1x16x64x64_S1x1x64x64_0_15_0_0).toLoadRect (harg2.unread x0)),
        maskB (View.readAt (Elt F) arg2.view (Rect.unit (s := S1x16x64x64) ![0, 15, 0, 0] S1x1x64x64.size inb_S1x16x64x64_S1x1x64x64_0_15_0_0).toLoadRect (harg2.unread x0)),
        maskA (View.readAt (Elt F) arg2.view (Rect.unit (s := S1x16x64x64) ![0, 2, 0, 0] S1x1x64x64.size inb_S1x16x64x64_S1x1x64x64_0_2_0_0).toLoadRect (harg2.unread x0)),
        maskA (View.readAt (Elt F) arg2.view (Rect.unit (s := S1x16x64x64) ![0, 3, 0, 0] S1x1x64x64.size inb_S1x16x64x64_S1x1x64x64_0_3_0_0).toLoadRect (harg2.unread x0)),
        maskA (View.readAt (Elt F) arg2.view (Rect.unit (s := S1x16x64x64) ![0, 4, 0, 0] S1x1x64x64.size inb_S1x16x64x64_S1x1x64x64_0_4_0_0).toLoadRect (harg2.unread x0)),
        maskA (View.readAt (Elt F) arg2.view (Rect.unit (s := S1x16x64x64) ![0, 5, 0, 0] S1x1x64x64.size inb_S1x16x64x64_S1x1x64x64_0_5_0_0).toLoadRect (harg2.unread x0)),
        maskA (View.readAt (Elt F) arg2.view (Rect.unit (s := S1x16x64x64) ![0, 6, 0, 0] S1x1x64x64.size inb_S1x16x64x64_S1x1x64x64_0_6_0_0).toLoadRect (harg2.unread x0)),
        maskA (View.readAt (Elt F) arg2.view (Rect.unit (s := S1x16x64x64) ![0, 7, 0, 0] S1x1x64x64.size inb_S1x16x64x64_S1x1x64x64_0_7_0_0).toLoadRect (harg2.unread x0)),
        maskA (View.readAt (Elt F) arg2.view (Rect.unit (s := S1x16x64x64) ![0, 8, 0, 0] S1x1x64x64.size inb_S1x16x64x64_S1x1x64x64_0_8_0_0).toLoadRect (harg2.unread x0)),
        maskA (View.readAt (Elt F) arg2.view (Rect.unit (s := S1x16x64x64) ![0, 9, 0, 0] S1x1x64x64.size inb_S1x16x64x64_S1x1x64x64_0_9_0_0).toLoadRect (harg2.unread x0))]⟩ : View.Piece (Elt F) S1x1x256x704 .f32),
      (⟨Rect.unit (s := S1x1x256x704) ![0, 0, 0, 0] S1x1x64x704.size inb_S1x1x256x704_S1x1x64x704_0_0_0_0, rowF ![maskB (View.readAt (Elt F) arg2.view (Rect.unit (s := S1x16x64x64) ![0, 15, 0, 0] S1x1x64x64.size inb_S1x16x64x64_S1x1x64x64_0_15_0_0).toLoadRect (harg2.unread x0)),
        maskB (View.readAt (Elt F) arg2.view (Rect.unit (s := S1x16x64x64) ![0, 15, 0, 0] S1x1x64x64.size inb_S1x16x64x64_S1x1x64x64_0_15_0_0).toLoadRect (harg2.unread x0)),
        maskB (View.readAt (Elt F) arg2.view (Rect.unit (s := S1x16x64x64) ![0, 15, 0, 0] S1x1x64x64.size inb_S1x16x64x64_S1x1x64x64_0_15_0_0).toLoadRect (harg2.unread x0)),
        maskA (View.readAt (Elt F) arg2.view (Rect.unit (s := S1x16x64x64) ![0, 3, 0, 0] S1x1x64x64.size inb_S1x16x64x64_S1x1x64x64_0_3_0_0).toLoadRect (harg2.unread x0)),
        maskA (View.readAt (Elt F) arg2.view (Rect.unit (s := S1x16x64x64) ![0, 4, 0, 0] S1x1x64x64.size inb_S1x16x64x64_S1x1x64x64_0_4_0_0).toLoadRect (harg2.unread x0)),
        maskA (View.readAt (Elt F) arg2.view (Rect.unit (s := S1x16x64x64) ![0, 5, 0, 0] S1x1x64x64.size inb_S1x16x64x64_S1x1x64x64_0_5_0_0).toLoadRect (harg2.unread x0)),
        maskA (View.readAt (Elt F) arg2.view (Rect.unit (s := S1x16x64x64) ![0, 6, 0, 0] S1x1x64x64.size inb_S1x16x64x64_S1x1x64x64_0_6_0_0).toLoadRect (harg2.unread x0)),
        maskA (View.readAt (Elt F) arg2.view (Rect.unit (s := S1x16x64x64) ![0, 7, 0, 0] S1x1x64x64.size inb_S1x16x64x64_S1x1x64x64_0_7_0_0).toLoadRect (harg2.unread x0)),
        maskA (View.readAt (Elt F) arg2.view (Rect.unit (s := S1x16x64x64) ![0, 8, 0, 0] S1x1x64x64.size inb_S1x16x64x64_S1x1x64x64_0_8_0_0).toLoadRect (harg2.unread x0)),
        maskA (View.readAt (Elt F) arg2.view (Rect.unit (s := S1x16x64x64) ![0, 9, 0, 0] S1x1x64x64.size inb_S1x16x64x64_S1x1x64x64_0_9_0_0).toLoadRect (harg2.unread x0)),
        maskA (View.readAt (Elt F) arg2.view (Rect.unit (s := S1x16x64x64) ![0, 10, 0, 0] S1x1x64x64.size inb_S1x16x64x64_S1x1x64x64_0_10_0_0).toLoadRect (harg2.unread x0))]⟩ : View.Piece (Elt F) S1x1x256x704 .f32)] := by
  unfold kernelRun0_C
  dsimp only
  rfl

theorem out0_C (c : Dev nD) (i : grid0.Coords) (arg2 : Memref sig .tc .vmem S1x16x64x64 .f32) (harg2 : arg2.IsWhole) (arg3 : Memref sig .tc .vmem S1x1x256x704 .f32) (harg3 : arg3.IsWhole) (hc0 : ¬cond0_0 i) (hc1 : ¬cond0_1 i) (hc2 : cond0_2 i) (x0 : Vec F S1x16x64x64 .f32) :
    out0_C_1 c i arg2 harg2 arg3 harg3 hc0 hc1 hc2 x0 = tableF x0 2 := by
  funext y
  unfold out0_C_1
  rw [View.read_writes_apply_eq_canon _ _ _ _ (cover0_C_1 c i arg2 harg2 arg3 harg3 hc0 hc1 hc2 x0 y)]
  refine View.canon_apply_of_pieces (tableF x0 2) _ ?_ y (cover0_C_1 c i arg2 harg2 arg3 harg3 hc0 hc1 hc2 x0 y)
  rw [pieces0_C]
  simp only [List.forall_mem_cons]
  refine ⟨?p3, ?p2, ?p1, ?p0, fun _ h => absurd h List.not_mem_nil⟩
  case p3 =>
    intro x
    refine Eq.trans ?_ (tableF_emb x0 2 3 _ _ rfl x).symm
    refine congrFun (congrArg rowF (funext fun j => ?_)) x
    match j with
    | ⟨0, _⟩ => exact (congrArg maskB (ld_blk arg2 harg2 x0 15 _ _ rfl)).trans (blkM_ge x0 15 (by decide)).symm
    | ⟨1, _⟩ => exact (congrArg maskB (ld_blk arg2 harg2 x0 15 _ _ rfl)).trans (blkM_ge x0 15 (by decide)).symm
    | ⟨2, _⟩ => exact (congrArg maskB (ld_blk arg2 harg2 x0 15 _ _ rfl)).trans (blkM_ge x0 15 (by decide)).symm
    | ⟨3, _⟩ => exact (congrArg maskA (ld_blk arg2 harg2 x0 0 _ _ rfl)).trans (blkM_lt x0 0 (by decide)).symm
    | ⟨4, _⟩ => exact (congrArg maskA (ld_blk arg2 harg2 x0 1 _ _ rfl)).trans (blkM_lt x0 1 (by decide)).symm
    | ⟨5, _⟩ => exact (congrArg maskA (ld_blk arg2 harg2 x0 2 _ _ rfl)).trans (blkM_lt x0 2 (by decide)).symm
    | ⟨6, _⟩ => exact (congrArg maskA (ld_blk arg2 harg2 x0 3 _ _ rfl)).trans (blkM_lt x0 3 (by decide)).symm
    | ⟨7, _⟩ => exact (congrArg maskA (ld_blk arg2 harg2 x0 4 _ _ rfl)).trans (blkM_lt x0 4 (by decide)).symm
    | ⟨8, _⟩ => exact (congrArg maskA (ld_blk arg2 harg2 x0 5 _ _ rfl)).trans (blkM_lt x0 5 (by decide)).symm
    | ⟨9, _⟩ => exact (congrArg maskA (ld_blk arg2 harg2 x0 6 _ _ rfl)).trans (blkM_lt x0 6 (by decide)).symm
    | ⟨10, _⟩ => exact (congrArg maskA (ld_blk arg2 harg2 x0 7 _ _ rfl)).trans (blkM_lt x0 7 (by decide)).symm
  case p2 =>
    intro x
    refine Eq.trans ?_ (tableF_emb x0 2 2 _ _ rfl x).symm
    refine congrFun (congrArg rowF (funext fun j => ?_)) x
    match j with
    | ⟨0, _⟩ => exact (congrArg maskB (ld_blk arg2 harg2 x0 15 _ _ rfl)).trans (blkM_ge x0 15 (by decide)).symm
    | ⟨1, _⟩ => exact (congrArg maskB (ld_blk arg2 harg2 x0 15 _ _ rfl)).trans (blkM_ge x0 15 (by decide)).symm
    | ⟨2, _⟩ => exact (congrArg maskB (ld_blk arg2 harg2 x0 15 _ _ rfl)).trans (blkM_ge x0 15 (by decide)).symm
    | ⟨3, _⟩ => exact (congrArg maskA (ld_blk arg2 harg2 x0 1 _ _ rfl)).trans (blkM_lt x0 1 (by decide)).symm
    | ⟨4, _⟩ => exact (congrArg maskA (ld_blk arg2 harg2 x0 2 _ _ rfl)).trans (blkM_lt x0 2 (by decide)).symm
    | ⟨5, _⟩ => exact (congrArg maskA (ld_blk arg2 harg2 x0 3 _ _ rfl)).trans (blkM_lt x0 3 (by decide)).symm
    | ⟨6, _⟩ => exact (congrArg maskA (ld_blk arg2 harg2 x0 4 _ _ rfl)).trans (blkM_lt x0 4 (by decide)).symm
    | ⟨7, _⟩ => exact (congrArg maskA (ld_blk arg2 harg2 x0 5 _ _ rfl)).trans (blkM_lt x0 5 (by decide)).symm
    | ⟨8, _⟩ => exact (congrArg maskA (ld_blk arg2 harg2 x0 6 _ _ rfl)).trans (blkM_lt x0 6 (by decide)).symm
    | ⟨9, _⟩ => exact (congrArg maskA (ld_blk arg2 harg2 x0 7 _ _ rfl)).trans (blkM_lt x0 7 (by decide)).symm
    | ⟨10, _⟩ => exact (congrArg maskA (ld_blk arg2 harg2 x0 8 _ _ rfl)).trans (blkM_lt x0 8 (by decide)).symm
  case p1 =>
    intro x
    refine Eq.trans ?_ (tableF_emb x0 2 1 _ _ rfl x).symm
    refine congrFun (congrArg rowF (funext fun j => ?_)) x
    match j with
    | ⟨0, _⟩ => exact (congrArg maskB (ld_blk arg2 harg2 x0 15 _ _ rfl)).trans (blkM_ge x0 15 (by decide)).symm
    | ⟨1, _⟩ => exact (congrArg maskB (ld_blk arg2 harg2 x0 15 _ _ rfl)).trans (blkM_ge x0 15 (by decide)).symm
    | ⟨2, _⟩ => exact (congrArg maskB (ld_blk arg2 harg2 x0 15 _ _ rfl)).trans (blkM_ge x0 15 (by decide)).symm
    | ⟨3, _⟩ => exact (congrArg maskA (ld_blk arg2 harg2 x0 2 _ _ rfl)).trans (blkM_lt x0 2 (by decide)).symm
    | ⟨4, _⟩ => exact (congrArg maskA (ld_blk arg2 harg2 x0 3 _ _ rfl)).trans (blkM_lt x0 3 (by decide)).symm
    | ⟨5, _⟩ => exact (congrArg maskA (ld_blk arg2 harg2 x0 4 _ _ rfl)).trans (blkM_lt x0 4 (by decide)).symm
    | ⟨6, _⟩ => exact (congrArg maskA (ld_blk arg2 harg2 x0 5 _ _ rfl)).trans (blkM_lt x0 5 (by decide)).symm
    | ⟨7, _⟩ => exact (congrArg maskA (ld_blk arg2 harg2 x0 6 _ _ rfl)).trans (blkM_lt x0 6 (by decide)).symm
    | ⟨8, _⟩ => exact (congrArg maskA (ld_blk arg2 harg2 x0 7 _ _ rfl)).trans (blkM_lt x0 7 (by decide)).symm
    | ⟨9, _⟩ => exact (congrArg maskA (ld_blk arg2 harg2 x0 8 _ _ rfl)).trans (blkM_lt x0 8 (by decide)).symm
    | ⟨10, _⟩ => exact (congrArg maskA (ld_blk arg2 harg2 x0 9 _ _ rfl)).trans (blkM_lt x0 9 (by decide)).symm
  case p0 =>
    intro x
    refine Eq.trans ?_ (tableF_emb x0 2 0 _ _ rfl x).symm
    refine congrFun (congrArg rowF (funext fun j => ?_)) x
    match j with
    | ⟨0, _⟩ => exact (congrArg maskB (ld_blk arg2 harg2 x0 15 _ _ rfl)).trans (blkM_ge x0 15 (by decide)).symm
    | ⟨1, _⟩ => exact (congrArg maskB (ld_blk arg2 harg2 x0 15 _ _ rfl)).trans (blkM_ge x0 15 (by decide)).symm
    | ⟨2, _⟩ => exact (congrArg maskB (ld_blk arg2 harg2 x0 15 _ _ rfl)).trans (blkM_ge x0 15 (by decide)).symm
    | ⟨3, _⟩ => exact (congrArg maskA (ld_blk arg2 harg2 x0 3 _ _ rfl)).trans (blkM_lt x0 3 (by decide)).symm
    | ⟨4, _⟩ => exact (congrArg maskA (ld_blk arg2 harg2 x0 4 _ _ rfl)).trans (blkM_lt x0 4 (by decide)).symm
    | ⟨5, _⟩ => exact (congrArg maskA (ld_blk arg2 harg2 x0 5 _ _ rfl)).trans (blkM_lt x0 5 (by decide)).symm
    | ⟨6, _⟩ => exact (congrArg maskA (ld_blk arg2 harg2 x0 6 _ _ rfl)).trans (blkM_lt x0 6 (by decide)).symm
    | ⟨7, _⟩ => exact (congrArg maskA (ld_blk arg2 harg2 x0 7 _ _ rfl)).trans (blkM_lt x0 7 (by decide)).symm
    | ⟨8, _⟩ => exact (congrArg maskA (ld_blk arg2 harg2 x0 8 _ _ rfl)).trans (blkM_lt x0 8 (by decide)).symm
    | ⟨9, _⟩ => exact (congrArg maskA (ld_blk arg2 harg2 x0 9 _ _ rfl)).trans (blkM_lt x0 9 (by decide)).symm
    | ⟨10, _⟩ => exact (congrArg maskA (ld_blk arg2 harg2 x0 10 _ _ rfl)).trans (blkM_lt x0 10 (by decide)).symm

end Cert.KernelIdeal.Value
-- ==== Proof.Arr.lean ====
module

public import proofs.«01_k».proof.Proof.Gen.KernelIdeal.Frame
public import proofs.«01_k».proof.Proof.Attn
public import proofs.«01_k».proof.Proof.Table

@[expose] public section

set_option maxRecDepth 16384

noncomputable section

namespace Cert.KernelIdeal.Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-! The two arrays the regions leave: the table of biases, and the result. -/

variable (V : (c : Dev nD) → (b : Ref sig .tc) → Buf (Elt F) ((c : Thread nD τ).loc b))

/-! ## The first region -/

/-- The blocks of head `h`. -/
def headBlk (B : Vec F S8x16x64x64 .f32) (h : Fin 8) : Vec F S1x16x64x64 .f32 := fun j =>
  B (ix4 h ⟨(j 1).val, (j 1).isLt⟩ ⟨(j 2).val, (j 2).isLt⟩ ⟨(j 3).val, (j 3).isLt⟩)

/-- The table of biases, of the blocks. -/
def tableArr (B : Vec F S8x16x64x64 .f32) : Vec F S3x8x256x704 .f32 := fun y =>
  tableF (headBlk B ⟨(y 1).val, (y 1).isLt⟩) ⟨(y 0).val, (y 0).isLt⟩ (ix4 0 0 ⟨(y 2).val, (y 2).isLt⟩ ⟨(y 3).val, (y 3).isLt⟩)

theorem idx0_0 : ∀ t : Fin cfg0.N, win0_0.index t = ![t.val % 8, 0, 0, 0] := (by decide +kernel : ∀ t : Fin grid0.N, _)
theorem idx0_1 : ∀ t : Fin cfg0.N, win0_1.index t = ![t.val / 8, t.val % 8, 0, 0] := (by decide +kernel : ∀ t : Fin grid0.N, _)

theorem n0 (t : Fin cfg0.N) : t.val < 24 := lt_of_lt_of_eq t.isLt (show cfg0.N = 24 from N_0)
theorem n1 (t : Fin cfg1.N) : t.val < 64 := lt_of_lt_of_eq t.isLt (show cfg1.N = 64 from N_1)

theorem outs0 (c : Dev nD) (t : Fin cfg0.N) : outsAt0 V c t.val t.isLt = tableF (iblk0 V c 0 t) ⟨t.val / 8, by have := n0 t; omega⟩ := by
  have hN := n0 t
  by_cases h0 : t.val < 8
  · rw [outsAt0_A V c t h0 (by omega) (by omega), out0_A]
    congr 1; exact Fin.ext (show 0 = t.val / 8 by omega)
  · by_cases h2 : 16 ≤ t.val
    · rw [outsAt0_C V c t h0 (by omega) h2, out0_C]
      congr 1; exact Fin.ext (show 2 = t.val / 8 by omega)
    · rw [outsAt0_B V c t h0 (by omega) h2, out0_B]
      congr 1; exact Fin.ext (show 1 = t.val / 8 by omega)

theorem iblk0_eq (c : Dev nD) (t : Fin cfg0.N) : iblk0 V c 0 t = headBlk (V c main_v38) ⟨t.val % 8, by omega⟩ := by
  funext j
  have h0 : (j 0).val = 0 := Nat.lt_one_iff.mp (j 0).isLt
  unfold headBlk
  show V c main_v38 ((win0_0.blk t).view.emb j) = _
  congr 1
  blk_ext [idx0_0 t, h0]

theorem arr0 (c : Dev nD) : (dat0 V c).arrAt 1 cfg0.N = tableArr (V c main_v38) := by
  refine (dat0 V c).arrAt_eq_of_covers 1 _ (by decide +kernel) fun t hf y => ?_
  blk_simp
  rw [after0_1, outs0, iblk0_eq]
  have h0 : (y 0).val = 0 := Nat.lt_one_iff.mp (y 0).isLt
  have h1 : (y 1).val = 0 := Nat.lt_one_iff.mp (y 1).isLt
  have hN := n0 t
  unfold tableArr
  have e0 : ((win0_1.blk t).view.emb y 0).val = t.val / 8 := by blk_simp [idx0_1 t, h0]
  have e1 : ((win0_1.blk t).view.emb y 1).val = t.val % 8 := by blk_simp [idx0_1 t, h1]
  have e2 : ((win0_1.blk t).view.emb y 2).val = (y 2).val := by blk_simp [idx0_1 t]
  have e3 : ((win0_1.blk t).view.emb y 3).val = (y 3).val := by blk_simp [idx0_1 t]
  refine congr (congr (congrArg tableF (congrArg (headBlk _) (Fin.ext e1.symm))) (Fin.ext e0.symm)) ?_
  · funext d
    match d with
    | ⟨0, _⟩ => exact Fin.ext h0
    | ⟨1, _⟩ => exact Fin.ext h1
    | ⟨2, _⟩ => exact Fin.ext e2.symm
    | ⟨3, _⟩ => exact Fin.ext e3.symm

/-! ## The second region -/

/-- Block `n` of 512 rows. -/
def rows512 (Q : Vec F S32768x512 .bf16) (n : Fin 64) : Vec F S512x512 .bf16 := fun j =>
  Q (ix2 ⟨512 * n.val + (j 0).val, by have := (j 0).isLt; simp at this; omega⟩ ⟨(j 1).val, (j 1).isLt⟩)
/-- Batch `b` of the window's rows. -/
def rows4096 (K : Vec F S32768x512 .bf16) (b : Fin 8) : Vec F S4096x512 .bf16 := fun j =>
  K (ix2 ⟨4096 * b.val + (j 0).val, by have := (j 0).isLt; simp at this; omega⟩ ⟨(j 1).val, (j 1).isLt⟩)
/-- Batch `b` of the context's rows. -/
def rows256 (K : Vec F S2048x512 .bf16) (b : Fin 8) : Vec F S256x512 .bf16 := fun j =>
  K (ix2 ⟨256 * b.val + (j 0).val, by have := (j 0).isLt; simp at this; omega⟩ ⟨(j 1).val, (j 1).isLt⟩)

/-- What the second region leaves at point `n`. -/
def pointOut (Q K Vv : Vec F S32768x512 .bf16) (Kc Vc : Vec F S2048x512 .bf16) (T : Vec F S3x8x256x704 .f32) (n : Fin 64) : Vec F S512x512 .bf16 :=
  blockOut (rows512 Q n) (rows4096 K ⟨n.val / 8, by omega⟩) (rows4096 Vv ⟨n.val / 8, by omega⟩)
    (rows256 Kc ⟨n.val / 8, by omega⟩) (rows256 Vc ⟨n.val / 8, by omega⟩) T (n.val % 8)

/-- The result, of the region's arrays. -/
def attnArr (Q K Vv : Vec F S32768x512 .bf16) (Kc Vc : Vec F S2048x512 .bf16) (T : Vec F S3x8x256x704 .f32) : Vec F S32768x512 .bf16 := fun y =>
  pointOut Q K Vv Kc Vc T ⟨(y 0).val / 512, by have := (y 0).isLt; simp at this; omega⟩ (ix2 ⟨(y 0).val % 512, by omega⟩ ⟨(y 1).val, (y 1).isLt⟩)

theorem idx1_0 : ∀ t : Fin cfg1.N, win1_0.index t = ![t.val, 0] := (by decide +kernel : ∀ t : Fin grid1.N, _)
theorem idx1_1 : ∀ t : Fin cfg1.N, win1_1.index t = ![t.val / 8, 0] := (by decide +kernel : ∀ t : Fin grid1.N, _)
theorem idx1_2 : ∀ t : Fin cfg1.N, win1_2.index t = ![t.val / 8, 0] := (by decide +kernel : ∀ t : Fin grid1.N, _)
theorem idx1_3 : ∀ t : Fin cfg1.N, win1_3.index t = ![t.val / 8, 0] := (by decide +kernel : ∀ t : Fin grid1.N, _)
theorem idx1_4 : ∀ t : Fin cfg1.N, win1_4.index t = ![t.val / 8, 0] := (by decide +kernel : ∀ t : Fin grid1.N, _)
theorem idx1_5 : ∀ t : Fin cfg1.N, win1_5.index t = ![0, 0, 0, 0] := (by decide +kernel : ∀ t : Fin grid1.N, _)
theorem idx1_6 : ∀ t : Fin cfg1.N, win1_6.index t = ![t.val, 0] := (by decide +kernel : ∀ t : Fin grid1.N, _)

theorem iblk1_0 (c : Dev nD) (t : Fin cfg1.N) : iblk1 V c 0 t = rows512 (V c main_v41) ⟨t.val, n1 t⟩ := by
  funext j; unfold rows512
  show V c main_v41 ((win1_0.blk t).view.emb j) = _
  congr 1
  blk_ext [idx1_0 t]
theorem iblk1_1 (c : Dev nD) (t : Fin cfg1.N) : iblk1 V c 1 t = rows4096 (V c main_v43) ⟨t.val / 8, by have := n1 t; omega⟩ := by
  funext j; unfold rows4096
  show V c main_v43 ((win1_1.blk t).view.emb j) = _
  congr 1
  blk_ext [idx1_1 t]
theorem iblk1_2 (c : Dev nD) (t : Fin cfg1.N) : iblk1 V c 2 t = rows4096 (V c main_v45) ⟨t.val / 8, by have := n1 t; omega⟩ := by
  funext j; unfold rows4096
  show V c main_v45 ((win1_2.blk t).view.emb j) = _
  congr 1
  blk_ext [idx1_2 t]
theorem iblk1_3 (c : Dev nD) (t : Fin cfg1.N) : iblk1 V c 3 t = rows256 (V c main_v47) ⟨t.val / 8, by have := n1 t; omega⟩ := by
  funext j; unfold rows256
  show V c main_v47 ((win1_3.blk t).view.emb j) = _
  congr 1
  blk_ext [idx1_3 t]
theorem iblk1_4 (c : Dev nD) (t : Fin cfg1.N) : iblk1 V c 4 t = rows256 (V c main_v49) ⟨t.val / 8, by have := n1 t; omega⟩ := by
  funext j; unfold rows256
  show V c main_v49 ((win1_4.blk t).view.emb j) = _
  congr 1
  blk_ext [idx1_4 t]
theorem iblk1_5 (c : Dev nD) (t : Fin cfg1.N) : iblk1 V c 5 t = V c main_v39 := by
  funext j
  show V c main_v39 ((win1_5.blk t).view.emb j) = _
  congr 1
  blk_ext [idx1_5 t]

theorem outs1 (c : Dev nD) (t : Fin cfg1.N) : outsAt1 V c t
    = pointOut (V c main_v41) (V c main_v43) (V c main_v45) (V c main_v47) (V c main_v49) (V c main_v39) ⟨t.val, n1 t⟩ := by
  unfold outsAt1
  rw [out1 c t, iblk1_0, iblk1_1, iblk1_2, iblk1_3, iblk1_4, iblk1_5]
  rfl

theorem arr1 (c : Dev nD) : (dat1 V c).arrAt 6 cfg1.N
    = attnArr (V c main_v41) (V c main_v43) (V c main_v45) (V c main_v47) (V c main_v49) (V c main_v39) := by
  refine (dat1 V c).arrAt_eq_of_covers 6 _ (by decide +kernel) fun t hf y => ?_
  blk_simp
  rw [after1_6, outs1]
  have b0 : (y 0).val < 512 := (y 0).isLt
  have hN := n1 t
  have e0 : ((win1_6.blk t).view.emb y 0).val = 512 * t.val + (y 0).val := by blk_simp [idx1_6 t]; omega
  have e1 : ((win1_6.blk t).view.emb y 1).val = (y 1).val := by blk_simp [idx1_6 t]
  unfold attnArr
  refine congr (congrArg (pointOut _ _ _ _ _ _) (Fin.ext (by show t.val = _ / 512; rw [e0]; omega))) ?_
  · funext d
    match d with
    | ⟨0, _⟩ => exact Fin.ext (by show (y 0).val = _ % 512; rw [e0]; omega)
    | ⟨1, _⟩ => exact Fin.ext e1.symm

end Cert.KernelIdeal.Value
-- ==== Proof.Spec.lean ====
module

public import Idealize.ShloMosaic.PureOps.Ideal
public import Idealize.ShloMosaic.PureOps.Ideal.Laws
public import Idealize.ShloMosaic.Lib.Pointwise

@[expose] public section

noncomputable section

namespace Cert.Spec

open Idealize.ShloMosaic

/-! Attention over a masked set of keys and a context, at the extended reals: a masked key's score is the bottom
    element, its weight zero, so a sum over any set of keys that holds the unmasked ones is the same sum. -/

/-- `log₂ e`. -/
def lg : EReal := (((Real.log 2)⁻¹ : ℝ) : EReal)

/-- The largest score. -/
def top {K J : Type} [Fintype K] [Fintype J] (S : K → EReal) (C : J → EReal) : EReal := max (Finset.univ.sup S) (Finset.univ.sup C)

/-- The weights' sum. -/
def mass {K J : Type} [Fintype K] [Fintype J] (S : K → EReal) (C : J → EReal) : EReal :=
  ∑ k, Ideal.exp (S k - top S C) + ∑ j, Ideal.exp (C j - top S C)

/-- The values' mean under the softmax of the scores. -/
def attend {K J : Type} [Fintype K] [Fintype J] (S : K → EReal) (C : J → EReal) (V : K → EReal) (W : J → EReal) : EReal :=
  ∑ k, Ideal.div (Ideal.exp (S k - top S C)) (mass S C) * V k + ∑ j, Ideal.div (Ideal.exp (C j - top S C)) (mass S C) * W j

theorem bot_sub (x : EReal) : (⊥ : EReal) - x = ⊥ := by rw [sub_eq_add_neg]; exact EReal.bot_add _

/-- A number that is real and not negative. -/
def NN (x : EReal) : Prop := ∃ r : ℝ, 0 ≤ r ∧ x = r

theorem NN.add {x y : EReal} (hx : NN x) (hy : NN y) : NN (x + y) := by
  obtain ⟨a, ha, rfl⟩ := hx; obtain ⟨b, hb, rfl⟩ := hy
  exact ⟨a + b, add_nonneg ha hb, (EReal.coe_add a b).symm⟩

theorem NN.sum {K : Type} (s : Finset K) (f : K → EReal) (h : ∀ k, NN (f k)) : NN (∑ k ∈ s, f k) :=
  Finset.sum_induction f NN (fun _ _ => NN.add) ⟨0, le_refl _, rfl⟩ fun k _ => h k

theorem NN.nonneg {x : EReal} (h : NN x) : 0 ≤ x := by obtain ⟨r, hr, rfl⟩ := h; exact_mod_cast hr

theorem NN_exp (x : EReal) (hx : x ≠ ⊤) (t : ℝ) : NN (Ideal.exp (x - t)) := by
  induction x with
  | bot => rw [bot_sub]; exact ⟨0, le_refl _, rfl⟩
  | coe x => exact ⟨Real.exp (x - t), (Real.exp_pos _).le, by rw [← EReal.coe_sub]; rfl⟩
  | top => exact absurd rfl hx

/-- A sum times a number that is real and not negative. -/
theorem sum_mul_real {K : Type} (s : Finset K) (f : K → EReal) (c : ℝ) (hc : 0 ≤ c) :
    (∑ k ∈ s, f k) * (c : EReal) = ∑ k ∈ s, f k * (c : EReal) := by
  classical
  induction s using Finset.induction_on with
  | empty => simp
  | insert a s ha ih => rw [Finset.sum_insert ha, Finset.sum_insert ha, EReal.right_distrib_of_nonneg_of_ne_top (by exact_mod_cast hc) (EReal.coe_ne_top c), ih]

section
variable {K J : Type} [Fintype K] [Fintype J] [Nonempty J] (S : K → EReal) (C : J → EReal)

theorem top_real (hS : ∀ k, S k ≠ ⊤) (hC : ∀ j, ∃ r : ℝ, C j = r) : ∃ t : ℝ, top S C = t := by
  have h1 : top S C ≠ ⊤ := by
    apply ne_of_lt
    refine max_lt ?_ ?_
    · exact (Finset.sup_lt_iff bot_lt_top).2 fun k _ => lt_top_iff_ne_top.2 (hS k)
    · refine (Finset.sup_lt_iff bot_lt_top).2 fun j _ => ?_
      obtain ⟨r, hr⟩ := hC j; rw [hr]; exact EReal.coe_lt_top r
  have h2 : top S C ≠ ⊥ := by
    obtain ⟨j⟩ := ‹Nonempty J›
    obtain ⟨r, hr⟩ := hC j
    have : (r : EReal) ≤ top S C := hr ▸ le_trans (Finset.le_sup (f := C) (Finset.mem_univ j)) (le_max_right _ _)
    intro h; rw [h] at this; exact absurd (le_bot_iff.1 this) (EReal.coe_ne_bot r)
  exact ⟨(top S C).toReal, (EReal.coe_toReal h1 h2).symm⟩

theorem mass_real (hS : ∀ k, S k ≠ ⊤) (hC : ∀ j, ∃ r : ℝ, C j = r) : ∃ l : ℝ, 0 < l ∧ mass S C = l := by
  obtain ⟨t, ht⟩ := top_real S C hS hC
  have hC' : ∀ j, C j ≠ ⊤ := fun j => by obtain ⟨r, hr⟩ := hC j; rw [hr]; exact EReal.coe_ne_top r
  have hK : NN (∑ k, Ideal.exp (S k - (t : EReal))) := NN.sum _ _ fun k => NN_exp _ (hS k) t
  have hJ : NN (∑ j, Ideal.exp (C j - (t : EReal))) := NN.sum _ _ fun j => NN_exp _ (hC' j) t
  obtain ⟨j0⟩ := ‹Nonempty J›
  obtain ⟨r, hr⟩ := hC j0
  have hpos : 0 < ∑ j, Ideal.exp (C j - (t : EReal)) := by
    refine lt_of_lt_of_le ?_ (Finset.single_le_sum (f := fun j => Ideal.exp (C j - (t : EReal))) (fun j _ => (NN_exp _ (hC' j) t).nonneg) (Finset.mem_univ j0))
    show 0 < Ideal.exp (C j0 - (t : EReal))
    rw [hr, ← EReal.coe_sub]
    show (0 : EReal) < ((Real.exp (r - t) : ℝ) : EReal)
    exact_mod_cast Real.exp_pos (r - t)
  obtain ⟨a, ha, hae⟩ := hK
  obtain ⟨b, hb, hbe⟩ := hJ
  refine ⟨a + b, ?_, ?_⟩
  · rw [hbe] at hpos
    exact add_pos_of_nonneg_of_pos ha (by exact_mod_cast hpos)
  · unfold mass; rw [ht, hae, hbe, EReal.coe_add]

theorem div_real (x : EReal) (l : ℝ) (hl : 0 < l) : Ideal.div x (l : EReal) = x * ((l⁻¹ : ℝ) : EReal) := by
  unfold Ideal.div
  rw [if_neg (by exact_mod_cast hl.ne'), ← EReal.coe_inv]

end

theorem sup_embed {I K : Type} [Fintype I] [Fintype K] (e : I → K) (S : K → EReal) (h : ∀ k, k ∉ Set.range e → S k = ⊥) :
    Finset.univ.sup (fun i => S (e i)) = Finset.univ.sup S := by
  apply le_antisymm
  · exact Finset.sup_le fun i _ => Finset.le_sup (f := S) (Finset.mem_univ (e i))
  · refine Finset.sup_le fun k _ => ?_
    by_cases hk : k ∈ Set.range e
    · obtain ⟨i, rfl⟩ := hk
      exact Finset.le_sup (f := fun i => S (e i)) (Finset.mem_univ i)
    · rw [h k hk]; exact bot_le

theorem sum_embed {I K : Type} [Fintype I] [Fintype K] (e : I → K) (he : Function.Injective e) (f : K → EReal)
    (h : ∀ k, k ∉ Set.range e → f k = 0) : ∑ i, f (e i) = ∑ k, f k :=
  Fintype.sum_of_injective e he (fun i => f (e i)) f (fun k hk => h k hk) fun _ => rfl

/-- Any set of keys that holds the unmasked ones serves. -/
theorem attend_embed {I K J : Type} [Fintype I] [Fintype K] [Fintype J] [Nonempty J] (e : I → K) (he : Function.Injective e) (S : K → EReal)
    (C : J → EReal) (V : K → EReal) (W : J → EReal) (h : ∀ k, k ∉ Set.range e → S k = ⊥)
    (hS : ∀ k, S k ≠ ⊤) (hC : ∀ j, ∃ r : ℝ, C j = r) :
    attend (fun i => S (e i)) C (fun i => V (e i)) W = attend S C V W := by
  have ht : top (fun i => S (e i)) C = top S C := by unfold top; rw [sup_embed e S h]
  have hm : mass (fun i => S (e i)) C = mass S C := by
    unfold mass; rw [ht]
    congr 1
    exact sum_embed e he (fun k => Ideal.exp (S k - top S C)) fun k hk => by rw [h k hk, bot_sub]; rfl
  unfold attend
  rw [ht, hm]
  congr 1
  refine sum_embed e he (fun k => Ideal.div (Ideal.exp (S k - top S C)) (mass S C) * V k) fun k hk => ?_
  obtain ⟨l, hl, hle⟩ := mass_real S C hS hC
  rw [h k hk, bot_sub, hle, div_real _ l hl]
  show (0 : EReal) * _ * V k = 0
  rw [zero_mul, zero_mul]

theorem lg_pos : 0 < (Real.log 2)⁻¹ := inv_pos.2 (Real.log_pos one_lt_two)

theorem mul_lg_mono : Monotone fun x : EReal => x * lg := fun x y h =>
  mul_le_mul_of_nonneg_right h (by unfold lg; exact_mod_cast lg_pos.le)

theorem bot_mul_lg : (⊥ : EReal) * lg = ⊥ := EReal.bot_mul_coe_of_pos lg_pos

theorem exp2_lg (x : EReal) (hx : x ≠ ⊤) (t : ℝ) : Ideal.exp2 (x * lg - (t : EReal) * lg) = Ideal.exp (x - t) := by
  induction x with
  | bot => rw [bot_mul_lg, bot_sub, bot_sub]; rfl
  | coe x =>
    unfold lg
    rw [← EReal.coe_mul, ← EReal.coe_mul, ← EReal.coe_sub, ← EReal.coe_sub]
    show ((Real.rpow 2 _ : ℝ) : EReal) = ((Real.exp (x - t) : ℝ) : EReal)
    congr 1
    show (2 : ℝ) ^ (x * (Real.log 2)⁻¹ - t * (Real.log 2)⁻¹) = Real.exp (x - t)
    rw [Real.rpow_def_of_pos two_pos]
    congr 1
    have := (Real.log_pos one_lt_two).ne'
    field_simp
  | top => exact absurd rfl hx

/-- The mean with the exponentials of base two, the quotient taken last, is the same. -/
theorem base2 {K J : Type} [Fintype K] [Fintype J] [Nonempty J] (S : K → EReal) (C : J → EReal) (V : K → EReal) (W : J → EReal)
    (hS : ∀ k, S k ≠ ⊤) (hC : ∀ j, ∃ r : ℝ, C j = r) :
    Ideal.div (∑ k, Ideal.exp2 (S k * lg - top (fun k => S k * lg) fun j => C j * lg) * V k
        + ∑ j, Ideal.exp2 (C j * lg - top (fun k => S k * lg) fun j => C j * lg) * W j)
      (∑ k, Ideal.exp2 (S k * lg - top (fun k => S k * lg) fun j => C j * lg)
        + ∑ j, Ideal.exp2 (C j * lg - top (fun k => S k * lg) fun j => C j * lg))
      = attend S C V W := by
  have hC' : ∀ j, C j ≠ ⊤ := fun j => by obtain ⟨r, hr⟩ := hC j; rw [hr]; exact EReal.coe_ne_top r
  obtain ⟨t, ht⟩ := top_real S C hS hC
  obtain ⟨l, hl, hle⟩ := mass_real S C hS hC
  have hT : top (fun k => S k * lg) (fun j => C j * lg) = (t : EReal) * lg := by
    rw [← ht]; unfold top
    rw [mul_lg_mono.map_max, Finset.apply_sup_eq_sup_comp_of_linearOrder (fun x : EReal => x * lg) mul_lg_mono bot_mul_lg,
      Finset.apply_sup_eq_sup_comp_of_linearOrder (fun x : EReal => x * lg) mul_lg_mono bot_mul_lg]
    rfl
  rw [hT]
  simp only [exp2_lg _ (hS _) t, exp2_lg _ (hC' _) t]
  have hm : ∑ k, Ideal.exp (S k - (t : EReal)) + ∑ j, Ideal.exp (C j - (t : EReal)) = (l : EReal) := by
    rw [← hle]; unfold mass; rw [ht]
  unfold attend
  rw [hm, hle, ht, div_real _ l hl, EReal.right_distrib_of_nonneg_of_ne_top (by exact_mod_cast (inv_pos.2 hl).le) (EReal.coe_ne_top _),
    sum_mul_real _ _ _ (inv_pos.2 hl).le, sum_mul_real _ _ _ (inv_pos.2 hl).le]
  simp only [div_real _ l hl]
  congr 1 <;> exact Finset.sum_congr rfl fun _ _ => mul_right_comm _ _ _

theorem sum_split {n : ℕ} (a b : ℕ) (h : n = a + b) (f : Fin n → EReal) :
    ∑ i, f i = ∑ i : Fin a, f ⟨i.val, by omega⟩ + ∑ i : Fin b, f ⟨a + i.val, by omega⟩ := by
  subst h; exact Fin.sum_univ_add f

theorem fold_max {K : Type} [Fintype K] (f : K → EReal) : Finset.univ.fold max ⊥ f = Finset.univ.sup f := rfl

theorem sup_split {n : ℕ} (a b : ℕ) (h : n = a + b) (f : Fin n → EReal) :
    Finset.univ.sup f = max (Finset.univ.sup fun i : Fin a => f ⟨i.val, by omega⟩) (Finset.univ.sup fun i : Fin b => f ⟨a + i.val, by omega⟩) := by
  apply le_antisymm
  · refine Finset.sup_le fun k _ => ?_
    by_cases hk : k.val < a
    · exact le_trans (Finset.le_sup (f := fun i : Fin a => f ⟨i.val, by omega⟩) (Finset.mem_univ ⟨k.val, hk⟩)) (le_max_left _ _)
    · refine le_trans (le_of_eq ?_) (le_trans (Finset.le_sup (f := fun i : Fin b => f ⟨a + i.val, by omega⟩) (Finset.mem_univ ⟨k.val - a, by omega⟩)) (le_max_right _ _))
      exact congrArg f (Fin.ext (by show k.val = a + (k.val - a); omega))
  · exact max_le (Finset.sup_le fun i _ => Finset.le_sup (f := f) (Finset.mem_univ _)) (Finset.sup_le fun i _ => Finset.le_sup (f := f) (Finset.mem_univ _))

/-! ## The neighbourhood on the grid of 64 by 64 -/

abbrev Qs : Shape := ⟨4, ![8, 4096, 8, 64]⟩
abbrev Cs : Shape := ⟨4, ![8, 256, 8, 64]⟩
abbrev Bs : Shape := ⟨3, ![8, 15, 31]⟩

/-- A query sees eight rows and sixteen columns of keys round its own, shifted inwards at the border. -/
def seen (n k : Fin 4096) : Prop :=
  (min 56 (n.val / 64 - 4) ≤ k.val / 64 ∧ k.val / 64 < min 56 (n.val / 64 - 4) + 8)
    ∧ (min 48 (n.val % 64 - 8) ≤ k.val % 64 ∧ k.val % 64 < min 48 (n.val % 64 - 8) + 16)

instance (n k : Fin 4096) : Decidable (seen n k) := by unfold seen; infer_instance

/-- The bias of a key at a query, by their distance. -/
def biasAt (rpb : FVec Ideal Bs .f32) (h : Fin 8) (n k : Fin 4096) : EReal :=
  rpb (ix3 h ⟨(k.val / 64 + 7 - n.val / 64) % 15, by omega⟩ ⟨(k.val % 64 + 15 - n.val % 64) % 31, by omega⟩)

/-- The score of a key of the grid. -/
def sK (q k : FVec Ideal Qs .f32) (rpb : FVec Ideal Bs .f32) (b : Fin 8) (h : Fin 8) (n key : Fin 4096) : EReal :=
  if seen n key then ∑ d : Fin 64, q (ix4 b n h d) * k (ix4 b key h d) + biasAt rpb h n key else ⊥

/-- The score of a key of the context. -/
def sC (q : FVec Ideal Qs .f32) (kc : FVec Ideal Cs .f32) (b : Fin 8) (h : Fin 8) (n : Fin 4096) (j : Fin 256) : EReal :=
  ∑ d : Fin 64, q (ix4 b n h d) * kc (ix4 b j h d)

/-- The attention at a query, a head and a lane. -/
def result (q k v : FVec Ideal Qs .f32) (kc vc : FVec Ideal Cs .f32) (rpb : FVec Ideal Bs .f32) (b h : Fin 8) (n : Fin 4096) (d : Fin 64) : EReal :=
  attend (sK q k rpb b h n) (sC q kc b h n) (fun key => v (ix4 b key h d)) (fun j => vc (ix4 b j h d))

/-- What the claim supposes of an array: real values. -/
def Real' {s : Shape} (x : FVec Ideal s .f32) : Prop := ∀ i, ∃ r : ℝ, x i = (r : EReal)

theorem real_sum {K : Type} (s : Finset K) (f : K → EReal) (h : ∀ k, ∃ r : ℝ, f k = r) : ∃ r : ℝ, ∑ k ∈ s, f k = r :=
  Finset.sum_induction f (fun x => ∃ r : ℝ, x = r) (fun _ _ ⟨a, ha⟩ ⟨b, hb⟩ => ⟨a + b, by rw [ha, hb, EReal.coe_add]⟩) ⟨0, rfl⟩ fun k _ => h k

theorem real_mul {x y : EReal} (hx : ∃ r : ℝ, x = r) (hy : ∃ r : ℝ, y = r) : ∃ r : ℝ, x * y = r := by
  obtain ⟨a, rfl⟩ := hx; obtain ⟨b, rfl⟩ := hy; exact ⟨a * b, (EReal.coe_mul a b).symm⟩

theorem sC_real (q : FVec Ideal Qs .f32) (kc : FVec Ideal Cs .f32) (hq : Real' q) (hk : Real' kc) (b h : Fin 8) (n : Fin 4096) (j : Fin 256) :
    ∃ r : ℝ, sC q kc b h n j = r := real_sum _ _ fun d => real_mul (hq _) (hk _)

theorem sK_ne_top (q k : FVec Ideal Qs .f32) (rpb : FVec Ideal Bs .f32) (hq : Real' q) (hk : Real' k) (hr : Real' rpb) (b h : Fin 8) (n key : Fin 4096) :
    sK q k rpb b h n key ≠ ⊤ := by
  unfold sK
  split
  · obtain ⟨a, ha⟩ := real_sum Finset.univ (fun d : Fin 64 => q (ix4 b n h d) * k (ix4 b key h d)) fun d => real_mul (hq _) (hk _)
    obtain ⟨r, hr'⟩ := hr (ix3 h ⟨(key.val / 64 + 7 - n.val / 64) % 15, by omega⟩ ⟨(key.val % 64 + 15 - n.val % 64) % 31, by omega⟩)
    unfold biasAt
    rw [ha, hr', ← EReal.coe_add]; exact EReal.coe_ne_top _
  · exact bot_ne_top

end Cert.Spec
-- ==== Proof.TabVal.lean ====
module

public import proofs.«01_k».proof.Proof.Gen.KernelIdeal.Frame
public import proofs.«01_k».proof.Proof.Attn
public import proofs.«01_k».proof.Proof.Table
public import proofs.«01_k».proof.Proof.Spec

@[expose] public section

set_option maxRecDepth 16384

noncomputable section

namespace Cert.KernelIdeal.Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Spec

/-! The table of biases over the extended reals. -/

/-- The word that says whether a column of keys lies in the window of a column of queries. -/
def colWord (i j : ℕ) : BitVec 1 :=
  let st := IntOp.minsi 48#32 (IntOp.maxsi 0#32 (IntOp.subi (BitVec.ofNat 32 i) 8#32))
  IntOp.andi (IntOp.cmpi .sge (BitVec.ofNat 32 j) st) (IntOp.cmpi .slt (BitVec.ofNat 32 j) (IntOp.addi st 16#32))

/-- A column of keys lies in the window of a column of queries. -/
def inCol (i j : ℕ) : Prop := min 48 (i - 8) ≤ j ∧ j < min 48 (i - 8) + 16

instance (i j : ℕ) : Decidable (inCol i j) := by unfold inCol; infer_instance

theorem colWord_eq : ∀ i j : Fin 64, colWord i.val j.val = BitVec.ofBool (decide (inCol i.val j.val)) := by decide +kernel

theorem sel_true (a b : EReal) : Scalar.select (BitVec.ofBool true) a b = a := rfl
theorem sel_false (a b : EReal) : Scalar.select (BitVec.ofBool false) a b = b := rfl

theorem maskC_word (i j : Fin 64) : maskC (F := Ideal) (ix2 i j) = Scalar.select (colWord i.val j.val) (Ideal.ofBits .f32 0x00000000#32) (⊥ : EReal) := by
  rw [Ideal.ofBits_zero_f32]
  pointwise [maskC]
  rfl

theorem maskC_at (i j : Fin 64) : maskC (F := Ideal) (ix2 i j) = if inCol i.val j.val then (0 : EReal) else ⊥ := by
  rw [maskC_word, colWord_eq, Ideal.ofBits_zero_f32]
  by_cases h : inCol i.val j.val
  · rw [if_pos h, decide_eq_true h, sel_true]
  · rw [if_neg h, decide_eq_false h, sel_false]

theorem maskA_at (b : Vec Ideal S1x1x64x64 .f32) (i j : Fin 64) :
    maskA b (ix2 i j) = if inCol i.val j.val then b (ix4 0 0 i j) else (⊥ : EReal) := by
  have : maskA b (ix2 i j) = (b (ix4 0 0 i j) : EReal) + maskC (F := Ideal) (ix2 i j) := by pointwise [maskA]
  rw [this, maskC_at]
  split
  · exact add_zero _
  · exact EReal.add_bot _

theorem maskB_at (b : Vec Ideal S1x1x64x64 .f32) (i j : Fin 64) : maskB b (ix2 i j) = (⊥ : EReal) := by
  have : maskB b (ix2 i j) = (b (ix4 0 0 i j) : EReal) + ⊥ := by pointwise [maskB]; rfl
  rw [this]; exact EReal.add_bot _

theorem place (w : Fin 11 → FVec Ideal S64x64 .f32) (i b : Fin 64) (a k : Fin 11) (x : ℕ) (hx : x < 64) (e1 : k.val = a.val) (e2 : x = b.val) :
    w k (ix2 i ⟨x, hx⟩) = w a (ix2 i b) := by
  subst e2; rw [Fin.ext e1]

theorem rowF_at (w : Fin 11 → FVec Ideal S64x64 .f32) (i : Fin 64) (a : Fin 11) (b : Fin 64) :
    rowF w (ix4 0 0 i ⟨64 * a.val + b.val, by omega⟩) = (w a (ix2 i b) : EReal) * lg := by
  pointwise [rowF]
  refine congr (congrArg HMul.hMul ?_) rfl
  have ha := a.isLt
  have hb := b.isLt
  by_cases h0 : 64 * a.val + b.val < 64
  · rw [dif_pos h0]; exact place w i b a 0 _ _ (show 0 = a.val by omega) (by omega)
  rw [dif_neg h0]
  by_cases h1 : 64 * a.val + b.val - 64 < 64
  · rw [dif_pos h1]; exact place w i b a 1 _ _ (show 1 = a.val by omega) (by omega)
  rw [dif_neg h1]
  by_cases h2 : 64 * a.val + b.val - 64 - 64 < 64
  · rw [dif_pos h2]; exact place w i b a 2 _ _ (show 2 = a.val by omega) (by omega)
  rw [dif_neg h2]
  by_cases h3 : 64 * a.val + b.val - 64 - 64 - 64 < 64
  · rw [dif_pos h3]; exact place w i b a 3 _ _ (show 3 = a.val by omega) (by omega)
  rw [dif_neg h3]
  by_cases h4 : 64 * a.val + b.val - 64 - 64 - 64 - 64 < 64
  · rw [dif_pos h4]; exact place w i b a 4 _ _ (show 4 = a.val by omega) (by omega)
  rw [dif_neg h4]
  by_cases h5 : 64 * a.val + b.val - 64 - 64 - 64 - 64 - 64 < 64
  · rw [dif_pos h5]; exact place w i b a 5 _ _ (show 5 = a.val by omega) (by omega)
  rw [dif_neg h5]
  by_cases h6 : 64 * a.val + b.val - 64 - 64 - 64 - 64 - 64 - 64 < 64
  · rw [dif_pos h6]; exact place w i b a 6 _ _ (show 6 = a.val by omega) (by omega)
  rw [dif_neg h6]
  by_cases h7 : 64 * a.val + b.val - 64 - 64 - 64 - 64 - 64 - 64 - 64 < 64
  · rw [dif_pos h7]; exact place w i b a 7 _ _ (show 7 = a.val by omega) (by omega)
  rw [dif_neg h7]
  by_cases h8 : 64 * a.val + b.val - 64 - 64 - 64 - 64 - 64 - 64 - 64 - 64 < 64
  · rw [dif_pos h8]; exact place w i b a 8 _ _ (show 8 = a.val by omega) (by omega)
  rw [dif_neg h8]
  by_cases h9 : 64 * a.val + b.val - 64 - 64 - 64 - 64 - 64 - 64 - 64 - 64 - 64 < 64
  · rw [dif_pos h9]; exact place w i b a 9 _ _ (show 9 = a.val by omega) (by omega)
  rw [dif_neg h9]
  exact place w i b a 10 _ _ (show 10 = a.val by omega) (by omega)

/-- A row of a table, at a place of a block. -/
theorem tableF_at (x : Vec Ideal S1x16x64x64 .f32) (t : Fin 3) (r : Fin 4) (i : Fin 64) (a : Fin 11) (b : Fin 64) :
    tableF x t (ix4 0 0 ⟨64 * r.val + i.val, by omega⟩ ⟨64 * a.val + b.val, by omega⟩)
      = (if (whichT t r a).val < 15 ∧ inCol i.val b.val then x (ix4 0 (whichT t r a) i b) else (⊥ : EReal)) * lg := by
  have e : tableF x t (ix4 0 0 ⟨64 * r.val + i.val, by omega⟩ ⟨64 * a.val + b.val, by omega⟩) = tableRow x t r (ix4 0 0 i ⟨64 * a.val + b.val, by omega⟩) := by
    unfold tableF
    refine congr (congrArg (tableRow x t) (Fin.ext ?_)) (congr (congrArg (ix4 0 0) (Fin.ext ?_)) rfl)
    · show (64 * r.val + i.val) / 64 = r.val; omega
    · show (64 * r.val + i.val) % 64 = i.val; omega
  rw [e]
  unfold tableRow
  rw [rowF_at]
  congr 1
  by_cases h : (whichT t r a).val < 15
  · rw [blkM_lt _ _ h, maskA_at]
    by_cases hc : inCol i.val b.val
    · rw [if_pos hc, if_pos ⟨h, hc⟩]; rfl
    · rw [if_neg hc, if_neg fun z => hc z.2]
  · rw [blkM_ge _ _ h, maskB_at, if_neg fun z => h z.1]

end Cert.KernelIdeal.Value
-- ==== Proof.PairVal.lean ====
module

public import proofs.«01_k».proof.Proof.Gen.KernelIdeal.Frame
public import proofs.«01_k».proof.Proof.Attn
public import proofs.«01_k».proof.Proof.Spec

@[expose] public section

set_option maxRecDepth 16384

noncomputable section

namespace Cert.KernelIdeal.Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Spec

/-! A pair of heads over the extended reals. -/

theorem loWord : ∀ x : Fin 128, IntOp.cmpi CmpIPredicate.slt (BitVec.ofNat 32 x.val) 64#32 = BitVec.ofBool (decide (x.val < 64)) := by decide +kernel

theorem pick_true (a b : EReal) : Scalar.select (BitVec.ofBool true) a b = a := rfl
theorem pick_false (a b : EReal) : Scalar.select (BitVec.ofBool false) a b = b := rfl

/-- The word that keeps a head's lanes. -/
def headBit (hh : Fin 2) : BitVec 1 := if hh = 0 then 1#1 else 0#1

theorem keepWord : ∀ (hh : Fin 2) (x : Fin 128), IntOp.xori (IntOp.xori (IntOp.cmpi CmpIPredicate.slt (BitVec.ofNat 32 x.val) 64#32) (headBit hh)) 1#1
    = BitVec.ofBool (decide (x.val / 64 = hh.val)) := by decide +kernel

theorem qMasked_at (hh : Fin 2) (q : Vec Ideal S256x128 .bf16) (r : Fin 256) (x : Fin 128) :
    qMasked (headBit hh) (qScale q) (ix2 r x) = if x.val / 64 = hh.val then (q (ix2 r x) : EReal) * lg else 0 := by
  have e : qMasked (headBit hh) (qScale q) (ix2 r x) = Scalar.select (IntOp.xori (IntOp.xori (IntOp.cmpi CmpIPredicate.slt (BitVec.ofNat 32 x.val) 64#32) (headBit hh)) 1#1)
      ((q (ix2 r x) : EReal) * lg) (0 : EReal) := by
    pointwise [qMasked, qScale, loMask]
    rfl
  rw [e, keepWord]
  by_cases h : x.val / 64 = hh.val
  · rw [if_pos h, decide_eq_true h, pick_true]
  · rw [if_neg h, decide_eq_false h, pick_false]

/-- Queries against keys. -/
def dotF (qm : FVec Ideal S256x128 .bf16) (ka : FVec Ideal S960x128 .bf16) : FVec Ideal S256x960 .f32 :=
  matmul dot_S256x128_S960x128_S256x960_1_1_0_0_n_n none qm ka (constant S256x960 .f32 0x00000000#32)

/-- The scores, from queries against keys. -/
def scoreOf (s : FVec Ideal S256x960 .f32) (bias : Vec Ideal S1x1x256x704 .f32) : FVec Ideal S256x960 .f32 :=
  concatenate S256x960 1 [⟨S256x256, extractStridedSlice S256x256 ![0, 0] s slices_S256x960_o0_0_S256x256⟩,
    ⟨S256x704, addf (extractStridedSlice S256x704 ![0, 256] s slices_S256x960_o0_256_S256x704)
      (shapeCast S256x704 bias shapeCasts_S1x1x256x704_S256x704)⟩] concatenates_S256x256_S256x704_S256x960_d1

theorem dotF_at (qm : FVec Ideal S256x128 .bf16) (ka : FVec Ideal S960x128 .bf16) (r : Fin 256) (j : Fin 960) :
    dotF qm ka (ix2 r j) = ∑ x : Fin 128, (qm (ix2 r x) : EReal) * ka (ix2 j x) := by
  pointwise [dotF]

theorem scoreOf_at (s : FVec Ideal S256x960 .f32) (bias : Vec Ideal S1x1x256x704 .f32) (r : Fin 256) (j : Fin 960) :
    scoreOf s bias (ix2 r j) = if h : j.val < 256 then s (ix2 r j) else (s (ix2 r j) : EReal) + bias (ix4 0 0 r ⟨j.val - 256, by omega⟩) := by
  pointwise [scoreOf]
  by_cases h : j.val < 256
  · rw [dif_pos h, dif_pos h]
  · rw [dif_neg h, dif_neg h]
    have : ∀ h', (⟨256 + (j.val - 256), h'⟩ : Fin 960) = j := fun h' => Fin.ext (by show 256 + (j.val - 256) = j.val; omega)
    rw [this]

theorem stack_at (kc : Vec Ideal S256x128 .bf16) (k : Vec Ideal S704x128 .bf16) (j : Fin 960) (x : Fin 128) :
    stack kc k (ix2 j x) = if h : j.val < 256 then kc (ix2 ⟨j.val, h⟩ x) else k (ix2 ⟨j.val - 256, by omega⟩ x) := by
  pointwise [stack]

/-- The lanes of a head. -/
def laneOf (hh : Fin 2) (d : Fin 64) : Fin 128 := ⟨64 * hh.val + d.val, by omega⟩

theorem dot_head (hh : Fin 2) (q : Vec Ideal S256x128 .bf16) (ka : FVec Ideal S960x128 .bf16) (r : Fin 256) (j : Fin 960) :
    dotF (qMasked (headBit hh) (qScale q)) ka (ix2 r j) = (∑ d : Fin 64, (q (ix2 r (laneOf hh d)) : EReal) * ka (ix2 j (laneOf hh d))) * lg := by
  rw [dotF_at]
  unfold lg
  rw [sum_mul_real _ _ _ lg_pos.le]
  refine (sum_split 64 64 rfl _).trans ?_
  match hh with
  | ⟨0, _⟩ =>
    have A : ∀ d : Fin 64, (qMasked (headBit 0) (qScale q) (ix2 r ⟨d.val, by omega⟩) : EReal) * ka (ix2 j ⟨d.val, by omega⟩)
        = (q (ix2 r (laneOf 0 d)) : EReal) * ka (ix2 j (laneOf 0 d)) * lg := fun d => by
      have : (⟨d.val, by omega⟩ : Fin 128) = laneOf 0 d := Fin.ext (by show d.val = 64 * 0 + d.val; omega)
      rw [this, (qMasked_at _ _ _ _).trans (if_pos (show (64 * 0 + d.val) / 64 = 0 by omega)), mul_right_comm]
    have B : ∀ d : Fin 64, (qMasked (headBit 0) (qScale q) (ix2 r ⟨64 + d.val, by omega⟩) : EReal) * ka (ix2 j ⟨64 + d.val, by omega⟩) = 0 := fun d => by
      rw [(qMasked_at _ _ _ _).trans (if_neg (show ¬(64 + d.val) / 64 = 0 by omega)), zero_mul]
    exact (congr (congrArg HAdd.hAdd (Finset.sum_congr rfl fun d _ => A d)) (Finset.sum_eq_zero fun d _ => B d)).trans (add_zero _)
  | ⟨1, _⟩ =>
    have A : ∀ d : Fin 64, (qMasked (headBit 1) (qScale q) (ix2 r ⟨64 + d.val, by omega⟩) : EReal) * ka (ix2 j ⟨64 + d.val, by omega⟩)
        = (q (ix2 r (laneOf 1 d)) : EReal) * ka (ix2 j (laneOf 1 d)) * lg := fun d => by
      have : (⟨64 + d.val, by omega⟩ : Fin 128) = laneOf 1 d := Fin.ext (by show 64 + d.val = 64 * 1 + d.val; omega)
      rw [this, (qMasked_at _ _ _ _).trans (if_pos (show (64 * 1 + d.val) / 64 = 1 by omega)), mul_right_comm]
    have B : ∀ d : Fin 64, (qMasked (headBit 1) (qScale q) (ix2 r ⟨d.val, by omega⟩) : EReal) * ka (ix2 j ⟨d.val, by omega⟩) = 0 := fun d => by
      rw [(qMasked_at _ _ _ _).trans (if_neg (show ¬d.val / 64 = 1 by omega)), zero_mul]
    exact (congr (congrArg HAdd.hAdd (Finset.sum_eq_zero fun d _ => B d)) (Finset.sum_congr rfl fun d _ => A d)).trans (zero_add _)

theorem expF_at (s : FVec Ideal S256x960 .f32) (r : Fin 256) (j : Fin 960) :
    expF s (ix2 r j) = Ideal.exp2 ((s (ix2 r j) : EReal) - Finset.univ.sup fun x : Fin 960 => (s (ix2 r x) : EReal)) := by
  unfold expF
  pointwise
  have : Ideal.ofBits FTy.f32 0xFF800000#32 = ⊥ := by simp [Ideal.ofBits, Ideal.ieee]
  rw [this, fold_max]
  rfl

theorem meanF_at (p : FVec Ideal S256x960 .f32) (vc : Vec Ideal S256x128 .bf16) (v : Vec Ideal S704x128 .bf16) (r : Fin 256) (l : Fin 128) :
    meanF p (stack vc v) (ix2 r l) = Ideal.div (∑ x : Fin 256, (p (ix2 r ⟨x.val, by omega⟩) : EReal) * vc (ix2 x l) + ∑ x : Fin 704, (p (ix2 r ⟨256 + x.val, by omega⟩) : EReal) * v (ix2 x l))
      (∑ x : Fin 960, (p (ix2 r x) : EReal)) := by
  pointwise [meanF, stack]

theorem pairF_at (q : Vec Ideal S256x128 .bf16) (kc : Vec Ideal S256x128 .bf16) (k : Vec Ideal S704x128 .bf16) (vc : Vec Ideal S256x128 .bf16)
    (v : Vec Ideal S704x128 .bf16) (b0 b1 : Vec Ideal S1x1x256x704 .f32) (r : Fin 256) (hh : Fin 2) (d : Fin 64) :
    pairF q kc k vc v b0 b1 (ix2 r (laneOf hh d))
      = meanF (expF (scoreOf (dotF (qMasked (headBit hh) (qScale q)) (stack kc k)) (if hh = 0 then b0 else b1))) (stack vc v) (ix2 r (laneOf hh d)) := by
  have e : pairF q kc k vc v b0 b1 (ix2 r (laneOf hh d)) = Scalar.select (IntOp.cmpi CmpIPredicate.slt (BitVec.ofNat 32 (laneOf hh d).val) 64#32)
      (meanF (expF (scoresF (qMasked (1#1) (qScale q)) (stack kc k) b0)) (stack vc v) (ix2 r (laneOf hh d)) : EReal)
      (meanF (expF (scoresF (qMasked (0#1) (qScale q)) (stack kc k) b1)) (stack vc v) (ix2 r (laneOf hh d)) : EReal) := by
    pointwise [pairF, loMask]
  rw [e, loWord]
  match hh with
  | ⟨0, _⟩ =>
    rw [decide_eq_true (show (laneOf ⟨0, by omega⟩ d).val < 64 by show 64 * 0 + d.val < 64; omega), pick_true]; rfl
  | ⟨1, _⟩ =>
    rw [decide_eq_false (show ¬(laneOf ⟨1, by omega⟩ d).val < 64 by show ¬64 * 1 + d.val < 64; omega), pick_false]; rfl

/-- A pair of heads, as the mean under the softmax. -/
theorem pair_value (q : Vec Ideal S256x128 .bf16) (kc : Vec Ideal S256x128 .bf16) (k : Vec Ideal S704x128 .bf16) (vc : Vec Ideal S256x128 .bf16)
    (v : Vec Ideal S704x128 .bf16) (b0 b1 : Vec Ideal S1x1x256x704 .f32) (r : Fin 256) (hh : Fin 2) (d : Fin 64)
    (S : Fin 704 → EReal) (C : Fin 256 → EReal)
    (eS : ∀ j : Fin 704, (∑ x : Fin 64, (q (ix2 r (laneOf hh x)) : EReal) * k (ix2 j (laneOf hh x))) * lg + (if hh = 0 then b0 else b1) (ix4 0 0 r j) = S j * lg)
    (eC : ∀ j : Fin 256, ∑ x : Fin 64, (q (ix2 r (laneOf hh x)) : EReal) * kc (ix2 j (laneOf hh x)) = C j)
    (hS : ∀ j, S j ≠ ⊤) (hC : ∀ j, ∃ r : ℝ, C j = r) :
    pairF q kc k vc v b0 b1 (ix2 r (laneOf hh d)) = attend S C (fun j => v (ix2 j (laneOf hh d))) (fun j => vc (ix2 j (laneOf hh d))) := by
  rw [pairF_at, meanF_at]
  simp only [expF_at]
  generalize hs : scoreOf (dotF (qMasked (headBit hh) (qScale q)) (stack kc k)) (if hh = 0 then b0 else b1) = s
  have e1 : ∀ j : Fin 256, (s (ix2 r ⟨j.val, by omega⟩) : EReal) = C j * lg := fun j => by
    rw [← hs, scoreOf_at, dif_pos (show j.val < 256 from j.isLt), dot_head, ← eC j]
    simp only [stack_at]
    refine congrArg (· * lg) (Finset.sum_congr rfl fun x _ => ?_)
    rw [dif_pos (show j.val < 256 from j.isLt)]
  have e2 : ∀ j : Fin 704, (s (ix2 r ⟨256 + j.val, by omega⟩) : EReal) = S j * lg := fun j => by
    have bk : ∀ h, (⟨256 + j.val - 256, h⟩ : Fin 704) = j := fun h => Fin.ext (Nat.add_sub_cancel_left ..)
    rw [← hs, scoreOf_at, dif_neg (show ¬256 + j.val < 256 by omega), dot_head, ← eS j, bk]
    simp only [stack_at]
    refine congrArg (fun z => z * lg + _) (Finset.sum_congr rfl fun x _ => ?_)
    rw [dif_neg (show ¬256 + j.val < 256 by omega), bk]
  have et : (Finset.univ.sup fun x : Fin 960 => (s (ix2 r x) : EReal)) = top (fun k => S k * lg) fun j => C j * lg := by
    rw [sup_split 256 704 rfl, max_comm]
    unfold top
    refine congr (congrArg max ?_) ?_
    · exact congrArg _ (funext e2)
    · exact congrArg _ (funext e1)
  rw [et, sum_split 256 704 rfl (fun x : Fin 960 => Ideal.exp2 _)]
  simp only [e1, e2]
  rw [add_comm (∑ x : Fin 256, _ * _), add_comm (∑ x : Fin 256, Ideal.exp2 _)]
  exact base2 S C _ _ hS hC

end Cert.KernelIdeal.Value
-- ==== Proof.KerVal.lean ====
module

public import proofs.«01_k».proof.Proof.Gen.KernelIdeal.Frame
public import proofs.«01_k».proof.Proof.Arr
public import proofs.«01_k».proof.Proof.TabVal
public import proofs.«01_k».proof.Proof.PairVal

@[expose] public section

set_option maxRecDepth 16384

noncomputable section

namespace Cert.KernelIdeal.Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Spec

/-! The whole result over the extended reals. -/

/-- A pair of heads at a block of queries, from the region's arrays. -/
def pairAt (Q K Vv : Vec Ideal S32768x512 .bf16) (Kc Vc : Vec Ideal S2048x512 .bf16) (T : Vec Ideal S3x8x256x704 .f32) (b : Fin 8) (rb : Fin 16) (p : Fin 4) : FVec Ideal S256x128 .bf16 :=
  pairF (qTile (rows512 Q ⟨8 * b.val + rb.val / 2, by omega⟩) ⟨rb.val % 2, by omega⟩ p) (cTile (rows256 Kc b) p) (kTile (rows4096 K b) (ksOf rb.val) p)
    (cTile (rows256 Vc b) p) (kTile (rows4096 Vv b) (ksOf rb.val) p)
    (bTile T (geomOf rb.val) ⟨2 * p.val, by omega⟩) (bTile T (geomOf rb.val) ⟨2 * p.val + 1, by omega⟩)

/-- The row of a query. -/
def rowOf (b : Fin 8) (rb : Fin 16) (r : Fin 256) : Fin 32768 := ⟨4096 * b.val + 256 * rb.val + r.val, by omega⟩
/-- The lane of a head's lane. -/
def colOf (p : Fin 4) (hh : Fin 2) (d : Fin 64) : Fin 512 := ⟨128 * p.val + 64 * hh.val + d.val, by omega⟩
/-- The head. -/
def hdOf (p : Fin 4) (hh : Fin 2) : Fin 8 := ⟨2 * p.val + hh.val, by omega⟩
/-- The query in its batch. -/
def qyOf (rb : Fin 16) (r : Fin 256) : Fin 4096 := ⟨256 * rb.val + r.val, by omega⟩
/-- The key at a place of a block's rows. -/
def kyOf (rb : Fin 16) (j : Fin 704) : Fin 4096 := ⟨64 * (ksOf rb.val).val + j.val, by have := (ksOf rb.val).isLt; omega⟩

theorem ix2_congr {m n : ℕ} {a a' : Fin m} {b b' : Fin n} (h : a.val = a'.val) (h' : b.val = b'.val) : ix2 a b = ix2 a' b' := by
  rw [Fin.ext h, Fin.ext h']

theorem tile_eq (x0 : Vec Ideal S512x512 .bf16) (x1 x2 : Vec Ideal S4096x512 .bf16) (x3 x4 : Vec Ideal S256x512 .bf16) (x5 : Vec Ideal S3x8x256x704 .f32)
    (rp : ℕ) (rb : Fin 16) (hrp : rp = rb.val / 2) (a : Fin 2) (ha : a.val = rb.val % 2) (p : Fin 4) :
    tileOut x0 x1 x2 x3 x4 x5 rp a p = pairF (qTile x0 ⟨rb.val % 2, by omega⟩ p) (cTile x3 p) (kTile x1 (ksOf rb.val) p) (cTile x4 p) (kTile x2 (ksOf rb.val) p)
    (bTile x5 (geomOf rb.val) ⟨2 * p.val, by omega⟩) (bTile x5 (geomOf rb.val) ⟨2 * p.val + 1, by omega⟩) := by
  have e : 2 * rp + a.val = rb.val := by omega
  unfold tileOut
  rw [e]
  obtain ⟨a, la⟩ := a
  dsimp only at ha
  subst ha
  rfl

theorem block_eq (x0 : Vec Ideal S512x512 .bf16) (x1 x2 : Vec Ideal S4096x512 .bf16) (x3 x4 : Vec Ideal S256x512 .bf16) (x5 : Vec Ideal S3x8x256x704 .f32)
    (rp : ℕ) (a : Fin 2) (r : Fin 256) (p : Fin 4) (l : Fin 128) :
    blockOut x0 x1 x2 x3 x4 x5 rp (ix2 ⟨256 * a.val + r.val, by omega⟩ ⟨128 * p.val + l.val, by omega⟩) = tileOut x0 x1 x2 x3 x4 x5 rp a p (ix2 r l) := by
  unfold blockOut
  exact congr (congr (congrArg (tileOut x0 x1 x2 x3 x4 x5 rp) (Fin.ext (by show (256 * a.val + r.val) / 256 = a.val; omega)))
    (Fin.ext (by show (128 * p.val + l.val) / 128 = p.val; omega)))
    (ix2_congr (by show (256 * a.val + r.val) % 256 = r.val; omega) (by show (128 * p.val + l.val) % 128 = l.val; omega))

theorem point_eq (Q K Vv : Vec Ideal S32768x512 .bf16) (Kc Vc : Vec Ideal S2048x512 .bf16) (T : Vec Ideal S3x8x256x704 .f32) (n : Fin 64) (b : Fin 8) (h : n.val / 8 = b.val) :
    pointOut Q K Vv Kc Vc T n = blockOut (rows512 Q n) (rows4096 K b) (rows4096 Vv b) (rows256 Kc b) (rows256 Vc b) T (n.val % 8) := by
  obtain ⟨b, lb⟩ := b
  dsimp only at h
  subst h
  rfl

theorem attn_eq (Q K Vv : Vec Ideal S32768x512 .bf16) (Kc Vc : Vec Ideal S2048x512 .bf16) (T : Vec Ideal S3x8x256x704 .f32) (y : Fin 32768) (z : Fin 512) (n : Fin 64) (i : Fin 512)
    (h : y.val / 512 = n.val) (h' : y.val % 512 = i.val) :
    attnArr Q K Vv Kc Vc T (ix2 y z) = pointOut Q K Vv Kc Vc T n (ix2 i z) := by
  obtain ⟨n, ln⟩ := n
  obtain ⟨i, li⟩ := i
  dsimp only at h h'
  subst h
  subst h'
  rfl

theorem attn_pair (Q K Vv : Vec Ideal S32768x512 .bf16) (Kc Vc : Vec Ideal S2048x512 .bf16) (T : Vec Ideal S3x8x256x704 .f32) (b : Fin 8) (rb : Fin 16) (r : Fin 256) (p : Fin 4) (hh : Fin 2) (d : Fin 64) :
    attnArr Q K Vv Kc Vc T (ix2 (rowOf b rb r) (colOf p hh d)) = pairAt Q K Vv Kc Vc T b rb p (ix2 r (laneOf hh d)) := by
  rw [attn_eq Q K Vv Kc Vc T (rowOf b rb r) (colOf p hh d) ⟨8 * b.val + rb.val / 2, by omega⟩ ⟨256 * (rb.val % 2) + r.val, by omega⟩
    (by unfold rowOf; dsimp only; omega) (by unfold rowOf; dsimp only; omega),
    point_eq Q K Vv Kc Vc T _ b (by dsimp only; omega)]
  have ec : colOf p hh d = ⟨128 * p.val + (laneOf hh d).val, by have := (laneOf hh d).isLt; omega⟩ := Fin.ext (by show 128 * p.val + 64 * hh.val + d.val = 128 * p.val + (64 * hh.val + d.val); omega)
  rw [ec]
  refine (block_eq _ _ _ _ _ _ _ ⟨rb.val % 2, by omega⟩ r p (laneOf hh d)).trans ?_
  rw [tile_eq _ _ _ _ _ _ _ rb (by dsimp only; omega) _ rfl]
  rfl

theorem which_fact : ∀ (rb : Fin 16) (i : Fin 4) (a : Fin 11),
    ((whichT (geomOf rb.val) i a).val < 15 ↔ min 56 (4 * rb.val + i.val - 4) ≤ (ksOf rb.val).val + a.val ∧ (ksOf rb.val).val + a.val < min 56 (4 * rb.val + i.val - 4) + 8)
      ∧ ((whichT (geomOf rb.val) i a).val < 15 → (whichT (geomOf rb.val) i a).val = ((ksOf rb.val).val + a.val + 7 - (4 * rb.val + i.val)) % 15) := by decide +kernel

/-- What the regions' arrays hold, of the arguments. -/
structure Holds (Q K Vv : Vec Ideal S32768x512 .bf16) (Kc Vc : Vec Ideal S2048x512 .bf16) (B : Vec Ideal S8x16x64x64 .f32)
    (q k v : FVec Ideal Qs .f32) (kc vc : FVec Ideal Cs .f32) (rpb : FVec Ideal Bs .f32) : Prop where
  q_at : ∀ (b : Fin 8) (n : Fin 4096) (h : Fin 8) (d : Fin 64), Q (ix2 ⟨4096 * b.val + n.val, by omega⟩ ⟨64 * h.val + d.val, by omega⟩) = q (ix4 b n h d)
  k_at : ∀ (b : Fin 8) (n : Fin 4096) (h : Fin 8) (d : Fin 64), K (ix2 ⟨4096 * b.val + n.val, by omega⟩ ⟨64 * h.val + d.val, by omega⟩) = k (ix4 b n h d)
  v_at : ∀ (b : Fin 8) (n : Fin 4096) (h : Fin 8) (d : Fin 64), Vv (ix2 ⟨4096 * b.val + n.val, by omega⟩ ⟨64 * h.val + d.val, by omega⟩) = v (ix4 b n h d)
  kc_at : ∀ (b : Fin 8) (n : Fin 256) (h : Fin 8) (d : Fin 64), Kc (ix2 ⟨256 * b.val + n.val, by omega⟩ ⟨64 * h.val + d.val, by omega⟩) = kc (ix4 b n h d)
  vc_at : ∀ (b : Fin 8) (n : Fin 256) (h : Fin 8) (d : Fin 64), Vc (ix2 ⟨256 * b.val + n.val, by omega⟩ ⟨64 * h.val + d.val, by omega⟩) = vc (ix4 b n h d)
  b_at : ∀ (h : Fin 8) (d : Fin 15) (i j : Fin 64), inCol i.val j.val → B (ix4 h ⟨d.val, by omega⟩ i j) = rpb (ix3 h d ⟨(j.val + 15 - i.val) % 31, by omega⟩)

section
variable {Q K Vv : Vec Ideal S32768x512 .bf16} {Kc Vc : Vec Ideal S2048x512 .bf16} {B : Vec Ideal S8x16x64x64 .f32}
    {q k v : FVec Ideal Qs .f32} {kc vc : FVec Ideal Cs .f32} {rpb : FVec Ideal Bs .f32} (H : Holds Q K Vv Kc Vc B q k v kc vc rpb)
include H

theorem q_tile (b : Fin 8) (rb : Fin 16) (r : Fin 256) (p : Fin 4) (hh : Fin 2) (x : Fin 64) :
    qTile (rows512 Q ⟨8 * b.val + rb.val / 2, by omega⟩) ⟨rb.val % 2, by omega⟩ p (ix2 r (laneOf hh x)) = q (ix4 b (qyOf rb r) (hdOf p hh) x) := by
  rw [← H.q_at]
  show Q (ix2 _ _) = Q (ix2 _ _)
  refine congrArg Q (ix2_congr ?_ ?_)
  · show 512 * (8 * b.val + rb.val / 2) + (256 * (rb.val % 2) + r.val) = 4096 * b.val + (256 * rb.val + r.val); omega
  · show 128 * p.val + (64 * hh.val + x.val) = 64 * (2 * p.val + hh.val) + x.val; omega

theorem k_tile (b : Fin 8) (rb : Fin 16) (j : Fin 704) (p : Fin 4) (hh : Fin 2) (x : Fin 64) :
    kTile (rows4096 K b) (ksOf rb.val) p (ix2 j (laneOf hh x)) = k (ix4 b (kyOf rb j) (hdOf p hh) x) := by
  rw [← H.k_at]
  show K (ix2 _ _) = K (ix2 _ _)
  refine congrArg K (ix2_congr ?_ ?_)
  · show 4096 * b.val + (64 * (ksOf rb.val).val + j.val) = 4096 * b.val + (64 * (ksOf rb.val).val + j.val); rfl
  · show 128 * p.val + (64 * hh.val + x.val) = 64 * (2 * p.val + hh.val) + x.val; omega

theorem v_tile (b : Fin 8) (rb : Fin 16) (j : Fin 704) (p : Fin 4) (hh : Fin 2) (x : Fin 64) :
    kTile (rows4096 Vv b) (ksOf rb.val) p (ix2 j (laneOf hh x)) = v (ix4 b (kyOf rb j) (hdOf p hh) x) := by
  rw [← H.v_at]
  show Vv (ix2 _ _) = Vv (ix2 _ _)
  refine congrArg Vv (ix2_congr ?_ ?_)
  · show 4096 * b.val + (64 * (ksOf rb.val).val + j.val) = 4096 * b.val + (64 * (ksOf rb.val).val + j.val); rfl
  · show 128 * p.val + (64 * hh.val + x.val) = 64 * (2 * p.val + hh.val) + x.val; omega

theorem kc_tile (b : Fin 8) (j : Fin 256) (p : Fin 4) (hh : Fin 2) (x : Fin 64) :
    cTile (rows256 Kc b) p (ix2 j (laneOf hh x)) = kc (ix4 b j (hdOf p hh) x) := by
  rw [← H.kc_at]
  show Kc (ix2 _ _) = Kc (ix2 _ _)
  refine congrArg Kc (ix2_congr rfl ?_)
  · show 128 * p.val + (64 * hh.val + x.val) = 64 * (2 * p.val + hh.val) + x.val; omega

theorem vc_tile (b : Fin 8) (j : Fin 256) (p : Fin 4) (hh : Fin 2) (x : Fin 64) :
    cTile (rows256 Vc b) p (ix2 j (laneOf hh x)) = vc (ix4 b j (hdOf p hh) x) := by
  rw [← H.vc_at]
  show Vc (ix2 _ _) = Vc (ix2 _ _)
  refine congrArg Vc (ix2_congr rfl ?_)
  · show 128 * p.val + (64 * hh.val + x.val) = 64 * (2 * p.val + hh.val) + x.val; omega

theorem seen_iff (rb : Fin 16) (i : Fin 4) (cq : Fin 64) (a : Fin 11) (ck : Fin 64) (n : Fin 4096) (key : Fin 4096)
    (hn : n.val = 256 * rb.val + (64 * i.val + cq.val)) (hk : key.val = 64 * (ksOf rb.val).val + (64 * a.val + ck.val)) :
    seen n key ↔ (whichT (geomOf rb.val) i a).val < 15 ∧ inCol cq.val ck.val := by
  rw [(which_fact rb i a).1]
  have h1 : n.val / 64 = 4 * rb.val + i.val := by omega
  have h2 : n.val % 64 = cq.val := by omega
  have h3 : key.val / 64 = (ksOf rb.val).val + a.val := by omega
  have h4 : key.val % 64 = ck.val := by omega
  unfold seen inCol
  rw [h1, h2, h3, h4]

theorem bias_tile (rb : Fin 16) (i : Fin 4) (cq : Fin 64) (a : Fin 11) (ck : Fin 64) (g : Fin 8) (n : Fin 4096) (key : Fin 4096)
    (hn : n.val = 256 * rb.val + (64 * i.val + cq.val)) (hk : key.val = 64 * (ksOf rb.val).val + (64 * a.val + ck.val)) :
    bTile (tableArr B) (geomOf rb.val) g (ix4 0 0 ⟨64 * i.val + cq.val, by omega⟩ ⟨64 * a.val + ck.val, by omega⟩)
      = (if seen n key then biasAt rpb g n key else (⊥ : EReal)) * lg := by
  have e : bTile (tableArr B) (geomOf rb.val) g (ix4 0 0 ⟨64 * i.val + cq.val, by omega⟩ ⟨64 * a.val + ck.val, by omega⟩)
      = tableF (headBlk B g) (geomOf rb.val) (ix4 0 0 ⟨64 * i.val + cq.val, by omega⟩ ⟨64 * a.val + ck.val, by omega⟩) := rfl
  rw [e, tableF_at]
  congr 1
  by_cases hs : seen n key
  · have hs' := (seen_iff H rb i cq a ck n key hn hk).1 hs
    rw [if_pos hs, if_pos hs']
    have hw := (which_fact rb i a).2 hs'.1
    show B (ix4 g (whichT (geomOf rb.val) i a) cq ck) = _
    refine (H.b_at g ⟨(whichT (geomOf rb.val) i a).val, hs'.1⟩ cq ck hs'.2).trans ?_
    unfold biasAt
    have h1 : n.val / 64 = 4 * rb.val + i.val := by omega
    have h2 : n.val % 64 = cq.val := by omega
    have h3 : key.val / 64 = (ksOf rb.val).val + a.val := by omega
    have h4 : key.val % 64 = ck.val := by omega
    refine congrArg rpb (congr (congrArg (ix3 g) (Fin.ext ?_)) (Fin.ext ?_))
    · show (whichT (geomOf rb.val) i a).val = (key.val / 64 + 7 - n.val / 64) % 15
      rw [h1, h3, hw]
    · show (ck.val + 15 - cq.val) % 31 = (key.val % 64 + 15 - n.val % 64) % 31
      rw [h2, h4]
  · rw [if_neg hs, if_neg fun z => hs ((seen_iff H rb i cq a ck n key hn hk).2 z)]

theorem kyOf_inj (rb : Fin 16) : Function.Injective (kyOf rb) := fun a b h => by
  have := congrArg Fin.val h
  unfold kyOf at this
  dsimp only at this
  exact Fin.ext (by omega)

theorem kyOf_range (rb : Fin 16) (r : Fin 256) (key : Fin 4096) (h : seen (qyOf rb r) key) : key ∈ Set.range (kyOf rb) := by
  unfold seen qyOf at h
  dsimp only at h
  refine ⟨⟨key.val - 64 * min 53 (4 * rb.val - 4), by omega⟩, Fin.ext ?_⟩
  show 64 * min 53 (4 * rb.val - 4) + (key.val - 64 * min 53 (4 * rb.val - 4)) = key.val
  omega

theorem attn_value (hq : Real' q) (hk : Real' k) (hkc : Real' kc) (hr : Real' rpb) (b : Fin 8) (rb : Fin 16) (r : Fin 256) (p : Fin 4) (hh : Fin 2) (d : Fin 64) :
    attnArr Q K Vv Kc Vc (tableArr B) (ix2 (rowOf b rb r) (colOf p hh d)) = result q k v kc vc rpb b (hdOf p hh) (qyOf rb r) d := by
  rw [attn_pair]
  unfold pairAt result
  rw [← attend_embed (kyOf rb) (kyOf_inj H rb) (sK q k rpb b (hdOf p hh) (qyOf rb r)) (sC q kc b (hdOf p hh) (qyOf rb r)) (fun key => v (ix4 b key (hdOf p hh) d)) (fun j => vc (ix4 b j (hdOf p hh) d))
    (fun key hkey => if_neg fun hs => hkey (kyOf_range H rb r key hs)) (fun key => sK_ne_top q k rpb hq hk hr b (hdOf p hh) _ key) (fun j => sC_real q kc hq hkc b (hdOf p hh) _ j)]
  refine (pair_value _ _ _ _ _ _ _ r hh d (fun j => sK q k rpb b (hdOf p hh) (qyOf rb r) (kyOf rb j)) (sC q kc b (hdOf p hh) (qyOf rb r)) (fun j => ?_) (fun j => ?_)
    (fun key => sK_ne_top q k rpb hq hk hr b (hdOf p hh) _ _) (fun j => sC_real q kc hq hkc b (hdOf p hh) _ j)).trans ?_
  · simp only [q_tile H, k_tile H]
    have eb : (if hh = 0 then bTile (tableArr B) (geomOf rb.val) ⟨2 * p.val, by omega⟩ else bTile (tableArr B) (geomOf rb.val) ⟨2 * p.val + 1, by omega⟩)
        = bTile (tableArr B) (geomOf rb.val) (hdOf p hh) := by
      match hh with
      | ⟨0, _⟩ => rfl
      | ⟨1, _⟩ => rfl
    rw [eb]
    have e1 : r = ⟨64 * (r.val / 64) + r.val % 64, by omega⟩ := Fin.ext (by show r.val = 64 * (r.val / 64) + r.val % 64; omega)
    have e2 : j = ⟨64 * (j.val / 64) + j.val % 64, by omega⟩ := Fin.ext (by show j.val = 64 * (j.val / 64) + j.val % 64; omega)
    have eB : bTile (tableArr B) (geomOf rb.val) (hdOf p hh) (ix4 0 0 r j) = (if seen (qyOf rb r) (kyOf rb j) then biasAt rpb (hdOf p hh) (qyOf rb r) (kyOf rb j) else (⊥ : EReal)) * lg := by
      refine Eq.trans ?_ (bias_tile H rb ⟨r.val / 64, by omega⟩ ⟨r.val % 64, by omega⟩ ⟨j.val / 64, by omega⟩ ⟨j.val % 64, by omega⟩ (hdOf p hh) (qyOf rb r) (kyOf rb j)
        (by show 256 * rb.val + r.val = 256 * rb.val + (64 * (r.val / 64) + r.val % 64); omega)
        (by show 64 * (ksOf rb.val).val + j.val = 64 * (ksOf rb.val).val + (64 * (j.val / 64) + j.val % 64); omega))
      exact congrArg (bTile (tableArr B) (geomOf rb.val) (hdOf p hh)) (congr (congrArg (ix4 0 0) e1) e2)
    rw [eB]
    have hl : (0 : EReal) ≤ lg := by unfold lg; exact_mod_cast lg_pos.le
    rw [← EReal.right_distrib_of_nonneg_of_ne_top hl (by unfold lg; exact EReal.coe_ne_top _)]
    congr 1
    unfold sK
    by_cases hs : seen (qyOf rb r) (kyOf rb j)
    · rw [if_pos hs, if_pos hs]
    · rw [if_neg hs, if_neg hs, EReal.add_bot]
  · simp only [q_tile H, kc_tile H]; rfl
  · simp only [v_tile H, vc_tile H]

end

end Cert.KernelIdeal.Value
-- ==== Proof.Host.lean ====
module

public import proofs.«01_k».proof.Proof.Gen.KernelIdeal.Frame
public import proofs.«01_k».proof.Proof.KerVal

@[expose] public section

set_option maxRecDepth 16384

noncomputable section

namespace Cert.KernelIdeal.Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-! What the operations outside the kernels leave. -/

/-- The first column of the window of each column of queries. -/
def colStart : IVec S64 32 :=
  minsi (broadcastInDim S64 ![] bcast_S_S64 (constantI S_ 32 48#32))
    (maxsi (broadcastInDim S64 ![] bcast_S_S64 (constantI S_ 32 0#32)) (subi (iotaInDim S64 32 0) (broadcastInDim S64 ![] bcast_S_S64 (constantI S_ 32 8#32))))

/-- Whether a column of keys lies in a column's window. -/
def winM : IVec S64x64 1 :=
  andi (cmpi .sge (broadcastInDim S64x64 ![0, 1] bcast_S1x64_S64x64_0_1 (broadcastInDim S1x64 ![1] bcast_S64_S1x64_1 (iotaInDim S64 32 0)))
      (broadcastInDim S64x64 ![0, 1] bcast_S64x1_S64x64_0_1 (broadcastInDim S64x1 ![0] bcast_S64_S64x1_0 colStart)))
    (cmpi .slt (broadcastInDim S64x64 ![0, 1] bcast_S1x64_S64x64_0_1 (broadcastInDim S1x64 ![1] bcast_S64_S1x64_1 (iotaInDim S64 32 0)))
      (broadcastInDim S64x64 ![0, 1] bcast_S64x1_S64x64_0_1 (addi (broadcastInDim S64x1 ![0] bcast_S64_S64x1_0 colStart) (broadcastInDim S64x1 ![] bcast_S_S64x1 (constantI S_ 32 16#32)))))

/-- The distance of two columns. -/
def distW : IVec S64x64 32 :=
  subi (broadcastInDim S64x64 ![0, 1] bcast_S1x64_S64x64_0_1 (broadcastInDim S1x64 ![1] bcast_S64_S1x64_1 (iotaInDim S64 32 0)))
    (broadcastInDim S64x64 ![0, 1] bcast_S64x1_S64x64_0_1 (broadcastInDim S64x1 ![0] bcast_S64_S64x1_0 (iotaInDim S64 32 0)))

/-- The same, clipped. -/
def distC : IVec S64x64 32 :=
  minsi (broadcastInDim S64x64 ![] bcast_S_S64x64 (constantI S_ 32 15#32)) (maxsi (broadcastInDim S64x64 ![] bcast_S_S64x64 (constantI S_ 32 4294967281#32)) distW)

/-- Which entry of a row of biases two columns take. -/
def hotM : IVec S64x64x31 1 :=
  andi (cmpi .eq (broadcastInDim S64x64x31 ![0, 1, 2] bcast_S64x64x1_S64x64x31_0_1_2 (broadcastInDim S64x64x1 ![0, 1] bcast_S64x64_S64x64x1_0_1
        (addi distC (broadcastInDim S64x64 ![] bcast_S_S64x64 (constantI S_ 32 15#32)))))
      (broadcastInDim S64x64x31 ![0, 1, 2] bcast_S1x1x31_S64x64x31_0_1_2 (broadcastInDim S1x1x31 ![2] bcast_S31_S1x1x31_2 (iotaInDim S31 32 0))))
    (broadcastInDim S64x64x31 ![0, 1, 2] bcast_S64x64x1_S64x64x31_0_1_2 (broadcastInDim S64x64x1 ![0, 1] bcast_S64x64_S64x64x1_0_1 winM))

/-- The blocks of biases, of the table by distance. -/
def blocksOf (rpb : FVec F S8x15x31 .f32) : FVec F S8x16x64x64 .f32 :=
  concatenate S8x16x64x64 1 [⟨S8x15x64x64, Host.dotGeneral dot_S8x15x31_S64x64x31_S8x15x64x64_2_2_01_01_n_n (some .fp32) rpb (uitofp .f32 hotM : FVec F S64x64x31 .f32)⟩,
    ⟨S8x1x64x64, (broadcastInDim S8x1x64x64 ![] bcast_S_S8x1x64x64 (constant S_ .f32 0x00000000#32) : FVec F S8x1x64x64 .f32)⟩] concatenates_S8x15x64x64_S8x1x64x64_S8x16x64x64_d1

variable (W : Valuation τ sig (Elt F))

theorem s0_v1 : StableHlo.after hostOps0 W (Proc.devRef .tc main_v1) = (iotaInDim S64 32 0 : IVec S64 32) := by
  simp only [hostOps0]; after_results_simp <;> rfl
theorem s0_v0 : StableHlo.after hostOps0 W (Proc.devRef .tc main_v0) = (iotaInDim S64 32 0 : IVec S64 32) := by
  simp only [hostOps0]; after_results_simp <;> rfl
theorem s0_v3 : StableHlo.after hostOps0 W (Proc.devRef .tc main_v3) = (subi (iotaInDim S64 32 0) (broadcastInDim S64 ![] bcast_S_S64 (constantI S_ 32 8#32)) : IVec S64 32) := by
  simp only [hostOps0]; after_results_simp <;> rfl
theorem s0_c0 : StableHlo.after hostOps0 W (Proc.devRef .tc main_c_0) = (constantI S_ 32 0#32 : IVec S_ 32) := by
  simp only [hostOps0]; after_results_simp <;> rfl
theorem s0_c1 : StableHlo.after hostOps0 W (Proc.devRef .tc main_c_1) = (constantI S_ 32 48#32 : IVec S_ 32) := by
  simp only [hostOps0]; after_results_simp <;> rfl

theorem s1_v4 (h3 : W (Proc.devRef .tc main_v3) = (subi (iotaInDim S64 32 0) (broadcastInDim S64 ![] bcast_S_S64 (constantI S_ 32 8#32)) : IVec S64 32))
    (h0 : W (Proc.devRef .tc main_c_0) = (constantI S_ 32 0#32 : IVec S_ 32)) (h1 : W (Proc.devRef .tc main_c_1) = (constantI S_ 32 48#32 : IVec S_ 32)) :
    StableHlo.after hostOps0_1 W (Proc.devRef .tc main_v4) = colStart := by
  simp only [hostOps0_1, StableHlo.TRef.binary, StableHlo.TRef.ternary, StableHlo.TRef.unary, StableHlo.TRef.toBuf, StableHlo.TRef.ofBuf, cast_eq]
  after_results_simp
  rw [h3, h0, h1]
  rfl

theorem s2_v17 (h1 : W (Proc.devRef .tc main_v1) = (iotaInDim S64 32 0 : IVec S64 32)) (h4 : W (Proc.devRef .tc main_v4) = colStart) :
    StableHlo.after hostOps0_2 W (Proc.devRef .tc main_v17) = winM := by
  simp only [hostOps0_2]
  after_results_simp
  rw [h1, h4]
  rfl
theorem s2_v22 (h1 : W (Proc.devRef .tc main_v1) = (iotaInDim S64 32 0 : IVec S64 32)) (h0 : W (Proc.devRef .tc main_v0) = (iotaInDim S64 32 0 : IVec S64 32)) :
    StableHlo.after hostOps0_2 W (Proc.devRef .tc main_v22) = distW := by
  simp only [hostOps0_2]
  after_results_simp
  rw [h1, h0]
  rfl
theorem s2_c3 : StableHlo.after hostOps0_2 W (Proc.devRef .tc main_c_3) = (constantI S_ 32 4294967281#32 : IVec S_ 32) := by
  simp only [hostOps0_2]; after_results_simp <;> rfl
theorem s2_c4 : StableHlo.after hostOps0_2 W (Proc.devRef .tc main_c_4) = (constantI S_ 32 15#32 : IVec S_ 32) := by
  simp only [hostOps0_2]; after_results_simp <;> rfl

theorem s3_v23 (h : W (Proc.devRef .tc main_v22) = distW) (h3 : W (Proc.devRef .tc main_c_3) = (constantI S_ 32 4294967281#32 : IVec S_ 32))
    (h4 : W (Proc.devRef .tc main_c_4) = (constantI S_ 32 15#32 : IVec S_ 32)) :
    StableHlo.after hostOps0_3 W (Proc.devRef .tc main_v23) = distC := by
  simp only [hostOps0_3, StableHlo.TRef.binary, StableHlo.TRef.ternary, StableHlo.TRef.unary, StableHlo.TRef.toBuf, StableHlo.TRef.ofBuf, cast_eq]
  after_results_simp
  rw [h, h3, h4]
  rfl

theorem s4_v38 (h : W (Proc.devRef .tc main_v23) = distC) (h' : W (Proc.devRef .tc main_v17) = winM) :
    StableHlo.after hostOps0_4 W (Proc.devRef .tc main_v38) = blocksOf (F := F) (W (Proc.devRef .tc main_arg5)) := by
  simp only [hostOps0_4]
  after_results_simp
  unfold blocksOf
  refine congrArg₂ (fun a b => concatenate S8x16x64x64 1 [⟨S8x15x64x64, a⟩, ⟨S8x1x64x64, b⟩] concatenates_S8x15x64x64_S8x1x64x64_S8x16x64x64_d1) ?_ ?_
  · after_results_simp
    rw [h, h']
    rfl
  · after_results_simp <;> rfl

theorem s5_v41 : StableHlo.after hostOps1 W (Proc.devRef .tc main_v41) = (truncf .bf16 (shapeCast S32768x512 (W (Proc.devRef .tc main_arg0) : FVec F S8x4096x8x64 .f32) shapeCasts_S8x4096x8x64_S32768x512 : FVec F S32768x512 .f32) bitsLt_bf16_f32 : FVec F S32768x512 .bf16) := by
  simp only [hostOps1]; after_results_simp <;> rfl
theorem s5_v43 : StableHlo.after hostOps1 W (Proc.devRef .tc main_v43) = (truncf .bf16 (shapeCast S32768x512 (W (Proc.devRef .tc main_arg1) : FVec F S8x4096x8x64 .f32) shapeCasts_S8x4096x8x64_S32768x512 : FVec F S32768x512 .f32) bitsLt_bf16_f32 : FVec F S32768x512 .bf16) := by
  simp only [hostOps1]; after_results_simp <;> rfl
theorem s5_v45 : StableHlo.after hostOps1 W (Proc.devRef .tc main_v45) = (truncf .bf16 (shapeCast S32768x512 (W (Proc.devRef .tc main_arg2) : FVec F S8x4096x8x64 .f32) shapeCasts_S8x4096x8x64_S32768x512 : FVec F S32768x512 .f32) bitsLt_bf16_f32 : FVec F S32768x512 .bf16) := by
  simp only [hostOps1]; after_results_simp <;> rfl
theorem s5_v47 : StableHlo.after hostOps1 W (Proc.devRef .tc main_v47) = (truncf .bf16 (shapeCast S2048x512 (W (Proc.devRef .tc main_arg3) : FVec F S8x256x8x64 .f32) shapeCasts_S8x256x8x64_S2048x512 : FVec F S2048x512 .f32) bitsLt_bf16_f32 : FVec F S2048x512 .bf16) := by
  simp only [hostOps1]; after_results_simp <;> rfl
theorem s5_v49 : StableHlo.after hostOps1 W (Proc.devRef .tc main_v49) = (truncf .bf16 (shapeCast S2048x512 (W (Proc.devRef .tc main_arg4) : FVec F S8x256x8x64 .f32) shapeCasts_S8x256x8x64_S2048x512 : FVec F S2048x512 .f32) bitsLt_bf16_f32 : FVec F S2048x512 .bf16) := by
  simp only [hostOps1]; after_results_simp <;> rfl

/-! ## Over the extended reals -/

theorem flatQ (x : FVec Ideal S8x4096x8x64 .f32) (b : Fin 8) (n : Fin 4096) (h : Fin 8) (d : Fin 64) :
    (truncf .bf16 (shapeCast S32768x512 x shapeCasts_S8x4096x8x64_S32768x512 : FVec Ideal S32768x512 .f32) bitsLt_bf16_f32 : FVec Ideal S32768x512 .bf16)
      (ix2 ⟨4096 * b.val + n.val, by omega⟩ ⟨64 * h.val + d.val, by omega⟩) = x (ix4 b n h d) := by
  pointwise
theorem flatC (x : FVec Ideal S8x256x8x64 .f32) (b : Fin 8) (n : Fin 256) (h : Fin 8) (d : Fin 64) :
    (truncf .bf16 (shapeCast S2048x512 x shapeCasts_S8x256x8x64_S2048x512 : FVec Ideal S2048x512 .f32) bitsLt_bf16_f32 : FVec Ideal S2048x512 .bf16)
      (ix2 ⟨256 * b.val + n.val, by omega⟩ ⟨64 * h.val + d.val, by omega⟩) = x (ix4 b n h d) := by
  pointwise

theorem distWord : ∀ i j : Fin 64, IntOp.addi (IntOp.minsi (15#32) (IntOp.maxsi (4294967281#32) (IntOp.subi (BitVec.ofNat 32 j.val) (BitVec.ofNat 32 i.val)))) 15#32
    = BitVec.ofNat 32 (min 30 (j.val + 15 - i.val)) := by decide +kernel

theorem distC_at (i j : Fin 64) : distC (ix2 i j) = IntOp.minsi (15#32) (IntOp.maxsi (4294967281#32) (IntOp.subi (BitVec.ofNat 32 j.val) (BitVec.ofNat 32 i.val))) := by
  pointwise [distC, distW]

theorem winM_at (i j : Fin 64) : winM (ix2 i j) = colWord i.val j.val := by
  pointwise [winM, colStart]
  rfl

theorem eqWord : ∀ a c : Fin 31, IntOp.cmpi CmpIPredicate.eq (BitVec.ofNat 32 a.val) (BitVec.ofNat 32 c.val) = BitVec.ofBool (decide (a = c)) := by decide +kernel

theorem and_true1 : ∀ z : Bool, IntOp.andi (BitVec.ofBool z) (BitVec.ofBool true) = BitVec.ofBool z := by decide

theorem hotM_at (i j : Fin 64) (c : Fin 31) (h : inCol i.val j.val) : hotM (ix3 i j c) = BitVec.ofBool (decide ((⟨(j.val + 15 - i.val) % 31, by omega⟩ : Fin 31) = c)) := by
  have e : hotM (ix3 i j c) = IntOp.andi (IntOp.cmpi CmpIPredicate.eq (IntOp.addi (distC (ix2 i j)) 15#32) (BitVec.ofNat 32 c.val)) (winM (ix2 i j)) := by
    pointwise [hotM]
  have hm : min 30 (j.val + 15 - i.val) = (j.val + 15 - i.val) % 31 := by unfold inCol at h; omega
  rw [e, distC_at, distWord, winM_at, colWord_eq, decide_eq_true h, hm, eqWord ⟨(j.val + 15 - i.val) % 31, by omega⟩ c]
  exact and_true1 _

theorem hot_true : (FloatOps.uitofp (F := Ideal) FTy.f32 (BitVec.ofBool true) : EReal) = 1 := by
  simp [FloatOps.uitofp]
theorem hot_false : (FloatOps.uitofp (F := Ideal) FTy.f32 (BitVec.ofBool false) : EReal) = 0 := by
  simp [FloatOps.uitofp]

theorem blocksOf_at (rpb : FVec Ideal S8x15x31 .f32) (h : Fin 8) (d : Fin 15) (i j : Fin 64) (hc : inCol i.val j.val) :
    blocksOf rpb (ix4 h ⟨d.val, by omega⟩ i j) = (rpb (ix3 h d ⟨(j.val + 15 - i.val) % 31, by omega⟩) : EReal) := by
  have e : ∀ d : Fin 16, blocksOf rpb (ix4 h d i j) = (if hd : d.val < 15 then ∑ x : Fin 31, (rpb (ix3 h ⟨d.val, hd⟩ x) : EReal) * FloatOps.uitofp (F := Ideal) FTy.f32 (hotM (ix3 i j x)) else 0) := fun d => by
    pointwise [blocksOf]
  rw [e, dif_pos (show d.val < 15 from d.isLt), Finset.sum_eq_single ⟨(j.val + 15 - i.val) % 31, by omega⟩]
  · rw [(hotM_at i j _ hc).trans (congrArg BitVec.ofBool (decide_eq_true (rfl : (⟨(j.val + 15 - i.val) % 31, by omega⟩ : Fin 31) = _))), hot_true, mul_one]
  · intro c _ hne
    rw [hotM_at i j _ hc, decide_eq_false (Ne.symm hne), hot_false, mul_zero]
  · exact fun hn => absurd (Finset.mem_univ _) hn

variable (m : (x : Loc nD τ sig) → Buf (Elt Ideal) x) (ρ : Dev nD → PrngReg)

theorem v38 (c : Dev nD) : V5 m ρ c main_v38 = blocksOf (F := Ideal) (m ((c : Thread nD τ).loc main_arg5)) := by
  have e4 : W2 m ρ c (Proc.devRef .tc main_v4) = colStart := s1_v4 _ (s0_v3 _) (s0_c0 _) (s0_c1 _)
  have e1 : W2 m ρ c (Proc.devRef .tc main_v1) = (iotaInDim S64 32 0 : IVec S64 32) := (W2_of m ρ c main_v1 (by decide)).trans (s0_v1 _)
  have e0 : W2 m ρ c (Proc.devRef .tc main_v0) = (iotaInDim S64 32 0 : IVec S64 32) := (W2_of m ρ c main_v0 (by decide)).trans (s0_v0 _)
  have e17 : W4 m ρ c (Proc.devRef .tc main_v17) = winM := (W4_of m ρ c main_v17 (by decide)).trans (s2_v17 _ e1 e4)
  have e23 : W4 m ρ c (Proc.devRef .tc main_v23) = distC := s3_v23 _ (s2_v22 _ e1 e0) (s2_c3 _) (s2_c4 _)
  refine (s4_v38 _ e23 e17).trans ?_
  rw [W4_args m ρ c main_arg5 (by decide)]

theorem v39 (c : Dev nD) : V7 m ρ c main_v39 = tableArr (blocksOf (F := Ideal) (m ((c : Thread nD τ).loc main_arg5))) := by
  refine (W7_of m ρ c main_v39 (by decide)).trans ?_
  refine (W6_arr m ρ c 1).trans ?_
  rw [arr0, v38]

open Cert.Spec

theorem holds (c : Dev nD) : Holds (V7 m ρ c main_v41) (V7 m ρ c main_v43) (V7 m ρ c main_v45) (V7 m ρ c main_v47) (V7 m ρ c main_v49)
    (blocksOf (F := Ideal) (m ((c : Thread nD τ).loc main_arg5)))
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) where
  q_at b n h d := by
    rw [show V7 m ρ c main_v41 = _ from s5_v41 _, W6_args m ρ c main_arg0 (by decide)]; exact flatQ _ b n h d
  k_at b n h d := by
    rw [show V7 m ρ c main_v43 = _ from s5_v43 _, W6_args m ρ c main_arg1 (by decide)]; exact flatQ _ b n h d
  v_at b n h d := by
    rw [show V7 m ρ c main_v45 = _ from s5_v45 _, W6_args m ρ c main_arg2 (by decide)]; exact flatQ _ b n h d
  kc_at b n h d := by
    rw [show V7 m ρ c main_v47 = _ from s5_v47 _, W6_args m ρ c main_arg3 (by decide)]; exact flatC _ b n h d
  vc_at b n h d := by
    rw [show V7 m ρ c main_v49 = _ from s5_v49 _, W6_args m ρ c main_arg4 (by decide)]; exact flatC _ b n h d
  b_at h d i j hc := blocksOf_at _ h d i j hc

/-- The result the second region leaves, at a place, under real inputs. -/
theorem v50_at (c : Dev nD) (hq : Real' (s := Qs) (m ((c : Thread nD τ).loc main_arg0))) (hk : Real' (s := Qs) (m ((c : Thread nD τ).loc main_arg1)))
    (hkc : Real' (s := Cs) (m ((c : Thread nD τ).loc main_arg3))) (hr : Real' (s := Bs) (m ((c : Thread nD τ).loc main_arg5)))
    (b : Fin 8) (rb : Fin 16) (r : Fin 256) (p : Fin 4) (hh : Fin 2) (d : Fin 64) :
    (W8 m ρ c (Proc.devRef .tc main_v50) : FVec Ideal S32768x512 .bf16) (ix2 (rowOf b rb r) (colOf p hh d))
      = result (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) b (hdOf p hh) (qyOf rb r) d := by
  have e : W8 m ρ c (Proc.devRef .tc main_v50) = attnArr (V7 m ρ c main_v41) (V7 m ρ c main_v43) (V7 m ρ c main_v45) (V7 m ρ c main_v47) (V7 m ρ c main_v49)
      (tableArr (blocksOf (F := Ideal) (m ((c : Thread nD τ).loc main_arg5)))) := by
    refine (W8_arr m ρ c 6).trans ?_
    rw [arr1, v39]
  rw [e]
  exact attn_value (holds m ρ c) hq hk hkc hr b rb r p hh d

end Cert.KernelIdeal.Value
-- ==== Proof.RefTerm.lean ====
module

public import proofs.«01_k».proof.Proof.Gen.ReferenceIdeal.Run
public import Idealize.ShloMosaic.Lib.Pointwise

@[expose] public section

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo

/-! The reference's result in steps, each a function of the arguments. -/

section
variable {F : FTy → Type} [FloatOps F]

noncomputable def keyRows  : IVec S64x8 32 :=
  ((addi) ((broadcastInDim S64x8 ![0, 1] bcast_S64x1_S64x8_0_1) ((broadcastInDim S64x1 ![0] bcast_S64_S64x1_0) (minsi ((broadcastInDim S64 ![] bcast_S_S64) (constantI S_ 32 56#32)) (maxsi ((broadcastInDim S64 ![] bcast_S_S64) (constantI S_ 32 0#32)) ((subi) (iotaInDim S64 32 0) ((broadcastInDim S64 ![] bcast_S_S64) (constantI S_ 32 4#32))))))) ((broadcastInDim S64x8 ![0, 1] bcast_S1x8_S64x8_0_1) ((broadcastInDim S1x8 ![1] bcast_S8_S1x8_1) (iotaInDim S8 32 0))))
noncomputable def keyCols  : IVec S4x32 32 :=
  ((addi) ((broadcastInDim S4x32 ![0, 1] bcast_S4x1_S4x32_0_1) ((broadcastInDim S4x1 ![0] bcast_S4_S4x1_0) (minsi ((broadcastInDim S4 ![] bcast_S_S4) (constantI S_ 32 32#32)) (maxsi ((broadcastInDim S4 ![] bcast_S_S4) (constantI S_ 32 0#32)) ((subi) ((muli) (iotaInDim S4 32 0) ((broadcastInDim S4 ![] bcast_S_S4) (constantI S_ 32 16#32))) ((broadcastInDim S4 ![] bcast_S_S4) (constantI S_ 32 8#32))))))) ((broadcastInDim S4x32 ![0, 1] bcast_S1x32_S4x32_0_1) ((broadcastInDim S1x32 ![1] bcast_S32_S1x32_1) (iotaInDim S32 32 0))))
noncomputable def qCols  : IVec S4x16 32 :=
  ((addi) ((broadcastInDim S4x16 ![0, 1] bcast_S4x1_S4x16_0_1) ((broadcastInDim S4x1 ![0] bcast_S4_S4x1_0) ((muli) (iotaInDim S4 32 0) ((broadcastInDim S4 ![] bcast_S_S4) (constantI S_ 32 16#32))))) ((broadcastInDim S4x16 ![0, 1] bcast_S1x16_S4x16_0_1) ((broadcastInDim S1x16 ![1] bcast_S16_S1x16_1) (iotaInDim S16 32 0))))
noncomputable def colStart  : IVec S4x16 32 :=
  (minsi ((broadcastInDim S4x16 ![] bcast_S_S4x16) (constantI S_ 32 48#32)) (maxsi ((broadcastInDim S4x16 ![] bcast_S_S4x16) (constantI S_ 32 0#32)) ((subi) qCols ((broadcastInDim S4x16 ![] bcast_S_S4x16) (constantI S_ 32 8#32)))))
noncomputable def idxT  : IVec S64x4x256 32 :=
  (shapeCast S64x4x256 ((addi) ((broadcastInDim S64x4x8x32 ![0, 1, 2, 3] bcast_S64x1x8x1_S64x4x8x32_0_1_2_3) ((muli) ((broadcastInDim S64x1x8x1 ![0, 2] bcast_S64x8_S64x1x8x1_0_2) keyRows) ((broadcastInDim S64x1x8x1 ![] bcast_S_S64x1x8x1) (constantI S_ 32 64#32)))) ((broadcastInDim S64x4x8x32 ![0, 1, 2, 3] bcast_S1x4x1x32_S64x4x8x32_0_1_2_3) ((broadcastInDim S1x4x1x32 ![1, 3] bcast_S4x32_S1x4x1x32_1_3) keyCols))) shapeCasts_S64x4x8x32_S64x4x256)
noncomputable def validT  : IVec S4x16x32 1 :=
  ((andi) ((cmpi .sge) ((broadcastInDim S4x16x32 ![0, 1, 2] bcast_S4x1x32_S4x16x32_0_1_2) ((broadcastInDim S4x1x32 ![0, 2] bcast_S4x32_S4x1x32_0_2) keyCols)) ((broadcastInDim S4x16x32 ![0, 1, 2] bcast_S4x16x1_S4x16x32_0_1_2) ((broadcastInDim S4x16x1 ![0, 1] bcast_S4x16_S4x16x1_0_1) colStart))) ((cmpi .slt) ((broadcastInDim S4x16x32 ![0, 1, 2] bcast_S4x1x32_S4x16x32_0_1_2) ((broadcastInDim S4x1x32 ![0, 2] bcast_S4x32_S4x1x32_0_2) keyCols)) ((broadcastInDim S4x16x32 ![0, 1, 2] bcast_S4x16x1_S4x16x32_0_1_2) ((addi) ((broadcastInDim S4x16x1 ![0, 1] bcast_S4x16_S4x16x1_0_1) colStart) ((broadcastInDim S4x16x1 ![] bcast_S_S4x16x1) (constantI S_ 32 16#32))))))
noncomputable def drT  : IVec S64x8 32 :=
  ((addi) ((subi) keyRows ((broadcastInDim S64x8 ![0, 1] bcast_S64x1_S64x8_0_1) ((broadcastInDim S64x1 ![0] bcast_S64_S64x1_0) (iotaInDim S64 32 0)))) ((broadcastInDim S64x8 ![] bcast_S_S64x8) (constantI S_ 32 7#32)))
noncomputable def dcT  : IVec S4x16x32 32 :=
  ((addi) (minsi ((broadcastInDim S4x16x32 ![] bcast_S_S4x16x32) (constantI S_ 32 15#32)) (maxsi ((broadcastInDim S4x16x32 ![] bcast_S_S4x16x32) (constantI S_ 32 4294967281#32)) ((subi) ((broadcastInDim S4x16x32 ![0, 1, 2] bcast_S4x1x32_S4x16x32_0_1_2) ((broadcastInDim S4x1x32 ![0, 2] bcast_S4x32_S4x1x32_0_2) keyCols)) ((broadcastInDim S4x16x32 ![0, 1, 2] bcast_S4x16x1_S4x16x32_0_1_2) ((broadcastInDim S4x16x1 ![0, 1] bcast_S4x16_S4x16x1_0_1) qCols))))) ((broadcastInDim S4x16x32 ![] bcast_S_S4x16x32) (constantI S_ 32 15#32)))
noncomputable def drW  : IVec S64x4x16x8x32x1 32 :=
  ((broadcastInDim S64x4x16x8x32x1 ![0, 1, 2, 3, 4] bcast_S64x4x16x8x32_S64x4x16x8x32x1_0_1_2_3_4) ((broadcastInDim S64x4x16x8x32 ![0, 1, 2, 3, 4] bcast_S64x1x1x8x1_S64x4x16x8x32_0_1_2_3_4) ((broadcastInDim S64x1x1x8x1 ![0, 3] bcast_S64x8_S64x1x1x8x1_0_3) drT)))
noncomputable def dcW  : IVec S64x4x16x8x32x1 32 :=
  ((broadcastInDim S64x4x16x8x32x1 ![0, 1, 2, 3, 4] bcast_S64x4x16x8x32_S64x4x16x8x32x1_0_1_2_3_4) ((broadcastInDim S64x4x16x8x32 ![0, 1, 2, 3, 4] bcast_S1x4x16x1x32_S64x4x16x8x32_0_1_2_3_4) ((broadcastInDim S1x4x16x1x32 ![1, 2, 4] bcast_S4x16x32_S1x4x16x1x32_1_2_4) dcT)))
noncomputable def pairT  : IVec S64x4x16x8x32x2 32 :=
  concatenate S64x4x16x8x32x2 5 [⟨S64x4x16x8x32x1, drW⟩, ⟨S64x4x16x8x32x1, dcW⟩] concatenates_S64x4x16x8x32x1_S64x4x16x8x32x1_S64x4x16x8x32x2_d5
noncomputable def biasG (rpb : FVec F S8x15x31 .f32) : FVec F S8x64x4x16x8x32 .f32 :=
  (Host.gather gather_S8x15x31_S64x4x16x8x32x2_S8x64x4x16x8x32_0_12_n_n_12_5_811 rpb pairT)
noncomputable def biasM (rpb : FVec F S8x15x31 .f32) : FVec F S8x64x4x16x8x32 .f32 :=
  (select ((broadcastInDim S8x64x4x16x8x32 ![0, 1, 2, 3, 4, 5] bcast_S1x1x4x16x1x32_S8x64x4x16x8x32_0_1_2_3_4_5) ((broadcastInDim S1x1x4x16x1x32 ![2, 3, 5] bcast_S4x16x32_S1x1x4x16x1x32_2_3_5) validT)) (biasG rpb) ((broadcastInDim S8x64x4x16x8x32 ![] bcast_S_S8x64x4x16x8x32) (constant S_ .f32 0xFF800000#32)))
noncomputable def biasT (rpb : FVec F S8x15x31 .f32) : FVec F S64x8x4x16x256 .f32 :=
  (shapeCast S64x8x4x16x256 (transpose S64x8x4x16x8x32 [1, 0, 2, 3, 4, 5] (biasM rpb) transposes_S8x64x4x16x8x32_S64x8x4x16x8x32_1_0_2_3_4_5) shapeCasts_S64x8x4x16x8x32_S64x8x4x16x256)
noncomputable def qRows (q : FVec F S8x4096x8x64 .f32) : FVec F S8x64x4x16x8x64 .f32 :=
  (shapeCast S8x64x4x16x8x64 q shapeCasts_S8x4096x8x64_S8x64x4x16x8x64)
noncomputable def keysG (k : FVec F S8x4096x8x64 .f32) : FVec F S8x64x4x256x8x64 .f32 :=
  (Host.gather gather_S8x4096x8x64_S64x4x256x1_S8x64x4x256x8x64_045_1_n_n_1_3_81864 k ((broadcastInDim S64x4x256x1 ![0, 1, 2] bcast_S64x4x256_S64x4x256x1_0_1_2) idxT))
noncomputable def valsG (v : FVec F S8x4096x8x64 .f32) : FVec F S8x64x4x256x8x64 .f32 :=
  (Host.gather gather_S8x4096x8x64_S64x4x256x1_S8x64x4x256x8x64_045_1_n_n_1_3_81864 v ((broadcastInDim S64x4x256x1 ![0, 1, 2] bcast_S64x4x256_S64x4x256x1_0_1_2) idxT))
noncomputable def dotW (q : FVec F S8x4096x8x64 .f32) (k : FVec F S8x4096x8x64 .f32) : FVec F S8x64x8x4x16x256 .f32 :=
  (Host.dotGeneral dot_S8x64x4x16x8x64_S8x64x4x256x8x64_S8x64x8x4x16x256_5_5_3_3_0142_0142 none (qRows q) (keysG k))
noncomputable def sWin (q : FVec F S8x4096x8x64 .f32) (k : FVec F S8x4096x8x64 .f32) (rpb : FVec F S8x15x31 .f32) : FVec F S8x64x8x4x16x256 .f32 :=
  ((addf) (dotW q k) ((broadcastInDim S8x64x8x4x16x256 ![0, 1, 2, 3, 4, 5] bcast_S1x64x8x4x16x256_S8x64x8x4x16x256_0_1_2_3_4_5) ((broadcastInDim S1x64x8x4x16x256 ![1, 2, 3, 4, 5] bcast_S64x8x4x16x256_S1x64x8x4x16x256_1_2_3_4_5) (biasT rpb))))
noncomputable def dotC (q : FVec F S8x4096x8x64 .f32) (kc : FVec F S8x256x8x64 .f32) : FVec F S8x8x256x64x4x16 .f32 :=
  (Host.dotGeneral dot_S8x256x8x64_S8x64x4x16x8x64_S8x8x256x64x4x16_3_5_1_123_02_04 none kc (qRows q))
noncomputable def sCtx (q : FVec F S8x4096x8x64 .f32) (kc : FVec F S8x256x8x64 .f32) : FVec F S8x64x8x4x16x256 .f32 :=
  (transpose S8x64x8x4x16x256 [0, 3, 1, 4, 5, 2] (dotC q kc) transposes_S8x8x256x64x4x16_S8x64x8x4x16x256_0_3_1_4_5_2)
noncomputable def scores (q : FVec F S8x4096x8x64 .f32) (k : FVec F S8x4096x8x64 .f32) (kc : FVec F S8x256x8x64 .f32) (rpb : FVec F S8x15x31 .f32) : FVec F S8x64x8x4x16x512 .f32 :=
  concatenate S8x64x8x4x16x512 5 [⟨S8x64x8x4x16x256, (sWin q k rpb)⟩, ⟨S8x64x8x4x16x256, (sCtx q kc)⟩] concatenates_S8x64x8x4x16x256_S8x64x8x4x16x256_S8x64x8x4x16x512_d5
noncomputable def maxT (q : FVec F S8x4096x8x64 .f32) (k : FVec F S8x4096x8x64 .f32) (kc : FVec F S8x256x8x64 .f32) (rpb : FVec F S8x15x31 .f32) : FVec F S8x64x8x4x16 .f32 :=
  ((maximumf) ((broadcastInDim S8x64x8x4x16 ![] bcast_S_S8x64x8x4x16) (constant S_ .f32 0xFF800000#32)) (Host.reduce FloatOps.maximumf (scores q k kc rpb) (constant S_ .f32 0xFF800000#32) reducesTo_S8x64x8x4x16x512_S8x64x8x4x16_d5 h_S_))
noncomputable def expT (q : FVec F S8x4096x8x64 .f32) (k : FVec F S8x4096x8x64 .f32) (kc : FVec F S8x256x8x64 .f32) (rpb : FVec F S8x15x31 .f32) : FVec F S8x64x8x4x16x512 .f32 :=
  ((Host.exp) ((subf) (scores q k kc rpb) ((broadcastInDim S8x64x8x4x16x512 ![0, 1, 2, 3, 4, 5] bcast_S8x64x8x4x16x1_S8x64x8x4x16x512_0_1_2_3_4_5) ((broadcastInDim S8x64x8x4x16x1 ![0, 1, 2, 3, 4] bcast_S8x64x8x4x16_S8x64x8x4x16x1_0_1_2_3_4) (maxT q k kc rpb)))))
noncomputable def sumT (q : FVec F S8x4096x8x64 .f32) (k : FVec F S8x4096x8x64 .f32) (kc : FVec F S8x256x8x64 .f32) (rpb : FVec F S8x15x31 .f32) : FVec F S8x64x8x4x16 .f32 :=
  (Host.reduceAdd (expT q k kc rpb) (constant S_ .f32 0x00000000#32) reducesTo_S8x64x8x4x16x512_S8x64x8x4x16_d5 h_S_)
noncomputable def probs (q : FVec F S8x4096x8x64 .f32) (k : FVec F S8x4096x8x64 .f32) (kc : FVec F S8x256x8x64 .f32) (rpb : FVec F S8x15x31 .f32) : FVec F S8x64x8x4x16x512 .f32 :=
  ((Host.divf) (expT q k kc rpb) ((broadcastInDim S8x64x8x4x16x512 ![0, 1, 2, 3, 4, 5] bcast_S8x64x8x4x16x1_S8x64x8x4x16x512_0_1_2_3_4_5) ((broadcastInDim S8x64x8x4x16x1 ![0, 1, 2, 3, 4] bcast_S8x64x8x4x16_S8x64x8x4x16x1_0_1_2_3_4) (sumT q k kc rpb))))
noncomputable def outW (q : FVec F S8x4096x8x64 .f32) (k : FVec F S8x4096x8x64 .f32) (v : FVec F S8x4096x8x64 .f32) (kc : FVec F S8x256x8x64 .f32) (rpb : FVec F S8x15x31 .f32) : FVec F S8x64x4x8x64x16 .f32 :=
  (Host.dotGeneral dot_S8x64x4x256x8x64_S8x64x8x4x16x256_S8x64x4x8x64x16_3_5_5_4_0124_0132 none (valsG v) (extractStridedSlice S8x64x8x4x16x256 ![0, 0, 0, 0, 0, 0] (probs q k kc rpb) slices_S8x64x8x4x16x512_S8x64x8x4x16x256_0_0_0_0_0_0))
noncomputable def outC (q : FVec F S8x4096x8x64 .f32) (k : FVec F S8x4096x8x64 .f32) (kc : FVec F S8x256x8x64 .f32) (vc : FVec F S8x256x8x64 .f32) (rpb : FVec F S8x15x31 .f32) : FVec F S8x8x64x64x4x16 .f32 :=
  (Host.dotGeneral dot_S8x256x8x64_S8x64x8x4x16x256_S8x8x64x64x4x16_1_5_3_134_02_02 none vc (extractStridedSlice S8x64x8x4x16x256 ![0, 0, 0, 0, 0, 256] (probs q k kc rpb) slices_S8x64x8x4x16x512_S8x64x8x4x16x256_0_0_0_0_0_256))
noncomputable def outS (q : FVec F S8x4096x8x64 .f32) (k : FVec F S8x4096x8x64 .f32) (v : FVec F S8x4096x8x64 .f32) (kc : FVec F S8x256x8x64 .f32) (vc : FVec F S8x256x8x64 .f32) (rpb : FVec F S8x15x31 .f32) : FVec F S8x64x4x16x8x64 .f32 :=
  ((addf) (transpose S8x64x4x16x8x64 [0, 1, 2, 5, 3, 4] (outW q k v kc rpb) transposes_S8x64x4x8x64x16_S8x64x4x16x8x64_0_1_2_5_3_4) (transpose S8x64x4x16x8x64 [0, 3, 4, 5, 1, 2] (outC q k kc vc rpb) transposes_S8x8x64x64x4x16_S8x64x4x16x8x64_0_3_4_5_1_2))
noncomputable def refOut (q : FVec F S8x4096x8x64 .f32) (k : FVec F S8x4096x8x64 .f32) (v : FVec F S8x4096x8x64 .f32) (kc : FVec F S8x256x8x64 .f32) (vc : FVec F S8x256x8x64 .f32) (rpb : FVec F S8x15x31 .f32) : FVec F S32768x512 .bf16 :=
  (truncf .bf16 (shapeCast S32768x512 (outS q k v kc vc rpb) shapeCasts_S8x64x4x16x8x64_S32768x512) bitsLt_bf16_f32)

theorem res_eq (m : (ℓ : Loc nD τ sig) → Buf (Elt F) ℓ) (c : Dev nD) :
    res_out0 m c = refOut (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := rfl

end

end Cert.ReferenceIdeal.Value
-- ==== Proof.RefInt.lean ====
module

public import proofs.«01_k».proof.Proof.RefTerm
public import proofs.«01_k».proof.Proof.Spec

@[expose] public section

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo

theorem keyRows_at : ∀ (r : Fin 64) (i : Fin 8), keyRows (ix2 r i) = BitVec.ofNat 32 (min 56 (r.val - 4) + i.val) := by decide +kernel
theorem keyCols_at : ∀ (c : Fin 4) (l : Fin 32), keyCols (ix2 c l) = BitVec.ofNat 32 (min 32 (16 * c.val - 8) + l.val) := by decide +kernel
theorem validT_at : ∀ (c : Fin 4) (q : Fin 16) (l : Fin 32), validT (ix3 c q l)
    = BitVec.ofBool (decide (min 48 (16 * c.val + q.val - 8) ≤ min 32 (16 * c.val - 8) + l.val ∧ min 32 (16 * c.val - 8) + l.val < min 48 (16 * c.val + q.val - 8) + 16)) := by decide +kernel
theorem drT_at : ∀ (r : Fin 64) (i : Fin 8), drT (ix2 r i) = BitVec.ofNat 32 (min 56 (r.val - 4) + i.val + 7 - r.val) := by decide +kernel
theorem dcT_at : ∀ (c : Fin 4) (q : Fin 16) (l : Fin 32), dcT (ix3 c q l)
    = BitVec.ofNat 32 (min 30 (min 32 (16 * c.val - 8) + l.val + 15 - (16 * c.val + q.val))) := by decide +kernel
end Cert.ReferenceIdeal.Value
-- ==== Proof.RefVal.lean ====
module

public import proofs.«01_k».proof.Proof.RefTerm
public import proofs.«01_k».proof.Proof.RefInt
public import proofs.«01_k».proof.Proof.Spec

@[expose] public section

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo

open Cert.Spec

theorem word_nat (n : ℕ) (h : n < 2147483648) : (BitVec.ofNat 32 n).toInt.toNat = n := by
  rw [BitVec.toInt_eq_toNat_of_lt (by rw [BitVec.toNat_ofNat]; omega), BitVec.toNat_ofNat]; omega

/-- The key that place `j` of a block's gathered keys holds. -/
def keyOf (r : Fin 64) (c : Fin 4) (j : Fin 256) : Fin 4096 :=
  ⟨64 * (min 56 (r.val - 4) + j.val / 32) + (min 32 (16 * c.val - 8) + j.val % 32), by omega⟩

/-- The query at row `r`, block `c` of columns and place `i`. -/
def qryOf (r : Fin 64) (c : Fin 4) (i : Fin 16) : Fin 4096 := ⟨r.val * 64 + c.val * 16 + i.val, by omega⟩

theorem idxT_at (r : Fin 64) (c : Fin 4) (j : Fin 256) : idxT (ix3 r c j) = BitVec.ofNat 32 (keyOf r c j).val := by
  have : idxT (ix3 r c j) = IntOp.addi (IntOp.muli (keyRows (ix2 r ⟨j.val / 32, by omega⟩)) 64#32) (keyCols (ix2 c ⟨j.val % 32, by omega⟩)) := by
    pointwise [idxT]
  rw [this, keyRows_at, keyCols_at]
  apply BitVec.eq_of_toNat_eq
  unfold IntOp.addi IntOp.muli keyOf
  simp only [BitVec.toNat_add, BitVec.toNat_mul, BitVec.toNat_ofNat]
  omega

theorem gatherK (x : FVec Ideal S8x4096x8x64 .f32) (idx : IVec S64x4x256x1 32) (b : Fin 8) (r : Fin 64) (c : Fin 4) (j : Fin 256) (h : Fin 8) (d : Fin 64) :
    Host.gather gather_S8x4096x8x64_S64x4x256x1_S8x64x4x256x8x64_045_1_n_n_1_3_81864 x idx (ix6 b r c j h d)
      = x (ix4 b ⟨min (idx (ix4 r c j 0)).toInt.toNat 4095, by omega⟩ h d) := by
  unfold Host.gather
  congr 1
  funext a
  refine Fin.ext ?_
  match a with
  | ⟨0, _⟩ => show 0 + 0 + b.val = b.val; omega
  | ⟨1, _⟩ =>
    show min (idx _).toInt.toNat 4095 + 0 + 0 = min (idx (ix4 r c j 0)).toInt.toNat 4095
    have : GatherDims.siIdx gather_S8x4096x8x64_S64x4x256x1_S8x64x4x256x8x64_045_1_n_n_1_3_81864 (ix6 b r c j h d) ⟨0, by decide⟩ = ix4 r c j 0 := by
      funext e
      match e with
      | ⟨0, _⟩ => rfl
      | ⟨1, _⟩ => rfl
      | ⟨2, _⟩ => rfl
      | ⟨3, _⟩ => rfl
    rw [← this]; rfl
  | ⟨2, _⟩ => show 0 + 0 + h.val = h.val; omega
  | ⟨3, _⟩ => show 0 + 0 + d.val = d.val; omega

theorem gatherB (x : FVec Ideal S8x15x31 .f32) (idx : IVec S64x4x16x8x32x2 32) (h : Fin 8) (r : Fin 64) (c : Fin 4) (i : Fin 16) (a : Fin 8) (l : Fin 32) :
    Host.gather gather_S8x15x31_S64x4x16x8x32x2_S8x64x4x16x8x32_0_12_n_n_12_5_811 x idx (ix6 h r c i a l)
      = x (ix3 h ⟨min (idx (ix6 r c i a l 0)).toInt.toNat 14, by omega⟩ ⟨min (idx (ix6 r c i a l 1)).toInt.toNat 30, by omega⟩) := by
  unfold Host.gather
  congr 1
  funext e
  refine Fin.ext ?_
  match e with
  | ⟨0, _⟩ => show 0 + 0 + h.val = h.val; omega
  | ⟨1, _⟩ =>
    show min (idx _).toInt.toNat 14 + 0 + 0 = min (idx (ix6 r c i a l 0)).toInt.toNat 14
    have : GatherDims.siIdx gather_S8x15x31_S64x4x16x8x32x2_S8x64x4x16x8x32_0_12_n_n_12_5_811 (ix6 h r c i a l) ⟨0, by decide⟩ = ix6 r c i a l 0 := by
      funext e
      match e with
      | ⟨0, _⟩ => rfl
      | ⟨1, _⟩ => rfl
      | ⟨2, _⟩ => rfl
      | ⟨3, _⟩ => rfl
      | ⟨4, _⟩ => rfl
      | ⟨5, _⟩ => rfl
    rw [← this]; rfl
  | ⟨2, _⟩ =>
    show min (idx _).toInt.toNat 30 + 0 + 0 = min (idx (ix6 r c i a l 1)).toInt.toNat 30
    have : GatherDims.siIdx gather_S8x15x31_S64x4x16x8x32x2_S8x64x4x16x8x32_0_12_n_n_12_5_811 (ix6 h r c i a l) ⟨1, by decide⟩ = ix6 r c i a l 1 := by
      funext e
      match e with
      | ⟨0, _⟩ => rfl
      | ⟨1, _⟩ => rfl
      | ⟨2, _⟩ => rfl
      | ⟨3, _⟩ => rfl
      | ⟨4, _⟩ => rfl
      | ⟨5, _⟩ => rfl
    rw [← this]; rfl

theorem back (j : Fin 256) (h : 256 + j.val - 256 < 256) : (⟨256 + j.val - 256, h⟩ : Fin 256) = j := Fin.ext (Nat.add_sub_cancel_left ..)

theorem keysG_at (k : FVec Ideal S8x4096x8x64 .f32) (b : Fin 8) (r : Fin 64) (c : Fin 4) (j : Fin 256) (h : Fin 8) (d : Fin 64) :
    keysG k (ix6 b r c j h d) = k (ix4 b (keyOf r c j) h d) := by
  unfold keysG
  rw [gatherK]
  congr 2
  refine Fin.ext ?_
  show min (broadcastInDim S64x4x256x1 ![0, 1, 2] bcast_S64x4x256_S64x4x256x1_0_1_2 idxT (ix4 r c j 0)).toInt.toNat 4095 = _
  have : broadcastInDim S64x4x256x1 ![0, 1, 2] bcast_S64x4x256_S64x4x256x1_0_1_2 idxT (ix4 r c j 0) = idxT (ix3 r c j) := by pointwise
  rw [this, idxT_at, word_nat _ (by have := (keyOf r c j).isLt; omega)]
  have := (keyOf r c j).isLt; omega

theorem pairT_0 (r : Fin 64) (c : Fin 4) (i : Fin 16) (a : Fin 8) (l : Fin 32) : pairT (ix6 r c i a l 0) = drT (ix2 r a) := by
  have : ∀ z : Fin 2, pairT (ix6 r c i a l z) = (if h : z.val < 1 then drT (ix2 r a) else dcT (ix3 c i l)) := fun z => by
    pointwise [pairT, drW, dcW]
  rw [this]; rfl
theorem pairT_1 (r : Fin 64) (c : Fin 4) (i : Fin 16) (a : Fin 8) (l : Fin 32) : pairT (ix6 r c i a l 1) = dcT (ix3 c i l) := by
  have : ∀ z : Fin 2, pairT (ix6 r c i a l z) = (if h : z.val < 1 then drT (ix2 r a) else dcT (ix3 c i l)) := fun z => by
    pointwise [pairT, drW, dcW]
  rw [this]; rfl

theorem key_row (r : Fin 64) (c : Fin 4) (j : Fin 256) : (keyOf r c j).val / 64 = min 56 (r.val - 4) + j.val / 32 := by
  unfold keyOf; dsimp only; omega
theorem key_col (r : Fin 64) (c : Fin 4) (j : Fin 256) : (keyOf r c j).val % 64 = min 32 (16 * c.val - 8) + j.val % 32 := by
  unfold keyOf; dsimp only; omega
theorem qry_row (r : Fin 64) (c : Fin 4) (i : Fin 16) : (qryOf r c i).val / 64 = r.val := by
  unfold qryOf; dsimp only; omega
theorem qry_col (r : Fin 64) (c : Fin 4) (i : Fin 16) : (qryOf r c i).val % 64 = 16 * c.val + i.val := by
  unfold qryOf; dsimp only; omega

theorem biasG_at (rpb : FVec Ideal S8x15x31 .f32) (r : Fin 64) (h : Fin 8) (c : Fin 4) (i : Fin 16) (j : Fin 256)
    (hs : seen (qryOf r c i) (keyOf r c j)) :
    biasG rpb (ix6 h r c i ⟨j.val / 32, by omega⟩ ⟨j.val % 32, by omega⟩) = biasAt rpb h (qryOf r c i) (keyOf r c j) := by
  unfold biasG
  rw [gatherB]
  unfold biasAt
  have e1 : min (pairT (ix6 r c i ⟨j.val / 32, by omega⟩ ⟨j.val % 32, by omega⟩ 0)).toInt.toNat 14 = ((keyOf r c j).val / 64 + 7 - (qryOf r c i).val / 64) % 15 := by
    rw [pairT_0, drT_at, word_nat _ (by omega)]
    unfold seen at hs; rw [key_row, key_col, qry_row, qry_col] at hs; simp only [key_row, key_col, qry_row, qry_col]
    omega
  have e2 : min (pairT (ix6 r c i ⟨j.val / 32, by omega⟩ ⟨j.val % 32, by omega⟩ 1)).toInt.toNat 30 = ((keyOf r c j).val % 64 + 15 - (qryOf r c i).val % 64) % 31 := by
    clear e1
    rw [pairT_1, dcT_at, word_nat _ (by omega)]
    unfold seen at hs; rw [key_row, key_col, qry_row, qry_col] at hs; simp only [key_row, key_col, qry_row, qry_col]
    omega
  exact congrArg rpb (congr (congrArg (ix3 h) (Fin.ext e1)) (Fin.ext e2))

theorem ninf : Ideal.ofBits FTy.f32 0xFF800000#32 = ⊥ := by simp [Ideal.ofBits, Ideal.ieee]

theorem valid_iff (r : Fin 64) (c : Fin 4) (i : Fin 16) (j : Fin 256) :
    validT (ix3 c i ⟨j.val % 32, by omega⟩) = BitVec.ofBool (decide (seen (qryOf r c i) (keyOf r c j))) := by
  rw [validT_at]
  congr 1
  rw [decide_eq_decide]
  unfold seen keyOf qryOf
  dsimp only
  omega

theorem select_true (a b : EReal) : Scalar.select (BitVec.ofBool true) a b = a := rfl
theorem select_false (a b : EReal) : Scalar.select (BitVec.ofBool false) a b = b := rfl

theorem biasT_at (rpb : FVec Ideal S8x15x31 .f32) (r : Fin 64) (h : Fin 8) (c : Fin 4) (i : Fin 16) (j : Fin 256) :
    biasT rpb (ix5 r h c i j) = if seen (qryOf r c i) (keyOf r c j) then biasAt rpb h (qryOf r c i) (keyOf r c j) else ⊥ := by
  have e2 : biasT rpb (ix5 r h c i j) = Scalar.select (validT (ix3 c i ⟨j.val % 32, by omega⟩)) (biasG rpb (ix6 h r c i ⟨j.val / 32, by omega⟩ ⟨j.val % 32, by omega⟩)) (Ideal.ofBits FTy.f32 0xFF800000#32) := by
    pointwise [biasT, biasM]
  refine e2.trans ?_
  by_cases hs : seen (qryOf r c i) (keyOf r c j)
  · rw [if_pos hs, ← biasG_at rpb r h c i j hs]
    refine Eq.trans (congrArg (fun z => Scalar.select z _ _) ((valid_iff r c i j).trans (congrArg BitVec.ofBool (decide_eq_true hs)))) (select_true _ _)
  · rw [if_neg hs, ← ninf]
    refine Eq.trans (congrArg (fun z => Scalar.select z _ _) ((valid_iff r c i j).trans (congrArg BitVec.ofBool (decide_eq_false hs)))) (select_false _ _)

theorem sWin_at (q k : FVec Ideal S8x4096x8x64 .f32) (rpb : FVec Ideal S8x15x31 .f32) (b : Fin 8) (r : Fin 64) (h : Fin 8) (c : Fin 4) (i : Fin 16) (j : Fin 256) :
    dotW q k (ix6 b r h c i j) + biasT rpb (ix5 r h c i j) = sK q k rpb b h (qryOf r c i) (keyOf r c j) := by
  have e1 : dotW q k (ix6 b r h c i j) = ∑ x : Fin 64, q (ix4 b (qryOf r c i) h x) * keysG k (ix6 b r c j h x) := by
    pointwise [dotW, qRows]; rfl
  have e2 := biasT_at rpb r h c i j
  rw [e1, e2]
  simp only [keysG_at]
  unfold sK
  by_cases hs : seen (qryOf r c i) (keyOf r c j)
  · rw [if_pos hs, if_pos hs]
  · rw [if_neg hs, if_neg hs, EReal.add_bot]

theorem sCtx_at (q : FVec Ideal S8x4096x8x64 .f32) (kc : FVec Ideal S8x256x8x64 .f32)  (b : Fin 8) (r : Fin 64) (h : Fin 8) (c : Fin 4) (i : Fin 16) (j : Fin 256) :
    sCtx q kc (ix6 b r h c i j) = sC q kc b h (qryOf r c i) j := by
  have : sCtx q kc (ix6 b r h c i j) = ∑ x : Fin 64, kc (ix4 b j h x) * q (ix4 b (qryOf r c i) h x) := by
    pointwise [sCtx, dotC, qRows]; rfl
  rw [this]; unfold sC
  exact Finset.sum_congr rfl fun _ _ => mul_comm _ _

theorem scores_at (q k : FVec Ideal S8x4096x8x64 .f32) (kc : FVec Ideal S8x256x8x64 .f32) (rpb : FVec Ideal S8x15x31 .f32) (b : Fin 8) (r : Fin 64) (h : Fin 8) (c : Fin 4) (i : Fin 16) (j : Fin 512) :
    scores q k kc rpb (ix6 b r h c i j) = if hj : j.val < 256 then sK q k rpb b h (qryOf r c i) (keyOf r c ⟨j.val, hj⟩) else sC q kc b h (qryOf r c i) ⟨j.val - 256, by omega⟩ := by
  have : scores q k kc rpb (ix6 b r h c i j) = if hj : j.val < 256 then dotW q k (ix6 b r h c i ⟨j.val, hj⟩) + biasT rpb (ix5 r h c i ⟨j.val, hj⟩)
      else sCtx q kc (ix6 b r h c i ⟨j.val - 256, by omega⟩) := by
    pointwise [scores, sWin]
  rw [this]
  split
  · exact sWin_at q k rpb b r h c i _
  · exact sCtx_at q kc b r h c i _

theorem red : S8x64x8x4x16x512.Reduces [5] S8x64x8x4x16 := by decide

theorem red_lift (b : Fin 8) (r : Fin 64) (h : Fin 8) (c : Fin 4) (i : Fin 16) (j : Fin 512) :
    red.lift (ix5 b r h c i) j = ix6 b r h c i j := by
  funext e
  match e with
  | ⟨0, _⟩ => rfl
  | ⟨1, _⟩ => rfl
  | ⟨2, _⟩ => rfl
  | ⟨3, _⟩ => rfl
  | ⟨4, _⟩ => rfl
  | ⟨5, _⟩ => rfl

theorem maximumf_at (x y : FVec Ideal S8x64x8x4x16 .f32) (j : S8x64x8x4x16.Idx) : maximumf x y j = (max : EReal → EReal → EReal) (x j) (y j) := rfl

theorem maxT_at (q k : FVec Ideal S8x4096x8x64 .f32) (kc : FVec Ideal S8x256x8x64 .f32) (rpb : FVec Ideal S8x15x31 .f32) (b : Fin 8) (r : Fin 64) (h : Fin 8) (c : Fin 4) (i : Fin 16) :
    maxT q k kc rpb (ix5 b r h c i) = top (fun j => sK q k rpb b h (qryOf r c i) (keyOf r c j)) (sC q kc b h (qryOf r c i)) := by
  have e : Host.reduce (FloatOps.maximumf (F := Ideal) (φ := .f32)) (scores q k kc rpb) (constant (F := Ideal) S_ .f32 0xFF800000#32) reducesTo_S8x64x8x4x16x512_S8x64x8x4x16_d5 h_S_ (ix5 b r h c i)
      = Finset.univ.fold max (Ideal.ofBits FTy.f32 0xFF800000#32) (scores q k kc rpb ∘ red.lift (ix5 b r h c i)) :=
    Host.reduce_eq_fold_single (max : EReal → EReal → EReal) _ _ _ red h_S_ _
  have e' : maxT q k kc rpb (ix5 b r h c i) = (max : EReal → EReal → EReal) (Ideal.ofBits FTy.f32 0xFF800000#32) (Host.reduce (FloatOps.maximumf (F := Ideal) (φ := .f32)) (scores q k kc rpb) (constant (F := Ideal) S_ .f32 0xFF800000#32) reducesTo_S8x64x8x4x16x512_S8x64x8x4x16_d5 h_S_ (ix5 b r h c i)) := by
    unfold maxT; exact maximumf_at _ _ _
  rw [e', e, ninf, max_eq_right bot_le]
  have e2 : (scores q k kc rpb ∘ red.lift (ix5 b r h c i)) = fun j : Fin 512 => scores q k kc rpb (ix6 b r h c i j) := funext fun j => congrArg _ (red_lift b r h c i j)
  rw [e2]
  refine (fold_max _).trans ((sup_split 256 256 rfl _).trans ?_)
  unfold top
  refine congr (congrArg max ?_) ?_
  · refine congrArg _ (funext fun j => ?_)
    show scores q k kc rpb (ix6 b r h c i _) = _
    rw [scores_at, dif_pos (show j.val < 256 from j.isLt)]
  · refine congrArg _ (funext fun j => ?_)
    show scores q k kc rpb (ix6 b r h c i _) = _
    rw [scores_at, dif_neg (show ¬256 + j.val < 256 by omega)]
    rw [back]

theorem expT_at (q k : FVec Ideal S8x4096x8x64 .f32) (kc : FVec Ideal S8x256x8x64 .f32) (rpb : FVec Ideal S8x15x31 .f32) (b : Fin 8) (r : Fin 64) (h : Fin 8) (c : Fin 4) (i : Fin 16) (j : Fin 512) :
    expT q k kc rpb (ix6 b r h c i j) = Ideal.exp (scores q k kc rpb (ix6 b r h c i j) - maxT q k kc rpb (ix5 b r h c i)) := by
  pointwise [expT]

theorem sumT_at (q k : FVec Ideal S8x4096x8x64 .f32) (kc : FVec Ideal S8x256x8x64 .f32) (rpb : FVec Ideal S8x15x31 .f32) (b : Fin 8) (r : Fin 64) (h : Fin 8) (c : Fin 4) (i : Fin 16) :
    sumT q k kc rpb (ix5 b r h c i) = mass (fun j => sK q k rpb b h (qryOf r c i) (keyOf r c j)) (sC q kc b h (qryOf r c i)) := by
  have e : sumT q k kc rpb (ix5 b r h c i) = Ideal.ofBits FTy.f32 0x00000000#32 + ∑ j : Fin 512, expT q k kc rpb (red.lift (ix5 b r h c i) j) :=
    Ideal.hostReduceAdd_single reducesTo_S8x64x8x4x16x512_S8x64x8x4x16_d5 red (expT q k kc rpb) _ _
  rw [e, Ideal.ofBits_zero_f32, zero_add]
  refine (sum_split 256 256 rfl _).trans ?_
  unfold mass
  rw [← maxT_at]
  congr 1
  · refine Finset.sum_congr rfl fun j _ => ?_
    rw [red_lift, expT_at, scores_at, dif_pos (show j.val < 256 from j.isLt)]
  · refine Finset.sum_congr rfl fun j _ => ?_
    rw [red_lift, expT_at, scores_at, dif_neg (show ¬256 + j.val < 256 by omega)]
    rw [back]

theorem probs_at (q k : FVec Ideal S8x4096x8x64 .f32) (kc : FVec Ideal S8x256x8x64 .f32) (rpb : FVec Ideal S8x15x31 .f32) (b : Fin 8) (r : Fin 64) (h : Fin 8) (c : Fin 4) (i : Fin 16) (j : Fin 512) :
    probs q k kc rpb (ix6 b r h c i j) = Ideal.div (Ideal.exp (scores q k kc rpb (ix6 b r h c i j) - maxT q k kc rpb (ix5 b r h c i))) (sumT q k kc rpb (ix5 b r h c i)) := by
  rw [← expT_at]
  pointwise [probs]

theorem keyOf_inj (r : Fin 64) (c : Fin 4) : Function.Injective (keyOf r c) := fun a b h => by
  have := congrArg Fin.val h
  unfold keyOf at this
  dsimp only at this
  exact Fin.ext (by omega)

theorem keyOf_range (r : Fin 64) (c : Fin 4) (i : Fin 16) (k : Fin 4096) (h : seen (qryOf r c i) k) : k ∈ Set.range (keyOf r c) := by
  unfold seen qryOf at h
  dsimp only at h
  refine ⟨⟨(k.val / 64 - min 56 (r.val - 4)) * 32 + (k.val % 64 - min 32 (16 * c.val - 8)), by omega⟩, Fin.ext ?_⟩
  unfold keyOf
  dsimp only
  omega

theorem outS_at (q k v : FVec Ideal S8x4096x8x64 .f32) (kc vc : FVec Ideal S8x256x8x64 .f32) (rpb : FVec Ideal S8x15x31 .f32) (hq : Real' q) (hk : Real' k) (hkc : Real' kc) (hr : Real' rpb)
    (b : Fin 8) (r : Fin 64) (h : Fin 8) (c : Fin 4) (i : Fin 16) (d : Fin 64) :
    outS q k v kc vc rpb (ix6 b r c i h d) = result q k v kc vc rpb b h (qryOf r c i) d := by
  have e : outS q k v kc vc rpb (ix6 b r c i h d) = ∑ x : Fin 256, valsG v (ix6 b r c x h d) * probs q k kc rpb (ix6 b r h c i ⟨x.val, by omega⟩)
      + ∑ x : Fin 256, vc (ix4 b x h d) * probs q k kc rpb (ix6 b r h c i ⟨256 + x.val, by omega⟩) := by
    pointwise [outS, outW, outC]
  rw [e]
  unfold result
  rw [← attend_embed (keyOf r c) (keyOf_inj r c) (sK q k rpb b h (qryOf r c i)) (sC q kc b h (qryOf r c i)) (fun key => v (ix4 b key h d)) (fun j => vc (ix4 b j h d))
    (fun key hkey => if_neg fun hs => hkey (keyOf_range r c i key hs)) (fun key => sK_ne_top q k rpb hq hk hr b h _ key) (fun j => sC_real q kc hq hkc b h _ j)]
  unfold attend
  rw [← sumT_at, ← maxT_at]
  congr 1
  · refine Finset.sum_congr rfl fun x _ => ?_
    rw [probs_at, scores_at, dif_pos (show x.val < 256 from x.isLt), mul_comm]
    congr 1
    exact keysG_at v b r c x h d
  · refine Finset.sum_congr rfl fun x _ => ?_
    rw [probs_at, scores_at, dif_neg (show ¬256 + x.val < 256 by omega), mul_comm, back]

theorem refOut_at (q k v : FVec Ideal S8x4096x8x64 .f32) (kc vc : FVec Ideal S8x256x8x64 .f32) (rpb : FVec Ideal S8x15x31 .f32) (hq : Real' q) (hk : Real' k) (hkc : Real' kc) (hr : Real' rpb)
    (n : Fin 32768) (l : Fin 512) :
    refOut q k v kc vc rpb (ix2 n l) = result q k v kc vc rpb ⟨n.val / 4096, by omega⟩ ⟨l.val / 64, by omega⟩ ⟨n.val % 4096, by omega⟩ ⟨l.val % 64, by omega⟩ := by
  have e : refOut q k v kc vc rpb (ix2 n l) = outS q k v kc vc rpb (ix6 ⟨n.val / 4096, by omega⟩ ⟨n.val / 64 % 64, by omega⟩ ⟨n.val / 16 % 4, by omega⟩ ⟨n.val % 16, by omega⟩ ⟨l.val / 64, by omega⟩ ⟨l.val % 64, by omega⟩) := by
    pointwise [refOut]
  rw [e, outS_at q k v kc vc rpb hq hk hkc hr]
  congr 1
  exact Fin.ext (by unfold qryOf; dsimp only; omega)

end Cert.ReferenceIdeal.Value
-- ==== Proof.Pre.lean ====
module

public import proofs.«01_k».proof.Proof.Gen.Pre_finite
public import proofs.«01_k».proof.Proof.Spec
public import Idealize.ShloMosaic.Lib.ReduceAll
public import Idealize.ShloMosaic.Lib.Pointwise

@[expose] public section

set_option maxRecDepth 16384

noncomputable section

namespace Cert.Pre_finite.Value

open Cert.Pre_finite Cert.Pre_finite.Gen Idealize.ShloMosaic Cert.Spec

/-- A value below infinity in size is real. -/
theorem real_of_lt (x : EReal) (h : Ideal.cmp .olt (max x (-x)) (Ideal.ofBits .f32 0x7F800000#32) = 1#1) : ∃ r : ℝ, x = r := by
  have hi : Ideal.ofBits .f32 0x7F800000#32 = ⊤ := by simp [Ideal.ofBits, Ideal.ieee]
  rw [hi] at h
  induction x with
  | bot => exfalso; revert h; simp [Ideal.cmp]
  | coe r => exact ⟨r, rfl⟩
  | top => exfalso; revert h; simp [Ideal.cmp]

instance : Subsingleton S_.Idx := ⟨fun a b => funext fun i => i.elim0⟩

theorem and_left : ∀ a b : BitVec 1, IntOp.andi a b = 1#1 → a = 1#1 := by decide
theorem and_right : ∀ a b : BitVec 1, IntOp.andi a b = 1#1 → b = 1#1 := by decide

/-- One array's test passed: its values are real. -/
theorem real_of_test {s : Shape} {x : FVec Ideal s .f32} {hb : S_.BroadcastsInDim s (![] : Fin 0 → Fin s.rank)} {axes : List (Fin s.rank)} {hr : s.ReducesTo axes S_}
    {hu : 0 < S_.numel} {j : S_.Idx}
    (h : Host.reduce IntOp.andi (cmpf .olt (Host.absf x) (broadcastInDim s ![] hb (constant (F := Ideal) S_ .f32 0x7F800000#32))) (constantI S_ 1 1#1) hr hu j = 1#1) :
    Real' x := fun i => real_of_lt (x i) (Host.reduce_andi_all _ _ hr hu j h i)

/-- The precondition at the index of its one result: the four arrays that it tests are real. -/
theorem finite_real (q k v : FVec Ideal S8x4096x8x64 .f32) (kc vc : FVec Ideal S8x256x8x64 .f32) (rpb : FVec Ideal S8x15x31 .f32)
    (h : fn (F := Ideal) q k v kc vc rpb = fun _ => 1#1) : Real' q ∧ Real' k ∧ Real' kc ∧ Real' rpb := by
  let j : S_.Idx := fun i => i.elim0
  have h0 := congrFun h j
  dsimp only [fn, fn_part1] at h0
  have h1 := and_left _ _ h0
  have h2 := and_left _ _ h1
  have q1 := and_left _ _ h2
  have k1 := and_right _ _ h2
  have c1 := and_right _ _ h1
  have r1 := and_right _ _ h0
  exact ⟨real_of_test q1, real_of_test k1, real_of_test c1, real_of_test r1⟩

end Cert.Pre_finite.Value

end
-- ==== Proof.FfnSetup.lean ====
/- The expert kernel: its arrays when the kernel starts, its tables, and the windows of its operands. -/
module

public import proofs.«01_k».proof.Proof.Gen.Kernel2Ideal
public import proofs.«01_k».proof.Proof.Gen.Kernel2Ideal.Skeleton
public import proofs.«01_k».proof.Proof.Gen.Kernel2Ideal.Launch
public import Idealize.ShloMosaic.Lib.Pipeline.Kit
public import Idealize.ShloMosaic.Lib.Pipeline.FrameBody
public import Idealize.ShloMosaic.Lib.Tactic
public import Idealize.ShloMosaic.Lib.WordCmp

@[expose] public section

set_option maxRecDepth 16384

noncomputable section

namespace Cert.Kernel2Ideal.Ffn

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem fetch0_0 (a : (pcfg0 (F := F)).Adm) : ∀ t : Fin (cfg0 a).N, ((cfg0 a).win 0).fetch t = true :=
  (fun t => (Pipeline.Window.fetchOf_reads cc0_transform_0 reads0_0 hreads0_0 0 (by decide) (by decide) (Pipeline.Window.sep_of_coord cc0_transform_0 0 0 (fun _ => rfl) (by decide)) (P := 1) (by decide) t).mpr (Nat.mod_one _) : ∀ t : Fin grid0.N, Pipeline.Window.fetchOf grid0 false cc0_transform_0 t = true)
theorem flush0_4 (a : (pcfg0 (F := F)).Adm) : ∀ t : Fin (cfg0 a).N, ((cfg0 a).win 4).flush t = true :=
  (fun t => (Pipeline.Window.flushOf_reads cc0_transform_4 reads0_4 hreads0_4 0 (by decide) (by decide) (Pipeline.Window.sep_of_coord cc0_transform_4 0 0 (fun _ => rfl) (by decide)) (P := 1) (m := 0) (by decide) rfl t).mpr (Nat.mod_one _) : ∀ t : Fin grid0.N, Pipeline.Window.flushOf grid0 true cc0_transform_4 t = true)

abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)

abbrev bodyAt0 (a : (pcfg0 (F := F)).Adm) (t : Fin (cfg0 a).N) : Prog (TpuEff nD τ sig (Elt F) Λ₀ .tc) PUnit :=
  cc0_moe_ffn (grid0.coords t) (Memref.whole main_v17) (Memref.isWhole_whole _) (Memref.whole main_v33) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4))

abbrev V (c : Dev nD) (b : Ref sig .tc) : Buf (Elt F) ((c : Thread nD τ).loc b) :=
  StableHlo.after (List.flatten [hostOps0, hostOps0_1]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1] (by simp only [List.Forall]; exact ⟨hostOps0_sub, hostOps0_1_sub⟩)
    (by simp only [List.Forall]; exact ⟨hostOps0_fresh, hostOps0_1_fresh⟩) main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

def tbl : pre0.Contents (Elt F) := fun j => V m (0 : Dev nD) (pre0.ref j)
theorem V_pre (c : Dev nD) (j : Fin 2) : V m c (pre0.ref j) = tbl m j := by
  obtain rfl : c = 0 := Subsingleton.elim _ _; rfl
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

abbrev tbM0_0 : Memref sig .tc .smem S76 .i32 := Memref.whole main_v17
abbrev htbM0_0 : tbM0_0.IsWhole := Memref.isWhole_whole _
abbrev tbM0_1 : Memref sig .tc .smem S76 .i32 := Memref.whole main_v33
abbrev htbM0_1 : tbM0_1.IsWhole := Memref.isWhole_whole _

abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c)⟩) h

abbrev VO0_4 : View sig .tc .vmem S512x1024 .bf16 := (Memref.whole cc0_stg4_0 : Memref sig .tc .vmem S512x1024 .bf16).view
abbrev ms0_0 (hO : Ok m) (t : Fin (cfgM m hO).N) : Memref sig .tc .vmem S512x1152 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S4x1024x512 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S4x1024x512 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S4x512x1024 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S512x1024 .bf16 := spec0_4.stage ((cfgM m hO).slots t 4)
abbrev hs0_4 (hO : Ok m) (t : Fin (cfgM m hO).N) : (ms0_4 m hO t).IsWhole := hstage0_4 (((cfgM m hO).slots t 4).cast nbuf0_4)

/-- The word of the second table that point `i` reads: 1 where the tile is in use, 0 where it is not. -/
abbrev word (c : Dev nD) (i : grid0.Coords) (xt1 : TbBuf0 (F := F) c tbM0_1) : Elt F .i32 :=
  View.readAt (Elt F) tbM0_1.view (Rect.unit (s := S76) (k0_off1 i) ![1] (k0_off1_inb i)).toLoadRect xt1 (Shape.Idx.first (numel1_S1.symm ▸ Nat.one_pos))
/-- The same word, read a second time. -/
abbrev wordB (c : Dev nD) (i : grid0.Coords) (xt1 : TbBuf0 (F := F) c tbM0_1) : Elt F .i32 :=
  View.readAt (Elt F) tbM0_1.view (Rect.unit (s := S76) (k0_off2 i) ![1] (k0_off2_inb i)).toLoadRect xt1 (Shape.Idx.first (numel1_S1.symm ▸ Nat.one_pos))

end Cert.Kernel2Ideal.Ffn

end
-- ==== Proof.FfnRunZero.lean ====
/- The expert kernel at a tile that is not in use: it stores zeros. -/
module

public import proofs.«01_k».proof.Proof.FfnSetup

@[expose] public section

set_option maxRecDepth 16384

noncomputable section

namespace Cert.Kernel2Ideal.Ffn

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def runZero (c : Dev nD) (i : grid0.Coords) (arg3 : Memref sig .tc .vmem S512x1152 .bf16) (harg3 : arg3.IsWhole) (arg4 : Memref sig .tc .vmem S4x1024x512 .bf16) (harg4 : arg4.IsWhole) (arg5 : Memref sig .tc .vmem S4x1024x512 .bf16) (harg5 : arg5.IsWhole) (arg6 : Memref sig .tc .vmem S4x512x1024 .bf16) (harg6 : arg6.IsWhole) (arg7 : Memref sig .tc .vmem S512x1024 .bf16) (harg7 : arg7.IsWhole)
    (x0 : Vec F S512x1152 .bf16) (x1 : Vec F S4x1024x512 .bf16) (x2 : Vec F S4x1024x512 .bf16) (x3 : Vec F S4x512x1024 .bf16) (xt0 : TbBuf0 (F := F) c tbM0_0) (xt1 : TbBuf0 (F := F) c tbM0_1)
    (h1 : k0_cond1 (word c i xt1) = 1#1) (h2 : ¬k0_cond2 (wordB c i xt1) = 1#1) :
    { L4 : List (View.Piece (Elt F) S512x1024 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ tbPt0 c tbM0_0 xt0 ∗ tbPt0 c tbM0_1 xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ tbPt0 c tbM0_0 xt0 ∗ tbPt0 c tbM0_1 xt1) -∗ K ⟨⟩))
          ⊢ wp frame (wpE (defs₀ (F := F)) Variants.none c none) E (cc0_moe_ffn i tbM0_0 htbM0_0 tbM0_1 htbM0_1 arg3 harg3 arg4 harg4 arg5 harg5 arg6 harg6 arg7 harg7) K } := by
  refine ⟨?_, fun E K => ?run⟩
  case run =>
    simp only [cc0_moe_ffn_eq_skeleton]; unfold cc0_moe_ffn_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%d4, %f4, -, H4⟩, HT0, HT1, Hk⟩
    obtain rfl := harg3.eq_unread hf0; obtain rfl := harg4.eq_unread hf1; obtain rfl := harg5.eq_unread hf2; obtain rfl := harg6.eq_unread hf3
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HT0]; · iexact HT0
    iexact HT1

end Cert.Kernel2Ideal.Ffn

end
-- ==== Proof.FfnRunFull.lean ====
/- The expert kernel at a tile in use: it stores the gated sum of its four experts. -/
module

public import proofs.«01_k».proof.Proof.FfnRunZero

@[expose] public section

set_option maxRecDepth 16384

noncomputable section

namespace Cert.Kernel2Ideal.Ffn

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def runFull (c : Dev nD) (i : grid0.Coords) (arg3 : Memref sig .tc .vmem S512x1152 .bf16) (harg3 : arg3.IsWhole) (arg4 : Memref sig .tc .vmem S4x1024x512 .bf16) (harg4 : arg4.IsWhole) (arg5 : Memref sig .tc .vmem S4x1024x512 .bf16) (harg5 : arg5.IsWhole) (arg6 : Memref sig .tc .vmem S4x512x1024 .bf16) (harg6 : arg6.IsWhole) (arg7 : Memref sig .tc .vmem S512x1024 .bf16) (harg7 : arg7.IsWhole)
    (x0 : Vec F S512x1152 .bf16) (x1 : Vec F S4x1024x512 .bf16) (x2 : Vec F S4x1024x512 .bf16) (x3 : Vec F S4x512x1024 .bf16) (xt0 : TbBuf0 (F := F) c tbM0_0) (xt1 : TbBuf0 (F := F) c tbM0_1)
    (h1 : ¬k0_cond1 (word c i xt1) = 1#1) (h2 : k0_cond2 (wordB c i xt1) = 1#1) :
    { L4 : List (View.Piece (Elt F) S512x1024 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ tbPt0 c tbM0_0 xt0 ∗ tbPt0 c tbM0_1 xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ tbPt0 c tbM0_0 xt0 ∗ tbPt0 c tbM0_1 xt1) -∗ K ⟨⟩))
          ⊢ wp frame (wpE (defs₀ (F := F)) Variants.none c none) E (cc0_moe_ffn i tbM0_0 htbM0_0 tbM0_1 htbM0_1 arg3 harg3 arg4 harg4 arg5 harg5 arg6 harg6 arg7 harg7) K } := by
  refine ⟨?_, fun E K => ?run⟩
  case run =>
    simp only [cc0_moe_ffn_eq_skeleton]; unfold cc0_moe_ffn_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%d4, %f4, -, H4⟩, HT0, HT1, Hk⟩
    obtain rfl := harg3.eq_unread hf0; obtain rfl := harg4.eq_unread hf1; obtain rfl := harg5.eq_unread hf2; obtain rfl := harg6.eq_unread hf3
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HT0]; · iexact HT0
    iexact HT1

end Cert.Kernel2Ideal.Ffn

end
-- ==== Proof.FfnFrame.lean ====
/- The expert kernel runs to its end at every tile and leaves its arguments as they were. -/
module

public import proofs.«01_k».proof.Proof.FfnRunFull
public import Idealize.ShloMosaic.Lib.Ring
public import Idealize.ShloMosaic.Lib.Claim

@[expose] public section

set_option maxRecDepth 16384

noncomputable section

namespace Cert.Kernel2Ideal.Ffn

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The one store covers the whole block. -/
theorem coverZero (c : Dev nD) (i : grid0.Coords) (arg3 : Memref sig .tc .vmem S512x1152 .bf16) (harg3 : arg3.IsWhole) (arg4 : Memref sig .tc .vmem S4x1024x512 .bf16) (harg4 : arg4.IsWhole) (arg5 : Memref sig .tc .vmem S4x1024x512 .bf16) (harg5 : arg5.IsWhole) (arg6 : Memref sig .tc .vmem S4x512x1024 .bf16) (harg6 : arg6.IsWhole) (arg7 : Memref sig .tc .vmem S512x1024 .bf16) (harg7 : arg7.IsWhole)
    (x0 : Vec F S512x1152 .bf16) (x1 : Vec F S4x1024x512 .bf16) (x2 : Vec F S4x1024x512 .bf16) (x3 : Vec F S4x512x1024 .bf16) (xt0 : TbBuf0 (F := F) c tbM0_0) (xt1 : TbBuf0 (F := F) c tbM0_1) (h1 : k0_cond1 (word c i xt1) = 1#1) (h2 : ¬k0_cond2 (wordB c i xt1) = 1#1) (y : S512x1024.Idx) :
    ∃ pc ∈ (runZero c i arg3 harg3 arg4 harg4 arg5 harg5 arg6 harg6 arg7 harg7 x0 x1 x2 x3 xt0 xt1 h1 h2).1, y ∈ pc.1.set :=
  View.cover_of_tiledL (runZero c i arg3 harg3 arg4 harg4 arg5 harg5 arg6 harg6 arg7 harg7 x0 x1 x2 x3 xt0 xt1 h1 h2).1 S512x1024.size (by sl_kernel_rfl) y

/-- What the point leaves in the result's buffer. -/
def outZero (c : Dev nD) (i : grid0.Coords) (arg3 : Memref sig .tc .vmem S512x1152 .bf16) (harg3 : arg3.IsWhole) (arg4 : Memref sig .tc .vmem S4x1024x512 .bf16) (harg4 : arg4.IsWhole) (arg5 : Memref sig .tc .vmem S4x1024x512 .bf16) (harg5 : arg5.IsWhole) (arg6 : Memref sig .tc .vmem S4x512x1024 .bf16) (harg6 : arg6.IsWhole) (arg7 : Memref sig .tc .vmem S512x1024 .bf16) (harg7 : arg7.IsWhole)
    (x0 : Vec F S512x1152 .bf16) (x1 : Vec F S4x1024x512 .bf16) (x2 : Vec F S4x1024x512 .bf16) (x3 : Vec F S4x512x1024 .bf16) (xt0 : TbBuf0 (F := F) c tbM0_0) (xt1 : TbBuf0 (F := F) c tbM0_1) (h1 : k0_cond1 (word c i xt1) = 1#1) (h2 : ¬k0_cond2 (wordB c i xt1) = 1#1) : Vec F S512x1024 .bf16 :=
  VO0_4.read (Elt F) (VO0_4.writes (Elt F) VO0_4.junk (runZero c i arg3 harg3 arg4 harg4 arg5 harg5 arg6 harg6 arg7 harg7 x0 x1 x2 x3 xt0 xt1 h1 h2).1)

/-- The one store covers the whole block. -/
theorem coverFull (c : Dev nD) (i : grid0.Coords) (arg3 : Memref sig .tc .vmem S512x1152 .bf16) (harg3 : arg3.IsWhole) (arg4 : Memref sig .tc .vmem S4x1024x512 .bf16) (harg4 : arg4.IsWhole) (arg5 : Memref sig .tc .vmem S4x1024x512 .bf16) (harg5 : arg5.IsWhole) (arg6 : Memref sig .tc .vmem S4x512x1024 .bf16) (harg6 : arg6.IsWhole) (arg7 : Memref sig .tc .vmem S512x1024 .bf16) (harg7 : arg7.IsWhole)
    (x0 : Vec F S512x1152 .bf16) (x1 : Vec F S4x1024x512 .bf16) (x2 : Vec F S4x1024x512 .bf16) (x3 : Vec F S4x512x1024 .bf16) (xt0 : TbBuf0 (F := F) c tbM0_0) (xt1 : TbBuf0 (F := F) c tbM0_1) (h1 : ¬k0_cond1 (word c i xt1) = 1#1) (h2 : k0_cond2 (wordB c i xt1) = 1#1) (y : S512x1024.Idx) :
    ∃ pc ∈ (runFull c i arg3 harg3 arg4 harg4 arg5 harg5 arg6 harg6 arg7 harg7 x0 x1 x2 x3 xt0 xt1 h1 h2).1, y ∈ pc.1.set :=
  View.cover_of_tiledL (runFull c i arg3 harg3 arg4 harg4 arg5 harg5 arg6 harg6 arg7 harg7 x0 x1 x2 x3 xt0 xt1 h1 h2).1 S512x1024.size (by sl_kernel_rfl) y

/-- What the point leaves in the result's buffer. -/
def outFull (c : Dev nD) (i : grid0.Coords) (arg3 : Memref sig .tc .vmem S512x1152 .bf16) (harg3 : arg3.IsWhole) (arg4 : Memref sig .tc .vmem S4x1024x512 .bf16) (harg4 : arg4.IsWhole) (arg5 : Memref sig .tc .vmem S4x1024x512 .bf16) (harg5 : arg5.IsWhole) (arg6 : Memref sig .tc .vmem S4x512x1024 .bf16) (harg6 : arg6.IsWhole) (arg7 : Memref sig .tc .vmem S512x1024 .bf16) (harg7 : arg7.IsWhole)
    (x0 : Vec F S512x1152 .bf16) (x1 : Vec F S4x1024x512 .bf16) (x2 : Vec F S4x1024x512 .bf16) (x3 : Vec F S4x512x1024 .bf16) (xt0 : TbBuf0 (F := F) c tbM0_0) (xt1 : TbBuf0 (F := F) c tbM0_1) (h1 : ¬k0_cond1 (word c i xt1) = 1#1) (h2 : k0_cond2 (wordB c i xt1) = 1#1) : Vec F S512x1024 .bf16 :=
  VO0_4.read (Elt F) (VO0_4.writes (Elt F) VO0_4.junk (runFull c i arg3 harg3 arg4 harg4 arg5 harg5 arg6 harg6 arg7 harg7 x0 x1 x2 x3 xt0 xt1 h1 h2).1)

/-- The second table holds only zeros and ones. -/
def Live : Prop := ∀ (c : Dev nD) (i : grid0.Coords), word c i (tbl m 1) = (0#32 : BitVec 32) ∨ word c i (tbl m 1) = (1#32 : BitVec 32)

theorem cond_zero {w : BitVec 32} (h : w = 0#32) : k0_cond1 w = 1#1 ∧ ¬k0_cond2 w = 1#1 := by subst h; decide
theorem cond_one {w : BitVec 32} (h : w = 1#32) : ¬k0_cond1 w = 1#1 ∧ k0_cond2 w = 1#1 := by subst h; decide

open Classical in
/-- What point `t` leaves in the result's buffer: zeros where the tile is not in use, the experts' sum where it is. -/
def outsAt0 (hO : Ok m) (hL : Live m) (c : Dev nD) (t : Fin (cfgM m hO).N) : Vec F S512x1024 .bf16 :=
  if h : word c (grid0.coords t) (tbl m 1) = (0#32 : BitVec 32) then
    outZero c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (iblk m hO c 0 t) (iblk m hO c 1 t) (iblk m hO c 2 t) (iblk m hO c 3 t) (tbl m 0) (tbl m 1) (cond_zero h).1 (cond_zero h).2
  else
    outFull c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (iblk m hO c 0 t) (iblk m hO c 1 t) (iblk m hO c 2 t) (iblk m hO c 3 t) (tbl m 0) (tbl m 1) (cond_one ((hL c _).resolve_left h)).1 (cond_one ((hL c _).resolve_left h)).2

def dats (hO : Ok m) (hL : Live m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => (outsAt0 m hO hL c t)
  Φ _ := iprop(Pipeline.ΦA spec0 c ∗ Pipeline.ΦT pre0 (tbl m) c)
  q _ := fullShare
  owed _ := 0

theorem A_eq (hO : Ok m) (hL : Live m) (c : Dev nD) (w : Fin (cfgM m hO).W) : (dats m hO hL 0 c).A w = V m c (Pipeline.arrRef spec0 w) := by
  dsimp only [dats]

theorem after0_0 (hO : Ok m) (hL : Live m) (c : Dev nD) (t : Fin (cfgM m hO).N) : (dats m hO hL 0 c).after 0 t = iblk m hO c 0 t := by dsimp only [dats]; try rfl
theorem after0_1 (hO : Ok m) (hL : Live m) (c : Dev nD) (t : Fin (cfgM m hO).N) : (dats m hO hL 0 c).after 1 t = iblk m hO c 1 t := by dsimp only [dats]; try rfl
theorem after0_2 (hO : Ok m) (hL : Live m) (c : Dev nD) (t : Fin (cfgM m hO).N) : (dats m hO hL 0 c).after 2 t = iblk m hO c 2 t := by dsimp only [dats]; try rfl
theorem after0_3 (hO : Ok m) (hL : Live m) (c : Dev nD) (t : Fin (cfgM m hO).N) : (dats m hO hL 0 c).after 3 t = iblk m hO c 3 t := by dsimp only [dats]; try rfl
theorem after0_4 (hO : Ok m) (hL : Live m) (c : Dev nD) (t : Fin (cfgM m hO).N) : (dats m hO hL 0 c).after 4 t = (outsAt0 m hO hL c t) := by dsimp only [dats]; try rfl

theorem before0_0 (hO : Ok m) (hL : Live m) (c : Dev nD) (t : Fin (cfgM m hO).N) (d) : (dats m hO hL 0 c).before 0 t d = iblk m hO c 0 t :=
  before0_0_of m hO (dats m hO hL 0 c) (A_eq m hO hL c 0) (after0_0 m hO hL c) t d
theorem before0_1 (hO : Ok m) (hL : Live m) (c : Dev nD) (t : Fin (cfgM m hO).N) (d) : (dats m hO hL 0 c).before 1 t d = iblk m hO c 1 t :=
  before0_1_of m hO (dats m hO hL 0 c) (A_eq m hO hL c 1) (after0_1 m hO hL c) t d
theorem before0_2 (hO : Ok m) (hL : Live m) (c : Dev nD) (t : Fin (cfgM m hO).N) (d) : (dats m hO hL 0 c).before 2 t d = iblk m hO c 2 t :=
  before0_2_of m hO (dats m hO hL 0 c) (A_eq m hO hL c 2) (after0_2 m hO hL c) t d
theorem before0_3 (hO : Ok m) (hL : Live m) (c : Dev nD) (t : Fin (cfgM m hO).N) (d) : (dats m hO hL 0 c).before 3 t d = iblk m hO c 3 t :=
  before0_3_of m hO (dats m hO hL 0 c) (A_eq m hO hL c 3) (after0_3 m hO hL c) t d

def bodyPre (hO : Ok m) (hL : Live m) (c : Dev nD) (t : Fin (cfgM m hO).N) : sProp 𝕄 :=
  iprop((dats m hO hL 0 c).Φ t.castSucc ∗ (dats m hO hL 0 c).owesAt () t.castSucc
    ∗ (∃ d, owns (c : Thread nD τ) (ms0_0 m hO t) fullShare ((dats m hO hL 0 c).before 0 t d))
    ∗ (∃ d, owns (c : Thread nD τ) (ms0_1 m hO t) fullShare ((dats m hO hL 0 c).before 1 t d))
    ∗ (∃ d, owns (c : Thread nD τ) (ms0_2 m hO t) fullShare ((dats m hO hL 0 c).before 2 t d))
    ∗ (∃ d, owns (c : Thread nD τ) (ms0_3 m hO t) fullShare ((dats m hO hL 0 c).before 3 t d))
    ∗ (∃ d, owns (c : Thread nD τ) (ms0_4 m hO t) fullShare ((dats m hO hL 0 c).before 4 t d)))

def bodyPost (hO : Ok m) (hL : Live m) (c : Dev nD) (t : Fin (cfgM m hO).N) : sProp 𝕄 :=
  iprop((dats m hO hL 0 c).Φ t.succ ∗ (dats m hO hL 0 c).owesAt () t.succ
    ∗ owns (c : Thread nD τ) (ms0_0 m hO t) fullShare ((dats m hO hL 0 c).after 0 t)
    ∗ owns (c : Thread nD τ) (ms0_1 m hO t) fullShare ((dats m hO hL 0 c).after 1 t)
    ∗ owns (c : Thread nD τ) (ms0_2 m hO t) fullShare ((dats m hO hL 0 c).after 2 t)
    ∗ owns (c : Thread nD τ) (ms0_3 m hO t) fullShare ((dats m hO hL 0 c).after 3 t)
    ∗ owns (c : Thread nD τ) (ms0_4 m hO t) fullShare ((dats m hO hL 0 c).after 4 t))

theorem sound_body (hO : Ok m) (hL : Live m) (c : Dev nD) (t : Fin (cfgM m hO).N) :
    bodyPre m hO hL c t ⊢ wp frame (wpE (defs₀ (F := F)) Variants.none c none) Set.univ (bodyAt0 (adm m hO) t) (fun _ => bodyPost m hO hL c t) := by
  unfold bodyPre bodyPost bodyAt0
  simp only [before0_0, before0_1, before0_2, before0_3]
  rw [show (dats m hO hL 0 c).Φ t.succ = (dats m hO hL 0 c).Φ t.castSucc from rfl,
    show (dats m hO hL 0 c).owesAt () t.succ = (dats m hO hL 0 c).owesAt () t.castSucc from rfl,
    after0_0, after0_1, after0_2, after0_3, after0_4]
  rw [show (dats m hO hL 0 c).Φ t.castSucc = iprop(Pipeline.ΦA spec0 c ∗ Pipeline.ΦT pre0 (tbl m) c) from rfl, PhiT0_eq]
  iintro ⟨⟨HΦ, ⟨HT0, HT1⟩⟩, Ho, ⟨%d0, H0⟩, ⟨%d1, H1⟩, ⟨%d2, H2⟩, ⟨%d3, H3⟩, ⟨%d4, H4⟩⟩
  by_cases h : word c (grid0.coords t) (tbl m 1) = (0#32 : BitVec 32)
  · rw [show outsAt0 m hO hL c t = _ from dif_pos h]
    unfold outZero
    iapply ((runZero c (grid0.coords t) _ _ _ _ _ _ _ _ _ _ (iblk m hO c 0 t) (iblk m hO c 1 t) (iblk m hO c 2 t) (iblk m hO c 3 t) (tbl m 0) (tbl m 1) (cond_zero h).1 (cond_zero h).2).2 Set.univ _)
    isplitl [H0]; · iexact H0
    isplitl [H1]; · iexact H1
    isplitl [H2]; · iexact H2
    isplitl [H3]; · iexact H3
    isplitl [H4]; · iexists _; iexact H4
    isplitl [HT0]; · iexact HT0
    isplitl [HT1]; · iexact HT1
    iintro ⟨H0, H1, H2, H3, ⟨%e4, H4⟩, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverZero c _ _ _ _ _ _ _ _ _ _ _ _ _ _ _ _ _ _ _)
  · rw [show outsAt0 m hO hL c t = _ from dif_neg h]
    unfold outFull
    iapply ((runFull c (grid0.coords t) _ _ _ _ _ _ _ _ _ _ (iblk m hO c 0 t) (iblk m hO c 1 t) (iblk m hO c 2 t) (iblk m hO c 3 t) (tbl m 0) (tbl m 1) (cond_one ((hL c _).resolve_left h)).1 (cond_one ((hL c _).resolve_left h)).2).2 Set.univ _)
    isplitl [H0]; · iexact H0
    isplitl [H1]; · iexact H1
    isplitl [H2]; · iexact H2
    isplitl [H3]; · iexact H3
    isplitl [H4]; · iexists _; iexact H4
    isplitl [HT0]; · iexact HT0
    isplitl [HT1]; · iexact HT1
    iintro ⟨H0, H1, H2, H3, ⟨%e4, H4⟩, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverFull c _ _ _ _ _ _ _ _ _ _ _ _ _ _ _ _ _ _ _)

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

theorem body_obligation (hO : Ok m) (hL : Live m) (c : Dev nD) : BodyObligation (dats (F := F) m hO hL 0 c) (defs₀ (F := F)) Variants.none () Set.univ := fun t => by
  rw [bigSep_W0, bigSep_W0, defs₀_row m hO]
  refine triple_restated (sound_body m hO hL c t) rfl .rfl fun _ => ?_
  have hfl := flush0_4 (adm m hO) t
  have key : ∀ (b f : Bool) (X Y : sProp 𝕄), f = true → X ⊢ (match b with | true => (match f with | false => Y | true => X) | false => X) := by
    intro b f X Y hf; subst hf; cases b <;> exact .rfl
  unfold bodyPost
  refine sep_mono .rfl (sep_mono .rfl (sep_mono .rfl (sep_mono .rfl (sep_mono .rfl (sep_mono .rfl ?_)))))
  exact key _ _ _ _ hfl

set_option backward.isDefEq.respectTransparency.types false in
theorem run_main_quiescent (hO : Ok m) (hL : Live m) : θ_run defs (onTc (τ := τ) (main (F := F))) (s₀ m ρ) (fun r => (Pipeline.FramePost (Pipeline.pin pcfgs fun _ => adm m hO) (dats m hO hL) 0 (V m)) r ∧ r.2.sem = fun _ => 0) :=
  Pipeline.θ_run_frameP (Q' := _) pcfgs (fun _ => adm m hO) (dats m hO hL) (0 : Fin 1) launch0 defs₀ Variants.none m ρ main
    (hbody := fun c => (body_obligation m hO hL c).loose) (hshare := fun c => (dats m hO hL 0 c).share_full fun _ => rfl)
    (howed := fun _ _ => rfl) (V := V m) (hmain := hmain m Variants.none) (hA := A_eq m hO hL) (hpf := V_pre m)
    (hΦ := fun _ _ => rfl)

theorem run_main (hO : Ok m) (hL : Live m) : θ_run defs (onTc (τ := τ) (main (F := F))) (s₀ m ρ) (Pipeline.FramePost (Pipeline.pin pcfgs fun _ => adm m hO) (dats m hO hL) 0 (V m)) :=
  (θ_run defs _ _).mono (fun _ h => h.1) (run_main_quiescent m ρ hO hL)

theorem unchanged (hO : Ok m) (hL : Live m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ hO (dats m hO hL) (A_eq m hO hL) (run_main m ρ hO hL)

theorem frame (hO : Ok m) (hL : Live m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ hO hL) ((θ_run defs _ _).mono (fun _ h => h.2) (run_main_quiescent m ρ hO hL))

end Cert.Kernel2Ideal.Ffn

end
-- ==== Proof.FfnSpec.lean ====
/- What the expert kernel and its reference both compute, and the lemmas on counts of tiles. -/
module

public import proofs.«01_k».proof.Proof.Spec
public import Idealize.ShloMosaic.Lib.Pointwise

@[expose] public section

set_option maxRecDepth 16384

noncomputable section

namespace Cert.FfnSpec

open Idealize.ShloMosaic Cert.Spec

/-- How many of four bits are one. -/
def count (b : Fin 4 → BitVec 1) : BitVec 32 := (b 0).setWidth 32 + (b 1).setWidth 32 + (b 2).setWidth 32 + (b 3).setWidth 32

theorem count_le (b : Fin 4 → BitVec 1) : (count b).toNat ≤ 4 := by
  unfold count
  generalize b 0 = x; generalize b 1 = y; generalize b 2 = z; generalize b 3 = w
  revert x y z w; decide

theorem count_lt (b : Fin 4 → BitVec 1) (h : b 3 = 0#1) : (count b).toNat < 4 := by
  unfold count
  rw [h]
  generalize b 0 = x; generalize b 1 = y; generalize b 2 = z
  revert x y z; decide

/-- A sum of words over an axis of four. -/
theorem reduce4 {n : ℕ} (x : IVec ⟨2, ![n, 4]⟩ 32) (h' : (⟨2, ![n, 4]⟩ : Shape).ReducesTo [1] ⟨1, ![n]⟩) (hu : 0 < (⟨0, ![]⟩ : Shape).numel) (i : Fin n) :
    Host.reduce IntOp.addi x (constantI ⟨0, ![]⟩ 32 0#32) h' hu (ix1 i) = x (ix2 i 0) + x (ix2 i 1) + x (ix2 i 2) + x (ix2 i 3) := by
  rw [Host.reduce_eq_fold, Shape.ReducesTo.fold_fiber_r2_a1]
  have e : (Finset.univ : Finset (Fin 4)) = {0, 1, 2, 3} := by decide
  rw [e, Finset.fold_insert (by decide), Finset.fold_insert (by decide), Finset.fold_insert (by decide), Finset.fold_singleton]
  show x _ + (x _ + (x _ + (x _ + 0#32))) = _
  rw [BitVec.add_zero, ← BitVec.add_assoc, ← BitVec.add_assoc]
  rfl

/-- Whether tile `t` is in use, of the sums of the counts. -/
def used (s : Fin 4 → BitVec 32) (t : ℕ) : Prop := (BitVec.ofNat 32 t).slt (s 3) = true
instance (s : Fin 4 → BitVec 32) (t : ℕ) : Decidable (used s t) := inferInstanceAs (Decidable (_ = _))

/-- The groups that lie before tile `t`. -/
def past (s : Fin 4 → BitVec 32) (t : ℕ) (k : Fin 4) : BitVec 1 := BitVec.ofBool ((s k).sle (BitVec.ofNat 32 t))

/-- The group of tile `t`. -/
def grp (s : Fin 4 → BitVec 32) (t : ℕ) : BitVec 32 := count (past s t)

/-- A tile in use has one of the four groups. -/
theorem grp_lt (s : Fin 4 → BitVec 32) (t : ℕ) (h : used s t) : (grp s t).toNat < 4 := by
  refine count_lt _ ?_
  unfold past used at *
  rw [show (s 3).sle (BitVec.ofNat 32 t) = false from by
    simp only [BitVec.sle, BitVec.slt, decide_eq_true_eq, decide_eq_false_iff_not] at h ⊢; omega]
  rfl

abbrev Hs : Shape := ⟨2, ![38912, 1024]⟩
abbrev Gs : Shape := ⟨2, ![38912, 4]⟩
abbrev Ws : Shape := ⟨4, ![2, 16, 1024, 512]⟩
abbrev Ds : Shape := ⟨4, ![2, 16, 512, 1024]⟩

variable (h : FVec Ideal Hs .f32) (g : FVec Ideal Gs .f32) (wg wu : FVec Ideal Ws .f32) (wd : FVec Ideal Ds .f32)

/-- A row times a column of an expert's weights. -/
def proj (w : FVec Ideal Ws .f32) (e : Fin 16) (r : Fin 38912) (f : Fin 512) : EReal := ∑ d : Fin 1024, h (ix2 r d) * w (ix4 0 e d f)

/-- `x` times the logistic function of `x`. -/
def silu (x : EReal) : EReal := x * Ideal.div 1 (1 + Ideal.exp (-x))

/-- One expert's output. -/
def expert (e : Fin 16) (r : Fin 38912) (d : Fin 1024) : EReal :=
  ∑ f : Fin 512, silu (proj h wg e r f) * proj h wu e r f * wd (ix4 0 e f d)

/-- Expert `j` of group `n`. -/
def exOf (n : ℕ) (j : Fin 4) : Fin 16 := ⟨(4 * n + j.val) % 16, Nat.mod_lt _ (by decide)⟩

/-- The layer's output: the gated sum of the experts of the row's group where the row's tile is in use, and zero elsewhere. -/
def result (s : Fin 4 → BitVec 32) (r : Fin 38912) (d : Fin 1024) : EReal :=
  if used s (r.val / 512) then ∑ j : Fin 4, g (ix2 r j) * expert h wg wu wd (exOf (grp s (r.val / 512)).toNat j) r d else 0

/-- The logistic function by the hyperbolic tangent. -/
theorem silu_tanh (x : ℝ) : (x : EReal) * (((1 / 2 : ℝ) : EReal) + ((1 / 2 : ℝ) : EReal) * Ideal.tanh (((1 / 2 : ℝ) : EReal) * (x : EReal))) = silu (x : EReal) := by
  unfold silu
  have e1 : Ideal.tanh (((1 / 2 : ℝ) : EReal) * (x : EReal)) = ((Real.tanh (1 / 2 * x) : ℝ) : EReal) := by rw [← EReal.coe_mul]; rfl
  have e2 : (1 : EReal) + Ideal.exp (-(x : EReal)) = ((1 + Real.exp (-x) : ℝ) : EReal) := by
    rw [← EReal.coe_neg, EReal.coe_add]; rfl
  rw [e1, e2, div_real _ _ (by positivity), one_mul, ← EReal.coe_mul, ← EReal.coe_add, ← EReal.coe_mul, ← EReal.coe_mul]
  congr 2
  have hx : Real.exp (-x) = Real.exp (-(1 / 2 * x)) * Real.exp (-(1 / 2 * x)) := by rw [← Real.exp_add]; congr 1; ring
  have h1 : Real.exp (1 / 2 * x) * Real.exp (-(1 / 2 * x)) = 1 := by rw [← Real.exp_add]; simp
  have p1 := Real.exp_pos (1 / 2 * x)
  have p2 := Real.exp_pos (-(1 / 2 * x))
  rw [Real.tanh_eq_sinh_div_cosh, Real.sinh_eq, Real.cosh_eq, hx]
  generalize Real.exp (1 / 2 * x) = a at *
  generalize Real.exp (-(1 / 2 * x)) = b at *
  have : a = b⁻¹ := eq_inv_of_mul_eq_one_left h1
  subst this
  field_simp
  ring

end Cert.FfnSpec

end
-- ==== Proof.FfnTab.lean ====
/- The expert kernel's two tables, of the counts of tiles: which tiles are in use, and the group each belongs to. -/
module

public import proofs.«01_k».proof.Proof.FfnFrame
public import proofs.«01_k».proof.Proof.FfnSpec

@[expose] public section

set_option maxRecDepth 16384

noncomputable section

namespace Cert.Kernel2Ideal.Ffn

open Cert.Kernel2Ideal.Gen
open Idealize.ShloMosaic Idealize.ShloMosaic.TcCoe Idealize.ShloMosaic.Tactic
open Idealize.SL.Sem
open Idealize.ShloMosaic.Pipeline (Dat Cfg Window BodyObligation cellOf)

variable {F : FTy → Type} [FloatOps F]

/-- The sums of the counts up to each group. -/
def cumOf (x : IVec S4 32) : IVec S4 32 :=
  Host.reduceWindow IntOp.addi ![4] ![1] ![3] ![0] x (broadcastInDim S_ ![] bcast_S_S_ (constantI S_ 32 0#32)) reduceWindows_S4_S4_w4s1p3_0 h_S_

/-- The number of tiles in use, of those sums. -/
def total (s : IVec S4 32) : IVec S_ 32 := shapeCast S_ (extractStridedSlice S1 ![3] s slices_S4_S1_3) shapeCasts_S1_S_

/-- Whether a tile is in use. -/
def validBit (s : IVec S4 32) : IVec S76 1 := cmpi .slt (iotaInDim S76 32 0) (broadcastInDim S76 ![] bcast_S_S76 (total s))

/-- For each tile (one past the last in use counted as the last), which groups lie before it. -/
def pastBit (s : IVec S4 32) : IVec S76x4 1 :=
  cmpi .sge (broadcastInDim S76x4 ![0, 1] bcast_S76x1_S76x4_0_1 (broadcastInDim S76x1 ![0] bcast_S76_S76x1_0
      (minsi (iotaInDim S76 32 0) (broadcastInDim S76 ![] bcast_S_S76 (subi (total s) (constantI S_ 32 1#32))))))
    (broadcastInDim S76x4 ![0, 1] bcast_S1x4_S76x4_0_1 (broadcastInDim S1x4 ![1] bcast_S4_S1x4_1 s))

/-- The group of each tile. -/
def groupOf (s : IVec S4 32) : IVec S76 32 :=
  Host.reduce IntOp.addi (extui 32 (pastBit s) natLt_1_32) (constantI S_ 32 0#32) reducesTo_S76x4_S76_d1 h_S_

variable (W : Valuation τ sig (Elt F))

theorem t0_v0 : StableHlo.after hostOps0 W (Proc.devRef .tc main_v0) = cumOf (W (Proc.devRef .tc main_arg0)) := by
  simp only [hostOps0, StableHlo.TRef.nullary, StableHlo.TRef.binary, StableHlo.TRef.unary, StableHlo.TRef.toBuf, StableHlo.TRef.ofBuf, cast_eq]
  after_results_simp <;> rfl

theorem t1_v33 : StableHlo.after hostOps0_1 W (Proc.devRef .tc main_v33) = extui 32 (validBit (W (Proc.devRef .tc main_v0))) natLt_1_32 := by
  simp only [hostOps0_1]
  after_results_simp <;> rfl
theorem t1_v17 : StableHlo.after hostOps0_1 W (Proc.devRef .tc main_v17) = groupOf (W (Proc.devRef .tc main_v0)) := by
  simp only [hostOps0_1]
  after_results_simp <;> rfl

variable (m : (ℓ : Loc nD τ sig) → Buf (Elt F) ℓ)

/-- The sums of the counts the program is given. -/
abbrev cums (c : Dev nD) : IVec S4 32 := cumOf (m (c, Proc.devRef .tc main_arg0))

theorem V_split (c : Dev nD) (b : Ref sig .tc) :
    V m c b = StableHlo.after hostOps0_1 (StableHlo.after hostOps0 (fun b => m (c, b))) (Proc.devRef .tc b) := by
  unfold V
  rw [show (List.flatten [hostOps0, hostOps0_1] : List (HloOp τ sig (Elt F))) = hostOps0 ++ hostOps0_1 from by simp, StableHlo.after_append]

theorem tbl_one : (tbl m 1 : IVec S76 32) = extui 32 (validBit (cums m 0)) natLt_1_32 := by
  refine (V_split m 0 main_v33).trans ((t1_v33 _).trans ?_)
  rw [t0_v0]
theorem tbl_zero : (tbl m 0 : IVec S76 32) = groupOf (cums m 0) := by
  refine (V_split m 0 main_v17).trans ((t1_v17 _).trans ?_)
  rw [t0_v0]

/-- The sums, by group. -/
abbrev sumsOf (s : IVec S4 32) : Fin 4 → BitVec 32 := fun k => s (ix1 k)

theorem total_at (s : IVec S4 32) (j : S_.Idx) : total s j = s (ix1 3) := by
  unfold total; pointwise

theorem validBit_at (s : IVec S4 32) (i : Fin 76) : validBit s (ix1 i) = BitVec.ofBool ((BitVec.ofNat 32 i.val).slt (s (ix1 3))) := by
  unfold validBit
  pointwise [total_at]
  rfl

theorem pastBit_at (s : IVec S4 32) (i : Fin 76) (k : Fin 4) (hu : Cert.FfnSpec.used (sumsOf s) i.val) :
    pastBit s (ix2 i k) = Cert.FfnSpec.past (sumsOf s) i.val k := by
  unfold pastBit
  pointwise [total_at]
  have h3 : (BitVec.ofNat 32 i.val).slt (s (ix1 3)) = true := hu
  have hi := i.isLt
  have hm : IntOp.minsi (BitVec.ofNat 32 i.val) (IntOp.subi (s (ix1 3)) 1#32) = BitVec.ofNat 32 i.val := by
    unfold IntOp.minsi IntOp.subi
    generalize s (ix1 3) = y at h3
    have ht : (BitVec.ofNat 32 i.val).toInt = (i.val : ℤ) := by
      have hn : ∀ n : ℕ, n < 76 → (BitVec.ofNat 32 n).toInt = (n : ℤ) := by decide +kernel
      exact hn _ hi
    have hy : (y - 1#32).toInt = y.toInt - 1 := by
      have h1 := BitVec.toInt_lt (x := y)
      simp only [BitVec.slt, decide_eq_true_eq, ht] at h3
      rw [BitVec.toInt_sub, BitVec.toInt_one (by decide), Int.bmod_def]
      norm_num at h1 ⊢
      omega
    simp only [BitVec.slt, BitVec.sle, decide_eq_true_eq, ht, hy] at h3 ⊢
    split
    · rfl
    · apply BitVec.eq_of_toInt_eq
      rw [ht, hy]; omega
  rw [hm]
  rfl

/-- The group of a tile is a sum of four bits. -/
theorem groupOf_count (s : IVec S4 32) (i : Fin 76) : groupOf s (ix1 i) = Cert.FfnSpec.count fun k => pastBit s (ix2 i k) := by
  unfold groupOf
  rw [Cert.FfnSpec.reduce4]
  rfl

theorem groupOf_at (s : IVec S4 32) (i : Fin 76) (hu : Cert.FfnSpec.used (sumsOf s) i.val) : groupOf s (ix1 i) = Cert.FfnSpec.grp (sumsOf s) i.val := by
  rw [groupOf_count]
  unfold Cert.FfnSpec.grp
  congr 1; funext k; exact pastBit_at s i k hu

theorem groupOf_le (s : IVec S4 32) (i : Fin 76) : ((groupOf s (ix1 i)) : BitVec 32).toNat ≤ 4 := by
  rw [groupOf_count]; exact Cert.FfnSpec.count_le _

/-- A grid point's coordinate. -/
abbrev ptOf (i : grid0.Coords) : Fin 76 := ⟨(i 0).val, (i 0).isLt⟩

theorem off1 (i : grid0.Coords) : k0_off1 i 0 = (i 0).val := by
  unfold k0_off1
  have h := (ptOf i).isLt
  show BitVec.toNat (Scalar.indexCast (BitVec.ofNat 32 (i 0).val)) = (i 0).val
  generalize hn : (i 0).val = n
  have hn' : n < 76 := by rw [← hn]; exact h
  clear h hn
  revert hn' n
  decide +kernel

theorem word_eq (c : Dev nD) (i : grid0.Coords) (x : TbBuf0 (F := F) c tbM0_1) : word c i x = (x : IVec S76 32) (ix1 (ptOf i)) := by
  show (x : IVec S76 32) _ = _
  congr 1
  funext a
  match a with
  | ⟨0, _⟩ =>
    apply Fin.ext
    show k0_off1 i 0 + 0 * 1 = (i 0).val
    rw [off1, Nat.zero_mul, Nat.add_zero]

theorem live : Live m := fun c i => by
  have h : word c i (tbl m 1) = (validBit (cums m 0) (ix1 (ptOf i))).setWidth 32 :=
    (word_eq c i (tbl m 1)).trans (congrFun (tbl_one m) (ix1 (ptOf i)))
  rw [h]
  have hb : ∀ b : BitVec 1, b.setWidth 32 = 0#32 ∨ b.setWidth 32 = 1#32 := by decide
  exact hb _

/-- The block row a weight's window takes at a grid point: the group's word. -/
theorem at0 (pf : pre0.Contents (Elt F)) (i : grid0.Coords) :
    pf.at 0 (Rect.unit (s := S76) (k0_off1 i) S1.size (k0_off1_inb i)) numel1_S1 = (pf 0 : IVec S76 32) (ix1 (ptOf i)) := by
  show (pf 0 : IVec S76 32) _ = _
  congr 1
  funext a
  match a with
  | ⟨0, _⟩ =>
    apply Fin.ext
    show k0_off1 i 0 + 0 * 1 = (i 0).val
    rw [off1, Nat.zero_mul, Nat.add_zero]

theorem tr1 (pf : pre0.Contents (Elt F)) (i : grid0.Coords) :
    cc0_transform_1 k0_off1_inb numel1_S1 pf i = ![((pf 0 : IVec S76 32) (ix1 (ptOf i))).toNat, 0, 0] := by
  have h : cc0_transform_1 k0_off1_inb numel1_S1 pf i
      = ![(Scalar.addi 0#32 (pf.at 0 (Rect.unit (s := S76) (k0_off1 i) S1.size (k0_off1_inb i)) numel1_S1)).toNat, 0, 0] := rfl
  rw [h, at0]
  generalize hx : (pf 0 : IVec S76 32) (ix1 (ptOf i)) = x
  have h0 : ∀ x : BitVec 32, Scalar.addi 0#32 x = x := fun x => BitVec.zero_add x
  exact congrArg (fun y : BitVec 32 => ![y.toNat, 0, 0]) (h0 x)

theorem tr2 (pf : pre0.Contents (Elt F)) (i : grid0.Coords) :
    cc0_transform_2 k0_off1_inb numel1_S1 pf i = ![((pf 0 : IVec S76 32) (ix1 (ptOf i))).toNat, 0, 0] := tr1 pf i

theorem tr3 (pf : pre0.Contents (Elt F)) (i : grid0.Coords) :
    cc0_transform_3 k0_off1_inb numel1_S1 pf i = ![((pf 0 : IVec S76 32) (ix1 (ptOf i))).toNat, 0, 0] := tr1 pf i

/-- Every group's word is at most four. -/
theorem tbl_le (i : Fin 76) : ((tbl m 0 : IVec S76 32) (ix1 i)).toNat ≤ 4 := by
  have h := congrFun (tbl_zero m) (ix1 i)
  exact (congrArg BitVec.toNat h).le.trans (groupOf_le _ i)

theorem words_rows {s : Shape} (size ix : Fin s.rank → ℕ) (hix : ∀ a, (ix a + 1) * size a ≤ s.size a) (p : ℕ) (h2 : 2 ≤ s.rank)
    (h0 : ix (s.rowAx h2) = 0) (hs : size (s.rowAx h2) = s.size (s.rowAx h2)) : (Rect.block size ix hix).WholeWords p :=
  .inr ⟨h2, rfl, by show ix (s.rowAx h2) * _ = 0; rw [h0, Nat.zero_mul], hs⟩

theorem ok : Ok m := by
  have hle := fun i : grid0.Coords => tbl_le m (ptOf i)
  refine ⟨fun i => ?_, fun i => ?_, fun i => ?_⟩
  · refine ⟨fun a => ?_, .inr (words_rows _ _ _ _ (by decide) ?_ (by decide))⟩
    · rw [tr1]
      have := hle i
      fin_cases a
      · show (((tbl m 0 : IVec S76 32) (ix1 (ptOf i))).toNat + 1) * 4 ≤ 32; omega
      · show (0 + 1) * 1024 ≤ 1024; omega
      · show (0 + 1) * 512 ≤ 512; omega
    · rw [tr1]; rfl
  · refine ⟨fun a => ?_, .inr (words_rows _ _ _ _ (by decide) ?_ (by decide))⟩
    · rw [tr2]
      have := hle i
      fin_cases a
      · show (((tbl m 0 : IVec S76 32) (ix1 (ptOf i))).toNat + 1) * 4 ≤ 32; omega
      · show (0 + 1) * 1024 ≤ 1024; omega
      · show (0 + 1) * 512 ≤ 512; omega
    · rw [tr2]; rfl
  · refine ⟨fun a => ?_, .inr (words_rows _ _ _ _ (by decide) ?_ (by decide))⟩
    · rw [tr3]
      have := hle i
      fin_cases a
      · show (((tbl m 0 : IVec S76 32) (ix1 (ptOf i))).toNat + 1) * 4 ≤ 32; omega
      · show (0 + 1) * 512 ≤ 512; omega
      · show (0 + 1) * 1024 ≤ 1024; omega
    · rw [tr3]; rfl

end Cert.Kernel2Ideal.Ffn

end
-- ==== Proof.FfnHost.lean ====
/- What the expert kernel's windows hold, of the arguments. -/
module

public import proofs.«01_k».proof.Proof.FfnTab

@[expose] public section

set_option maxRecDepth 16384

noncomputable section

namespace Cert.Kernel2Ideal.Ffn

open Cert.Kernel2Ideal.Gen
open Idealize.ShloMosaic Idealize.ShloMosaic.TcCoe Idealize.ShloMosaic.Tactic
open Idealize.SL.Sem

variable {F : FTy → Type} [FloatOps F]

/-- The experts' weights as the windows read them. -/
def castW (x : FVec F S2x16x1024x512 .f32) : FVec F S32x1024x512 .bf16 := truncf .bf16 (shapeCast S32x1024x512 x shapeCasts_S2x16x1024x512_S32x1024x512) bitsLt_bf16_f32
def castD (x : FVec F S2x16x512x1024 .f32) : FVec F S32x512x1024 .bf16 := truncf .bf16 (shapeCast S32x512x1024 x shapeCasts_S2x16x512x1024_S32x512x1024) bitsLt_bf16_f32

/-- The gates, four columns of zeros behind them. -/
def gates8 (g : FVec F S38912x4 .f32) : FVec F S38912x8 .f32 :=
  concatenate S38912x8 1 [⟨S38912x4, g⟩, ⟨S38912x4, (broadcastInDim S38912x4 ![] bcast_S_S38912x4 (constant S_ .f32 0x00000000#32) : FVec F S38912x4 .f32)⟩] concatenates_S38912x4_S38912x4_S38912x8_d1
/-- A rounding to the narrower format. -/
def narrow (x : FVec F S38912x8 .f32) : FVec F S38912x8 .f32 := extf .f32 (truncf .bf16 x bitsLt_bf16_f32) bitsLt_bf16_f32
/-- The gates in three pieces, and zeros behind them. -/
def gates128 (x : FVec F S38912x8 .f32) : FVec F S38912x128 .f32 :=
  concatenate S38912x128 1 [⟨S38912x8, narrow x⟩, ⟨S38912x8, narrow (subf x (narrow x))⟩, ⟨S38912x8, narrow (subf (subf x (narrow x)) (narrow (subf x (narrow x))))⟩,
    ⟨S38912x104, (broadcastInDim S38912x104 ![] bcast_S_S38912x104 (constant S_ .f32 0x00000000#32) : FVec F S38912x104 .f32)⟩] concatenates_S38912x8_S38912x8_S38912x8_S38912x104_S38912x128_d1
/-- The tokens and the gates side by side. -/
def rowsOf (h : FVec F S38912x1024 .f32) (g : FVec F S38912x4 .f32) : FVec F S38912x1152 .bf16 :=
  concatenate S38912x1152 1 [⟨S38912x1024, truncf .bf16 h bitsLt_bf16_f32⟩, ⟨S38912x128, truncf .bf16 (gates128 (gates8 g)) bitsLt_bf16_f32⟩] concatenates_S38912x1024_S38912x128_S38912x1152_d1

theorem concat4 {a b c a' b' c' : FVec F S38912x8 .f32} {d d' : FVec F S38912x104 .f32} (ha : a = a') (hb : b = b') (hc : c = c') (hd : d = d') :
    concatenate S38912x128 1 [⟨S38912x8, a⟩, ⟨S38912x8, b⟩, ⟨S38912x8, c⟩, ⟨S38912x104, d⟩] concatenates_S38912x8_S38912x8_S38912x8_S38912x104_S38912x128_d1
      = concatenate S38912x128 1 [⟨S38912x8, a'⟩, ⟨S38912x8, b'⟩, ⟨S38912x8, c'⟩, ⟨S38912x104, d'⟩] concatenates_S38912x8_S38912x8_S38912x8_S38912x104_S38912x128_d1 := by
  rw [ha, hb, hc, hd]

variable (W : Valuation τ sig (Elt F))

theorem h1_v35 : StableHlo.after hostOps0_1 W (Proc.devRef .tc main_v35) = castW (W (Proc.devRef .tc main_arg3)) := by
  simp only [hostOps0_1]
  after_results_simp
  rfl
theorem h1_v37 : StableHlo.after hostOps0_1 W (Proc.devRef .tc main_v37) = castW (W (Proc.devRef .tc main_arg4)) := by
  simp only [hostOps0_1]
  after_results_simp
  rfl
theorem h1_v39 : StableHlo.after hostOps0_1 W (Proc.devRef .tc main_v39) = castD (W (Proc.devRef .tc main_arg5)) := by
  simp only [hostOps0_1]
  after_results_simp
  rfl
theorem h1_v19 : StableHlo.after hostOps0_1 W (Proc.devRef .tc main_v19) = gates8 (W (Proc.devRef .tc main_arg2)) := by
  simp only [hostOps0_1]
  after_results_simp
  refine congrArg₂ (fun a b => concatenate S38912x8 1 [⟨S38912x4, a⟩, ⟨S38912x4, b⟩] concatenates_S38912x4_S38912x4_S38912x8_d1) ?_ ?_
  all_goals after_results_simp
  all_goals rfl
theorem h1_v21 : StableHlo.after hostOps0_1 W (Proc.devRef .tc main_v21) = narrow (gates8 (W (Proc.devRef .tc main_arg2))) := by
  rw [← h1_v19]
  simp only [hostOps0_1]
  after_results_simp
  rfl
theorem h1_v24 : StableHlo.after hostOps0_1 W (Proc.devRef .tc main_v24) = narrow (subf (gates8 (W (Proc.devRef .tc main_arg2))) (narrow (gates8 (W (Proc.devRef .tc main_arg2))))) := by
  rw [← h1_v19]
  simp only [hostOps0_1]
  after_results_simp
  rfl
theorem h1_v32 : StableHlo.after hostOps0_1 W (Proc.devRef .tc main_v32) = rowsOf (W (Proc.devRef .tc main_arg1)) (W (Proc.devRef .tc main_arg2)) := by
  simp only [hostOps0_1]
  after_results_simp
  refine congrArg₂ (fun a b => concatenate S38912x1152 1 [⟨S38912x1024, a⟩, ⟨S38912x128, b⟩] concatenates_S38912x1024_S38912x128_S38912x1152_d1) ?_ ?_
  · after_results_simp <;> rfl
  · after_results_simp
    refine congrArg (fun a => truncf .bf16 a bitsLt_bf16_f32) ?_
    unfold gates128
    refine concat4 ?_ ?_ ?_ ?_
    · show (_ : Valuation τ sig (Elt F)) (Proc.devRef .tc main_v21) = _
      rw [← h1_v19]
      simp only [hostOps0_1]
      after_results_simp <;> rfl
    · show (_ : Valuation τ sig (Elt F)) (Proc.devRef .tc main_v24) = _
      rw [← h1_v19]
      simp only [hostOps0_1]
      after_results_simp <;> rfl
    · show (_ : Valuation τ sig (Elt F)) (Proc.devRef .tc main_v27) = _
      rw [← h1_v19]
      simp only [hostOps0_1]
      after_results_simp <;> rfl
    · show (_ : Valuation τ sig (Elt F)) (Proc.devRef .tc main_v28) = _
      after_results_simp <;> rfl

/-! ## Over the extended reals -/

theorem castW_at (x : FVec Ideal S2x16x1024x512 .f32) (e : Fin 16) (d : Fin 1024) (f : Fin 512) :
    castW x (ix3 (⟨e.val, by omega⟩ : Fin 32) d f) = x (ix4 (0 : Fin 2) e d f) := by
  unfold castW
  pointwise
  exact congrArg₂ (fun a b => x (ix4 a b d f)) (Fin.ext (Nat.div_eq_of_lt e.isLt)) (Fin.ext (Nat.mod_eq_of_lt e.isLt))
theorem castD_at (x : FVec Ideal S2x16x512x1024 .f32) (e : Fin 16) (f : Fin 512) (d : Fin 1024) :
    castD x (ix3 (⟨e.val, by omega⟩ : Fin 32) f d) = x (ix4 (0 : Fin 2) e f d) := by
  unfold castD
  pointwise
  exact congrArg₂ (fun a b => x (ix4 a b f d)) (Fin.ext (Nat.div_eq_of_lt e.isLt)) (Fin.ext (Nat.mod_eq_of_lt e.isLt))
theorem rowsOf_h (h : FVec Ideal S38912x1024 .f32) (g : FVec Ideal S38912x4 .f32) (r : Fin 38912) (d : Fin 1024) :
    rowsOf h g (ix2 r (⟨d.val, by omega⟩ : Fin 1152)) = h (ix2 r d) := by
  unfold rowsOf
  pointwise
theorem gates8_at (g : FVec Ideal S38912x4 .f32) (r : Fin 38912) (j : Fin 4) :
    gates8 g (ix2 r (⟨j.val, by omega⟩ : Fin 8)) = g (ix2 r j) := by
  unfold gates8
  pointwise
theorem gates128_0 (x : FVec Ideal S38912x8 .f32) (r : Fin 38912) (j : Fin 8) :
    gates128 x (ix2 r (⟨j.val, by omega⟩ : Fin 128)) = x (ix2 r j) := by
  unfold gates128 narrow
  pointwise
theorem gates128_1 (x : FVec Ideal S38912x8 .f32) (r : Fin 38912) (j : Fin 8) :
    gates128 x (ix2 r (⟨8 + j.val, by omega⟩ : Fin 128)) = x (ix2 r j) - x (ix2 r j) := by
  unfold gates128 narrow
  pointwise
theorem gates128_2 (x : FVec Ideal S38912x8 .f32) (r : Fin 38912) (j : Fin 8) :
    gates128 x (ix2 r (⟨16 + j.val, by omega⟩ : Fin 128)) = (x (ix2 r j) - x (ix2 r j)) - (x (ix2 r j) - x (ix2 r j)) := by
  unfold gates128 narrow
  pointwise
  rw [dif_neg (by omega), dif_neg (by omega), dif_pos (show 16 + j.val - 8 - 8 < 8 by omega)]
  rw [show (⟨16 + j.val - 8 - 8, by omega⟩ : Fin 8) = j from Fin.ext (by show 16 + j.val - 8 - 8 = j.val; omega)]
theorem rowsOf_g (h : FVec Ideal S38912x1024 .f32) (g : FVec Ideal S38912x4 .f32) (r : Fin 38912) (k : Fin 128) :
    rowsOf h g (ix2 r (⟨1024 + k.val, by omega⟩ : Fin 1152)) = gates128 (gates8 g) (ix2 r k) := by
  unfold rowsOf
  pointwise

variable (m : (x : Loc nD τ sig) → Buf (Elt Ideal) x) (c : Dev nD)

theorem arg_kept (b : Ref sig .tc) (h : b = main_arg1 ∨ b = main_arg2 ∨ b = main_arg3 ∨ b = main_arg4 ∨ b = main_arg5) :
    StableHlo.after hostOps0 (fun b => m (c, b)) (Proc.devRef .tc b) = m (c, Proc.devRef .tc b) := by
  rcases h with rfl | rfl | rfl | rfl | rfl <;>
    simp only [hostOps0, StableHlo.TRef.nullary, StableHlo.TRef.binary, StableHlo.TRef.unary, StableHlo.TRef.ternary, StableHlo.TRef.toBuf, StableHlo.TRef.ofBuf, cast_eq] <;>
    after_results_simp

theorem V_v35 : V m c main_v35 = castW (F := Ideal) (m ((c.tc : Thread nD τ).loc main_arg3)) := (V_split m c main_v35).trans ((h1_v35 _).trans (congrArg castW (arg_kept m c main_arg3 (by simp))))
theorem V_v37 : V m c main_v37 = castW (F := Ideal) (m ((c.tc : Thread nD τ).loc main_arg4)) := (V_split m c main_v37).trans ((h1_v37 _).trans (congrArg castW (arg_kept m c main_arg4 (by simp))))
theorem V_v39 : V m c main_v39 = castD (F := Ideal) (m ((c.tc : Thread nD τ).loc main_arg5)) := (V_split m c main_v39).trans ((h1_v39 _).trans (congrArg castD (arg_kept m c main_arg5 (by simp))))
theorem V_v32 : V m c main_v32 = rowsOf (F := Ideal) (m ((c.tc : Thread nD τ).loc main_arg1)) (m ((c.tc : Thread nD τ).loc main_arg2)) :=
  (V_split m c main_v32).trans ((h1_v32 _).trans (congrArg₂ rowsOf (arg_kept m c main_arg1 (by simp)) (arg_kept m c main_arg2 (by simp))))

end Cert.Kernel2Ideal.Ffn

end
-- ==== Proof.FfnBody.lean ====
/- What one point of the expert kernel leaves in its output's buffer, of the blocks it reads. -/
module

public import proofs.«01_k».proof.Proof.FfnFrame
public import proofs.«01_k».proof.Proof.FfnSpec
public import Idealize.ShloMosaic.Lib.Pipeline.ValueKit.Tiles

@[expose] public section

set_option maxRecDepth 16384

noncomputable section

namespace Cert.Kernel2Ideal.Ffn

open Cert.Kernel2Ideal.Gen
open Idealize.ShloMosaic Idealize.ShloMosaic.TcCoe Idealize.ShloMosaic.Tactic

variable {F : FTy → Type} [FloatOps F]

/-- The token's columns of a block. -/
def hPart (x : Vec F S512x1152 .bf16) : Vec F S512x1024 .bf16 := fun j =>
  x (ix2 ⟨(j 0).val, (j 0).isLt⟩ ⟨(j 1).val, lt_trans (j 1).isLt (by decide)⟩)
/-- The gates' columns of a block. -/
def gPart (x : Vec F S512x1152 .bf16) : Vec F S512x128 .bf16 := fun j =>
  x (ix2 ⟨(j 0).val, (j 0).isLt⟩ ⟨1024 + (j 1).val, Nat.add_lt_add_left (j 1).isLt 1024⟩)
/-- One expert's weights of a block of four. -/
def wPart (x : Vec F S4x1024x512 .bf16) (e : Fin 4) : Vec F S1x1024x512 .bf16 := fun j =>
  x (ix3 e ⟨(j 1).val, (j 1).isLt⟩ ⟨(j 2).val, (j 2).isLt⟩)

/-- The stored block, of the loads. -/
def fullF (h : Vec F S512x1024 .bf16) (g : Vec F S512x128 .bf16) (a0 u0 a1 u1 a2 u2 a3 u3 : Vec F S1x1024x512 .bf16) (d : Vec F S4x512x1024 .bf16) : FVec F S512x1024 .bf16 :=
  k0_pay2 (k0_pay3 h) (k0_pay4 g) (k0_pay5 h g a0 u0) (k0_pay9 (k0_pay4 g) (k0_pay6 h a1) (k0_pay7 h u1) (k0_pay8 g))
    (k0_pay10 (k0_pay3 h) (k0_pay4 g) a2 u2) (k0_pay11 (k0_pay3 h) a3) u3 d

/-- The stored block, of the windows' blocks. -/
def fullOut (x0 : Vec F S512x1152 .bf16) (x1 x2 : Vec F S4x1024x512 .bf16) (x3 : Vec F S4x512x1024 .bf16) : FVec F S512x1024 .bf16 :=
  fullF (hPart x0) (gPart x0) (wPart x1 0) (wPart x2 0) (wPart x1 1) (wPart x2 1) (wPart x1 2) (wPart x2 2) (wPart x1 3) (wPart x2 3) x3

theorem ld_h (arg : Memref sig .tc .vmem S512x1152 .bf16) (harg : arg.IsWhole) (x : Vec F S512x1152 .bf16) (inb) :
    View.readAt (Elt F) arg.view (Rect.unit (s := S512x1152) ![0, 0] S512x1024.size inb).toLoadRect (harg.unread x) = hPart x := by
  rw [View.readAt_eq_ld, harg.read_unread]; funext j; unfold hPart
  exact View.ld_unit_apply_of _ _ _ _ _ _ (fun e => by
    match e with
    | ⟨0, _⟩ => exact (Nat.zero_add _).symm
    | ⟨1, _⟩ => exact (Nat.zero_add _).symm)

theorem ld_g (arg : Memref sig .tc .vmem S512x1152 .bf16) (harg : arg.IsWhole) (x : Vec F S512x1152 .bf16) (inb) :
    View.readAt (Elt F) arg.view (Rect.unit (s := S512x1152) ![0, 1024] S512x128.size inb).toLoadRect (harg.unread x) = gPart x := by
  rw [View.readAt_eq_ld, harg.read_unread]; funext j; unfold gPart
  exact View.ld_unit_apply_of _ _ _ _ _ _ (fun e => by
    match e with
    | ⟨0, _⟩ => exact (Nat.zero_add _).symm
    | ⟨1, _⟩ => rfl)

theorem ld_w (arg : Memref sig .tc .vmem S4x1024x512 .bf16) (harg : arg.IsWhole) (x : Vec F S4x1024x512 .bf16) (e : Fin 4) (off) (inb)
    (hoff : off = ![e.val, 0, 0]) :
    View.readAt (Elt F) arg.view (Rect.unit (s := S4x1024x512) off S1x1024x512.size inb).toLoadRect (harg.unread x) = wPart x e := by
  subst hoff; rw [View.readAt_eq_ld, harg.read_unread]; funext j; unfold wPart
  have h0 : (j 0).val = 0 := Nat.lt_one_iff.mp (j 0).isLt
  exact View.ld_unit_apply_of _ _ _ _ _ _ (fun a => by
    match a with
    | ⟨0, _⟩ => exact (congrArg (e.val + ·) h0).symm
    | ⟨1, _⟩ => exact (Nat.zero_add _).symm
    | ⟨2, _⟩ => exact (Nat.zero_add _).symm)

theorem ld_d (arg : Memref sig .tc .vmem S4x512x1024 .bf16) (harg : arg.IsWhole) (x : Vec F S4x512x1024 .bf16) (inb) :
    View.readAt (Elt F) arg.view (Rect.unit (s := S4x512x1024) ![0, 0, 0] S4x512x1024.size inb).toLoadRect (harg.unread x) = x := by
  rw [View.readAt_eq_ld, harg.read_unread]; funext j
  exact View.ld_unit_apply_of _ _ _ _ _ _ (fun a => by
    match a with
    | ⟨0, _⟩ => exact (Nat.zero_add _).symm
    | ⟨1, _⟩ => exact (Nat.zero_add _).symm
    | ⟨2, _⟩ => exact (Nat.zero_add _).symm)

theorem emb_out (inb) (x : (Rect.unit (s := S512x1024) ![0, 0] S512x1024.size inb).shape.Idx) :
    (Rect.unit (s := S512x1024) ![0, 0] S512x1024.size inb).emb x = x := by
  funext a
  apply Fin.ext
  match a with
  | ⟨0, _⟩ => exact (Rect.emb_apply _ _ _).trans ((congrArg (0 + ·) (Nat.one_mul _)).trans (Nat.zero_add _))
  | ⟨1, _⟩ => exact (Rect.emb_apply _ _ _).trans ((congrArg (0 + ·) (Nat.one_mul _)).trans (Nat.zero_add _))

theorem piecesFull (c : Dev nD) (i : grid0.Coords) (arg3 : Memref sig .tc .vmem S512x1152 .bf16) (harg3 : arg3.IsWhole) (arg4 : Memref sig .tc .vmem S4x1024x512 .bf16) (harg4 : arg4.IsWhole) (arg5 : Memref sig .tc .vmem S4x1024x512 .bf16) (harg5 : arg5.IsWhole) (arg6 : Memref sig .tc .vmem S4x512x1024 .bf16) (harg6 : arg6.IsWhole) (arg7 : Memref sig .tc .vmem S512x1024 .bf16) (harg7 : arg7.IsWhole)
    (x0 : Vec F S512x1152 .bf16) (x1 : Vec F S4x1024x512 .bf16) (x2 : Vec F S4x1024x512 .bf16) (x3 : Vec F S4x512x1024 .bf16) (xt0 : TbBuf0 (F := F) c tbM0_0) (xt1 : TbBuf0 (F := F) c tbM0_1) (h1 : ¬k0_cond1 (word c i xt1) = 1#1) (h2 : k0_cond2 (wordB c i xt1) = 1#1) :
    (runFull c i arg3 harg3 arg4 harg4 arg5 harg5 arg6 harg6 arg7 harg7 x0 x1 x2 x3 xt0 xt1 h1 h2).1 = [(⟨Rect.unit (s := S512x1024) ![0, 0] S512x1024.size inb_S512x1024_S512x1024_0_0, (fullF (View.readAt (Elt F) arg3.view (Rect.unit (s := S512x1152) ![0, 0] S512x1024.size inb_S512x1152_S512x1024_0_0).toLoadRect (harg3.unread x0)) (View.readAt (Elt F) arg3.view (Rect.unit (s := S512x1152) ![0, 1024] S512x128.size inb_S512x1152_S512x128_0_1024).toLoadRect (harg3.unread x0)) (View.readAt (Elt F) arg4.view (Rect.unit (s := S4x1024x512) ![0, 0, 0] S1x1024x512.size inb_S4x1024x512_S1x1024x512_0_0_0).toLoadRect (harg4.unread x1)) (View.readAt (Elt F) arg5.view (Rect.unit (s := S4x1024x512) ![0, 0, 0] S1x1024x512.size inb_S4x1024x512_S1x1024x512_0_0_0).toLoadRect (harg5.unread x2)) (View.readAt (Elt F) arg4.view (Rect.unit (s := S4x1024x512) ![1, 0, 0] S1x1024x512.size inb_S4x1024x512_S1x1024x512_1_0_0).toLoadRect (harg4.unread x1)) (View.readAt (Elt F) arg5.view (Rect.unit (s := S4x1024x512) ![1, 0, 0] S1x1024x512.size inb_S4x1024x512_S1x1024x512_1_0_0).toLoadRect (harg5.unread x2)) (View.readAt (Elt F) arg4.view (Rect.unit (s := S4x1024x512) ![2, 0, 0] S1x1024x512.size inb_S4x1024x512_S1x1024x512_2_0_0).toLoadRect (harg4.unread x1)) (View.readAt (Elt F) arg5.view (Rect.unit (s := S4x1024x512) ![2, 0, 0] S1x1024x512.size inb_S4x1024x512_S1x1024x512_2_0_0).toLoadRect (harg5.unread x2)) (View.readAt (Elt F) arg4.view (Rect.unit (s := S4x1024x512) ![3, 0, 0] S1x1024x512.size inb_S4x1024x512_S1x1024x512_3_0_0).toLoadRect (harg4.unread x1)) (View.readAt (Elt F) arg5.view (Rect.unit (s := S4x1024x512) ![3, 0, 0] S1x1024x512.size inb_S4x1024x512_S1x1024x512_3_0_0).toLoadRect (harg5.unread x2)) (View.readAt (Elt F) arg6.view (Rect.unit (s := S4x512x1024) ![0, 0, 0] S4x512x1024.size inb_S4x512x1024_S4x512x1024_0_0_0).toLoadRect (harg6.unread x3)))⟩ : View.Piece (Elt F) S512x1024 .bf16)] := by
  unfold runFull
  dsimp only
  rfl

theorem outFull_eq (c : Dev nD) (i : grid0.Coords) (arg3 : Memref sig .tc .vmem S512x1152 .bf16) (harg3 : arg3.IsWhole) (arg4 : Memref sig .tc .vmem S4x1024x512 .bf16) (harg4 : arg4.IsWhole) (arg5 : Memref sig .tc .vmem S4x1024x512 .bf16) (harg5 : arg5.IsWhole) (arg6 : Memref sig .tc .vmem S4x512x1024 .bf16) (harg6 : arg6.IsWhole) (arg7 : Memref sig .tc .vmem S512x1024 .bf16) (harg7 : arg7.IsWhole)
    (x0 : Vec F S512x1152 .bf16) (x1 : Vec F S4x1024x512 .bf16) (x2 : Vec F S4x1024x512 .bf16) (x3 : Vec F S4x512x1024 .bf16) (xt0 : TbBuf0 (F := F) c tbM0_0) (xt1 : TbBuf0 (F := F) c tbM0_1) (h1 : ¬k0_cond1 (word c i xt1) = 1#1) (h2 : k0_cond2 (wordB c i xt1) = 1#1) :
    outFull c i arg3 harg3 arg4 harg4 arg5 harg5 arg6 harg6 arg7 harg7 x0 x1 x2 x3 xt0 xt1 h1 h2 = fullOut x0 x1 x2 x3 := by
  funext y
  unfold outFull
  rw [View.read_writes_apply_eq_canon _ _ _ _ (coverFull c i arg3 harg3 arg4 harg4 arg5 harg5 arg6 harg6 arg7 harg7 x0 x1 x2 x3 xt0 xt1 h1 h2 y)]
  refine View.canon_apply_of_pieces (fullOut x0 x1 x2 x3) _ ?_ y (coverFull c i arg3 harg3 arg4 harg4 arg5 harg5 arg6 harg6 arg7 harg7 x0 x1 x2 x3 xt0 xt1 h1 h2 y)
  rw [piecesFull]
  simp only [List.forall_mem_cons]
  refine ⟨fun x => ?_, fun _ h => absurd h List.not_mem_nil⟩
  rw [emb_out]
  unfold fullOut
  refine congrFun ?_ x
  exact congr (congr (congr (congr (congr (congr (congr (congr (congr (congr (congrArg fullF (ld_h _ _ x0 _)) (ld_g _ _ x0 _))
    (ld_w _ _ x1 0 _ _ rfl)) (ld_w _ _ x2 0 _ _ rfl)) (ld_w _ _ x1 1 _ _ rfl)) (ld_w _ _ x2 1 _ _ rfl))
    (ld_w _ _ x1 2 _ _ rfl)) (ld_w _ _ x2 2 _ _ rfl)) (ld_w _ _ x1 3 _ _ rfl)) (ld_w _ _ x2 3 _ _ rfl)) (ld_d _ _ x3 _)

theorem piecesZero (c : Dev nD) (i : grid0.Coords) (arg3 : Memref sig .tc .vmem S512x1152 .bf16) (harg3 : arg3.IsWhole) (arg4 : Memref sig .tc .vmem S4x1024x512 .bf16) (harg4 : arg4.IsWhole) (arg5 : Memref sig .tc .vmem S4x1024x512 .bf16) (harg5 : arg5.IsWhole) (arg6 : Memref sig .tc .vmem S4x512x1024 .bf16) (harg6 : arg6.IsWhole) (arg7 : Memref sig .tc .vmem S512x1024 .bf16) (harg7 : arg7.IsWhole)
    (x0 : Vec F S512x1152 .bf16) (x1 : Vec F S4x1024x512 .bf16) (x2 : Vec F S4x1024x512 .bf16) (x3 : Vec F S4x512x1024 .bf16) (xt0 : TbBuf0 (F := F) c tbM0_0) (xt1 : TbBuf0 (F := F) c tbM0_1) (h1 : k0_cond1 (word c i xt1) = 1#1) (h2 : ¬k0_cond2 (wordB c i xt1) = 1#1) :
    (runZero c i arg3 harg3 arg4 harg4 arg5 harg5 arg6 harg6 arg7 harg7 x0 x1 x2 x3 xt0 xt1 h1 h2).1 = [(⟨Rect.unit (s := S512x1024) ![0, 0] S512x1024.size inb_S512x1024_S512x1024_0_0, k0_pay1⟩ : View.Piece (Elt F) S512x1024 .bf16)] := by
  unfold runZero
  dsimp only

theorem outZero_eq (c : Dev nD) (i : grid0.Coords) (arg3 : Memref sig .tc .vmem S512x1152 .bf16) (harg3 : arg3.IsWhole) (arg4 : Memref sig .tc .vmem S4x1024x512 .bf16) (harg4 : arg4.IsWhole) (arg5 : Memref sig .tc .vmem S4x1024x512 .bf16) (harg5 : arg5.IsWhole) (arg6 : Memref sig .tc .vmem S4x512x1024 .bf16) (harg6 : arg6.IsWhole) (arg7 : Memref sig .tc .vmem S512x1024 .bf16) (harg7 : arg7.IsWhole)
    (x0 : Vec F S512x1152 .bf16) (x1 : Vec F S4x1024x512 .bf16) (x2 : Vec F S4x1024x512 .bf16) (x3 : Vec F S4x512x1024 .bf16) (xt0 : TbBuf0 (F := F) c tbM0_0) (xt1 : TbBuf0 (F := F) c tbM0_1) (h1 : k0_cond1 (word c i xt1) = 1#1) (h2 : ¬k0_cond2 (wordB c i xt1) = 1#1) :
    outZero c i arg3 harg3 arg4 harg4 arg5 harg5 arg6 harg6 arg7 harg7 x0 x1 x2 x3 xt0 xt1 h1 h2 = k0_pay1 := by
  funext y
  unfold outZero
  rw [View.read_writes_apply_eq_canon _ _ _ _ (coverZero c i arg3 harg3 arg4 harg4 arg5 harg5 arg6 harg6 arg7 harg7 x0 x1 x2 x3 xt0 xt1 h1 h2 y)]
  refine View.canon_apply_of_pieces k0_pay1 _ ?_ y (coverZero c i arg3 harg3 arg4 harg4 arg5 harg5 arg6 harg6 arg7 harg7 x0 x1 x2 x3 xt0 xt1 h1 h2 y)
  rw [piecesZero]
  simp only [List.forall_mem_cons]
  refine ⟨fun x => ?_, fun _ h => absurd h List.not_mem_nil⟩
  rw [emb_out]

end Cert.Kernel2Ideal.Ffn

end
-- ==== Proof.FfnArr.lean ====
/- The array the expert kernel leaves, of the arrays its windows read. -/
module

public import proofs.«01_k».proof.Proof.FfnBody
public import proofs.«01_k».proof.Proof.FfnTab
public import Idealize.ShloMosaic.Lib.Pipeline.ValueKit.Point
public import Idealize.ShloMosaic.Lib.Pipeline.Covers

@[expose] public section

set_option maxRecDepth 16384

noncomputable section

namespace Cert.Kernel2Ideal.Ffn

open Cert.Kernel2Ideal.Gen
open Idealize.ShloMosaic Idealize.ShloMosaic.TcCoe Idealize.ShloMosaic.Tactic
open Idealize.SL.Sem
open Idealize.ShloMosaic.Pipeline (Dat Cfg Window BodyObligation cellOf)

variable {F : FTy → Type} [FloatOps F]

/-- Tile `n` of the rows. -/
def tileRows (X : Vec F S38912x1152 .bf16) (n : Fin 76) : Vec F S512x1152 .bf16 := fun j =>
  X (ix2 ⟨512 * n.val + (j 0).val, by have := (j 0).isLt; have := n.isLt; simp at *; omega⟩ ⟨(j 1).val, (j 1).isLt⟩)
/-- Four experts' weights. -/
def fourW (X : Vec F S32x1024x512 .bf16) (n : Fin 5) : Vec F S4x1024x512 .bf16 := fun j =>
  X (ix3 ⟨4 * n.val + (j 0).val, by have := (j 0).isLt; have := n.isLt; simp at *; omega⟩ ⟨(j 1).val, (j 1).isLt⟩ ⟨(j 2).val, (j 2).isLt⟩)
def fourD (X : Vec F S32x512x1024 .bf16) (n : Fin 5) : Vec F S4x512x1024 .bf16 := fun j =>
  X (ix3 ⟨4 * n.val + (j 0).val, by have := (j 0).isLt; have := n.isLt; simp at *; omega⟩ ⟨(j 1).val, (j 1).isLt⟩ ⟨(j 2).val, (j 2).isLt⟩)

variable (m : (ℓ : Loc nD τ sig) → Buf (Elt F) ℓ)

theorem coord0 : ∀ t : Fin grid0.N, (grid0.coords t 0).val = t.val := by decide +kernel
theorem n_lt (t : Fin grid0.N) : t.val < 76 := lt_of_lt_of_eq t.isLt (by decide +kernel)
abbrev tileOf (t : Fin grid0.N) : Fin 76 := ⟨t.val, n_lt t⟩
theorem ptOf_coords (t : Fin grid0.N) : ptOf (grid0.coords t) = tileOf t := Fin.ext (coord0 t)

/-- The group the table names at a tile. -/
def grpIx (n : Fin 76) : Fin 5 := ⟨((tbl m 0 : IVec S76 32) (ix1 n)).toNat, Nat.lt_succ_of_le (tbl_le m n)⟩

theorem ixw0 : ∀ t : Fin grid0.N, cc0_transform_0 (grid0.coords t) = ![t.val, 0] := by decide +kernel
theorem ixw4 : ∀ t : Fin grid0.N, cc0_transform_4 (grid0.coords t) = ![t.val, 0] := by decide +kernel

theorem idxA0 (t : Fin (cfgM m (ok m)).N) : ((cfgM m (ok m)).win 0).index t = ![t.val, 0] := ixw0 t
theorem idxA4 (t : Fin (cfgM m (ok m)).N) : ((cfgM m (ok m)).win 4).index t = ![t.val, 0] := ixw4 t
theorem idxA1 (t : Fin (cfgM m (ok m)).N) : ((cfgM m (ok m)).win 1).index t = ![(grpIx m (tileOf t)).val, 0, 0] :=
  (tr1 (tbl m) (grid0.coords t)).trans (by rw [ptOf_coords]; rfl)
theorem idxA2 (t : Fin (cfgM m (ok m)).N) : ((cfgM m (ok m)).win 2).index t = ![(grpIx m (tileOf t)).val, 0, 0] :=
  (tr2 (tbl m) (grid0.coords t)).trans (by rw [ptOf_coords]; rfl)
theorem idxA3 (t : Fin (cfgM m (ok m)).N) : ((cfgM m (ok m)).win 3).index t = ![(grpIx m (tileOf t)).val, 0, 0] :=
  (tr3 (tbl m) (grid0.coords t)).trans (by rw [ptOf_coords]; rfl)

theorem blkA0 (c : Dev nD) (t : Fin (cfgM m (ok m)).N) : iblk m (ok m) c 0 t = tileRows (V m c main_v32) (tileOf t) := by
  funext j; unfold tileRows iblk
  show V m c main_v32 ((((cfgM m (ok m)).win 0).blk t).view.emb j) = _
  congr 1
  blk_ext [idxA0 m t]
theorem blkA1 (c : Dev nD) (t : Fin (cfgM m (ok m)).N) : iblk m (ok m) c 1 t = fourW (V m c main_v35) (grpIx m (tileOf t)) := by
  funext j; unfold fourW iblk
  show V m c main_v35 ((((cfgM m (ok m)).win 1).blk t).view.emb j) = _
  congr 1
  blk_ext [idxA1 m t]
theorem blkA2 (c : Dev nD) (t : Fin (cfgM m (ok m)).N) : iblk m (ok m) c 2 t = fourW (V m c main_v37) (grpIx m (tileOf t)) := by
  funext j; unfold fourW iblk
  show V m c main_v37 ((((cfgM m (ok m)).win 2).blk t).view.emb j) = _
  congr 1
  blk_ext [idxA2 m t]
theorem blkA3 (c : Dev nD) (t : Fin (cfgM m (ok m)).N) : iblk m (ok m) c 3 t = fourD (V m c main_v39) (grpIx m (tileOf t)) := by
  funext j; unfold fourD iblk
  show V m c main_v39 ((((cfgM m (ok m)).win 3).blk t).view.emb j) = _
  congr 1
  blk_ext [idxA3 m t]

/-- What tile `n` holds. -/
def tileOut (c : Dev nD) (n : Fin 76) : Vec F S512x1024 .bf16 :=
  if Cert.FfnSpec.used (sumsOf (cums m 0)) n.val then
    fullOut (tileRows (V m c main_v32) n) (fourW (V m c main_v35) (grpIx m n)) (fourW (V m c main_v37) (grpIx m n)) (fourD (V m c main_v39) (grpIx m n))
  else k0_pay1

/-- The array. -/
def ffnArr (c : Dev nD) : Vec F S38912x1024 .bf16 := fun y =>
  tileOut m c ⟨(y 0).val / 512, by have := (y 0).isLt; simp at this; omega⟩ (ix2 ⟨(y 0).val % 512, by omega⟩ ⟨(y 1).val, (y 1).isLt⟩)

theorem word_used (c : Dev nD) (t : Fin grid0.N) :
    (word c (grid0.coords t) (tbl m 1) = (0#32 : BitVec 32)) ↔ ¬Cert.FfnSpec.used (sumsOf (cums m 0)) t.val := by
  have h : word c (grid0.coords t) (tbl m 1) = (validBit (cums m 0) (ix1 (ptOf (grid0.coords t)))).setWidth 32 :=
    (word_eq c (grid0.coords t) (tbl m 1)).trans (congrFun (tbl_one m) (ix1 (ptOf (grid0.coords t))))
  rw [h, validBit_at, ptOf_coords]
  unfold Cert.FfnSpec.used
  show (BitVec.ofBool ((BitVec.ofNat 32 t.val).slt (cums m 0 (ix1 3)))).setWidth 32 = 0#32 ↔ ¬((BitVec.ofNat 32 t.val).slt (cums m 0 (ix1 3)) = true)
  generalize (BitVec.ofNat 32 t.val).slt (cums m 0 (ix1 3)) = b
  cases b <;> decide

theorem outsA (c : Dev nD) (t : Fin (cfgM m (ok m)).N) : outsAt0 m (ok m) (live m) c t = tileOut m c (tileOf t) := by
  unfold outsAt0 tileOut
  by_cases h : word c (grid0.coords t) (tbl m 1) = (0#32 : BitVec 32)
  · rw [dif_pos h, if_neg ((word_used m c t).mp h)]
    exact outZero_eq c _ _ _ _ _ _ _ _ _ _ _ _ _ _ _ _ _ _ _
  · rw [dif_neg h, if_pos (not_not.mp (fun h' => h ((word_used m c t).mpr h')))]
    refine (outFull_eq c _ _ _ _ _ _ _ _ _ _ _ _ _ _ _ _ _ _ _).trans ?_
    rw [blkA0, blkA1, blkA2, blkA3]

theorem coversA : ((cfgM m (ok m)).win 4).Covers := by
  refine ((cfgM m (ok m)).win 4).covers_of_index_surj rfl ?_ fun β => ?_
  · show ∀ a : Fin 2, 0 < (![512, 1024] : Fin 2 → ℕ) a
    decide
  · have h0 : (β (0 : Fin 2)).val < 76 := lt_of_lt_of_eq (β (0 : Fin 2)).isLt (by decide : (38912 + 512 - 1) / 512 = 76)
    have h1 : (β (1 : Fin 2)).val < 1 := lt_of_lt_of_eq (β (1 : Fin 2)).isLt (by decide : (1024 + 1024 - 1) / 1024 = 1)
    have hn : grid0.N = 76 := by decide +kernel
    refine ⟨⟨(β (0 : Fin 2)).val, lt_of_lt_of_eq h0 hn.symm⟩, fun a => ?_⟩
    rw [idxA4]
    match a with
    | ⟨0, _⟩ => rfl
    | ⟨1, _⟩ => exact (Nat.lt_one_iff.mp h1).symm

theorem embA (t : Fin (cfgM m (ok m)).N) (y : S512x1024.Idx) :
    (((cfgM m (ok m)).win 4).blk t).view.emb y
      = (ix2 ⟨512 * t.val + (y 0).val, by have := n_lt t; have := (y 0).isLt; simp at this; omega⟩ ⟨(y 1).val, (y 1).isLt⟩ : S38912x1024.Idx) := by
  blk_ext [idxA4 m t]

theorem arrA (c : Dev nD) : (dats m (ok m) (live m) 0 c).arrAt 4 (cfgM m (ok m)).N = ffnArr m c := by
  refine (dats m (ok m) (live m) 0 c).arrAt_eq_of_covers 4 _ (coversA m) fun t hf y => ?_
  blk_simp
  rw [after0_4, outsA]
  have hN := n_lt t
  refine Eq.trans ?_ (congrArg (ffnArr m c) (embA m t y)).symm
  have hy : (y (0 : Fin 2)).val < 512 := (y (0 : Fin 2)).isLt
  unfold ffnArr
  refine congr (congrArg (tileOut m c) (Fin.ext (by show t.val = (512 * t.val + (y (0 : Fin 2)).val) / 512; omega))) ?_
  funext d
  match d with
  | ⟨0, _⟩ => exact Fin.ext (by show (y (0 : Fin 2)).val = (512 * t.val + (y (0 : Fin 2)).val) % 512; omega)
  | ⟨1, _⟩ => rfl

end Cert.Kernel2Ideal.Ffn

end
-- ==== Proof.FfnCalc.lean ====
/- What the stored block holds over the extended reals, entry by entry. -/
module

public import proofs.«01_k».proof.Proof.FfnBody

@[expose] public section

set_option maxRecDepth 16384

noncomputable section

namespace Cert.Kernel2Ideal.Ffn

open Cert.Kernel2Ideal.Gen
open Idealize.ShloMosaic Idealize.ShloMosaic.TcCoe Idealize.ShloMosaic.Tactic

/-- A row of the block times a column of an expert's weights. -/
def mm (h : Vec Ideal S512x1024 .bf16) (w : Vec Ideal S1x1024x512 .bf16) (p f : Fin 512) : EReal := ∑ d : Fin 1024, h (ix2 p d) * w (ix3 0 d f)

/-- The kernel's spelling of one gated hidden entry: `k` is the expert's gate column. -/
def gated (h : Vec Ideal S512x1024 .bf16) (g : Vec Ideal S512x128 .bf16) (a u : Vec Ideal S1x1024x512 .bf16) (k0 k1 k2 : Fin 128) (p f : Fin 512) : EReal :=
  mm h a p f * (((1 / 2 : ℝ) : EReal) + ((1 / 2 : ℝ) : EReal) * Ideal.tanh (((1 / 2 : ℝ) : EReal) * mm h a p f)) * mm h u p f
    * (g (ix2 p k0) + g (ix2 p k1) + g (ix2 p k2))

theorem half_bits : Ideal.ofBits .f32 0x3F000000#32 = ((1 / 2 : ℝ) : EReal) := by
  simp [Ideal.ofBits, Ideal.ieee, -EReal.coe_mul]; norm_num

theorem pay6_at (h : Vec Ideal S512x1024 .bf16) (a : Vec Ideal S1x1024x512 .bf16) (p f : Fin 512) : k0_pay6 h a (ix2 p f) = mm h a p f := by
  unfold k0_pay6 k0_pay3 mm
  pointwise

theorem pay7_at (h : Vec Ideal S512x1024 .bf16) (a : Vec Ideal S1x1024x512 .bf16) (p f : Fin 512) : k0_pay7 h a (ix2 p f) = mm h a p f := by
  unfold k0_pay7 k0_pay3 mm
  pointwise

theorem pay11_at (h : Vec Ideal S512x1024 .bf16) (a : Vec Ideal S1x1024x512 .bf16) (p f : Fin 512) : k0_pay11 (k0_pay3 h) a (ix2 p f) = mm h a p f := by
  unfold k0_pay11 k0_pay3 mm
  pointwise

theorem pay5_at (h : Vec Ideal S512x1024 .bf16) (g : Vec Ideal S512x128 .bf16) (a u : Vec Ideal S1x1024x512 .bf16) (p f : Fin 512) :
    k0_pay5 h g a u (ix2 p f) = gated h g a u 0 8 16 p f := by
  unfold k0_pay5 k0_pay4 k0_pay3 gated mm
  pointwise
  rw [half_bits]

theorem pay9_at (h : Vec Ideal S512x1024 .bf16) (g : Vec Ideal S512x128 .bf16) (a u : Vec Ideal S1x1024x512 .bf16) (p f : Fin 512) :
    k0_pay9 (k0_pay4 g) (k0_pay6 h a) (k0_pay7 h u) (k0_pay8 g) (ix2 p f) = gated h g a u 1 9 17 p f := by
  unfold k0_pay9 k0_pay8 k0_pay4 gated
  pointwise [pay6_at, pay7_at]
  rw [half_bits]

theorem pay10_at (h : Vec Ideal S512x1024 .bf16) (g : Vec Ideal S512x128 .bf16) (a u : Vec Ideal S1x1024x512 .bf16) (p f : Fin 512) :
    k0_pay10 (k0_pay3 h) (k0_pay4 g) a u (ix2 p f) = gated h g a u 2 10 18 p f := by
  unfold k0_pay10 k0_pay4 k0_pay3 gated mm
  pointwise
  rw [half_bits]

theorem pay3_at (h : Vec Ideal S512x1024 .bf16) (p : Fin 512) (d : Fin 1024) : k0_pay3 h (ix2 p d) = h (ix2 p d) := by
  unfold k0_pay3
  pointwise

/-- A sum over the four experts' entries, expert by expert. -/
theorem sum_four (G : Fin 2048 → EReal) : ∑ x, G x = (∑ f : Fin 512, G ⟨f.val, by omega⟩) + (∑ f : Fin 512, G ⟨512 + f.val, by omega⟩)
    + (∑ f : Fin 512, G ⟨1024 + f.val, by omega⟩) + ∑ f : Fin 512, G ⟨1536 + f.val, by omega⟩ := by
  show ∑ x : Fin (512 + 512 + 512 + 512), G x = _
  rw [Fin.sum_univ_add, Fin.sum_univ_add, Fin.sum_univ_add]
  rfl

theorem pay2_at (h : Vec Ideal S512x1024 .bf16) (g : Vec Ideal S512x128 .bf16) (h0 h1 h2 : FVec Ideal S512x512 .bf16) (a u : Vec Ideal S1x1024x512 .bf16) (w : Vec Ideal S4x512x1024 .bf16) (p : Fin 512) (d : Fin 1024) :
    k0_pay2 (k0_pay3 h) (k0_pay4 g) h0 h1 h2 (k0_pay11 (k0_pay3 h) a) u w (ix2 p d)
      = (∑ f : Fin 512, h0 (ix2 p f) * w (ix3 0 f d)) + (∑ f : Fin 512, h1 (ix2 p f) * w (ix3 1 f d)) + (∑ f : Fin 512, h2 (ix2 p f) * w (ix3 2 f d))
        + ∑ f : Fin 512, gated h g a u 3 11 19 p f * w (ix3 3 f d) := by
  unfold k0_pay2 k0_pay4 gated
  pointwise [pay11_at, pay3_at]
  rw [sum_four]
  refine congr (congrArg _ (congr (congrArg _ (congr (congrArg _ ?_) ?_)) ?_)) ?_
  · refine Finset.sum_congr rfl fun f _ => ?_
    rw [dif_pos f.isLt]
    refine congrArg _ (congrArg w ?_)
    congr 1
    · exact Fin.ext (by show f.val / 512 = 0; omega)
    · exact Fin.ext (by show f.val % 512 = f.val; omega)
  · refine Finset.sum_congr rfl fun f _ => ?_
    rw [dif_neg (by dsimp only; omega), dif_pos (by dsimp only; omega)]
    refine congr (congrArg _ (congrArg h1 ?_)) (congrArg w ?_)
    · congr 1
      exact Fin.ext (by show 512 + f.val - 512 = f.val; omega)
    congr 1
    · exact Fin.ext (by show (512 + f.val) / 512 = 1; omega)
    · exact Fin.ext (by show (512 + f.val) % 512 = f.val; omega)
  · refine Finset.sum_congr rfl fun f _ => ?_
    rw [dif_neg (by dsimp only; omega), dif_neg (by dsimp only; omega), dif_pos (by dsimp only; omega)]
    refine congr (congrArg _ (congrArg h2 ?_)) (congrArg w ?_)
    · congr 1
      exact Fin.ext (by show 1024 + f.val - 512 - 512 = f.val; omega)
    congr 1
    · exact Fin.ext (by show (1024 + f.val) / 512 = 2; omega)
    · exact Fin.ext (by show (1024 + f.val) % 512 = f.val; omega)
  · refine Finset.sum_congr rfl fun f _ => ?_
    rw [dif_neg (by dsimp only; omega), dif_neg (by dsimp only; omega), dif_neg (by dsimp only; omega)]
    have e : ∀ h, (⟨1536 + f.val - 512 - 512 - 512, h⟩ : Fin 512) = f := fun h => Fin.ext (by show 1536 + f.val - 512 - 512 - 512 = f.val; omega)
    simp only [e]
    rw [half_bits]
    refine congrArg _ (congrArg w ?_)
    congr 1
    · exact Fin.ext (by show (1536 + f.val) / 512 = 3; omega)
    · exact Fin.ext (by show (1536 + f.val) % 512 = f.val; omega)

/-- A gate's three columns of the block's row. -/
def gate3 (x : Vec Ideal S512x1152 .bf16) (p : Fin 512) (j : Fin 4) : EReal :=
  x (ix2 p ⟨1024 + j.val, by omega⟩) + x (ix2 p ⟨1024 + (8 + j.val), by omega⟩) + x (ix2 p ⟨1024 + (16 + j.val), by omega⟩)
/-- A row of the block times a column of an expert's weights. -/
def blkMM (x : Vec Ideal S512x1152 .bf16) (w : Vec Ideal S4x1024x512 .bf16) (j : Fin 4) (p f : Fin 512) : EReal :=
  ∑ d : Fin 1024, x (ix2 p ⟨d.val, by omega⟩) * w (ix3 j d f)

/-- The stored entry. -/
theorem fullOut_at (x0 : Vec Ideal S512x1152 .bf16) (x1 x2 : Vec Ideal S4x1024x512 .bf16) (x3 : Vec Ideal S4x512x1024 .bf16) (p : Fin 512) (d : Fin 1024) :
    fullOut x0 x1 x2 x3 (ix2 p d) = ∑ j : Fin 4, ∑ f : Fin 512,
      blkMM x0 x1 j p f * (((1 / 2 : ℝ) : EReal) + ((1 / 2 : ℝ) : EReal) * Ideal.tanh (((1 / 2 : ℝ) : EReal) * blkMM x0 x1 j p f)) * blkMM x0 x2 j p f
        * gate3 x0 p j * x3 (ix3 j f d) := by
  unfold fullOut fullF
  rw [pay2_at, Fin.sum_univ_four]
  simp only [pay5_at, pay9_at, pay10_at]
  rfl

theorem pay1_at (i : S512x1024.Idx) : k0_pay1 (F := Ideal) i = 0 := by
  obtain ⟨a, b, rfl⟩ : ∃ a b, i = ix2 a b := ⟨_, _, eq_ix2 i⟩
  unfold k0_pay1
  pointwise

end Cert.Kernel2Ideal.Ffn

end
-- ==== Proof.FfnVal.lean ====
/- The array the expert kernel leaves is the layer's output. -/
module

public import proofs.«01_k».proof.Proof.FfnHost
public import proofs.«01_k».proof.Proof.FfnArr
public import proofs.«01_k».proof.Proof.FfnCalc
public import proofs.«01_k».proof.Proof.Spec

@[expose] public section

set_option maxRecDepth 16384

noncomputable section

namespace Cert.Kernel2Ideal.Ffn

open Cert.Kernel2Ideal Cert.Kernel2Ideal.Gen
open Idealize.ShloMosaic Idealize.ShloMosaic.TcCoe Idealize.ShloMosaic.Tactic
open Idealize.SL.Sem
open Cert.Spec (Real' real_sum real_mul)
open Cert.FfnSpec

theorem real_silu {x : EReal} (hx : ∃ r : ℝ, x = r) : ∃ r : ℝ, silu x = r := by
  obtain ⟨a, rfl⟩ := hx
  refine ⟨a * (1 / 2 + 1 / 2 * Real.tanh (1 / 2 * a)), ?_⟩
  rw [← silu_tanh, show Ideal.tanh (((1 / 2 : ℝ) : EReal) * (a : EReal)) = ((Real.tanh (1 / 2 * a) : ℝ) : EReal) from by rw [← EReal.coe_mul]; rfl,
    ← EReal.coe_mul, ← EReal.coe_add, ← EReal.coe_mul]

theorem coe_sum {K : Type} (s : Finset K) (f : K → ℝ) : ∑ k ∈ s, (f k : EReal) = ((∑ k ∈ s, f k : ℝ) : EReal) := by
  classical
  induction s using Finset.induction_on with
  | empty => simp
  | insert a s ha ih => rw [Finset.sum_insert ha, Finset.sum_insert ha, ih, EReal.coe_add]

/-- The gate comes out of an expert's sum. -/
theorem gate_out {K : Type} [Fintype K] (p w : K → EReal) (G : EReal) (hp : ∀ k, ∃ r : ℝ, p k = r) (hw : ∀ k, ∃ r : ℝ, w k = r) (hG : ∃ r : ℝ, G = r) :
    ∑ k, p k * G * w k = G * ∑ k, p k * w k := by
  choose p' hp' using hp
  choose w' hw' using hw
  obtain ⟨G', rfl⟩ := hG
  rw [show (fun k => p k * (G' : EReal) * w k) = fun k => ((p' k * G' * w' k : ℝ) : EReal) from funext fun k => by rw [hp', hw', EReal.coe_mul, EReal.coe_mul],
    show (fun k => p k * w k) = fun k => ((p' k * w' k : ℝ) : EReal) from funext fun k => by rw [hp', hw', EReal.coe_mul],
    coe_sum, coe_sum, ← EReal.coe_mul, Finset.mul_sum]
  exact congrArg _ (Finset.sum_congr rfl fun k _ => by ring)

variable (h : FVec Ideal S38912x1024 .f32) (g : FVec Ideal S38912x4 .f32) (wg wu : FVec Ideal S2x16x1024x512 .f32) (wd : FVec Ideal S2x16x512x1024 .f32)

theorem gate3_rows (hg : Real' g) (n : Fin 76) (p : Fin 512) (j : Fin 4) :
    gate3 (tileRows (F := Ideal) (rowsOf (F := Ideal) h g) n) p j = g (ix2 ⟨512 * n.val + p.val, by omega⟩ j) := by
  have hk : ∀ k : Fin 128, tileRows (F := Ideal) (rowsOf (F := Ideal) h g) n (ix2 p (⟨1024 + k.val, by omega⟩ : Fin 1152)) = (gates128 (F := Ideal) (gates8 g) (ix2 ⟨512 * n.val + p.val, by omega⟩ k) : EReal) :=
    fun k => rowsOf_g h g _ k
  unfold gate3
  refine Eq.trans (congr (congrArg _ (congr (congrArg _ (hk ⟨j.val, by omega⟩)) (hk ⟨8 + j.val, by omega⟩))) (hk ⟨16 + j.val, by omega⟩)) ?_
  have h0 := gates128_0 (gates8 g) (⟨512 * n.val + p.val, by omega⟩ : Fin 38912) ⟨j.val, by omega⟩
  have h1 := gates128_1 (gates8 g) (⟨512 * n.val + p.val, by omega⟩ : Fin 38912) ⟨j.val, by omega⟩
  have h2 := gates128_2 (gates8 g) (⟨512 * n.val + p.val, by omega⟩ : Fin 38912) ⟨j.val, by omega⟩
  dsimp only at h0 h1 h2
  rw [gates8_at] at h0 h1 h2
  refine Eq.trans (congr (congrArg _ (congr (congrArg _ h0) h1)) h2) ?_
  obtain ⟨a, ha⟩ := hg (ix2 ⟨512 * n.val + p.val, by omega⟩ j)
  rw [ha, ← EReal.coe_sub, ← EReal.coe_sub, ← EReal.coe_add, ← EReal.coe_add]
  congr 1; ring

theorem blkMM_rows (w : FVec Ideal S2x16x1024x512 .f32) (n : Fin 76) (k : Fin 5) (hk : k.val < 4) (j : Fin 4) (p f : Fin 512) :
    blkMM (tileRows (F := Ideal) (rowsOf (F := Ideal) h g) n) (fourW (F := Ideal) (castW (F := Ideal) w) k) j p f = proj h w (exOf k.val j) ⟨512 * n.val + p.val, by omega⟩ f := by
  unfold blkMM proj
  refine Finset.sum_congr rfl fun d _ => congr (congrArg _ (rowsOf_h h g _ d)) ?_
  refine Eq.trans (congrArg (castW (F := Ideal) w) ?_) (castW_at w (exOf k.val j) d f)
  refine congrArg (fun e => ix3 e d f) (Fin.ext ?_)
  show 4 * k.val + j.val = (4 * k.val + j.val) % 16
  omega

theorem fourD_at (n : Fin 5) (hn : n.val < 4) (j : Fin 4) (f : Fin 512) (d : Fin 1024) :
    fourD (F := Ideal) (castD (F := Ideal) wd) n (ix3 j f d) = (wd (ix4 0 (exOf n.val j) f d) : EReal) := by
  refine Eq.trans (congrArg (castD (F := Ideal) wd) ?_) (castD_at wd (exOf n.val j) f d)
  refine congrArg (fun e => ix3 e f d) (Fin.ext ?_)
  show 4 * n.val + j.val = (4 * n.val + j.val) % 16
  omega

theorem full_eq (hh : Real' h) (hg : Real' g) (h1 : Real' wg) (h2 : Real' wu) (h3 : Real' wd) (n : Fin 76) (k : Fin 5) (hk : k.val < 4) (p : Fin 512) (d : Fin 1024) :
    fullOut (tileRows (F := Ideal) (rowsOf (F := Ideal) h g) n) (fourW (F := Ideal) (castW (F := Ideal) wg) k) (fourW (F := Ideal) (castW (F := Ideal) wu) k) (fourD (F := Ideal) (castD (F := Ideal) wd) k) (ix2 p d)
      = (∑ j : Fin 4, g (ix2 ⟨512 * n.val + p.val, by omega⟩ j) * expert h wg wu wd (exOf k.val j) ⟨512 * n.val + p.val, by omega⟩ d : EReal) := by
  have hP : ∀ (w : FVec Ideal S2x16x1024x512 .f32), Real' w → ∀ e r f, ∃ x : ℝ, proj h w e r f = x := fun w hw e r f => real_sum _ _ fun _ => real_mul (hh _) (hw _)
  refine (fullOut_at _ _ _ _ p d).trans (Finset.sum_congr rfl fun j _ => ?_)
  unfold expert
  refine Eq.trans (Finset.sum_congr rfl fun f _ => ?_) (gate_out (fun f => silu (proj h wg (exOf k.val j) ⟨512 * n.val + p.val, by omega⟩ f) * proj h wu (exOf k.val j) ⟨512 * n.val + p.val, by omega⟩ f)
    (fun f => wd (ix4 0 (exOf k.val j) f d)) _ (fun f => real_mul (real_silu (hP wg h1 _ _ _)) (hP wu h2 _ _ _)) (fun f => h3 _) (hg _))
  rw [gate3_rows h g hg, blkMM_rows h g wg n k hk, blkMM_rows h g wu n k hk, fourD_at wd k hk]
  obtain ⟨x, hx⟩ := hP wg h1 (exOf k.val j) ⟨512 * n.val + p.val, by omega⟩ f
  rw [hx, silu_tanh]

variable (m : (x : Loc nD τ sig) → Buf (Elt Ideal) x) (c : Dev nD)

theorem word_grp (n : Fin 76) (hu : used (sumsOf (cums m 0)) n.val) : ((tbl m 0 : IVec S76 32) (ix1 n) : BitVec 32) = grp (sumsOf (cums m 0)) n.val :=
  (congrFun (tbl_zero m) (ix1 n)).trans (groupOf_at (cums m 0) n hu)

theorem grpIx_val (n : Fin 76) (hu : used (sumsOf (cums m 0)) n.val) : (grpIx m n).val = (grp (sumsOf (cums m 0)) n.val).toNat := by
  unfold grpIx
  exact congrArg BitVec.toNat (word_grp m n hu)

/-- The array, of the arguments. -/
theorem ffnArr_at (hh : Real' (s := Hs) (m ((c.tc : Thread nD τ).loc main_arg1))) (hg : Real' (s := Gs) (m ((c.tc : Thread nD τ).loc main_arg2)))
    (h1 : Real' (s := Ws) (m ((c.tc : Thread nD τ).loc main_arg3))) (h2 : Real' (s := Ws) (m ((c.tc : Thread nD τ).loc main_arg4))) (h3 : Real' (s := Ds) (m ((c.tc : Thread nD τ).loc main_arg5)))
    (r : Fin 38912) (d : Fin 1024) :
    ffnArr m c (ix2 r d) = result (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (sumsOf (cums m 0)) r d := by
  have hr : (⟨512 * (r.val / 512) + r.val % 512, by omega⟩ : Fin 38912) = r := Fin.ext (by dsimp only; omega)
  show tileOut m c ⟨r.val / 512, by omega⟩ (ix2 ⟨r.val % 512, by omega⟩ d) = _
  unfold tileOut result
  by_cases hu : used (sumsOf (cums m 0)) (r.val / 512)
  · have eg : (grpIx m ⟨r.val / 512, by omega⟩).val = (grp (sumsOf (cums m 0)) (r.val / 512)).toNat :=
      grpIx_val m ⟨r.val / 512, by omega⟩ hu
    rw [if_pos hu, if_pos hu, V_v32, V_v35, V_v37, V_v39]
    refine (full_eq _ _ _ _ _ hh hg h1 h2 h3 _ _ (by rw [eg]; exact grp_lt _ _ hu) _ d).trans ?_
    rw [eg, hr]
  · rw [if_neg hu, if_neg hu]
    exact pay1_at _

end Cert.Kernel2Ideal.Ffn

end
-- ==== Proof.FfnPair.lean ====
/- The expert kernel as printed and its idealization are one text, so one program: the bodies, the table of bodies and the
   host code agree. -/
module

public import proofs.«01_k».proof.Defs
public import proofs.«01_k».proof.Proof.Gen.Kernel2
public import proofs.«01_k».proof.Proof.FfnTab

@[expose] public section

set_option maxRecDepth 16384

noncomputable section

namespace Cert.Kernel2Ideal.Ffn

open Idealize.ShloMosaic Idealize.ShloMosaic.TcCoe Idealize.SL.Sem

theorem body_same : Cert.Kernel2.cc0_moe_ffn (F := Bits) = Cert.Kernel2Ideal.cc0_moe_ffn (F := Bits) := rfl

theorem table_same : Cert.Kernel2.defs₀ (F := Bits) = Cert.Kernel2Ideal.defs₀ (F := Bits) := by
  unfold Cert.Kernel2.defs₀ Cert.Kernel2Ideal.defs₀
  refine congrArg (Defs.onTc (nD := Cert.Kernel2Ideal.nD) (τ := Cert.Kernel2Ideal.τ) (sig := Cert.Kernel2Ideal.sig) (Val := Elt Bits) (Λ := Cert.Kernel2Ideal.Λ₀)) ?_
  funext l x
  match l, x with
  | ⟨0, _⟩, (t, s) => rfl

theorem defs_same : Cert.Kernel2.defs (F := Bits) = Cert.Kernel2Ideal.defs (F := Bits) := by
  unfold Cert.Kernel2.defs Cert.Kernel2Ideal.defs
  exact congrArg (Pipeline.defs (Cert.Kernel2Ideal.pcfgs (F := Bits))) table_same

set_option maxHeartbeats 0 in
theorem main_same : Cert.Kernel2.main (F := Bits) = Cert.Kernel2Ideal.main (F := Bits) := rfl

end Cert.Kernel2Ideal.Ffn

end
-- ==== Proof.FfnRef.lean ====
/- The reference's output, element by element. -/
module

public import proofs.«01_k».proof.Proof.FfnSpec
public import proofs.«01_k».proof.Proof.Gen.Reference2Ideal.Run

@[expose] public section

set_option maxRecDepth 16384

noncomputable section

namespace Cert.Reference2Ideal.Ffn

open Cert.Reference2Ideal Cert.Reference2Ideal.Gen
open Idealize.ShloMosaic Idealize.ShloMosaic.TcCoe Idealize.ShloMosaic.Tactic
open Cert.Spec Cert.FfnSpec

/-- The running sums of the counts. -/
def cumR (x : IVec S4 32) : IVec S4 32 := Host.reduceWindow IntOp.addi ![4] ![1] ![3] ![0] x (broadcastInDim S_ ![] bcast_S_S_ (constantI S_ 32 0#32)) reduceWindows_S4_S4_w4s1p3_0 h_S_

/-- The tile of each row. -/
def tileR : IVec S38912 32 := shapeCast S38912 (iotaInDim S76x512 32 0) shapeCasts_S76x512_S38912

def totalR (s : IVec S4 32) : IVec S_ 32 := shapeCast S_ (extractStridedSlice S1 ![3] s slices_S4_S1_3) shapeCasts_S1_S_

/-- Whether a row's tile is in use. -/
def usedR (s : IVec S4 32) : IVec S38912 1 := cmpi .slt tileR (broadcastInDim S38912 ![] bcast_S_S38912 (totalR s))

/-- Which groups lie before a row's tile. -/
def pastR (s : IVec S4 32) : IVec S38912x4 1 :=
  cmpi .sge (broadcastInDim S38912x4 ![0, 1] bcast_S38912x1_S38912x4_0_1 (broadcastInDim S38912x1 ![0] bcast_S38912_S38912x1_0 tileR))
    (broadcastInDim S38912x4 ![0, 1] bcast_S1x4_S38912x4_0_1 (broadcastInDim S1x4 ![1] bcast_S4_S1x4_1 s))

/-- The group of a row. -/
def groupR (s : IVec S4 32) : IVec S38912 32 := Host.reduce IntOp.addi (extui 32 (pastR s) natLt_1_32) (constantI S_ 32 0#32) reducesTo_S38912x4_S38912_d1 h_S_

/-- Whether an expert is of a row's group. -/
def mineR (s : IVec S4 32) : IVec S38912x16 1 :=
  andi (broadcastInDim S38912x16 ![0, 1] bcast_S38912x1_S38912x16_0_1 (broadcastInDim S38912x1 ![0] bcast_S38912_S38912x1_0 (usedR s)))
    (cmpi .eq (broadcastInDim S38912x16 ![0, 1] bcast_S38912x1_S38912x16_0_1 (broadcastInDim S38912x1 ![0] bcast_S38912_S38912x1_0 (groupR s)))
      (broadcastInDim S38912x16 ![0, 1] bcast_S1x16_S38912x16_0_1 (broadcastInDim S1x16 ![1] bcast_S16_S1x16_1 (shapeCast S16 (iotaInDim S4x4 32 0) shapeCasts_S4x4_S16))))

/-- Each row's gate for each expert. -/
def gatesR (s : IVec S4 32) (g : FVec Ideal S38912x4 .f32) : FVec Ideal S38912x16 .f32 :=
  select (mineR s) (concatenate S38912x16 1 [⟨S38912x4, g⟩, ⟨S38912x4, g⟩, ⟨S38912x4, g⟩, ⟨S38912x4, g⟩] concatenates_S38912x4_S38912x4_S38912x4_S38912x4_S38912x16_d1)
    (broadcastInDim S38912x16 ![] bcast_S_S38912x16 (id (constant S_ FTy.f32 0#32)))

/-- The rows times an expert's weights. -/
def projR (w : FVec Ideal S2x16x1024x512 .f32) (h : FVec Ideal S38912x1024 .f32) : FVec Ideal S16x38912x512 .f32 :=
  transpose S16x38912x512 [0, 2, 1] (Host.dotGeneral (φ₁ := .f32) (φ₂ := .f32) dot_S16x1024x512_S38912x1024_S16x512x38912_1_1_02_0_n_n none
    (shapeCast S16x1024x512 (extractStridedSlice S1x16x1024x512 ![0, 0, 0, 0] w slices_S2x16x1024x512_S1x16x1024x512_0_0_0_0) shapeCasts_S1x16x1024x512_S16x1024x512) h)
    transposes_S16x512x38912_S16x38912x512_0_2_1

/-- The activation. -/
def siluR (a : FVec Ideal S16x38912x512 .f32) : FVec Ideal S16x38912x512 .f32 :=
  mulf a (Host.divf (broadcastInDim S16x38912x512 ![] bcast_S_S16x38912x512 (constant S_ FTy.f32 1065353216#32))
    (addf (broadcastInDim S16x38912x512 ![] bcast_S_S16x38912x512 (constant S_ FTy.f32 1065353216#32)) (Host.exp (Host.negf a))))

/-- The experts' outputs. -/
def expR (a u : FVec Ideal S16x38912x512 .f32) (w : FVec Ideal S2x16x512x1024 .f32) : FVec Ideal S16x38912x1024 .f32 :=
  Host.dotGeneral (φ₁ := .f32) (φ₂ := .f32) dot_S16x38912x512_S16x512x1024_S16x38912x1024_2_1_1_2_0_0 none (mulf (siluR a) u)
    (shapeCast S16x512x1024 (extractStridedSlice S1x16x512x1024 ![0, 0, 0, 0] w slices_S2x16x512x1024_S1x16x512x1024_0_0_0_0) shapeCasts_S1x16x512x1024_S16x512x1024)

/-- The gated sum over the experts. -/
def sumR (g : FVec Ideal S38912x16 .f32) (y : FVec Ideal S16x38912x1024 .f32) : FVec Ideal S38912x1024 .f32 :=
  Host.reduceAdd (mulf (broadcastInDim S16x38912x1024 ![0, 1, 2] bcast_S16x38912x1_S16x38912x1024_0_1_2
      (broadcastInDim S16x38912x1 ![0, 1] bcast_S16x38912_S16x38912x1_0_1 (transpose S16x38912 [1, 0] g transposes_S38912x16_S16x38912_1_0))) y)
    (constant S_ FTy.f32 0#32) reducesTo_S16x38912x1024_S38912x1024_d0 h_S_

def refR (n : IVec S4 32) (h : FVec Ideal S38912x1024 .f32) (g : FVec Ideal S38912x4 .f32) (wg wu : FVec Ideal S2x16x1024x512 .f32) (wd : FVec Ideal S2x16x512x1024 .f32) : FVec Ideal S38912x1024 .bf16 :=
  truncf .bf16 (sumR (gatesR (cumR n) g) (expR (projR wg h) (projR wu h) wd)) bitsLt_bf16_f32

theorem res_eq (m : (x : Loc nD τ sig) → Buf (Elt Ideal) x) (c : Dev nD) : Value.res_main_v44 m c = refR (m (c.tc.loc main_arg0)) (m (c.tc.loc main_arg1)) (m (c.tc.loc main_arg2)) (m (c.tc.loc main_arg3)) (m (c.tc.loc main_arg4)) (m (c.tc.loc main_arg5)) := by
  unfold Value.res_main_v44 refR sumR gatesR mineR expR siluR projR groupR pastR usedR tileR totalR cumR
  rfl

variable (s : IVec S4 32) (h : FVec Ideal S38912x1024 .f32) (g : FVec Ideal S38912x4 .f32) (wg wu w : FVec Ideal S2x16x1024x512 .f32) (wd : FVec Ideal S2x16x512x1024 .f32)

abbrev sums : Fin 4 → BitVec 32 := fun k => s (ix1 k)

theorem totalR_at (j : S_.Idx) : totalR s j = s (ix1 3) := by
  unfold totalR; pointwise

theorem tileR_at (r : Fin 38912) : tileR (ix1 r) = BitVec.ofNat 32 (r.val / 512) := by
  unfold tileR; pointwise

theorem usedR_at (r : Fin 38912) : usedR s (ix1 r) = BitVec.ofBool (decide (used (sums s) (r.val / 512))) := by
  unfold usedR
  pointwise [totalR_at, tileR_at]
  unfold IntOp.cmpi used
  exact congrArg BitVec.ofBool Bool.decide_eq_true.symm

theorem pastR_at (r : Fin 38912) (k : Fin 4) : pastR s (ix2 r k) = past (sums s) (r.val / 512) k := by
  unfold pastR
  pointwise [tileR_at]
  rfl

theorem groupR_at (r : Fin 38912) : groupR s (ix1 r) = grp (sums s) (r.val / 512) := by
  unfold groupR
  rw [reduce4]
  unfold grp
  rw [show past (sums s) (r.val / 512) = fun k => pastR s (ix2 r k) from funext fun k => (pastR_at s r k).symm]
  rfl

theorem mineR_at (r : Fin 38912) (e : Fin 16) : mineR s (ix2 r e) = IntOp.andi (BitVec.ofBool (decide (used (sums s) (r.val / 512)))) (IntOp.cmpi .eq (grp (sums s) (r.val / 512)) (BitVec.ofNat 32 (e.val / 4))) := by
  unfold mineR
  pointwise [usedR_at, groupR_at]

theorem gatesR_at (r : Fin 38912) (e : Fin 16) : gatesR s g (ix2 r e) = if used (sums s) (r.val / 512) ∧ (grp (sums s) (r.val / 512)).toNat = e.val / 4 then g (ix2 r ⟨e.val % 4, by omega⟩) else (0 : EReal) := by
  unfold gatesR
  pointwise [mineR_at]
  have hz : (id (constant (F := Ideal) S_ FTy.f32 0#32) ix0 : EReal) = 0 := Ideal.ofBits_zero_f32
  have hg : ∀ b : BitVec 32, (IntOp.cmpi CmpIPredicate.eq b (BitVec.ofNat 32 (e.val / 4)) = BitVec.ofBool (decide (b.toNat = e.val / 4))) := fun b => by
    unfold IntOp.cmpi
    refine congrArg BitVec.ofBool ?_
    have hn : (BitVec.ofNat 32 (e.val / 4)).toNat = e.val / 4 := by rw [BitVec.toNat_ofNat]; omega
    show (b == BitVec.ofNat 32 (e.val / 4)) = _
    rw [Bool.eq_iff_iff, beq_iff_eq, decide_eq_true_iff, ← BitVec.toNat_inj, hn]
  have ha : ∀ x y : Bool, IntOp.andi (BitVec.ofBool x) (BitVec.ofBool y) = BitVec.ofBool (x && y) := by decide
  rw [hg, ha, hz]
  by_cases hu : used (sums s) (r.val / 512) ∧ (grp (sums s) (r.val / 512)).toNat = e.val / 4
  · rw [if_pos hu, decide_eq_true hu.1, decide_eq_true hu.2]
    refine Eq.trans (b := (if h : e.val < 4 then g (ix2 r ⟨e.val, h⟩)
      else if h : e.val - 4 < 4 then g (ix2 r ⟨e.val - 4, h⟩)
        else if h : e.val - 4 - 4 < 4 then g (ix2 r ⟨e.val - 4 - 4, h⟩) else g (ix2 r ⟨e.val - 4 - 4 - 4, by omega⟩))) rfl ?_
    split_ifs
    all_goals exact congrArg (fun k => g (ix2 r k)) (Fin.ext (by dsimp only; omega))
  · rw [if_neg hu, show (decide (used (sums s) (r.val / 512)) && decide ((grp (sums s) (r.val / 512)).toNat = e.val / 4)) = false from by
      rw [← Bool.decide_and]; exact decide_eq_false hu]
    rfl

theorem projR_at (e : Fin 16) (r : Fin 38912) (f : Fin 512) : projR w h (ix3 e r f) = proj h w e r f := by
  unfold projR proj
  pointwise
  exact Finset.sum_congr rfl fun x _ => mul_comm _ _

theorem siluR_at (a : FVec Ideal S16x38912x512 .f32) (e : Fin 16) (r : Fin 38912) (f : Fin 512) : siluR a (ix3 e r f) = silu (a (ix3 e r f)) := by
  unfold siluR silu
  pointwise

theorem expR_at (a u : FVec Ideal S16x38912x512 .f32) (e : Fin 16) (r : Fin 38912) (d : Fin 1024) : expR a u wd (ix3 e r d) = ∑ f : Fin 512, silu (a (ix3 e r f)) * u (ix3 e r f) * wd (ix4 0 e f d) := by
  unfold expR
  pointwise [siluR_at]

theorem sumR_at (g : FVec Ideal S38912x16 .f32) (y : FVec Ideal S16x38912x1024 .f32) (r : Fin 38912) (d : Fin 1024) : sumR g y (ix2 r d) = ∑ e : Fin 16, g (ix2 r e) * y (ix3 e r d) := by
  unfold sumR
  pointwise

/-- The reference's output is the layer's. -/
theorem refR_at (n : IVec S4 32) (r : Fin 38912) (d : Fin 1024) : refR n h g wg wu wd (ix2 r d) = FfnSpec.result h g wg wu wd (sums (cumR n)) r d := by
  have e1 : refR n h g wg wu wd (ix2 r d) = ∑ e : Fin 16, gatesR (cumR n) g (ix2 r e) * expert h wg wu wd e r d := by
    refine (sumR_at _ _ r d).trans (Finset.sum_congr rfl fun e _ => congrArg _ ?_)
    rw [expR_at]
    unfold expert
    exact Finset.sum_congr rfl fun f _ => by rw [projR_at, projR_at]
  rw [e1]
  unfold FfnSpec.result
  by_cases hu : used (sums (cumR n)) (r.val / 512)
  · have hn := grp_lt _ _ hu
    rw [if_pos hu, ← sum_embed (exOf (grp (sums (cumR n)) (r.val / 512)).toNat)]
    · refine Finset.sum_congr rfl fun j _ => ?_
      have hv : (exOf (grp (sums (cumR n)) (r.val / 512)).toNat j).val = 4 * (grp (sums (cumR n)) (r.val / 512)).toNat + j.val := by
        unfold exOf; dsimp only; omega
      rw [gatesR_at, if_pos ⟨hu, by omega⟩]
      refine congrArg (fun k => g (ix2 r k) * _) (Fin.ext ?_)
      show (exOf (grp (sums (cumR n)) (r.val / 512)).toNat j).val % 4 = j.val
      omega
    · intro a b hab
      have := congrArg Fin.val hab
      unfold exOf at this
      dsimp only at this
      exact Fin.ext (by omega)
    · intro e he
      rw [gatesR_at, if_neg, zero_mul]
      rintro ⟨-, h4⟩
      refine he ⟨⟨e.val % 4, by omega⟩, Fin.ext ?_⟩
      unfold exOf
      dsimp only
      omega
  · rw [if_neg hu]
    exact Finset.sum_eq_zero fun e _ => by rw [gatesR_at, if_neg (fun hh => hu hh.1), zero_mul]

end Cert.Reference2Ideal.Ffn

end
-- ==== Proof.FfnPre.lean ====
/- What the second precondition says: the five arrays hold real values. -/
module

public import proofs.«01_k».proof.Proof.Gen.Pre_finite2
public import proofs.«01_k».proof.Proof.Pre

@[expose] public section

set_option maxRecDepth 16384

noncomputable section

namespace Cert.Pre_finite2.Ffn

open Cert.Pre_finite2 Cert.Pre_finite2.Gen Idealize.ShloMosaic Cert.Spec
open Cert.Pre_finite.Value (and_left and_right real_of_lt)

instance : Subsingleton S_.Idx := ⟨fun a b => funext fun i => i.elim0⟩

theorem real_of_test {s : Shape} {x : FVec Ideal s .f32} {hb : S_.BroadcastsInDim s (![] : Fin 0 → Fin s.rank)} {axes : List (Fin s.rank)} {hr : s.ReducesTo axes S_}
    {hu : 0 < S_.numel} {j : S_.Idx}
    (h : Host.reduce IntOp.andi (cmpf .olt (Host.absf x) (broadcastInDim s ![] hb (constant (F := Ideal) S_ .f32 0x7F800000#32))) (constantI S_ 1 1#1) hr hu j = 1#1) :
    Real' x := fun i => real_of_lt (x i) (Host.reduce_andi_all _ _ hr hu j h i)

theorem finite_real (n : IVec S4 32) (h : FVec Ideal S38912x1024 .f32) (g : FVec Ideal S38912x4 .f32) (wg wu : FVec Ideal S2x16x1024x512 .f32) (wd : FVec Ideal S2x16x512x1024 .f32)
    (hp : fn (F := Ideal) n h g wg wu wd = fun _ => 1#1) : Real' h ∧ Real' g ∧ Real' wg ∧ Real' wu ∧ Real' wd := by
  let j : S_.Idx := fun i => i.elim0
  have h0 := congrFun hp j
  dsimp only [fn, fn_part1] at h0
  have h1 := and_left _ _ h0
  have h2 := and_left _ _ h1
  have h3 := and_left _ _ h2
  exact ⟨real_of_test (and_left _ _ h3), real_of_test (and_right _ _ h3), real_of_test (and_right _ _ h2), real_of_test (and_right _ _ h1), real_of_test (and_right _ _ h0)⟩

end Cert.Pre_finite2.Ffn

end
-- ==== Proof.SecSetup.lean ====
/- The second layer's experts: the expert kernel: its arrays when the kernel starts, its tables, and the windows of its operands. -/
module

public import proofs.«01_k».proof.Proof.Gen.Kernel6Ideal
public import proofs.«01_k».proof.Proof.Gen.Kernel6Ideal.Skeleton
public import proofs.«01_k».proof.Proof.Gen.Kernel6Ideal.Launch
public import Idealize.ShloMosaic.Lib.Pipeline.Kit
public import Idealize.ShloMosaic.Lib.Pipeline.FrameBody
public import Idealize.ShloMosaic.Lib.Tactic
public import Idealize.ShloMosaic.Lib.WordCmp

@[expose] public section

set_option maxRecDepth 16384

noncomputable section

namespace Cert.Kernel6Ideal.Ffn

open Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem fetch0_0 (a : (pcfg0 (F := F)).Adm) : ∀ t : Fin (cfg0 a).N, ((cfg0 a).win 0).fetch t = true :=
  (fun t => (Pipeline.Window.fetchOf_reads cc0_transform_0 reads0_0 hreads0_0 0 (by decide) (by decide) (Pipeline.Window.sep_of_coord cc0_transform_0 0 0 (fun _ => rfl) (by decide)) (P := 1) (by decide) t).mpr (Nat.mod_one _) : ∀ t : Fin grid0.N, Pipeline.Window.fetchOf grid0 false cc0_transform_0 t = true)
theorem flush0_4 (a : (pcfg0 (F := F)).Adm) : ∀ t : Fin (cfg0 a).N, ((cfg0 a).win 4).flush t = true :=
  (fun t => (Pipeline.Window.flushOf_reads cc0_transform_4 reads0_4 hreads0_4 0 (by decide) (by decide) (Pipeline.Window.sep_of_coord cc0_transform_4 0 0 (fun _ => rfl) (by decide)) (P := 1) (m := 0) (by decide) rfl t).mpr (Nat.mod_one _) : ∀ t : Fin grid0.N, Pipeline.Window.flushOf grid0 true cc0_transform_4 t = true)

abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)

abbrev bodyAt0 (a : (pcfg0 (F := F)).Adm) (t : Fin (cfg0 a).N) : Prog (TpuEff nD τ sig (Elt F) Λ₀ .tc) PUnit :=
  cc0_moe_ffn (grid0.coords t) (Memref.whole main_v17) (Memref.isWhole_whole _) (Memref.whole main_v33) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4))

abbrev V (c : Dev nD) (b : Ref sig .tc) : Buf (Elt F) ((c : Thread nD τ).loc b) :=
  StableHlo.after (List.flatten [hostOps0, hostOps0_1]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1] (by simp only [List.Forall]; exact ⟨hostOps0_sub, hostOps0_1_sub⟩)
    (by simp only [List.Forall]; exact ⟨hostOps0_fresh, hostOps0_1_fresh⟩) main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

def tbl : pre0.Contents (Elt F) := fun j => V m (0 : Dev nD) (pre0.ref j)
theorem V_pre (c : Dev nD) (j : Fin 2) : V m c (pre0.ref j) = tbl m j := by
  obtain rfl : c = 0 := Subsingleton.elim _ _; rfl
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

abbrev tbM0_0 : Memref sig .tc .smem S76 .i32 := Memref.whole main_v17
abbrev htbM0_0 : tbM0_0.IsWhole := Memref.isWhole_whole _
abbrev tbM0_1 : Memref sig .tc .smem S76 .i32 := Memref.whole main_v33
abbrev htbM0_1 : tbM0_1.IsWhole := Memref.isWhole_whole _

abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c)⟩) h

abbrev VO0_4 : View sig .tc .vmem S512x1024 .bf16 := (Memref.whole cc0_stg4_0 : Memref sig .tc .vmem S512x1024 .bf16).view
abbrev ms0_0 (hO : Ok m) (t : Fin (cfgM m hO).N) : Memref sig .tc .vmem S512x1152 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S4x1024x512 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S4x1024x512 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S4x512x1024 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S512x1024 .bf16 := spec0_4.stage ((cfgM m hO).slots t 4)
abbrev hs0_4 (hO : Ok m) (t : Fin (cfgM m hO).N) : (ms0_4 m hO t).IsWhole := hstage0_4 (((cfgM m hO).slots t 4).cast nbuf0_4)

/-- The word of the second table that point `i` reads: 1 where the tile is in use, 0 where it is not. -/
abbrev word (c : Dev nD) (i : grid0.Coords) (xt1 : TbBuf0 (F := F) c tbM0_1) : Elt F .i32 :=
  View.readAt (Elt F) tbM0_1.view (Rect.unit (s := S76) (k0_off1 i) ![1] (k0_off1_inb i)).toLoadRect xt1 (Shape.Idx.first (numel1_S1.symm ▸ Nat.one_pos))
/-- The same word, read a second time. -/
abbrev wordB (c : Dev nD) (i : grid0.Coords) (xt1 : TbBuf0 (F := F) c tbM0_1) : Elt F .i32 :=
  View.readAt (Elt F) tbM0_1.view (Rect.unit (s := S76) (k0_off2 i) ![1] (k0_off2_inb i)).toLoadRect xt1 (Shape.Idx.first (numel1_S1.symm ▸ Nat.one_pos))

end Cert.Kernel6Ideal.Ffn

end
-- ==== Proof.SecRunZero.lean ====
/- The second layer's experts: the expert kernel at a tile that is not in use: it stores zeros. -/
module

public import proofs.«01_k».proof.Proof.SecSetup

@[expose] public section

set_option maxRecDepth 16384

noncomputable section

namespace Cert.Kernel6Ideal.Ffn

open Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def runZero (c : Dev nD) (i : grid0.Coords) (arg3 : Memref sig .tc .vmem S512x1152 .bf16) (harg3 : arg3.IsWhole) (arg4 : Memref sig .tc .vmem S4x1024x512 .bf16) (harg4 : arg4.IsWhole) (arg5 : Memref sig .tc .vmem S4x1024x512 .bf16) (harg5 : arg5.IsWhole) (arg6 : Memref sig .tc .vmem S4x512x1024 .bf16) (harg6 : arg6.IsWhole) (arg7 : Memref sig .tc .vmem S512x1024 .bf16) (harg7 : arg7.IsWhole)
    (x0 : Vec F S512x1152 .bf16) (x1 : Vec F S4x1024x512 .bf16) (x2 : Vec F S4x1024x512 .bf16) (x3 : Vec F S4x512x1024 .bf16) (xt0 : TbBuf0 (F := F) c tbM0_0) (xt1 : TbBuf0 (F := F) c tbM0_1)
    (h1 : k0_cond1 (word c i xt1) = 1#1) (h2 : ¬k0_cond2 (wordB c i xt1) = 1#1) :
    { L4 : List (View.Piece (Elt F) S512x1024 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ tbPt0 c tbM0_0 xt0 ∗ tbPt0 c tbM0_1 xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ tbPt0 c tbM0_0 xt0 ∗ tbPt0 c tbM0_1 xt1) -∗ K ⟨⟩))
          ⊢ wp frame (wpE (defs₀ (F := F)) Variants.none c none) E (cc0_moe_ffn i tbM0_0 htbM0_0 tbM0_1 htbM0_1 arg3 harg3 arg4 harg4 arg5 harg5 arg6 harg6 arg7 harg7) K } := by
  refine ⟨?_, fun E K => ?run⟩
  case run =>
    simp only [cc0_moe_ffn_eq_skeleton]; unfold cc0_moe_ffn_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%d4, %f4, -, H4⟩, HT0, HT1, Hk⟩
    obtain rfl := harg3.eq_unread hf0; obtain rfl := harg4.eq_unread hf1; obtain rfl := harg5.eq_unread hf2; obtain rfl := harg6.eq_unread hf3
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HT0]; · iexact HT0
    iexact HT1

end Cert.Kernel6Ideal.Ffn

end
-- ==== Proof.SecRunFull.lean ====
/- The second layer's experts: the expert kernel at a tile in use: it stores the gated sum of its four experts. -/
module

public import proofs.«01_k».proof.Proof.SecRunZero

@[expose] public section

set_option maxRecDepth 16384

noncomputable section

namespace Cert.Kernel6Ideal.Ffn

open Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def runFull (c : Dev nD) (i : grid0.Coords) (arg3 : Memref sig .tc .vmem S512x1152 .bf16) (harg3 : arg3.IsWhole) (arg4 : Memref sig .tc .vmem S4x1024x512 .bf16) (harg4 : arg4.IsWhole) (arg5 : Memref sig .tc .vmem S4x1024x512 .bf16) (harg5 : arg5.IsWhole) (arg6 : Memref sig .tc .vmem S4x512x1024 .bf16) (harg6 : arg6.IsWhole) (arg7 : Memref sig .tc .vmem S512x1024 .bf16) (harg7 : arg7.IsWhole)
    (x0 : Vec F S512x1152 .bf16) (x1 : Vec F S4x1024x512 .bf16) (x2 : Vec F S4x1024x512 .bf16) (x3 : Vec F S4x512x1024 .bf16) (xt0 : TbBuf0 (F := F) c tbM0_0) (xt1 : TbBuf0 (F := F) c tbM0_1)
    (h1 : ¬k0_cond1 (word c i xt1) = 1#1) (h2 : k0_cond2 (wordB c i xt1) = 1#1) :
    { L4 : List (View.Piece (Elt F) S512x1024 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ tbPt0 c tbM0_0 xt0 ∗ tbPt0 c tbM0_1 xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ tbPt0 c tbM0_0 xt0 ∗ tbPt0 c tbM0_1 xt1) -∗ K ⟨⟩))
          ⊢ wp frame (wpE (defs₀ (F := F)) Variants.none c none) E (cc0_moe_ffn i tbM0_0 htbM0_0 tbM0_1 htbM0_1 arg3 harg3 arg4 harg4 arg5 harg5 arg6 harg6 arg7 harg7) K } := by
  refine ⟨?_, fun E K => ?run⟩
  case run =>
    simp only [cc0_moe_ffn_eq_skeleton]; unfold cc0_moe_ffn_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%d4, %f4, -, H4⟩, HT0, HT1, Hk⟩
    obtain rfl := harg3.eq_unread hf0; obtain rfl := harg4.eq_unread hf1; obtain rfl := harg5.eq_unread hf2; obtain rfl := harg6.eq_unread hf3
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HT0]; · iexact HT0
    iexact HT1

end Cert.Kernel6Ideal.Ffn

end
-- ==== Proof.SecFrame.lean ====
/- The second layer's experts: the expert kernel runs to its end at every tile and leaves its arguments as they were. -/
module

public import proofs.«01_k».proof.Proof.SecRunFull
public import Idealize.ShloMosaic.Lib.Ring
public import Idealize.ShloMosaic.Lib.Claim

@[expose] public section

set_option maxRecDepth 16384

noncomputable section

namespace Cert.Kernel6Ideal.Ffn

open Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The one store covers the whole block. -/
theorem coverZero (c : Dev nD) (i : grid0.Coords) (arg3 : Memref sig .tc .vmem S512x1152 .bf16) (harg3 : arg3.IsWhole) (arg4 : Memref sig .tc .vmem S4x1024x512 .bf16) (harg4 : arg4.IsWhole) (arg5 : Memref sig .tc .vmem S4x1024x512 .bf16) (harg5 : arg5.IsWhole) (arg6 : Memref sig .tc .vmem S4x512x1024 .bf16) (harg6 : arg6.IsWhole) (arg7 : Memref sig .tc .vmem S512x1024 .bf16) (harg7 : arg7.IsWhole)
    (x0 : Vec F S512x1152 .bf16) (x1 : Vec F S4x1024x512 .bf16) (x2 : Vec F S4x1024x512 .bf16) (x3 : Vec F S4x512x1024 .bf16) (xt0 : TbBuf0 (F := F) c tbM0_0) (xt1 : TbBuf0 (F := F) c tbM0_1) (h1 : k0_cond1 (word c i xt1) = 1#1) (h2 : ¬k0_cond2 (wordB c i xt1) = 1#1) (y : S512x1024.Idx) :
    ∃ pc ∈ (runZero c i arg3 harg3 arg4 harg4 arg5 harg5 arg6 harg6 arg7 harg7 x0 x1 x2 x3 xt0 xt1 h1 h2).1, y ∈ pc.1.set :=
  View.cover_of_tiledL (runZero c i arg3 harg3 arg4 harg4 arg5 harg5 arg6 harg6 arg7 harg7 x0 x1 x2 x3 xt0 xt1 h1 h2).1 S512x1024.size (by sl_kernel_rfl) y

/-- What the point leaves in the result's buffer. -/
def outZero (c : Dev nD) (i : grid0.Coords) (arg3 : Memref sig .tc .vmem S512x1152 .bf16) (harg3 : arg3.IsWhole) (arg4 : Memref sig .tc .vmem S4x1024x512 .bf16) (harg4 : arg4.IsWhole) (arg5 : Memref sig .tc .vmem S4x1024x512 .bf16) (harg5 : arg5.IsWhole) (arg6 : Memref sig .tc .vmem S4x512x1024 .bf16) (harg6 : arg6.IsWhole) (arg7 : Memref sig .tc .vmem S512x1024 .bf16) (harg7 : arg7.IsWhole)
    (x0 : Vec F S512x1152 .bf16) (x1 : Vec F S4x1024x512 .bf16) (x2 : Vec F S4x1024x512 .bf16) (x3 : Vec F S4x512x1024 .bf16) (xt0 : TbBuf0 (F := F) c tbM0_0) (xt1 : TbBuf0 (F := F) c tbM0_1) (h1 : k0_cond1 (word c i xt1) = 1#1) (h2 : ¬k0_cond2 (wordB c i xt1) = 1#1) : Vec F S512x1024 .bf16 :=
  VO0_4.read (Elt F) (VO0_4.writes (Elt F) VO0_4.junk (runZero c i arg3 harg3 arg4 harg4 arg5 harg5 arg6 harg6 arg7 harg7 x0 x1 x2 x3 xt0 xt1 h1 h2).1)

/-- The one store covers the whole block. -/
theorem coverFull (c : Dev nD) (i : grid0.Coords) (arg3 : Memref sig .tc .vmem S512x1152 .bf16) (harg3 : arg3.IsWhole) (arg4 : Memref sig .tc .vmem S4x1024x512 .bf16) (harg4 : arg4.IsWhole) (arg5 : Memref sig .tc .vmem S4x1024x512 .bf16) (harg5 : arg5.IsWhole) (arg6 : Memref sig .tc .vmem S4x512x1024 .bf16) (harg6 : arg6.IsWhole) (arg7 : Memref sig .tc .vmem S512x1024 .bf16) (harg7 : arg7.IsWhole)
    (x0 : Vec F S512x1152 .bf16) (x1 : Vec F S4x1024x512 .bf16) (x2 : Vec F S4x1024x512 .bf16) (x3 : Vec F S4x512x1024 .bf16) (xt0 : TbBuf0 (F := F) c tbM0_0) (xt1 : TbBuf0 (F := F) c tbM0_1) (h1 : ¬k0_cond1 (word c i xt1) = 1#1) (h2 : k0_cond2 (wordB c i xt1) = 1#1) (y : S512x1024.Idx) :
    ∃ pc ∈ (runFull c i arg3 harg3 arg4 harg4 arg5 harg5 arg6 harg6 arg7 harg7 x0 x1 x2 x3 xt0 xt1 h1 h2).1, y ∈ pc.1.set :=
  View.cover_of_tiledL (runFull c i arg3 harg3 arg4 harg4 arg5 harg5 arg6 harg6 arg7 harg7 x0 x1 x2 x3 xt0 xt1 h1 h2).1 S512x1024.size (by sl_kernel_rfl) y

/-- What the point leaves in the result's buffer. -/
def outFull (c : Dev nD) (i : grid0.Coords) (arg3 : Memref sig .tc .vmem S512x1152 .bf16) (harg3 : arg3.IsWhole) (arg4 : Memref sig .tc .vmem S4x1024x512 .bf16) (harg4 : arg4.IsWhole) (arg5 : Memref sig .tc .vmem S4x1024x512 .bf16) (harg5 : arg5.IsWhole) (arg6 : Memref sig .tc .vmem S4x512x1024 .bf16) (harg6 : arg6.IsWhole) (arg7 : Memref sig .tc .vmem S512x1024 .bf16) (harg7 : arg7.IsWhole)
    (x0 : Vec F S512x1152 .bf16) (x1 : Vec F S4x1024x512 .bf16) (x2 : Vec F S4x1024x512 .bf16) (x3 : Vec F S4x512x1024 .bf16) (xt0 : TbBuf0 (F := F) c tbM0_0) (xt1 : TbBuf0 (F := F) c tbM0_1) (h1 : ¬k0_cond1 (word c i xt1) = 1#1) (h2 : k0_cond2 (wordB c i xt1) = 1#1) : Vec F S512x1024 .bf16 :=
  VO0_4.read (Elt F) (VO0_4.writes (Elt F) VO0_4.junk (runFull c i arg3 harg3 arg4 harg4 arg5 harg5 arg6 harg6 arg7 harg7 x0 x1 x2 x3 xt0 xt1 h1 h2).1)

/-- The second table holds only zeros and ones. -/
def Live : Prop := ∀ (c : Dev nD) (i : grid0.Coords), word c i (tbl m 1) = (0#32 : BitVec 32) ∨ word c i (tbl m 1) = (1#32 : BitVec 32)

theorem cond_zero {w : BitVec 32} (h : w = 0#32) : k0_cond1 w = 1#1 ∧ ¬k0_cond2 w = 1#1 := by subst h; decide
theorem cond_one {w : BitVec 32} (h : w = 1#32) : ¬k0_cond1 w = 1#1 ∧ k0_cond2 w = 1#1 := by subst h; decide

open Classical in
/-- What point `t` leaves in the result's buffer: zeros where the tile is not in use, the experts' sum where it is. -/
def outsAt0 (hO : Ok m) (hL : Live m) (c : Dev nD) (t : Fin (cfgM m hO).N) : Vec F S512x1024 .bf16 :=
  if h : word c (grid0.coords t) (tbl m 1) = (0#32 : BitVec 32) then
    outZero c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (iblk m hO c 0 t) (iblk m hO c 1 t) (iblk m hO c 2 t) (iblk m hO c 3 t) (tbl m 0) (tbl m 1) (cond_zero h).1 (cond_zero h).2
  else
    outFull c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (iblk m hO c 0 t) (iblk m hO c 1 t) (iblk m hO c 2 t) (iblk m hO c 3 t) (tbl m 0) (tbl m 1) (cond_one ((hL c _).resolve_left h)).1 (cond_one ((hL c _).resolve_left h)).2

def dats (hO : Ok m) (hL : Live m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => (outsAt0 m hO hL c t)
  Φ _ := iprop(Pipeline.ΦA spec0 c ∗ Pipeline.ΦT pre0 (tbl m) c)
  q _ := fullShare
  owed _ := 0

theorem A_eq (hO : Ok m) (hL : Live m) (c : Dev nD) (w : Fin (cfgM m hO).W) : (dats m hO hL 0 c).A w = V m c (Pipeline.arrRef spec0 w) := by
  dsimp only [dats]

theorem after0_0 (hO : Ok m) (hL : Live m) (c : Dev nD) (t : Fin (cfgM m hO).N) : (dats m hO hL 0 c).after 0 t = iblk m hO c 0 t := by dsimp only [dats]; try rfl
theorem after0_1 (hO : Ok m) (hL : Live m) (c : Dev nD) (t : Fin (cfgM m hO).N) : (dats m hO hL 0 c).after 1 t = iblk m hO c 1 t := by dsimp only [dats]; try rfl
theorem after0_2 (hO : Ok m) (hL : Live m) (c : Dev nD) (t : Fin (cfgM m hO).N) : (dats m hO hL 0 c).after 2 t = iblk m hO c 2 t := by dsimp only [dats]; try rfl
theorem after0_3 (hO : Ok m) (hL : Live m) (c : Dev nD) (t : Fin (cfgM m hO).N) : (dats m hO hL 0 c).after 3 t = iblk m hO c 3 t := by dsimp only [dats]; try rfl
theorem after0_4 (hO : Ok m) (hL : Live m) (c : Dev nD) (t : Fin (cfgM m hO).N) : (dats m hO hL 0 c).after 4 t = (outsAt0 m hO hL c t) := by dsimp only [dats]; try rfl

theorem before0_0 (hO : Ok m) (hL : Live m) (c : Dev nD) (t : Fin (cfgM m hO).N) (d) : (dats m hO hL 0 c).before 0 t d = iblk m hO c 0 t :=
  before0_0_of m hO (dats m hO hL 0 c) (A_eq m hO hL c 0) (after0_0 m hO hL c) t d
theorem before0_1 (hO : Ok m) (hL : Live m) (c : Dev nD) (t : Fin (cfgM m hO).N) (d) : (dats m hO hL 0 c).before 1 t d = iblk m hO c 1 t :=
  before0_1_of m hO (dats m hO hL 0 c) (A_eq m hO hL c 1) (after0_1 m hO hL c) t d
theorem before0_2 (hO : Ok m) (hL : Live m) (c : Dev nD) (t : Fin (cfgM m hO).N) (d) : (dats m hO hL 0 c).before 2 t d = iblk m hO c 2 t :=
  before0_2_of m hO (dats m hO hL 0 c) (A_eq m hO hL c 2) (after0_2 m hO hL c) t d
theorem before0_3 (hO : Ok m) (hL : Live m) (c : Dev nD) (t : Fin (cfgM m hO).N) (d) : (dats m hO hL 0 c).before 3 t d = iblk m hO c 3 t :=
  before0_3_of m hO (dats m hO hL 0 c) (A_eq m hO hL c 3) (after0_3 m hO hL c) t d

def bodyPre (hO : Ok m) (hL : Live m) (c : Dev nD) (t : Fin (cfgM m hO).N) : sProp 𝕄 :=
  iprop((dats m hO hL 0 c).Φ t.castSucc ∗ (dats m hO hL 0 c).owesAt () t.castSucc
    ∗ (∃ d, owns (c : Thread nD τ) (ms0_0 m hO t) fullShare ((dats m hO hL 0 c).before 0 t d))
    ∗ (∃ d, owns (c : Thread nD τ) (ms0_1 m hO t) fullShare ((dats m hO hL 0 c).before 1 t d))
    ∗ (∃ d, owns (c : Thread nD τ) (ms0_2 m hO t) fullShare ((dats m hO hL 0 c).before 2 t d))
    ∗ (∃ d, owns (c : Thread nD τ) (ms0_3 m hO t) fullShare ((dats m hO hL 0 c).before 3 t d))
    ∗ (∃ d, owns (c : Thread nD τ) (ms0_4 m hO t) fullShare ((dats m hO hL 0 c).before 4 t d)))

def bodyPost (hO : Ok m) (hL : Live m) (c : Dev nD) (t : Fin (cfgM m hO).N) : sProp 𝕄 :=
  iprop((dats m hO hL 0 c).Φ t.succ ∗ (dats m hO hL 0 c).owesAt () t.succ
    ∗ owns (c : Thread nD τ) (ms0_0 m hO t) fullShare ((dats m hO hL 0 c).after 0 t)
    ∗ owns (c : Thread nD τ) (ms0_1 m hO t) fullShare ((dats m hO hL 0 c).after 1 t)
    ∗ owns (c : Thread nD τ) (ms0_2 m hO t) fullShare ((dats m hO hL 0 c).after 2 t)
    ∗ owns (c : Thread nD τ) (ms0_3 m hO t) fullShare ((dats m hO hL 0 c).after 3 t)
    ∗ owns (c : Thread nD τ) (ms0_4 m hO t) fullShare ((dats m hO hL 0 c).after 4 t))

theorem sound_body (hO : Ok m) (hL : Live m) (c : Dev nD) (t : Fin (cfgM m hO).N) :
    bodyPre m hO hL c t ⊢ wp frame (wpE (defs₀ (F := F)) Variants.none c none) Set.univ (bodyAt0 (adm m hO) t) (fun _ => bodyPost m hO hL c t) := by
  unfold bodyPre bodyPost bodyAt0
  simp only [before0_0, before0_1, before0_2, before0_3]
  rw [show (dats m hO hL 0 c).Φ t.succ = (dats m hO hL 0 c).Φ t.castSucc from rfl,
    show (dats m hO hL 0 c).owesAt () t.succ = (dats m hO hL 0 c).owesAt () t.castSucc from rfl,
    after0_0, after0_1, after0_2, after0_3, after0_4]
  rw [show (dats m hO hL 0 c).Φ t.castSucc = iprop(Pipeline.ΦA spec0 c ∗ Pipeline.ΦT pre0 (tbl m) c) from rfl, PhiT0_eq]
  iintro ⟨⟨HΦ, ⟨HT0, HT1⟩⟩, Ho, ⟨%d0, H0⟩, ⟨%d1, H1⟩, ⟨%d2, H2⟩, ⟨%d3, H3⟩, ⟨%d4, H4⟩⟩
  by_cases h : word c (grid0.coords t) (tbl m 1) = (0#32 : BitVec 32)
  · rw [show outsAt0 m hO hL c t = _ from dif_pos h]
    unfold outZero
    iapply ((runZero c (grid0.coords t) _ _ _ _ _ _ _ _ _ _ (iblk m hO c 0 t) (iblk m hO c 1 t) (iblk m hO c 2 t) (iblk m hO c 3 t) (tbl m 0) (tbl m 1) (cond_zero h).1 (cond_zero h).2).2 Set.univ _)
    isplitl [H0]; · iexact H0
    isplitl [H1]; · iexact H1
    isplitl [H2]; · iexact H2
    isplitl [H3]; · iexact H3
    isplitl [H4]; · iexists _; iexact H4
    isplitl [HT0]; · iexact HT0
    isplitl [HT1]; · iexact HT1
    iintro ⟨H0, H1, H2, H3, ⟨%e4, H4⟩, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverZero c _ _ _ _ _ _ _ _ _ _ _ _ _ _ _ _ _ _ _)
  · rw [show outsAt0 m hO hL c t = _ from dif_neg h]
    unfold outFull
    iapply ((runFull c (grid0.coords t) _ _ _ _ _ _ _ _ _ _ (iblk m hO c 0 t) (iblk m hO c 1 t) (iblk m hO c 2 t) (iblk m hO c 3 t) (tbl m 0) (tbl m 1) (cond_one ((hL c _).resolve_left h)).1 (cond_one ((hL c _).resolve_left h)).2).2 Set.univ _)
    isplitl [H0]; · iexact H0
    isplitl [H1]; · iexact H1
    isplitl [H2]; · iexact H2
    isplitl [H3]; · iexact H3
    isplitl [H4]; · iexists _; iexact H4
    isplitl [HT0]; · iexact HT0
    isplitl [HT1]; · iexact HT1
    iintro ⟨H0, H1, H2, H3, ⟨%e4, H4⟩, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverFull c _ _ _ _ _ _ _ _ _ _ _ _ _ _ _ _ _ _ _)

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

theorem body_obligation (hO : Ok m) (hL : Live m) (c : Dev nD) : BodyObligation (dats (F := F) m hO hL 0 c) (defs₀ (F := F)) Variants.none () Set.univ := fun t => by
  rw [bigSep_W0, bigSep_W0, defs₀_row m hO]
  refine triple_restated (sound_body m hO hL c t) rfl .rfl fun _ => ?_
  have hfl := flush0_4 (adm m hO) t
  have key : ∀ (b f : Bool) (X Y : sProp 𝕄), f = true → X ⊢ (match b with | true => (match f with | false => Y | true => X) | false => X) := by
    intro b f X Y hf; subst hf; cases b <;> exact .rfl
  unfold bodyPost
  refine sep_mono .rfl (sep_mono .rfl (sep_mono .rfl (sep_mono .rfl (sep_mono .rfl (sep_mono .rfl ?_)))))
  exact key _ _ _ _ hfl

set_option backward.isDefEq.respectTransparency.types false in
theorem run_main_quiescent (hO : Ok m) (hL : Live m) : θ_run defs (onTc (τ := τ) (main (F := F))) (s₀ m ρ) (fun r => (Pipeline.FramePost (Pipeline.pin pcfgs fun _ => adm m hO) (dats m hO hL) 0 (V m)) r ∧ r.2.sem = fun _ => 0) :=
  Pipeline.θ_run_frameP (Q' := _) pcfgs (fun _ => adm m hO) (dats m hO hL) (0 : Fin 1) launch0 defs₀ Variants.none m ρ main
    (hbody := fun c => (body_obligation m hO hL c).loose) (hshare := fun c => (dats m hO hL 0 c).share_full fun _ => rfl)
    (howed := fun _ _ => rfl) (V := V m) (hmain := hmain m Variants.none) (hA := A_eq m hO hL) (hpf := V_pre m)
    (hΦ := fun _ _ => rfl)

theorem run_main (hO : Ok m) (hL : Live m) : θ_run defs (onTc (τ := τ) (main (F := F))) (s₀ m ρ) (Pipeline.FramePost (Pipeline.pin pcfgs fun _ => adm m hO) (dats m hO hL) 0 (V m)) :=
  (θ_run defs _ _).mono (fun _ h => h.1) (run_main_quiescent m ρ hO hL)

theorem unchanged (hO : Ok m) (hL : Live m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ hO (dats m hO hL) (A_eq m hO hL) (run_main m ρ hO hL)

theorem frame (hO : Ok m) (hL : Live m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ hO hL) ((θ_run defs _ _).mono (fun _ h => h.2) (run_main_quiescent m ρ hO hL))

end Cert.Kernel6Ideal.Ffn

end
-- ==== Proof.SecSpec.lean ====
/- The second layer's experts: what the expert kernel and its reference both compute, and the lemmas on counts of tiles. -/
module

public import proofs.«01_k».proof.Proof.Spec
public import Idealize.ShloMosaic.Lib.Pointwise

@[expose] public section

set_option maxRecDepth 16384

noncomputable section

namespace Cert.SecSpec

open Idealize.ShloMosaic Cert.Spec

/-- How many of four bits are one. -/
def count (b : Fin 4 → BitVec 1) : BitVec 32 := (b 0).setWidth 32 + (b 1).setWidth 32 + (b 2).setWidth 32 + (b 3).setWidth 32

theorem count_le (b : Fin 4 → BitVec 1) : (count b).toNat ≤ 4 := by
  unfold count
  generalize b 0 = x; generalize b 1 = y; generalize b 2 = z; generalize b 3 = w
  revert x y z w; decide

theorem count_lt (b : Fin 4 → BitVec 1) (h : b 3 = 0#1) : (count b).toNat < 4 := by
  unfold count
  rw [h]
  generalize b 0 = x; generalize b 1 = y; generalize b 2 = z
  revert x y z; decide

/-- A sum of words over an axis of four. -/
theorem reduce4 {n : ℕ} (x : IVec ⟨2, ![n, 4]⟩ 32) (h' : (⟨2, ![n, 4]⟩ : Shape).ReducesTo [1] ⟨1, ![n]⟩) (hu : 0 < (⟨0, ![]⟩ : Shape).numel) (i : Fin n) :
    Host.reduce IntOp.addi x (constantI ⟨0, ![]⟩ 32 0#32) h' hu (ix1 i) = x (ix2 i 0) + x (ix2 i 1) + x (ix2 i 2) + x (ix2 i 3) := by
  rw [Host.reduce_eq_fold, Shape.ReducesTo.fold_fiber_r2_a1]
  have e : (Finset.univ : Finset (Fin 4)) = {0, 1, 2, 3} := by decide
  rw [e, Finset.fold_insert (by decide), Finset.fold_insert (by decide), Finset.fold_insert (by decide), Finset.fold_singleton]
  show x _ + (x _ + (x _ + (x _ + 0#32))) = _
  rw [BitVec.add_zero, ← BitVec.add_assoc, ← BitVec.add_assoc]
  rfl

/-- Whether tile `t` is in use, of the sums of the counts. -/
def used (s : Fin 4 → BitVec 32) (t : ℕ) : Prop := (BitVec.ofNat 32 t).slt (s 3) = true
instance (s : Fin 4 → BitVec 32) (t : ℕ) : Decidable (used s t) := inferInstanceAs (Decidable (_ = _))

/-- The groups that lie before tile `t`. -/
def past (s : Fin 4 → BitVec 32) (t : ℕ) (k : Fin 4) : BitVec 1 := BitVec.ofBool ((s k).sle (BitVec.ofNat 32 t))

/-- The group of tile `t`. -/
def grp (s : Fin 4 → BitVec 32) (t : ℕ) : BitVec 32 := count (past s t)

/-- A tile in use has one of the four groups. -/
theorem grp_lt (s : Fin 4 → BitVec 32) (t : ℕ) (h : used s t) : (grp s t).toNat < 4 := by
  refine count_lt _ ?_
  unfold past used at *
  rw [show (s 3).sle (BitVec.ofNat 32 t) = false from by
    simp only [BitVec.sle, BitVec.slt, decide_eq_true_eq, decide_eq_false_iff_not] at h ⊢; omega]
  rfl

abbrev Hs : Shape := ⟨2, ![38912, 1024]⟩
abbrev Gs : Shape := ⟨2, ![38912, 4]⟩
abbrev Ws : Shape := ⟨4, ![2, 16, 1024, 512]⟩
abbrev Ds : Shape := ⟨4, ![2, 16, 512, 1024]⟩

variable (h : FVec Ideal Hs .f32) (g : FVec Ideal Gs .f32) (wg wu : FVec Ideal Ws .f32) (wd : FVec Ideal Ds .f32)

/-- A row times a column of an expert's weights. -/
def proj (w : FVec Ideal Ws .f32) (e : Fin 16) (r : Fin 38912) (f : Fin 512) : EReal := ∑ d : Fin 1024, h (ix2 r d) * w (ix4 1 e d f)

/-- `x` times the logistic function of `x`. -/
def silu (x : EReal) : EReal := x * Ideal.div 1 (1 + Ideal.exp (-x))

/-- One expert's output. -/
def expert (e : Fin 16) (r : Fin 38912) (d : Fin 1024) : EReal :=
  ∑ f : Fin 512, silu (proj h wg e r f) * proj h wu e r f * wd (ix4 1 e f d)

/-- Expert `j` of group `n`. -/
def exOf (n : ℕ) (j : Fin 4) : Fin 16 := ⟨(4 * n + j.val) % 16, Nat.mod_lt _ (by decide)⟩

/-- The layer's output: the gated sum of the experts of the row's group where the row's tile is in use, and zero elsewhere. -/
def result (s : Fin 4 → BitVec 32) (r : Fin 38912) (d : Fin 1024) : EReal :=
  if used s (r.val / 512) then ∑ j : Fin 4, g (ix2 r j) * expert h wg wu wd (exOf (grp s (r.val / 512)).toNat j) r d else 0

/-- The logistic function by the hyperbolic tangent. -/
theorem silu_tanh (x : ℝ) : (x : EReal) * (((1 / 2 : ℝ) : EReal) + ((1 / 2 : ℝ) : EReal) * Ideal.tanh (((1 / 2 : ℝ) : EReal) * (x : EReal))) = silu (x : EReal) := by
  unfold silu
  have e1 : Ideal.tanh (((1 / 2 : ℝ) : EReal) * (x : EReal)) = ((Real.tanh (1 / 2 * x) : ℝ) : EReal) := by rw [← EReal.coe_mul]; rfl
  have e2 : (1 : EReal) + Ideal.exp (-(x : EReal)) = ((1 + Real.exp (-x) : ℝ) : EReal) := by
    rw [← EReal.coe_neg, EReal.coe_add]; rfl
  rw [e1, e2, div_real _ _ (by positivity), one_mul, ← EReal.coe_mul, ← EReal.coe_add, ← EReal.coe_mul, ← EReal.coe_mul]
  congr 2
  have hx : Real.exp (-x) = Real.exp (-(1 / 2 * x)) * Real.exp (-(1 / 2 * x)) := by rw [← Real.exp_add]; congr 1; ring
  have h1 : Real.exp (1 / 2 * x) * Real.exp (-(1 / 2 * x)) = 1 := by rw [← Real.exp_add]; simp
  have p1 := Real.exp_pos (1 / 2 * x)
  have p2 := Real.exp_pos (-(1 / 2 * x))
  rw [Real.tanh_eq_sinh_div_cosh, Real.sinh_eq, Real.cosh_eq, hx]
  generalize Real.exp (1 / 2 * x) = a at *
  generalize Real.exp (-(1 / 2 * x)) = b at *
  have : a = b⁻¹ := eq_inv_of_mul_eq_one_left h1
  subst this
  field_simp
  ring

end Cert.SecSpec

end
-- ==== Proof.SecTab.lean ====
/- The second layer's experts: the expert kernel's two tables, of the counts of tiles: which tiles are in use, and the group each belongs to. -/
module

public import proofs.«01_k».proof.Proof.SecFrame
public import proofs.«01_k».proof.Proof.SecSpec

@[expose] public section

set_option maxRecDepth 16384

noncomputable section

namespace Cert.Kernel6Ideal.Ffn

open Cert.Kernel6Ideal.Gen
open Idealize.ShloMosaic Idealize.ShloMosaic.TcCoe Idealize.ShloMosaic.Tactic
open Idealize.SL.Sem
open Idealize.ShloMosaic.Pipeline (Dat Cfg Window BodyObligation cellOf)

variable {F : FTy → Type} [FloatOps F]

/-- The sums of the counts up to each group. -/
def cumOf (x : IVec S4 32) : IVec S4 32 :=
  Host.reduceWindow IntOp.addi ![4] ![1] ![3] ![0] x (broadcastInDim S_ ![] bcast_S_S_ (constantI S_ 32 0#32)) reduceWindows_S4_S4_w4s1p3_0 h_S_

/-- The number of tiles in use, of those sums. -/
def total (s : IVec S4 32) : IVec S_ 32 := shapeCast S_ (extractStridedSlice S1 ![3] s slices_S4_S1_3) shapeCasts_S1_S_

/-- Whether a tile is in use. -/
def validBit (s : IVec S4 32) : IVec S76 1 := cmpi .slt (iotaInDim S76 32 0) (broadcastInDim S76 ![] bcast_S_S76 (total s))

/-- For each tile (one past the last in use counted as the last), which groups lie before it. -/
def pastBit (s : IVec S4 32) : IVec S76x4 1 :=
  cmpi .sge (broadcastInDim S76x4 ![0, 1] bcast_S76x1_S76x4_0_1 (broadcastInDim S76x1 ![0] bcast_S76_S76x1_0
      (minsi (iotaInDim S76 32 0) (broadcastInDim S76 ![] bcast_S_S76 (subi (total s) (constantI S_ 32 1#32))))))
    (broadcastInDim S76x4 ![0, 1] bcast_S1x4_S76x4_0_1 (broadcastInDim S1x4 ![1] bcast_S4_S1x4_1 s))

/-- The group of each tile. -/
def groupOf (s : IVec S4 32) : IVec S76 32 :=
  Host.reduce IntOp.addi (extui 32 (pastBit s) natLt_1_32) (constantI S_ 32 0#32) reducesTo_S76x4_S76_d1 h_S_

variable (W : Valuation τ sig (Elt F))

theorem t0_v0 : StableHlo.after hostOps0 W (Proc.devRef .tc main_v0) = cumOf (W (Proc.devRef .tc main_arg0)) := by
  simp only [hostOps0, StableHlo.TRef.nullary, StableHlo.TRef.binary, StableHlo.TRef.unary, StableHlo.TRef.toBuf, StableHlo.TRef.ofBuf, cast_eq]
  after_results_simp <;> rfl

theorem t1_v33 : StableHlo.after hostOps0_1 W (Proc.devRef .tc main_v33) = extui 32 (validBit (W (Proc.devRef .tc main_v0))) natLt_1_32 := by
  simp only [hostOps0_1]
  after_results_simp <;> rfl
theorem t1_v17 : StableHlo.after hostOps0_1 W (Proc.devRef .tc main_v17) = groupOf (W (Proc.devRef .tc main_v0)) := by
  simp only [hostOps0_1]
  after_results_simp <;> rfl

variable (m : (ℓ : Loc nD τ sig) → Buf (Elt F) ℓ)

/-- The sums of the counts the program is given. -/
abbrev cums (c : Dev nD) : IVec S4 32 := cumOf (m (c, Proc.devRef .tc main_arg0))

theorem V_split (c : Dev nD) (b : Ref sig .tc) :
    V m c b = StableHlo.after hostOps0_1 (StableHlo.after hostOps0 (fun b => m (c, b))) (Proc.devRef .tc b) := by
  unfold V
  rw [show (List.flatten [hostOps0, hostOps0_1] : List (HloOp τ sig (Elt F))) = hostOps0 ++ hostOps0_1 from by simp, StableHlo.after_append]

theorem tbl_one : (tbl m 1 : IVec S76 32) = extui 32 (validBit (cums m 0)) natLt_1_32 := by
  refine (V_split m 0 main_v33).trans ((t1_v33 _).trans ?_)
  rw [t0_v0]
theorem tbl_zero : (tbl m 0 : IVec S76 32) = groupOf (cums m 0) := by
  refine (V_split m 0 main_v17).trans ((t1_v17 _).trans ?_)
  rw [t0_v0]

/-- The sums, by group. -/
abbrev sumsOf (s : IVec S4 32) : Fin 4 → BitVec 32 := fun k => s (ix1 k)

theorem total_at (s : IVec S4 32) (j : S_.Idx) : total s j = s (ix1 3) := by
  unfold total; pointwise

theorem validBit_at (s : IVec S4 32) (i : Fin 76) : validBit s (ix1 i) = BitVec.ofBool ((BitVec.ofNat 32 i.val).slt (s (ix1 3))) := by
  unfold validBit
  pointwise [total_at]
  rfl

theorem pastBit_at (s : IVec S4 32) (i : Fin 76) (k : Fin 4) (hu : Cert.SecSpec.used (sumsOf s) i.val) :
    pastBit s (ix2 i k) = Cert.SecSpec.past (sumsOf s) i.val k := by
  unfold pastBit
  pointwise [total_at]
  have h3 : (BitVec.ofNat 32 i.val).slt (s (ix1 3)) = true := hu
  have hi := i.isLt
  have hm : IntOp.minsi (BitVec.ofNat 32 i.val) (IntOp.subi (s (ix1 3)) 1#32) = BitVec.ofNat 32 i.val := by
    unfold IntOp.minsi IntOp.subi
    generalize s (ix1 3) = y at h3
    have ht : (BitVec.ofNat 32 i.val).toInt = (i.val : ℤ) := by
      have hn : ∀ n : ℕ, n < 76 → (BitVec.ofNat 32 n).toInt = (n : ℤ) := by decide +kernel
      exact hn _ hi
    have hy : (y - 1#32).toInt = y.toInt - 1 := by
      have h1 := BitVec.toInt_lt (x := y)
      simp only [BitVec.slt, decide_eq_true_eq, ht] at h3
      rw [BitVec.toInt_sub, BitVec.toInt_one (by decide), Int.bmod_def]
      norm_num at h1 ⊢
      omega
    simp only [BitVec.slt, BitVec.sle, decide_eq_true_eq, ht, hy] at h3 ⊢
    split
    · rfl
    · apply BitVec.eq_of_toInt_eq
      rw [ht, hy]; omega
  rw [hm]
  rfl

/-- The group of a tile is a sum of four bits. -/
theorem groupOf_count (s : IVec S4 32) (i : Fin 76) : groupOf s (ix1 i) = Cert.SecSpec.count fun k => pastBit s (ix2 i k) := by
  unfold groupOf
  rw [Cert.SecSpec.reduce4]
  rfl

theorem groupOf_at (s : IVec S4 32) (i : Fin 76) (hu : Cert.SecSpec.used (sumsOf s) i.val) : groupOf s (ix1 i) = Cert.SecSpec.grp (sumsOf s) i.val := by
  rw [groupOf_count]
  unfold Cert.SecSpec.grp
  congr 1; funext k; exact pastBit_at s i k hu

theorem groupOf_le (s : IVec S4 32) (i : Fin 76) : ((groupOf s (ix1 i)) : BitVec 32).toNat ≤ 4 := by
  rw [groupOf_count]; exact Cert.SecSpec.count_le _

/-- The sum of the counts is not the least word, so one less than it doesn't wrap. -/
def Good (s : IVec S4 32) : Prop := s (ix1 3) ≠ 2147483648#32

/-- No tile lies past all groups. -/
theorem last_bit (s : IVec S4 32) (hs : Good s) (i : Fin 76) : pastBit s (ix2 i 3) = 0#1 := by
  unfold pastBit
  pointwise [total_at]
  unfold Good at hs
  generalize s (ix1 3) = y at hs
  show BitVec.ofBool ((y).sle (IntOp.minsi (BitVec.ofNat 32 i.val) (IntOp.subi y 1#32))) = 0#1
  have h1 := BitVec.toInt_lt (x := y)
  have h2 := BitVec.le_toInt (x := y)
  have h3 : y.toInt ≠ -2147483648 := fun h => hs (BitVec.eq_of_toInt_eq (h.trans (by decide)))
  have hy : (y - 1#32).toInt = y.toInt - 1 := by
    rw [BitVec.toInt_sub, BitVec.toInt_one (by decide), Int.bmod_def]
    norm_num at h1 h2 ⊢
    omega
  have hlt : (y).sle (IntOp.minsi (BitVec.ofNat 32 i.val) (IntOp.subi y 1#32)) = false := by
    unfold IntOp.minsi IntOp.subi
    simp only [BitVec.slt, BitVec.sle, decide_eq_false_iff_not, decide_eq_true_eq, hy]
    split
    · omega
    · rw [hy]; omega
  rw [hlt]; rfl

theorem groupOf_lt (s : IVec S4 32) (hs : Good s) (i : Fin 76) : ((groupOf s (ix1 i)) : BitVec 32).toNat < 4 := by
  rw [groupOf_count]
  exact Cert.SecSpec.count_lt _ (last_bit s hs i)

/-- A grid point's coordinate. -/
abbrev ptOf (i : grid0.Coords) : Fin 76 := ⟨(i 0).val, (i 0).isLt⟩

theorem off1 (i : grid0.Coords) : k0_off1 i 0 = (i 0).val := by
  unfold k0_off1
  have h := (ptOf i).isLt
  show BitVec.toNat (Scalar.indexCast (BitVec.ofNat 32 (i 0).val)) = (i 0).val
  generalize hn : (i 0).val = n
  have hn' : n < 76 := by rw [← hn]; exact h
  clear h hn
  revert hn' n
  decide +kernel

theorem word_eq (c : Dev nD) (i : grid0.Coords) (x : TbBuf0 (F := F) c tbM0_1) : word c i x = (x : IVec S76 32) (ix1 (ptOf i)) := by
  show (x : IVec S76 32) _ = _
  congr 1
  funext a
  match a with
  | ⟨0, _⟩ =>
    apply Fin.ext
    show k0_off1 i 0 + 0 * 1 = (i 0).val
    rw [off1, Nat.zero_mul, Nat.add_zero]

theorem live : Live m := fun c i => by
  have h : word c i (tbl m 1) = (validBit (cums m 0) (ix1 (ptOf i))).setWidth 32 :=
    (word_eq c i (tbl m 1)).trans (congrFun (tbl_one m) (ix1 (ptOf i)))
  rw [h]
  have hb : ∀ b : BitVec 1, b.setWidth 32 = 0#32 ∨ b.setWidth 32 = 1#32 := by decide
  exact hb _

/-- The block row a weight's window takes at a grid point: the group's word. -/
theorem at0 (pf : pre0.Contents (Elt F)) (i : grid0.Coords) :
    pf.at 0 (Rect.unit (s := S76) (k0_off1 i) S1.size (k0_off1_inb i)) numel1_S1 = (pf 0 : IVec S76 32) (ix1 (ptOf i)) := by
  show (pf 0 : IVec S76 32) _ = _
  congr 1
  funext a
  match a with
  | ⟨0, _⟩ =>
    apply Fin.ext
    show k0_off1 i 0 + 0 * 1 = (i 0).val
    rw [off1, Nat.zero_mul, Nat.add_zero]

theorem tr1 (pf : pre0.Contents (Elt F)) (i : grid0.Coords) (hx4 : ((pf 0 : IVec S76 32) (ix1 (ptOf i)) : BitVec 32).toNat < 4) :
    cc0_transform_1 k0_off1_inb numel1_S1 pf i = ![((pf 0 : IVec S76 32) (ix1 (ptOf i)) : BitVec 32).toNat + 4, 0, 0] := by
  have h : cc0_transform_1 k0_off1_inb numel1_S1 pf i
      = ![(Scalar.addi 4#32 (pf.at 0 (Rect.unit (s := S76) (k0_off1 i) S1.size (k0_off1_inb i)) numel1_S1)).toNat, 0, 0] := rfl
  rw [h, at0]
  generalize hx : (pf 0 : IVec S76 32) (ix1 (ptOf i)) = x at hx4
  have h0 : ∀ x : BitVec 32, x.toNat < 4 → (Scalar.addi 4#32 x).toNat = x.toNat + 4 := fun x hx => by
    show (4#32 + x).toNat = _
    rw [BitVec.toNat_add]
    show (4 + x.toNat) % 4294967296 = _
    omega
  exact congrArg (fun y : ℕ => ![y, 0, 0]) (h0 x hx4)

theorem tr2 (pf : pre0.Contents (Elt F)) (i : grid0.Coords) (hx4 : ((pf 0 : IVec S76 32) (ix1 (ptOf i)) : BitVec 32).toNat < 4) :
    cc0_transform_2 k0_off1_inb numel1_S1 pf i = ![((pf 0 : IVec S76 32) (ix1 (ptOf i)) : BitVec 32).toNat + 4, 0, 0] := tr1 pf i hx4

theorem tr3 (pf : pre0.Contents (Elt F)) (i : grid0.Coords) (hx4 : ((pf 0 : IVec S76 32) (ix1 (ptOf i)) : BitVec 32).toNat < 4) :
    cc0_transform_3 k0_off1_inb numel1_S1 pf i = ![((pf 0 : IVec S76 32) (ix1 (ptOf i)) : BitVec 32).toNat + 4, 0, 0] := tr1 pf i hx4

variable (hp : Good (cums m 0))

include hp in
/-- Every group's word is less than four. -/
theorem tbl_lt (i : Fin 76) : ((tbl m 0 : IVec S76 32) (ix1 i) : BitVec 32).toNat < 4 := by
  have h := congrFun (tbl_zero m) (ix1 i)
  exact (congrArg BitVec.toNat h).le.trans_lt (groupOf_lt _ hp i)

theorem words_rows {s : Shape} (size ix : Fin s.rank → ℕ) (hix : ∀ a, (ix a + 1) * size a ≤ s.size a) (p : ℕ) (h2 : 2 ≤ s.rank)
    (h0 : ix (s.rowAx h2) = 0) (hs : size (s.rowAx h2) = s.size (s.rowAx h2)) : (Rect.block size ix hix).WholeWords p :=
  .inr ⟨h2, rfl, by show ix (s.rowAx h2) * _ = 0; rw [h0, Nat.zero_mul], hs⟩

include hp in
theorem ok : Ok m := by
  have hle := fun i : grid0.Coords => tbl_lt m hp (ptOf i)
  refine ⟨fun i => ?_, fun i => ?_, fun i => ?_⟩
  · refine ⟨fun a => ?_, .inr (words_rows _ _ _ _ (by decide) ?_ (by decide))⟩
    · rw [tr1 _ _ (hle i)]
      have := hle i
      fin_cases a
      · show (((tbl m 0 : IVec S76 32) (ix1 (ptOf i)) : BitVec 32).toNat + 4 + 1) * 4 ≤ 32; omega
      · show (0 + 1) * 1024 ≤ 1024; omega
      · show (0 + 1) * 512 ≤ 512; omega
    · rw [tr1 _ _ (hle i)]; rfl
  · refine ⟨fun a => ?_, .inr (words_rows _ _ _ _ (by decide) ?_ (by decide))⟩
    · rw [tr2 _ _ (hle i)]
      have := hle i
      fin_cases a
      · show (((tbl m 0 : IVec S76 32) (ix1 (ptOf i)) : BitVec 32).toNat + 4 + 1) * 4 ≤ 32; omega
      · show (0 + 1) * 1024 ≤ 1024; omega
      · show (0 + 1) * 512 ≤ 512; omega
    · rw [tr2 _ _ (hle i)]; rfl
  · refine ⟨fun a => ?_, .inr (words_rows _ _ _ _ (by decide) ?_ (by decide))⟩
    · rw [tr3 _ _ (hle i)]
      have := hle i
      fin_cases a
      · show (((tbl m 0 : IVec S76 32) (ix1 (ptOf i)) : BitVec 32).toNat + 4 + 1) * 4 ≤ 32; omega
      · show (0 + 1) * 512 ≤ 512; omega
      · show (0 + 1) * 1024 ≤ 1024; omega
    · rw [tr3 _ _ (hle i)]; rfl

end Cert.Kernel6Ideal.Ffn

end
-- ==== Proof.SecHost.lean ====
/- The second layer's experts: what the expert kernel's windows hold, of the arguments. -/
module

public import proofs.«01_k».proof.Proof.SecTab

@[expose] public section

set_option maxRecDepth 16384

noncomputable section

namespace Cert.Kernel6Ideal.Ffn

open Cert.Kernel6Ideal.Gen
open Idealize.ShloMosaic Idealize.ShloMosaic.TcCoe Idealize.ShloMosaic.Tactic
open Idealize.SL.Sem

variable {F : FTy → Type} [FloatOps F]

/-- The experts' weights as the windows read them. -/
def castW (x : FVec F S2x16x1024x512 .f32) : FVec F S32x1024x512 .bf16 := truncf .bf16 (shapeCast S32x1024x512 x shapeCasts_S2x16x1024x512_S32x1024x512) bitsLt_bf16_f32
def castD (x : FVec F S2x16x512x1024 .f32) : FVec F S32x512x1024 .bf16 := truncf .bf16 (shapeCast S32x512x1024 x shapeCasts_S2x16x512x1024_S32x512x1024) bitsLt_bf16_f32

/-- The gates, four columns of zeros behind them. -/
def gates8 (g : FVec F S38912x4 .f32) : FVec F S38912x8 .f32 :=
  concatenate S38912x8 1 [⟨S38912x4, g⟩, ⟨S38912x4, (broadcastInDim S38912x4 ![] bcast_S_S38912x4 (constant S_ .f32 0x00000000#32) : FVec F S38912x4 .f32)⟩] concatenates_S38912x4_S38912x4_S38912x8_d1
/-- A rounding to the narrower format. -/
def narrow (x : FVec F S38912x8 .f32) : FVec F S38912x8 .f32 := extf .f32 (truncf .bf16 x bitsLt_bf16_f32) bitsLt_bf16_f32
/-- The gates in three pieces, and zeros behind them. -/
def gates128 (x : FVec F S38912x8 .f32) : FVec F S38912x128 .f32 :=
  concatenate S38912x128 1 [⟨S38912x8, narrow x⟩, ⟨S38912x8, narrow (subf x (narrow x))⟩, ⟨S38912x8, narrow (subf (subf x (narrow x)) (narrow (subf x (narrow x))))⟩,
    ⟨S38912x104, (broadcastInDim S38912x104 ![] bcast_S_S38912x104 (constant S_ .f32 0x00000000#32) : FVec F S38912x104 .f32)⟩] concatenates_S38912x8_S38912x8_S38912x8_S38912x104_S38912x128_d1
/-- The tokens and the gates side by side. -/
def rowsOf (h : FVec F S38912x1024 .f32) (g : FVec F S38912x4 .f32) : FVec F S38912x1152 .bf16 :=
  concatenate S38912x1152 1 [⟨S38912x1024, truncf .bf16 h bitsLt_bf16_f32⟩, ⟨S38912x128, truncf .bf16 (gates128 (gates8 g)) bitsLt_bf16_f32⟩] concatenates_S38912x1024_S38912x128_S38912x1152_d1

theorem concat4 {a b c a' b' c' : FVec F S38912x8 .f32} {d d' : FVec F S38912x104 .f32} (ha : a = a') (hb : b = b') (hc : c = c') (hd : d = d') :
    concatenate S38912x128 1 [⟨S38912x8, a⟩, ⟨S38912x8, b⟩, ⟨S38912x8, c⟩, ⟨S38912x104, d⟩] concatenates_S38912x8_S38912x8_S38912x8_S38912x104_S38912x128_d1
      = concatenate S38912x128 1 [⟨S38912x8, a'⟩, ⟨S38912x8, b'⟩, ⟨S38912x8, c'⟩, ⟨S38912x104, d'⟩] concatenates_S38912x8_S38912x8_S38912x8_S38912x104_S38912x128_d1 := by
  rw [ha, hb, hc, hd]

variable (W : Valuation τ sig (Elt F))

theorem h1_v35 : StableHlo.after hostOps0_1 W (Proc.devRef .tc main_v35) = castW (W (Proc.devRef .tc main_arg3)) := by
  simp only [hostOps0_1]
  after_results_simp
  rfl
theorem h1_v37 : StableHlo.after hostOps0_1 W (Proc.devRef .tc main_v37) = castW (W (Proc.devRef .tc main_arg4)) := by
  simp only [hostOps0_1]
  after_results_simp
  rfl
theorem h1_v39 : StableHlo.after hostOps0_1 W (Proc.devRef .tc main_v39) = castD (W (Proc.devRef .tc main_arg5)) := by
  simp only [hostOps0_1]
  after_results_simp
  rfl
theorem h1_v19 : StableHlo.after hostOps0_1 W (Proc.devRef .tc main_v19) = gates8 (W (Proc.devRef .tc main_arg2)) := by
  simp only [hostOps0_1]
  after_results_simp
  refine congrArg₂ (fun a b => concatenate S38912x8 1 [⟨S38912x4, a⟩, ⟨S38912x4, b⟩] concatenates_S38912x4_S38912x4_S38912x8_d1) ?_ ?_
  all_goals after_results_simp
  all_goals rfl
theorem h1_v21 : StableHlo.after hostOps0_1 W (Proc.devRef .tc main_v21) = narrow (gates8 (W (Proc.devRef .tc main_arg2))) := by
  rw [← h1_v19]
  simp only [hostOps0_1]
  after_results_simp
  rfl
theorem h1_v24 : StableHlo.after hostOps0_1 W (Proc.devRef .tc main_v24) = narrow (subf (gates8 (W (Proc.devRef .tc main_arg2))) (narrow (gates8 (W (Proc.devRef .tc main_arg2))))) := by
  rw [← h1_v19]
  simp only [hostOps0_1]
  after_results_simp
  rfl
theorem h1_v32 : StableHlo.after hostOps0_1 W (Proc.devRef .tc main_v32) = rowsOf (W (Proc.devRef .tc main_arg1)) (W (Proc.devRef .tc main_arg2)) := by
  simp only [hostOps0_1]
  after_results_simp
  refine congrArg₂ (fun a b => concatenate S38912x1152 1 [⟨S38912x1024, a⟩, ⟨S38912x128, b⟩] concatenates_S38912x1024_S38912x128_S38912x1152_d1) ?_ ?_
  · after_results_simp <;> rfl
  · after_results_simp
    refine congrArg (fun a => truncf .bf16 a bitsLt_bf16_f32) ?_
    unfold gates128
    refine concat4 ?_ ?_ ?_ ?_
    · show (_ : Valuation τ sig (Elt F)) (Proc.devRef .tc main_v21) = _
      rw [← h1_v19]
      simp only [hostOps0_1]
      after_results_simp <;> rfl
    · show (_ : Valuation τ sig (Elt F)) (Proc.devRef .tc main_v24) = _
      rw [← h1_v19]
      simp only [hostOps0_1]
      after_results_simp <;> rfl
    · show (_ : Valuation τ sig (Elt F)) (Proc.devRef .tc main_v27) = _
      rw [← h1_v19]
      simp only [hostOps0_1]
      after_results_simp <;> rfl
    · show (_ : Valuation τ sig (Elt F)) (Proc.devRef .tc main_v28) = _
      after_results_simp <;> rfl

/-! ## Over the extended reals -/

theorem castW_at (x : FVec Ideal S2x16x1024x512 .f32) (e : Fin 16) (d : Fin 1024) (f : Fin 512) :
    castW x (ix3 (⟨16 + e.val, by omega⟩ : Fin 32) d f) = x (ix4 (1 : Fin 2) e d f) := by
  unfold castW
  pointwise
  exact congrArg₂ (fun a b => x (ix4 a b d f)) (Fin.ext (by show (16 + e.val) / 16 = 1; omega)) rfl
theorem castD_at (x : FVec Ideal S2x16x512x1024 .f32) (e : Fin 16) (f : Fin 512) (d : Fin 1024) :
    castD x (ix3 (⟨16 + e.val, by omega⟩ : Fin 32) f d) = x (ix4 (1 : Fin 2) e f d) := by
  unfold castD
  pointwise
  exact congrArg₂ (fun a b => x (ix4 a b f d)) (Fin.ext (by show (16 + e.val) / 16 = 1; omega)) rfl
theorem rowsOf_h (h : FVec Ideal S38912x1024 .f32) (g : FVec Ideal S38912x4 .f32) (r : Fin 38912) (d : Fin 1024) :
    rowsOf h g (ix2 r (⟨d.val, by omega⟩ : Fin 1152)) = h (ix2 r d) := by
  unfold rowsOf
  pointwise
theorem gates8_at (g : FVec Ideal S38912x4 .f32) (r : Fin 38912) (j : Fin 4) :
    gates8 g (ix2 r (⟨j.val, by omega⟩ : Fin 8)) = g (ix2 r j) := by
  unfold gates8
  pointwise
theorem gates128_0 (x : FVec Ideal S38912x8 .f32) (r : Fin 38912) (j : Fin 8) :
    gates128 x (ix2 r (⟨j.val, by omega⟩ : Fin 128)) = x (ix2 r j) := by
  unfold gates128 narrow
  pointwise
theorem gates128_1 (x : FVec Ideal S38912x8 .f32) (r : Fin 38912) (j : Fin 8) :
    gates128 x (ix2 r (⟨8 + j.val, by omega⟩ : Fin 128)) = x (ix2 r j) - x (ix2 r j) := by
  unfold gates128 narrow
  pointwise
theorem gates128_2 (x : FVec Ideal S38912x8 .f32) (r : Fin 38912) (j : Fin 8) :
    gates128 x (ix2 r (⟨16 + j.val, by omega⟩ : Fin 128)) = (x (ix2 r j) - x (ix2 r j)) - (x (ix2 r j) - x (ix2 r j)) := by
  unfold gates128 narrow
  pointwise
  rw [dif_neg (by omega), dif_neg (by omega), dif_pos (show 16 + j.val - 8 - 8 < 8 by omega)]
  rw [show (⟨16 + j.val - 8 - 8, by omega⟩ : Fin 8) = j from Fin.ext (by show 16 + j.val - 8 - 8 = j.val; omega)]
theorem rowsOf_g (h : FVec Ideal S38912x1024 .f32) (g : FVec Ideal S38912x4 .f32) (r : Fin 38912) (k : Fin 128) :
    rowsOf h g (ix2 r (⟨1024 + k.val, by omega⟩ : Fin 1152)) = gates128 (gates8 g) (ix2 r k) := by
  unfold rowsOf
  pointwise

variable (m : (x : Loc nD τ sig) → Buf (Elt Ideal) x) (c : Dev nD)

theorem arg_kept (b : Ref sig .tc) (h : b = main_arg1 ∨ b = main_arg2 ∨ b = main_arg3 ∨ b = main_arg4 ∨ b = main_arg5) :
    StableHlo.after hostOps0 (fun b => m (c, b)) (Proc.devRef .tc b) = m (c, Proc.devRef .tc b) := by
  rcases h with rfl | rfl | rfl | rfl | rfl <;>
    simp only [hostOps0, StableHlo.TRef.nullary, StableHlo.TRef.binary, StableHlo.TRef.unary, StableHlo.TRef.ternary, StableHlo.TRef.toBuf, StableHlo.TRef.ofBuf, cast_eq] <;>
    after_results_simp

theorem V_v35 : V m c main_v35 = castW (F := Ideal) (m ((c.tc : Thread nD τ).loc main_arg3)) := (V_split m c main_v35).trans ((h1_v35 _).trans (congrArg castW (arg_kept m c main_arg3 (by simp))))
theorem V_v37 : V m c main_v37 = castW (F := Ideal) (m ((c.tc : Thread nD τ).loc main_arg4)) := (V_split m c main_v37).trans ((h1_v37 _).trans (congrArg castW (arg_kept m c main_arg4 (by simp))))
theorem V_v39 : V m c main_v39 = castD (F := Ideal) (m ((c.tc : Thread nD τ).loc main_arg5)) := (V_split m c main_v39).trans ((h1_v39 _).trans (congrArg castD (arg_kept m c main_arg5 (by simp))))
theorem V_v32 : V m c main_v32 = rowsOf (F := Ideal) (m ((c.tc : Thread nD τ).loc main_arg1)) (m ((c.tc : Thread nD τ).loc main_arg2)) :=
  (V_split m c main_v32).trans ((h1_v32 _).trans (congrArg₂ rowsOf (arg_kept m c main_arg1 (by simp)) (arg_kept m c main_arg2 (by simp))))

end Cert.Kernel6Ideal.Ffn

end
-- ==== Proof.SecBody.lean ====
/- The second layer's experts: what one point of the expert kernel leaves in its output's buffer, of the blocks it reads. -/
module

public import proofs.«01_k».proof.Proof.SecFrame
public import proofs.«01_k».proof.Proof.SecSpec
public import Idealize.ShloMosaic.Lib.Pipeline.ValueKit.Tiles

@[expose] public section

set_option maxRecDepth 16384

noncomputable section

namespace Cert.Kernel6Ideal.Ffn

open Cert.Kernel6Ideal.Gen
open Idealize.ShloMosaic Idealize.ShloMosaic.TcCoe Idealize.ShloMosaic.Tactic

variable {F : FTy → Type} [FloatOps F]

/-- The token's columns of a block. -/
def hPart (x : Vec F S512x1152 .bf16) : Vec F S512x1024 .bf16 := fun j =>
  x (ix2 ⟨(j 0).val, (j 0).isLt⟩ ⟨(j 1).val, lt_trans (j 1).isLt (by decide)⟩)
/-- The gates' columns of a block. -/
def gPart (x : Vec F S512x1152 .bf16) : Vec F S512x128 .bf16 := fun j =>
  x (ix2 ⟨(j 0).val, (j 0).isLt⟩ ⟨1024 + (j 1).val, Nat.add_lt_add_left (j 1).isLt 1024⟩)
/-- One expert's weights of a block of four. -/
def wPart (x : Vec F S4x1024x512 .bf16) (e : Fin 4) : Vec F S1x1024x512 .bf16 := fun j =>
  x (ix3 e ⟨(j 1).val, (j 1).isLt⟩ ⟨(j 2).val, (j 2).isLt⟩)

/-- The stored block, of the loads. -/
def fullF (h : Vec F S512x1024 .bf16) (g : Vec F S512x128 .bf16) (a0 u0 a1 u1 a2 u2 a3 u3 : Vec F S1x1024x512 .bf16) (d : Vec F S4x512x1024 .bf16) : FVec F S512x1024 .bf16 :=
  k0_pay2 (k0_pay3 h) (k0_pay4 g) (k0_pay5 h g a0 u0) (k0_pay9 (k0_pay4 g) (k0_pay6 h a1) (k0_pay7 h u1) (k0_pay8 g))
    (k0_pay10 (k0_pay3 h) (k0_pay4 g) a2 u2) (k0_pay11 (k0_pay3 h) a3) u3 d

/-- The stored block, of the windows' blocks. -/
def fullOut (x0 : Vec F S512x1152 .bf16) (x1 x2 : Vec F S4x1024x512 .bf16) (x3 : Vec F S4x512x1024 .bf16) : FVec F S512x1024 .bf16 :=
  fullF (hPart x0) (gPart x0) (wPart x1 0) (wPart x2 0) (wPart x1 1) (wPart x2 1) (wPart x1 2) (wPart x2 2) (wPart x1 3) (wPart x2 3) x3

theorem ld_h (arg : Memref sig .tc .vmem S512x1152 .bf16) (harg : arg.IsWhole) (x : Vec F S512x1152 .bf16) (inb) :
    View.readAt (Elt F) arg.view (Rect.unit (s := S512x1152) ![0, 0] S512x1024.size inb).toLoadRect (harg.unread x) = hPart x := by
  rw [View.readAt_eq_ld, harg.read_unread]; funext j; unfold hPart
  exact View.ld_unit_apply_of _ _ _ _ _ _ (fun e => by
    match e with
    | ⟨0, _⟩ => exact (Nat.zero_add _).symm
    | ⟨1, _⟩ => exact (Nat.zero_add _).symm)

theorem ld_g (arg : Memref sig .tc .vmem S512x1152 .bf16) (harg : arg.IsWhole) (x : Vec F S512x1152 .bf16) (inb) :
    View.readAt (Elt F) arg.view (Rect.unit (s := S512x1152) ![0, 1024] S512x128.size inb).toLoadRect (harg.unread x) = gPart x := by
  rw [View.readAt_eq_ld, harg.read_unread]; funext j; unfold gPart
  exact View.ld_unit_apply_of _ _ _ _ _ _ (fun e => by
    match e with
    | ⟨0, _⟩ => exact (Nat.zero_add _).symm
    | ⟨1, _⟩ => rfl)

theorem ld_w (arg : Memref sig .tc .vmem S4x1024x512 .bf16) (harg : arg.IsWhole) (x : Vec F S4x1024x512 .bf16) (e : Fin 4) (off) (inb)
    (hoff : off = ![e.val, 0, 0]) :
    View.readAt (Elt F) arg.view (Rect.unit (s := S4x1024x512) off S1x1024x512.size inb).toLoadRect (harg.unread x) = wPart x e := by
  subst hoff; rw [View.readAt_eq_ld, harg.read_unread]; funext j; unfold wPart
  have h0 : (j 0).val = 0 := Nat.lt_one_iff.mp (j 0).isLt
  exact View.ld_unit_apply_of _ _ _ _ _ _ (fun a => by
    match a with
    | ⟨0, _⟩ => exact (congrArg (e.val + ·) h0).symm
    | ⟨1, _⟩ => exact (Nat.zero_add _).symm
    | ⟨2, _⟩ => exact (Nat.zero_add _).symm)

theorem ld_d (arg : Memref sig .tc .vmem S4x512x1024 .bf16) (harg : arg.IsWhole) (x : Vec F S4x512x1024 .bf16) (inb) :
    View.readAt (Elt F) arg.view (Rect.unit (s := S4x512x1024) ![0, 0, 0] S4x512x1024.size inb).toLoadRect (harg.unread x) = x := by
  rw [View.readAt_eq_ld, harg.read_unread]; funext j
  exact View.ld_unit_apply_of _ _ _ _ _ _ (fun a => by
    match a with
    | ⟨0, _⟩ => exact (Nat.zero_add _).symm
    | ⟨1, _⟩ => exact (Nat.zero_add _).symm
    | ⟨2, _⟩ => exact (Nat.zero_add _).symm)

theorem emb_out (inb) (x : (Rect.unit (s := S512x1024) ![0, 0] S512x1024.size inb).shape.Idx) :
    (Rect.unit (s := S512x1024) ![0, 0] S512x1024.size inb).emb x = x := by
  funext a
  apply Fin.ext
  match a with
  | ⟨0, _⟩ => exact (Rect.emb_apply _ _ _).trans ((congrArg (0 + ·) (Nat.one_mul _)).trans (Nat.zero_add _))
  | ⟨1, _⟩ => exact (Rect.emb_apply _ _ _).trans ((congrArg (0 + ·) (Nat.one_mul _)).trans (Nat.zero_add _))

theorem piecesFull (c : Dev nD) (i : grid0.Coords) (arg3 : Memref sig .tc .vmem S512x1152 .bf16) (harg3 : arg3.IsWhole) (arg4 : Memref sig .tc .vmem S4x1024x512 .bf16) (harg4 : arg4.IsWhole) (arg5 : Memref sig .tc .vmem S4x1024x512 .bf16) (harg5 : arg5.IsWhole) (arg6 : Memref sig .tc .vmem S4x512x1024 .bf16) (harg6 : arg6.IsWhole) (arg7 : Memref sig .tc .vmem S512x1024 .bf16) (harg7 : arg7.IsWhole)
    (x0 : Vec F S512x1152 .bf16) (x1 : Vec F S4x1024x512 .bf16) (x2 : Vec F S4x1024x512 .bf16) (x3 : Vec F S4x512x1024 .bf16) (xt0 : TbBuf0 (F := F) c tbM0_0) (xt1 : TbBuf0 (F := F) c tbM0_1) (h1 : ¬k0_cond1 (word c i xt1) = 1#1) (h2 : k0_cond2 (wordB c i xt1) = 1#1) :
    (runFull c i arg3 harg3 arg4 harg4 arg5 harg5 arg6 harg6 arg7 harg7 x0 x1 x2 x3 xt0 xt1 h1 h2).1 = [(⟨Rect.unit (s := S512x1024) ![0, 0] S512x1024.size inb_S512x1024_S512x1024_0_0, (fullF (View.readAt (Elt F) arg3.view (Rect.unit (s := S512x1152) ![0, 0] S512x1024.size inb_S512x1152_S512x1024_0_0).toLoadRect (harg3.unread x0)) (View.readAt (Elt F) arg3.view (Rect.unit (s := S512x1152) ![0, 1024] S512x128.size inb_S512x1152_S512x128_0_1024).toLoadRect (harg3.unread x0)) (View.readAt (Elt F) arg4.view (Rect.unit (s := S4x1024x512) ![0, 0, 0] S1x1024x512.size inb_S4x1024x512_S1x1024x512_0_0_0).toLoadRect (harg4.unread x1)) (View.readAt (Elt F) arg5.view (Rect.unit (s := S4x1024x512) ![0, 0, 0] S1x1024x512.size inb_S4x1024x512_S1x1024x512_0_0_0).toLoadRect (harg5.unread x2)) (View.readAt (Elt F) arg4.view (Rect.unit (s := S4x1024x512) ![1, 0, 0] S1x1024x512.size inb_S4x1024x512_S1x1024x512_1_0_0).toLoadRect (harg4.unread x1)) (View.readAt (Elt F) arg5.view (Rect.unit (s := S4x1024x512) ![1, 0, 0] S1x1024x512.size inb_S4x1024x512_S1x1024x512_1_0_0).toLoadRect (harg5.unread x2)) (View.readAt (Elt F) arg4.view (Rect.unit (s := S4x1024x512) ![2, 0, 0] S1x1024x512.size inb_S4x1024x512_S1x1024x512_2_0_0).toLoadRect (harg4.unread x1)) (View.readAt (Elt F) arg5.view (Rect.unit (s := S4x1024x512) ![2, 0, 0] S1x1024x512.size inb_S4x1024x512_S1x1024x512_2_0_0).toLoadRect (harg5.unread x2)) (View.readAt (Elt F) arg4.view (Rect.unit (s := S4x1024x512) ![3, 0, 0] S1x1024x512.size inb_S4x1024x512_S1x1024x512_3_0_0).toLoadRect (harg4.unread x1)) (View.readAt (Elt F) arg5.view (Rect.unit (s := S4x1024x512) ![3, 0, 0] S1x1024x512.size inb_S4x1024x512_S1x1024x512_3_0_0).toLoadRect (harg5.unread x2)) (View.readAt (Elt F) arg6.view (Rect.unit (s := S4x512x1024) ![0, 0, 0] S4x512x1024.size inb_S4x512x1024_S4x512x1024_0_0_0).toLoadRect (harg6.unread x3)))⟩ : View.Piece (Elt F) S512x1024 .bf16)] := by
  unfold runFull
  dsimp only
  rfl

theorem outFull_eq (c : Dev nD) (i : grid0.Coords) (arg3 : Memref sig .tc .vmem S512x1152 .bf16) (harg3 : arg3.IsWhole) (arg4 : Memref sig .tc .vmem S4x1024x512 .bf16) (harg4 : arg4.IsWhole) (arg5 : Memref sig .tc .vmem S4x1024x512 .bf16) (harg5 : arg5.IsWhole) (arg6 : Memref sig .tc .vmem S4x512x1024 .bf16) (harg6 : arg6.IsWhole) (arg7 : Memref sig .tc .vmem S512x1024 .bf16) (harg7 : arg7.IsWhole)
    (x0 : Vec F S512x1152 .bf16) (x1 : Vec F S4x1024x512 .bf16) (x2 : Vec F S4x1024x512 .bf16) (x3 : Vec F S4x512x1024 .bf16) (xt0 : TbBuf0 (F := F) c tbM0_0) (xt1 : TbBuf0 (F := F) c tbM0_1) (h1 : ¬k0_cond1 (word c i xt1) = 1#1) (h2 : k0_cond2 (wordB c i xt1) = 1#1) :
    outFull c i arg3 harg3 arg4 harg4 arg5 harg5 arg6 harg6 arg7 harg7 x0 x1 x2 x3 xt0 xt1 h1 h2 = fullOut x0 x1 x2 x3 := by
  funext y
  unfold outFull
  rw [View.read_writes_apply_eq_canon _ _ _ _ (coverFull c i arg3 harg3 arg4 harg4 arg5 harg5 arg6 harg6 arg7 harg7 x0 x1 x2 x3 xt0 xt1 h1 h2 y)]
  refine View.canon_apply_of_pieces (fullOut x0 x1 x2 x3) _ ?_ y (coverFull c i arg3 harg3 arg4 harg4 arg5 harg5 arg6 harg6 arg7 harg7 x0 x1 x2 x3 xt0 xt1 h1 h2 y)
  rw [piecesFull]
  simp only [List.forall_mem_cons]
  refine ⟨fun x => ?_, fun _ h => absurd h List.not_mem_nil⟩
  rw [emb_out]
  unfold fullOut
  refine congrFun ?_ x
  exact congr (congr (congr (congr (congr (congr (congr (congr (congr (congr (congrArg fullF (ld_h _ _ x0 _)) (ld_g _ _ x0 _))
    (ld_w _ _ x1 0 _ _ rfl)) (ld_w _ _ x2 0 _ _ rfl)) (ld_w _ _ x1 1 _ _ rfl)) (ld_w _ _ x2 1 _ _ rfl))
    (ld_w _ _ x1 2 _ _ rfl)) (ld_w _ _ x2 2 _ _ rfl)) (ld_w _ _ x1 3 _ _ rfl)) (ld_w _ _ x2 3 _ _ rfl)) (ld_d _ _ x3 _)

theorem piecesZero (c : Dev nD) (i : grid0.Coords) (arg3 : Memref sig .tc .vmem S512x1152 .bf16) (harg3 : arg3.IsWhole) (arg4 : Memref sig .tc .vmem S4x1024x512 .bf16) (harg4 : arg4.IsWhole) (arg5 : Memref sig .tc .vmem S4x1024x512 .bf16) (harg5 : arg5.IsWhole) (arg6 : Memref sig .tc .vmem S4x512x1024 .bf16) (harg6 : arg6.IsWhole) (arg7 : Memref sig .tc .vmem S512x1024 .bf16) (harg7 : arg7.IsWhole)
    (x0 : Vec F S512x1152 .bf16) (x1 : Vec F S4x1024x512 .bf16) (x2 : Vec F S4x1024x512 .bf16) (x3 : Vec F S4x512x1024 .bf16) (xt0 : TbBuf0 (F := F) c tbM0_0) (xt1 : TbBuf0 (F := F) c tbM0_1) (h1 : k0_cond1 (word c i xt1) = 1#1) (h2 : ¬k0_cond2 (wordB c i xt1) = 1#1) :
    (runZero c i arg3 harg3 arg4 harg4 arg5 harg5 arg6 harg6 arg7 harg7 x0 x1 x2 x3 xt0 xt1 h1 h2).1 = [(⟨Rect.unit (s := S512x1024) ![0, 0] S512x1024.size inb_S512x1024_S512x1024_0_0, k0_pay1⟩ : View.Piece (Elt F) S512x1024 .bf16)] := by
  unfold runZero
  dsimp only

theorem outZero_eq (c : Dev nD) (i : grid0.Coords) (arg3 : Memref sig .tc .vmem S512x1152 .bf16) (harg3 : arg3.IsWhole) (arg4 : Memref sig .tc .vmem S4x1024x512 .bf16) (harg4 : arg4.IsWhole) (arg5 : Memref sig .tc .vmem S4x1024x512 .bf16) (harg5 : arg5.IsWhole) (arg6 : Memref sig .tc .vmem S4x512x1024 .bf16) (harg6 : arg6.IsWhole) (arg7 : Memref sig .tc .vmem S512x1024 .bf16) (harg7 : arg7.IsWhole)
    (x0 : Vec F S512x1152 .bf16) (x1 : Vec F S4x1024x512 .bf16) (x2 : Vec F S4x1024x512 .bf16) (x3 : Vec F S4x512x1024 .bf16) (xt0 : TbBuf0 (F := F) c tbM0_0) (xt1 : TbBuf0 (F := F) c tbM0_1) (h1 : k0_cond1 (word c i xt1) = 1#1) (h2 : ¬k0_cond2 (wordB c i xt1) = 1#1) :
    outZero c i arg3 harg3 arg4 harg4 arg5 harg5 arg6 harg6 arg7 harg7 x0 x1 x2 x3 xt0 xt1 h1 h2 = k0_pay1 := by
  funext y
  unfold outZero
  rw [View.read_writes_apply_eq_canon _ _ _ _ (coverZero c i arg3 harg3 arg4 harg4 arg5 harg5 arg6 harg6 arg7 harg7 x0 x1 x2 x3 xt0 xt1 h1 h2 y)]
  refine View.canon_apply_of_pieces k0_pay1 _ ?_ y (coverZero c i arg3 harg3 arg4 harg4 arg5 harg5 arg6 harg6 arg7 harg7 x0 x1 x2 x3 xt0 xt1 h1 h2 y)
  rw [piecesZero]
  simp only [List.forall_mem_cons]
  refine ⟨fun x => ?_, fun _ h => absurd h List.not_mem_nil⟩
  rw [emb_out]

end Cert.Kernel6Ideal.Ffn

end
-- ==== Proof.SecArr.lean ====
/- The second layer's experts: the array the expert kernel leaves, of the arrays its windows read. -/
module

public import proofs.«01_k».proof.Proof.SecBody
public import proofs.«01_k».proof.Proof.SecTab
public import Idealize.ShloMosaic.Lib.Pipeline.ValueKit.Point
public import Idealize.ShloMosaic.Lib.Pipeline.Covers

@[expose] public section

set_option maxRecDepth 16384

noncomputable section

namespace Cert.Kernel6Ideal.Ffn

open Cert.Kernel6Ideal.Gen
open Idealize.ShloMosaic Idealize.ShloMosaic.TcCoe Idealize.ShloMosaic.Tactic
open Idealize.SL.Sem
open Idealize.ShloMosaic.Pipeline (Dat Cfg Window BodyObligation cellOf)

variable {F : FTy → Type} [FloatOps F]

/-- Tile `n` of the rows. -/
def tileRows (X : Vec F S38912x1152 .bf16) (n : Fin 76) : Vec F S512x1152 .bf16 := fun j =>
  X (ix2 ⟨512 * n.val + (j 0).val, by have := (j 0).isLt; have := n.isLt; simp at *; omega⟩ ⟨(j 1).val, (j 1).isLt⟩)
/-- Four experts' weights. -/
def fourW (X : Vec F S32x1024x512 .bf16) (n : Fin 4) : Vec F S4x1024x512 .bf16 := fun j =>
  X (ix3 ⟨16 + 4 * n.val + (j 0).val, by have := (j 0).isLt; have := n.isLt; simp at *; omega⟩ ⟨(j 1).val, (j 1).isLt⟩ ⟨(j 2).val, (j 2).isLt⟩)
def fourD (X : Vec F S32x512x1024 .bf16) (n : Fin 4) : Vec F S4x512x1024 .bf16 := fun j =>
  X (ix3 ⟨16 + 4 * n.val + (j 0).val, by have := (j 0).isLt; have := n.isLt; simp at *; omega⟩ ⟨(j 1).val, (j 1).isLt⟩ ⟨(j 2).val, (j 2).isLt⟩)

variable (m : (ℓ : Loc nD τ sig) → Buf (Elt F) ℓ)

theorem coord0 : ∀ t : Fin grid0.N, (grid0.coords t 0).val = t.val := by decide +kernel
theorem n_lt (t : Fin grid0.N) : t.val < 76 := lt_of_lt_of_eq t.isLt (by decide +kernel)
abbrev tileOf (t : Fin grid0.N) : Fin 76 := ⟨t.val, n_lt t⟩
theorem ptOf_coords (t : Fin grid0.N) : ptOf (grid0.coords t) = tileOf t := Fin.ext (coord0 t)

/-- The group the table names at a tile. -/
def grpIx (n : Fin 76) : Fin 4 := ⟨((tbl m 0 : IVec S76 32) (ix1 n) : BitVec 32).toNat % 4, Nat.mod_lt _ (by decide)⟩

variable (hp : Good (cums m 0))

include hp in
theorem grpIx_eq (n : Fin 76) : ((tbl m 0 : IVec S76 32) (ix1 n) : BitVec 32).toNat = (grpIx m n).val := (Nat.mod_eq_of_lt (tbl_lt m hp n)).symm

theorem ixw0 : ∀ t : Fin grid0.N, cc0_transform_0 (grid0.coords t) = ![t.val, 0] := by decide +kernel
theorem ixw4 : ∀ t : Fin grid0.N, cc0_transform_4 (grid0.coords t) = ![t.val, 0] := by decide +kernel

theorem idxA0 (t : Fin (cfgM m (ok m hp)).N) : ((cfgM m (ok m hp)).win 0).index t = ![t.val, 0] := ixw0 t
theorem idxA4 (t : Fin (cfgM m (ok m hp)).N) : ((cfgM m (ok m hp)).win 4).index t = ![t.val, 0] := ixw4 t
theorem idxA1 (t : Fin (cfgM m (ok m hp)).N) : ((cfgM m (ok m hp)).win 1).index t = ![(grpIx m (tileOf t)).val + 4, 0, 0] :=
  (tr1 (tbl m) (grid0.coords t) (tbl_lt m hp _)).trans (by rw [ptOf_coords, grpIx_eq m hp])
theorem idxA2 (t : Fin (cfgM m (ok m hp)).N) : ((cfgM m (ok m hp)).win 2).index t = ![(grpIx m (tileOf t)).val + 4, 0, 0] :=
  (tr2 (tbl m) (grid0.coords t) (tbl_lt m hp _)).trans (by rw [ptOf_coords, grpIx_eq m hp])
theorem idxA3 (t : Fin (cfgM m (ok m hp)).N) : ((cfgM m (ok m hp)).win 3).index t = ![(grpIx m (tileOf t)).val + 4, 0, 0] :=
  (tr3 (tbl m) (grid0.coords t) (tbl_lt m hp _)).trans (by rw [ptOf_coords, grpIx_eq m hp])

theorem blkA0 (c : Dev nD) (t : Fin (cfgM m (ok m hp)).N) : iblk m (ok m hp) c 0 t = tileRows (V m c main_v32) (tileOf t) := by
  funext j; unfold tileRows iblk
  show V m c main_v32 ((((cfgM m (ok m hp)).win 0).blk t).view.emb j) = _
  congr 1
  blk_ext [idxA0 m hp t]
theorem blkA1 (c : Dev nD) (t : Fin (cfgM m (ok m hp)).N) : iblk m (ok m hp) c 1 t = fourW (V m c main_v35) (grpIx m (tileOf t)) := by
  funext j; unfold fourW iblk
  show V m c main_v35 ((((cfgM m (ok m hp)).win 1).blk t).view.emb j) = _
  congr 1
  blk_ext [idxA1 m hp t]
theorem blkA2 (c : Dev nD) (t : Fin (cfgM m (ok m hp)).N) : iblk m (ok m hp) c 2 t = fourW (V m c main_v37) (grpIx m (tileOf t)) := by
  funext j; unfold fourW iblk
  show V m c main_v37 ((((cfgM m (ok m hp)).win 2).blk t).view.emb j) = _
  congr 1
  blk_ext [idxA2 m hp t]
theorem blkA3 (c : Dev nD) (t : Fin (cfgM m (ok m hp)).N) : iblk m (ok m hp) c 3 t = fourD (V m c main_v39) (grpIx m (tileOf t)) := by
  funext j; unfold fourD iblk
  show V m c main_v39 ((((cfgM m (ok m hp)).win 3).blk t).view.emb j) = _
  congr 1
  blk_ext [idxA3 m hp t]

/-- What tile `n` holds. -/
def tileOut (c : Dev nD) (n : Fin 76) : Vec F S512x1024 .bf16 :=
  if Cert.SecSpec.used (sumsOf (cums m 0)) n.val then
    fullOut (tileRows (V m c main_v32) n) (fourW (V m c main_v35) (grpIx m n)) (fourW (V m c main_v37) (grpIx m n)) (fourD (V m c main_v39) (grpIx m n))
  else k0_pay1

/-- The array. -/
def ffnArr (c : Dev nD) : Vec F S38912x1024 .bf16 := fun y =>
  tileOut m c ⟨(y 0).val / 512, by have := (y 0).isLt; simp at this; omega⟩ (ix2 ⟨(y 0).val % 512, by omega⟩ ⟨(y 1).val, (y 1).isLt⟩)

theorem word_used (c : Dev nD) (t : Fin grid0.N) :
    (word c (grid0.coords t) (tbl m 1) = (0#32 : BitVec 32)) ↔ ¬Cert.SecSpec.used (sumsOf (cums m 0)) t.val := by
  have h : word c (grid0.coords t) (tbl m 1) = (validBit (cums m 0) (ix1 (ptOf (grid0.coords t)))).setWidth 32 :=
    (word_eq c (grid0.coords t) (tbl m 1)).trans (congrFun (tbl_one m) (ix1 (ptOf (grid0.coords t))))
  rw [h, validBit_at, ptOf_coords]
  unfold Cert.SecSpec.used
  show (BitVec.ofBool ((BitVec.ofNat 32 t.val).slt (cums m 0 (ix1 3)))).setWidth 32 = 0#32 ↔ ¬((BitVec.ofNat 32 t.val).slt (cums m 0 (ix1 3)) = true)
  generalize (BitVec.ofNat 32 t.val).slt (cums m 0 (ix1 3)) = b
  cases b <;> decide

theorem outsA (c : Dev nD) (t : Fin (cfgM m (ok m hp)).N) : outsAt0 m (ok m hp) (live m) c t = tileOut m c (tileOf t) := by
  unfold outsAt0 tileOut
  by_cases h : word c (grid0.coords t) (tbl m 1) = (0#32 : BitVec 32)
  · rw [dif_pos h, if_neg ((word_used m c t).mp h)]
    exact outZero_eq c _ _ _ _ _ _ _ _ _ _ _ _ _ _ _ _ _ _ _
  · rw [dif_neg h, if_pos (not_not.mp (fun h' => h ((word_used m c t).mpr h')))]
    refine (outFull_eq c _ _ _ _ _ _ _ _ _ _ _ _ _ _ _ _ _ _ _).trans ?_
    rw [blkA0 m hp, blkA1 m hp, blkA2 m hp, blkA3 m hp]

theorem coversA : ((cfgM m (ok m hp)).win 4).Covers := by
  refine ((cfgM m (ok m hp)).win 4).covers_of_index_surj rfl ?_ fun β => ?_
  · show ∀ a : Fin 2, 0 < (![512, 1024] : Fin 2 → ℕ) a
    decide
  · have h0 : (β (0 : Fin 2)).val < 76 := lt_of_lt_of_eq (β (0 : Fin 2)).isLt (by decide : (38912 + 512 - 1) / 512 = 76)
    have h1 : (β (1 : Fin 2)).val < 1 := lt_of_lt_of_eq (β (1 : Fin 2)).isLt (by decide : (1024 + 1024 - 1) / 1024 = 1)
    have hn : grid0.N = 76 := by decide +kernel
    refine ⟨⟨(β (0 : Fin 2)).val, lt_of_lt_of_eq h0 hn.symm⟩, fun a => ?_⟩
    rw [idxA4 m hp]
    match a with
    | ⟨0, _⟩ => rfl
    | ⟨1, _⟩ => exact (Nat.lt_one_iff.mp h1).symm

theorem embA (t : Fin (cfgM m (ok m hp)).N) (y : S512x1024.Idx) :
    (((cfgM m (ok m hp)).win 4).blk t).view.emb y
      = (ix2 ⟨512 * t.val + (y 0).val, by have := n_lt t; have := (y 0).isLt; simp at this; omega⟩ ⟨(y 1).val, (y 1).isLt⟩ : S38912x1024.Idx) := by
  blk_ext [idxA4 m hp t]

theorem arrA (c : Dev nD) : (dats m (ok m hp) (live m) 0 c).arrAt 4 (cfgM m (ok m hp)).N = ffnArr m c := by
  refine (dats m (ok m hp) (live m) 0 c).arrAt_eq_of_covers 4 _ (coversA m hp) fun t hf y => ?_
  blk_simp
  rw [after0_4, outsA m hp]
  have hN := n_lt t
  refine Eq.trans ?_ (congrArg (ffnArr m c) (embA m hp t y)).symm
  have hy : (y (0 : Fin 2)).val < 512 := (y (0 : Fin 2)).isLt
  unfold ffnArr
  refine congr (congrArg (tileOut m c) (Fin.ext (by show t.val = (512 * t.val + (y (0 : Fin 2)).val) / 512; omega))) ?_
  funext d
  match d with
  | ⟨0, _⟩ => exact Fin.ext (by show (y (0 : Fin 2)).val = (512 * t.val + (y (0 : Fin 2)).val) % 512; omega)
  | ⟨1, _⟩ => rfl

end Cert.Kernel6Ideal.Ffn

end
-- ==== Proof.SecCalc.lean ====
/- The second layer's experts: what the stored block holds over the extended reals, entry by entry. -/
module

public import proofs.«01_k».proof.Proof.SecBody

@[expose] public section

set_option maxRecDepth 16384

noncomputable section

namespace Cert.Kernel6Ideal.Ffn

open Cert.Kernel6Ideal.Gen
open Idealize.ShloMosaic Idealize.ShloMosaic.TcCoe Idealize.ShloMosaic.Tactic

/-- A row of the block times a column of an expert's weights. -/
def mm (h : Vec Ideal S512x1024 .bf16) (w : Vec Ideal S1x1024x512 .bf16) (p f : Fin 512) : EReal := ∑ d : Fin 1024, h (ix2 p d) * w (ix3 0 d f)

/-- The kernel's spelling of one gated hidden entry: `k` is the expert's gate column. -/
def gated (h : Vec Ideal S512x1024 .bf16) (g : Vec Ideal S512x128 .bf16) (a u : Vec Ideal S1x1024x512 .bf16) (k0 k1 k2 : Fin 128) (p f : Fin 512) : EReal :=
  mm h a p f * (((1 / 2 : ℝ) : EReal) + ((1 / 2 : ℝ) : EReal) * Ideal.tanh (((1 / 2 : ℝ) : EReal) * mm h a p f)) * mm h u p f
    * (g (ix2 p k0) + g (ix2 p k1) + g (ix2 p k2))

theorem half_bits : Ideal.ofBits .f32 0x3F000000#32 = ((1 / 2 : ℝ) : EReal) := by
  simp [Ideal.ofBits, Ideal.ieee, -EReal.coe_mul]; norm_num

theorem pay6_at (h : Vec Ideal S512x1024 .bf16) (a : Vec Ideal S1x1024x512 .bf16) (p f : Fin 512) : k0_pay6 h a (ix2 p f) = mm h a p f := by
  unfold k0_pay6 k0_pay3 mm
  pointwise

theorem pay7_at (h : Vec Ideal S512x1024 .bf16) (a : Vec Ideal S1x1024x512 .bf16) (p f : Fin 512) : k0_pay7 h a (ix2 p f) = mm h a p f := by
  unfold k0_pay7 k0_pay3 mm
  pointwise

theorem pay11_at (h : Vec Ideal S512x1024 .bf16) (a : Vec Ideal S1x1024x512 .bf16) (p f : Fin 512) : k0_pay11 (k0_pay3 h) a (ix2 p f) = mm h a p f := by
  unfold k0_pay11 k0_pay3 mm
  pointwise

theorem pay5_at (h : Vec Ideal S512x1024 .bf16) (g : Vec Ideal S512x128 .bf16) (a u : Vec Ideal S1x1024x512 .bf16) (p f : Fin 512) :
    k0_pay5 h g a u (ix2 p f) = gated h g a u 0 8 16 p f := by
  unfold k0_pay5 k0_pay4 k0_pay3 gated mm
  pointwise
  rw [half_bits]

theorem pay9_at (h : Vec Ideal S512x1024 .bf16) (g : Vec Ideal S512x128 .bf16) (a u : Vec Ideal S1x1024x512 .bf16) (p f : Fin 512) :
    k0_pay9 (k0_pay4 g) (k0_pay6 h a) (k0_pay7 h u) (k0_pay8 g) (ix2 p f) = gated h g a u 1 9 17 p f := by
  unfold k0_pay9 k0_pay8 k0_pay4 gated
  pointwise [pay6_at, pay7_at]
  rw [half_bits]

theorem pay10_at (h : Vec Ideal S512x1024 .bf16) (g : Vec Ideal S512x128 .bf16) (a u : Vec Ideal S1x1024x512 .bf16) (p f : Fin 512) :
    k0_pay10 (k0_pay3 h) (k0_pay4 g) a u (ix2 p f) = gated h g a u 2 10 18 p f := by
  unfold k0_pay10 k0_pay4 k0_pay3 gated mm
  pointwise
  rw [half_bits]

theorem pay3_at (h : Vec Ideal S512x1024 .bf16) (p : Fin 512) (d : Fin 1024) : k0_pay3 h (ix2 p d) = h (ix2 p d) := by
  unfold k0_pay3
  pointwise

/-- A sum over the four experts' entries, expert by expert. -/
theorem sum_four (G : Fin 2048 → EReal) : ∑ x, G x = (∑ f : Fin 512, G ⟨f.val, by omega⟩) + (∑ f : Fin 512, G ⟨512 + f.val, by omega⟩)
    + (∑ f : Fin 512, G ⟨1024 + f.val, by omega⟩) + ∑ f : Fin 512, G ⟨1536 + f.val, by omega⟩ := by
  show ∑ x : Fin (512 + 512 + 512 + 512), G x = _
  rw [Fin.sum_univ_add, Fin.sum_univ_add, Fin.sum_univ_add]
  rfl

theorem pay2_at (h : Vec Ideal S512x1024 .bf16) (g : Vec Ideal S512x128 .bf16) (h0 h1 h2 : FVec Ideal S512x512 .bf16) (a u : Vec Ideal S1x1024x512 .bf16) (w : Vec Ideal S4x512x1024 .bf16) (p : Fin 512) (d : Fin 1024) :
    k0_pay2 (k0_pay3 h) (k0_pay4 g) h0 h1 h2 (k0_pay11 (k0_pay3 h) a) u w (ix2 p d)
      = (∑ f : Fin 512, h0 (ix2 p f) * w (ix3 0 f d)) + (∑ f : Fin 512, h1 (ix2 p f) * w (ix3 1 f d)) + (∑ f : Fin 512, h2 (ix2 p f) * w (ix3 2 f d))
        + ∑ f : Fin 512, gated h g a u 3 11 19 p f * w (ix3 3 f d) := by
  unfold k0_pay2 k0_pay4 gated
  pointwise [pay11_at, pay3_at]
  rw [sum_four]
  refine congr (congrArg _ (congr (congrArg _ (congr (congrArg _ ?_) ?_)) ?_)) ?_
  · refine Finset.sum_congr rfl fun f _ => ?_
    rw [dif_pos f.isLt]
    refine congrArg _ (congrArg w ?_)
    congr 1
    · exact Fin.ext (by show f.val / 512 = 0; omega)
    · exact Fin.ext (by show f.val % 512 = f.val; omega)
  · refine Finset.sum_congr rfl fun f _ => ?_
    rw [dif_neg (by dsimp only; omega), dif_pos (by dsimp only; omega)]
    refine congr (congrArg _ (congrArg h1 ?_)) (congrArg w ?_)
    · congr 1
      exact Fin.ext (by show 512 + f.val - 512 = f.val; omega)
    congr 1
    · exact Fin.ext (by show (512 + f.val) / 512 = 1; omega)
    · exact Fin.ext (by show (512 + f.val) % 512 = f.val; omega)
  · refine Finset.sum_congr rfl fun f _ => ?_
    rw [dif_neg (by dsimp only; omega), dif_neg (by dsimp only; omega), dif_pos (by dsimp only; omega)]
    refine congr (congrArg _ (congrArg h2 ?_)) (congrArg w ?_)
    · congr 1
      exact Fin.ext (by show 1024 + f.val - 512 - 512 = f.val; omega)
    congr 1
    · exact Fin.ext (by show (1024 + f.val) / 512 = 2; omega)
    · exact Fin.ext (by show (1024 + f.val) % 512 = f.val; omega)
  · refine Finset.sum_congr rfl fun f _ => ?_
    rw [dif_neg (by dsimp only; omega), dif_neg (by dsimp only; omega), dif_neg (by dsimp only; omega)]
    have e : ∀ h, (⟨1536 + f.val - 512 - 512 - 512, h⟩ : Fin 512) = f := fun h => Fin.ext (by show 1536 + f.val - 512 - 512 - 512 = f.val; omega)
    simp only [e]
    rw [half_bits]
    refine congrArg _ (congrArg w ?_)
    congr 1
    · exact Fin.ext (by show (1536 + f.val) / 512 = 3; omega)
    · exact Fin.ext (by show (1536 + f.val) % 512 = f.val; omega)

/-- A gate's three columns of the block's row. -/
def gate3 (x : Vec Ideal S512x1152 .bf16) (p : Fin 512) (j : Fin 4) : EReal :=
  x (ix2 p ⟨1024 + j.val, by omega⟩) + x (ix2 p ⟨1024 + (8 + j.val), by omega⟩) + x (ix2 p ⟨1024 + (16 + j.val), by omega⟩)
/-- A row of the block times a column of an expert's weights. -/
def blkMM (x : Vec Ideal S512x1152 .bf16) (w : Vec Ideal S4x1024x512 .bf16) (j : Fin 4) (p f : Fin 512) : EReal :=
  ∑ d : Fin 1024, x (ix2 p ⟨d.val, by omega⟩) * w (ix3 j d f)

/-- The stored entry. -/
theorem fullOut_at (x0 : Vec Ideal S512x1152 .bf16) (x1 x2 : Vec Ideal S4x1024x512 .bf16) (x3 : Vec Ideal S4x512x1024 .bf16) (p : Fin 512) (d : Fin 1024) :
    fullOut x0 x1 x2 x3 (ix2 p d) = ∑ j : Fin 4, ∑ f : Fin 512,
      blkMM x0 x1 j p f * (((1 / 2 : ℝ) : EReal) + ((1 / 2 : ℝ) : EReal) * Ideal.tanh (((1 / 2 : ℝ) : EReal) * blkMM x0 x1 j p f)) * blkMM x0 x2 j p f
        * gate3 x0 p j * x3 (ix3 j f d) := by
  unfold fullOut fullF
  rw [pay2_at, Fin.sum_univ_four]
  simp only [pay5_at, pay9_at, pay10_at]
  rfl

theorem pay1_at (i : S512x1024.Idx) : k0_pay1 (F := Ideal) i = 0 := by
  obtain ⟨a, b, rfl⟩ : ∃ a b, i = ix2 a b := ⟨_, _, eq_ix2 i⟩
  unfold k0_pay1
  pointwise

end Cert.Kernel6Ideal.Ffn

end
-- ==== Proof.SecVal.lean ====
/- The second layer's experts: the array the expert kernel leaves is the layer's output. -/
module

public import proofs.«01_k».proof.Proof.SecHost
public import proofs.«01_k».proof.Proof.SecArr
public import proofs.«01_k».proof.Proof.SecCalc
public import proofs.«01_k».proof.Proof.Spec

@[expose] public section

set_option maxRecDepth 16384

noncomputable section

namespace Cert.Kernel6Ideal.Ffn

open Cert.Kernel6Ideal Cert.Kernel6Ideal.Gen
open Idealize.ShloMosaic Idealize.ShloMosaic.TcCoe Idealize.ShloMosaic.Tactic
open Idealize.SL.Sem
open Cert.Spec (Real' real_sum real_mul)
open Cert.SecSpec

theorem real_silu {x : EReal} (hx : ∃ r : ℝ, x = r) : ∃ r : ℝ, silu x = r := by
  obtain ⟨a, rfl⟩ := hx
  refine ⟨a * (1 / 2 + 1 / 2 * Real.tanh (1 / 2 * a)), ?_⟩
  rw [← silu_tanh, show Ideal.tanh (((1 / 2 : ℝ) : EReal) * (a : EReal)) = ((Real.tanh (1 / 2 * a) : ℝ) : EReal) from by rw [← EReal.coe_mul]; rfl,
    ← EReal.coe_mul, ← EReal.coe_add, ← EReal.coe_mul]

theorem coe_sum {K : Type} (s : Finset K) (f : K → ℝ) : ∑ k ∈ s, (f k : EReal) = ((∑ k ∈ s, f k : ℝ) : EReal) := by
  classical
  induction s using Finset.induction_on with
  | empty => simp
  | insert a s ha ih => rw [Finset.sum_insert ha, Finset.sum_insert ha, ih, EReal.coe_add]

/-- The gate comes out of an expert's sum. -/
theorem gate_out {K : Type} [Fintype K] (p w : K → EReal) (G : EReal) (hp : ∀ k, ∃ r : ℝ, p k = r) (hw : ∀ k, ∃ r : ℝ, w k = r) (hG : ∃ r : ℝ, G = r) :
    ∑ k, p k * G * w k = G * ∑ k, p k * w k := by
  choose p' hp' using hp
  choose w' hw' using hw
  obtain ⟨G', rfl⟩ := hG
  rw [show (fun k => p k * (G' : EReal) * w k) = fun k => ((p' k * G' * w' k : ℝ) : EReal) from funext fun k => by rw [hp', hw', EReal.coe_mul, EReal.coe_mul],
    show (fun k => p k * w k) = fun k => ((p' k * w' k : ℝ) : EReal) from funext fun k => by rw [hp', hw', EReal.coe_mul],
    coe_sum, coe_sum, ← EReal.coe_mul, Finset.mul_sum]
  exact congrArg _ (Finset.sum_congr rfl fun k _ => by ring)

variable (h : FVec Ideal S38912x1024 .f32) (g : FVec Ideal S38912x4 .f32) (wg wu : FVec Ideal S2x16x1024x512 .f32) (wd : FVec Ideal S2x16x512x1024 .f32)

theorem gate3_rows (hg : Real' g) (n : Fin 76) (p : Fin 512) (j : Fin 4) :
    gate3 (tileRows (F := Ideal) (rowsOf (F := Ideal) h g) n) p j = g (ix2 ⟨512 * n.val + p.val, by omega⟩ j) := by
  have hk : ∀ k : Fin 128, tileRows (F := Ideal) (rowsOf (F := Ideal) h g) n (ix2 p (⟨1024 + k.val, by omega⟩ : Fin 1152)) = (gates128 (F := Ideal) (gates8 g) (ix2 ⟨512 * n.val + p.val, by omega⟩ k) : EReal) :=
    fun k => rowsOf_g h g _ k
  unfold gate3
  refine Eq.trans (congr (congrArg _ (congr (congrArg _ (hk ⟨j.val, by omega⟩)) (hk ⟨8 + j.val, by omega⟩))) (hk ⟨16 + j.val, by omega⟩)) ?_
  have h0 := gates128_0 (gates8 g) (⟨512 * n.val + p.val, by omega⟩ : Fin 38912) ⟨j.val, by omega⟩
  have h1 := gates128_1 (gates8 g) (⟨512 * n.val + p.val, by omega⟩ : Fin 38912) ⟨j.val, by omega⟩
  have h2 := gates128_2 (gates8 g) (⟨512 * n.val + p.val, by omega⟩ : Fin 38912) ⟨j.val, by omega⟩
  dsimp only at h0 h1 h2
  rw [gates8_at] at h0 h1 h2
  refine Eq.trans (congr (congrArg _ (congr (congrArg _ h0) h1)) h2) ?_
  obtain ⟨a, ha⟩ := hg (ix2 ⟨512 * n.val + p.val, by omega⟩ j)
  rw [ha, ← EReal.coe_sub, ← EReal.coe_sub, ← EReal.coe_add, ← EReal.coe_add]
  congr 1; ring

theorem blkMM_rows (w : FVec Ideal S2x16x1024x512 .f32) (n : Fin 76) (k : Fin 4) (hk : k.val < 4) (j : Fin 4) (p f : Fin 512) :
    blkMM (tileRows (F := Ideal) (rowsOf (F := Ideal) h g) n) (fourW (F := Ideal) (castW (F := Ideal) w) k) j p f = proj h w (exOf k.val j) ⟨512 * n.val + p.val, by omega⟩ f := by
  unfold blkMM proj
  refine Finset.sum_congr rfl fun d _ => congr (congrArg _ (rowsOf_h h g _ d)) ?_
  refine Eq.trans (congrArg (castW (F := Ideal) w) ?_) (castW_at w (exOf k.val j) d f)
  refine congrArg (fun e => ix3 e d f) (Fin.ext ?_)
  show 16 + 4 * k.val + j.val = 16 + (4 * k.val + j.val) % 16
  omega

theorem fourD_at (n : Fin 4) (hn : n.val < 4) (j : Fin 4) (f : Fin 512) (d : Fin 1024) :
    fourD (F := Ideal) (castD (F := Ideal) wd) n (ix3 j f d) = (wd (ix4 1 (exOf n.val j) f d) : EReal) := by
  refine Eq.trans (congrArg (castD (F := Ideal) wd) ?_) (castD_at wd (exOf n.val j) f d)
  refine congrArg (fun e => ix3 e f d) (Fin.ext ?_)
  show 16 + 4 * n.val + j.val = 16 + (4 * n.val + j.val) % 16
  omega

theorem full_eq (hh : Real' h) (hg : Real' g) (h1 : Real' wg) (h2 : Real' wu) (h3 : Real' wd) (n : Fin 76) (k : Fin 4) (hk : k.val < 4) (p : Fin 512) (d : Fin 1024) :
    fullOut (tileRows (F := Ideal) (rowsOf (F := Ideal) h g) n) (fourW (F := Ideal) (castW (F := Ideal) wg) k) (fourW (F := Ideal) (castW (F := Ideal) wu) k) (fourD (F := Ideal) (castD (F := Ideal) wd) k) (ix2 p d)
      = (∑ j : Fin 4, g (ix2 ⟨512 * n.val + p.val, by omega⟩ j) * expert h wg wu wd (exOf k.val j) ⟨512 * n.val + p.val, by omega⟩ d : EReal) := by
  have hP : ∀ (w : FVec Ideal S2x16x1024x512 .f32), Real' w → ∀ e r f, ∃ x : ℝ, proj h w e r f = x := fun w hw e r f => real_sum _ _ fun _ => real_mul (hh _) (hw _)
  refine (fullOut_at _ _ _ _ p d).trans (Finset.sum_congr rfl fun j _ => ?_)
  unfold expert
  refine Eq.trans (Finset.sum_congr rfl fun f _ => ?_) (gate_out (fun f => silu (proj h wg (exOf k.val j) ⟨512 * n.val + p.val, by omega⟩ f) * proj h wu (exOf k.val j) ⟨512 * n.val + p.val, by omega⟩ f)
    (fun f => wd (ix4 1 (exOf k.val j) f d)) _ (fun f => real_mul (real_silu (hP wg h1 _ _ _)) (hP wu h2 _ _ _)) (fun f => h3 _) (hg _))
  rw [gate3_rows h g hg, blkMM_rows h g wg n k hk, blkMM_rows h g wu n k hk, fourD_at wd k hk]
  obtain ⟨x, hx⟩ := hP wg h1 (exOf k.val j) ⟨512 * n.val + p.val, by omega⟩ f
  rw [hx, silu_tanh]

variable (m : (x : Loc nD τ sig) → Buf (Elt Ideal) x) (c : Dev nD)

theorem word_grp (n : Fin 76) (hu : used (sumsOf (cums m 0)) n.val) : ((tbl m 0 : IVec S76 32) (ix1 n) : BitVec 32) = grp (sumsOf (cums m 0)) n.val :=
  (congrFun (tbl_zero m) (ix1 n)).trans (groupOf_at (cums m 0) n hu)

theorem grpIx_val (n : Fin 76) (hu : used (sumsOf (cums m 0)) n.val) : (grpIx m n).val = (grp (sumsOf (cums m 0)) n.val).toNat := by
  unfold grpIx
  show ((tbl m 0 : IVec S76 32) (ix1 n) : BitVec 32).toNat % 4 = _
  rw [word_grp m n hu]
  exact Nat.mod_eq_of_lt (grp_lt _ _ hu)

/-- The array, of the arguments. -/
theorem ffnArr_at (hh : Real' (s := Hs) (m ((c.tc : Thread nD τ).loc main_arg1))) (hg : Real' (s := Gs) (m ((c.tc : Thread nD τ).loc main_arg2)))
    (h1 : Real' (s := Ws) (m ((c.tc : Thread nD τ).loc main_arg3))) (h2 : Real' (s := Ws) (m ((c.tc : Thread nD τ).loc main_arg4))) (h3 : Real' (s := Ds) (m ((c.tc : Thread nD τ).loc main_arg5)))
    (r : Fin 38912) (d : Fin 1024) :
    ffnArr m c (ix2 r d) = result (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (sumsOf (cums m 0)) r d := by
  have hr : (⟨512 * (r.val / 512) + r.val % 512, by omega⟩ : Fin 38912) = r := Fin.ext (by dsimp only; omega)
  show tileOut m c ⟨r.val / 512, by omega⟩ (ix2 ⟨r.val % 512, by omega⟩ d) = _
  unfold tileOut result
  by_cases hu : used (sumsOf (cums m 0)) (r.val / 512)
  · have eg : (grpIx m ⟨r.val / 512, by omega⟩).val = (grp (sumsOf (cums m 0)) (r.val / 512)).toNat :=
      grpIx_val m ⟨r.val / 512, by omega⟩ hu
    rw [if_pos hu, if_pos hu, V_v32, V_v35, V_v37, V_v39]
    refine (full_eq _ _ _ _ _ hh hg h1 h2 h3 _ _ (by rw [eg]; exact grp_lt _ _ hu) _ d).trans ?_
    rw [eg, hr]
  · rw [if_neg hu, if_neg hu]
    exact pay1_at _

end Cert.Kernel6Ideal.Ffn

end
-- ==== Proof.SecPair.lean ====
/- The second layer's experts: the expert kernel as printed and its idealization are one text, so one program: the bodies, the table of bodies and the
   host code agree. -/
module

public import proofs.«01_k».proof.Defs
public import proofs.«01_k».proof.Proof.Gen.Kernel6
public import proofs.«01_k».proof.Proof.SecTab

@[expose] public section

set_option maxRecDepth 16384

noncomputable section

namespace Cert.Kernel6Ideal.Ffn

open Idealize.ShloMosaic Idealize.ShloMosaic.TcCoe Idealize.SL.Sem

theorem body_same : Cert.Kernel6.cc0_moe_ffn (F := Bits) = Cert.Kernel6Ideal.cc0_moe_ffn (F := Bits) := rfl

theorem table_same : Cert.Kernel6.defs₀ (F := Bits) = Cert.Kernel6Ideal.defs₀ (F := Bits) := by
  unfold Cert.Kernel6.defs₀ Cert.Kernel6Ideal.defs₀
  refine congrArg (Defs.onTc (nD := Cert.Kernel6Ideal.nD) (τ := Cert.Kernel6Ideal.τ) (sig := Cert.Kernel6Ideal.sig) (Val := Elt Bits) (Λ := Cert.Kernel6Ideal.Λ₀)) ?_
  funext l x
  match l, x with
  | ⟨0, _⟩, (t, s) => rfl

theorem defs_same : Cert.Kernel6.defs (F := Bits) = Cert.Kernel6Ideal.defs (F := Bits) := by
  unfold Cert.Kernel6.defs Cert.Kernel6Ideal.defs
  exact congrArg (Pipeline.defs (Cert.Kernel6Ideal.pcfgs (F := Bits))) table_same

set_option maxHeartbeats 0 in
theorem main_same : Cert.Kernel6.main (F := Bits) = Cert.Kernel6Ideal.main (F := Bits) := rfl

end Cert.Kernel6Ideal.Ffn

end
-- ==== Proof.SecRef.lean ====
/- The second layer's experts: the reference's output, element by element. -/
module

public import proofs.«01_k».proof.Proof.SecSpec
public import proofs.«01_k».proof.Proof.Gen.Reference6Ideal.Run

@[expose] public section

set_option maxRecDepth 16384

noncomputable section

namespace Cert.Reference6Ideal.Ffn

open Cert.Reference6Ideal Cert.Reference6Ideal.Gen
open Idealize.ShloMosaic Idealize.ShloMosaic.TcCoe Idealize.ShloMosaic.Tactic
open Cert.Spec Cert.SecSpec

/-- The running sums of the counts. -/
def cumR (x : IVec S4 32) : IVec S4 32 := Host.reduceWindow IntOp.addi ![4] ![1] ![3] ![0] x (broadcastInDim S_ ![] bcast_S_S_ (constantI S_ 32 0#32)) reduceWindows_S4_S4_w4s1p3_0 h_S_

/-- The tile of each row. -/
def tileR : IVec S38912 32 := shapeCast S38912 (iotaInDim S76x512 32 0) shapeCasts_S76x512_S38912

def totalR (s : IVec S4 32) : IVec S_ 32 := shapeCast S_ (extractStridedSlice S1 ![3] s slices_S4_S1_3) shapeCasts_S1_S_

/-- Whether a row's tile is in use. -/
def usedR (s : IVec S4 32) : IVec S38912 1 := cmpi .slt tileR (broadcastInDim S38912 ![] bcast_S_S38912 (totalR s))

/-- Which groups lie before a row's tile. -/
def pastR (s : IVec S4 32) : IVec S38912x4 1 :=
  cmpi .sge (broadcastInDim S38912x4 ![0, 1] bcast_S38912x1_S38912x4_0_1 (broadcastInDim S38912x1 ![0] bcast_S38912_S38912x1_0 tileR))
    (broadcastInDim S38912x4 ![0, 1] bcast_S1x4_S38912x4_0_1 (broadcastInDim S1x4 ![1] bcast_S4_S1x4_1 s))

/-- The group of a row. -/
def groupR (s : IVec S4 32) : IVec S38912 32 := Host.reduce IntOp.addi (extui 32 (pastR s) natLt_1_32) (constantI S_ 32 0#32) reducesTo_S38912x4_S38912_d1 h_S_

/-- Whether an expert is of a row's group. -/
def mineR (s : IVec S4 32) : IVec S38912x16 1 :=
  andi (broadcastInDim S38912x16 ![0, 1] bcast_S38912x1_S38912x16_0_1 (broadcastInDim S38912x1 ![0] bcast_S38912_S38912x1_0 (usedR s)))
    (cmpi .eq (broadcastInDim S38912x16 ![0, 1] bcast_S38912x1_S38912x16_0_1 (broadcastInDim S38912x1 ![0] bcast_S38912_S38912x1_0 (groupR s)))
      (broadcastInDim S38912x16 ![0, 1] bcast_S1x16_S38912x16_0_1 (broadcastInDim S1x16 ![1] bcast_S16_S1x16_1 (shapeCast S16 (iotaInDim S4x4 32 0) shapeCasts_S4x4_S16))))

/-- Each row's gate for each expert. -/
def gatesR (s : IVec S4 32) (g : FVec Ideal S38912x4 .f32) : FVec Ideal S38912x16 .f32 :=
  select (mineR s) (concatenate S38912x16 1 [⟨S38912x4, g⟩, ⟨S38912x4, g⟩, ⟨S38912x4, g⟩, ⟨S38912x4, g⟩] concatenates_S38912x4_S38912x4_S38912x4_S38912x4_S38912x16_d1)
    (broadcastInDim S38912x16 ![] bcast_S_S38912x16 (id (constant S_ FTy.f32 0#32)))

/-- The rows times an expert's weights. -/
def projR (w : FVec Ideal S2x16x1024x512 .f32) (h : FVec Ideal S38912x1024 .f32) : FVec Ideal S16x38912x512 .f32 :=
  transpose S16x38912x512 [0, 2, 1] (Host.dotGeneral (φ₁ := .f32) (φ₂ := .f32) dot_S16x1024x512_S38912x1024_S16x512x38912_1_1_02_0_n_n none
    (shapeCast S16x1024x512 (extractStridedSlice S1x16x1024x512 ![1, 0, 0, 0] w slices_S2x16x1024x512_S1x16x1024x512_1_0_0_0) shapeCasts_S1x16x1024x512_S16x1024x512) h)
    transposes_S16x512x38912_S16x38912x512_0_2_1

/-- The activation. -/
def siluR (a : FVec Ideal S16x38912x512 .f32) : FVec Ideal S16x38912x512 .f32 :=
  mulf a (Host.divf (broadcastInDim S16x38912x512 ![] bcast_S_S16x38912x512 (constant S_ FTy.f32 1065353216#32))
    (addf (broadcastInDim S16x38912x512 ![] bcast_S_S16x38912x512 (constant S_ FTy.f32 1065353216#32)) (Host.exp (Host.negf a))))

/-- The experts' outputs. -/
def expR (a u : FVec Ideal S16x38912x512 .f32) (w : FVec Ideal S2x16x512x1024 .f32) : FVec Ideal S16x38912x1024 .f32 :=
  Host.dotGeneral (φ₁ := .f32) (φ₂ := .f32) dot_S16x38912x512_S16x512x1024_S16x38912x1024_2_1_1_2_0_0 none (mulf (siluR a) u)
    (shapeCast S16x512x1024 (extractStridedSlice S1x16x512x1024 ![1, 0, 0, 0] w slices_S2x16x512x1024_S1x16x512x1024_1_0_0_0) shapeCasts_S1x16x512x1024_S16x512x1024)

/-- The gated sum over the experts. -/
def sumR (g : FVec Ideal S38912x16 .f32) (y : FVec Ideal S16x38912x1024 .f32) : FVec Ideal S38912x1024 .f32 :=
  Host.reduceAdd (mulf (broadcastInDim S16x38912x1024 ![0, 1, 2] bcast_S16x38912x1_S16x38912x1024_0_1_2
      (broadcastInDim S16x38912x1 ![0, 1] bcast_S16x38912_S16x38912x1_0_1 (transpose S16x38912 [1, 0] g transposes_S38912x16_S16x38912_1_0))) y)
    (constant S_ FTy.f32 0#32) reducesTo_S16x38912x1024_S38912x1024_d0 h_S_

def refR (n : IVec S4 32) (h : FVec Ideal S38912x1024 .f32) (g : FVec Ideal S38912x4 .f32) (wg wu : FVec Ideal S2x16x1024x512 .f32) (wd : FVec Ideal S2x16x512x1024 .f32) : FVec Ideal S38912x1024 .bf16 :=
  truncf .bf16 (sumR (gatesR (cumR n) g) (expR (projR wg h) (projR wu h) wd)) bitsLt_bf16_f32

theorem res_eq (m : (x : Loc nD τ sig) → Buf (Elt Ideal) x) (c : Dev nD) : Value.res_main_v44 m c = refR (m (c.tc.loc main_arg0)) (m (c.tc.loc main_arg1)) (m (c.tc.loc main_arg2)) (m (c.tc.loc main_arg3)) (m (c.tc.loc main_arg4)) (m (c.tc.loc main_arg5)) := by
  unfold Value.res_main_v44 refR sumR gatesR mineR expR siluR projR groupR pastR usedR tileR totalR cumR
  rfl

variable (s : IVec S4 32) (h : FVec Ideal S38912x1024 .f32) (g : FVec Ideal S38912x4 .f32) (wg wu w : FVec Ideal S2x16x1024x512 .f32) (wd : FVec Ideal S2x16x512x1024 .f32)

abbrev sums : Fin 4 → BitVec 32 := fun k => s (ix1 k)

theorem totalR_at (j : S_.Idx) : totalR s j = s (ix1 3) := by
  unfold totalR; pointwise

theorem tileR_at (r : Fin 38912) : tileR (ix1 r) = BitVec.ofNat 32 (r.val / 512) := by
  unfold tileR; pointwise

theorem usedR_at (r : Fin 38912) : usedR s (ix1 r) = BitVec.ofBool (decide (used (sums s) (r.val / 512))) := by
  unfold usedR
  pointwise [totalR_at, tileR_at]
  unfold IntOp.cmpi used
  exact congrArg BitVec.ofBool Bool.decide_eq_true.symm

theorem pastR_at (r : Fin 38912) (k : Fin 4) : pastR s (ix2 r k) = past (sums s) (r.val / 512) k := by
  unfold pastR
  pointwise [tileR_at]
  rfl

theorem groupR_at (r : Fin 38912) : groupR s (ix1 r) = grp (sums s) (r.val / 512) := by
  unfold groupR
  rw [reduce4]
  unfold grp
  rw [show past (sums s) (r.val / 512) = fun k => pastR s (ix2 r k) from funext fun k => (pastR_at s r k).symm]
  rfl

theorem mineR_at (r : Fin 38912) (e : Fin 16) : mineR s (ix2 r e) = IntOp.andi (BitVec.ofBool (decide (used (sums s) (r.val / 512)))) (IntOp.cmpi .eq (grp (sums s) (r.val / 512)) (BitVec.ofNat 32 (e.val / 4))) := by
  unfold mineR
  pointwise [usedR_at, groupR_at]

theorem gatesR_at (r : Fin 38912) (e : Fin 16) : gatesR s g (ix2 r e) = if used (sums s) (r.val / 512) ∧ (grp (sums s) (r.val / 512)).toNat = e.val / 4 then g (ix2 r ⟨e.val % 4, by omega⟩) else (0 : EReal) := by
  unfold gatesR
  pointwise [mineR_at]
  have hz : (id (constant (F := Ideal) S_ FTy.f32 0#32) ix0 : EReal) = 0 := Ideal.ofBits_zero_f32
  have hg : ∀ b : BitVec 32, (IntOp.cmpi CmpIPredicate.eq b (BitVec.ofNat 32 (e.val / 4)) = BitVec.ofBool (decide (b.toNat = e.val / 4))) := fun b => by
    unfold IntOp.cmpi
    refine congrArg BitVec.ofBool ?_
    have hn : (BitVec.ofNat 32 (e.val / 4)).toNat = e.val / 4 := by rw [BitVec.toNat_ofNat]; omega
    show (b == BitVec.ofNat 32 (e.val / 4)) = _
    rw [Bool.eq_iff_iff, beq_iff_eq, decide_eq_true_iff, ← BitVec.toNat_inj, hn]
  have ha : ∀ x y : Bool, IntOp.andi (BitVec.ofBool x) (BitVec.ofBool y) = BitVec.ofBool (x && y) := by decide
  rw [hg, ha, hz]
  by_cases hu : used (sums s) (r.val / 512) ∧ (grp (sums s) (r.val / 512)).toNat = e.val / 4
  · rw [if_pos hu, decide_eq_true hu.1, decide_eq_true hu.2]
    refine Eq.trans (b := (if h : e.val < 4 then g (ix2 r ⟨e.val, h⟩)
      else if h : e.val - 4 < 4 then g (ix2 r ⟨e.val - 4, h⟩)
        else if h : e.val - 4 - 4 < 4 then g (ix2 r ⟨e.val - 4 - 4, h⟩) else g (ix2 r ⟨e.val - 4 - 4 - 4, by omega⟩))) rfl ?_
    split_ifs
    all_goals exact congrArg (fun k => g (ix2 r k)) (Fin.ext (by dsimp only; omega))
  · rw [if_neg hu, show (decide (used (sums s) (r.val / 512)) && decide ((grp (sums s) (r.val / 512)).toNat = e.val / 4)) = false from by
      rw [← Bool.decide_and]; exact decide_eq_false hu]
    rfl

theorem projR_at (e : Fin 16) (r : Fin 38912) (f : Fin 512) : projR w h (ix3 e r f) = proj h w e r f := by
  unfold projR proj
  pointwise
  exact Finset.sum_congr rfl fun x _ => mul_comm _ _

theorem siluR_at (a : FVec Ideal S16x38912x512 .f32) (e : Fin 16) (r : Fin 38912) (f : Fin 512) : siluR a (ix3 e r f) = silu (a (ix3 e r f)) := by
  unfold siluR silu
  pointwise

theorem expR_at (a u : FVec Ideal S16x38912x512 .f32) (e : Fin 16) (r : Fin 38912) (d : Fin 1024) : expR a u wd (ix3 e r d) = ∑ f : Fin 512, silu (a (ix3 e r f)) * u (ix3 e r f) * wd (ix4 1 e f d) := by
  unfold expR
  pointwise [siluR_at]

theorem sumR_at (g : FVec Ideal S38912x16 .f32) (y : FVec Ideal S16x38912x1024 .f32) (r : Fin 38912) (d : Fin 1024) : sumR g y (ix2 r d) = ∑ e : Fin 16, g (ix2 r e) * y (ix3 e r d) := by
  unfold sumR
  pointwise

/-- The reference's output is the layer's. -/
theorem refR_at (n : IVec S4 32) (r : Fin 38912) (d : Fin 1024) : refR n h g wg wu wd (ix2 r d) = SecSpec.result h g wg wu wd (sums (cumR n)) r d := by
  have e1 : refR n h g wg wu wd (ix2 r d) = ∑ e : Fin 16, gatesR (cumR n) g (ix2 r e) * expert h wg wu wd e r d := by
    refine (sumR_at _ _ r d).trans (Finset.sum_congr rfl fun e _ => congrArg _ ?_)
    rw [expR_at]
    unfold expert
    exact Finset.sum_congr rfl fun f _ => by rw [projR_at, projR_at]
  rw [e1]
  unfold SecSpec.result
  by_cases hu : used (sums (cumR n)) (r.val / 512)
  · have hn := grp_lt _ _ hu
    rw [if_pos hu, ← sum_embed (exOf (grp (sums (cumR n)) (r.val / 512)).toNat)]
    · refine Finset.sum_congr rfl fun j _ => ?_
      have hv : (exOf (grp (sums (cumR n)) (r.val / 512)).toNat j).val = 4 * (grp (sums (cumR n)) (r.val / 512)).toNat + j.val := by
        unfold exOf; dsimp only; omega
      rw [gatesR_at, if_pos ⟨hu, by omega⟩]
      refine congrArg (fun k => g (ix2 r k) * _) (Fin.ext ?_)
      show (exOf (grp (sums (cumR n)) (r.val / 512)).toNat j).val % 4 = j.val
      omega
    · intro a b hab
      have := congrArg Fin.val hab
      unfold exOf at this
      dsimp only at this
      exact Fin.ext (by omega)
    · intro e he
      rw [gatesR_at, if_neg, zero_mul]
      rintro ⟨-, h4⟩
      refine he ⟨⟨e.val % 4, by omega⟩, Fin.ext ?_⟩
      unfold exOf
      dsimp only
      omega
  · rw [if_neg hu]
    exact Finset.sum_eq_zero fun e _ => by rw [gatesR_at, if_neg (fun hh => hu hh.1), zero_mul]

end Cert.Reference6Ideal.Ffn

end
-- ==== Proof.SecPre.lean ====
/- What the preconditions of the second layer's experts say: the sum of the counts isn't the least word, and the five arrays hold real values. -/
module

public import proofs.«01_k».proof.Proof.Gen.Pre_tiles6
public import proofs.«01_k».proof.Proof.Gen.Pre_finite6
public import proofs.«01_k».proof.Proof.SecTab
public import proofs.«01_k».proof.Proof.FfnPre

@[expose] public section

set_option maxRecDepth 16384

noncomputable section

namespace Cert.Kernel6Ideal.Ffn

open Cert.Kernel6Ideal.Gen
open Idealize.ShloMosaic Cert.Spec
open Cert.Pre_finite.Value (and_left and_right)
open Cert.Pre_finite2.Ffn (real_of_test)

theorem good_of_test (s : IVec S4 32) (j : S_.Idx) (h : cmpi .ne (total s) (constantI S_ 32 2147483648#32) j = 1#1) : Good s := by
  intro h3
  have e : total s j = 2147483648#32 := (total_at s j).trans h3
  have h' : IntOp.cmpi .ne (total s j) 2147483648#32 = 1#1 := h
  rw [e] at h'
  revert h'; decide

theorem tiles_good {F : FTy → Type} [FloatOps F] (n : IVec S4 32) (h : FVec F S38912x1024 .f32) (g : FVec F S38912x4 .f32) (wg wu : FVec F S2x16x1024x512 .f32) (wd : FVec F S2x16x512x1024 .f32)
    (hp : Cert.Pre_tiles6.fn (F := F) n h g wg wu wd = fun _ => 1#1) : Good (cumOf n) :=
  good_of_test _ (fun i => i.elim0) (congrFun hp _)

theorem finite_good (n : IVec S4 32) (h : FVec Ideal S38912x1024 .f32) (g : FVec Ideal S38912x4 .f32) (wg wu : FVec Ideal S2x16x1024x512 .f32) (wd : FVec Ideal S2x16x512x1024 .f32)
    (hp : Cert.Pre_finite6.fn (F := Ideal) n h g wg wu wd = fun _ => 1#1) : Good (cumOf n) ∧ Real' h ∧ Real' g ∧ Real' wg ∧ Real' wu ∧ Real' wd := by
  let j : S_.Idx := fun i => i.elim0
  have h0 := congrFun hp j
  dsimp only [Cert.Pre_finite6.fn, Cert.Pre_finite6.fn_part1] at h0
  have h1 := and_left _ _ h0
  have h2 := and_left _ _ h1
  have h3 := and_left _ _ h2
  have h4 := and_left _ _ h3
  exact ⟨good_of_test _ j (and_left _ _ h4), real_of_test (and_right _ _ h4), real_of_test (and_right _ _ h3), real_of_test (and_right _ _ h2), real_of_test (and_right _ _ h1), real_of_test (and_right _ _ h0)⟩

end Cert.Kernel6Ideal.Ffn

end
-- ==== Proof.InpSpec.lean ====
/- The input projection's results, in the extended reals. -/
module

public import Idealize.ShloMosaic.Lib.Pipeline.ValueKit.Point

@[expose] public section

noncomputable section

namespace Cert.InpSpec

open Idealize.ShloMosaic

/-- The small number under the roots. -/
def eps : EReal := Ideal.ofBits .f32 0x358637BD#32
def one : EReal := Ideal.ofBits .f32 0x3F800000#32
def width : EReal := Ideal.ofBits .f32 0x44800000#32
def headWidth : EReal := Ideal.ofBits .f32 0x42800000#32
def eighth : EReal := Ideal.ofBits .f32 0x3E000000#32

/-- A row normed, scaled and shifted. -/
def normed (x g sc sh : Fin 1024 → EReal) (d : Fin 1024) : EReal :=
  x d * Ideal.rsqrt (Ideal.div (∑ k, x k * x k) width + eps) * g d * (one + sc d) + sh d

/-- A normed row times a column. -/
def proj (x g sc sh w : Fin 1024 → EReal) : EReal := ∑ d, normed x g sc sh d * w d

/-- A head's lane normed over the head's lanes. -/
def headNorm (z : Fin 64 → EReal) (e : Fin 64) (g : EReal) : EReal :=
  z e * Ideal.rsqrt (Ideal.div (∑ k, z k * z k) headWidth + eps) * g

/-- The lane `e` of the head of lane `n`. -/
def headLane (n : Fin 512) (e : Fin 64) : Fin 512 := ⟨64 * (n.val / 64) + e.val, by omega⟩
def laneOf (n : Fin 512) : Fin 64 := ⟨n.val % 64, by omega⟩

theorem headLane_laneOf (n : Fin 512) : headLane n (laneOf n) = n := Fin.ext (by show 64 * (n.val / 64) + n.val % 64 = n.val; omega)

/-- Whether two lanes are of one head, as a number. -/
def sameHead (a b : ℕ) : EReal := if a / 64 = b / 64 then 1 else 0

/-- The sum over 256 lanes of those of one head is the sum over the head's 64. -/
theorem sum_head (a : Fin 256 → EReal) (l : Fin 256) :
    ∑ k, a k * sameHead k.val l.val = ∑ e : Fin 64, a ⟨64 * (l.val / 64) + e.val, by omega⟩ := by
  have h : ∀ G : Fin 256 → EReal, ∑ k, G k = ∑ q : Fin 4, ∑ e : Fin 64, G ⟨64 * q.val + e.val, by omega⟩ := fun G => by
    rw [← Fintype.sum_prod_type' (f := fun (q : Fin 4) (e : Fin 64) => G ⟨64 * q.val + e.val, by omega⟩)]
    refine (Fintype.sum_equiv (finProdFinEquiv (m := 4) (n := 64)) _ _ fun p => ?_).symm
    refine congrArg G (Fin.ext ?_)
    show 64 * p.1.val + p.2.val = p.2.val + 64 * p.1.val
    omega
  rw [h]
  have hl : l.val / 64 < 4 := by omega
  rw [Finset.sum_eq_single (⟨l.val / 64, hl⟩ : Fin 4)]
  · refine Finset.sum_congr rfl fun e _ => ?_
    unfold sameHead
    rw [if_pos (by dsimp only; omega), mul_one]
  · intro q _ hq
    refine Finset.sum_eq_zero fun e _ => ?_
    unfold sameHead
    rw [if_neg (by dsimp only; intro h'; exact hq (Fin.ext (by show q.val = l.val / 64; omega))), mul_zero]
  · intro h'; exact absurd (Finset.mem_univ _) h'

theorem inv64_bits : Ideal.ofBits .f32 0x3C800000#32 = ((1 / 64 : ℝ) : EReal) := by
  simp [Ideal.ofBits, Ideal.ieee, -EReal.coe_mul]; norm_num
theorem headWidth_eq : headWidth = ((64 : ℝ) : EReal) := by
  unfold headWidth
  simp [Ideal.ofBits, Ideal.ieee, -EReal.coe_mul]; norm_num

theorem mul_inv64 (a : EReal) : a * Ideal.ofBits .f32 0x3C800000#32 = Ideal.div a headWidth := by
  rw [inv64_bits, headWidth_eq, Ideal.div_coe (by norm_num)]

end Cert.InpSpec

end
-- ==== Proof.InpCalc.lean ====
/- What the input projection's stored blocks hold over the extended reals, entry by entry. -/
module

public import proofs.«01_k».proof.Proof.InpSpec
public import proofs.«01_k».proof.Proof.Gen.Kernel3Ideal.Skeleton

@[expose] public section

set_option maxRecDepth 16384

noncomputable section

namespace Cert.Kernel3Ideal.Inp

open Cert.Kernel3Ideal.Gen Cert.InpSpec
open Idealize.ShloMosaic Idealize.ShloMosaic.TcCoe Idealize.ShloMosaic.Tactic

/-- The normed block. -/
def hblk (x : Vec Ideal S1024x1024 .f32) (sh sc : Vec Ideal S1x1x1024 .f32) (g : Vec Ideal S1x1024 .f32) : FVec Ideal S1024x1024 .bf16 :=
  k0_pay10 (k0_pay5 x) (k0_pay6 g) (k0_pay7 sh) (k0_pay8 sc) (k0_pay9 x) (Scalar.ofBits .f32 0x358637BD#32)

theorem pay9_at (x : Vec Ideal S1024x1024 .f32) (p : Fin 1024) : k0_pay9 x (ix2 p 0) = Ideal.div (∑ k : Fin 1024, x (ix2 p k) * x (ix2 p k)) width := by
  unfold k0_pay9 k0_pay5 width
  pointwise

theorem hblk_at (x : Vec Ideal S1024x1024 .f32) (sh sc : Vec Ideal S1x1x1024 .f32) (g : Vec Ideal S1x1024 .f32) (p d : Fin 1024) :
    hblk x sh sc g (ix2 p d) = normed (fun k => x (ix2 p k)) (fun k => g (ix2 0 k)) (fun k => sc (ix3 0 0 k)) (fun k => sh (ix3 0 0 k)) d := by
  unfold hblk k0_pay10 k0_pay5 k0_pay6 k0_pay7 k0_pay8 normed eps one
  pointwise [pay9_at]

/-- A block times 512 columns. -/
def mm (h : FVec Ideal S1024x1024 .bf16) (w : Vec Ideal S1024x512 .bf16) (p : Fin 1024) (n : Fin 512) : EReal := ∑ d : Fin 1024, h (ix2 p d) * w (ix2 d n)

theorem pay13_at (h : FVec Ideal S1024x1024 .bf16) (w : Vec Ideal S1024x512 .bf16) (p : Fin 1024) (n : Fin 512) : k0_pay13 h w (ix2 p n) = mm h w p n := by
  unfold k0_pay13 mm
  pointwise
theorem pay14_at (h : FVec Ideal S1024x1024 .bf16) (w : Vec Ideal S1024x512 .bf16) (p : Fin 1024) (n : Fin 512) : k0_pay14 h w (ix2 p n) = mm h w p n := by
  unfold k0_pay14 mm
  pointwise
theorem pay20_at (h : FVec Ideal S1024x1024 .bf16) (w : Vec Ideal S1024x512 .bf16) (p : Fin 1024) (n : Fin 512) : k0_pay20 h w (ix2 p n) = mm h w p n := by
  unfold k0_pay20 mm
  pointwise

/-- The sums of the squares of 256 lanes, head by head. -/
def sums0 (z : FVec Ideal S1024x512 .f32) (i : Vec Ideal S256x256 .bf16) : FVec Ideal S1024x256 .f32 :=
  matmul (φ₁ := .bf16) (φ₂ := .bf16) dot_S1024x256_S256x256_S1024x256_1_0_0_1_n_n none
    (extractStridedSlice S1024x256 ![0, 0] (truncf .bf16 (mulf z z) bitsLt_bf16_f32) slices_S1024x512_o0_0_S1024x256)
    (shapeCast S256x256 i shapeCasts_S256x256_S256x256) (constant S1024x256 .f32 0x00000000#32)
def sums1 (z : FVec Ideal S1024x512 .f32) (i : Vec Ideal S256x256 .bf16) : FVec Ideal S1024x256 .f32 :=
  matmul (φ₁ := .bf16) (φ₂ := .bf16) dot_S1024x256_S256x256_S1024x256_1_0_0_1_n_n none
    (extractStridedSlice S1024x256 ![0, 256] (truncf .bf16 (mulf z z) bitsLt_bf16_f32) slices_S1024x512_o0_256_S1024x256)
    (shapeCast S256x256 i shapeCasts_S256x256_S256x256) (constant S1024x256 .f32 0x00000000#32)
def sums (a b : FVec Ideal S1024x256 .f32) : FVec Ideal S1024x512 .f32 :=
  concatenate S1024x512 1 [⟨S1024x256, a⟩, ⟨S1024x256, b⟩] concatenates_S1024x256_S1024x256_S1024x512_d1

/-- The heads normed, from the sums. -/
def qkBlk (z s : FVec Ideal S1024x512 .f32) (g : Vec Ideal S1x512 .f32) : FVec Ideal S1024x512 .bf16 :=
  truncf .bf16 (mulf (mulf z (rsqrt (addf (mulf s (broadcast S1024x512 (Scalar.ofBits .f32 0x3C800000#32))) (broadcast S1024x512 (Scalar.ofBits .f32 0x358637BD#32)))))
    (broadcastTo S1024x512 (shapeCast S1x512 g shapeCasts_S1x512_S1x512) broadcasts_S1x512_S1024x512)) bitsLt_bf16_f32

theorem sums0_at (z : FVec Ideal S1024x512 .f32) (i : Vec Ideal S256x256 .bf16) (p : Fin 1024) (n : Fin 256) :
    sums0 z i (ix2 p n) = ∑ k : Fin 256, z (ix2 p ⟨k.val, by omega⟩) * z (ix2 p ⟨k.val, by omega⟩) * i (ix2 k n) := by
  unfold sums0
  pointwise
theorem sums1_at (z : FVec Ideal S1024x512 .f32) (i : Vec Ideal S256x256 .bf16) (p : Fin 1024) (n : Fin 256) :
    sums1 z i (ix2 p n) = ∑ k : Fin 256, z (ix2 p ⟨256 + k.val, by omega⟩) * z (ix2 p ⟨256 + k.val, by omega⟩) * i (ix2 k n) := by
  unfold sums1
  pointwise
theorem sums_at (a b : FVec Ideal S1024x256 .f32) (p : Fin 1024) (n : Fin 512) :
    sums a b (ix2 p n) = if h : n.val < 256 then a (ix2 p ⟨n.val, h⟩) else b (ix2 p ⟨n.val - 256, by omega⟩) := by
  unfold sums
  pointwise
theorem qkBlk_at (z s : FVec Ideal S1024x512 .f32) (g : Vec Ideal S1x512 .f32) (p : Fin 1024) (n : Fin 512) :
    qkBlk z s g (ix2 p n) = z (ix2 p n) * Ideal.rsqrt (s (ix2 p n) * Ideal.ofBits .f32 0x3C800000#32 + eps) * g (ix2 0 n) := by
  unfold qkBlk eps
  pointwise

theorem heads_at (z : FVec Ideal S1024x512 .f32) (i : Vec Ideal S256x256 .bf16)
    (hi : ∀ a b : Fin 256, i (ix2 a b) = sameHead a.val b.val) (p : Fin 1024) (n : Fin 512) :
    sums (sums0 z i) (sums1 z i) (ix2 p n) = ∑ e : Fin 64, z (ix2 p (headLane n e)) * z (ix2 p (headLane n e)) := by
  rw [sums_at]
  split
  · rename_i h
    rw [sums0_at]
    simp only [hi]
    rw [sum_head (fun k => z (ix2 p ⟨k.val, by omega⟩) * z (ix2 p ⟨k.val, by omega⟩)) ⟨n.val, h⟩]
    rfl
  · rename_i h
    rw [sums1_at]
    simp only [hi]
    rw [sum_head (fun k => z (ix2 p ⟨256 + k.val, by omega⟩) * z (ix2 p ⟨256 + k.val, by omega⟩)) ⟨n.val - 256, by omega⟩]
    refine Finset.sum_congr rfl fun e _ => ?_
    have he : (⟨256 + (64 * ((n.val - 256) / 64) + e.val), by omega⟩ : Fin 512) = headLane n e :=
      Fin.ext (by show 256 + (64 * ((n.val - 256) / 64) + e.val) = 64 * (n.val / 64) + e.val; omega)
    show z (ix2 p ⟨256 + (64 * ((n.val - 256) / 64) + e.val), _⟩) * z (ix2 p ⟨256 + (64 * ((n.val - 256) / 64) + e.val), _⟩) = _
    rw [he]

theorem qk_at (z : FVec Ideal S1024x512 .f32) (i : Vec Ideal S256x256 .bf16) (g : Vec Ideal S1x512 .f32)
    (hi : ∀ a b : Fin 256, i (ix2 a b) = sameHead a.val b.val) (p : Fin 1024) (n : Fin 512) :
    qkBlk z (sums (sums0 z i) (sums1 z i)) g (ix2 p n) = headNorm (fun e => z (ix2 p (headLane n e))) (laneOf n) (g (ix2 0 n)) := by
  rw [qkBlk_at, heads_at z i hi, mul_inv64]
  unfold headNorm
  show _ = z (ix2 p (headLane n (laneOf n))) * _ * _
  rw [headLane_laneOf]

theorem pay12_at (h : FVec Ideal S1024x1024 .bf16) (w : Vec Ideal S1024x512 .bf16) (i : Vec Ideal S256x256 .bf16) (g : Vec Ideal S1x512 .f32)
    (hi : ∀ a b : Fin 256, i (ix2 a b) = sameHead a.val b.val) (p : Fin 1024) (n : Fin 512) :
    k0_pay12 h w i i g (ix2 p n) = headNorm (fun e => mm h w p (headLane n e)) (laneOf n) (g (ix2 0 n)) := by
  refine Eq.trans (b := qkBlk (k0_pay14 h w) (sums (sums0 (k0_pay14 h w) i) (sums1 (k0_pay14 h w) i)) g (ix2 p n)) (by unfold k0_pay12 qkBlk sums sums0 sums1 k0_pay14; rfl) ?_
  rw [qk_at _ _ _ hi]
  simp only [pay14_at]

theorem pay11_at (x : Vec Ideal S1024x1024 .f32) (sh sc : Vec Ideal S1x1x1024 .f32) (gn : Vec Ideal S1x1024 .f32)
    (w : Vec Ideal S1024x512 .bf16) (i : Vec Ideal S256x256 .bf16) (g : Vec Ideal S1x512 .f32)
    (hi : ∀ a b : Fin 256, i (ix2 a b) = sameHead a.val b.val) (p : Fin 1024) (n : Fin 512) :
    k0_pay11 (k0_pay5 x) (k0_pay6 gn) (k0_pay7 sh) (k0_pay8 sc) (k0_pay9 x) (Scalar.ofBits .f32 0x358637BD#32) w i i g (ix2 p n)
      = headNorm (fun e => mm (hblk x sh sc gn) w p (headLane n e)) (laneOf n) (g (ix2 0 n)) :=
  Eq.trans (by unfold k0_pay11 k0_pay12 hblk; rfl) (pay12_at (hblk x sh sc gn) w i g hi p n)

/-- The four groups of 128 lanes. -/
theorem grp_at (z : FVec Ideal S1024x512 .f32) (p : Fin 1024) (l : Fin 128) :
    shapeCast S1x1024x128 (extractStridedSlice S1024x128 ![0, 0] z slices_S1024x512_o0_0_S1024x128) shapeCasts_S1024x128_S1x1024x128 (ix3 0 p l) = z (ix2 p ⟨l.val, by omega⟩)
    ∧ shapeCast S1x1024x128 (extractStridedSlice S1024x128 ![0, 128] z slices_S1024x512_o0_128_S1024x128) shapeCasts_S1024x128_S1x1024x128 (ix3 0 p l) = z (ix2 p ⟨128 + l.val, by omega⟩)
    ∧ shapeCast S1x1024x128 (extractStridedSlice S1024x128 ![0, 256] z slices_S1024x512_o0_256_S1024x128) shapeCasts_S1024x128_S1x1024x128 (ix3 0 p l) = z (ix2 p ⟨256 + l.val, by omega⟩)
    ∧ shapeCast S1x1024x128 (extractStridedSlice S1024x128 ![0, 384] z slices_S1024x512_o0_384_S1024x128) shapeCasts_S1024x128_S1x1024x128 (ix3 0 p l) = z (ix2 p ⟨384 + l.val, by omega⟩) := by
  refine ⟨?_, ?_, ?_, ?_⟩ <;> pointwise

theorem pay2_at (x : Vec Ideal S1x1024x512 .f32) : k0_pay2 x = x := by
  funext y; unfold k0_pay2; pointwise
theorem pay3_at (x : Vec Ideal S1x1024x512 .f32) : k0_pay3 x = x := by
  funext y; unfold k0_pay3; pointwise
theorem pay4_at (x : Vec Ideal S1x512x1024 .f32) : k0_pay4 x = x := by
  funext y; unfold k0_pay4; pointwise

end Cert.Kernel3Ideal.Inp

end
-- ==== Proof.InpArr.lean ====
/- The arrays the input projection leaves, of the arrays its windows read. -/
module

public import proofs.«01_k».proof.Proof.InpCalc
public import proofs.«01_k».proof.Proof.Gen.Kernel3Ideal.Frame
public import Idealize.ShloMosaic.Lib.Pipeline.ValueKit.Basic
public import Idealize.ShloMosaic.Lib.Pipeline.ValueKit.Tiles
public import Idealize.ShloMosaic.Lib.Pipeline.Covers

@[expose] public section

set_option maxRecDepth 16384

noncomputable section

namespace Cert.Kernel3Ideal.Inp

open Cert.Kernel3Ideal.Gen Cert.InpSpec
open Idealize.ShloMosaic Idealize.ShloMosaic.TcCoe Idealize.ShloMosaic.Tactic
open Idealize.SL.Sem
open Idealize.ShloMosaic.Pipeline (Dat Cfg Window BodyObligation cellOf)

/-- The entry of row `r` and column `k` of the product with the weights. -/
def projAt (X : Vec Ideal S32768x1024 .f32) (SH SC : Vec Ideal S8x1x1024 .f32) (G : Vec Ideal S1x1024 .f32) (W : Vec Ideal S1024x2560 .bf16)
    (r : Fin 32768) (k : Fin 2560) : EReal :=
  proj (fun d => X (ix2 r d)) (fun d => G (ix2 0 d)) (fun d => SC (ix3 ⟨r.val / 4096, by omega⟩ 0 d)) (fun d => SH (ix3 ⟨r.val / 4096, by omega⟩ 0 d))
    (fun d => W (ix2 d k))

variable (m : (ℓ : Loc nD τ sig) → Buf (Elt Ideal) ℓ) (c : Dev nD)

/-- The product's entry, of what the program's arrays hold. -/
def pr (r : Fin 32768) (k : Fin 2560) : EReal := projAt (V m c main_v22) (V m c main_arg1) (V m c main_arg2) (V m c main_v23) (V m c main_v24) r k

theorem nt (t : Fin cfg0.N) : t.val < 32 := lt_of_lt_of_eq t.isLt (show cfg0.N = 32 by decide +kernel)

theorem ix0 : ∀ t : Fin cfg0.N, win0_0.index t = ![t.val, 0] := (by decide +kernel : ∀ t : Fin grid0.N, _)
theorem ix1' : ∀ t : Fin cfg0.N, win0_1.index t = ![t.val / 4, 0, 0] := (by decide +kernel : ∀ t : Fin grid0.N, _)
theorem ix2' : ∀ t : Fin cfg0.N, win0_2.index t = ![t.val / 4, 0, 0] := (by decide +kernel : ∀ t : Fin grid0.N, _)
theorem ix3' : ∀ t : Fin cfg0.N, win0_3.index t = ![0, 0] := (by decide +kernel : ∀ t : Fin grid0.N, _)
theorem ix4' : ∀ t : Fin cfg0.N, win0_4.index t = ![0, 0] := (by decide +kernel : ∀ t : Fin grid0.N, _)
theorem ix5 : ∀ t : Fin cfg0.N, win0_5.index t = ![0, 0] := (by decide +kernel : ∀ t : Fin grid0.N, _)
theorem ix6 : ∀ t : Fin cfg0.N, win0_6.index t = ![0, 0] := (by decide +kernel : ∀ t : Fin grid0.N, _)
theorem ix7 : ∀ t : Fin cfg0.N, win0_7.index t = ![0, 0] := (by decide +kernel : ∀ t : Fin grid0.N, _)
theorem ix8 : ∀ t : Fin cfg0.N, win0_8.index t = ![t.val, 0, 0] := (by decide +kernel : ∀ t : Fin grid0.N, _)
theorem ix9 : ∀ t : Fin cfg0.N, win0_9.index t = ![t.val, 0, 0] := (by decide +kernel : ∀ t : Fin grid0.N, _)
theorem ix10 : ∀ t : Fin cfg0.N, win0_10.index t = ![t.val, 0, 0] := (by decide +kernel : ∀ t : Fin grid0.N, _)
theorem ix11 : ∀ t : Fin cfg0.N, win0_11.index t = ![t.val, 0] := (by decide +kernel : ∀ t : Fin grid0.N, _)
theorem ix12 : ∀ t : Fin cfg0.N, win0_12.index t = ![t.val, 0] := (by decide +kernel : ∀ t : Fin grid0.N, _)
theorem ix13 : ∀ t : Fin cfg0.N, win0_13.index t = ![t.val, 0] := (by decide +kernel : ∀ t : Fin grid0.N, _)
theorem ix14 : ∀ t : Fin cfg0.N, win0_14.index t = ![0, t.val, 0] := (by decide +kernel : ∀ t : Fin grid0.N, _)
theorem ix15 : ∀ t : Fin cfg0.N, win0_15.index t = ![0, t.val, 0] := (by decide +kernel : ∀ t : Fin grid0.N, _)
theorem ix16 : ∀ t : Fin cfg0.N, win0_16.index t = ![t.val, 0, 0] := (by decide +kernel : ∀ t : Fin grid0.N, _)
theorem ix17 : ∀ t : Fin cfg0.N, win0_17.index t = ![t.val, 0, 0] := (by decide +kernel : ∀ t : Fin grid0.N, _)
theorem ix18 : ∀ t : Fin cfg0.N, win0_18.index t = ![t.val, 0, 0] := (by decide +kernel : ∀ t : Fin grid0.N, _)

/-- Row `p` of block `t`. -/
def rowOf (t : Fin cfg0.N) (p : Fin 1024) : Fin 32768 := ⟨1024 * t.val + p.val, by have := nt t; omega⟩

theorem ib0 (t : Fin cfg0.N) (p d : Fin 1024) : iblk m c 0 t (ix2 p d : S1024x1024.Idx) = V m c main_v22 (ix2 (rowOf t p) d : S32768x1024.Idx) := by
  show V m c main_v22 ((win0_0.blk t).view.emb (ix2 p d : S1024x1024.Idx)) = _
  congr 1
  unfold rowOf
  blk_ext [ix0 t]
theorem ib1 (t : Fin cfg0.N) (d : Fin 1024) : iblk m c 1 t (ix3 0 0 d : S1x1x1024.Idx) = V m c main_arg1 (ix3 ⟨t.val / 4, by have := nt t; omega⟩ 0 d : S8x1x1024.Idx) := by
  show V m c main_arg1 ((win0_1.blk t).view.emb (ix3 0 0 d : S1x1x1024.Idx)) = _
  congr 1
  blk_ext [ix1' t]
theorem ib2 (t : Fin cfg0.N) (d : Fin 1024) : iblk m c 2 t (ix3 0 0 d : S1x1x1024.Idx) = V m c main_arg2 (ix3 ⟨t.val / 4, by have := nt t; omega⟩ 0 d : S8x1x1024.Idx) := by
  show V m c main_arg2 ((win0_2.blk t).view.emb (ix3 0 0 d : S1x1x1024.Idx)) = _
  congr 1
  blk_ext [ix2' t]
theorem ib3 (t : Fin cfg0.N) (y : S1x1024.Idx) : iblk m c 3 t y = V m c main_v23 y := by
  show V m c main_v23 ((win0_3.blk t).view.emb y) = _
  congr 1
  blk_ext [ix3' t]
theorem ib4 (t : Fin cfg0.N) (y : S1024x2560.Idx) : iblk m c 4 t y = V m c main_v24 y := by
  show V m c main_v24 ((win0_4.blk t).view.emb y) = _
  congr 1
  blk_ext [ix4' t]
theorem ib5 (t : Fin cfg0.N) : iblk m c 5 t = V m c main_v8 := by
  funext y
  show V m c main_v8 ((win0_5.blk t).view.emb y) = _
  congr 1
  blk_ext [ix5 t]
theorem ib6 (t : Fin cfg0.N) : iblk m c 6 t = V m c main_v14 := by
  funext y
  show V m c main_v14 ((win0_6.blk t).view.emb y) = _
  congr 1
  blk_ext [ix6 t]
theorem ib7 (t : Fin cfg0.N) : iblk m c 7 t = V m c main_v18 := by
  funext y
  show V m c main_v18 ((win0_7.blk t).view.emb y) = _
  congr 1
  blk_ext [ix7 t]
theorem ib8 (t : Fin cfg0.N) (y : S1x1024x512.Idx) : iblk m c 8 t y = V m c main_v19 (ix3 ⟨t.val, nt t⟩ (y 1) (y 2) : S32x1024x512.Idx) := by
  have h0 : (y 0).val = 0 := Nat.lt_one_iff.mp (y 0).isLt
  show V m c main_v19 ((win0_8.blk t).view.emb y) = _
  congr 1
  blk_ext [ix8 t, h0]
theorem ib9 (t : Fin cfg0.N) (y : S1x1024x512.Idx) : iblk m c 9 t y = V m c main_v20 (ix3 ⟨t.val, nt t⟩ (y 1) (y 2) : S32x1024x512.Idx) := by
  have h0 : (y 0).val = 0 := Nat.lt_one_iff.mp (y 0).isLt
  show V m c main_v20 ((win0_9.blk t).view.emb y) = _
  congr 1
  blk_ext [ix9 t, h0]
theorem ib10 (t : Fin cfg0.N) (y : S1x512x1024.Idx) : iblk m c 10 t y = V m c main_v21 (ix3 ⟨t.val, nt t⟩ (y 1) (y 2) : S32x512x1024.Idx) := by
  have h0 : (y 0).val = 0 := Nat.lt_one_iff.mp (y 0).isLt
  show V m c main_v21 ((win0_10.blk t).view.emb y) = _
  congr 1
  blk_ext [ix10 t, h0]

/-- The normed block of a point. -/
def hAt (t : Fin cfg0.N) : FVec Ideal S1024x1024 .bf16 := hblk (iblk m c 0 t) (iblk m c 1 t) (iblk m c 2 t) (iblk m c 3 t)

/-- The product's entry, of a point's blocks. -/
theorem mm_at (t : Fin cfg0.N) (w : Vec Ideal S1024x512 .bf16) (o : ℕ) (ho : o + 512 ≤ 2560)
    (hw : ∀ (d : Fin 1024) (n : Fin 512), w (ix2 d n) = iblk m c 4 t (ix2 d ⟨o + n.val, by omega⟩ : S1024x2560.Idx)) (p : Fin 1024) (n : Fin 512) :
    mm (hAt m c t) w p n = pr m c (rowOf t p) ⟨o + n.val, by omega⟩ := by
  have hN := nt t
  unfold mm pr projAt proj hAt
  refine Finset.sum_congr rfl fun d _ => ?_
  rw [hblk_at, hw, ib4]
  have hr : (⟨(rowOf t p).val / 4096, by omega⟩ : Fin 8) = ⟨t.val / 4, by omega⟩ := Fin.ext (by show (1024 * t.val + p.val) / 4096 = t.val / 4; omega)
  rw [hr]
  simp only [ib0, ib1, ib2, ib3]

theorem hz2 : ∀ a, (![0, 0] : Fin 2 → ℕ) a = 0 := by decide
theorem hz3 : ∀ a, (![0, 0, 0] : Fin 3 → ℕ) a = 0 := by decide

section Loads
variable {e : EltTy}
theorem l2 (x : Vec Ideal S1024x1024 .f32) : View.ld x r0_2 = x := View.ld_unit_lit _ x hz2
theorem l3 (x : Vec Ideal S1x1024 .f32) : View.ld x r0_3 = x := View.ld_unit_lit _ x hz2
theorem l4 (x : Vec Ideal S1x1x1024 .f32) : View.ld x r0_4 = x := View.ld_unit_lit _ x hz3
theorem l6 (x : Vec Ideal S256x256 .bf16) : View.ld x r0_6 = x := View.ld_unit_lit _ x hz2
theorem l7 (x : Vec Ideal S1x512 .f32) : View.ld x r0_7 = x := View.ld_unit_lit _ x hz2
theorem l0 (x : Vec Ideal S1x1024x512 .f32) : View.ld x r0_0 = x := View.ld_unit_lit _ x hz3
theorem l1 (x : Vec Ideal S1x512x1024 .f32) : View.ld x r0_1 = x := View.ld_unit_lit _ x hz3
end Loads

theorem pay30_eq (t : Fin cfg0.N) : k0_pay30 (iblk m c 0 t) (iblk m c 1 t) (iblk m c 2 t) (iblk m c 3 t) (iblk m c 4 t) (iblk m c 5 t) (iblk m c 6 t) (iblk m c 7 t) (iblk m c 8 t) (iblk m c 9 t) (iblk m c 10 t) = hAt m c t := by
  unfold k0_pay30 k0_pay25 k0_pay26 k0_pay27 k0_pay28 k0_pay29 hAt hblk
  rw [l2, l3, l4, l4]

theorem col5 (w : Vec Ideal S1024x2560 .bf16) (d : Fin 1024) (n : Fin 512) : View.ld w r0_5 (ix2 d n : S1024x512.Idx) = w (ix2 d ⟨0 + n.val, by omega⟩) :=
  View.ld_unit_apply_of w _ _ _ _ _ fun a => by
    match a with
    | ⟨0, _⟩ => exact (Nat.zero_add _).symm
    | ⟨1, _⟩ => rfl
theorem col9 (w : Vec Ideal S1024x2560 .bf16) (d : Fin 1024) (n : Fin 512) : View.ld w r0_9 (ix2 d n : S1024x512.Idx) = w (ix2 d ⟨512 + n.val, by omega⟩) :=
  View.ld_unit_apply_of w _ _ _ _ _ fun a => by
    match a with
    | ⟨0, _⟩ => exact (Nat.zero_add _).symm
    | ⟨1, _⟩ => rfl
theorem col10 (w : Vec Ideal S1024x2560 .bf16) (d : Fin 1024) (n : Fin 512) : View.ld w r0_10 (ix2 d n : S1024x512.Idx) = w (ix2 d ⟨1024 + n.val, by omega⟩) :=
  View.ld_unit_apply_of w _ _ _ _ _ fun a => by
    match a with
    | ⟨0, _⟩ => exact (Nat.zero_add _).symm
    | ⟨1, _⟩ => rfl
theorem col11 (w : Vec Ideal S1024x2560 .bf16) (d : Fin 1024) (n : Fin 512) : View.ld w r0_11 (ix2 d n : S1024x512.Idx) = w (ix2 d ⟨1536 + n.val, by omega⟩) :=
  View.ld_unit_apply_of w _ _ _ _ _ fun a => by
    match a with
    | ⟨0, _⟩ => exact (Nat.zero_add _).symm
    | ⟨1, _⟩ => rfl
theorem col16 (w : Vec Ideal S1024x2560 .bf16) (d : Fin 1024) (n : Fin 512) : View.ld w r0_16 (ix2 d n : S1024x512.Idx) = w (ix2 d ⟨2048 + n.val, by omega⟩) :=
  View.ld_unit_apply_of w _ _ _ _ _ fun a => by
    match a with
    | ⟨0, _⟩ => exact (Nat.zero_add _).symm
    | ⟨1, _⟩ => rfl

/-- The indicator of the heads. -/
def IndOk (i : Vec Ideal S256x256 .bf16) : Prop := ∀ a b : Fin 256, i (ix2 a b) = sameHead a.val b.val

theorem out11 (hi : IndOk (V m c main_v8)) (t : Fin cfg0.N) (p : Fin 1024) (n : Fin 512) : out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 p n)
    = headNorm (fun e => pr m c (rowOf t p) ⟨0 + (headLane n e).val, by omega⟩) (laneOf n) (V m c main_v14 (ix2 0 n : S1x512.Idx)) := by
  unfold out0_11
  rw [show (View.canon _ : Vec Ideal S1024x512 .bf16) = _ from View.canon_cons_unit_lit _ _ [] hz2]
  unfold k0_pay25 k0_pay26 k0_pay27 k0_pay28 k0_pay29
  rw [l2, l3, l4, l4, l6, l7, ib5, ib6, pay11_at _ _ _ _ _ _ _ hi]
  refine congrArg (fun z => headNorm z _ _) (funext fun e => ?_)
  exact mm_at m c t _ 0 (by omega) (fun d n => col5 _ d n) p _

theorem out12 (hi : IndOk (V m c main_v8)) (t : Fin cfg0.N) (p : Fin 1024) (n : Fin 512) : out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 p n)
    = headNorm (fun e => pr m c (rowOf t p) ⟨512 + (headLane n e).val, by omega⟩) (laneOf n) (V m c main_v18 (ix2 0 n : S1x512.Idx)) := by
  unfold out0_12
  rw [show (View.canon _ : Vec Ideal S1024x512 .bf16) = _ from View.canon_cons_unit_lit _ _ [] hz2]
  rw [pay30_eq, l6, l7, ib5, ib7, pay12_at _ _ _ _ hi]
  refine congrArg (fun z => headNorm z _ _) (funext fun e => ?_)
  exact mm_at m c t _ 512 (by omega) (fun d n => col9 _ d n) p _

theorem out13 (t : Fin cfg0.N) (p : Fin 1024) (n : Fin 512) : out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 p n) = pr m c (rowOf t p) ⟨1024 + n.val, by omega⟩ := by
  unfold out0_13
  rw [show (View.canon _ : Vec Ideal S1024x512 .bf16) = _ from View.canon_cons_unit_lit _ _ [] hz2]
  rw [pay30_eq, pay13_at]
  exact mm_at m c t _ 1024 (by omega) (fun d n => col10 _ d n) p _

theorem out14 (t : Fin cfg0.N) (y : S4x1024x128.Idx) : out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) y
    = pr m c (rowOf t ⟨(y 1).val, (y 1).isLt⟩) ⟨1536 + (128 * (y 0).val + (y 2).val), by have h0 : (y 0).val < 4 := (y 0).isLt; have h2 : (y 2).val < 128 := (y 2).isLt; omega⟩ := by
  have hm := fun p n => mm_at m c t (View.ld (iblk m c 4 t) r0_11) 1536 (by omega) (fun d n => col11 _ d n) p n
  unfold out0_14
  canon_tiles x h using cover0_14 ..
  · obtain ⟨a, p, l, rfl⟩ : ∃ (a : Fin 1) (p : Fin 1024) (l : Fin 128), x = ix3 a p l := ⟨x 0, x 1, x 2, by funext d; match d with | ⟨0, _⟩ => rfl | ⟨1, _⟩ => rfl | ⟨2, _⟩ => rfl⟩
    obtain rfl : a = 0 := Subsingleton.elim _ _
    refine Eq.trans (grp_at (k0_pay14 (k0_pay30 (iblk m c 0 t) (iblk m c 1 t) (iblk m c 2 t) (iblk m c 3 t) (iblk m c 4 t) (iblk m c 5 t) (iblk m c 6 t) (iblk m c 7 t) (iblk m c 8 t) (iblk m c 9 t) (iblk m c 10 t)) (View.ld (iblk m c 4 t) r0_11)) p l).2.2.2 ?_
    rw [pay30_eq, pay14_at, hm]
    have e0 : (y 0).val = 3 := h0
    have e1 : (y 1).val = p.val := h1
    have e2 : (y 2).val = l.val := h2
    refine congr (congrArg (pr m c) (congrArg (rowOf t) (Fin.ext e1.symm))) (Fin.ext ?_)
    show 1536 + (384 + l.val) = 1536 + (128 * (y 0).val + (y 2).val)
    omega
  · obtain ⟨a, p, l, rfl⟩ : ∃ (a : Fin 1) (p : Fin 1024) (l : Fin 128), x = ix3 a p l := ⟨x 0, x 1, x 2, by funext d; match d with | ⟨0, _⟩ => rfl | ⟨1, _⟩ => rfl | ⟨2, _⟩ => rfl⟩
    obtain rfl : a = 0 := Subsingleton.elim _ _
    refine Eq.trans (grp_at (k0_pay14 (k0_pay30 (iblk m c 0 t) (iblk m c 1 t) (iblk m c 2 t) (iblk m c 3 t) (iblk m c 4 t) (iblk m c 5 t) (iblk m c 6 t) (iblk m c 7 t) (iblk m c 8 t) (iblk m c 9 t) (iblk m c 10 t)) (View.ld (iblk m c 4 t) r0_11)) p l).2.2.1 ?_
    rw [pay30_eq, pay14_at, hm]
    have e0 : (y 0).val = 2 := h0
    have e1 : (y 1).val = p.val := h1
    have e2 : (y 2).val = l.val := h2
    refine congr (congrArg (pr m c) (congrArg (rowOf t) (Fin.ext e1.symm))) (Fin.ext ?_)
    show 1536 + (256 + l.val) = 1536 + (128 * (y 0).val + (y 2).val)
    omega
  · obtain ⟨a, p, l, rfl⟩ : ∃ (a : Fin 1) (p : Fin 1024) (l : Fin 128), x = ix3 a p l := ⟨x 0, x 1, x 2, by funext d; match d with | ⟨0, _⟩ => rfl | ⟨1, _⟩ => rfl | ⟨2, _⟩ => rfl⟩
    obtain rfl : a = 0 := Subsingleton.elim _ _
    refine Eq.trans (grp_at (k0_pay14 (k0_pay30 (iblk m c 0 t) (iblk m c 1 t) (iblk m c 2 t) (iblk m c 3 t) (iblk m c 4 t) (iblk m c 5 t) (iblk m c 6 t) (iblk m c 7 t) (iblk m c 8 t) (iblk m c 9 t) (iblk m c 10 t)) (View.ld (iblk m c 4 t) r0_11)) p l).2.1 ?_
    rw [pay30_eq, pay14_at, hm]
    have e0 : (y 0).val = 1 := h0
    have e1 : (y 1).val = p.val := h1
    have e2 : (y 2).val = l.val := h2
    refine congr (congrArg (pr m c) (congrArg (rowOf t) (Fin.ext e1.symm))) (Fin.ext ?_)
    show 1536 + (128 + l.val) = 1536 + (128 * (y 0).val + (y 2).val)
    omega
  · obtain ⟨a, p, l, rfl⟩ : ∃ (a : Fin 1) (p : Fin 1024) (l : Fin 128), x = ix3 a p l := ⟨x 0, x 1, x 2, by funext d; match d with | ⟨0, _⟩ => rfl | ⟨1, _⟩ => rfl | ⟨2, _⟩ => rfl⟩
    obtain rfl : a = 0 := Subsingleton.elim _ _
    refine Eq.trans (grp_at (k0_pay14 (k0_pay30 (iblk m c 0 t) (iblk m c 1 t) (iblk m c 2 t) (iblk m c 3 t) (iblk m c 4 t) (iblk m c 5 t) (iblk m c 6 t) (iblk m c 7 t) (iblk m c 8 t) (iblk m c 9 t) (iblk m c 10 t)) (View.ld (iblk m c 4 t) r0_11)) p l).1 ?_
    rw [pay30_eq, pay14_at, hm]
    have e0 : (y 0).val = 0 := h0
    have e1 : (y 1).val = p.val := h1
    have e2 : (y 2).val = l.val := h2
    refine congr (congrArg (pr m c) (congrArg (rowOf t) (Fin.ext e1.symm))) (Fin.ext ?_)
    show 1536 + l.val = 1536 + (128 * (y 0).val + (y 2).val)
    omega

theorem out15 (t : Fin cfg0.N) (y : S4x1024x128.Idx) : out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) y
    = pr m c (rowOf t ⟨(y 1).val, (y 1).isLt⟩) ⟨2048 + (128 * (y 0).val + (y 2).val), by have h0 : (y 0).val < 4 := (y 0).isLt; have h2 : (y 2).val < 128 := (y 2).isLt; omega⟩ := by
  have hm := fun p n => mm_at m c t (View.ld (iblk m c 4 t) r0_16) 2048 (by omega) (fun d n => col16 _ d n) p n
  unfold out0_15
  canon_tiles x h using cover0_15 ..
  · obtain ⟨a, p, l, rfl⟩ : ∃ (a : Fin 1) (p : Fin 1024) (l : Fin 128), x = ix3 a p l := ⟨x 0, x 1, x 2, by funext d; match d with | ⟨0, _⟩ => rfl | ⟨1, _⟩ => rfl | ⟨2, _⟩ => rfl⟩
    obtain rfl : a = 0 := Subsingleton.elim _ _
    refine Eq.trans (grp_at (k0_pay20 (k0_pay30 (iblk m c 0 t) (iblk m c 1 t) (iblk m c 2 t) (iblk m c 3 t) (iblk m c 4 t) (iblk m c 5 t) (iblk m c 6 t) (iblk m c 7 t) (iblk m c 8 t) (iblk m c 9 t) (iblk m c 10 t)) (View.ld (iblk m c 4 t) r0_16)) p l).2.2.2 ?_
    rw [pay30_eq, pay20_at, hm]
    have e0 : (y 0).val = 3 := h0
    have e1 : (y 1).val = p.val := h1
    have e2 : (y 2).val = l.val := h2
    refine congr (congrArg (pr m c) (congrArg (rowOf t) (Fin.ext e1.symm))) (Fin.ext ?_)
    show 2048 + (384 + l.val) = 2048 + (128 * (y 0).val + (y 2).val)
    omega
  · obtain ⟨a, p, l, rfl⟩ : ∃ (a : Fin 1) (p : Fin 1024) (l : Fin 128), x = ix3 a p l := ⟨x 0, x 1, x 2, by funext d; match d with | ⟨0, _⟩ => rfl | ⟨1, _⟩ => rfl | ⟨2, _⟩ => rfl⟩
    obtain rfl : a = 0 := Subsingleton.elim _ _
    refine Eq.trans (grp_at (k0_pay20 (k0_pay30 (iblk m c 0 t) (iblk m c 1 t) (iblk m c 2 t) (iblk m c 3 t) (iblk m c 4 t) (iblk m c 5 t) (iblk m c 6 t) (iblk m c 7 t) (iblk m c 8 t) (iblk m c 9 t) (iblk m c 10 t)) (View.ld (iblk m c 4 t) r0_16)) p l).2.2.1 ?_
    rw [pay30_eq, pay20_at, hm]
    have e0 : (y 0).val = 2 := h0
    have e1 : (y 1).val = p.val := h1
    have e2 : (y 2).val = l.val := h2
    refine congr (congrArg (pr m c) (congrArg (rowOf t) (Fin.ext e1.symm))) (Fin.ext ?_)
    show 2048 + (256 + l.val) = 2048 + (128 * (y 0).val + (y 2).val)
    omega
  · obtain ⟨a, p, l, rfl⟩ : ∃ (a : Fin 1) (p : Fin 1024) (l : Fin 128), x = ix3 a p l := ⟨x 0, x 1, x 2, by funext d; match d with | ⟨0, _⟩ => rfl | ⟨1, _⟩ => rfl | ⟨2, _⟩ => rfl⟩
    obtain rfl : a = 0 := Subsingleton.elim _ _
    refine Eq.trans (grp_at (k0_pay20 (k0_pay30 (iblk m c 0 t) (iblk m c 1 t) (iblk m c 2 t) (iblk m c 3 t) (iblk m c 4 t) (iblk m c 5 t) (iblk m c 6 t) (iblk m c 7 t) (iblk m c 8 t) (iblk m c 9 t) (iblk m c 10 t)) (View.ld (iblk m c 4 t) r0_16)) p l).2.1 ?_
    rw [pay30_eq, pay20_at, hm]
    have e0 : (y 0).val = 1 := h0
    have e1 : (y 1).val = p.val := h1
    have e2 : (y 2).val = l.val := h2
    refine congr (congrArg (pr m c) (congrArg (rowOf t) (Fin.ext e1.symm))) (Fin.ext ?_)
    show 2048 + (128 + l.val) = 2048 + (128 * (y 0).val + (y 2).val)
    omega
  · obtain ⟨a, p, l, rfl⟩ : ∃ (a : Fin 1) (p : Fin 1024) (l : Fin 128), x = ix3 a p l := ⟨x 0, x 1, x 2, by funext d; match d with | ⟨0, _⟩ => rfl | ⟨1, _⟩ => rfl | ⟨2, _⟩ => rfl⟩
    obtain rfl : a = 0 := Subsingleton.elim _ _
    refine Eq.trans (grp_at (k0_pay20 (k0_pay30 (iblk m c 0 t) (iblk m c 1 t) (iblk m c 2 t) (iblk m c 3 t) (iblk m c 4 t) (iblk m c 5 t) (iblk m c 6 t) (iblk m c 7 t) (iblk m c 8 t) (iblk m c 9 t) (iblk m c 10 t)) (View.ld (iblk m c 4 t) r0_16)) p l).1 ?_
    rw [pay30_eq, pay20_at, hm]
    have e0 : (y 0).val = 0 := h0
    have e1 : (y 1).val = p.val := h1
    have e2 : (y 2).val = l.val := h2
    refine congr (congrArg (pr m c) (congrArg (rowOf t) (Fin.ext e1.symm))) (Fin.ext ?_)
    show 2048 + l.val = 2048 + (128 * (y 0).val + (y 2).val)
    omega

theorem out16 (t : Fin cfg0.N) (y : S1x1024x512.Idx) : out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) y = V m c main_v19 (ix3 ⟨t.val, nt t⟩ (y 1) (y 2) : S32x1024x512.Idx) := by
  unfold out0_16
  rw [show (View.canon _ : Vec Ideal S1x1024x512 .bf16) = _ from View.canon_cons_unit_lit _ _ [] hz3]
  rw [l0, pay2_at, ib8]

theorem out17 (t : Fin cfg0.N) (y : S1x1024x512.Idx) : out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) y = V m c main_v20 (ix3 ⟨t.val, nt t⟩ (y 1) (y 2) : S32x1024x512.Idx) := by
  unfold out0_17
  rw [show (View.canon _ : Vec Ideal S1x1024x512 .bf16) = _ from View.canon_cons_unit_lit _ _ [] hz3]
  rw [l0, pay3_at, ib9]

theorem out18 (t : Fin cfg0.N) (y : S1x512x1024.Idx) : out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) y = V m c main_v21 (ix3 ⟨t.val, nt t⟩ (y 1) (y 2) : S32x512x1024.Idx) := by
  unfold out0_18
  rw [show (View.canon _ : Vec Ideal S1x512x1024 .bf16) = _ from View.canon_cons_unit_lit _ _ [] hz3]
  rw [l1, pay4_at, ib10]

end Cert.Kernel3Ideal.Inp

end
-- ==== Proof.InpOut.lean ====
/- The eight arrays the input projection leaves. -/
module

public import proofs.«01_k».proof.Proof.InpArr

@[expose] public section

set_option maxRecDepth 16384

noncomputable section

namespace Cert.Kernel3Ideal.Inp

open Cert.Kernel3Ideal.Gen Cert.InpSpec
open Idealize.ShloMosaic Idealize.ShloMosaic.TcCoe Idealize.ShloMosaic.Tactic
open Idealize.SL.Sem
open Idealize.ShloMosaic.Pipeline (Dat Cfg Window BodyObligation cellOf)

variable (m : (ℓ : Loc nD τ sig) → Buf (Elt Ideal) ℓ) (c : Dev nD)

/-- The queries and keys: each lane normed over its head. -/
def qArr (o : ℕ) (ho : o + 512 ≤ 2560) (g : Vec Ideal S1x512 .f32) : Vec Ideal S32768x512 .bf16 := fun y =>
  headNorm (fun e => pr m c ⟨(y 0).val, (y 0).isLt⟩ ⟨o + (headLane ⟨(y 1).val, (y 1).isLt⟩ e).val, by omega⟩) (laneOf ⟨(y 1).val, (y 1).isLt⟩) (g (ix2 0 ⟨(y 1).val, (y 1).isLt⟩))
/-- The values. -/
def vArr : Vec Ideal S32768x512 .bf16 := fun y => pr m c ⟨(y 0).val, (y 0).isLt⟩ ⟨1024 + (y 1).val, by have h1 : (y 1).val < 512 := (y 1).isLt; omega⟩
/-- The recurrence's branches, by groups of 128 lanes. -/
def gArr (o : ℕ) (ho : o + 512 ≤ 2560) : Vec Ideal S4x32768x128 .f32 := fun y => pr m c ⟨(y 1).val, (y 1).isLt⟩
  ⟨o + (128 * (y 0).val + (y 2).val), by have h0 : (y 0).val < 4 := (y 0).isLt; have h2 : (y 2).val < 128 := (y 2).isLt; omega⟩

theorem arr11 (hi : IndOk (V m c main_v8)) : (dats m 0 c).arrAt 11 cfg0.N = qArr m c 0 (by omega) (V m c main_v14) := by
  refine (dats m 0 c).arrAt_eq_of_covers 11 _ (by decide +kernel) fun t hf y => ?_
  blk_simp
  rw [after0_11]
  have hN := nt t
  have e : (win0_11.blk t).view.emb y = (ix2 (rowOf t ⟨(y 0).val, (y 0).isLt⟩) ⟨(y 1).val, (y 1).isLt⟩ : S32768x512.Idx) := by
    unfold rowOf; blk_ext [ix11 t]
  refine Eq.trans ?_ (congrArg (qArr m c 0 (by omega) (V m c main_v14)) e).symm
  have ey : y = (ix2 ⟨(y 0).val, (y 0).isLt⟩ ⟨(y 1).val, (y 1).isLt⟩ : S1024x512.Idx) := by
    funext d; match d with | ⟨0, _⟩ => rfl | ⟨1, _⟩ => rfl
  exact (congrArg _ ey).trans (out11 m c hi t _ _)

theorem arr12 (hi : IndOk (V m c main_v8)) : (dats m 0 c).arrAt 12 cfg0.N = qArr m c 512 (by omega) (V m c main_v18) := by
  refine (dats m 0 c).arrAt_eq_of_covers 12 _ (by decide +kernel) fun t hf y => ?_
  blk_simp
  rw [after0_12]
  have hN := nt t
  have e : (win0_12.blk t).view.emb y = (ix2 (rowOf t ⟨(y 0).val, (y 0).isLt⟩) ⟨(y 1).val, (y 1).isLt⟩ : S32768x512.Idx) := by
    unfold rowOf; blk_ext [ix12 t]
  refine Eq.trans ?_ (congrArg (qArr m c 512 (by omega) (V m c main_v18)) e).symm
  have ey : y = (ix2 ⟨(y 0).val, (y 0).isLt⟩ ⟨(y 1).val, (y 1).isLt⟩ : S1024x512.Idx) := by
    funext d; match d with | ⟨0, _⟩ => rfl | ⟨1, _⟩ => rfl
  exact (congrArg _ ey).trans (out12 m c hi t _ _)

theorem arr13 : (dats m 0 c).arrAt 13 cfg0.N = vArr m c := by
  refine (dats m 0 c).arrAt_eq_of_covers 13 _ (by decide +kernel) fun t hf y => ?_
  blk_simp
  rw [after0_13]
  have hN := nt t
  have e : (win0_13.blk t).view.emb y = (ix2 (rowOf t ⟨(y 0).val, (y 0).isLt⟩) ⟨(y 1).val, (y 1).isLt⟩ : S32768x512.Idx) := by
    unfold rowOf; blk_ext [ix13 t]
  refine Eq.trans ?_ (congrArg (vArr m c) e).symm
  have ey : y = (ix2 ⟨(y 0).val, (y 0).isLt⟩ ⟨(y 1).val, (y 1).isLt⟩ : S1024x512.Idx) := by
    funext d; match d with | ⟨0, _⟩ => rfl | ⟨1, _⟩ => rfl
  exact (congrArg _ ey).trans (out13 m c t _ _)

theorem arr14 : (dats m 0 c).arrAt 14 cfg0.N = gArr m c 1536 (by omega) := by
  refine (dats m 0 c).arrAt_eq_of_covers 14 _ (by decide +kernel) fun t hf y => ?_
  blk_simp
  rw [after0_14]
  have hN := nt t
  have e : (win0_14.blk t).view.emb y = (ix3 ⟨(y 0).val, (y 0).isLt⟩ (rowOf t ⟨(y 1).val, (y 1).isLt⟩) ⟨(y 2).val, (y 2).isLt⟩ : S4x32768x128.Idx) := by
    unfold rowOf; blk_ext [ix14 t]
  refine Eq.trans ?_ (congrArg (gArr m c 1536 (by omega)) e).symm
  exact out14 m c t y

theorem arr15 : (dats m 0 c).arrAt 15 cfg0.N = gArr m c 2048 (by omega) := by
  refine (dats m 0 c).arrAt_eq_of_covers 15 _ (by decide +kernel) fun t hf y => ?_
  blk_simp
  rw [after0_15]
  have hN := nt t
  have e : (win0_15.blk t).view.emb y = (ix3 ⟨(y 0).val, (y 0).isLt⟩ (rowOf t ⟨(y 1).val, (y 1).isLt⟩) ⟨(y 2).val, (y 2).isLt⟩ : S4x32768x128.Idx) := by
    unfold rowOf; blk_ext [ix15 t]
  refine Eq.trans ?_ (congrArg (gArr m c 2048 (by omega)) e).symm
  exact out15 m c t y

theorem arr16 : (dats m 0 c).arrAt 16 cfg0.N = (fun y => V m c main_v19 y : Vec Ideal S32x1024x512 .bf16) := by
  refine (dats m 0 c).arrAt_eq_of_covers 16 _ (by decide +kernel) fun t hf y => ?_
  blk_simp
  rw [after0_16]
  have hN := nt t
  have h0 : (y 0).val = 0 := Nat.lt_one_iff.mp (y 0).isLt
  have e : (win0_16.blk t).view.emb y = (ix3 ⟨t.val, hN⟩ (y 1) (y 2) : S32x1024x512.Idx) := by
    blk_ext [ix16 t, h0]
  refine Eq.trans ?_ (congrArg (fun y => V m c main_v19 y : Vec Ideal S32x1024x512 .bf16) e).symm
  exact out16 m c t y

theorem arr17 : (dats m 0 c).arrAt 17 cfg0.N = (fun y => V m c main_v20 y : Vec Ideal S32x1024x512 .bf16) := by
  refine (dats m 0 c).arrAt_eq_of_covers 17 _ (by decide +kernel) fun t hf y => ?_
  blk_simp
  rw [after0_17]
  have hN := nt t
  have h0 : (y 0).val = 0 := Nat.lt_one_iff.mp (y 0).isLt
  have e : (win0_17.blk t).view.emb y = (ix3 ⟨t.val, hN⟩ (y 1) (y 2) : S32x1024x512.Idx) := by
    blk_ext [ix17 t, h0]
  refine Eq.trans ?_ (congrArg (fun y => V m c main_v20 y : Vec Ideal S32x1024x512 .bf16) e).symm
  exact out17 m c t y

theorem arr18 : (dats m 0 c).arrAt 18 cfg0.N = (fun y => V m c main_v21 y : Vec Ideal S32x512x1024 .bf16) := by
  refine (dats m 0 c).arrAt_eq_of_covers 18 _ (by decide +kernel) fun t hf y => ?_
  blk_simp
  rw [after0_18]
  have hN := nt t
  have h0 : (y 0).val = 0 := Nat.lt_one_iff.mp (y 0).isLt
  have e : (win0_18.blk t).view.emb y = (ix3 ⟨t.val, hN⟩ (y 1) (y 2) : S32x512x1024.Idx) := by
    blk_ext [ix18 t, h0]
  refine Eq.trans ?_ (congrArg (fun y => V m c main_v21 y : Vec Ideal S32x512x1024 .bf16) e).symm
  exact out18 m c t y

end Cert.Kernel3Ideal.Inp

end
-- ==== Proof.InpHost.lean ====
/- What the input projection's windows read, of the arguments. -/
module

public import proofs.«01_k».proof.Proof.InpArr

@[expose] public section

set_option maxRecDepth 16384

noncomputable section

namespace Cert.Kernel3Ideal.Inp

open Cert.Kernel3Ideal.Gen Cert.InpSpec
open Idealize.ShloMosaic Idealize.ShloMosaic.TcCoe Idealize.ShloMosaic.Tactic
open Idealize.SL.Sem
open Idealize.ShloMosaic.Pipeline (Dat Cfg Window BodyObligation cellOf)

variable (m : (ℓ : Loc nD τ sig) → Buf (Elt Ideal) ℓ) (c : Dev nD)

theorem v8_ok : IndOk (V m c main_v8) := by
  have e : V m c main_v8 = truncf .bf16 (uitofp (F := Ideal) .f32 (cmpi .eq (broadcastInDim S256x256 ![0, 1] bcast_S256x1_S256x256_0_1 (broadcastInDim S256x1 ![0] bcast_S256_S256x1_0 (shapeCast S256 (iotaInDim S4x64 32 0) shapeCasts_S4x64_S256)))
      (broadcastInDim S256x256 ![0, 1] bcast_S1x256_S256x256_0_1 (broadcastInDim S1x256 ![1] bcast_S256_S1x256_1 (shapeCast S256 (iotaInDim S4x64 32 0) shapeCasts_S4x64_S256))))) bitsLt_bf16_f32 := by
    unfold V
    simp only [List.flatten_cons, List.flatten_nil, List.append_nil, hostOps0]
    after_results_simp
    rfl
  intro a b
  rw [e]
  unfold sameHead
  pointwise
  by_cases h : a.val / 64 = b.val / 64
  · rw [if_pos h, h]
    show ((((BitVec.ofBool (BitVec.ofNat 32 (b.val / 64) == BitVec.ofNat 32 (b.val / 64))).toNat : ℕ) : ℝ) : EReal) = 1
    rw [beq_self_eq_true]
    simp
  · rw [if_neg h]
    have hne : (BitVec.ofNat 32 (a.val / 64) == BitVec.ofNat 32 (b.val / 64)) = false := by
      rw [beq_eq_false_iff_ne]
      intro h'
      have := congrArg BitVec.toNat h'
      simp only [BitVec.toNat_ofNat] at this
      omega
    show ((((BitVec.ofBool (BitVec.ofNat 32 (a.val / 64) == BitVec.ofNat 32 (b.val / 64))).toNat : ℕ) : ℝ) : EReal) = 0
    rw [hne]
    simp

theorem v14_at (n : Fin 512) : V m c main_v14 (ix2 0 n : S1x512.Idx) = HMul.hMul (α := EReal) (β := EReal) (γ := EReal) (m ((c.tc : Thread nD τ).loc main_arg5) (ix1 (laneOf n) : S64.Idx)) eighth := by
  have e : V m c main_v14 = shapeCast S1x512 (mulf (F := Ideal) (shapeCast S512 (broadcastInDim S8x64 ![0, 1] bcast_S1x64_S8x64_0_1 (shapeCast S1x64 (m ((c.tc : Thread nD τ).loc main_arg5)) shapeCasts_S64_S1x64)) shapeCasts_S8x64_S512)
      (broadcastInDim S512 ![] bcast_S_S512 (constant S_ .f32 0x3E000000#32))) shapeCasts_S512_S1x512 := by
    unfold V
    simp only [List.flatten_cons, List.flatten_nil, List.append_nil, hostOps0]
    after_results_simp
    rfl
  rw [e]
  unfold eighth laneOf
  pointwise

theorem v18_at (n : Fin 512) : V m c main_v18 (ix2 0 n : S1x512.Idx) = m ((c.tc : Thread nD τ).loc main_arg6) (ix1 (laneOf n) : S64.Idx) := by
  have e : V m c main_v18 = shapeCast S1x512 (shapeCast S512 (broadcastInDim S8x64 ![0, 1] bcast_S1x64_S8x64_0_1 (shapeCast S1x64 (m ((c.tc : Thread nD τ).loc main_arg6)) shapeCasts_S64_S1x64)) shapeCasts_S8x64_S512) shapeCasts_S512_S1x512 := by
    unfold V
    simp only [List.flatten_cons, List.flatten_nil, List.append_nil, hostOps0]
    after_results_simp
    rfl
  rw [e]
  unfold laneOf
  pointwise

theorem cast22 (x : Vec Ideal S8x4096x1024 .f32) (r : Fin 32768) (d : Fin 1024) :
    shapeCast S32768x1024 x shapeCasts_S8x4096x1024_S32768x1024 (ix2 r d) = x (ix3 ⟨r.val / 4096, by omega⟩ ⟨r.val % 4096, by omega⟩ d) := by
  pointwise

theorem v22_at (r : Fin 32768) (d : Fin 1024) : V m c main_v22 (ix2 r d : S32768x1024.Idx)
    = m ((c.tc : Thread nD τ).loc main_arg0) (ix3 ⟨r.val / 4096, by omega⟩ ⟨r.val % 4096, by omega⟩ d : S8x4096x1024.Idx) := by
  have e : V m c main_v22 = shapeCast S32768x1024 (m ((c.tc : Thread nD τ).loc main_arg0)) shapeCasts_S8x4096x1024_S32768x1024 := by
    unfold V
    simp only [List.flatten_cons, List.flatten_nil, List.append_nil, hostOps0]
    after_results_simp
    rfl
  rw [e]
  exact cast22 _ r d

theorem v23_at (d : Fin 1024) : V m c main_v23 (ix2 0 d : S1x1024.Idx) = m ((c.tc : Thread nD τ).loc main_arg3) (ix1 d : S1024.Idx) := by
  have e : V m c main_v23 = shapeCast S1x1024 (m ((c.tc : Thread nD τ).loc main_arg3)) shapeCasts_S1024_S1x1024 := by
    unfold V
    simp only [List.flatten_cons, List.flatten_nil, List.append_nil, hostOps0]
    after_results_simp
    rfl
  rw [e]
  pointwise

theorem v24_at (d : Fin 1024) (k : Fin 2560) : V m c main_v24 (ix2 d k : S1024x2560.Idx) = m ((c.tc : Thread nD τ).loc main_arg4) (ix2 d k : S1024x2560.Idx) := by
  have e : V m c main_v24 = truncf (F := Ideal) .bf16 (m ((c.tc : Thread nD τ).loc main_arg4)) bitsLt_bf16_f32 := by
    unfold V
    simp only [List.flatten_cons, List.flatten_nil, List.append_nil, hostOps0]
    after_results_simp
  rw [e]
  pointwise

theorem v19_eq : V m c main_v19 = shapeCast S32x1024x512 (m ((c.tc : Thread nD τ).loc main_arg7)) shapeCasts_S2x16x1024x512_S32x1024x512 := by
  unfold V
  simp only [List.flatten_cons, List.flatten_nil, List.append_nil, hostOps0]
  after_results_simp
  rfl

theorem v20_eq : V m c main_v20 = shapeCast S32x1024x512 (m ((c.tc : Thread nD τ).loc main_arg8)) shapeCasts_S2x16x1024x512_S32x1024x512 := by
  unfold V
  simp only [List.flatten_cons, List.flatten_nil, List.append_nil, hostOps0]
  after_results_simp
  rfl

theorem v21_eq : V m c main_v21 = shapeCast S32x512x1024 (m ((c.tc : Thread nD τ).loc main_arg9)) shapeCasts_S2x16x512x1024_S32x512x1024 := by
  unfold V
  simp only [List.flatten_cons, List.flatten_nil, List.append_nil, hostOps0]
  after_results_simp
  rfl

end Cert.Kernel3Ideal.Inp

end
-- ==== Proof.InpRef.lean ====
/- The results of the input projection's reference, element by element. -/
module

public import proofs.«01_k».proof.Proof.InpSpec
public import proofs.«01_k».proof.Proof.Gen.Reference3Ideal.Run

@[expose] public section

set_option maxRecDepth 16384

noncomputable section

namespace Cert.Reference3Ideal.Inp

open Cert.Reference3Ideal Cert.Reference3Ideal.Gen
open Idealize.ShloMosaic Idealize.ShloMosaic.TcCoe Idealize.ShloMosaic.Tactic
open Cert.InpSpec

variable (x : FVec Ideal S8x4096x1024 .f32) (sh sc : FVec Ideal S8x1x1024 .f32) (g : FVec Ideal S1024 .f32) (w : FVec Ideal S1024x2560 .f32) (qn : FVec Ideal S64 .f32)

/-- The roots of the rows' mean squares, inverted. -/
def rootR : FVec Ideal S8x4096x1 .f32 :=
  Host.rsqrt (addf (Host.divf (broadcastInDim S8x4096x1 ![0, 1] bcast_S8x4096_S8x4096x1_0_1 (Host.reduceAdd (mulf x x) (constant S_ .f32 0x00000000#32) reducesTo_S8x4096x1024_S8x4096_d2 h_S_))
    (broadcastInDim S8x4096x1 ![] bcast_S_S8x4096x1 (constant S_ .f32 0x44800000#32))) (broadcastInDim S8x4096x1 ![] bcast_S_S8x4096x1 (constant S_ .f32 0x358637BD#32)))

/-- The rows normed, scaled and shifted. -/
def normR (s : FVec Ideal S8x4096x1 .f32) : FVec Ideal S8x4096x1024 .f32 :=
  addf (mulf (mulf (mulf x (broadcastInDim S8x4096x1024 ![0, 1, 2] bcast_S8x4096x1_S8x4096x1024_0_1_2 s))
    (broadcastInDim S8x4096x1024 ![0, 1, 2] bcast_S1x1x1024_S8x4096x1024_0_1_2 (broadcastInDim S1x1x1024 ![2] bcast_S1024_S1x1x1024_2 g)))
    (broadcastInDim S8x4096x1024 ![0, 1, 2] bcast_S8x1x1024_S8x4096x1024_0_1_2 (addf (broadcastInDim S8x1x1024 ![] bcast_S_S8x1x1024 (constant S_ .f32 0x3F800000#32)) sc)))
    (broadcastInDim S8x4096x1024 ![0, 1, 2] bcast_S8x1x1024_S8x4096x1024_0_1_2 sh)

/-- The product with the weights. -/
def prodR (h : FVec Ideal S8x4096x1024 .f32) : FVec Ideal S8x4096x2560 .f32 :=
  Host.dotGeneral (φ₁ := .f32) (φ₂ := .f32) dot_S8x4096x1024_S1024x2560_S8x4096x2560_2_0_01_1_n_n none h w

/-- The whole product. -/
def zR : FVec Ideal S8x4096x2560 .f32 := prodR w (normR x sh sc g (rootR x))

/-- A head's lanes normed. -/
def headsR (z : FVec Ideal S8x4096x8x64 .f32) (q : FVec Ideal S64 .f32) : FVec Ideal S8x4096x8x64 .f32 :=
  mulf (mulf z (broadcastInDim S8x4096x8x64 ![0, 1, 2, 3] bcast_S8x4096x8x1_S8x4096x8x64_0_1_2_3 (Host.rsqrt (addf (Host.divf (broadcastInDim S8x4096x8x1 ![0, 1, 2] bcast_S8x4096x8_S8x4096x8x1_0_1_2
      (Host.reduceAdd (mulf z z) (constant S_ .f32 0x00000000#32) reducesTo_S8x4096x8x64_S8x4096x8_d3 h_S_)) (broadcastInDim S8x4096x8x1 ![] bcast_S_S8x4096x8x1 (constant S_ .f32 0x42800000#32)))
      (broadcastInDim S8x4096x8x1 ![] bcast_S_S8x4096x8x1 (constant S_ .f32 0x358637BD#32))))))
    (broadcastInDim S8x4096x8x64 ![0, 1, 2, 3] bcast_S1x1x1x64_S8x4096x8x64_0_1_2_3 (broadcastInDim S1x1x1x64 ![3] bcast_S64_S1x1x1x64_3 q))

def q4 (z : FVec Ideal S8x4096x2560 .f32) : FVec Ideal S8x4096x8x64 .f32 :=
  shapeCast S8x4096x8x64 (extractStridedSlice S8x4096x512 ![0, 0, 0] z slices_S8x4096x2560_S8x4096x512_0_0_0) shapeCasts_S8x4096x512_S8x4096x8x64
def k4 (z : FVec Ideal S8x4096x2560 .f32) : FVec Ideal S8x4096x8x64 .f32 :=
  shapeCast S8x4096x8x64 (extractStridedSlice S8x4096x512 ![0, 0, 512] z slices_S8x4096x2560_S8x4096x512_0_0_512) shapeCasts_S8x4096x512_S8x4096x8x64

/-- The five results. -/
def qR (z : FVec Ideal S8x4096x2560 .f32) (q : FVec Ideal S64 .f32) : FVec Ideal S32768x512 .bf16 :=
  truncf .bf16 (shapeCast S32768x512 (mulf (headsR (q4 z) q) (broadcastInDim S8x4096x8x64 ![] bcast_S_S8x4096x8x64 (constant S_ .f32 0x3E000000#32))) shapeCasts_S8x4096x8x64_S32768x512) bitsLt_bf16_f32
def kR (z : FVec Ideal S8x4096x2560 .f32) (q : FVec Ideal S64 .f32) : FVec Ideal S32768x512 .bf16 :=
  truncf .bf16 (shapeCast S32768x512 (headsR (k4 z) q) shapeCasts_S8x4096x8x64_S32768x512) bitsLt_bf16_f32
def vR (z : FVec Ideal S8x4096x2560 .f32) : FVec Ideal S32768x512 .bf16 :=
  truncf .bf16 (shapeCast S32768x512 (extractStridedSlice S8x4096x512 ![0, 0, 1024] z slices_S8x4096x2560_S8x4096x512_0_0_1024) shapeCasts_S8x4096x512_S32768x512) bitsLt_bf16_f32
def xR (z : FVec Ideal S8x4096x2560 .f32) : FVec Ideal S4x32768x128 .f32 :=
  transpose S4x32768x128 [1, 0, 2] (shapeCast S32768x4x128 (extractStridedSlice S8x4096x512 ![0, 0, 1536] z slices_S8x4096x2560_S8x4096x512_0_0_1536) shapeCasts_S8x4096x512_S32768x4x128) transposes_S32768x4x128_S4x32768x128_1_0_2
def gR (z : FVec Ideal S8x4096x2560 .f32) : FVec Ideal S4x32768x128 .f32 :=
  transpose S4x32768x128 [1, 0, 2] (shapeCast S32768x4x128 (extractStridedSlice S8x4096x512 ![0, 0, 2048] z slices_S8x4096x2560_S8x4096x512_0_0_2048) shapeCasts_S8x4096x512_S32768x4x128) transposes_S32768x4x128_S4x32768x128_1_0_2

section Res
variable (m : (ℓ : Loc nD τ sig) → Buf (Elt Ideal) ℓ) (c : Dev nD)

/-- The product, of the arguments. -/
def zM : FVec Ideal S8x4096x2560 .f32 :=
  zR (m (c.tc.loc main_arg0)) (m (c.tc.loc main_arg1)) (m (c.tc.loc main_arg2)) (m (c.tc.loc main_arg3)) (m (c.tc.loc main_arg4))

theorem res_q : Value.res_main_v56 m c = qR (zM m c) (m (c.tc.loc main_arg5)) := by
  unfold Value.res_main_v56 qR headsR q4 zM zR prodR normR rootR
  rfl
theorem res_k : Value.res_main_v58 m c = kR (zM m c) (m (c.tc.loc main_arg6)) := by
  unfold Value.res_main_v58 kR headsR k4 zM zR prodR normR rootR
  rfl
end Res

/-- The entry of row `r` and column `k`. -/
def refProj (r : Fin 32768) (k : Fin 2560) : EReal :=
  proj (fun d => x (ix3 ⟨r.val / 4096, by omega⟩ ⟨r.val % 4096, by omega⟩ d)) (fun d => g (ix1 d)) (fun d => sc (ix3 ⟨r.val / 4096, by omega⟩ 0 d))
    (fun d => sh (ix3 ⟨r.val / 4096, by omega⟩ 0 d)) (fun d => w (ix2 d k))

theorem rootR_at (b : Fin 8) (t : Fin 4096) : rootR x (ix3 b t 0) = Ideal.rsqrt (Ideal.div (∑ k : Fin 1024, x (ix3 b t k) * x (ix3 b t k)) width + eps) := by
  unfold rootR width eps
  pointwise
theorem normR_at (s : FVec Ideal S8x4096x1 .f32) (b : Fin 8) (t : Fin 4096) (d : Fin 1024) : normR x sh sc g s (ix3 b t d)
    = x (ix3 b t d) * s (ix3 b t 0) * g (ix1 d) * (one + sc (ix3 b 0 d)) + sh (ix3 b 0 d) := by
  unfold normR one
  pointwise
theorem prodR_at (h : FVec Ideal S8x4096x1024 .f32) (b : Fin 8) (t : Fin 4096) (k : Fin 2560) : prodR w h (ix3 b t k) = ∑ d : Fin 1024, h (ix3 b t d) * w (ix2 d k) := by
  unfold prodR
  pointwise
theorem zR_at (r : Fin 32768) (k : Fin 2560) : zR x sh sc g w (ix3 ⟨r.val / 4096, by omega⟩ ⟨r.val % 4096, by omega⟩ k) = refProj x sh sc g w r k := by
  unfold zR refProj proj
  rw [prodR_at]
  refine Finset.sum_congr rfl fun d _ => ?_
  rw [normR_at, rootR_at]
  rfl

theorem headsR_at (z : FVec Ideal S8x4096x8x64 .f32) (q : FVec Ideal S64 .f32) (b : Fin 8) (t : Fin 4096) (h : Fin 8) (e : Fin 64) :
    headsR z q (ix4 b t h e) = headNorm (fun e => z (ix4 b t h e)) e (q (ix1 e)) := by
  unfold headsR headNorm headWidth eps
  pointwise
theorem q4_at (z : FVec Ideal S8x4096x2560 .f32) (b : Fin 8) (t : Fin 4096) (h : Fin 8) (e : Fin 64) : q4 z (ix4 b t h e) = z (ix3 b t ⟨64 * h.val + e.val, by omega⟩) := by
  unfold q4
  pointwise
  refine congrArg z (congrArg _ (Fin.ext ?_))
  dsimp only
  omega
theorem k4_at (z : FVec Ideal S8x4096x2560 .f32) (b : Fin 8) (t : Fin 4096) (h : Fin 8) (e : Fin 64) : k4 z (ix4 b t h e) = z (ix3 b t ⟨512 + (64 * h.val + e.val), by omega⟩) := by
  unfold k4
  pointwise
  refine congrArg z (congrArg _ (Fin.ext ?_))
  dsimp only
  omega
theorem rows_at (z : FVec Ideal S8x4096x8x64 .f32) (r : Fin 32768) (n : Fin 512) : shapeCast S32768x512 z shapeCasts_S8x4096x8x64_S32768x512 (ix2 r n)
    = z (ix4 ⟨r.val / 4096, by omega⟩ ⟨r.val % 4096, by omega⟩ ⟨n.val / 64, by omega⟩ ⟨n.val % 64, by omega⟩) := by
  pointwise
theorem rows3_at (z : FVec Ideal S8x4096x512 .f32) (r : Fin 32768) (n : Fin 512) : shapeCast S32768x512 z shapeCasts_S8x4096x512_S32768x512 (ix2 r n)
    = z (ix3 ⟨r.val / 4096, by omega⟩ ⟨r.val % 4096, by omega⟩ n) := by
  pointwise
theorem groups_at (z : FVec Ideal S8x4096x512 .f32) (r : Fin 32768) (a : Fin 4) (l : Fin 128) : shapeCast S32768x4x128 z shapeCasts_S8x4096x512_S32768x4x128 (ix3 r a l)
    = z (ix3 ⟨r.val / 4096, by omega⟩ ⟨r.val % 4096, by omega⟩ ⟨128 * a.val + l.val, by omega⟩) := by
  pointwise
  refine congrArg z (congrArg _ (Fin.ext ?_))
  dsimp only
  omega

theorem qR_at (z : FVec Ideal S8x4096x2560 .f32) (q : FVec Ideal S64 .f32) (r : Fin 32768) (n : Fin 512) : qR z q (ix2 r n)
    = headNorm (fun e => z (ix3 ⟨r.val / 4096, by omega⟩ ⟨r.val % 4096, by omega⟩ ⟨(headLane n e).val, by omega⟩)) (laneOf n) (q (ix1 (laneOf n))) * eighth := by
  unfold qR eighth
  pointwise [rows_at, headsR_at, q4_at]
  rfl
theorem kR_at (z : FVec Ideal S8x4096x2560 .f32) (q : FVec Ideal S64 .f32) (r : Fin 32768) (n : Fin 512) : kR z q (ix2 r n)
    = headNorm (fun e => z (ix3 ⟨r.val / 4096, by omega⟩ ⟨r.val % 4096, by omega⟩ ⟨512 + (headLane n e).val, by omega⟩)) (laneOf n) (q (ix1 (laneOf n))) := by
  unfold kR
  pointwise [rows_at, headsR_at, k4_at]
  rfl
theorem vR_at (z : FVec Ideal S8x4096x2560 .f32) (r : Fin 32768) (n : Fin 512) : vR z (ix2 r n)
    = z (ix3 ⟨r.val / 4096, by omega⟩ ⟨r.val % 4096, by omega⟩ ⟨1024 + n.val, by omega⟩) := by
  unfold vR
  pointwise [rows3_at]
theorem xR_at (z : FVec Ideal S8x4096x2560 .f32) (a : Fin 4) (r : Fin 32768) (l : Fin 128) : xR z (ix3 a r l)
    = z (ix3 ⟨r.val / 4096, by omega⟩ ⟨r.val % 4096, by omega⟩ ⟨1536 + (128 * a.val + l.val), by omega⟩) := by
  unfold xR
  pointwise [groups_at]
theorem gR_at (z : FVec Ideal S8x4096x2560 .f32) (a : Fin 4) (r : Fin 32768) (l : Fin 128) : gR z (ix3 a r l)
    = z (ix3 ⟨r.val / 4096, by omega⟩ ⟨r.val % 4096, by omega⟩ ⟨2048 + (128 * a.val + l.val), by omega⟩) := by
  unfold gR
  pointwise [groups_at]

end Cert.Reference3Ideal.Inp

end
-- ==== Proof.InpEq.lean ====
/- The input projection's arrays are the reference's. -/
module

public import proofs.«01_k».proof.Proof.InpOut
public import proofs.«01_k».proof.Proof.InpHost
public import proofs.«01_k».proof.Proof.InpRef

@[expose] public section

set_option maxRecDepth 16384

noncomputable section

namespace Cert.Kernel3Ideal.Inp

open Cert.Kernel3Ideal.Gen Cert.InpSpec
open Idealize.ShloMosaic Idealize.ShloMosaic.TcCoe Idealize.ShloMosaic.Tactic
open Cert.Reference3Ideal.Inp (zR qR kR vR xR gR refProj)

variable (m : (ℓ : Loc nD τ sig) → Buf (Elt Ideal) ℓ) (c : Dev nD)

abbrev a0 : FVec Ideal S8x4096x1024 .f32 := m ((c.tc : Thread nD τ).loc main_arg0)
abbrev a1 : FVec Ideal S8x1x1024 .f32 := m ((c.tc : Thread nD τ).loc main_arg1)
abbrev a2 : FVec Ideal S8x1x1024 .f32 := m ((c.tc : Thread nD τ).loc main_arg2)
abbrev a3 : FVec Ideal S1024 .f32 := m ((c.tc : Thread nD τ).loc main_arg3)
abbrev a4 : FVec Ideal S1024x2560 .f32 := m ((c.tc : Thread nD τ).loc main_arg4)
abbrev a5 : FVec Ideal S64 .f32 := m ((c.tc : Thread nD τ).loc main_arg5)
abbrev a6 : FVec Ideal S64 .f32 := m ((c.tc : Thread nD τ).loc main_arg6)

/-- The reference's product, of the kernel's arguments. -/
def zK : FVec Ideal Cert.Reference3Ideal.S8x4096x2560 .f32 := zR (a0 m c) (a1 m c) (a2 m c) (a3 m c) (a4 m c)

theorem pr_eq (r : Fin 32768) (k : Fin 2560) : pr m c r k = zK m c (ix3 ⟨r.val / 4096, by omega⟩ ⟨r.val % 4096, by omega⟩ k) := by
  refine Eq.trans ?_ (Cert.Reference3Ideal.Inp.zR_at (a0 m c) (a1 m c) (a2 m c) (a3 m c) (a4 m c) r k).symm
  unfold pr projAt refProj
  refine congr (congr (congr (congr (congrArg proj ?_) ?_) ?_) ?_) ?_
  · funext d; exact v22_at m c r d
  · funext d; exact v23_at m c d
  · funext d; exact congrFun (V_main_arg2 m c) _
  · funext d; exact congrFun (V_main_arg1 m c) _
  · funext d; exact v24_at m c d k

theorem q_eq : qArr m c 0 (by omega) (V m c main_v14) = qR (zK m c) (a5 m c) := by
  funext y
  have ey : y = (ix2 ⟨(y 0).val, (y 0).isLt⟩ ⟨(y 1).val, (y 1).isLt⟩ : S32768x512.Idx) := by
    funext d; match d with | ⟨0, _⟩ => rfl | ⟨1, _⟩ => rfl
  refine Eq.trans ?_ ((congrArg (qR (zK m c) (a5 m c)) ey).trans (Cert.Reference3Ideal.Inp.qR_at (zK m c) (a5 m c) ⟨(y 0).val, (y 0).isLt⟩ ⟨(y 1).val, (y 1).isLt⟩)).symm
  unfold qArr
  rw [v14_at]
  simp only [pr_eq, Nat.zero_add]
  unfold headNorm
  exact (mul_assoc _ _ _).symm

theorem k_eq : qArr m c 512 (by omega) (V m c main_v18) = kR (zK m c) (a6 m c) := by
  funext y
  have ey : y = (ix2 ⟨(y 0).val, (y 0).isLt⟩ ⟨(y 1).val, (y 1).isLt⟩ : S32768x512.Idx) := by
    funext d; match d with | ⟨0, _⟩ => rfl | ⟨1, _⟩ => rfl
  refine Eq.trans ?_ ((congrArg (kR (zK m c) (a6 m c)) ey).trans (Cert.Reference3Ideal.Inp.kR_at (zK m c) (a6 m c) ⟨(y 0).val, (y 0).isLt⟩ ⟨(y 1).val, (y 1).isLt⟩)).symm
  unfold qArr
  rw [v18_at]
  simp only [pr_eq]

theorem v_eq : vArr m c = vR (zK m c) := by
  funext y
  have ey : y = (ix2 ⟨(y 0).val, (y 0).isLt⟩ ⟨(y 1).val, (y 1).isLt⟩ : S32768x512.Idx) := by
    funext d; match d with | ⟨0, _⟩ => rfl | ⟨1, _⟩ => rfl
  refine Eq.trans ?_ ((congrArg (vR (zK m c)) ey).trans (Cert.Reference3Ideal.Inp.vR_at (zK m c) ⟨(y 0).val, (y 0).isLt⟩ ⟨(y 1).val, (y 1).isLt⟩)).symm
  unfold vArr
  exact pr_eq m c _ _

theorem x_eq : gArr m c 1536 (by omega) = xR (zK m c) := by
  funext y
  have ey : y = (ix3 ⟨(y 0).val, (y 0).isLt⟩ ⟨(y 1).val, (y 1).isLt⟩ ⟨(y 2).val, (y 2).isLt⟩ : S4x32768x128.Idx) := by
    funext d; match d with | ⟨0, _⟩ => rfl | ⟨1, _⟩ => rfl | ⟨2, _⟩ => rfl
  refine Eq.trans ?_ ((congrArg (xR (zK m c)) ey).trans (Cert.Reference3Ideal.Inp.xR_at (zK m c) ⟨(y 0).val, (y 0).isLt⟩ ⟨(y 1).val, (y 1).isLt⟩ ⟨(y 2).val, (y 2).isLt⟩)).symm
  unfold gArr
  exact pr_eq m c _ _

theorem g_eq : gArr m c 2048 (by omega) = gR (zK m c) := by
  funext y
  have ey : y = (ix3 ⟨(y 0).val, (y 0).isLt⟩ ⟨(y 1).val, (y 1).isLt⟩ ⟨(y 2).val, (y 2).isLt⟩ : S4x32768x128.Idx) := by
    funext d; match d with | ⟨0, _⟩ => rfl | ⟨1, _⟩ => rfl | ⟨2, _⟩ => rfl
  refine Eq.trans ?_ ((congrArg (gR (zK m c)) ey).trans (Cert.Reference3Ideal.Inp.gR_at (zK m c) ⟨(y 0).val, (y 0).isLt⟩ ⟨(y 1).val, (y 1).isLt⟩ ⟨(y 2).val, (y 2).isLt⟩)).symm
  unfold gArr
  exact pr_eq m c _ _

/-- The recast weights. -/
theorem side16 : (fun y => V m c main_v19 y : Vec Ideal S32x1024x512 .bf16)
    = truncf (F := Ideal) .bf16 (shapeCast S32x1024x512 (m ((c.tc : Thread nD τ).loc main_arg7)) shapeCasts_S2x16x1024x512_S32x1024x512) bitsLt_bf16_f32 := by
  rw [v19_eq]; rfl
theorem side17 : (fun y => V m c main_v20 y : Vec Ideal S32x1024x512 .bf16)
    = truncf (F := Ideal) .bf16 (shapeCast S32x1024x512 (m ((c.tc : Thread nD τ).loc main_arg8)) shapeCasts_S2x16x1024x512_S32x1024x512) bitsLt_bf16_f32 := by
  rw [v20_eq]; rfl
theorem side18 : (fun y => V m c main_v21 y : Vec Ideal S32x512x1024 .bf16)
    = truncf (F := Ideal) .bf16 (shapeCast S32x512x1024 (m ((c.tc : Thread nD τ).loc main_arg9)) shapeCasts_S2x16x512x1024_S32x512x1024) bitsLt_bf16_f32 := by
  rw [v21_eq]; rfl

end Cert.Kernel3Ideal.Inp

end
-- ==== Proof.CtxCalc.lean ====
/- What the stored blocks of the context's projection hold over the extended reals, entry by entry. -/
module

public import proofs.«01_k».proof.Proof.InpSpec
public import proofs.«01_k».proof.Proof.Gen.Kernel4Ideal.Skeleton

@[expose] public section

set_option maxRecDepth 16384

noncomputable section

namespace Cert.Kernel4Ideal.Ctx

open Cert.Kernel4Ideal.Gen Cert.InpSpec
open Idealize.ShloMosaic Idealize.ShloMosaic.TcCoe Idealize.ShloMosaic.Tactic

/-- The normed block. -/
def hblk (x : Vec Ideal S256x1024 .f32) (sh sc : Vec Ideal S1x1x1024 .f32) (g : Vec Ideal S1x1024 .f32) : FVec Ideal S256x1024 .bf16 := k0_pay3 x g sh sc

theorem hblk_at (x : Vec Ideal S256x1024 .f32) (sh sc : Vec Ideal S1x1x1024 .f32) (g : Vec Ideal S1x1024 .f32) (p : Fin 256) (d : Fin 1024) :
    hblk x sh sc g (ix2 p d) = normed (fun k => x (ix2 p k)) (fun k => g (ix2 0 k)) (fun k => sc (ix3 0 0 k)) (fun k => sh (ix3 0 0 k)) d := by
  unfold hblk k0_pay3 normed eps one width
  pointwise

/-- A block times 512 columns. -/
def mm (h : FVec Ideal S256x1024 .bf16) (w : Vec Ideal S1024x512 .bf16) (p : Fin 256) (n : Fin 512) : EReal := ∑ d : Fin 1024, h (ix2 p d) * w (ix2 d n)

theorem pay9_at (h : FVec Ideal S256x1024 .bf16) (w : Vec Ideal S1024x512 .bf16) (p : Fin 256) (n : Fin 512) : k0_pay9 h w (ix2 p n) = mm h w p n := by
  unfold k0_pay9 mm
  pointwise
theorem pay10_at (h : FVec Ideal S256x1024 .bf16) (w : Vec Ideal S1024x512 .bf16) (p : Fin 256) (n : Fin 512) : k0_pay10 h w (ix2 p n) = mm h w p n := by
  unfold k0_pay10 mm
  pointwise

/-- The sums of the squares of 256 lanes, head by head. -/
def sums0 (z : FVec Ideal S256x512 .f32) (i : Vec Ideal S256x256 .bf16) : FVec Ideal S256x256 .f32 :=
  matmul (φ₁ := .bf16) (φ₂ := .bf16) dot_S256x256_S256x256_S256x256_1_0_0_1_n_n none
    (extractStridedSlice S256x256 ![0, 0] (truncf .bf16 (mulf z z) bitsLt_bf16_f32) slices_S256x512_o0_0_S256x256)
    (shapeCast S256x256 i shapeCasts_S256x256_S256x256) (constant S256x256 .f32 0x00000000#32)
def sums1 (z : FVec Ideal S256x512 .f32) (i : Vec Ideal S256x256 .bf16) : FVec Ideal S256x256 .f32 :=
  matmul (φ₁ := .bf16) (φ₂ := .bf16) dot_S256x256_S256x256_S256x256_1_0_0_1_n_n none
    (extractStridedSlice S256x256 ![0, 256] (truncf .bf16 (mulf z z) bitsLt_bf16_f32) slices_S256x512_o0_256_S256x256)
    (shapeCast S256x256 i shapeCasts_S256x256_S256x256) (constant S256x256 .f32 0x00000000#32)
def sums (a b : FVec Ideal S256x256 .f32) : FVec Ideal S256x512 .f32 :=
  concatenate S256x512 1 [⟨S256x256, a⟩, ⟨S256x256, b⟩] concatenates_S256x256_S256x256_S256x512_d1

/-- The heads normed, from the sums. -/
def qkBlk (z s : FVec Ideal S256x512 .f32) (g : Vec Ideal S1x512 .f32) : FVec Ideal S256x512 .bf16 :=
  truncf .bf16 (mulf (mulf z (rsqrt (addf (mulf s (broadcast S256x512 (Scalar.ofBits .f32 0x3C800000#32))) (broadcast S256x512 (Scalar.ofBits .f32 0x358637BD#32)))))
    (broadcastTo S256x512 (shapeCast S1x512 g shapeCasts_S1x512_S1x512) broadcasts_S1x512_S256x512)) bitsLt_bf16_f32

theorem sums0_at (z : FVec Ideal S256x512 .f32) (i : Vec Ideal S256x256 .bf16) (p : Fin 256) (n : Fin 256) :
    sums0 z i (ix2 p n) = ∑ k : Fin 256, z (ix2 p ⟨k.val, by omega⟩) * z (ix2 p ⟨k.val, by omega⟩) * i (ix2 k n) := by
  unfold sums0
  pointwise
theorem sums1_at (z : FVec Ideal S256x512 .f32) (i : Vec Ideal S256x256 .bf16) (p : Fin 256) (n : Fin 256) :
    sums1 z i (ix2 p n) = ∑ k : Fin 256, z (ix2 p ⟨256 + k.val, by omega⟩) * z (ix2 p ⟨256 + k.val, by omega⟩) * i (ix2 k n) := by
  unfold sums1
  pointwise
theorem sums_at (a b : FVec Ideal S256x256 .f32) (p : Fin 256) (n : Fin 512) :
    sums a b (ix2 p n) = if h : n.val < 256 then a (ix2 p ⟨n.val, h⟩) else b (ix2 p ⟨n.val - 256, by omega⟩) := by
  unfold sums
  pointwise
theorem qkBlk_at (z s : FVec Ideal S256x512 .f32) (g : Vec Ideal S1x512 .f32) (p : Fin 256) (n : Fin 512) :
    qkBlk z s g (ix2 p n) = z (ix2 p n) * Ideal.rsqrt (s (ix2 p n) * Ideal.ofBits .f32 0x3C800000#32 + eps) * g (ix2 0 n) := by
  unfold qkBlk eps
  pointwise

theorem heads_at (z : FVec Ideal S256x512 .f32) (i : Vec Ideal S256x256 .bf16)
    (hi : ∀ a b : Fin 256, i (ix2 a b) = sameHead a.val b.val) (p : Fin 256) (n : Fin 512) :
    sums (sums0 z i) (sums1 z i) (ix2 p n) = ∑ e : Fin 64, z (ix2 p (headLane n e)) * z (ix2 p (headLane n e)) := by
  rw [sums_at]
  split
  · rename_i h
    rw [sums0_at]
    simp only [hi]
    rw [sum_head (fun k => z (ix2 p ⟨k.val, by omega⟩) * z (ix2 p ⟨k.val, by omega⟩)) ⟨n.val, h⟩]
    rfl
  · rename_i h
    rw [sums1_at]
    simp only [hi]
    rw [sum_head (fun k => z (ix2 p ⟨256 + k.val, by omega⟩) * z (ix2 p ⟨256 + k.val, by omega⟩)) ⟨n.val - 256, by omega⟩]
    refine Finset.sum_congr rfl fun e _ => ?_
    have he : (⟨256 + (64 * ((n.val - 256) / 64) + e.val), by omega⟩ : Fin 512) = headLane n e :=
      Fin.ext (by show 256 + (64 * ((n.val - 256) / 64) + e.val) = 64 * (n.val / 64) + e.val; omega)
    show z (ix2 p ⟨256 + (64 * ((n.val - 256) / 64) + e.val), _⟩) * z (ix2 p ⟨256 + (64 * ((n.val - 256) / 64) + e.val), _⟩) = _
    rw [he]

theorem qk_at (z : FVec Ideal S256x512 .f32) (i : Vec Ideal S256x256 .bf16) (g : Vec Ideal S1x512 .f32)
    (hi : ∀ a b : Fin 256, i (ix2 a b) = sameHead a.val b.val) (p : Fin 256) (n : Fin 512) :
    qkBlk z (sums (sums0 z i) (sums1 z i)) g (ix2 p n) = headNorm (fun e => z (ix2 p (headLane n e))) (laneOf n) (g (ix2 0 n)) := by
  rw [qkBlk_at, heads_at z i hi, mul_inv64]
  unfold headNorm
  show _ = z (ix2 p (headLane n (laneOf n))) * _ * _
  rw [headLane_laneOf]

theorem pay8_at (x : Vec Ideal S256x1024 .f32) (sh sc : Vec Ideal S1x1x1024 .f32) (gn : Vec Ideal S1x1024 .f32)
    (w : Vec Ideal S1024x512 .bf16) (i : Vec Ideal S256x256 .bf16) (g : Vec Ideal S1x512 .f32)
    (hi : ∀ a b : Fin 256, i (ix2 a b) = sameHead a.val b.val) (p : Fin 256) (n : Fin 512) :
    k0_pay8 (k0_pay4 x gn sh sc w) (k0_pay6 x gn sh sc w i) (k0_pay7 x gn sh sc w) i g (ix2 p n)
      = headNorm (fun e => mm (hblk x sh sc gn) w p (headLane n e)) (laneOf n) (g (ix2 0 n)) := by
  refine Eq.trans (b := qkBlk (k0_pay10 (hblk x sh sc gn) w) (sums (sums0 (k0_pay10 (hblk x sh sc gn) w) i) (sums1 (k0_pay10 (hblk x sh sc gn) w) i)) g (ix2 p n))
    (by unfold k0_pay8 k0_pay6 k0_pay7 k0_pay5 k0_pay4 qkBlk sums sums0 sums1 k0_pay10 hblk; rfl) ?_
  rw [qk_at _ _ _ hi]
  simp only [pay10_at]

/-- The four groups of 128 lanes. -/
theorem grp_at (z : FVec Ideal S256x512 .f32) (p : Fin 256) (l : Fin 128) :
    shapeCast S1x256x128 (extractStridedSlice S256x128 ![0, 0] z slices_S256x512_o0_0_S256x128) shapeCasts_S256x128_S1x256x128 (ix3 0 p l) = z (ix2 p ⟨l.val, by omega⟩)
    ∧ shapeCast S1x256x128 (extractStridedSlice S256x128 ![0, 128] z slices_S256x512_o0_128_S256x128) shapeCasts_S256x128_S1x256x128 (ix3 0 p l) = z (ix2 p ⟨128 + l.val, by omega⟩)
    ∧ shapeCast S1x256x128 (extractStridedSlice S256x128 ![0, 256] z slices_S256x512_o0_256_S256x128) shapeCasts_S256x128_S1x256x128 (ix3 0 p l) = z (ix2 p ⟨256 + l.val, by omega⟩)
    ∧ shapeCast S1x256x128 (extractStridedSlice S256x128 ![0, 384] z slices_S256x512_o0_384_S256x128) shapeCasts_S256x128_S1x256x128 (ix3 0 p l) = z (ix2 p ⟨384 + l.val, by omega⟩) := by
  refine ⟨?_, ?_, ?_, ?_⟩ <;> pointwise

end Cert.Kernel4Ideal.Ctx

end
-- ==== Proof.CtxArr.lean ====
/- The arrays the context's projection leaves, of the arrays its windows read. -/
module

public import proofs.«01_k».proof.Proof.CtxCalc
public import proofs.«01_k».proof.Proof.Gen.Kernel4Ideal.Frame
public import Idealize.ShloMosaic.Lib.Pipeline.ValueKit.Basic
public import Idealize.ShloMosaic.Lib.Pipeline.ValueKit.Tiles
public import Idealize.ShloMosaic.Lib.Pipeline.Covers

@[expose] public section

set_option maxRecDepth 16384

noncomputable section

namespace Cert.Kernel4Ideal.Ctx

open Cert.Kernel4Ideal.Gen Cert.InpSpec
open Idealize.ShloMosaic Idealize.ShloMosaic.TcCoe Idealize.ShloMosaic.Tactic
open Idealize.SL.Sem
open Idealize.ShloMosaic.Pipeline (Dat Cfg Window BodyObligation cellOf)

/-- The entry of row `r` and column `k` of the product with the weights. -/
def projAt (X : Vec Ideal S2048x1024 .f32) (SH SC : Vec Ideal S8x1x1024 .f32) (G : Vec Ideal S1x1024 .f32) (W : Vec Ideal S1024x1536 .bf16)
    (r : Fin 2048) (k : Fin 1536) : EReal :=
  proj (fun d => X (ix2 r d)) (fun d => G (ix2 0 d)) (fun d => SC (ix3 ⟨r.val / 256, by omega⟩ 0 d)) (fun d => SH (ix3 ⟨r.val / 256, by omega⟩ 0 d))
    (fun d => W (ix2 d k))

variable (m : (ℓ : Loc nD τ sig) → Buf (Elt Ideal) ℓ) (c : Dev nD)

/-- The product's entry, of what the program's arrays hold. -/
def pr (r : Fin 2048) (k : Fin 1536) : EReal := projAt (V m c main_v22) (V m c main_v19) (V m c main_v20) (V m c main_v23) (V m c main_v24) r k

theorem nt (t : Fin cfg0.N) : t.val < 8 := lt_of_lt_of_eq t.isLt (show cfg0.N = 8 by decide +kernel)

theorem wx0 : ∀ t : Fin cfg0.N, win0_0.index t = ![t.val, 0] := (by decide +kernel : ∀ t : Fin grid0.N, _)
theorem wx1 : ∀ t : Fin cfg0.N, win0_1.index t = ![t.val, 0, 0] := (by decide +kernel : ∀ t : Fin grid0.N, _)
theorem wx2 : ∀ t : Fin cfg0.N, win0_2.index t = ![t.val, 0, 0] := (by decide +kernel : ∀ t : Fin grid0.N, _)
theorem wx3 : ∀ t : Fin cfg0.N, win0_3.index t = ![0, 0] := (by decide +kernel : ∀ t : Fin grid0.N, _)
theorem wx4 : ∀ t : Fin cfg0.N, win0_4.index t = ![0, 0] := (by decide +kernel : ∀ t : Fin grid0.N, _)
theorem wx5 : ∀ t : Fin cfg0.N, win0_5.index t = ![0, 0] := (by decide +kernel : ∀ t : Fin grid0.N, _)
theorem wx6 : ∀ t : Fin cfg0.N, win0_6.index t = ![0, 0] := (by decide +kernel : ∀ t : Fin grid0.N, _)
theorem wx7 : ∀ t : Fin cfg0.N, win0_7.index t = ![0, 0] := (by decide +kernel : ∀ t : Fin grid0.N, _)
theorem wx8 : ∀ t : Fin cfg0.N, win0_8.index t = ![t.val, 0] := (by decide +kernel : ∀ t : Fin grid0.N, _)
theorem wx9 : ∀ t : Fin cfg0.N, win0_9.index t = ![t.val, 0] := (by decide +kernel : ∀ t : Fin grid0.N, _)
theorem wx10 : ∀ t : Fin cfg0.N, win0_10.index t = ![0, t.val, 0] := (by decide +kernel : ∀ t : Fin grid0.N, _)

/-- Row `p` of block `t`. -/
def rowOf (t : Fin cfg0.N) (p : Fin 256) : Fin 2048 := ⟨256 * t.val + p.val, by have := nt t; omega⟩

theorem ib0 (t : Fin cfg0.N) (p : Fin 256) (d : Fin 1024) : iblk m c 0 t (ix2 p d : S256x1024.Idx) = V m c main_v22 (ix2 (rowOf t p) d : S2048x1024.Idx) := by
  show V m c main_v22 ((win0_0.blk t).view.emb (ix2 p d : S256x1024.Idx)) = _
  congr 1
  unfold rowOf
  blk_ext [wx0 t]
theorem ib1 (t : Fin cfg0.N) (d : Fin 1024) : iblk m c 1 t (ix3 0 0 d : S1x1x1024.Idx) = V m c main_v19 (ix3 ⟨t.val, nt t⟩ 0 d : S8x1x1024.Idx) := by
  show V m c main_v19 ((win0_1.blk t).view.emb (ix3 0 0 d : S1x1x1024.Idx)) = _
  congr 1
  blk_ext [wx1 t]
theorem ib2 (t : Fin cfg0.N) (d : Fin 1024) : iblk m c 2 t (ix3 0 0 d : S1x1x1024.Idx) = V m c main_v20 (ix3 ⟨t.val, nt t⟩ 0 d : S8x1x1024.Idx) := by
  show V m c main_v20 ((win0_2.blk t).view.emb (ix3 0 0 d : S1x1x1024.Idx)) = _
  congr 1
  blk_ext [wx2 t]
theorem ib3 (t : Fin cfg0.N) (y : S1x1024.Idx) : iblk m c 3 t y = V m c main_v23 y := by
  show V m c main_v23 ((win0_3.blk t).view.emb y) = _
  congr 1
  blk_ext [wx3 t]
theorem ib4 (t : Fin cfg0.N) (y : S1024x1536.Idx) : iblk m c 4 t y = V m c main_v24 y := by
  show V m c main_v24 ((win0_4.blk t).view.emb y) = _
  congr 1
  blk_ext [wx4 t]
theorem ib5 (t : Fin cfg0.N) : iblk m c 5 t = V m c main_v8 := by
  funext y
  show V m c main_v8 ((win0_5.blk t).view.emb y) = _
  congr 1
  blk_ext [wx5 t]
theorem ib7 (t : Fin cfg0.N) : iblk m c 7 t = V m c main_v18 := by
  funext y
  show V m c main_v18 ((win0_7.blk t).view.emb y) = _
  congr 1
  blk_ext [wx7 t]

/-- The normed block of a point. -/
def hAt (t : Fin cfg0.N) : FVec Ideal S256x1024 .bf16 := hblk (iblk m c 0 t) (iblk m c 1 t) (iblk m c 2 t) (iblk m c 3 t)

/-- The product's entry, of a point's blocks. -/
theorem mm_at (t : Fin cfg0.N) (w : Vec Ideal S1024x512 .bf16) (o : ℕ) (ho : o + 512 ≤ 1536)
    (hw : ∀ (d : Fin 1024) (n : Fin 512), w (ix2 d n) = iblk m c 4 t (ix2 d ⟨o + n.val, by omega⟩ : S1024x1536.Idx)) (p : Fin 256) (n : Fin 512) :
    mm (hAt m c t) w p n = pr m c (rowOf t p) ⟨o + n.val, by omega⟩ := by
  have hN := nt t
  unfold mm pr projAt proj hAt
  refine Finset.sum_congr rfl fun d _ => ?_
  rw [hblk_at, hw, ib4]
  have hr : (⟨(rowOf t p).val / 256, by omega⟩ : Fin 8) = ⟨t.val, nt t⟩ := Fin.ext (by show (256 * t.val + p.val) / 256 = t.val; omega)
  rw [hr]
  simp only [ib0, ib1, ib2, ib3]

theorem hz2 : ∀ a, (![0, 0] : Fin 2 → ℕ) a = 0 := by decide
theorem hz3 : ∀ a, (![0, 0, 0] : Fin 3 → ℕ) a = 0 := by decide

theorem l0 (x : Vec Ideal S256x1024 .f32) : View.ld x r0_0 = x := View.ld_unit_lit _ x hz2
theorem l1 (x : Vec Ideal S1x1024 .f32) : View.ld x r0_1 = x := View.ld_unit_lit _ x hz2
theorem l2 (x : Vec Ideal S1x1x1024 .f32) : View.ld x r0_2 = x := View.ld_unit_lit _ x hz3
theorem l4 (x : Vec Ideal S256x256 .bf16) : View.ld x r0_4 = x := View.ld_unit_lit _ x hz2
theorem l5 (x : Vec Ideal S1x512 .f32) : View.ld x r0_5 = x := View.ld_unit_lit _ x hz2

theorem pay14_eq (t : Fin cfg0.N) : k0_pay14 (iblk m c 0 t) (iblk m c 1 t) (iblk m c 2 t) (iblk m c 3 t) (iblk m c 4 t) (iblk m c 5 t) (iblk m c 6 t) (iblk m c 7 t) = hAt m c t := by
  unfold k0_pay14 hAt hblk
  rw [l0, l1, l2, l2]

theorem col3 (w : Vec Ideal S1024x1536 .bf16) (d : Fin 1024) (n : Fin 512) : View.ld w r0_3 (ix2 d n : S1024x512.Idx) = w (ix2 d ⟨0 + n.val, by omega⟩) :=
  View.ld_unit_apply_of w _ _ _ _ _ fun a => by
    match a with
    | ⟨0, _⟩ => exact (Nat.zero_add _).symm
    | ⟨1, _⟩ => rfl
theorem col7 (w : Vec Ideal S1024x1536 .bf16) (d : Fin 1024) (n : Fin 512) : View.ld w r0_7 (ix2 d n : S1024x512.Idx) = w (ix2 d ⟨512 + n.val, by omega⟩) :=
  View.ld_unit_apply_of w _ _ _ _ _ fun a => by
    match a with
    | ⟨0, _⟩ => exact (Nat.zero_add _).symm
    | ⟨1, _⟩ => rfl
theorem col8 (w : Vec Ideal S1024x1536 .bf16) (d : Fin 1024) (n : Fin 512) : View.ld w r0_8 (ix2 d n : S1024x512.Idx) = w (ix2 d ⟨1024 + n.val, by omega⟩) :=
  View.ld_unit_apply_of w _ _ _ _ _ fun a => by
    match a with
    | ⟨0, _⟩ => exact (Nat.zero_add _).symm
    | ⟨1, _⟩ => rfl

/-- The indicator of the heads. -/
def IndOk (i : Vec Ideal S256x256 .bf16) : Prop := ∀ a b : Fin 256, i (ix2 a b) = sameHead a.val b.val

theorem out8 (hi : IndOk (V m c main_v8)) (t : Fin cfg0.N) (p : Fin 256) (n : Fin 512) : out0_8 (iblk m c 0 t) (iblk m c 1 t) (iblk m c 2 t) (iblk m c 3 t) (iblk m c 4 t) (iblk m c 5 t) (iblk m c 6 t) (iblk m c 7 t) (ix2 p n)
    = headNorm (fun e => pr m c (rowOf t p) ⟨0 + (headLane n e).val, by omega⟩) (laneOf n) (V m c main_v18 (ix2 0 n : S1x512.Idx)) := by
  unfold out0_8
  rw [show (View.canon _ : Vec Ideal S256x512 .bf16) = _ from View.canon_cons_unit_lit _ _ [] hz2]
  rw [l0, l1, l2, l2, l4, l5, ib5, ib7, pay8_at _ _ _ _ _ _ _ hi]
  refine congrArg (fun z => headNorm z _ _) (funext fun e => ?_)
  exact mm_at m c t _ 0 (by omega) (fun d n => col3 _ d n) p _

theorem out9 (t : Fin cfg0.N) (p : Fin 256) (n : Fin 512) : out0_9 (iblk m c 0 t) (iblk m c 1 t) (iblk m c 2 t) (iblk m c 3 t) (iblk m c 4 t) (iblk m c 5 t) (iblk m c 6 t) (iblk m c 7 t) (ix2 p n) = pr m c (rowOf t p) ⟨512 + n.val, by omega⟩ := by
  unfold out0_9
  rw [show (View.canon _ : Vec Ideal S256x512 .bf16) = _ from View.canon_cons_unit_lit _ _ [] hz2]
  rw [pay14_eq, pay9_at]
  exact mm_at m c t _ 512 (by omega) (fun d n => col7 _ d n) p _

theorem out10 (t : Fin cfg0.N) (y : S4x256x128.Idx) : out0_10 (iblk m c 0 t) (iblk m c 1 t) (iblk m c 2 t) (iblk m c 3 t) (iblk m c 4 t) (iblk m c 5 t) (iblk m c 6 t) (iblk m c 7 t) y
    = pr m c (rowOf t ⟨(y 1).val, (y 1).isLt⟩) ⟨1024 + (128 * (y 0).val + (y 2).val), by have h0 : (y 0).val < 4 := (y 0).isLt; have h2 : (y 2).val < 128 := (y 2).isLt; omega⟩ := by
  have hm := fun p n => mm_at m c t (View.ld (iblk m c 4 t) r0_8) 1024 (by omega) (fun d n => col8 _ d n) p n
  unfold out0_10
  canon_tiles x h using cover0_10 ..
  · obtain ⟨a, p, l, rfl⟩ : ∃ (a : Fin 1) (p : Fin 256) (l : Fin 128), x = ix3 a p l := ⟨x 0, x 1, x 2, by funext d; match d with | ⟨0, _⟩ => rfl | ⟨1, _⟩ => rfl | ⟨2, _⟩ => rfl⟩
    obtain rfl : a = 0 := Subsingleton.elim _ _
    refine Eq.trans (grp_at (k0_pay10 (k0_pay14 (iblk m c 0 t) (iblk m c 1 t) (iblk m c 2 t) (iblk m c 3 t) (iblk m c 4 t) (iblk m c 5 t) (iblk m c 6 t) (iblk m c 7 t)) (View.ld (iblk m c 4 t) r0_8)) p l).2.2.2 ?_
    rw [pay14_eq, pay10_at, hm]
    have e0 : (y 0).val = 3 := h0
    have e1 : (y 1).val = p.val := h1
    have e2 : (y 2).val = l.val := h2
    refine congr (congrArg (pr m c) (congrArg (rowOf t) (Fin.ext e1.symm))) (Fin.ext ?_)
    show 1024 + (384 + l.val) = 1024 + (128 * (y 0).val + (y 2).val)
    omega
  · obtain ⟨a, p, l, rfl⟩ : ∃ (a : Fin 1) (p : Fin 256) (l : Fin 128), x = ix3 a p l := ⟨x 0, x 1, x 2, by funext d; match d with | ⟨0, _⟩ => rfl | ⟨1, _⟩ => rfl | ⟨2, _⟩ => rfl⟩
    obtain rfl : a = 0 := Subsingleton.elim _ _
    refine Eq.trans (grp_at (k0_pay10 (k0_pay14 (iblk m c 0 t) (iblk m c 1 t) (iblk m c 2 t) (iblk m c 3 t) (iblk m c 4 t) (iblk m c 5 t) (iblk m c 6 t) (iblk m c 7 t)) (View.ld (iblk m c 4 t) r0_8)) p l).2.2.1 ?_
    rw [pay14_eq, pay10_at, hm]
    have e0 : (y 0).val = 2 := h0
    have e1 : (y 1).val = p.val := h1
    have e2 : (y 2).val = l.val := h2
    refine congr (congrArg (pr m c) (congrArg (rowOf t) (Fin.ext e1.symm))) (Fin.ext ?_)
    show 1024 + (256 + l.val) = 1024 + (128 * (y 0).val + (y 2).val)
    omega
  · obtain ⟨a, p, l, rfl⟩ : ∃ (a : Fin 1) (p : Fin 256) (l : Fin 128), x = ix3 a p l := ⟨x 0, x 1, x 2, by funext d; match d with | ⟨0, _⟩ => rfl | ⟨1, _⟩ => rfl | ⟨2, _⟩ => rfl⟩
    obtain rfl : a = 0 := Subsingleton.elim _ _
    refine Eq.trans (grp_at (k0_pay10 (k0_pay14 (iblk m c 0 t) (iblk m c 1 t) (iblk m c 2 t) (iblk m c 3 t) (iblk m c 4 t) (iblk m c 5 t) (iblk m c 6 t) (iblk m c 7 t)) (View.ld (iblk m c 4 t) r0_8)) p l).2.1 ?_
    rw [pay14_eq, pay10_at, hm]
    have e0 : (y 0).val = 1 := h0
    have e1 : (y 1).val = p.val := h1
    have e2 : (y 2).val = l.val := h2
    refine congr (congrArg (pr m c) (congrArg (rowOf t) (Fin.ext e1.symm))) (Fin.ext ?_)
    show 1024 + (128 + l.val) = 1024 + (128 * (y 0).val + (y 2).val)
    omega
  · obtain ⟨a, p, l, rfl⟩ : ∃ (a : Fin 1) (p : Fin 256) (l : Fin 128), x = ix3 a p l := ⟨x 0, x 1, x 2, by funext d; match d with | ⟨0, _⟩ => rfl | ⟨1, _⟩ => rfl | ⟨2, _⟩ => rfl⟩
    obtain rfl : a = 0 := Subsingleton.elim _ _
    refine Eq.trans (grp_at (k0_pay10 (k0_pay14 (iblk m c 0 t) (iblk m c 1 t) (iblk m c 2 t) (iblk m c 3 t) (iblk m c 4 t) (iblk m c 5 t) (iblk m c 6 t) (iblk m c 7 t)) (View.ld (iblk m c 4 t) r0_8)) p l).1 ?_
    rw [pay14_eq, pay10_at, hm]
    have e0 : (y 0).val = 0 := h0
    have e1 : (y 1).val = p.val := h1
    have e2 : (y 2).val = l.val := h2
    refine congr (congrArg (pr m c) (congrArg (rowOf t) (Fin.ext e1.symm))) (Fin.ext ?_)
    show 1024 + l.val = 1024 + (128 * (y 0).val + (y 2).val)
    omega

/-- The keys: each lane normed over its head. -/
def kArr : Vec Ideal S2048x512 .bf16 := fun y =>
  headNorm (fun e => pr m c ⟨(y 0).val, (y 0).isLt⟩ ⟨0 + (headLane ⟨(y 1).val, (y 1).isLt⟩ e).val, by omega⟩) (laneOf ⟨(y 1).val, (y 1).isLt⟩) (V m c main_v18 (ix2 0 ⟨(y 1).val, (y 1).isLt⟩ : S1x512.Idx))
/-- The values. -/
def vArr : Vec Ideal S2048x512 .bf16 := fun y => pr m c ⟨(y 0).val, (y 0).isLt⟩ ⟨512 + (y 1).val, by have h1 : (y 1).val < 512 := (y 1).isLt; omega⟩
/-- The recurrence's branch, by groups of 128 lanes. -/
def xArr : Vec Ideal S4x2048x128 .f32 := fun y => pr m c ⟨(y 1).val, (y 1).isLt⟩
  ⟨1024 + (128 * (y 0).val + (y 2).val), by have h0 : (y 0).val < 4 := (y 0).isLt; have h2 : (y 2).val < 128 := (y 2).isLt; omega⟩

theorem arr8 (hi : IndOk (V m c main_v8)) : (dats m 0 c).arrAt 8 cfg0.N = kArr m c := by
  refine (dats m 0 c).arrAt_eq_of_covers 8 _ (by decide +kernel) fun t hf y => ?_
  blk_simp
  rw [after0_8]
  have hN := nt t
  have e : (win0_8.blk t).view.emb y = (ix2 (rowOf t ⟨(y 0).val, (y 0).isLt⟩) ⟨(y 1).val, (y 1).isLt⟩ : S2048x512.Idx) := by
    unfold rowOf; blk_ext [wx8 t]
  refine Eq.trans ?_ (congrArg (kArr m c) e).symm
  have ey : y = (ix2 ⟨(y 0).val, (y 0).isLt⟩ ⟨(y 1).val, (y 1).isLt⟩ : S256x512.Idx) := by
    funext d; match d with | ⟨0, _⟩ => rfl | ⟨1, _⟩ => rfl
  exact (congrArg _ ey).trans (out8 m c hi t _ _)

theorem arr9 : (dats m 0 c).arrAt 9 cfg0.N = vArr m c := by
  refine (dats m 0 c).arrAt_eq_of_covers 9 _ (by decide +kernel) fun t hf y => ?_
  blk_simp
  rw [after0_9]
  have hN := nt t
  have e : (win0_9.blk t).view.emb y = (ix2 (rowOf t ⟨(y 0).val, (y 0).isLt⟩) ⟨(y 1).val, (y 1).isLt⟩ : S2048x512.Idx) := by
    unfold rowOf; blk_ext [wx9 t]
  refine Eq.trans ?_ (congrArg (vArr m c) e).symm
  have ey : y = (ix2 ⟨(y 0).val, (y 0).isLt⟩ ⟨(y 1).val, (y 1).isLt⟩ : S256x512.Idx) := by
    funext d; match d with | ⟨0, _⟩ => rfl | ⟨1, _⟩ => rfl
  exact (congrArg _ ey).trans (out9 m c t _ _)

theorem arr10 : (dats m 0 c).arrAt 10 cfg0.N = xArr m c := by
  refine (dats m 0 c).arrAt_eq_of_covers 10 _ (by decide +kernel) fun t hf y => ?_
  blk_simp
  rw [after0_10]
  have hN := nt t
  have e : (win0_10.blk t).view.emb y = (ix3 ⟨(y 0).val, (y 0).isLt⟩ (rowOf t ⟨(y 1).val, (y 1).isLt⟩) ⟨(y 2).val, (y 2).isLt⟩ : S4x2048x128.Idx) := by
    unfold rowOf; blk_ext [wx10 t]
  refine Eq.trans ?_ (congrArg (xArr m c) e).symm
  exact out10 m c t y

end Cert.Kernel4Ideal.Ctx

end
-- ==== Proof.CtxHost.lean ====
/- What the windows of the context's projection read, of the arguments. -/
module

public import proofs.«01_k».proof.Proof.CtxArr

@[expose] public section

set_option maxRecDepth 16384

noncomputable section

namespace Cert.Kernel4Ideal.Ctx

open Cert.Kernel4Ideal.Gen Cert.InpSpec
open Idealize.ShloMosaic Idealize.ShloMosaic.TcCoe Idealize.ShloMosaic.Tactic
open Idealize.SL.Sem
open Idealize.ShloMosaic.Pipeline (Dat Cfg Window BodyObligation cellOf)

variable (m : (ℓ : Loc nD τ sig) → Buf (Elt Ideal) ℓ) (c : Dev nD)

theorem v8_ok : IndOk (V m c main_v8) := by
  have e : V m c main_v8 = truncf .bf16 (uitofp (F := Ideal) .f32 (cmpi .eq (broadcastInDim S256x256 ![0, 1] bcast_S256x1_S256x256_0_1 (broadcastInDim S256x1 ![0] bcast_S256_S256x1_0 (shapeCast S256 (iotaInDim S4x64 32 0) shapeCasts_S4x64_S256)))
      (broadcastInDim S256x256 ![0, 1] bcast_S1x256_S256x256_0_1 (broadcastInDim S1x256 ![1] bcast_S256_S1x256_1 (shapeCast S256 (iotaInDim S4x64 32 0) shapeCasts_S4x64_S256))))) bitsLt_bf16_f32 := by
    unfold V
    simp only [List.flatten_cons, List.flatten_nil, List.append_nil, hostOps0]
    after_results_simp
    rfl
  intro a b
  rw [e]
  unfold sameHead
  pointwise
  by_cases h : a.val / 64 = b.val / 64
  · rw [if_pos h, h]
    show ((((BitVec.ofBool (BitVec.ofNat 32 (b.val / 64) == BitVec.ofNat 32 (b.val / 64))).toNat : ℕ) : ℝ) : EReal) = 1
    rw [beq_self_eq_true]
    simp
  · rw [if_neg h]
    have hne : (BitVec.ofNat 32 (a.val / 64) == BitVec.ofNat 32 (b.val / 64)) = false := by
      rw [beq_eq_false_iff_ne]
      intro h'
      have := congrArg BitVec.toNat h'
      simp only [BitVec.toNat_ofNat] at this
      omega
    show ((((BitVec.ofBool (BitVec.ofNat 32 (a.val / 64) == BitVec.ofNat 32 (b.val / 64))).toNat : ℕ) : ℝ) : EReal) = 0
    rw [hne]
    simp

theorem v18_at (n : Fin 512) : V m c main_v18 (ix2 0 n : S1x512.Idx) = m ((c.tc : Thread nD τ).loc main_arg6) (ix1 (laneOf n) : S64.Idx) := by
  have e : V m c main_v18 = shapeCast S1x512 (shapeCast S512 (broadcastInDim S8x64 ![0, 1] bcast_S1x64_S8x64_0_1 (shapeCast S1x64 (m ((c.tc : Thread nD τ).loc main_arg6)) shapeCasts_S64_S1x64)) shapeCasts_S8x64_S512) shapeCasts_S512_S1x512 := by
    unfold V
    simp only [List.flatten_cons, List.flatten_nil, List.append_nil, hostOps0]
    after_results_simp
    rfl
  rw [e]
  unfold laneOf
  pointwise

theorem cast22 (x : Vec Ideal S8x256x1024 .f32) (r : Fin 2048) (d : Fin 1024) :
    shapeCast S2048x1024 x shapeCasts_S8x256x1024_S2048x1024 (ix2 r d) = x (ix3 ⟨r.val / 256, by omega⟩ ⟨r.val % 256, by omega⟩ d) := by
  pointwise

theorem v22_at (r : Fin 2048) (d : Fin 1024) : V m c main_v22 (ix2 r d : S2048x1024.Idx)
    = m ((c.tc : Thread nD τ).loc main_arg0) (ix3 ⟨r.val / 256, by omega⟩ ⟨r.val % 256, by omega⟩ d : S8x256x1024.Idx) := by
  have e : V m c main_v22 = shapeCast S2048x1024 (m ((c.tc : Thread nD τ).loc main_arg0)) shapeCasts_S8x256x1024_S2048x1024 := by
    unfold V
    simp only [List.flatten_cons, List.flatten_nil, List.append_nil, hostOps0]
    after_results_simp
    rfl
  rw [e]
  exact cast22 _ r d

theorem v23_at (d : Fin 1024) : V m c main_v23 (ix2 0 d : S1x1024.Idx) = m ((c.tc : Thread nD τ).loc main_arg3) (ix1 d : S1024.Idx) := by
  have e : V m c main_v23 = shapeCast S1x1024 (m ((c.tc : Thread nD τ).loc main_arg3)) shapeCasts_S1024_S1x1024 := by
    unfold V
    simp only [List.flatten_cons, List.flatten_nil, List.append_nil, hostOps0]
    after_results_simp
    rfl
  rw [e]
  pointwise

theorem v19_at (b : Fin 8) (d : Fin 1024) : V m c main_v19 (ix3 b 0 d : S8x1x1024.Idx) = m ((c.tc : Thread nD τ).loc main_arg1) (ix1 d : S1024.Idx) := by
  have e : V m c main_v19 = broadcastInDim (α := Elt Ideal .f32) S8x1x1024 ![2] bcast_S1024_S8x1x1024_2 (m ((c.tc : Thread nD τ).loc main_arg1)) := by
    unfold V
    simp only [List.flatten_cons, List.flatten_nil, List.append_nil, hostOps0]
    after_results_simp
  rw [e]
  pointwise

theorem v20_at (b : Fin 8) (d : Fin 1024) : V m c main_v20 (ix3 b 0 d : S8x1x1024.Idx) = m ((c.tc : Thread nD τ).loc main_arg2) (ix1 d : S1024.Idx) := by
  have e : V m c main_v20 = broadcastInDim (α := Elt Ideal .f32) S8x1x1024 ![2] bcast_S1024_S8x1x1024_2 (m ((c.tc : Thread nD τ).loc main_arg2)) := by
    unfold V
    simp only [List.flatten_cons, List.flatten_nil, List.append_nil, hostOps0]
    after_results_simp
  rw [e]
  pointwise

theorem v24_at (d : Fin 1024) (k : Fin 1536) : V m c main_v24 (ix2 d k : S1024x1536.Idx) = m ((c.tc : Thread nD τ).loc main_arg4) (ix2 d ⟨512 + k.val, by omega⟩ : S1024x2560.Idx) := by
  have e : V m c main_v24 = extractStridedSlice S1024x1536 ![0, 512] (truncf (F := Ideal) .bf16 (m ((c.tc : Thread nD τ).loc main_arg4)) bitsLt_bf16_f32) slices_S1024x2560_S1024x1536_0_512 := by
    unfold V
    simp only [List.flatten_cons, List.flatten_nil, List.append_nil, hostOps0]
    after_results_simp
  rw [e]
  pointwise

end Cert.Kernel4Ideal.Ctx

end
-- ==== Proof.CtxRef.lean ====
/- The results of the reference of the context's projection, element by element. -/
module

public import proofs.«01_k».proof.Proof.InpSpec
public import proofs.«01_k».proof.Proof.Gen.Reference4Ideal.Run

@[expose] public section

set_option maxRecDepth 16384

noncomputable section

namespace Cert.Reference4Ideal.Ctx

open Cert.Reference4Ideal Cert.Reference4Ideal.Gen
open Idealize.ShloMosaic Idealize.ShloMosaic.TcCoe Idealize.ShloMosaic.Tactic
open Cert.InpSpec

variable (x : FVec Ideal S8x256x1024 .f32) (sh sc : FVec Ideal S1024 .f32) (g : FVec Ideal S1024 .f32) (w : FVec Ideal S1024x2560 .f32) (qn : FVec Ideal S64 .f32)

/-- The roots of the rows' mean squares, inverted. -/
def rootR : FVec Ideal S8x256x1 .f32 :=
  Host.rsqrt (addf (Host.divf (broadcastInDim S8x256x1 ![0, 1] bcast_S8x256_S8x256x1_0_1 (Host.reduceAdd (mulf x x) (constant S_ .f32 0x00000000#32) reducesTo_S8x256x1024_S8x256_d2 h_S_))
    (broadcastInDim S8x256x1 ![] bcast_S_S8x256x1 (constant S_ .f32 0x44800000#32))) (broadcastInDim S8x256x1 ![] bcast_S_S8x256x1 (constant S_ .f32 0x358637BD#32)))

/-- The rows normed, scaled and shifted. -/
def normR (s : FVec Ideal S8x256x1 .f32) : FVec Ideal S8x256x1024 .f32 :=
  addf (mulf (mulf (mulf x (broadcastInDim S8x256x1024 ![0, 1, 2] bcast_S8x256x1_S8x256x1024_0_1_2 s))
    (broadcastInDim S8x256x1024 ![0, 1, 2] bcast_S1x1x1024_S8x256x1024_0_1_2 (broadcastInDim S1x1x1024 ![2] bcast_S1024_S1x1x1024_2 g)))
    (broadcastInDim S8x256x1024 ![0, 1, 2] bcast_S1x1x1024_S8x256x1024_0_1_2 (broadcastInDim S1x1x1024 ![2] bcast_S1024_S1x1x1024_2 (addf (broadcastInDim S1024 ![] bcast_S_S1024 (constant S_ .f32 0x3F800000#32)) sc))))
    (broadcastInDim S8x256x1024 ![0, 1, 2] bcast_S1x1x1024_S8x256x1024_0_1_2 (broadcastInDim S1x1x1024 ![2] bcast_S1024_S1x1x1024_2 sh))

/-- The product with the weights. -/
def prodR (h : FVec Ideal S8x256x1024 .f32) : FVec Ideal S8x256x1536 .f32 :=
  Host.dotGeneral (φ₁ := .f32) (φ₂ := .f32) dot_S8x256x1024_S1024x1536_S8x256x1536_2_0_01_1_n_n none h (extractStridedSlice S1024x1536 ![0, 512] w slices_S1024x2560_S1024x1536_0_512)

/-- The whole product. -/
def zR : FVec Ideal S8x256x1536 .f32 := prodR w (normR x sh sc g (rootR x))

/-- A head's lanes normed. -/
def headsR (z : FVec Ideal S8x256x8x64 .f32) (q : FVec Ideal S64 .f32) : FVec Ideal S8x256x8x64 .f32 :=
  mulf (mulf z (broadcastInDim S8x256x8x64 ![0, 1, 2, 3] bcast_S8x256x8x1_S8x256x8x64_0_1_2_3 (Host.rsqrt (addf (Host.divf (broadcastInDim S8x256x8x1 ![0, 1, 2] bcast_S8x256x8_S8x256x8x1_0_1_2
      (Host.reduceAdd (mulf z z) (constant S_ .f32 0x00000000#32) reducesTo_S8x256x8x64_S8x256x8_d3 h_S_)) (broadcastInDim S8x256x8x1 ![] bcast_S_S8x256x8x1 (constant S_ .f32 0x42800000#32)))
      (broadcastInDim S8x256x8x1 ![] bcast_S_S8x256x8x1 (constant S_ .f32 0x358637BD#32))))))
    (broadcastInDim S8x256x8x64 ![0, 1, 2, 3] bcast_S1x1x1x64_S8x256x8x64_0_1_2_3 (broadcastInDim S1x1x1x64 ![3] bcast_S64_S1x1x1x64_3 q))

def k4 (z : FVec Ideal S8x256x1536 .f32) : FVec Ideal S8x256x8x64 .f32 :=
  shapeCast S8x256x8x64 (extractStridedSlice S8x256x512 ![0, 0, 0] z slices_S8x256x1536_S8x256x512_0_0_0) shapeCasts_S8x256x512_S8x256x8x64

/-- The three results. -/
def kR (z : FVec Ideal S8x256x1536 .f32) (q : FVec Ideal S64 .f32) : FVec Ideal S2048x512 .bf16 :=
  truncf .bf16 (shapeCast S2048x512 (headsR (k4 z) q) shapeCasts_S8x256x8x64_S2048x512) bitsLt_bf16_f32
def vR (z : FVec Ideal S8x256x1536 .f32) : FVec Ideal S2048x512 .bf16 :=
  truncf .bf16 (shapeCast S2048x512 (extractStridedSlice S8x256x512 ![0, 0, 512] z slices_S8x256x1536_S8x256x512_0_0_512) shapeCasts_S8x256x512_S2048x512) bitsLt_bf16_f32
def xR (z : FVec Ideal S8x256x1536 .f32) : FVec Ideal S4x2048x128 .f32 :=
  transpose S4x2048x128 [1, 0, 2] (shapeCast S2048x4x128 (extractStridedSlice S8x256x512 ![0, 0, 1024] z slices_S8x256x1536_S8x256x512_0_0_1024) shapeCasts_S8x256x512_S2048x4x128) transposes_S2048x4x128_S4x2048x128_1_0_2

section Res
variable (m : (ℓ : Loc nD τ sig) → Buf (Elt Ideal) ℓ) (c : Dev nD)

/-- The product, of the arguments. -/
def zM : FVec Ideal S8x256x1536 .f32 :=
  zR (m (c.tc.loc main_arg0)) (m (c.tc.loc main_arg1)) (m (c.tc.loc main_arg2)) (m (c.tc.loc main_arg3)) (m (c.tc.loc main_arg4))

theorem res_k : Value.res_main_v41 m c = kR (zM m c) (m (c.tc.loc main_arg6)) := by
  unfold Value.res_main_v41 kR headsR k4 zM zR prodR normR rootR
  rfl
end Res

/-- The entry of row `r` and column `k`. -/
def refProj (r : Fin 2048) (k : Fin 1536) : EReal :=
  proj (fun d => x (ix3 ⟨r.val / 256, by omega⟩ ⟨r.val % 256, by omega⟩ d)) (fun d => g (ix1 d)) (fun d => sc (ix1 d))
    (fun d => sh (ix1 d)) (fun d => w (ix2 d ⟨512 + k.val, by omega⟩))

theorem rootR_at (b : Fin 8) (t : Fin 256) : rootR x (ix3 b t 0) = Ideal.rsqrt (Ideal.div (∑ k : Fin 1024, x (ix3 b t k) * x (ix3 b t k)) width + eps) := by
  unfold rootR width eps
  pointwise
theorem normR_at (s : FVec Ideal S8x256x1 .f32) (b : Fin 8) (t : Fin 256) (d : Fin 1024) : normR x sh sc g s (ix3 b t d)
    = x (ix3 b t d) * s (ix3 b t 0) * g (ix1 d) * (one + sc (ix1 d)) + sh (ix1 d) := by
  unfold normR one
  pointwise
theorem prodR_at (h : FVec Ideal S8x256x1024 .f32) (b : Fin 8) (t : Fin 256) (k : Fin 1536) : prodR w h (ix3 b t k) = ∑ d : Fin 1024, h (ix3 b t d) * w (ix2 d ⟨512 + k.val, by omega⟩) := by
  unfold prodR
  pointwise
theorem zR_at (r : Fin 2048) (k : Fin 1536) : zR x sh sc g w (ix3 ⟨r.val / 256, by omega⟩ ⟨r.val % 256, by omega⟩ k) = refProj x sh sc g w r k := by
  unfold zR refProj proj
  rw [prodR_at]
  refine Finset.sum_congr rfl fun d _ => ?_
  rw [normR_at, rootR_at]
  rfl

theorem headsR_at (z : FVec Ideal S8x256x8x64 .f32) (q : FVec Ideal S64 .f32) (b : Fin 8) (t : Fin 256) (h : Fin 8) (e : Fin 64) :
    headsR z q (ix4 b t h e) = headNorm (fun e => z (ix4 b t h e)) e (q (ix1 e)) := by
  unfold headsR headNorm headWidth eps
  pointwise
theorem k4_at (z : FVec Ideal S8x256x1536 .f32) (b : Fin 8) (t : Fin 256) (h : Fin 8) (e : Fin 64) : k4 z (ix4 b t h e) = z (ix3 b t ⟨64 * h.val + e.val, by omega⟩) := by
  unfold k4
  pointwise
  refine congrArg z (congrArg _ (Fin.ext ?_))
  dsimp only
  omega
theorem rows_at (z : FVec Ideal S8x256x8x64 .f32) (r : Fin 2048) (n : Fin 512) : shapeCast S2048x512 z shapeCasts_S8x256x8x64_S2048x512 (ix2 r n)
    = z (ix4 ⟨r.val / 256, by omega⟩ ⟨r.val % 256, by omega⟩ ⟨n.val / 64, by omega⟩ ⟨n.val % 64, by omega⟩) := by
  pointwise
theorem rows3_at (z : FVec Ideal S8x256x512 .f32) (r : Fin 2048) (n : Fin 512) : shapeCast S2048x512 z shapeCasts_S8x256x512_S2048x512 (ix2 r n)
    = z (ix3 ⟨r.val / 256, by omega⟩ ⟨r.val % 256, by omega⟩ n) := by
  pointwise
theorem groups_at (z : FVec Ideal S8x256x512 .f32) (r : Fin 2048) (a : Fin 4) (l : Fin 128) : shapeCast S2048x4x128 z shapeCasts_S8x256x512_S2048x4x128 (ix3 r a l)
    = z (ix3 ⟨r.val / 256, by omega⟩ ⟨r.val % 256, by omega⟩ ⟨128 * a.val + l.val, by omega⟩) := by
  pointwise
  refine congrArg z (congrArg _ (Fin.ext ?_))
  dsimp only
  omega

theorem kR_at (z : FVec Ideal S8x256x1536 .f32) (q : FVec Ideal S64 .f32) (r : Fin 2048) (n : Fin 512) : kR z q (ix2 r n)
    = headNorm (fun e => z (ix3 ⟨r.val / 256, by omega⟩ ⟨r.val % 256, by omega⟩ ⟨0 + (headLane n e).val, by omega⟩)) (laneOf n) (q (ix1 (laneOf n))) := by
  unfold kR
  pointwise [rows_at, headsR_at, k4_at]
  rfl
theorem vR_at (z : FVec Ideal S8x256x1536 .f32) (r : Fin 2048) (n : Fin 512) : vR z (ix2 r n)
    = z (ix3 ⟨r.val / 256, by omega⟩ ⟨r.val % 256, by omega⟩ ⟨512 + n.val, by omega⟩) := by
  unfold vR
  pointwise [rows3_at]
theorem xR_at (z : FVec Ideal S8x256x1536 .f32) (a : Fin 4) (r : Fin 2048) (l : Fin 128) : xR z (ix3 a r l)
    = z (ix3 ⟨r.val / 256, by omega⟩ ⟨r.val % 256, by omega⟩ ⟨1024 + (128 * a.val + l.val), by omega⟩) := by
  unfold xR
  pointwise [groups_at]
end Cert.Reference4Ideal.Ctx

end
-- ==== Proof.CtxEq.lean ====
/- The arrays of the context's projection are the reference's. -/
module

public import proofs.«01_k».proof.Proof.CtxHost
public import proofs.«01_k».proof.Proof.CtxRef

@[expose] public section

set_option maxRecDepth 16384

noncomputable section

namespace Cert.Kernel4Ideal.Ctx

open Cert.Kernel4Ideal.Gen Cert.InpSpec
open Idealize.ShloMosaic Idealize.ShloMosaic.TcCoe Idealize.ShloMosaic.Tactic
open Cert.Reference4Ideal.Ctx (zR kR vR xR refProj)

variable (m : (ℓ : Loc nD τ sig) → Buf (Elt Ideal) ℓ) (c : Dev nD)

abbrev a0 : FVec Ideal S8x256x1024 .f32 := m ((c.tc : Thread nD τ).loc main_arg0)
abbrev a1 : FVec Ideal S1024 .f32 := m ((c.tc : Thread nD τ).loc main_arg1)
abbrev a2 : FVec Ideal S1024 .f32 := m ((c.tc : Thread nD τ).loc main_arg2)
abbrev a3 : FVec Ideal S1024 .f32 := m ((c.tc : Thread nD τ).loc main_arg3)
abbrev a4 : FVec Ideal S1024x2560 .f32 := m ((c.tc : Thread nD τ).loc main_arg4)
abbrev a6 : FVec Ideal S64 .f32 := m ((c.tc : Thread nD τ).loc main_arg6)

/-- The reference's product, of the kernel's arguments. -/
def zK : FVec Ideal Cert.Reference4Ideal.S8x256x1536 .f32 := zR (a0 m c) (a1 m c) (a2 m c) (a3 m c) (a4 m c)

theorem pr_eq (r : Fin 2048) (k : Fin 1536) : pr m c r k = zK m c (ix3 ⟨r.val / 256, by omega⟩ ⟨r.val % 256, by omega⟩ k) := by
  refine Eq.trans ?_ (Cert.Reference4Ideal.Ctx.zR_at (a0 m c) (a1 m c) (a2 m c) (a3 m c) (a4 m c) r k).symm
  unfold pr projAt refProj
  refine congr (congr (congr (congr (congrArg proj ?_) ?_) ?_) ?_) ?_
  · funext d; exact v22_at m c r d
  · funext d; exact v23_at m c d
  · funext d; exact v20_at m c _ d
  · funext d; exact v19_at m c _ d
  · funext d; exact v24_at m c d k

theorem k_eq : kArr m c = kR (zK m c) (a6 m c) := by
  funext y
  have ey : y = (ix2 ⟨(y 0).val, (y 0).isLt⟩ ⟨(y 1).val, (y 1).isLt⟩ : S2048x512.Idx) := by
    funext d; match d with | ⟨0, _⟩ => rfl | ⟨1, _⟩ => rfl
  refine Eq.trans ?_ ((congrArg (kR (zK m c) (a6 m c)) ey).trans (Cert.Reference4Ideal.Ctx.kR_at (zK m c) (a6 m c) ⟨(y 0).val, (y 0).isLt⟩ ⟨(y 1).val, (y 1).isLt⟩)).symm
  unfold kArr
  rw [v18_at]
  simp only [pr_eq]

theorem v_eq : vArr m c = vR (zK m c) := by
  funext y
  have ey : y = (ix2 ⟨(y 0).val, (y 0).isLt⟩ ⟨(y 1).val, (y 1).isLt⟩ : S2048x512.Idx) := by
    funext d; match d with | ⟨0, _⟩ => rfl | ⟨1, _⟩ => rfl
  refine Eq.trans ?_ ((congrArg (vR (zK m c)) ey).trans (Cert.Reference4Ideal.Ctx.vR_at (zK m c) ⟨(y 0).val, (y 0).isLt⟩ ⟨(y 1).val, (y 1).isLt⟩)).symm
  unfold vArr
  exact pr_eq m c _ _

theorem x_eq : xArr m c = xR (zK m c) := by
  funext y
  have ey : y = (ix3 ⟨(y 0).val, (y 0).isLt⟩ ⟨(y 1).val, (y 1).isLt⟩ ⟨(y 2).val, (y 2).isLt⟩ : S4x2048x128.Idx) := by
    funext d; match d with | ⟨0, _⟩ => rfl | ⟨1, _⟩ => rfl | ⟨2, _⟩ => rfl
  refine Eq.trans ?_ ((congrArg (xR (zK m c)) ey).trans (Cert.Reference4Ideal.Ctx.xR_at (zK m c) ⟨(y 0).val, (y 0).isLt⟩ ⟨(y 1).val, (y 1).isLt⟩ ⟨(y 2).val, (y 2).isLt⟩)).symm
  unfold xArr
  exact pr_eq m c _ _

end Cert.Kernel4Ideal.Ctx

end
-- ==== Proof.ModArr.lean ====
/- The array the modulation leaves, of its arguments. -/
module

public import proofs.«01_k».proof.Proof.Gen.Kernel5Ideal.Frame
public import Idealize.ShloMosaic.Lib.Pipeline.ValueKit.Point
public import Idealize.ShloMosaic.Lib.Pipeline.ValueKit.Basic
public import Idealize.ShloMosaic.Lib.Pipeline.Covers

@[expose] public section

set_option maxRecDepth 16384

noncomputable section

namespace Cert.ModSpec

open Idealize.ShloMosaic

def one : EReal := Ideal.ofBits .f32 0x3F800000#32

/-- `x` times the logistic function of `x`. -/
def silu (x : EReal) : EReal := x * Ideal.div one (one + Ideal.exp (-x))

/-- An entry of a layer's modulation. -/
def modAt (x w : Fin 1024 → EReal) (b : EReal) : EReal := (∑ d : Fin 1024, silu (x d) * w d) + b

end Cert.ModSpec

namespace Cert.Kernel5Ideal.Mod

open Cert.Kernel5Ideal.Gen Cert.ModSpec
open Idealize.ShloMosaic Idealize.ShloMosaic.TcCoe Idealize.ShloMosaic.Tactic
open Idealize.SL.Sem
open Idealize.ShloMosaic.Pipeline (Dat Cfg Window BodyObligation cellOf)

theorem pay1_at (x : Vec Ideal S16x1024 .f32) (w : Vec Ideal S1x1024x3072 .f32) (b : Vec Ideal S1x1x3072 .f32) (p : Fin 16) (n : Fin 3072) :
    k0_pay1 x w b (ix3 0 p n) = modAt (fun d => x (ix2 p d)) (fun d => w (ix3 0 d n)) (b (ix3 0 0 n)) := by
  unfold k0_pay1 modAt silu one
  pointwise
  simp only [sub_eq_add_neg, zero_add]

variable (m : (ℓ : Loc nD τ sig) → Buf (Elt Ideal) ℓ) (c : Dev nD)

theorem nt (t : Fin cfg0.N) : t.val < 4 := lt_of_lt_of_eq t.isLt (show cfg0.N = 4 by decide +kernel)

theorem wx0 : ∀ t : Fin cfg0.N, win0_0.index t = ![0, 0] := (by decide +kernel : ∀ t : Fin grid0.N, _)
theorem wx1 : ∀ t : Fin cfg0.N, win0_1.index t = ![t.val / 2, 0, t.val % 2] := (by decide +kernel : ∀ t : Fin grid0.N, _)
theorem wx2 : ∀ t : Fin cfg0.N, win0_2.index t = ![t.val / 2, 0, t.val % 2] := (by decide +kernel : ∀ t : Fin grid0.N, _)
theorem wx3 : ∀ t : Fin cfg0.N, win0_3.index t = ![t.val / 2, 0, t.val % 2] := (by decide +kernel : ∀ t : Fin grid0.N, _)

/-- The layer and the column of a block's entry. -/
def layOf (t : Fin cfg0.N) : Fin 2 := ⟨t.val / 2, by have := nt t; omega⟩
def colOf (t : Fin cfg0.N) (n : Fin 3072) : Fin 6144 := ⟨3072 * (t.val % 2) + n.val, by omega⟩

theorem ib0 (t : Fin cfg0.N) (p : Fin 16) (d : Fin 1024) : iblk m c 0 t (ix2 p d : S16x1024.Idx) = V m c main_v2 (ix2 p d : S16x1024.Idx) := by
  show V m c main_v2 ((win0_0.blk t).view.emb (ix2 p d : S16x1024.Idx)) = _
  congr 1
  blk_ext [wx0 t]
theorem ib1 (t : Fin cfg0.N) (d : Fin 1024) (n : Fin 3072) : iblk m c 1 t (ix3 0 d n : S1x1024x3072.Idx) = V m c main_arg2 (ix3 (layOf t) d (colOf t n) : S2x1024x6144.Idx) := by
  show V m c main_arg2 ((win0_1.blk t).view.emb (ix3 0 d n : S1x1024x3072.Idx)) = _
  congr 1
  unfold layOf colOf
  blk_ext [wx1 t]
theorem ib2 (t : Fin cfg0.N) (n : Fin 3072) : iblk m c 2 t (ix3 0 0 n : S1x1x3072.Idx) = V m c main_v3 (ix3 (layOf t) 0 (colOf t n) : S2x1x6144.Idx) := by
  show V m c main_v3 ((win0_2.blk t).view.emb (ix3 0 0 n : S1x1x3072.Idx)) = _
  congr 1
  unfold layOf colOf
  blk_ext [wx2 t]

theorem hz2 : ∀ a, (![0, 0] : Fin 2 → ℕ) a = 0 := by decide
theorem hz3 : ∀ a, (![0, 0, 0] : Fin 3 → ℕ) a = 0 := by decide
theorem l0 (x : Vec Ideal S16x1024 .f32) : View.ld x r0_0 = x := View.ld_unit_lit _ x hz2
theorem l1 (x : Vec Ideal S1x1024x3072 .f32) : View.ld x r0_1 = x := View.ld_unit_lit _ x hz3
theorem l2 (x : Vec Ideal S1x1x3072 .f32) : View.ld x r0_2 = x := View.ld_unit_lit _ x hz3

/-- The modulation, of what the windows read. -/
def modV (l : Fin 2) (p : Fin 16) (n : Fin 6144) : EReal :=
  modAt (fun d => V m c main_v2 (ix2 p d : S16x1024.Idx)) (fun d => V m c main_arg2 (ix3 l d n : S2x1024x6144.Idx)) (V m c main_v3 (ix3 l 0 n : S2x1x6144.Idx))

theorem out3 (t : Fin cfg0.N) (p : Fin 16) (n : Fin 3072) : out0_3 (iblk m c 0 t) (iblk m c 1 t) (iblk m c 2 t) (ix3 0 p n) = modV m c (layOf t) p (colOf t n) := by
  unfold out0_3
  rw [show (View.canon _ : Vec Ideal S1x16x3072 .f32) = _ from View.canon_cons_unit_lit _ _ [] hz3]
  rw [l0, l1, l2, pay1_at]
  unfold modV
  simp only [ib0, ib1, ib2]

/-- The array. -/
def modArr : Vec Ideal S2x16x6144 .f32 := fun y => modV m c ⟨(y 0).val, (y 0).isLt⟩ ⟨(y 1).val, (y 1).isLt⟩ ⟨(y 2).val, (y 2).isLt⟩

theorem arr3 : (dats m 0 c).arrAt 3 cfg0.N = modArr m c := by
  refine (dats m 0 c).arrAt_eq_of_covers 3 _ (by decide +kernel) fun t hf y => ?_
  blk_simp
  rw [after0_3]
  have hN := nt t
  have h0 : (y 0).val = 0 := Nat.lt_one_iff.mp (y 0).isLt
  have e : (win0_3.blk t).view.emb y = (ix3 (layOf t) ⟨(y 1).val, (y 1).isLt⟩ (colOf t ⟨(y 2).val, (y 2).isLt⟩) : S2x16x6144.Idx) := by
    unfold layOf colOf; blk_ext [wx3 t, h0]
  refine Eq.trans ?_ (congrArg (modArr m c) e).symm
  have ey : y = (ix3 0 ⟨(y 1).val, (y 1).isLt⟩ ⟨(y 2).val, (y 2).isLt⟩ : S1x16x3072.Idx) := by
    funext d; match d with | ⟨0, _⟩ => exact Fin.ext h0 | ⟨1, _⟩ => rfl | ⟨2, _⟩ => rfl
  exact (congrArg _ ey).trans (out3 m c t _ _)

/-- The rows: the batch, the context, zeros. -/
def rowsK (a : FVec Ideal S8x1024 .f32) (b : FVec Ideal S1024 .f32) : FVec Ideal S16x1024 .f32 :=
  concatenate S16x1024 0 [⟨S8x1024, a⟩, ⟨S1x1024, broadcastInDim S1x1024 ![1] bcast_S1024_S1x1024_1 b⟩, ⟨S7x1024, broadcastInDim S7x1024 ![] bcast_S_S7x1024 (constant S_ .f32 0x00000000#32)⟩] concatenates_S8x1024_S1x1024_S7x1024_S16x1024_d0

theorem v2_eq : V m c main_v2 = rowsK (m ((c.tc : Thread nD τ).loc main_arg0)) (m ((c.tc : Thread nD τ).loc main_arg1)) := by
  unfold V rowsK
  simp only [List.flatten_cons, List.flatten_nil, List.append_nil, hostOps0]
  after_results_simp
  rfl

theorem bias_at (b : FVec Ideal S2x6144 .f32) (l : Fin 2) (n : Fin 6144) : shapeCast S2x1x6144 b shapeCasts_S2x6144_S2x1x6144 (ix3 l 0 n) = b (ix2 l n) := by
  pointwise

theorem v3_at (l : Fin 2) (n : Fin 6144) : V m c main_v3 (ix3 l 0 n : S2x1x6144.Idx) = m ((c.tc : Thread nD τ).loc main_arg3) (ix2 l n : S2x6144.Idx) := by
  have e : V m c main_v3 = shapeCast S2x1x6144 (m ((c.tc : Thread nD τ).loc main_arg3)) shapeCasts_S2x6144_S2x1x6144 := by
    unfold V
    simp only [List.flatten_cons, List.flatten_nil, List.append_nil, hostOps0]
    after_results_simp
    rfl
  exact (congrFun e _).trans (bias_at _ l n)

end Cert.Kernel5Ideal.Mod

end
-- ==== Proof.ModRef.lean ====
/- The modulation's reference, element by element. -/
module

public import proofs.«01_k».proof.Proof.ModArr
public import proofs.«01_k».proof.Proof.Gen.Reference5Ideal.Run

@[expose] public section

set_option maxRecDepth 16384

noncomputable section

namespace Cert.Reference5Ideal.Mod

open Cert.Reference5Ideal Cert.Reference5Ideal.Gen
open Idealize.ShloMosaic Idealize.ShloMosaic.TcCoe Idealize.ShloMosaic.Tactic
open Cert.ModSpec

/-- The rows: the batch, the context, zeros. -/
def rowsR (a : FVec Ideal S8x1024 .f32) (b : FVec Ideal S1024 .f32) : FVec Ideal S16x1024 .f32 :=
  concatenate S16x1024 0 [⟨S8x1024, a⟩, ⟨S1x1024, broadcastInDim S1x1024 ![1] bcast_S1024_S1x1024_1 b⟩, ⟨S7x1024, broadcastInDim S7x1024 ![] bcast_S_S7x1024 (constant S_ .f32 0x00000000#32)⟩] concatenates_S8x1024_S1x1024_S7x1024_S16x1024_d0

def siluR (x : FVec Ideal S16x1024 .f32) : FVec Ideal S16x1024 .f32 :=
  mulf x (Host.divf (broadcastInDim S16x1024 ![] bcast_S_S16x1024 (constant S_ .f32 0x3F800000#32)) (addf (broadcastInDim S16x1024 ![] bcast_S_S16x1024 (constant S_ .f32 0x3F800000#32)) (Host.exp (Host.negf x))))

/-- Layer 0. -/
def lay0 (s : FVec Ideal S16x1024 .f32) (w : FVec Ideal S2x1024x6144 .f32) (b : FVec Ideal S2x6144 .f32) : FVec Ideal S16x6144 .f32 :=
  addf (Host.dotGeneral (φ₁ := .f32) (φ₂ := .f32) dot_S16x1024_S1024x6144_S16x6144_1_0_0_1_n_n none s
      (shapeCast S1024x6144 (extractStridedSlice S1x1024x6144 ![0, 0, 0] w slices_S2x1024x6144_S1x1024x6144_0_0_0) shapeCasts_S1x1024x6144_S1024x6144))
    (broadcastInDim S16x6144 ![0, 1] bcast_S1x6144_S16x6144_0_1 (broadcastInDim S1x6144 ![1] bcast_S6144_S1x6144_1
      (shapeCast S6144 (extractStridedSlice S1x6144 ![0, 0] b slices_S2x6144_S1x6144_0_0) shapeCasts_S1x6144_S6144)))
/-- Layer 1. -/
def lay1 (s : FVec Ideal S16x1024 .f32) (w : FVec Ideal S2x1024x6144 .f32) (b : FVec Ideal S2x6144 .f32) : FVec Ideal S16x6144 .f32 :=
  addf (Host.dotGeneral (φ₁ := .f32) (φ₂ := .f32) dot_S16x1024_S1024x6144_S16x6144_1_0_0_1_n_n none s
      (shapeCast S1024x6144 (extractStridedSlice S1x1024x6144 ![1, 0, 0] w slices_S2x1024x6144_S1x1024x6144_1_0_0) shapeCasts_S1x1024x6144_S1024x6144))
    (broadcastInDim S16x6144 ![0, 1] bcast_S1x6144_S16x6144_0_1 (broadcastInDim S1x6144 ![1] bcast_S6144_S1x6144_1
      (shapeCast S6144 (extractStridedSlice S1x6144 ![1, 0] b slices_S2x6144_S1x6144_1_0) shapeCasts_S1x6144_S6144)))
/-- Both layers. -/
def modR (s : FVec Ideal S16x1024 .f32) (w : FVec Ideal S2x1024x6144 .f32) (b : FVec Ideal S2x6144 .f32) : FVec Ideal S2x16x6144 .f32 :=
  concatenate S2x16x6144 0 [⟨S1x16x6144, broadcastInDim S1x16x6144 ![1, 2] bcast_S16x6144_S1x16x6144_1_2 (lay0 s w b)⟩, ⟨S1x16x6144, broadcastInDim S1x16x6144 ![1, 2] bcast_S16x6144_S1x16x6144_1_2 (lay1 s w b)⟩] concatenates_S1x16x6144_S1x16x6144_S2x16x6144_d0

theorem siluR_at (x : FVec Ideal S16x1024 .f32) (p : Fin 16) (d : Fin 1024) : siluR x (ix2 p d) = silu (x (ix2 p d)) := by
  unfold siluR silu one
  pointwise
theorem lay0_at (s : FVec Ideal S16x1024 .f32) (w : FVec Ideal S2x1024x6144 .f32) (b : FVec Ideal S2x6144 .f32) (p : Fin 16) (n : Fin 6144) :
    lay0 s w b (ix2 p n) = (∑ d : Fin 1024, s (ix2 p d) * w (ix3 0 d n)) + b (ix2 0 n) := by
  unfold lay0
  pointwise
theorem lay1_at (s : FVec Ideal S16x1024 .f32) (w : FVec Ideal S2x1024x6144 .f32) (b : FVec Ideal S2x6144 .f32) (p : Fin 16) (n : Fin 6144) :
    lay1 s w b (ix2 p n) = (∑ d : Fin 1024, s (ix2 p d) * w (ix3 1 d n)) + b (ix2 1 n) := by
  unfold lay1
  pointwise
theorem modR_at (s : FVec Ideal S16x1024 .f32) (w : FVec Ideal S2x1024x6144 .f32) (b : FVec Ideal S2x6144 .f32) (l : Fin 2) (p : Fin 16) (n : Fin 6144) :
    modR s w b (ix3 l p n) = (∑ d : Fin 1024, s (ix2 p d) * w (ix3 l d n)) + b (ix2 l n) := by
  match l with
  | ⟨0, _⟩ => unfold modR; pointwise [lay0_at]
  | ⟨1, _⟩ => unfold modR; pointwise [lay1_at]

end Cert.Reference5Ideal.Mod

namespace Cert.Kernel5Ideal.Mod

open Cert.Kernel5Ideal.Gen Cert.ModSpec
open Idealize.ShloMosaic Idealize.ShloMosaic.TcCoe Idealize.ShloMosaic.Tactic
open Cert.Reference5Ideal.Mod (modR siluR rowsR)

variable (m : (ℓ : Loc nD τ sig) → Buf (Elt Ideal) ℓ) (c : Dev nD)

abbrev a0 : FVec Ideal S8x1024 .f32 := m ((c.tc : Thread nD τ).loc main_arg0)
abbrev a1 : FVec Ideal S1024 .f32 := m ((c.tc : Thread nD τ).loc main_arg1)
abbrev a2 : FVec Ideal S2x1024x6144 .f32 := m ((c.tc : Thread nD τ).loc main_arg2)
abbrev a3 : FVec Ideal S2x6144 .f32 := m ((c.tc : Thread nD τ).loc main_arg3)

theorem mod_eq : modArr m c = modR (siluR (rowsR (a0 m c) (a1 m c))) (a2 m c) (a3 m c) := by
  funext y
  have ey : y = (ix3 ⟨(y 0).val, (y 0).isLt⟩ ⟨(y 1).val, (y 1).isLt⟩ ⟨(y 2).val, (y 2).isLt⟩ : S2x16x6144.Idx) := by
    funext d; match d with | ⟨0, _⟩ => rfl | ⟨1, _⟩ => rfl | ⟨2, _⟩ => rfl
  refine Eq.trans ?_ ((congrArg (modR (siluR (rowsR (a0 m c) (a1 m c))) (a2 m c) (a3 m c)) ey).trans
    (Cert.Reference5Ideal.Mod.modR_at _ (a2 m c) (a3 m c) ⟨(y 0).val, (y 0).isLt⟩ ⟨(y 1).val, (y 1).isLt⟩ ⟨(y 2).val, (y 2).isLt⟩)).symm
  unfold modArr modV modAt
  refine congr (congrArg HAdd.hAdd (Finset.sum_congr rfl fun d _ => ?_)) (v3_at m c _ _)
  rw [Cert.Reference5Ideal.Mod.siluR_at]
  exact congr (congrArg HMul.hMul (congrArg silu (congrFun (v2_eq m c) _))) (congrFun (V_main_arg2 m c) _)

end Cert.Kernel5Ideal.Mod

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.ReferenceIdeal.Run
public import proofs.«01_k».proof.Proof.Gen.Kernel2
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Reference2Ideal.Run
public import proofs.«01_k».proof.Proof.Gen.Pre_finite2
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Kernel6
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Reference6Ideal.Run
public import proofs.«01_k».proof.Proof.Gen.Pre_tiles6
public import proofs.«01_k».proof.Proof.Gen.Pre_finite6
public import proofs.«01_k».proof.Proof.Run
public import proofs.«01_k».proof.Proof.Host
public import proofs.«01_k».proof.Proof.RefVal
public import proofs.«01_k».proof.Proof.Pre
public import proofs.«01_k».proof.Proof.FfnVal
public import proofs.«01_k».proof.Proof.FfnPair
public import proofs.«01_k».proof.Proof.FfnFrame
public import proofs.«01_k».proof.Proof.FfnRef
public import proofs.«01_k».proof.Proof.FfnPre
public import proofs.«01_k».proof.Proof.SecVal
public import proofs.«01_k».proof.Proof.SecPair
public import proofs.«01_k».proof.Proof.SecFrame
public import proofs.«01_k».proof.Proof.SecRef
public import proofs.«01_k».proof.Proof.SecPre
public import proofs.«01_k».proof.Proof.InpEq
public import proofs.«01_k».proof.Proof.CtxEq
public import proofs.«01_k».proof.Proof.ModRef
public import Idealize.ShloMosaic.Lib.Quiescent
public import Idealize.ShloMosaic.Adequacy
public import Idealize.ShloMosaic.Init

@[expose] public section

noncomputable section

namespace Cert.Proof

open Idealize.ShloMosaic Idealize.SL.Sem Cert.Spec

/-- The reference's run, with every counter at zero: the program has none. -/
theorem refFrame (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0) :=
  (θ_run Cert.ReferenceIdeal.defs _ _).mono (fun r h => ⟨fun c => (h c).2, sem_eq_zero_of_no_sems rfl r.2⟩) (Cert.ReferenceIdeal.Value.run (F := Ideal) m g)

/-- The kernel's result is the reference's, at every element. -/
theorem value_eq (m : (ℓ : Loc Cert.KernelIdeal.nD Cert.KernelIdeal.τ Cert.KernelIdeal.sig) → Buf (Elt Ideal) ℓ) (g : Dev Cert.KernelIdeal.nD → PrngReg)
    (c : Dev Cert.KernelIdeal.nD)
    (hq : Real' (s := Qs) (m ((c.tc : Thread Cert.KernelIdeal.nD Cert.KernelIdeal.τ).loc Cert.KernelIdeal.main_arg0)))
    (hk : Real' (s := Qs) (m ((c.tc : Thread Cert.KernelIdeal.nD Cert.KernelIdeal.τ).loc Cert.KernelIdeal.main_arg1)))
    (hkc : Real' (s := Cs) (m ((c.tc : Thread Cert.KernelIdeal.nD Cert.KernelIdeal.τ).loc Cert.KernelIdeal.main_arg3)))
    (hr : Real' (s := Bs) (m ((c.tc : Thread Cert.KernelIdeal.nD Cert.KernelIdeal.τ).loc Cert.KernelIdeal.main_arg5))) :
    Cert.ReferenceIdeal.Value.refOut (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      = (Cert.KernelIdeal.Gen.W8 m g c (Proc.devRef .tc Cert.KernelIdeal.main_v50) : FVec Ideal Cert.KernelIdeal.S32768x512 .bf16) := by
  funext y
  obtain ⟨n, l, rfl⟩ : ∃ n l, y = ix2 n l := ⟨y 0, y 1, eq_ix2 y⟩
  have hn := n.isLt
  have hl := l.isLt
  have en : n = Cert.KernelIdeal.Value.rowOf ⟨n.val / 4096, by omega⟩ ⟨n.val % 4096 / 256, by omega⟩ ⟨n.val % 256, by omega⟩ :=
    Fin.ext (by unfold Cert.KernelIdeal.Value.rowOf; dsimp only; omega)
  have el : l = Cert.KernelIdeal.Value.colOf ⟨l.val / 128, by omega⟩ ⟨l.val / 64 % 2, by omega⟩ ⟨l.val % 64, by omega⟩ :=
    Fin.ext (by unfold Cert.KernelIdeal.Value.colOf; dsimp only; omega)
  refine (Cert.ReferenceIdeal.Value.refOut_at _ _ _ _ _ _ hq hk hkc hr n l).trans ?_
  refine Eq.trans ?_ ((congrArg (Cert.KernelIdeal.Gen.W8 m g c (Proc.devRef .tc Cert.KernelIdeal.main_v50) : FVec Ideal Cert.KernelIdeal.S32768x512 .bf16)
    (Cert.KernelIdeal.Value.ix2_congr (congrArg Fin.val en) (congrArg Fin.val el))).trans (Cert.KernelIdeal.Value.v50_at m g c hq hk hkc hr _ _ _ _ _ _)).symm
  refine congr (congr (congrArg (result _ _ _ _ _ _ _) ?_) ?_) rfl
  · exact Fin.ext (by unfold Cert.KernelIdeal.Value.hdOf; dsimp only; omega)
  · exact Fin.ext (by unfold Cert.KernelIdeal.Value.qyOf; dsimp only; omega)

theorem algebraic : Cert.algebraic_KernelIdeal_ReferenceIdeal_pre_finite (hKernelIdeal := Cert.KernelIdeal.Gen.facts) (hReferenceIdeal := Cert.ReferenceIdeal.Gen.facts)
    (hPre_finite := Cert.Pre_finite.Gen.facts) := by
  intro m g m' g' hp ha
  refine ⟨fun c => Cert.KernelIdeal.Gen.W8 m g c (Proc.devRef .tc Cert.KernelIdeal.main_v50), ?_, ?_⟩
  · exact (θ_run Cert.KernelIdeal.defs _ _).mono (fun r h => h.1) (Cert.KernelIdeal.Value.run m g)
  · refine (θ_run Cert.ReferenceIdeal.defs _ _).mono (fun r h c => ⟨(h c).1.trans ?_, (h c).2⟩) (Cert.ReferenceIdeal.Value.run (F := Ideal) m' g')
    obtain ⟨a0, a1, a2, a3, a4, a5⟩ := ha c
    obtain ⟨hq, hk, hkc, hr⟩ := Cert.Pre_finite.Value.finite_real _ _ _ _ _ _ (hp c)
    refine (Cert.ReferenceIdeal.Value.res_eq m' c).trans ?_
    rw [a0, a1, a2, a3, a4, a5]
    exact value_eq m g c hq hk hkc hr

/-! ## The expert kernel -/

/-- Equal programs run alike. -/
theorem run_same {nD : ℕ} {τ : Topo} {sig : RefSig} {Val : EltTy → Type} {Λ : Labels} {D D' : Defs nD τ sig Val Λ} {M M' : Dev nD → Prog (TpuEff nD τ sig Val Λ .tc) PUnit}
    (hD : D = D') (hM : M = M') (s : MemSt nD τ sig Val) (Q : PUnit × MemSt nD τ sig Val → Prop) (h : θ_run D' (onTc M') s Q) : θ_run D (onTc M) s Q := by
  subst hD hM; exact h

/-- The frame of the expert kernel as printed; its text is the idealized one's. -/
theorem frame2 (m : (ℓ : Loc Cert.Kernel2.nD Cert.Kernel2.τ Cert.Kernel2.sig) → Buf (Elt Bits) ℓ) (g : Dev Cert.Kernel2.nD → PrngReg) :
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0) :=
  run_same Cert.Kernel2Ideal.Ffn.defs_same Cert.Kernel2Ideal.Ffn.main_same _ _
    (Cert.Kernel2Ideal.Ffn.frame (F := Bits) m g (Cert.Kernel2Ideal.Ffn.ok m) (Cert.Kernel2Ideal.Ffn.live m))

theorem refFrame2 (m : (ℓ : Loc Cert.Reference2Ideal.nD Cert.Reference2Ideal.τ Cert.Reference2Ideal.sig) → Buf (Elt Ideal) ℓ) (g : Dev Cert.Reference2Ideal.nD → PrngReg) :
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0) :=
  (θ_run Cert.Reference2Ideal.defs _ _).mono (fun r h => ⟨fun c => (h c).2, sem_eq_zero_of_no_sems rfl r.2⟩) (Cert.Reference2Ideal.Value.run (F := Ideal) m g)

/-- The expert kernel's result is the reference's, at every element. -/
theorem value_eq2 (m : (ℓ : Loc Cert.Kernel2Ideal.nD Cert.Kernel2Ideal.τ Cert.Kernel2Ideal.sig) → Buf (Elt Ideal) ℓ) (c : Dev Cert.Kernel2Ideal.nD)
    (hp : Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) = fun _ => 1#1) :
    Cert.Reference2Ideal.Ffn.refR
      (m ((c.tc : Thread Cert.Kernel2Ideal.nD Cert.Kernel2Ideal.τ).loc Cert.Kernel2Ideal.main_arg0))
      (m ((c.tc : Thread Cert.Kernel2Ideal.nD Cert.Kernel2Ideal.τ).loc Cert.Kernel2Ideal.main_arg1))
      (m ((c.tc : Thread Cert.Kernel2Ideal.nD Cert.Kernel2Ideal.τ).loc Cert.Kernel2Ideal.main_arg2))
      (m ((c.tc : Thread Cert.Kernel2Ideal.nD Cert.Kernel2Ideal.τ).loc Cert.Kernel2Ideal.main_arg3))
      (m ((c.tc : Thread Cert.Kernel2Ideal.nD Cert.Kernel2Ideal.τ).loc Cert.Kernel2Ideal.main_arg4))
      (m ((c.tc : Thread Cert.Kernel2Ideal.nD Cert.Kernel2Ideal.τ).loc Cert.Kernel2Ideal.main_arg5))
      = (Cert.Kernel2Ideal.Ffn.ffnArr m c : FVec Ideal Cert.Kernel2Ideal.S38912x1024 .bf16) := by
  obtain ⟨hh, hg, h1, h2, h3⟩ := Cert.Pre_finite2.Ffn.finite_real _ _ _ _ _ _ hp
  obtain rfl : c = 0 := Subsingleton.elim _ _
  funext y
  obtain ⟨r, d, rfl⟩ : ∃ r d, y = ix2 r d := ⟨y 0, y 1, eq_ix2 y⟩
  exact (Cert.Reference2Ideal.Ffn.refR_at _ _ _ _ _ _ r d).trans (Cert.Kernel2Ideal.Ffn.ffnArr_at m 0 hh hg h1 h2 h3 r d).symm

theorem algebraic2 : Cert.algebraic_Kernel2Ideal_Reference2Ideal_pre_finite2 (hKernel2Ideal := Cert.Kernel2Ideal.Gen.facts) (hReference2Ideal := Cert.Reference2Ideal.Gen.facts)
    (hPre_finite2 := Cert.Pre_finite2.Gen.facts) := by
  intro m g m' g' hp ha
  refine ⟨fun c => Cert.Kernel2Ideal.Ffn.ffnArr m c, ?_, ?_⟩
  · exact (θ_run Cert.Kernel2Ideal.defs _ _).mono (fun r h c => ⟨((h.1 c).1 4).trans (Cert.Kernel2Ideal.Ffn.arrA m c), h.2 c⟩)
      (θ_run_and (Cert.Kernel2Ideal.Ffn.run_main m g (Cert.Kernel2Ideal.Ffn.ok m) (Cert.Kernel2Ideal.Ffn.live m))
        (Cert.Kernel2Ideal.Ffn.unchanged m g (Cert.Kernel2Ideal.Ffn.ok m) (Cert.Kernel2Ideal.Ffn.live m)))
  · refine (θ_run Cert.Reference2Ideal.defs _ _).mono (fun r h c => ⟨(h c).1.trans ?_, (h c).2⟩) (Cert.Reference2Ideal.Value.run (F := Ideal) m' g')
    obtain ⟨a0, a1, a2, a3, a4, a5⟩ := ha c
    refine (Cert.Reference2Ideal.Ffn.res_eq m' c).trans ?_
    rw [a0, a1, a2, a3, a4, a5]
    exact value_eq2 m c (hp c)

/-- The reference of the input projection leaves its arguments and every counter. -/
theorem refFrame3 : Cert.quiescent_Reference3Ideal (hReference3Ideal := Cert.Reference3Ideal.Gen.facts) := by
  intro m g _
  exact (θ_run Cert.Reference3Ideal.defs _ _).mono (fun r h => ⟨fun c => (h c).2.2.2.2.2.2.2.2, sem_eq_zero_of_no_sems rfl r.2⟩)
    (Cert.Reference3Ideal.Value.run (F := Ideal) m g)

set_option maxHeartbeats 4000000 in
open Cert.Kernel3Ideal.Inp Cert.Reference3Ideal.Inp in
/-- The input projection: the kernel's arrays are the reference's. -/
theorem algebraic3 : Cert.algebraic_Kernel3Ideal_Reference3Ideal (hKernel3Ideal := Cert.Kernel3Ideal.Gen.facts) (hReference3Ideal := Cert.Reference3Ideal.Gen.facts) := by
  intro m g m' g' _ ha
  refine ⟨fun c => qR (zK m c) (a5 m c), fun c => kR (zK m c) (a6 m c), fun c => vR (zK m c), fun c => xR (zK m c), fun c => gR (zK m c),
    fun c => truncf (F := Ideal) .bf16 (shapeCast Cert.Kernel3Ideal.S32x1024x512 (m ((c.tc : Thread Cert.Kernel3Ideal.nD Cert.Kernel3Ideal.τ).loc Cert.Kernel3Ideal.main_arg7)) Cert.Kernel3Ideal.Gen.facts.shapeCasts_S2x16x1024x512_S32x1024x512) Cert.Kernel3Ideal.Gen.facts.bitsLt_bf16_f32,
    fun c => truncf (F := Ideal) .bf16 (shapeCast Cert.Kernel3Ideal.S32x1024x512 (m ((c.tc : Thread Cert.Kernel3Ideal.nD Cert.Kernel3Ideal.τ).loc Cert.Kernel3Ideal.main_arg8)) Cert.Kernel3Ideal.Gen.facts.shapeCasts_S2x16x1024x512_S32x1024x512) Cert.Kernel3Ideal.Gen.facts.bitsLt_bf16_f32,
    fun c => truncf (F := Ideal) .bf16 (shapeCast Cert.Kernel3Ideal.S32x512x1024 (m ((c.tc : Thread Cert.Kernel3Ideal.nD Cert.Kernel3Ideal.τ).loc Cert.Kernel3Ideal.main_arg9)) Cert.Kernel3Ideal.Gen.facts.shapeCasts_S2x16x512x1024_S32x512x1024) Cert.Kernel3Ideal.Gen.facts.bitsLt_bf16_f32, ?_, ?_⟩
  · refine (θ_run Cert.Kernel3Ideal.defs _ _).mono (fun r h c => ?_)
      (θ_run_and (Cert.Kernel3Ideal.Gen.run_main m g) (Cert.Kernel3Ideal.Gen.unchanged m g))
    have hw := (h.1 c).1
    refine ⟨?_, ?_, ?_, ?_, ?_, ?_, ?_, ?_, h.2 c⟩
    · exact ((hw 11).trans (arr11 m c (v8_ok m c))).trans (q_eq m c)
    · exact ((hw 12).trans (arr12 m c (v8_ok m c))).trans (k_eq m c)
    · exact ((hw 13).trans (arr13 m c)).trans (v_eq m c)
    · exact ((hw 14).trans (arr14 m c)).trans (x_eq m c)
    · exact ((hw 15).trans (arr15 m c)).trans (g_eq m c)
    · exact ((hw 16).trans (arr16 m c)).trans (side16 m c)
    · exact ((hw 17).trans (arr17 m c)).trans (side17 m c)
    · exact ((hw 18).trans (arr18 m c)).trans (side18 m c)
  · refine (θ_run Cert.Reference3Ideal.defs _ _).mono (fun r h c => ?_) (Cert.Reference3Ideal.Value.run (F := Ideal) m' g')
    obtain ⟨e0, e1, e2, e3, e4, e5, e6, e7, e8, e9⟩ := ha c
    obtain ⟨h0, h1, h2, h3, h4, h5, h6, h7, hu⟩ := h c
    have hz : zM m' c = zK m c := by
      unfold zM zK
      rw [e0, e1, e2, e3, e4]
    refine ⟨h0.trans ?_, h1.trans ?_, h2.trans ?_, h3.trans ?_, h4.trans ?_, h5.trans ?_, h6.trans ?_, h7.trans ?_, hu⟩
    · exact (res_q m' c).trans (by rw [hz, e5])
    · exact (res_k m' c).trans (by rw [hz, e6])
    · refine Eq.trans (b := vR (zM m' c)) ?_ (congrArg vR hz)
      unfold vR zM zR prodR normR rootR; rfl
    · refine Eq.trans (b := xR (zM m' c)) ?_ (congrArg xR hz)
      unfold xR zM zR prodR normR rootR; rfl
    · refine Eq.trans (b := gR (zM m' c)) ?_ (congrArg gR hz)
      unfold gR zM zR prodR normR rootR; rfl
    · rw [e7]
    · rw [e8]
    · rw [e9]

/-- The reference of the context's projection leaves its arguments and every counter. -/
theorem refFrame4 : Cert.quiescent_Reference4Ideal (hReference4Ideal := Cert.Reference4Ideal.Gen.facts) := by
  intro m g _
  exact (θ_run Cert.Reference4Ideal.defs _ _).mono (fun r h => ⟨fun c => (h c).2.2.2, sem_eq_zero_of_no_sems rfl r.2⟩)
    (Cert.Reference4Ideal.Value.run (F := Ideal) m g)

set_option maxHeartbeats 4000000 in
open Cert.Kernel4Ideal.Ctx Cert.Reference4Ideal.Ctx in
/-- The context's projection: the kernel's arrays are the reference's. -/
theorem algebraic4 : Cert.algebraic_Kernel4Ideal_Reference4Ideal (hKernel4Ideal := Cert.Kernel4Ideal.Gen.facts) (hReference4Ideal := Cert.Reference4Ideal.Gen.facts) := by
  intro m g m' g' _ ha
  refine ⟨fun c => kR (zK m c) (a6 m c), fun c => vR (zK m c), fun c => xR (zK m c), ?_, ?_⟩
  · refine (θ_run Cert.Kernel4Ideal.defs _ _).mono (fun r h c => ?_)
      (θ_run_and (Cert.Kernel4Ideal.Gen.run_main m g) (Cert.Kernel4Ideal.Gen.unchanged m g))
    have hw := (h.1 c).1
    refine ⟨?_, ?_, ?_, h.2 c⟩
    · exact ((hw 8).trans (arr8 m c (v8_ok m c))).trans (k_eq m c)
    · exact ((hw 9).trans (arr9 m c)).trans (v_eq m c)
    · exact ((hw 10).trans (arr10 m c)).trans (x_eq m c)
  · refine (θ_run Cert.Reference4Ideal.defs _ _).mono (fun r h c => ?_) (Cert.Reference4Ideal.Value.run (F := Ideal) m' g')
    obtain ⟨e0, e1, e2, e3, e4, e5, e6⟩ := ha c
    obtain ⟨h0, h1, h2, hu⟩ := h c
    have hz : zM m' c = zK m c := by
      unfold zM zK
      rw [e0, e1, e2, e3, e4]
    refine ⟨h0.trans ?_, h1.trans ?_, h2.trans ?_, hu⟩
    · exact (res_k m' c).trans (by rw [hz, e6])
    · refine Eq.trans (b := vR (zM m' c)) ?_ (congrArg vR hz)
      unfold vR zM zR prodR normR rootR; rfl
    · refine Eq.trans (b := xR (zM m' c)) ?_ (congrArg xR hz)
      unfold xR zM zR prodR normR rootR; rfl

theorem refFrame5 : Cert.quiescent_Reference5Ideal (hReference5Ideal := Cert.Reference5Ideal.Gen.facts) := by
  intro m g _
  exact (θ_run Cert.Reference5Ideal.defs _ _).mono (fun r h => ⟨fun c => (h c).2, sem_eq_zero_of_no_sems rfl r.2⟩)
    (Cert.Reference5Ideal.Value.run (F := Ideal) m g)

set_option maxHeartbeats 4000000 in
open Cert.Kernel5Ideal.Mod Cert.Reference5Ideal.Mod in
/-- The modulation: the kernel's array is the reference's. -/
theorem algebraic5 : Cert.algebraic_Kernel5Ideal_Reference5Ideal (hKernel5Ideal := Cert.Kernel5Ideal.Gen.facts) (hReference5Ideal := Cert.Reference5Ideal.Gen.facts) := by
  intro m g m' g' _ ha
  refine ⟨fun c => modR (siluR (rowsR (a0 m c) (a1 m c))) (a2 m c) (a3 m c), ?_, ?_⟩
  · refine (θ_run Cert.Kernel5Ideal.defs _ _).mono (fun r h c => ?_)
      (θ_run_and (Cert.Kernel5Ideal.Gen.run_main m g) (Cert.Kernel5Ideal.Gen.unchanged m g))
    exact ⟨(((h.1 c).1 3).trans (arr3 m c)).trans (mod_eq m c), h.2 c⟩
  · refine (θ_run Cert.Reference5Ideal.defs _ _).mono (fun r h c => ?_) (Cert.Reference5Ideal.Value.run (F := Ideal) m' g')
    obtain ⟨e0, e1, e2, e3⟩ := ha c
    obtain ⟨h0, hu⟩ := h c
    refine ⟨h0.trans ?_, hu⟩
    rw [e0, e1, e2, e3]
    unfold modR lay0 lay1 siluR rowsR; rfl

/-- The frame of the second layer's expert kernel as printed; its text is the idealized one's. -/
theorem frame6 (m : (ℓ : Loc Cert.Kernel6.nD Cert.Kernel6.τ Cert.Kernel6.sig) → Buf (Elt Bits) ℓ) (g : Dev Cert.Kernel6.nD → PrngReg)
    (hp : Cert.Kernel6Ideal.Ffn.Good (Cert.Kernel6Ideal.Ffn.cumOf (m ((((0 : Dev Cert.Kernel6.nD)).tc : Thread Cert.Kernel6.nD Cert.Kernel6.τ).loc Cert.Kernel6.main_arg0)))) :
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0) :=
  run_same Cert.Kernel6Ideal.Ffn.defs_same Cert.Kernel6Ideal.Ffn.main_same _ _
    (Cert.Kernel6Ideal.Ffn.frame (F := Bits) m g (Cert.Kernel6Ideal.Ffn.ok m hp) (Cert.Kernel6Ideal.Ffn.live m))

theorem refFrame6 (m : (ℓ : Loc Cert.Reference6Ideal.nD Cert.Reference6Ideal.τ Cert.Reference6Ideal.sig) → Buf (Elt Ideal) ℓ) (g : Dev Cert.Reference6Ideal.nD → PrngReg) :
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0) :=
  (θ_run Cert.Reference6Ideal.defs _ _).mono (fun r h => ⟨fun c => (h c).2, sem_eq_zero_of_no_sems rfl r.2⟩) (Cert.Reference6Ideal.Value.run (F := Ideal) m g)

/-- The second layer's expert kernel's result is the reference's, at every element. -/
theorem value_eq6 (m : (ℓ : Loc Cert.Kernel6Ideal.nD Cert.Kernel6Ideal.τ Cert.Kernel6Ideal.sig) → Buf (Elt Ideal) ℓ) (c : Dev Cert.Kernel6Ideal.nD)
    (hp : Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) = fun _ => 1#1) :
    Cert.Reference6Ideal.Ffn.refR
      (m ((c.tc : Thread Cert.Kernel6Ideal.nD Cert.Kernel6Ideal.τ).loc Cert.Kernel6Ideal.main_arg0))
      (m ((c.tc : Thread Cert.Kernel6Ideal.nD Cert.Kernel6Ideal.τ).loc Cert.Kernel6Ideal.main_arg1))
      (m ((c.tc : Thread Cert.Kernel6Ideal.nD Cert.Kernel6Ideal.τ).loc Cert.Kernel6Ideal.main_arg2))
      (m ((c.tc : Thread Cert.Kernel6Ideal.nD Cert.Kernel6Ideal.τ).loc Cert.Kernel6Ideal.main_arg3))
      (m ((c.tc : Thread Cert.Kernel6Ideal.nD Cert.Kernel6Ideal.τ).loc Cert.Kernel6Ideal.main_arg4))
      (m ((c.tc : Thread Cert.Kernel6Ideal.nD Cert.Kernel6Ideal.τ).loc Cert.Kernel6Ideal.main_arg5))
      = (Cert.Kernel6Ideal.Ffn.ffnArr m c : FVec Ideal Cert.Kernel6Ideal.S38912x1024 .bf16) := by
  obtain ⟨_, hh, hg, h1, h2, h3⟩ := Cert.Kernel6Ideal.Ffn.finite_good _ _ _ _ _ _ hp
  obtain rfl : c = 0 := Subsingleton.elim _ _
  funext y
  obtain ⟨r, d, rfl⟩ : ∃ r d, y = ix2 r d := ⟨y 0, y 1, eq_ix2 y⟩
  exact (Cert.Reference6Ideal.Ffn.refR_at _ _ _ _ _ _ r d).trans (Cert.Kernel6Ideal.Ffn.ffnArr_at m 0 hh hg h1 h2 h3 r d).symm

theorem algebraic6 : Cert.algebraic_Kernel6Ideal_Reference6Ideal_pre_finite6 (hKernel6Ideal := Cert.Kernel6Ideal.Gen.facts) (hReference6Ideal := Cert.Reference6Ideal.Gen.facts)
    (hPre_finite6 := Cert.Pre_finite6.Gen.facts) := by
  intro m g m' g' hp ha
  have hw : Cert.Kernel6Ideal.Ffn.Good (Cert.Kernel6Ideal.Ffn.cums m 0) := (Cert.Kernel6Ideal.Ffn.finite_good _ _ _ _ _ _ (hp 0)).1
  refine ⟨fun c => Cert.Kernel6Ideal.Ffn.ffnArr m c, ?_, ?_⟩
  · exact (θ_run Cert.Kernel6Ideal.defs _ _).mono (fun r h c => ⟨((h.1 c).1 4).trans (Cert.Kernel6Ideal.Ffn.arrA m hw c), h.2 c⟩)
      (θ_run_and (Cert.Kernel6Ideal.Ffn.run_main m g (Cert.Kernel6Ideal.Ffn.ok m hw) (Cert.Kernel6Ideal.Ffn.live m))
        (Cert.Kernel6Ideal.Ffn.unchanged m g (Cert.Kernel6Ideal.Ffn.ok m hw) (Cert.Kernel6Ideal.Ffn.live m)))
  · refine (θ_run Cert.Reference6Ideal.defs _ _).mono (fun r h c => ⟨(h c).1.trans ?_, (h c).2⟩) (Cert.Reference6Ideal.Value.run (F := Ideal) m' g')
    obtain ⟨a0, a1, a2, a3, a4, a5⟩ := ha c
    refine (Cert.Reference6Ideal.Ffn.res_eq m' c).trans ?_
    rw [a0, a1, a2, a3, a4, a5]
    exact value_eq6 m c (hp c)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Pre_finite.Gen.facts, Cert.Pre_finite2.Gen.facts, Cert.Pre_tiles6.Gen.facts, Cert.Pre_finite6.Gen.facts,
  fun m g _ => Cert.Kernel.Gen.frame m g, fun m g _ => Cert.KernelIdeal.Gen.frame m g, fun m g _ => Cert.KernelIdeal.Gen.frame m g,
  fun m g _ => refFrame m g, fun m g _ => refFrame m g,
  fun m g _ => frame2 m g,
  fun m g _ => Cert.Kernel2Ideal.Ffn.frame m g (Cert.Kernel2Ideal.Ffn.ok m) (Cert.Kernel2Ideal.Ffn.live m),
  fun m g _ => Cert.Kernel2Ideal.Ffn.frame m g (Cert.Kernel2Ideal.Ffn.ok m) (Cert.Kernel2Ideal.Ffn.live m),
  fun m g _ => refFrame2 m g, fun m g _ => refFrame2 m g,
  fun m g _ => Cert.Kernel3.Gen.frame m g, fun m g _ => Cert.Kernel3Ideal.Gen.frame m g, refFrame3,
  fun m g _ => Cert.Kernel4.Gen.frame m g, fun m g _ => Cert.Kernel4Ideal.Gen.frame m g, refFrame4,
  fun m g _ => Cert.Kernel5.Gen.frame m g, fun m g _ => Cert.Kernel5Ideal.Gen.frame m g, refFrame5,
  fun m g hp => frame6 m g (Cert.Kernel6Ideal.Ffn.tiles_good _ _ _ _ _ _ (hp 0)),
  fun m g hp => Cert.Kernel6Ideal.Ffn.frame m g (Cert.Kernel6Ideal.Ffn.ok m (Cert.Kernel6Ideal.Ffn.tiles_good _ _ _ _ _ _ (hp 0))) (Cert.Kernel6Ideal.Ffn.live m),
  fun m g hp => Cert.Kernel6Ideal.Ffn.frame m g (Cert.Kernel6Ideal.Ffn.ok m (Cert.Kernel6Ideal.Ffn.finite_good _ _ _ _ _ _ (hp 0)).1) (Cert.Kernel6Ideal.Ffn.live m),
  fun m g _ => refFrame6 m g, fun m g _ => refFrame6 m g,
  ⟨IdealRules.named_const.statement _ _ _ _ _ rfl, IdealRules.named_const.statement _ _ _ _ _ rfl⟩,
  algebraic, trivial, algebraic2, trivial, algebraic3, trivial, algebraic4, trivial, algebraic5, trivial, algebraic6⟩

end Cert.Proof

end
